-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite [hPre_finite : Cert.Pre_finite.Facts] (m : (ℓ : Loc Cert.OutIdeal.nD Cert.OutIdeal.τ Cert.OutIdeal.sig) → Buf (Elt Ideal) ℓ) : Prop :=
  ∀ c : Dev Cert.OutIdeal.nD,
    (Cert.Pre_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite [hPre_finite : Cert.Pre_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Outf (m : (ℓ : Loc Cert.Outf.nD Cert.Outf.τ Cert.Outf.sig) → Buf (Elt Bits) ℓ) : Prop :=
  True

def Pre_OutfIdeal (m : (ℓ : Loc Cert.OutfIdeal.nD Cert.OutfIdeal.τ Cert.OutfIdeal.sig) → Buf (Elt Ideal) ℓ) : Prop :=
  True

def Pre_OutfRefIdeal (m : (ℓ : Loc Cert.OutfRefIdeal.nD Cert.OutfRefIdeal.τ Cert.OutfRefIdeal.sig) → Buf (Elt Ideal) ℓ) : Prop :=
  True

def Pre_Inf (m : (ℓ : Loc Cert.Inf.nD Cert.Inf.τ Cert.Inf.sig) → Buf (Elt Bits) ℓ) : Prop :=
  True

def Pre_InfIdeal (m : (ℓ : Loc Cert.InfIdeal.nD Cert.InfIdeal.τ Cert.InfIdeal.sig) → Buf (Elt Ideal) ℓ) : Prop :=
  True

def Pre_InfRefIdeal (m : (ℓ : Loc Cert.InfRefIdeal.nD Cert.InfRefIdeal.τ Cert.InfRefIdeal.sig) → Buf (Elt Ideal) ℓ) : Prop :=
  True

def Pre_Prepf (m : (ℓ : Loc Cert.Prepf.nD Cert.Prepf.τ Cert.Prepf.sig) → Buf (Elt Bits) ℓ) : Prop :=
  True

def Pre_PrepfIdeal (m : (ℓ : Loc Cert.PrepfIdeal.nD Cert.PrepfIdeal.τ Cert.PrepfIdeal.sig) → Buf (Elt Ideal) ℓ) : Prop :=
  True

def Pre_PrepfRefIdeal (m : (ℓ : Loc Cert.PrepfRefIdeal.nD Cert.PrepfRefIdeal.τ Cert.PrepfRefIdeal.sig) → Buf (Elt Ideal) ℓ) : Prop :=
  True

def Pre_Winf (m : (ℓ : Loc Cert.Winf.nD Cert.Winf.τ Cert.Winf.sig) → Buf (Elt Bits) ℓ) : Prop :=
  True

def Pre_WinfIdeal (m : (ℓ : Loc Cert.WinfIdeal.nD Cert.WinfIdeal.τ Cert.WinfIdeal.sig) → Buf (Elt Ideal) ℓ) : Prop :=
  True

def Pre_WinfRefIdeal (m : (ℓ : Loc Cert.WinfRefIdeal.nD Cert.WinfRefIdeal.τ Cert.WinfRefIdeal.sig) → Buf (Elt Ideal) ℓ) : Prop :=
  True

def Pre_Mlaf (m : (ℓ : Loc Cert.Mlaf.nD Cert.Mlaf.τ Cert.Mlaf.sig) → Buf (Elt Bits) ℓ) : Prop :=
  True

def Pre_MlafIdeal (m : (ℓ : Loc Cert.MlafIdeal.nD Cert.MlafIdeal.τ Cert.MlafIdeal.sig) → Buf (Elt Ideal) ℓ) : Prop :=
  True

def Pre_MlafIdeal_mlaf_finite [hPre_mlaf_finite : Cert.Pre_mlaf_finite.Facts] (m : (ℓ : Loc Cert.MlafIdeal.nD Cert.MlafIdeal.τ Cert.MlafIdeal.sig) → Buf (Elt Ideal) ℓ) : Prop :=
  ∀ c : Dev Cert.MlafIdeal.nD,
    (Cert.Pre_mlaf_finite.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4))) = (fun _ => 1#1)

def Pre_MlafRefIdeal (m : (ℓ : Loc Cert.MlafRefIdeal.nD Cert.MlafRefIdeal.τ Cert.MlafRefIdeal.sig) → Buf (Elt Ideal) ℓ) : Prop :=
  True

def Pre_MlafRefIdeal_mlaf_finite [hPre_mlaf_finite : Cert.Pre_mlaf_finite.Facts] (m : (ℓ : Loc Cert.MlafRefIdeal.nD Cert.MlafRefIdeal.τ Cert.MlafRefIdeal.sig) → Buf (Elt Ideal) ℓ) : Prop :=
  ∀ c : Dev Cert.MlafRefIdeal.nD,
    (Cert.Pre_mlaf_finite.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4))) = (fun _ => 1#1)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutIdeal_pre_finite [hOutIdeal : Cert.OutIdeal.Facts] [hPre_finite : Cert.Pre_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_OutRefIdeal_pre_finite [hOutRefIdeal : Cert.OutRefIdeal.Facts] [hPre_finite : Cert.Pre_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      r.2.mem ((c.tc : Thread Cert.TableRefIdeal.nD Cert.TableRefIdeal.τ).loc Cert.TableRefIdeal.main_arg0) = m ((c.tc : Thread Cert.TableRefIdeal.nD Cert.TableRefIdeal.τ).loc Cert.TableRefIdeal.main_arg0)
      ∧ r.2.mem ((c.tc : Thread Cert.TableRefIdeal.nD Cert.TableRefIdeal.τ).loc Cert.TableRefIdeal.main_arg1) = m ((c.tc : Thread Cert.TableRefIdeal.nD Cert.TableRefIdeal.τ).loc Cert.TableRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Outf [hOutf : Cert.Outf.Facts] : Prop :=
  ∀ (m : (ℓ : Loc Cert.Outf.nD Cert.Outf.τ Cert.Outf.sig) → Buf (Elt Bits) ℓ) (g : Dev Cert.Outf.nD → PrngReg), Pre_Outf m →
    θ_run (Cert.Outf.defs (F := Bits)) (onTc (τ := Cert.Outf.τ) (Cert.Outf.main (F := Bits))) ⟨m, fun _ => 0, g⟩ (fun r => (∀ c : Dev Cert.Outf.nD,
      r.2.mem ((c.tc : Thread Cert.Outf.nD Cert.Outf.τ).loc Cert.Outf.main_arg0) = m ((c.tc : Thread Cert.Outf.nD Cert.Outf.τ).loc Cert.Outf.main_arg0)
      ∧ r.2.mem ((c.tc : Thread Cert.Outf.nD Cert.Outf.τ).loc Cert.Outf.main_arg1) = m ((c.tc : Thread Cert.Outf.nD Cert.Outf.τ).loc Cert.Outf.main_arg1)
      ∧ r.2.mem ((c.tc : Thread Cert.Outf.nD Cert.Outf.τ).loc Cert.Outf.main_arg2) = m ((c.tc : Thread Cert.Outf.nD Cert.Outf.τ).loc Cert.Outf.main_arg2)
      ∧ r.2.mem ((c.tc : Thread Cert.Outf.nD Cert.Outf.τ).loc Cert.Outf.main_arg3) = m ((c.tc : Thread Cert.Outf.nD Cert.Outf.τ).loc Cert.Outf.main_arg3)
      ∧ r.2.mem ((c.tc : Thread Cert.Outf.nD Cert.Outf.τ).loc Cert.Outf.main_arg4) = m ((c.tc : Thread Cert.Outf.nD Cert.Outf.τ).loc Cert.Outf.main_arg4)
      ∧ r.2.mem ((c.tc : Thread Cert.Outf.nD Cert.Outf.τ).loc Cert.Outf.main_arg5) = m ((c.tc : Thread Cert.Outf.nD Cert.Outf.τ).loc Cert.Outf.main_arg5)
      ∧ r.2.mem ((c.tc : Thread Cert.Outf.nD Cert.Outf.τ).loc Cert.Outf.main_arg6) = m ((c.tc : Thread Cert.Outf.nD Cert.Outf.τ).loc Cert.Outf.main_arg6)
      ∧ r.2.mem ((c.tc : Thread Cert.Outf.nD Cert.Outf.τ).loc Cert.Outf.main_arg7) = m ((c.tc : Thread Cert.Outf.nD Cert.Outf.τ).loc Cert.Outf.main_arg7))
      ∧ r.2.sem = fun _ => 0)

def quiescent_OutfIdeal [hOutfIdeal : Cert.OutfIdeal.Facts] : Prop :=
  ∀ (m : (ℓ : Loc Cert.OutfIdeal.nD Cert.OutfIdeal.τ Cert.OutfIdeal.sig) → Buf (Elt Ideal) ℓ) (g : Dev Cert.OutfIdeal.nD → PrngReg), Pre_OutfIdeal m →
    θ_run (Cert.OutfIdeal.defs (F := Ideal)) (onTc (τ := Cert.OutfIdeal.τ) (Cert.OutfIdeal.main (F := Ideal))) ⟨m, fun _ => 0, g⟩ (fun r => (∀ c : Dev Cert.OutfIdeal.nD,
      r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
      ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
      ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
      ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
      ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
      ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
      ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6)
      ∧ r.2.mem ((c.tc : Thread Cert.OutfIdeal.nD Cert.OutfIdeal.τ).loc Cert.OutfIdeal.main_arg7) = m ((c.tc : Thread Cert.OutfIdeal.nD Cert.OutfIdeal.τ).loc Cert.OutfIdeal.main_arg7))
      ∧ r.2.sem = fun _ => 0)

def quiescent_OutfRefIdeal [hOutfRefIdeal : Cert.OutfRefIdeal.Facts] : Prop :=
  ∀ (m : (ℓ : Loc Cert.OutfRefIdeal.nD Cert.OutfRefIdeal.τ Cert.OutfRefIdeal.sig) → Buf (Elt Ideal) ℓ) (g : Dev Cert.OutfRefIdeal.nD → PrngReg), Pre_OutfRefIdeal m →
    θ_run (Cert.OutfRefIdeal.defs (F := Ideal)) (onTc (τ := Cert.OutfRefIdeal.τ) (Cert.OutfRefIdeal.main (F := Ideal))) ⟨m, fun _ => 0, g⟩ (fun r => (∀ c : Dev Cert.OutfRefIdeal.nD,
      r.2.mem ((c.tc : Thread Cert.OutfRefIdeal.nD Cert.OutfRefIdeal.τ).loc Cert.OutfRefIdeal.main_arg0) = m ((c.tc : Thread Cert.OutfRefIdeal.nD Cert.OutfRefIdeal.τ).loc Cert.OutfRefIdeal.main_arg0)
      ∧ r.2.mem ((c.tc : Thread Cert.OutfRefIdeal.nD Cert.OutfRefIdeal.τ).loc Cert.OutfRefIdeal.main_arg1) = m ((c.tc : Thread Cert.OutfRefIdeal.nD Cert.OutfRefIdeal.τ).loc Cert.OutfRefIdeal.main_arg1)
      ∧ r.2.mem ((c.tc : Thread Cert.OutfRefIdeal.nD Cert.OutfRefIdeal.τ).loc Cert.OutfRefIdeal.main_arg2) = m ((c.tc : Thread Cert.OutfRefIdeal.nD Cert.OutfRefIdeal.τ).loc Cert.OutfRefIdeal.main_arg2)
      ∧ r.2.mem ((c.tc : Thread Cert.OutfRefIdeal.nD Cert.OutfRefIdeal.τ).loc Cert.OutfRefIdeal.main_arg3) = m ((c.tc : Thread Cert.OutfRefIdeal.nD Cert.OutfRefIdeal.τ).loc Cert.OutfRefIdeal.main_arg3)
      ∧ r.2.mem ((c.tc : Thread Cert.OutfRefIdeal.nD Cert.OutfRefIdeal.τ).loc Cert.OutfRefIdeal.main_arg4) = m ((c.tc : Thread Cert.OutfRefIdeal.nD Cert.OutfRefIdeal.τ).loc Cert.OutfRefIdeal.main_arg4)
      ∧ r.2.mem ((c.tc : Thread Cert.OutfRefIdeal.nD Cert.OutfRefIdeal.τ).loc Cert.OutfRefIdeal.main_arg5) = m ((c.tc : Thread Cert.OutfRefIdeal.nD Cert.OutfRefIdeal.τ).loc Cert.OutfRefIdeal.main_arg5)
      ∧ r.2.mem ((c.tc : Thread Cert.OutfRefIdeal.nD Cert.OutfRefIdeal.τ).loc Cert.OutfRefIdeal.main_arg6) = m ((c.tc : Thread Cert.OutfRefIdeal.nD Cert.OutfRefIdeal.τ).loc Cert.OutfRefIdeal.main_arg6)
      ∧ r.2.mem ((c.tc : Thread Cert.OutfRefIdeal.nD Cert.OutfRefIdeal.τ).loc Cert.OutfRefIdeal.main_arg7) = m ((c.tc : Thread Cert.OutfRefIdeal.nD Cert.OutfRefIdeal.τ).loc Cert.OutfRefIdeal.main_arg7))
      ∧ r.2.sem = fun _ => 0)

def quiescent_Inf [hInf : Cert.Inf.Facts] : Prop :=
  ∀ (m : (ℓ : Loc Cert.Inf.nD Cert.Inf.τ Cert.Inf.sig) → Buf (Elt Bits) ℓ) (g : Dev Cert.Inf.nD → PrngReg), Pre_Inf m →
    θ_run (Cert.Inf.defs (F := Bits)) (onTc (τ := Cert.Inf.τ) (Cert.Inf.main (F := Bits))) ⟨m, fun _ => 0, g⟩ (fun r => (∀ c : Dev Cert.Inf.nD,
      r.2.mem ((c.tc : Thread Cert.Inf.nD Cert.Inf.τ).loc Cert.Inf.main_arg0) = m ((c.tc : Thread Cert.Inf.nD Cert.Inf.τ).loc Cert.Inf.main_arg0)
      ∧ r.2.mem ((c.tc : Thread Cert.Inf.nD Cert.Inf.τ).loc Cert.Inf.main_arg1) = m ((c.tc : Thread Cert.Inf.nD Cert.Inf.τ).loc Cert.Inf.main_arg1)
      ∧ r.2.mem ((c.tc : Thread Cert.Inf.nD Cert.Inf.τ).loc Cert.Inf.main_arg2) = m ((c.tc : Thread Cert.Inf.nD Cert.Inf.τ).loc Cert.Inf.main_arg2))
      ∧ r.2.sem = fun _ => 0)

def quiescent_InfIdeal [hInfIdeal : Cert.InfIdeal.Facts] : Prop :=
  ∀ (m : (ℓ : Loc Cert.InfIdeal.nD Cert.InfIdeal.τ Cert.InfIdeal.sig) → Buf (Elt Ideal) ℓ) (g : Dev Cert.InfIdeal.nD → PrngReg), Pre_InfIdeal m →
    θ_run (Cert.InfIdeal.defs (F := Ideal)) (onTc (τ := Cert.InfIdeal.τ) (Cert.InfIdeal.main (F := Ideal))) ⟨m, fun _ => 0, g⟩ (fun r => (∀ c : Dev Cert.InfIdeal.nD,
      r.2.mem ((c.tc : Thread Cert.InfIdeal.nD Cert.InfIdeal.τ).loc Cert.InfIdeal.main_arg0) = m ((c.tc : Thread Cert.InfIdeal.nD Cert.InfIdeal.τ).loc Cert.InfIdeal.main_arg0)
      ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
      ∧ r.2.mem ((c.tc : Thread Cert.InfIdeal.nD Cert.InfIdeal.τ).loc Cert.InfIdeal.main_arg2) = m ((c.tc : Thread Cert.InfIdeal.nD Cert.InfIdeal.τ).loc Cert.InfIdeal.main_arg2))
      ∧ r.2.sem = fun _ => 0)

def quiescent_InfRefIdeal [hInfRefIdeal : Cert.InfRefIdeal.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2))
      ∧ r.2.sem = fun _ => 0)

def quiescent_Prepf [hPrepf : Cert.Prepf.Facts] : Prop :=
  ∀ (m : (ℓ : Loc Cert.Prepf.nD Cert.Prepf.τ Cert.Prepf.sig) → Buf (Elt Bits) ℓ) (g : Dev Cert.Prepf.nD → PrngReg), Pre_Prepf m →
    θ_run (Cert.Prepf.defs (F := Bits)) (onTc (τ := Cert.Prepf.τ) (Cert.Prepf.main (F := Bits))) ⟨m, fun _ => 0, g⟩ (fun r => (∀ c : Dev Cert.Prepf.nD,
      r.2.mem ((c.tc : Thread Cert.Prepf.nD Cert.Prepf.τ).loc Cert.Prepf.main_arg0) = m ((c.tc : Thread Cert.Prepf.nD Cert.Prepf.τ).loc Cert.Prepf.main_arg0)
      ∧ r.2.mem ((c.tc : Thread Cert.Prepf.nD Cert.Prepf.τ).loc Cert.Prepf.main_arg1) = m ((c.tc : Thread Cert.Prepf.nD Cert.Prepf.τ).loc Cert.Prepf.main_arg1)
      ∧ r.2.mem ((c.tc : Thread Cert.Prepf.nD Cert.Prepf.τ).loc Cert.Prepf.main_arg2) = m ((c.tc : Thread Cert.Prepf.nD Cert.Prepf.τ).loc Cert.Prepf.main_arg2)
      ∧ r.2.mem ((c.tc : Thread Cert.Prepf.nD Cert.Prepf.τ).loc Cert.Prepf.main_arg3) = m ((c.tc : Thread Cert.Prepf.nD Cert.Prepf.τ).loc Cert.Prepf.main_arg3)
      ∧ r.2.mem ((c.tc : Thread Cert.Prepf.nD Cert.Prepf.τ).loc Cert.Prepf.main_arg4) = m ((c.tc : Thread Cert.Prepf.nD Cert.Prepf.τ).loc Cert.Prepf.main_arg4)
      ∧ r.2.mem ((c.tc : Thread Cert.Prepf.nD Cert.Prepf.τ).loc Cert.Prepf.main_arg5) = m ((c.tc : Thread Cert.Prepf.nD Cert.Prepf.τ).loc Cert.Prepf.main_arg5)
      ∧ r.2.mem ((c.tc : Thread Cert.Prepf.nD Cert.Prepf.τ).loc Cert.Prepf.main_arg6) = m ((c.tc : Thread Cert.Prepf.nD Cert.Prepf.τ).loc Cert.Prepf.main_arg6))
      ∧ r.2.sem = fun _ => 0)

def quiescent_PrepfIdeal [hPrepfIdeal : Cert.PrepfIdeal.Facts] : Prop :=
  ∀ (m : (ℓ : Loc Cert.PrepfIdeal.nD Cert.PrepfIdeal.τ Cert.PrepfIdeal.sig) → Buf (Elt Ideal) ℓ) (g : Dev Cert.PrepfIdeal.nD → PrngReg), Pre_PrepfIdeal m →
    θ_run (Cert.PrepfIdeal.defs (F := Ideal)) (onTc (τ := Cert.PrepfIdeal.τ) (Cert.PrepfIdeal.main (F := Ideal))) ⟨m, fun _ => 0, g⟩ (fun r => (∀ c : Dev Cert.PrepfIdeal.nD,
      r.2.mem ((c.tc : Thread Cert.PrepfIdeal.nD Cert.PrepfIdeal.τ).loc Cert.PrepfIdeal.main_arg0) = m ((c.tc : Thread Cert.PrepfIdeal.nD Cert.PrepfIdeal.τ).loc Cert.PrepfIdeal.main_arg0)
      ∧ r.2.mem ((c.tc : Thread Cert.PrepfIdeal.nD Cert.PrepfIdeal.τ).loc Cert.PrepfIdeal.main_arg1) = m ((c.tc : Thread Cert.PrepfIdeal.nD Cert.PrepfIdeal.τ).loc Cert.PrepfIdeal.main_arg1)
      ∧ r.2.mem ((c.tc : Thread Cert.PrepfIdeal.nD Cert.PrepfIdeal.τ).loc Cert.PrepfIdeal.main_arg2) = m ((c.tc : Thread Cert.PrepfIdeal.nD Cert.PrepfIdeal.τ).loc Cert.PrepfIdeal.main_arg2)
      ∧ r.2.mem ((c.tc : Thread Cert.PrepfIdeal.nD Cert.PrepfIdeal.τ).loc Cert.PrepfIdeal.main_arg3) = m ((c.tc : Thread Cert.PrepfIdeal.nD Cert.PrepfIdeal.τ).loc Cert.PrepfIdeal.main_arg3)
      ∧ r.2.mem ((c.tc : Thread Cert.PrepfIdeal.nD Cert.PrepfIdeal.τ).loc Cert.PrepfIdeal.main_arg4) = m ((c.tc : Thread Cert.PrepfIdeal.nD Cert.PrepfIdeal.τ).loc Cert.PrepfIdeal.main_arg4)
      ∧ r.2.mem ((c.tc : Thread Cert.PrepfIdeal.nD Cert.PrepfIdeal.τ).loc Cert.PrepfIdeal.main_arg5) = m ((c.tc : Thread Cert.PrepfIdeal.nD Cert.PrepfIdeal.τ).loc Cert.PrepfIdeal.main_arg5)
      ∧ r.2.mem ((c.tc : Thread Cert.PrepfIdeal.nD Cert.PrepfIdeal.τ).loc Cert.PrepfIdeal.main_arg6) = m ((c.tc : Thread Cert.PrepfIdeal.nD Cert.PrepfIdeal.τ).loc Cert.PrepfIdeal.main_arg6))
      ∧ r.2.sem = fun _ => 0)

def quiescent_PrepfRefIdeal [hPrepfRefIdeal : Cert.PrepfRefIdeal.Facts] : Prop :=
  ∀ (m : (ℓ : Loc Cert.PrepfRefIdeal.nD Cert.PrepfRefIdeal.τ Cert.PrepfRefIdeal.sig) → Buf (Elt Ideal) ℓ) (g : Dev Cert.PrepfRefIdeal.nD → PrngReg), Pre_PrepfRefIdeal m →
    θ_run (Cert.PrepfRefIdeal.defs (F := Ideal)) (onTc (τ := Cert.PrepfRefIdeal.τ) (Cert.PrepfRefIdeal.main (F := Ideal))) ⟨m, fun _ => 0, g⟩ (fun r => (∀ c : Dev Cert.PrepfRefIdeal.nD,
      r.2.mem ((c.tc : Thread Cert.PrepfRefIdeal.nD Cert.PrepfRefIdeal.τ).loc Cert.PrepfRefIdeal.main_arg0) = m ((c.tc : Thread Cert.PrepfRefIdeal.nD Cert.PrepfRefIdeal.τ).loc Cert.PrepfRefIdeal.main_arg0)
      ∧ r.2.mem ((c.tc : Thread Cert.PrepfRefIdeal.nD Cert.PrepfRefIdeal.τ).loc Cert.PrepfRefIdeal.main_arg1) = m ((c.tc : Thread Cert.PrepfRefIdeal.nD Cert.PrepfRefIdeal.τ).loc Cert.PrepfRefIdeal.main_arg1)
      ∧ r.2.mem ((c.tc : Thread Cert.PrepfRefIdeal.nD Cert.PrepfRefIdeal.τ).loc Cert.PrepfRefIdeal.main_arg2) = m ((c.tc : Thread Cert.PrepfRefIdeal.nD Cert.PrepfRefIdeal.τ).loc Cert.PrepfRefIdeal.main_arg2)
      ∧ r.2.mem ((c.tc : Thread Cert.PrepfRefIdeal.nD Cert.PrepfRefIdeal.τ).loc Cert.PrepfRefIdeal.main_arg3) = m ((c.tc : Thread Cert.PrepfRefIdeal.nD Cert.PrepfRefIdeal.τ).loc Cert.PrepfRefIdeal.main_arg3)
      ∧ r.2.mem ((c.tc : Thread Cert.PrepfRefIdeal.nD Cert.PrepfRefIdeal.τ).loc Cert.PrepfRefIdeal.main_arg4) = m ((c.tc : Thread Cert.PrepfRefIdeal.nD Cert.PrepfRefIdeal.τ).loc Cert.PrepfRefIdeal.main_arg4)
      ∧ r.2.mem ((c.tc : Thread Cert.PrepfRefIdeal.nD Cert.PrepfRefIdeal.τ).loc Cert.PrepfRefIdeal.main_arg5) = m ((c.tc : Thread Cert.PrepfRefIdeal.nD Cert.PrepfRefIdeal.τ).loc Cert.PrepfRefIdeal.main_arg5)
      ∧ r.2.mem ((c.tc : Thread Cert.PrepfRefIdeal.nD Cert.PrepfRefIdeal.τ).loc Cert.PrepfRefIdeal.main_arg6) = m ((c.tc : Thread Cert.PrepfRefIdeal.nD Cert.PrepfRefIdeal.τ).loc Cert.PrepfRefIdeal.main_arg6))
      ∧ r.2.sem = fun _ => 0)

def quiescent_Winf [hWinf : Cert.Winf.Facts] : Prop :=
  ∀ (m : (ℓ : Loc Cert.Winf.nD Cert.Winf.τ Cert.Winf.sig) → Buf (Elt Bits) ℓ) (g : Dev Cert.Winf.nD → PrngReg), Pre_Winf m →
    θ_run (Cert.Winf.defs (F := Bits)) (onTc (τ := Cert.Winf.τ) (Cert.Winf.main (F := Bits))) ⟨m, fun _ => 0, g⟩ (fun r => (∀ c : Dev Cert.Winf.nD,
      r.2.mem ((c.tc : Thread Cert.Winf.nD Cert.Winf.τ).loc Cert.Winf.main_arg0) = m ((c.tc : Thread Cert.Winf.nD Cert.Winf.τ).loc Cert.Winf.main_arg0)
      ∧ r.2.mem ((c.tc : Thread Cert.Winf.nD Cert.Winf.τ).loc Cert.Winf.main_arg1) = m ((c.tc : Thread Cert.Winf.nD Cert.Winf.τ).loc Cert.Winf.main_arg1)
      ∧ r.2.mem ((c.tc : Thread Cert.Winf.nD Cert.Winf.τ).loc Cert.Winf.main_arg2) = m ((c.tc : Thread Cert.Winf.nD Cert.Winf.τ).loc Cert.Winf.main_arg2)
      ∧ r.2.mem ((c.tc : Thread Cert.Winf.nD Cert.Winf.τ).loc Cert.Winf.main_arg3) = m ((c.tc : Thread Cert.Winf.nD Cert.Winf.τ).loc Cert.Winf.main_arg3)
      ∧ r.2.mem ((c.tc : Thread Cert.Winf.nD Cert.Winf.τ).loc Cert.Winf.main_arg4) = m ((c.tc : Thread Cert.Winf.nD Cert.Winf.τ).loc Cert.Winf.main_arg4))
      ∧ r.2.sem = fun _ => 0)

def quiescent_WinfIdeal [hWinfIdeal : Cert.WinfIdeal.Facts] : Prop :=
  ∀ (m : (ℓ : Loc Cert.WinfIdeal.nD Cert.WinfIdeal.τ Cert.WinfIdeal.sig) → Buf (Elt Ideal) ℓ) (g : Dev Cert.WinfIdeal.nD → PrngReg), Pre_WinfIdeal m →
    θ_run (Cert.WinfIdeal.defs (F := Ideal)) (onTc (τ := Cert.WinfIdeal.τ) (Cert.WinfIdeal.main (F := Ideal))) ⟨m, fun _ => 0, g⟩ (fun r => (∀ c : Dev Cert.WinfIdeal.nD,
      r.2.mem ((c.tc : Thread Cert.WinfIdeal.nD Cert.WinfIdeal.τ).loc Cert.WinfIdeal.main_arg0) = m ((c.tc : Thread Cert.WinfIdeal.nD Cert.WinfIdeal.τ).loc Cert.WinfIdeal.main_arg0)
      ∧ r.2.mem ((c.tc : Thread Cert.WinfIdeal.nD Cert.WinfIdeal.τ).loc Cert.WinfIdeal.main_arg1) = m ((c.tc : Thread Cert.WinfIdeal.nD Cert.WinfIdeal.τ).loc Cert.WinfIdeal.main_arg1)
      ∧ r.2.mem ((c.tc : Thread Cert.WinfIdeal.nD Cert.WinfIdeal.τ).loc Cert.WinfIdeal.main_arg2) = m ((c.tc : Thread Cert.WinfIdeal.nD Cert.WinfIdeal.τ).loc Cert.WinfIdeal.main_arg2)
      ∧ r.2.mem ((c.tc : Thread Cert.WinfIdeal.nD Cert.WinfIdeal.τ).loc Cert.WinfIdeal.main_arg3) = m ((c.tc : Thread Cert.WinfIdeal.nD Cert.WinfIdeal.τ).loc Cert.WinfIdeal.main_arg3)
      ∧ r.2.mem ((c.tc : Thread Cert.WinfIdeal.nD Cert.WinfIdeal.τ).loc Cert.WinfIdeal.main_arg4) = m ((c.tc : Thread Cert.WinfIdeal.nD Cert.WinfIdeal.τ).loc Cert.WinfIdeal.main_arg4))
      ∧ r.2.sem = fun _ => 0)

def quiescent_WinfRefIdeal [hWinfRefIdeal : Cert.WinfRefIdeal.Facts] : Prop :=
  ∀ (m : (ℓ : Loc Cert.WinfRefIdeal.nD Cert.WinfRefIdeal.τ Cert.WinfRefIdeal.sig) → Buf (Elt Ideal) ℓ) (g : Dev Cert.WinfRefIdeal.nD → PrngReg), Pre_WinfRefIdeal m →
    θ_run (Cert.WinfRefIdeal.defs (F := Ideal)) (onTc (τ := Cert.WinfRefIdeal.τ) (Cert.WinfRefIdeal.main (F := Ideal))) ⟨m, fun _ => 0, g⟩ (fun r => (∀ c : Dev Cert.WinfRefIdeal.nD,
      r.2.mem ((c.tc : Thread Cert.WinfRefIdeal.nD Cert.WinfRefIdeal.τ).loc Cert.WinfRefIdeal.main_arg0) = m ((c.tc : Thread Cert.WinfRefIdeal.nD Cert.WinfRefIdeal.τ).loc Cert.WinfRefIdeal.main_arg0)
      ∧ r.2.mem ((c.tc : Thread Cert.WinfRefIdeal.nD Cert.WinfRefIdeal.τ).loc Cert.WinfRefIdeal.main_arg1) = m ((c.tc : Thread Cert.WinfRefIdeal.nD Cert.WinfRefIdeal.τ).loc Cert.WinfRefIdeal.main_arg1)
      ∧ r.2.mem ((c.tc : Thread Cert.WinfRefIdeal.nD Cert.WinfRefIdeal.τ).loc Cert.WinfRefIdeal.main_arg2) = m ((c.tc : Thread Cert.WinfRefIdeal.nD Cert.WinfRefIdeal.τ).loc Cert.WinfRefIdeal.main_arg2)
      ∧ r.2.mem ((c.tc : Thread Cert.WinfRefIdeal.nD Cert.WinfRefIdeal.τ).loc Cert.WinfRefIdeal.main_arg3) = m ((c.tc : Thread Cert.WinfRefIdeal.nD Cert.WinfRefIdeal.τ).loc Cert.WinfRefIdeal.main_arg3)
      ∧ r.2.mem ((c.tc : Thread Cert.WinfRefIdeal.nD Cert.WinfRefIdeal.τ).loc Cert.WinfRefIdeal.main_arg4) = m ((c.tc : Thread Cert.WinfRefIdeal.nD Cert.WinfRefIdeal.τ).loc Cert.WinfRefIdeal.main_arg4))
      ∧ r.2.sem = fun _ => 0)

def quiescent_Mlaf [hMlaf : Cert.Mlaf.Facts] : Prop :=
  ∀ (m : (ℓ : Loc Cert.Mlaf.nD Cert.Mlaf.τ Cert.Mlaf.sig) → Buf (Elt Bits) ℓ) (g : Dev Cert.Mlaf.nD → PrngReg), Pre_Mlaf m →
    θ_run (Cert.Mlaf.defs (F := Bits)) (onTc (τ := Cert.Mlaf.τ) (Cert.Mlaf.main (F := Bits))) ⟨m, fun _ => 0, g⟩ (fun r => (∀ c : Dev Cert.Mlaf.nD,
      r.2.mem ((c.tc : Thread Cert.Mlaf.nD Cert.Mlaf.τ).loc Cert.Mlaf.main_arg0) = m ((c.tc : Thread Cert.Mlaf.nD Cert.Mlaf.τ).loc Cert.Mlaf.main_arg0)
      ∧ r.2.mem ((c.tc : Thread Cert.Mlaf.nD Cert.Mlaf.τ).loc Cert.Mlaf.main_arg1) = m ((c.tc : Thread Cert.Mlaf.nD Cert.Mlaf.τ).loc Cert.Mlaf.main_arg1)
      ∧ r.2.mem ((c.tc : Thread Cert.Mlaf.nD Cert.Mlaf.τ).loc Cert.Mlaf.main_arg2) = m ((c.tc : Thread Cert.Mlaf.nD Cert.Mlaf.τ).loc Cert.Mlaf.main_arg2)
      ∧ r.2.mem ((c.tc : Thread Cert.Mlaf.nD Cert.Mlaf.τ).loc Cert.Mlaf.main_arg3) = m ((c.tc : Thread Cert.Mlaf.nD Cert.Mlaf.τ).loc Cert.Mlaf.main_arg3)
      ∧ r.2.mem ((c.tc : Thread Cert.Mlaf.nD Cert.Mlaf.τ).loc Cert.Mlaf.main_arg4) = m ((c.tc : Thread Cert.Mlaf.nD Cert.Mlaf.τ).loc Cert.Mlaf.main_arg4))
      ∧ r.2.sem = fun _ => 0)

def quiescent_MlafIdeal [hMlafIdeal : Cert.MlafIdeal.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
      ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
      ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4))
      ∧ r.2.sem = fun _ => 0)

def quiescent_MlafIdeal_pre_mlaf_finite [hMlafIdeal : Cert.MlafIdeal.Facts] [hPre_mlaf_finite : Cert.Pre_mlaf_finite.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal_mlaf_finite m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
      ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
      ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4))
      ∧ r.2.sem = fun _ => 0)

def quiescent_MlafRefIdeal [hMlafRefIdeal : Cert.MlafRefIdeal.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2)
      ∧ r.2.mem ((c.tc : Thread Cert.MlafRefIdeal.nD Cert.MlafRefIdeal.τ).loc Cert.MlafRefIdeal.main_arg3) = m ((c.tc : Thread Cert.MlafRefIdeal.nD Cert.MlafRefIdeal.τ).loc Cert.MlafRefIdeal.main_arg3)
      ∧ r.2.mem ((c.tc : Thread Cert.MlafRefIdeal.nD Cert.MlafRefIdeal.τ).loc Cert.MlafRefIdeal.main_arg4) = m ((c.tc : Thread Cert.MlafRefIdeal.nD Cert.MlafRefIdeal.τ).loc Cert.MlafRefIdeal.main_arg4))
      ∧ r.2.sem = fun _ => 0)

def quiescent_MlafRefIdeal_pre_mlaf_finite [hMlafRefIdeal : Cert.MlafRefIdeal.Facts] [hPre_mlaf_finite : Cert.Pre_mlaf_finite.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal_mlaf_finite m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2)
      ∧ r.2.mem ((c.tc : Thread Cert.MlafRefIdeal.nD Cert.MlafRefIdeal.τ).loc Cert.MlafRefIdeal.main_arg3) = m ((c.tc : Thread Cert.MlafRefIdeal.nD Cert.MlafRefIdeal.τ).loc Cert.MlafRefIdeal.main_arg3)
      ∧ r.2.mem ((c.tc : Thread Cert.MlafRefIdeal.nD Cert.MlafRefIdeal.τ).loc Cert.MlafRefIdeal.main_arg4) = m ((c.tc : Thread Cert.MlafRefIdeal.nD Cert.MlafRefIdeal.τ).loc Cert.MlafRefIdeal.main_arg4))
      ∧ r.2.sem = fun _ => 0)

def preserves_Out_OutIdeal : Prop :=
  True

def algebraic_OutIdeal_OutRefIdeal_pre_finite [hOutIdeal : Cert.OutIdeal.Facts] [hOutRefIdeal : Cert.OutRefIdeal.Facts] [hPre_finite : Cert.Pre_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v29)) (v1 : (c : Dev Cert.OutIdeal.nD) → Buf (Elt Ideal) ((c.tc : Thread Cert.OutIdeal.nD Cert.OutIdeal.τ).loc Cert.OutIdeal.main_v33)) (v2 : (c : Dev Cert.OutIdeal.nD) → Buf (Elt Ideal) ((c.tc : Thread Cert.OutIdeal.nD Cert.OutIdeal.τ).loc Cert.OutIdeal.main_v37)) (v3 : (c : Dev Cert.OutIdeal.nD) → Buf (Elt Ideal) ((c.tc : Thread Cert.OutIdeal.nD Cert.OutIdeal.τ).loc Cert.OutIdeal.main_v41)) (v4 : (c : Dev Cert.OutIdeal.nD) → Buf (Elt Ideal) ((c.tc : Thread Cert.OutIdeal.nD Cert.OutIdeal.τ).loc Cert.OutIdeal.main_v42)) (v5 : (c : Dev Cert.OutIdeal.nD) → Buf (Elt Ideal) ((c.tc : Thread Cert.OutIdeal.nD Cert.OutIdeal.τ).loc Cert.OutIdeal.main_v43)) (v6 : (c : Dev Cert.OutIdeal.nD) → Buf (Elt Ideal) ((c.tc : Thread Cert.OutIdeal.nD Cert.OutIdeal.τ).loc Cert.OutIdeal.main_v25_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v29) = v0 c
          ∧ r.2.mem ((c.tc : Thread Cert.OutIdeal.nD Cert.OutIdeal.τ).loc Cert.OutIdeal.main_v33) = v1 c
          ∧ r.2.mem ((c.tc : Thread Cert.OutIdeal.nD Cert.OutIdeal.τ).loc Cert.OutIdeal.main_v37) = v2 c
          ∧ r.2.mem ((c.tc : Thread Cert.OutIdeal.nD Cert.OutIdeal.τ).loc Cert.OutIdeal.main_v41) = v3 c
          ∧ r.2.mem ((c.tc : Thread Cert.OutIdeal.nD Cert.OutIdeal.τ).loc Cert.OutIdeal.main_v42) = v4 c
          ∧ r.2.mem ((c.tc : Thread Cert.OutIdeal.nD Cert.OutIdeal.τ).loc Cert.OutIdeal.main_v43) = v5 c
          ∧ r.2.mem ((c.tc : Thread Cert.OutIdeal.nD Cert.OutIdeal.τ).loc Cert.OutIdeal.main_v25_4) = v6 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v88) = v0 c
          ∧ r.2.mem ((c.tc : Thread Cert.OutRefIdeal.nD Cert.OutRefIdeal.τ).loc Cert.OutRefIdeal.main_v65) = v1 c
          ∧ r.2.mem ((c.tc : Thread Cert.OutRefIdeal.nD Cert.OutRefIdeal.τ).loc Cert.OutRefIdeal.main_v68) = v2 c
          ∧ r.2.mem ((c.tc : Thread Cert.OutRefIdeal.nD Cert.OutRefIdeal.τ).loc Cert.OutRefIdeal.main_v45) = v3 c
          ∧ r.2.mem ((c.tc : Thread Cert.OutRefIdeal.nD Cert.OutRefIdeal.τ).loc Cert.OutRefIdeal.main_v74) = v4 c
          ∧ r.2.mem ((c.tc : Thread Cert.OutRefIdeal.nD Cert.OutRefIdeal.τ).loc Cert.OutRefIdeal.main_v51) = v5 c
          ∧ r.2.mem ((c.tc : Thread Cert.OutRefIdeal.nD Cert.OutRefIdeal.τ).loc Cert.OutRefIdeal.main_v39) = v6 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Mla_MlaIdeal : Prop :=
  IdealRules.named_const.Statement Cert.MlaIdeal.κ "ln2" .f32 0x3F317218#32 ((Real.log 2 : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v100)) (v1 : (c : Dev Cert.MlaIdeal.nD) → Buf (Elt Ideal) ((c.tc : Thread Cert.MlaIdeal.nD Cert.MlaIdeal.τ).loc Cert.MlaIdeal.main_v101)) (v2 : (c : Dev Cert.MlaIdeal.nD) → Buf (Elt Ideal) ((c.tc : Thread Cert.MlaIdeal.nD Cert.MlaIdeal.τ).loc Cert.MlaIdeal.main_v102)) (v3 : (c : Dev Cert.MlaIdeal.nD) → Buf (Elt Ideal) ((c.tc : Thread Cert.MlaIdeal.nD Cert.MlaIdeal.τ).loc Cert.MlaIdeal.main_v104)) (v4 : (c : Dev Cert.MlaIdeal.nD) → Buf (Elt Ideal) ((c.tc : Thread Cert.MlaIdeal.nD Cert.MlaIdeal.τ).loc Cert.MlaIdeal.main_v105)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v100) = v0 c
          ∧ r.2.mem ((c.tc : Thread Cert.MlaIdeal.nD Cert.MlaIdeal.τ).loc Cert.MlaIdeal.main_v101) = v1 c
          ∧ r.2.mem ((c.tc : Thread Cert.MlaIdeal.nD Cert.MlaIdeal.τ).loc Cert.MlaIdeal.main_v102) = v2 c
          ∧ r.2.mem ((c.tc : Thread Cert.MlaIdeal.nD Cert.MlaIdeal.τ).loc Cert.MlaIdeal.main_v104) = v3 c
          ∧ r.2.mem ((c.tc : Thread Cert.MlaIdeal.nD Cert.MlaIdeal.τ).loc Cert.MlaIdeal.main_v105) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v62) = v0 c
          ∧ r.2.mem ((c.tc : Thread Cert.MlaRefIdeal.nD Cert.MlaRefIdeal.τ).loc Cert.MlaRefIdeal.main_v57) = v1 c
          ∧ r.2.mem ((c.tc : Thread Cert.MlaRefIdeal.nD Cert.MlaRefIdeal.τ).loc Cert.MlaRefIdeal.main_v60) = v2 c
          ∧ r.2.mem ((c.tc : Thread Cert.MlaRefIdeal.nD Cert.MlaRefIdeal.τ).loc Cert.MlaRefIdeal.main_v58) = v3 c
          ∧ r.2.mem ((c.tc : Thread Cert.MlaRefIdeal.nD Cert.MlaRefIdeal.τ).loc Cert.MlaRefIdeal.main_v41) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)) →
    ∃ (v0 : (c : Dev Cert.HeadIdeal.nD) → Buf (Elt Ideal) ((c.tc : Thread Cert.HeadIdeal.nD Cert.HeadIdeal.τ).loc Cert.HeadIdeal.main_v61)) (v1 : (c : Dev Cert.HeadIdeal.nD) → Buf (Elt Ideal) ((c.tc : Thread Cert.HeadIdeal.nD Cert.HeadIdeal.τ).loc Cert.HeadIdeal.main_v65)) (v2 : (c : Dev Cert.HeadIdeal.nD) → Buf (Elt Ideal) ((c.tc : Thread Cert.HeadIdeal.nD Cert.HeadIdeal.τ).loc Cert.HeadIdeal.main_v66)) (v3 : (c : Dev Cert.HeadIdeal.nD) → Buf (Elt Ideal) ((c.tc : Thread Cert.HeadIdeal.nD Cert.HeadIdeal.τ).loc Cert.HeadIdeal.main_v70)) (v4 : (c : Dev Cert.HeadIdeal.nD) → Buf (Elt Ideal) ((c.tc : Thread Cert.HeadIdeal.nD Cert.HeadIdeal.τ).loc Cert.HeadIdeal.main_v74)) (v5 : (c : Dev Cert.HeadIdeal.nD) → Buf (Elt Ideal) ((c.tc : Thread Cert.HeadIdeal.nD Cert.HeadIdeal.τ).loc Cert.HeadIdeal.main_v78)) (v6 : (c : Dev Cert.HeadIdeal.nD) → Buf (Elt Ideal) ((c.tc : Thread Cert.HeadIdeal.nD Cert.HeadIdeal.τ).loc Cert.HeadIdeal.main_v82)) (v7 : (c : Dev Cert.HeadIdeal.nD) → Buf (Elt Ideal) ((c.tc : Thread Cert.HeadIdeal.nD Cert.HeadIdeal.τ).loc Cert.HeadIdeal.main_v83)) (v8 : (c : Dev Cert.HeadIdeal.nD) → Buf (Elt Ideal) ((c.tc : Thread Cert.HeadIdeal.nD Cert.HeadIdeal.τ).loc Cert.HeadIdeal.main_v84)) (v9 : (c : Dev Cert.HeadIdeal.nD) → Buf (Elt Ideal) ((c.tc : Thread Cert.HeadIdeal.nD Cert.HeadIdeal.τ).loc Cert.HeadIdeal.main_v59_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v61) = v0 c
          ∧ r.2.mem ((c.tc : Thread Cert.HeadIdeal.nD Cert.HeadIdeal.τ).loc Cert.HeadIdeal.main_v65) = v1 c
          ∧ r.2.mem ((c.tc : Thread Cert.HeadIdeal.nD Cert.HeadIdeal.τ).loc Cert.HeadIdeal.main_v66) = v2 c
          ∧ r.2.mem ((c.tc : Thread Cert.HeadIdeal.nD Cert.HeadIdeal.τ).loc Cert.HeadIdeal.main_v70) = v3 c
          ∧ r.2.mem ((c.tc : Thread Cert.HeadIdeal.nD Cert.HeadIdeal.τ).loc Cert.HeadIdeal.main_v74) = v4 c
          ∧ r.2.mem ((c.tc : Thread Cert.HeadIdeal.nD Cert.HeadIdeal.τ).loc Cert.HeadIdeal.main_v78) = v5 c
          ∧ r.2.mem ((c.tc : Thread Cert.HeadIdeal.nD Cert.HeadIdeal.τ).loc Cert.HeadIdeal.main_v82) = v6 c
          ∧ r.2.mem ((c.tc : Thread Cert.HeadIdeal.nD Cert.HeadIdeal.τ).loc Cert.HeadIdeal.main_v83) = v7 c
          ∧ r.2.mem ((c.tc : Thread Cert.HeadIdeal.nD Cert.HeadIdeal.τ).loc Cert.HeadIdeal.main_v84) = v8 c
          ∧ r.2.mem ((c.tc : Thread Cert.HeadIdeal.nD Cert.HeadIdeal.τ).loc Cert.HeadIdeal.main_v59_4) = v9 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v64) = v0 c
          ∧ r.2.mem ((c.tc : Thread Cert.HeadRefIdeal.nD Cert.HeadRefIdeal.τ).loc Cert.HeadRefIdeal.main_v91) = v1 c
          ∧ r.2.mem ((c.tc : Thread Cert.HeadRefIdeal.nD Cert.HeadRefIdeal.τ).loc Cert.HeadRefIdeal.main_v76) = v2 c
          ∧ r.2.mem ((c.tc : Thread Cert.HeadRefIdeal.nD Cert.HeadRefIdeal.τ).loc Cert.HeadRefIdeal.main_v142) = v3 c
          ∧ r.2.mem ((c.tc : Thread Cert.HeadRefIdeal.nD Cert.HeadRefIdeal.τ).loc Cert.HeadRefIdeal.main_v119) = v4 c
          ∧ r.2.mem ((c.tc : Thread Cert.HeadRefIdeal.nD Cert.HeadRefIdeal.τ).loc Cert.HeadRefIdeal.main_v122) = v5 c
          ∧ r.2.mem ((c.tc : Thread Cert.HeadRefIdeal.nD Cert.HeadRefIdeal.τ).loc Cert.HeadRefIdeal.main_v99) = v6 c
          ∧ r.2.mem ((c.tc : Thread Cert.HeadRefIdeal.nD Cert.HeadRefIdeal.τ).loc Cert.HeadRefIdeal.main_v128) = v7 c
          ∧ r.2.mem ((c.tc : Thread Cert.HeadRefIdeal.nD Cert.HeadRefIdeal.τ).loc Cert.HeadRefIdeal.main_v105) = v8 c
          ∧ r.2.mem ((c.tc : Thread Cert.HeadRefIdeal.nD Cert.HeadRefIdeal.τ).loc Cert.HeadRefIdeal.main_v93) = v9 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9))

def preserves_Table_TableIdeal : Prop :=
  True

def preserves_Prep_PrepIdeal : Prop :=
  True

def preserves_Inproj_InprojIdeal : Prop :=
  True

def preserves_Win_WinIdeal : Prop :=
  True

def preserves_Outf_OutfIdeal : Prop :=
  True

def algebraic_OutfIdeal_OutfRefIdeal [hOutfIdeal : Cert.OutfIdeal.Facts] [hOutfRefIdeal : Cert.OutfRefIdeal.Facts] : Prop :=
  ∀ (m : (ℓ : Loc Cert.OutfIdeal.nD Cert.OutfIdeal.τ Cert.OutfIdeal.sig) → Buf (Elt Ideal) ℓ) (g : Dev Cert.OutfIdeal.nD → PrngReg)
    (m' : (ℓ : Loc Cert.OutfRefIdeal.nD Cert.OutfRefIdeal.τ Cert.OutfRefIdeal.sig) → Buf (Elt Ideal) ℓ) (g' : Dev Cert.OutfRefIdeal.nD → PrngReg), Pre_OutfIdeal m →
    (∀ c : Dev Cert.OutfIdeal.nD,
      m' ((c.tc : Thread Cert.OutfRefIdeal.nD Cert.OutfRefIdeal.τ).loc Cert.OutfRefIdeal.main_arg0) = m ((c.tc : Thread Cert.OutfIdeal.nD Cert.OutfIdeal.τ).loc Cert.OutfIdeal.main_arg0)
      ∧ m' ((c.tc : Thread Cert.OutfRefIdeal.nD Cert.OutfRefIdeal.τ).loc Cert.OutfRefIdeal.main_arg1) = m ((c.tc : Thread Cert.OutfIdeal.nD Cert.OutfIdeal.τ).loc Cert.OutfIdeal.main_arg1)
      ∧ m' ((c.tc : Thread Cert.OutfRefIdeal.nD Cert.OutfRefIdeal.τ).loc Cert.OutfRefIdeal.main_arg2) = m ((c.tc : Thread Cert.OutfIdeal.nD Cert.OutfIdeal.τ).loc Cert.OutfIdeal.main_arg2)
      ∧ m' ((c.tc : Thread Cert.OutfRefIdeal.nD Cert.OutfRefIdeal.τ).loc Cert.OutfRefIdeal.main_arg3) = m ((c.tc : Thread Cert.OutfIdeal.nD Cert.OutfIdeal.τ).loc Cert.OutfIdeal.main_arg3)
      ∧ m' ((c.tc : Thread Cert.OutfRefIdeal.nD Cert.OutfRefIdeal.τ).loc Cert.OutfRefIdeal.main_arg4) = m ((c.tc : Thread Cert.OutfIdeal.nD Cert.OutfIdeal.τ).loc Cert.OutfIdeal.main_arg4)
      ∧ m' ((c.tc : Thread Cert.OutfRefIdeal.nD Cert.OutfRefIdeal.τ).loc Cert.OutfRefIdeal.main_arg5) = m ((c.tc : Thread Cert.OutfIdeal.nD Cert.OutfIdeal.τ).loc Cert.OutfIdeal.main_arg5)
      ∧ m' ((c.tc : Thread Cert.OutfRefIdeal.nD Cert.OutfRefIdeal.τ).loc Cert.OutfRefIdeal.main_arg6) = m ((c.tc : Thread Cert.OutfIdeal.nD Cert.OutfIdeal.τ).loc Cert.OutfIdeal.main_arg6)
      ∧ m' ((c.tc : Thread Cert.OutfRefIdeal.nD Cert.OutfRefIdeal.τ).loc Cert.OutfRefIdeal.main_arg7) = m ((c.tc : Thread Cert.OutfIdeal.nD Cert.OutfIdeal.τ).loc Cert.OutfIdeal.main_arg7)) →
    ∃ (v0 : (c : Dev Cert.OutfIdeal.nD) → Buf (Elt Ideal) ((c.tc : Thread Cert.OutfIdeal.nD Cert.OutfIdeal.τ).loc Cert.OutfIdeal.main_v29)),
      θ_run (Cert.OutfIdeal.defs (F := Ideal)) (onTc (τ := Cert.OutfIdeal.τ) (Cert.OutfIdeal.main (F := Ideal))) ⟨m, fun _ => 0, g⟩ (fun r => ∀ c : Dev Cert.OutfIdeal.nD,
          r.2.mem ((c.tc : Thread Cert.OutfIdeal.nD Cert.OutfIdeal.τ).loc Cert.OutfIdeal.main_v29) = v0 c
          ∧ r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
          ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
          ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
          ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
          ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
          ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
          ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6)
          ∧ r.2.mem ((c.tc : Thread Cert.OutfIdeal.nD Cert.OutfIdeal.τ).loc Cert.OutfIdeal.main_arg7) = m ((c.tc : Thread Cert.OutfIdeal.nD Cert.OutfIdeal.τ).loc Cert.OutfIdeal.main_arg7))
      ∧ θ_run (Cert.OutfRefIdeal.defs (F := Ideal)) (onTc (τ := Cert.OutfRefIdeal.τ) (Cert.OutfRefIdeal.main (F := Ideal))) ⟨m', fun _ => 0, g'⟩ (fun r => ∀ c : Dev Cert.OutfRefIdeal.nD,
          r.2.mem ((c.tc : Thread Cert.OutfRefIdeal.nD Cert.OutfRefIdeal.τ).loc Cert.OutfRefIdeal.main_v32) = v0 c
          ∧ r.2.mem ((c.tc : Thread Cert.OutfRefIdeal.nD Cert.OutfRefIdeal.τ).loc Cert.OutfRefIdeal.main_arg0) = m' ((c.tc : Thread Cert.OutfRefIdeal.nD Cert.OutfRefIdeal.τ).loc Cert.OutfRefIdeal.main_arg0)
          ∧ r.2.mem ((c.tc : Thread Cert.OutfRefIdeal.nD Cert.OutfRefIdeal.τ).loc Cert.OutfRefIdeal.main_arg1) = m' ((c.tc : Thread Cert.OutfRefIdeal.nD Cert.OutfRefIdeal.τ).loc Cert.OutfRefIdeal.main_arg1)
          ∧ r.2.mem ((c.tc : Thread Cert.OutfRefIdeal.nD Cert.OutfRefIdeal.τ).loc Cert.OutfRefIdeal.main_arg2) = m' ((c.tc : Thread Cert.OutfRefIdeal.nD Cert.OutfRefIdeal.τ).loc Cert.OutfRefIdeal.main_arg2)
          ∧ r.2.mem ((c.tc : Thread Cert.OutfRefIdeal.nD Cert.OutfRefIdeal.τ).loc Cert.OutfRefIdeal.main_arg3) = m' ((c.tc : Thread Cert.OutfRefIdeal.nD Cert.OutfRefIdeal.τ).loc Cert.OutfRefIdeal.main_arg3)
          ∧ r.2.mem ((c.tc : Thread Cert.OutfRefIdeal.nD Cert.OutfRefIdeal.τ).loc Cert.OutfRefIdeal.main_arg4) = m' ((c.tc : Thread Cert.OutfRefIdeal.nD Cert.OutfRefIdeal.τ).loc Cert.OutfRefIdeal.main_arg4)
          ∧ r.2.mem ((c.tc : Thread Cert.OutfRefIdeal.nD Cert.OutfRefIdeal.τ).loc Cert.OutfRefIdeal.main_arg5) = m' ((c.tc : Thread Cert.OutfRefIdeal.nD Cert.OutfRefIdeal.τ).loc Cert.OutfRefIdeal.main_arg5)
          ∧ r.2.mem ((c.tc : Thread Cert.OutfRefIdeal.nD Cert.OutfRefIdeal.τ).loc Cert.OutfRefIdeal.main_arg6) = m' ((c.tc : Thread Cert.OutfRefIdeal.nD Cert.OutfRefIdeal.τ).loc Cert.OutfRefIdeal.main_arg6)
          ∧ r.2.mem ((c.tc : Thread Cert.OutfRefIdeal.nD Cert.OutfRefIdeal.τ).loc Cert.OutfRefIdeal.main_arg7) = m' ((c.tc : Thread Cert.OutfRefIdeal.nD Cert.OutfRefIdeal.τ).loc Cert.OutfRefIdeal.main_arg7))

def preserves_Inf_InfIdeal : Prop :=
  True

def preserves_Prepf_PrepfIdeal : Prop :=
  True

def preserves_Winf_WinfIdeal : Prop :=
  True

def preserves_Mlaf_MlafIdeal : Prop :=
  True

def algebraic_MlafIdeal_MlafRefIdeal_pre_mlaf_finite [hMlafIdeal : Cert.MlafIdeal.Facts] [hMlafRefIdeal : Cert.MlafRefIdeal.Facts] [hPre_mlaf_finite : Cert.Pre_mlaf_finite.Facts] : Prop :=
  ∀ (m : (ℓ : Loc Cert.MlafIdeal.nD Cert.MlafIdeal.τ Cert.MlafIdeal.sig) → Buf (Elt Ideal) ℓ) (g : Dev Cert.MlafIdeal.nD → PrngReg)
    (m' : (ℓ : Loc Cert.MlafRefIdeal.nD Cert.MlafRefIdeal.τ Cert.MlafRefIdeal.sig) → Buf (Elt Ideal) ℓ) (g' : Dev Cert.MlafRefIdeal.nD → PrngReg), Pre_MlafIdeal_mlaf_finite m →
    (∀ c : Dev Cert.MlafIdeal.nD,
      m' ((c.tc : Thread Cert.MlafRefIdeal.nD Cert.MlafRefIdeal.τ).loc Cert.MlafRefIdeal.main_arg0) = m ((c.tc : Thread Cert.MlafIdeal.nD Cert.MlafIdeal.τ).loc Cert.MlafIdeal.main_arg0)
      ∧ m' ((c.tc : Thread Cert.MlafRefIdeal.nD Cert.MlafRefIdeal.τ).loc Cert.MlafRefIdeal.main_arg1) = m ((c.tc : Thread Cert.MlafIdeal.nD Cert.MlafIdeal.τ).loc Cert.MlafIdeal.main_arg1)
      ∧ m' ((c.tc : Thread Cert.MlafRefIdeal.nD Cert.MlafRefIdeal.τ).loc Cert.MlafRefIdeal.main_arg2) = m ((c.tc : Thread Cert.MlafIdeal.nD Cert.MlafIdeal.τ).loc Cert.MlafIdeal.main_arg2)
      ∧ m' ((c.tc : Thread Cert.MlafRefIdeal.nD Cert.MlafRefIdeal.τ).loc Cert.MlafRefIdeal.main_arg3) = m ((c.tc : Thread Cert.MlafIdeal.nD Cert.MlafIdeal.τ).loc Cert.MlafIdeal.main_arg3)
      ∧ m' ((c.tc : Thread Cert.MlafRefIdeal.nD Cert.MlafRefIdeal.τ).loc Cert.MlafRefIdeal.main_arg4) = m ((c.tc : Thread Cert.MlafIdeal.nD Cert.MlafIdeal.τ).loc Cert.MlafIdeal.main_arg4)) →
    ∃ (v0 : (c : Dev Cert.MlafIdeal.nD) → Buf (Elt Ideal) ((c.tc : Thread Cert.MlafIdeal.nD Cert.MlafIdeal.τ).loc Cert.MlafIdeal.main_v47)),
      θ_run (Cert.MlafIdeal.defs (F := Ideal)) (onTc (τ := Cert.MlafIdeal.τ) (Cert.MlafIdeal.main (F := Ideal))) ⟨m, fun _ => 0, g⟩ (fun r => ∀ c : Dev Cert.MlafIdeal.nD,
          r.2.mem ((c.tc : Thread Cert.MlafIdeal.nD Cert.MlafIdeal.τ).loc Cert.MlafIdeal.main_v47) = v0 c
          ∧ r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
          ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
          ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
          ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
          ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4))
      ∧ θ_run (Cert.MlafRefIdeal.defs (F := Ideal)) (onTc (τ := Cert.MlafRefIdeal.τ) (Cert.MlafRefIdeal.main (F := Ideal))) ⟨m', fun _ => 0, g'⟩ (fun r => ∀ c : Dev Cert.MlafRefIdeal.nD,
          r.2.mem ((c.tc : Thread Cert.MlafRefIdeal.nD Cert.MlafRefIdeal.τ).loc Cert.MlafRefIdeal.main_v19) = v0 c
          ∧ r.2.mem ((c.tc : Thread Cert.MlafRefIdeal.nD Cert.MlafRefIdeal.τ).loc Cert.MlafRefIdeal.main_arg0) = m' ((c.tc : Thread Cert.MlafRefIdeal.nD Cert.MlafRefIdeal.τ).loc Cert.MlafRefIdeal.main_arg0)
          ∧ r.2.mem ((c.tc : Thread Cert.MlafRefIdeal.nD Cert.MlafRefIdeal.τ).loc Cert.MlafRefIdeal.main_arg1) = m' ((c.tc : Thread Cert.MlafRefIdeal.nD Cert.MlafRefIdeal.τ).loc Cert.MlafRefIdeal.main_arg1)
          ∧ r.2.mem ((c.tc : Thread Cert.MlafRefIdeal.nD Cert.MlafRefIdeal.τ).loc Cert.MlafRefIdeal.main_arg2) = m' ((c.tc : Thread Cert.MlafRefIdeal.nD Cert.MlafRefIdeal.τ).loc Cert.MlafRefIdeal.main_arg2)
          ∧ r.2.mem ((c.tc : Thread Cert.MlafRefIdeal.nD Cert.MlafRefIdeal.τ).loc Cert.MlafRefIdeal.main_arg3) = m' ((c.tc : Thread Cert.MlafRefIdeal.nD Cert.MlafRefIdeal.τ).loc Cert.MlafRefIdeal.main_arg3)
          ∧ r.2.mem ((c.tc : Thread Cert.MlafRefIdeal.nD Cert.MlafRefIdeal.τ).loc Cert.MlafRefIdeal.main_arg4) = m' ((c.tc : Thread Cert.MlafRefIdeal.nD Cert.MlafRefIdeal.τ).loc Cert.MlafRefIdeal.main_arg4))

def Claim : Prop :=
  ∃ (hOut : Cert.Out.Facts) (hOutIdeal : Cert.OutIdeal.Facts) (hOutRefIdeal : Cert.OutRefIdeal.Facts) (hMla : Cert.Mla.Facts) (hMlaIdeal : Cert.MlaIdeal.Facts) (hMlaRefIdeal : Cert.MlaRefIdeal.Facts) (hHead : Cert.Head.Facts) (hHeadIdeal : Cert.HeadIdeal.Facts) (hHeadRefIdeal : Cert.HeadRefIdeal.Facts) (hTable : Cert.Table.Facts) (hTableIdeal : Cert.TableIdeal.Facts) (hTableRefIdeal : Cert.TableRefIdeal.Facts) (hPrep : Cert.Prep.Facts) (hPrepIdeal : Cert.PrepIdeal.Facts) (hPrepRefIdeal : Cert.PrepRefIdeal.Facts) (hInproj : Cert.Inproj.Facts) (hInprojIdeal : Cert.InprojIdeal.Facts) (hInprojRefIdeal : Cert.InprojRefIdeal.Facts) (hWin : Cert.Win.Facts) (hWinIdeal : Cert.WinIdeal.Facts) (hWinRefIdeal : Cert.WinRefIdeal.Facts) (hOutf : Cert.Outf.Facts) (hOutfIdeal : Cert.OutfIdeal.Facts) (hOutfRefIdeal : Cert.OutfRefIdeal.Facts) (hInf : Cert.Inf.Facts) (hInfIdeal : Cert.InfIdeal.Facts) (hInfRefIdeal : Cert.InfRefIdeal.Facts) (hPrepf : Cert.Prepf.Facts) (hPrepfIdeal : Cert.PrepfIdeal.Facts) (hPrepfRefIdeal : Cert.PrepfRefIdeal.Facts) (hWinf : Cert.Winf.Facts) (hWinfIdeal : Cert.WinfIdeal.Facts) (hWinfRefIdeal : Cert.WinfRefIdeal.Facts) (hMlaf : Cert.Mlaf.Facts) (hMlafIdeal : Cert.MlafIdeal.Facts) (hMlafRefIdeal : Cert.MlafRefIdeal.Facts) (hPre_finite : Cert.Pre_finite.Facts) (hPre_mla_finite : Cert.Pre_mla_finite.Facts) (hPre_head_finite : Cert.Pre_head_finite.Facts) (hPre_mlaf_finite : Cert.Pre_mlaf_finite.Facts),
    quiescent_Out (hOut := hOut)
    ∧ quiescent_OutIdeal (hOutIdeal := hOutIdeal)
    ∧ quiescent_OutIdeal_pre_finite (hOutIdeal := hOutIdeal) (hPre_finite := hPre_finite)
    ∧ quiescent_OutRefIdeal (hOutRefIdeal := hOutRefIdeal)
    ∧ quiescent_OutRefIdeal_pre_finite (hOutRefIdeal := hOutRefIdeal) (hPre_finite := hPre_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Table (hTable := hTable)
    ∧ quiescent_TableIdeal (hTableIdeal := hTableIdeal)
    ∧ quiescent_TableRefIdeal (hTableRefIdeal := hTableRefIdeal)
    ∧ quiescent_Prep (hPrep := hPrep)
    ∧ quiescent_PrepIdeal (hPrepIdeal := hPrepIdeal)
    ∧ quiescent_PrepRefIdeal (hPrepRefIdeal := hPrepRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Win (hWin := hWin)
    ∧ quiescent_WinIdeal (hWinIdeal := hWinIdeal)
    ∧ quiescent_WinRefIdeal (hWinRefIdeal := hWinRefIdeal)
    ∧ quiescent_Outf (hOutf := hOutf)
    ∧ quiescent_OutfIdeal (hOutfIdeal := hOutfIdeal)
    ∧ quiescent_OutfRefIdeal (hOutfRefIdeal := hOutfRefIdeal)
    ∧ quiescent_Inf (hInf := hInf)
    ∧ quiescent_InfIdeal (hInfIdeal := hInfIdeal)
    ∧ quiescent_InfRefIdeal (hInfRefIdeal := hInfRefIdeal)
    ∧ quiescent_Prepf (hPrepf := hPrepf)
    ∧ quiescent_PrepfIdeal (hPrepfIdeal := hPrepfIdeal)
    ∧ quiescent_PrepfRefIdeal (hPrepfRefIdeal := hPrepfRefIdeal)
    ∧ quiescent_Winf (hWinf := hWinf)
    ∧ quiescent_WinfIdeal (hWinfIdeal := hWinfIdeal)
    ∧ quiescent_WinfRefIdeal (hWinfRefIdeal := hWinfRefIdeal)
    ∧ quiescent_Mlaf (hMlaf := hMlaf)
    ∧ quiescent_MlafIdeal (hMlafIdeal := hMlafIdeal)
    ∧ quiescent_MlafIdeal_pre_mlaf_finite (hMlafIdeal := hMlafIdeal) (hPre_mlaf_finite := hPre_mlaf_finite)
    ∧ quiescent_MlafRefIdeal (hMlafRefIdeal := hMlafRefIdeal)
    ∧ quiescent_MlafRefIdeal_pre_mlaf_finite (hMlafRefIdeal := hMlafRefIdeal) (hPre_mlaf_finite := hPre_mlaf_finite)
    ∧ preserves_Out_OutIdeal
    ∧ algebraic_OutIdeal_OutRefIdeal_pre_finite (hOutIdeal := hOutIdeal) (hOutRefIdeal := hOutRefIdeal) (hPre_finite := hPre_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Table_TableIdeal
    ∧ preserves_Prep_PrepIdeal
    ∧ preserves_Inproj_InprojIdeal
    ∧ preserves_Win_WinIdeal
    ∧ preserves_Outf_OutfIdeal
    ∧ algebraic_OutfIdeal_OutfRefIdeal (hOutfIdeal := hOutfIdeal) (hOutfRefIdeal := hOutfRefIdeal)
    ∧ preserves_Inf_InfIdeal
    ∧ preserves_Prepf_PrepfIdeal
    ∧ preserves_Winf_WinfIdeal
    ∧ preserves_Mlaf_MlafIdeal
    ∧ algebraic_MlafIdeal_MlafRefIdeal_pre_mlaf_finite (hMlafIdeal := hMlafIdeal) (hMlafRefIdeal := hMlafRefIdeal) (hPre_mlaf_finite := hPre_mlaf_finite)
-- ==== Pre_finite.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩

class Facts : Prop where
  bcast_S_S2x2064x1024 : S_.BroadcastsInDim S2x2064x1024 (![] : Fin 0 → Fin S2x2064x1024.rank)
  reducesTo_S2x2064x1024_S_d0_1_2 : S2x2064x1024.ReducesTo [0, 1, 2] S_
  h_S_ : 0 < S_.numel
  bcast_S_S2x2064x512 : S_.BroadcastsInDim S2x2064x512 (![] : Fin 0 → Fin S2x2064x512.rank)
  reducesTo_S2x2064x512_S_d0_1_2 : S2x2064x512.ReducesTo [0, 1, 2] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S2x2064x512 .f32) (main_arg5 : FVec F S512 .f32) (main_arg6 : FVec F S512 .f32) (main_arg7 : FVec F S1024x1024 .f32) (main_v13 : IVec S_ 1) (main_v16 : IVec S2x2064x512 1) : IVec S_ 1 :=
  let main_c_5 : IVec S_ 1 := constantI S_ 1 1#1
  let main_v17 : IVec S_ 1 := (fun x v => Host.reduce IntOp.andi x v reducesTo_S2x2064x512_S_d0_1_2 h_S_) main_v16 main_c_5
  let main_v18 : IVec S_ 1 := andi main_v13 main_v17
  let main_v19 : FVec F S2x2064x512 .f32 := Host.absf main_arg4
  let main_cst_6 : FVec F S_ .f32 := constant S_ .f32 0x7F800000#32
  let main_v20 : FVec F S2x2064x512 .f32 := broadcastInDim S2x2064x512 ![] bcast_S_S2x2064x512 main_cst_6
  let main_v21 : IVec S2x2064x512 1 := cmpf .olt main_v19 main_v20
  let main_c_7 : IVec S_ 1 := constantI S_ 1 1#1
  let main_v22 : IVec S_ 1 := (fun x v => Host.reduce IntOp.andi x v reducesTo_S2x2064x512_S_d0_1_2 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S2x2064x1024 .f32) (main_arg1 : FVec F S2x2064x512 .f32) (main_arg2 : FVec F S2x2064x512 .f32) (main_arg3 : FVec F S2x2064x512 .f32) (main_arg4 : FVec F S2x2064x512 .f32) (main_arg5 : FVec F S512 .f32) (main_arg6 : FVec F S512 .f32) (main_arg7 : FVec F S1024x1024 .f32) : IVec S_ 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_c : IVec S_ 1 := constantI S_ 1 1#1
  let main_v3 : IVec S_ 1 := (fun x v => Host.reduce IntOp.andi x v reducesTo_S2x2064x1024_S_d0_1_2 h_S_) main_v2 main_c
  let main_v4 : FVec F S2x2064x512 .f32 := Host.absf main_arg1
  let main_cst_0 : FVec F S_ .f32 := constant S_ .f32 0x7F800000#32
  let main_v5 : FVec F S2x2064x512 .f32 := broadcastInDim S2x2064x512 ![] bcast_S_S2x2064x512 main_cst_0
  let main_v6 : IVec S2x2064x512 1 := cmpf .olt main_v4 main_v5
  let main_c_1 : IVec S_ 1 := constantI S_ 1 1#1
  let main_v7 : IVec S_ 1 := (fun x v => Host.reduce IntOp.andi x v reducesTo_S2x2064x512_S_d0_1_2 h_S_) main_v6 main_c_1
  let main_v8 : IVec S_ 1 := andi main_v3 main_v7
  let main_v9 : FVec F S2x2064x512 .f32 := Host.absf main_arg2
  let main_cst_2 : FVec F S_ .f32 := constant S_ .f32 0x7F800000#32
  let main_v10 : FVec F S2x2064x512 .f32 := broadcastInDim S2x2064x512 ![] bcast_S_S2x2064x512 main_cst_2
  let main_v11 : IVec S2x2064x512 1 := cmpf .olt main_v9 main_v10
  let main_c_3 : IVec S_ 1 := constantI S_ 1 1#1
  let main_v12 : IVec S_ 1 := (fun x v => Host.reduce IntOp.andi x v reducesTo_S2x2064x512_S_d0_1_2 h_S_) main_v11 main_c_3
  let main_v13 : IVec S_ 1 := andi main_v8 main_v12
  let main_v14 : FVec F S2x2064x512 .f32 := Host.absf main_arg3
  let main_cst_4 : FVec F S_ .f32 := constant S_ .f32 0x7F800000#32
  let main_v15 : FVec F S2x2064x512 .f32 := broadcastInDim S2x2064x512 ![] bcast_S_S2x2064x512 main_cst_4
  let main_v16 : IVec S2x2064x512 1 := cmpf .olt main_v14 main_v15
  fn_part1 (F := F) main_arg4 main_arg5 main_arg6 main_arg7 main_v13 main_v16
-- ==== Pre_head_finite.lean ====
abbrev S2x2064x1024 : Shape := ⟨3, ![2, 2064, 1024]⟩
abbrev S2x2048x1024 : Shape := ⟨3, ![2, 2048, 1024]⟩
abbrev S1024 : Shape := ⟨1, ![1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩

class Facts : Prop where
  bcast_S_S2x2064x1024 : S_.BroadcastsInDim S2x2064x1024 (![] : Fin 0 → Fin S2x2064x1024.rank)
  reducesTo_S2x2064x1024_S_d0_1_2 : S2x2064x1024.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024 : S_.BroadcastsInDim S1024 (![] : Fin 0 → Fin S1024.rank)
  reducesTo_S1024_S_d0 : S1024.ReducesTo [0] S_
  bcast_S_S2x2064x512 : S_.BroadcastsInDim S2x2064x512 (![] : Fin 0 → Fin S2x2064x512.rank)
  reducesTo_S2x2064x512_S_d0_1_2 : S2x2064x512.ReducesTo [0, 1, 2] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512 .f32) (main_arg8 : FVec F S512 .f32) (main_arg9 : FVec F S1024x1024 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S2x2064x512 .f32) (main_arg5 : FVec F S2x2064x512 .f32) (main_arg6 : FVec F S2x2064x512 .f32) (main_arg7 : FVec F S512 .f32) (main_arg8 : FVec F S512 .f32) (main_arg9 : FVec F S1024x1024 .f32) (main_v13 : IVec S_ 1) (main_v16 : IVec S2x2064x512 1) : IVec S_ 1 :=
  let main_c_5 : IVec S_ 1 := constantI S_ 1 1#1
  let main_v17 : IVec S_ 1 := (fun x v => Host.reduce IntOp.andi x v reducesTo_S2x2064x512_S_d0_1_2 h_S_) main_v16 main_c_5
  let main_v18 : IVec S_ 1 := andi main_v13 main_v17
  let main_v19 : FVec F S2x2064x512 .f32 := Host.absf main_arg4
  let main_cst_6 : FVec F S_ .f32 := constant S_ .f32 0x7F800000#32
  let main_v20 : FVec F S2x2064x512 .f32 := broadcastInDim S2x2064x512 ![] bcast_S_S2x2064x512 main_cst_6
  let main_v21 : IVec S2x2064x512 1 := cmpf .olt main_v19 main_v20
  let main_c_7 : IVec S_ 1 := constantI S_ 1 1#1
  let main_v22 : IVec S_ 1 := (fun x v => Host.reduce IntOp.andi x v reducesTo_S2x2064x512_S_d0_1_2 h_S_) main_v21 main_c_7
  let main_v23 : IVec S_ 1 := andi main_v18 main_v22
  let main_v24 : FVec F S2x2064x512 .f32 := Host.absf main_arg5
  let main_cst_8 : FVec F S_ .f32 := constant S_ .f32 0x7F800000#32
  let main_v25 : FVec F S2x2064x512 .f32 := broadcastInDim S2x2064x512 ![] bcast_S_S2x2064x512 main_cst_8
  let main_v26 : IVec S2x2064x512 1 := cmpf .olt main_v24 main_v25
  let main_c_9 : IVec S_ 1 := constantI S_ 1 1#1
  let main_v27 : IVec S_ 1 := (fun x v => Host.reduce IntOp.andi x v reducesTo_S2x2064x512_S_d0_1_2 h_S_) main_v26 main_c_9
  let main_v28 : IVec S_ 1 := andi main_v23 main_v27
  let main_v29 : FVec F S2x2064x512 .f32 := Host.absf main_arg6
  let main_cst_10 : FVec F S_ .f32 := constant S_ .f32 0x7F800000#32
  let main_v30 : FVec F S2x2064x512 .f32 := broadcastInDim S2x2064x512 ![] bcast_S_S2x2064x512 main_cst_10
  let main_v31 : IVec S2x2064x512 1 := cmpf .olt main_v29 main_v30
  let main_c_11 : IVec S_ 1 := constantI S_ 1 1#1
  let main_v32 : IVec S_ 1 := (fun x v => Host.reduce IntOp.andi x v reducesTo_S2x2064x512_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S2x2064x1024 .f32) (main_arg1 : FVec F S2x2048x1024 .f32) (main_arg2 : FVec F S1024 .f32) (main_arg3 : FVec F S2x2064x512 .f32) (main_arg4 : FVec F S2x2064x512 .f32) (main_arg5 : FVec F S2x2064x512 .f32) (main_arg6 : FVec F S2x2064x512 .f32) (main_arg7 : FVec F S512 .f32) (main_arg8 : FVec F S512 .f32) (main_arg9 : FVec F S1024x1024 .f32) : IVec S_ 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_c : IVec S_ 1 := constantI S_ 1 1#1
  let main_v3 : IVec S_ 1 := (fun x v => Host.reduce IntOp.andi x v reducesTo_S2x2064x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x2064x512 .f32 := Host.absf main_arg3
  let main_cst_4 : FVec F S_ .f32 := constant S_ .f32 0x7F800000#32
  let main_v15 : FVec F S2x2064x512 .f32 := broadcastInDim S2x2064x512 ![] bcast_S_S2x2064x512 main_cst_4
  let main_v16 : IVec S2x2064x512 1 := cmpf .olt main_v14 main_v15
  fn_part1 (F := F) main_arg4 main_arg5 main_arg6 main_arg7 main_arg8 main_arg9 main_v13 main_v16
-- ==== Pre_mla_finite.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S_ : Shape := ⟨0, ![]⟩

class Facts : Prop where
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  h_S_ : 0 < S_.numel
  bcast_S_S2x2064x8x32 : S_.BroadcastsInDim S2x2064x8x32 (![] : Fin 0 → Fin S2x2064x8x32.rank)
  reducesTo_S2x2064x8x32_S_d0_1_2_3 : S2x2064x8x32.ReducesTo [0, 1, 2, 3] S_
  bcast_S_S2x2064x32 : S_.BroadcastsInDim S2x2064x32 (![] : Fin 0 → Fin S2x2064x32.rank)
  reducesTo_S2x2064x32_S_d0_1_2 : S2x2064x32.ReducesTo [0, 1, 2] S_
  bcast_S_S2x2064x512 : S_.BroadcastsInDim S2x2064x512 (![] : Fin 0 → Fin S2x2064x512.rank)
  reducesTo_S2x2064x512_S_d0_1_2 : S2x2064x512.ReducesTo [0, 1, 2] S_

variable [Facts]

def fn_part1 {F : FTy → Type} [FloatOps F] (main_arg4 : FVec F S2x2064x8x64 .f32) (main_arg5 : FVec F S2x2064x512 .f32) (main_v13 : IVec S_ 1) (main_v16 : IVec S2x2064x32 1) : IVec S_ 1 :=
  let main_c_5 : IVec S_ 1 := constantI S_ 1 1#1
  let main_v17 : IVec S_ 1 := (fun x v => Host.reduce IntOp.andi x v reducesTo_S2x2064x32_S_d0_1_2 h_S_) main_v16 main_c_5
  let main_v18 : IVec S_ 1 := andi main_v13 main_v17
  let main_v19 : FVec F S2x2064x8x64 .f32 := Host.absf main_arg4
  let main_cst_6 : FVec F S_ .f32 := constant S_ .f32 0x7F800000#32
  let main_v20 : FVec F S2x2064x8x64 .f32 := broadcastInDim S2x2064x8x64 ![] bcast_S_S2x2064x8x64 main_cst_6
  let main_v21 : IVec S2x2064x8x64 1 := cmpf .olt main_v19 main_v20
  let main_c_7 : IVec S_ 1 := constantI S_ 1 1#1
  let main_v22 : IVec S_ 1 := (fun x v => Host.reduce IntOp.andi x v reducesTo_S2x2064x8x64_S_d0_1_2_3 h_S_) main_v21 main_c_7
  let main_v23 : IVec S_ 1 := andi main_v18 main_v22
  let main_v24 : FVec F S2x2064x512 .f32 := Host.absf main_arg5
  let main_cst_8 : FVec F S_ .f32 := constant S_ .f32 0x7F800000#32
  let main_v25 : FVec F S2x2064x512 .f32 := broadcastInDim S2x2064x512 ![] bcast_S_S2x2064x512 main_cst_8
  let main_v26 : IVec S2x2064x512 1 := cmpf .olt main_v24 main_v25
  let main_c_9 : IVec S_ 1 := constantI S_ 1 1#1
  let main_v27 : IVec S_ 1 := (fun x v => Host.reduce IntOp.andi x v reducesTo_S2x2064x512_S_d0_1_2 h_S_) main_v26 main_c_9
  let main_v28 : IVec S_ 1 := andi main_v23 main_v27
  main_v28

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) (main_arg5 : FVec F S2x2064x512 .f32) : IVec S_ 1 :=
  let main_v0 : FVec F S2x2064x8x64 .f32 := Host.absf main_arg0
  let main_cst : FVec F S_ .f32 := constant S_ .f32 0x7F800000#32
  let main_v1 : FVec F S2x2064x8x64 .f32 := broadcastInDim S2x2064x8x64 ![] bcast_S_S2x2064x8x64 main_cst
  let main_v2 : IVec S2x2064x8x64 1 := cmpf .olt main_v0 main_v1
  let main_c : IVec S_ 1 := constantI S_ 1 1#1
  let main_v3 : IVec S_ 1 := (fun x v => Host.reduce IntOp.andi x v reducesTo_S2x2064x8x64_S_d0_1_2_3 h_S_) main_v2 main_c
  let main_v4 : FVec F S2x2064x8x32 .f32 := Host.absf main_arg1
  let main_cst_0 : FVec F S_ .f32 := constant S_ .f32 0x7F800000#32
  let main_v5 : FVec F S2x2064x8x32 .f32 := broadcastInDim S2x2064x8x32 ![] bcast_S_S2x2064x8x32 main_cst_0
  let main_v6 : IVec S2x2064x8x32 1 := cmpf .olt main_v4 main_v5
  let main_c_1 : IVec S_ 1 := constantI S_ 1 1#1
  let main_v7 : IVec S_ 1 := (fun x v => Host.reduce IntOp.andi x v reducesTo_S2x2064x8x32_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x32 .f32 := Host.absf main_arg3
  let main_cst_4 : FVec F S_ .f32 := constant S_ .f32 0x7F800000#32
  let main_v15 : FVec F S2x2064x32 .f32 := broadcastInDim S2x2064x32 ![] bcast_S_S2x2064x32 main_cst_4
  let main_v16 : IVec S2x2064x32 1 := cmpf .olt main_v14 main_v15
  fn_part1 (F := F) main_arg4 main_arg5 main_v13 main_v16
-- ==== Pre_mlaf_finite.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S_ : Shape := ⟨0, ![]⟩

class Facts : Prop where
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  h_S_ : 0 < S_.numel
  bcast_S_S2x2064x8x32 : S_.BroadcastsInDim S2x2064x8x32 (![] : Fin 0 → Fin S2x2064x8x32.rank)
  reducesTo_S2x2064x8x32_S_d0_1_2_3 : S2x2064x8x32.ReducesTo [0, 1, 2, 3] S_
  bcast_S_S2x2064x32 : S_.BroadcastsInDim S2x2064x32 (![] : Fin 0 → Fin S2x2064x32.rank)
  reducesTo_S2x2064x32_S_d0_1_2 : S2x2064x32.ReducesTo [0, 1, 2] S_

variable [Facts]

def fn_part1 {F : FTy → Type} [FloatOps F] (main_arg4 : FVec F S2x2064x8x64 .f32) (main_v13 : IVec S_ 1) (main_v16 : IVec S2x2064x32 1) : IVec S_ 1 :=
  let main_c_5 : IVec S_ 1 := constantI S_ 1 1#1
  let main_v17 : IVec S_ 1 := (fun x v => Host.reduce IntOp.andi x v reducesTo_S2x2064x32_S_d0_1_2 h_S_) main_v16 main_c_5
  let main_v18 : IVec S_ 1 := andi main_v13 main_v17
  let main_v19 : FVec F S2x2064x8x64 .f32 := Host.absf main_arg4
  let main_cst_6 : FVec F S_ .f32 := constant S_ .f32 0x7F800000#32
  let main_v20 : FVec F S2x2064x8x64 .f32 := broadcastInDim S2x2064x8x64 ![] bcast_S_S2x2064x8x64 main_cst_6
  let main_v21 : IVec S2x2064x8x64 1 := cmpf .olt main_v19 main_v20
  let main_c_7 : IVec S_ 1 := constantI S_ 1 1#1
  let main_v22 : IVec S_ 1 := (fun x v => Host.reduce IntOp.andi x v reducesTo_S2x2064x8x64_S_d0_1_2_3 h_S_) main_v21 main_c_7
  let main_v23 : IVec S_ 1 := andi main_v18 main_v22
  main_v23

def fn {F : FTy → Type} [FloatOps F] (main_arg0 : FVec F S2x2064x8x64 .f32) (main_arg1 : FVec F S2x2064x8x32 .f32) (main_arg2 : FVec F S2x2064x8x64 .f32) (main_arg3 : FVec F S2x2064x32 .f32) (main_arg4 : FVec F S2x2064x8x64 .f32) : IVec S_ 1 :=
  let main_v0 : FVec F S2x2064x8x64 .f32 := Host.absf main_arg0
  let main_cst : FVec F S_ .f32 := constant S_ .f32 0x7F800000#32
  let main_v1 : FVec F S2x2064x8x64 .f32 := broadcastInDim S2x2064x8x64 ![] bcast_S_S2x2064x8x64 main_cst
  let main_v2 : IVec S2x2064x8x64 1 := cmpf .olt main_v0 main_v1
  let main_c : IVec S_ 1 := constantI S_ 1 1#1
  let main_v3 : IVec S_ 1 := (fun x v => Host.reduce IntOp.andi x v reducesTo_S2x2064x8x64_S_d0_1_2_3 h_S_) main_v2 main_c
  let main_v4 : FVec F S2x2064x8x32 .f32 := Host.absf main_arg1
  let main_cst_0 : FVec F S_ .f32 := constant S_ .f32 0x7F800000#32
  let main_v5 : FVec F S2x2064x8x32 .f32 := broadcastInDim S2x2064x8x32 ![] bcast_S_S2x2064x8x32 main_cst_0
  let main_v6 : IVec S2x2064x8x32 1 := cmpf .olt main_v4 main_v5
  let main_c_1 : IVec S_ 1 := constantI S_ 1 1#1
  let main_v7 : IVec S_ 1 := (fun x v => Host.reduce IntOp.andi x v reducesTo_S2x2064x8x32_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x32 .f32 := Host.absf main_arg3
  let main_cst_4 : FVec F S_ .f32 := constant S_ .f32 0x7F800000#32
  let main_v15 : FVec F S2x2064x32 .f32 := broadcastInDim S2x2064x32 ![] bcast_S_S2x2064x32 main_cst_4
  let main_v16 : IVec S2x2064x32 1 := cmpf .olt main_v14 main_v15
  fn_part1 (F := F) main_arg4 main_v13 main_v16
-- ==== Out.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S2x112x1024 : Shape := ⟨3, ![2, 112, 1024]⟩
abbrev S2x2048x1024 : Shape := ⟨3, ![2, 2048, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S1x512 : Shape := ⟨2, ![1, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 63
  | .vmem => 24
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S2x2064x512, .f32⟩
  | .hbm, ⟨4, _⟩ => ⟨S2x2064x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S_, .f32⟩
  | .hbm, ⟨9, _⟩ => ⟨S2x2064x512, .f32⟩
  | .hbm, ⟨10, _⟩ => ⟨S2x2064x2560, .f32⟩
  | .hbm, ⟨11, _⟩ => ⟨S_, .f32⟩
  | .hbm, ⟨12, _⟩ => ⟨S2x112x2560, .f32⟩
  | .hbm, ⟨13, _⟩ => ⟨S2x2048x2560, .f32⟩
  | .hbm, ⟨14, _⟩ => ⟨S2x16x2560, .f32⟩
  | .hbm, ⟨15, _⟩ => ⟨S2x2176x2560, .f32⟩
  | .hbm, ⟨16, _⟩ => ⟨S4352x2560, .f32⟩
  | .hbm, ⟨17, _⟩ => ⟨S_, .f32⟩
  | .hbm, ⟨18, _⟩ => ⟨S2x112x1024, .f32⟩
  | .hbm, ⟨19, _⟩ => ⟨S2x2048x1024, .f32⟩
  | .hbm, ⟨20, _⟩ => ⟨S2x16x1024, .f32⟩
  | .hbm, ⟨21, _⟩ => ⟨S2x2176x1024, .f32⟩
  | .hbm, ⟨22, _⟩ => ⟨S4352x1024, .f32⟩
  | .hbm, ⟨23, _⟩ => ⟨S_, .f32⟩
  | .hbm, ⟨24, _⟩ => ⟨S2x112x512, .f32⟩
  | .hbm, ⟨25, _⟩ => ⟨S2x2048x512, .f32⟩
  | .hbm, ⟨26, _⟩ => ⟨S2x16x512, .f32⟩
  | .hbm, ⟨27, _⟩ => ⟨S2x2176x512, .f32⟩
  | .hbm, ⟨28, _⟩ => ⟨S4352x512, .f32⟩
  | .hbm, ⟨29, _⟩ => ⟨S_, .f32⟩
  | .hbm, ⟨30, _⟩ => ⟨S2x112x512, .f32⟩
  | .hbm, ⟨31, _⟩ => ⟨S2x2048x512, .f32⟩
  | .hbm, ⟨32, _⟩ => ⟨S2x16x512, .f32⟩
  | .hbm, ⟨33, _⟩ => ⟨S2x2176x512, .f32⟩
  | .hbm, ⟨34, _⟩ => ⟨S4352x512, .f32⟩
  | .hbm, ⟨35, _⟩ => ⟨S1x512, .f32⟩
  | .hbm, ⟨36, _⟩ => ⟨S1x512, .f32⟩
  | .hbm, ⟨37, _⟩ => ⟨S1024x1024, .bf16⟩
  | .hbm, ⟨38, _⟩ => ⟨S4352x512, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S1024x1024, .f32⟩
  | .hbm, ⟨43, _⟩ => ⟨S1x512, .f32⟩
  | .hbm, ⟨44, _⟩ => ⟨S1x512, .f32⟩
  | .hbm, ⟨45, _⟩ => ⟨S2x2176x512, .f32⟩
  | .hbm, ⟨46, _⟩ => ⟨S2x16x512, .f32⟩
  | .hbm, ⟨47, _⟩ => ⟨S2x2048x512, .f32⟩
  | .hbm, ⟨48, _⟩ => ⟨S2x2064x512, .f32⟩
  | .hbm, ⟨49, _⟩ => ⟨S2x2176x512, .f32⟩
  | .hbm, ⟨50, _⟩ => ⟨S2x16x512, .f32⟩
  | .hbm, ⟨51, _⟩ => ⟨S2x2048x512, .f32⟩
  | .hbm, ⟨52, _⟩ => ⟨S2x2064x512, .f32⟩
  | .hbm, ⟨53, _⟩ => ⟨S2x2176x512, .f32⟩
  | .hbm, ⟨54, _⟩ => ⟨S2x16x512, .f32⟩
  | .hbm, ⟨55, _⟩ => ⟨S2x2048x512, .f32⟩
  | .hbm, ⟨56, _⟩ => ⟨S2x2064x512, .f32⟩
  | .hbm, ⟨57, _⟩ => ⟨S2x2176x512, .f32⟩
  | .hbm, ⟨58, _⟩ => ⟨S2x16x512, .f32⟩
  | .hbm, ⟨59, _⟩ => ⟨S2x2048x512, .f32⟩
  | .hbm, ⟨60, _⟩ => ⟨S2x2064x512, .f32⟩
  | .hbm, ⟨61, _⟩ => ⟨S512, .f32⟩
  | .hbm, ⟨62, _⟩ => ⟨S512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1024x1024, .f32⟩
  | .local _ .vmem, ⟨22, _⟩ => ⟨S1x512, .f32⟩
  | .local _ .vmem, ⟨23, _⟩ => ⟨S1x512, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev main_v25_5 : Ref sig .tc := ⟨.hbm, 43, rfl⟩
abbrev main_v25_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutRefIdeal.lean ====
abbrev S2x2064x1024 : Shape := ⟨3, ![2, 2064, 1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩

abbrev nBuf : Space → Nat
  | .hbm => 145
  | .vmem => 0
  | .smem => 0
  | _ => 0

abbrev hbmTy0_0 (i : Nat) : BufTy := match i % 128 with
  | 0 => ⟨S2x2064x1024, .f32⟩
  | 1 => ⟨S2x2064x512, .f32⟩
  | 2 => ⟨S2x2064x512, .f32⟩
  | 3 => ⟨S2x2064x512, .f32⟩
  | 4 => ⟨S2x2064x512, .f32⟩
  | 5 => ⟨S512, .f32⟩
  | 6 => ⟨S512, .f32⟩
  | 7 => ⟨S1024x1024, .f32⟩
  | 8 => ⟨S2x2064x512, .f32⟩
  | 9 => ⟨S_, .f32⟩
  | 10 => ⟨S2x2064, .f32⟩
  | 11 => ⟨S2x2064x1, .f32⟩
  | 12 => ⟨S_, .f32⟩
  | 13 => ⟨S2x2064x1, .f32⟩
  | 14 => ⟨S2x2064x1, .f32⟩
  | 15 => ⟨S_, .f32⟩
  | 16 => ⟨S2x2064x1, .f32⟩
  | 17 => ⟨S2x2064x1, .f32⟩
  | 18 => ⟨S2x2064x1, .f32⟩
  | 19 => ⟨S2x2064x1, .f32⟩
  | 20 => ⟨S_, .f32⟩
  | 21 => ⟨S2x2064x1, .f32⟩
  | 22 => ⟨S2x2064x1, .f32⟩
  | 23 => ⟨S2x2064x512, .f32⟩
  | 24 => ⟨S2x2064x512, .f32⟩
  | 25 => ⟨S1x1x512, .f32⟩
  | 26 => ⟨S2x2064x512, .f32⟩
  | 27 => ⟨S2x2064x512, .f32⟩
  | 28 => ⟨S2x2064x512, .f32⟩
  | 29 => ⟨S2x2064x512, .f32⟩
  | 30 => ⟨S_, .f32⟩
  | 31 => ⟨S2x2064x512, .f32⟩
  | 32 => ⟨S2x2064x512, .f32⟩
  | 33 => ⟨S_, .f32⟩
  | 34 => ⟨S2x2064x512, .f32⟩
  | 35 => ⟨S2x2064x512, .f32⟩
  | 36 => ⟨S_, .f32⟩
  | 37 => ⟨S2x2064x512, .f32⟩
  | 38 => ⟨S2x2064x512, .f32⟩
  | 39 => ⟨S2x2064x512, .f32⟩
  | 40 => ⟨S2x2064x512, .f32⟩
  | 41 => ⟨S2x2064x512, .f32⟩
  | 42 => ⟨S2x2064x512, .f32⟩
  | 43 => ⟨S_, .f32⟩
  | 44 => ⟨S2x2064, .f32⟩
  | 45 => ⟨S2x2064x1, .f32⟩
  | 46 => ⟨S_, .f32⟩
  | 47 => ⟨S2x2064x1, .f32⟩
  | 48 => ⟨S2x2064x1, .f32⟩
  | 49 => ⟨S_, .f32⟩
  | 50 => ⟨S2x2064x1, .f32⟩
  | 51 => ⟨S2x2064x1, .f32⟩
  | 52 => ⟨S2x2064x1, .f32⟩
  | 53 => ⟨S2x2064x1, .f32⟩
  | 54 => ⟨S_, .f32⟩
  | 55 => ⟨S2x2064x1, .f32⟩
  | 56 => ⟨S2x2064x1, .f32⟩
  | 57 => ⟨S2x2064x512, .f32⟩
  | 58 => ⟨S2x2064x512, .f32⟩
  | 59 => ⟨S1x1x512, .f32⟩
  | 60 => ⟨S2x2064x512, .f32⟩
  | 61 => ⟨S2x2064x512, .f32⟩
  | 62 => ⟨S2x2064x512, .f32⟩
  | 63 => ⟨S2x2064x512, .f32⟩
  | 64 => ⟨S_, .f32⟩
  | 65 => ⟨S2x2064x512, .f32⟩
  | 66 => ⟨S2x2064x512, .f32⟩
  | 67 => ⟨S_, .f32⟩
  | 68 => ⟨S2x2064x512, .f32⟩
  | 69 => ⟨S2x2064x512, .f32⟩
  | 70 => ⟨S_, .f32⟩
  | 71 => ⟨S2x2064x512, .f32⟩
  | 72 => ⟨S2x2064x512, .f32⟩
  | 73 => ⟨S2x2064x512, .f32⟩
  | 74 => ⟨S2x2064x512, .f32⟩
  | 75 => ⟨S2x2064x512, .f32⟩
  | 76 => ⟨S2x2064x1024, .f32⟩
  | 77 => ⟨S2x2064x1024, .f32⟩
  | 78 => ⟨S1024x1024, .f32⟩
  | 79 => ⟨S1024x1024, .f32⟩
  | 80 => ⟨S2x2064x1024, .f32⟩
  | 81 => ⟨S2x2064x512, .f32⟩
  | 82 => ⟨S2x2064x512, .f32⟩
  | 83 => ⟨S2x2064x512, .f32⟩
  | 84 => ⟨S2x2064x512, .f32⟩
  | 85 => ⟨S2x2064x512, .f32⟩
  | 86 => ⟨S2x2064x512, .f32⟩
  | 87 => ⟨S2x2064x512, .f32⟩
  | 88 => ⟨S2x2064x512, .f32⟩
  | 89 => ⟨S2x2064x512, .f32⟩
  | 90 => ⟨S_, .f32⟩
  | 91 => ⟨S512, .f32⟩
  | 92 => ⟨S1x1x512, .f32⟩
  | 93 => ⟨S2x2064x512, .f32⟩
  | 94 => ⟨S2x2064x512, .f32⟩
  | 95 => ⟨S_, .f32⟩
  | 96 => ⟨S512, .f32⟩
  | 97 => ⟨S2x2064x512, .f32⟩
  | 98 => ⟨S_, .f32⟩
  | 99 => ⟨S2x2064, .f32⟩
  | 100 => ⟨S2x2064x1, .f32⟩
  | 101 => ⟨S2x2064x512, .f32⟩
  | 102 => ⟨S2x2064x512, .f32⟩
  | 103 => ⟨S2x2064x1, .f32⟩
  | 104 => ⟨S_, .f32⟩
  | 105 => ⟨S2x2064x1, .f32⟩
  | 106 => ⟨S2x2064x1, .f32⟩
  | 107 => ⟨S_, .f32⟩
  | 108 => ⟨S2x2064, .f32⟩
  | 109 => ⟨S2x2064x512, .f32⟩
  | 110 => ⟨S2x2064x512, .f32⟩
  | 111 => ⟨S2x2064x512, .f32⟩
  | 112 => ⟨S2x2064x512, .f32⟩
  | 113 => ⟨S2x2064x512, .f32⟩
  | 114 => ⟨S2x2064x512, .f32⟩
  | 115 => ⟨S2x2064x512, .f32⟩
  | 116 => ⟨S2x2064x512, .f32⟩
  | 117 => ⟨S2x2064x512, .f32⟩
  | 118 => ⟨S2x2064x512, .f32⟩
  | 119 => ⟨S2x2064x512, .f32⟩
  | 120 => ⟨S2x2064x512, .f32⟩
  | 121 => ⟨S_, .f32⟩
  | 122 => ⟨S512, .f32⟩
  | 123 => ⟨S1x1x512, .f32⟩
  | 124 => ⟨S2x2064x512, .f32⟩
  | 125 => ⟨S2x2064x512, .f32⟩
  | 126 => ⟨S_, .f32⟩
  | 127 => ⟨S512, .f32⟩
  | _ => ⟨S2x2064x1024, .f32⟩

abbrev hbmTy0_1 (i : Nat) : BufTy := match i % 128 with
  | 0 => ⟨S2x2064x512, .f32⟩
  | 1 => ⟨S_, .f32⟩
  | 2 => ⟨S2x2064, .f32⟩
  | 3 => ⟨S2x2064x1, .f32⟩
  | 4 => ⟨S2x2064x512, .f32⟩
  | 5 => ⟨S2x2064x512, .f32⟩
  | 6 => ⟨S2x2064x1, .f32⟩
  | 7 => ⟨S_, .f32⟩
  | 8 => ⟨S2x2064x1, .f32⟩
  | 9 => ⟨S2x2064x1, .f32⟩
  | 10 => ⟨S_, .f32⟩
  | 11 => ⟨S2x2064, .f32⟩
  | 12 => ⟨S2x2064x512, .f32⟩
  | 13 => ⟨S2x2064x512, .f32⟩
  | 14 => ⟨S2x2064x512, .f32⟩
  | 15 => ⟨S2x2064x512, .f32⟩
  | 16 => ⟨S2x2064x512, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v16_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v16_1 : Ref sig .tc := ⟨.hbm, 39, rfl⟩
abbrev main_v16_0 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v34_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v34_1 : Ref sig .tc := ⟨.hbm, 73, rfl⟩
abbrev main_v34_0 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_8 : Ref sig .tc := ⟨.hbm, 95, rfl⟩
abbrev main_v51 : Ref sig .tc := ⟨.hbm, 96, rfl⟩
abbrev main_v52 : Ref sig .tc := ⟨.hbm, 97, rfl⟩
abbrev main_cst_9 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_10 : Ref sig .tc := ⟨.hbm, 104, rfl⟩
abbrev main_v58 : Ref sig .tc := ⟨.hbm, 105, rfl⟩
abbrev main_v59 : Ref sig .tc := ⟨.hbm, 106, rfl⟩
abbrev main_cst_11 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v68 : Ref sig .tc := ⟨.hbm, 119, rfl⟩
abbrev main_v69 : Ref sig .tc := ⟨.hbm, 120, rfl⟩
abbrev main_cst_12 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_cst_14 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_15 : Ref sig .tc := ⟨.hbm, 135, rfl⟩
abbrev main_v81 : Ref sig .tc := ⟨.hbm, 136, rfl⟩
abbrev main_v82 : Ref sig .tc := ⟨.hbm, 137, rfl⟩
abbrev main_cst_16 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩

abbrev nD : Nat := 1
abbrev τ : Topo := Topo.v7x

variable {F : FTy → Type} [FloatOps F]
-- ==== Mla.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x2064x8 : Shape := ⟨3, ![2, 2064, 8]⟩
abbrev S2x2064x4x2 : Shape := ⟨4, ![2, 2064, 4, 2]⟩
abbrev S2x2064x4x126 : Shape := ⟨4, ![2, 2064, 4, 126]⟩
abbrev S2x2064x4x128 : Shape := ⟨4, ![2, 2064, 4, 128]⟩
abbrev S2x2064x1x32 : Shape := ⟨4, ![2, 2064, 1, 32]⟩
abbrev S2x2064x8x1 : Shape := ⟨4, ![2, 2064, 8, 1]⟩
abbrev S2x2064x8x31 : Shape := ⟨4, ![2, 2064, 8, 31]⟩
abbrev S2x2064x8x128 : Shape := ⟨4, ![2, 2064, 8, 128]⟩
abbrev S2x2048x8x128 : Shape := ⟨4, ![2, 2048, 8, 128]⟩
abbrev S2x16x8x128 : Shape := ⟨4, ![2, 16, 8, 128]⟩
abbrev S2x112x8x96 : Shape := ⟨4, ![2, 112, 8, 96]⟩
abbrev S2x112x8x1 : Shape := ⟨4, ![2, 112, 8, 1]⟩
abbrev S2x112x8x31 : Shape := ⟨4, ![2, 112, 8, 31]⟩
abbrev S2x112x8x128 : Shape := ⟨4, ![2, 112, 8, 128]⟩
abbrev S2x2176x8x128 : Shape := ⟨4, ![2, 2176, 8, 128]⟩
abbrev S4352x1024 : Shape := ⟨2, ![4352, 1024]⟩
abbrev S2x2064x8x2 : Shape := ⟨4, ![2, 2064, 8, 2]⟩
abbrev S2x2064x8x62 : Shape := ⟨4, ![2, 2064, 8, 62]⟩
abbrev S2x112x8x64 : Shape := ⟨4, ![2, 112, 8, 64]⟩
abbrev S2x112x8x2 : Shape := ⟨4, ![2, 112, 8, 2]⟩
abbrev S2x112x8x62 : Shape := ⟨4, ![2, 112, 8, 62]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S8x128 : Shape := ⟨2, ![8, 128]⟩
abbrev S2176x256 : Shape := ⟨2, ![2176, 256]⟩
abbrev S2176x128 : Shape := ⟨2, ![2176, 128]⟩
abbrev S256x128 : Shape := ⟨2, ![256, 128]⟩
abbrev S256 : Shape := ⟨1, ![256]⟩
abbrev S256x1 : Shape := ⟨2, ![256, 1]⟩
abbrev S256x2176 : Shape := ⟨2, ![256, 2176]⟩
abbrev S128x128 : Shape := ⟨2, ![128, 128]⟩
abbrev S128 : Shape := ⟨1, ![128]⟩
abbrev S128x1 : Shape := ⟨2, ![128, 1]⟩
abbrev S128x2176 : Shape := ⟨2, ![128, 2176]⟩

abbrev nBuf : Space → Nat
  | .hbm => 139
  | .vmem => 18
  | .smem => 0
  | _ => 0

abbrev hbmTy0_0 (i : Nat) : BufTy := match i % 128 with
  | 0 => ⟨S2x2064x8x64, .f32⟩
  | 1 => ⟨S2x2064x8x32, .f32⟩
  | 2 => ⟨S2x2064x8x64, .f32⟩
  | 3 => ⟨S2x2064x32, .f32⟩
  | 4 => ⟨S2x2064x8x64, .f32⟩
  | 5 => ⟨S2x2064x512, .f32⟩
  | 6 => ⟨S2x8x2064x2064, .f32⟩
  | 7 => ⟨S2x2064x2064x8, .f32⟩
  | 8 => ⟨S2x8x2064x2064, .f32⟩
  | 9 => ⟨S2x8x2064x2064, .f32⟩
  | 10 => ⟨S_, .f32⟩
  | 11 => ⟨S2x8x2064x2064, .f32⟩
  | 12 => ⟨S2x8x2064x2064, .f32⟩
  | 13 => ⟨S_, .f32⟩
  | 14 => ⟨S2x8x2064, .f32⟩
  | 15 => ⟨S2x8x2064x1, .f32⟩
  | 16 => ⟨S2x8x2064x2064, .f32⟩
  | 17 => ⟨S2x8x2064x2064, .f32⟩
  | 18 => ⟨S2x8x2064x2064, .f32⟩
  | 19 => ⟨S_, .f32⟩
  | 20 => ⟨S2x8x2064, .f32⟩
  | 21 => ⟨S2x8x2064x1, .f32⟩
  | 22 => ⟨S2x8x2064x2064, .f32⟩
  | 23 => ⟨S2x8x2064x2064, .f32⟩
  | 24 => ⟨S2x8x64x2064, .f32⟩
  | 25 => ⟨S2x2064x8x64, .f32⟩
  | 26 => ⟨S2x2064x512, .f32⟩
  | 27 => ⟨S_, .f32⟩
  | 28 => ⟨S_, .f32⟩
  | 29 => ⟨S2x8x2064x1, .f32⟩
  | 30 => ⟨S2x8x2064x1, .f32⟩
  | 31 => ⟨S2x8x2064, .f32⟩
  | 32 => ⟨S2x2064x8, .f32⟩
  | 33 => ⟨S2x2064x8, .f32⟩
  | 34 => ⟨S2x2064x8, .f32⟩
  | 35 => ⟨S2x2064x4x2, .f32⟩
  | 36 => ⟨S_, .f32⟩
  | 37 => ⟨S2x2064x4x126, .f32⟩
  | 38 => ⟨S2x2064x4x128, .f32⟩
  | 39 => ⟨S2x2064x1x32, .f32⟩
  | 40 => ⟨S2x2064x8x32, .f32⟩
  | 41 => ⟨S_, .f32⟩
  | 42 => ⟨S_, .f32⟩
  | 43 => ⟨S2x2064x8x64, .f32⟩
  | 44 => ⟨S2x2064x8x64, .f32⟩
  | 45 => ⟨S2x2064x8x32, .f32⟩
  | 46 => ⟨S2x2064x8x32, .f32⟩
  | 47 => ⟨S_, .f32⟩
  | 48 => ⟨S2x2064x8x1, .f32⟩
  | 49 => ⟨S_, .f32⟩
  | 50 => ⟨S2x2064x8x31, .f32⟩
  | 51 => ⟨S2x2064x8x128, .f32⟩
  | 52 => ⟨S2x2048x8x128, .f32⟩
  | 53 => ⟨S2x16x8x128, .f32⟩
  | 54 => ⟨S_, .f32⟩
  | 55 => ⟨S2x112x8x96, .f32⟩
  | 56 => ⟨S_, .f32⟩
  | 57 => ⟨S2x112x8x1, .f32⟩
  | 58 => ⟨S_, .f32⟩
  | 59 => ⟨S2x112x8x31, .f32⟩
  | 60 => ⟨S2x112x8x128, .f32⟩
  | 61 => ⟨S2x2176x8x128, .f32⟩
  | 62 => ⟨S4352x1024, .f32⟩
  | 63 => ⟨S4352x1024, .bf16⟩
  | 64 => ⟨S_, .f32⟩
  | 65 => ⟨S2x2064x8x32, .f32⟩
  | 66 => ⟨S2x2064x8x128, .f32⟩
  | 67 => ⟨S2x2048x8x128, .f32⟩
  | 68 => ⟨S2x16x8x128, .f32⟩
  | 69 => ⟨S_, .f32⟩
  | 70 => ⟨S2x112x8x96, .f32⟩
  | 71 => ⟨S_, .f32⟩
  | 72 => ⟨S2x112x8x1, .f32⟩
  | 73 => ⟨S_, .f32⟩
  | 74 => ⟨S2x112x8x31, .f32⟩
  | 75 => ⟨S2x112x8x128, .f32⟩
  | 76 => ⟨S2x2176x8x128, .f32⟩
  | 77 => ⟨S4352x1024, .f32⟩
  | 78 => ⟨S4352x1024, .bf16⟩
  | 79 => ⟨S_, .f32⟩
  | 80 => ⟨S2x2064x8x2, .f32⟩
  | 81 => ⟨S_, .f32⟩
  | 82 => ⟨S2x2064x8x62, .f32⟩
  | 83 => ⟨S2x2064x8x128, .f32⟩
  | 84 => ⟨S2x2048x8x128, .f32⟩
  | 85 => ⟨S2x16x8x128, .f32⟩
  | 86 => ⟨S_, .f32⟩
  | 87 => ⟨S2x112x8x64, .f32⟩
  | 88 => ⟨S_, .f32⟩
  | 89 => ⟨S2x112x8x2, .f32⟩
  | 90 => ⟨S_, .f32⟩
  | 91 => ⟨S2x112x8x62, .f32⟩
  | 92 => ⟨S2x112x8x128, .f32⟩
  | 93 => ⟨S2x2176x8x128, .f32⟩
  | 94 => ⟨S4352x1024, .f32⟩
  | 95 => ⟨S4352x1024, .bf16⟩
  | 96 => ⟨S2x2064x512, .f32⟩
  | 97 => ⟨S_, .f32⟩
  | 98 => ⟨S2x112x512, .f32⟩
  | 99 => ⟨S2x2048x512, .f32⟩
  | 100 => ⟨S2x16x512, .f32⟩
  | 101 => ⟨S2x2176x512, .f32⟩
  | 102 => ⟨S4352x512, .f32⟩
  | 103 => ⟨S_, .f32⟩
  | 104 => ⟨S2x112x512, .f32⟩
  | 105 => ⟨S2x2048x512, .f32⟩
  | 106 => ⟨S2x16x512, .f32⟩
  | 107 => ⟨S2x2176x512, .f32⟩
  | 108 => ⟨S4352x512, .f32⟩
  | 109 => ⟨S_, .f32⟩
  | 110 => ⟨S2x112x512, .f32⟩
  | 111 => ⟨S2x2048x512, .f32⟩
  | 112 => ⟨S2x16x512, .f32⟩
  | 113 => ⟨S2x2176x512, .f32⟩
  | 114 => ⟨S4352x512, .f32⟩
  | 115 => ⟨S_, .f32⟩
  | 116 => ⟨S8x128, .f32⟩
  | 117 => ⟨S4352x1024, .f32⟩
  | 118 => ⟨S4352x1024, .f32⟩
  | 119 => ⟨S4352x1024, .f32⟩
  | 120 => ⟨S2x2176x8x128, .f32⟩
  | 121 => ⟨S2x16x8x128, .f32⟩
  | 122 => ⟨S2x2048x8x128, .f32⟩
  | 123 => ⟨S2x2064x8x128, .f32⟩
  | 124 => ⟨S2x2176x8x128, .f32⟩
  | 125 => ⟨S2x16x8x128, .f32⟩
  | 126 => ⟨S2x2048x8x128, .f32⟩
  | 127 => ⟨S2x2064x8x128, .f32⟩
  | _ => ⟨S2x2064x8x64, .f32⟩

abbrev hbmTy0_1 (i : Nat) : BufTy := match i % 128 with
  | 0 => ⟨S2x2176x8x128, .f32⟩
  | 1 => ⟨S2x16x8x128, .f32⟩
  | 2 => ⟨S2x2048x8x128, .f32⟩
  | 3 => ⟨S2x2064x8x128, .f32⟩
  | 4 => ⟨S2x2064x8x64, .f32⟩
  | 5 => ⟨S2x2064x8x32, .f32⟩
  | 6 => ⟨S2x2064x8x64, .f32⟩
  | 7 => ⟨S2x2064x8x32, .f32⟩
  | 8 => ⟨S_, .f32⟩
  | 9 => ⟨S2x2064x32, .f32⟩
  | 10 => ⟨S2x2064x8x64, .f32⟩
  | _ => ⟨S2x2064x8x64, .f32⟩

abbrev hbmTy (i : Nat) : BufTy := match i / 128 with
  | 0 => hbmTy0_0 i
  | 1 => hbmTy0_1 i
  | _ => ⟨S2x2064x8x64, .f32⟩

abbrev bufTy : (tb : Table) → Fin (tcTables nBuf tb) → BufTy
  | .hbm, ⟨i, _⟩ => hbmTy i
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x256, .f32⟩
  | .local _ .vmem, ⟨13, _⟩ => ⟨S2176x256, .f32⟩
  | .local _ .vmem, ⟨14, _⟩ => ⟨S2176x256, .f32⟩
  | .local _ .vmem, ⟨15, _⟩ => ⟨S2176x256, .f32⟩
  | .local _ .vmem, ⟨16, _⟩ => ⟨S2176x256, .f32⟩
  | .local _ .vmem, ⟨17, _⟩ => ⟨S2176x256, .f32⟩
  | _, _ => ⟨S2x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_21 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_22 : Ref sig .tc := ⟨.hbm, 115, rfl⟩
abbrev main_v86 : Ref sig .tc := ⟨.hbm, 116, rfl⟩
abbrev main_v87_0 : Ref sig .tc := ⟨.hbm, 117, rfl⟩
abbrev main_v87_1 : Ref sig .tc := ⟨.hbm, 118, rfl⟩
abbrev main_v87_2 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_23 : Ref sig .tc := ⟨.hbm, 136, rfl⟩
abbrev main_v104 : Ref sig .tc := ⟨.hbm, 137, rfl⟩
abbrev main_v105 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  v128
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v131 : Index := Scalar.indexCast v129
  let c0_73 : Index := 0#32
  ![v131.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v161 : Index := Scalar.indexCast v129
  let c0_81 : Index := 0#32
  ![v161.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v128 : BitVec 32 := Scalar.muli arg12 c512_i32
  let v129 : BitVec 32 := v128
  let v219 : Index := Scalar.indexCast v129
  let c128_110 : Index := 128#32
  ![v219.toNat, 128]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  v256
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v259 : Index := Scalar.indexCast v257
  let c0_134 : Index := 0#32
  ![v259.toNat, 0]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v289 : Index := Scalar.indexCast v257
  let c0_142 : Index := 0#32
  ![v289.toNat, 0]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_133 : BitVec 32 := 512#32
  let v255 : BitVec 32 := Scalar.muli arg12 c512_i32_133
  let c256_i32 : BitVec 32 := 256#32
  let v256 : BitVec 32 := Scalar.addi v255 c256_i32
  let v257 : BitVec 32 := v256
  let v347 : Index := Scalar.indexCast v257
  let c128_171 : Index := 128#32
  ![v347.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaIdeal.lean ====
variable {F : FTy → Type} [FloatOps F] [Named F]
def κ : String → Option EReal := fun
  | "ln2" => some ((Real.log 2 : ℝ) : EReal)
  | _ => none
-- ==== MlaRefIdeal.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x512 : Shape := ⟨3, ![2, 2064, 512]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x8x2064x64 : Shape := ⟨4, ![2, 8, 2064, 64]⟩

abbrev nBuf : Space → Nat
  | .hbm => 83
  | .vmem => 0
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x2064x512, .f32⟩
  | .hbm, ⟨6, _⟩ => ⟨S2x8x2064x2064, .f32⟩
  | .hbm, ⟨7, _⟩ => ⟨S2x2064x2064x8, .f32⟩
  | .hbm, ⟨8, _⟩ => ⟨S2x8x2064x2064, .f32⟩
  | .hbm, ⟨9, _⟩ => ⟨S2x8x2064x2064, .f32⟩
  | .hbm, ⟨10, _⟩ => ⟨S_, .f32⟩
  | .hbm, ⟨11, _⟩ => ⟨S2x8x2064x2064, .f32⟩
  | .hbm, ⟨12, _⟩ => ⟨S2x8x2064x2064, .f32⟩
  | .hbm, ⟨13, _⟩ => ⟨S_, .f32⟩
  | .hbm, ⟨14, _⟩ => ⟨S2x8x2064, .f32⟩
  | .hbm, ⟨15, _⟩ => ⟨S2x8x2064x1, .f32⟩
  | .hbm, ⟨16, _⟩ => ⟨S2x8x2064x2064, .f32⟩
  | .hbm, ⟨17, _⟩ => ⟨S2x8x2064x2064, .i1⟩
  | .hbm, ⟨18, _⟩ => ⟨S2x8x2064x2064, .f32⟩
  | .hbm, ⟨19, _⟩ => ⟨S_, .f32⟩
  | .hbm, ⟨20, _⟩ => ⟨S2x8x2064, .f32⟩
  | .hbm, ⟨21, _⟩ => ⟨S_, .f32⟩
  | .hbm, ⟨22, _⟩ => ⟨S2x8x2064, .f32⟩
  | .hbm, ⟨23, _⟩ => ⟨S2x8x2064, .f32⟩
  | .hbm, ⟨24, _⟩ => ⟨S_, .f32⟩
  | .hbm, ⟨25, _⟩ => ⟨S2x8x2064, .f32⟩
  | .hbm, ⟨26, _⟩ => ⟨S2x8x2064, .i1⟩
  | .hbm, ⟨27, _⟩ => ⟨S_, .f32⟩
  | .hbm, ⟨28, _⟩ => ⟨S2x8x2064, .f32⟩
  | .hbm, ⟨29, _⟩ => ⟨S2x8x2064, .i1⟩
  | .hbm, ⟨30, _⟩ => ⟨S_, .f32⟩
  | .hbm, ⟨31, _⟩ => ⟨S2x8x2064, .f32⟩
  | .hbm, ⟨32, _⟩ => ⟨S_, .f32⟩
  | .hbm, ⟨33, _⟩ => ⟨S2x8x2064, .f32⟩
  | .hbm, ⟨34, _⟩ => ⟨S_, .f32⟩
  | .hbm, ⟨35, _⟩ => ⟨S2x8x2064, .f32⟩
  | .hbm, ⟨36, _⟩ => ⟨S2x8x2064, .f32⟩
  | .hbm, ⟨37, _⟩ => ⟨S2x8x2064, .f32⟩
  | .hbm, ⟨38, _⟩ => ⟨S2x8x2064x1, .f32⟩
  | .hbm, ⟨39, _⟩ => ⟨S2x8x2064x2064, .f32⟩
  | .hbm, ⟨40, _⟩ => ⟨S2x8x2064x2064, .f32⟩
  | .hbm, ⟨41, _⟩ => ⟨S2x8x2064x2064, .f32⟩
  | .hbm, ⟨42, _⟩ => ⟨S_, .f32⟩
  | .hbm, ⟨43, _⟩ => ⟨S2x8x2064, .f32⟩
  | .hbm, ⟨44, _⟩ => ⟨S2x8x2064x1, .f32⟩
  | .hbm, ⟨45, _⟩ => ⟨S2x8x2064x2064, .f32⟩
  | .hbm, ⟨46, _⟩ => ⟨S2x8x2064x2064, .f32⟩
  | .hbm, ⟨47, _⟩ => ⟨S2x8x2064x1, .f32⟩
  | .hbm, ⟨48, _⟩ => ⟨S_, .f32⟩
  | .hbm, ⟨49, _⟩ => ⟨S2x8x2064x1, .f32⟩
  | .hbm, ⟨50, _⟩ => ⟨S2x8x2064x1, .f32⟩
  | .hbm, ⟨51, _⟩ => ⟨S2x8x64x2064, .f32⟩
  | .hbm, ⟨52, _⟩ => ⟨S2x2064x8x64, .f32⟩
  | .hbm, ⟨53, _⟩ => ⟨S2x2064x512, .f32⟩
  | .hbm, ⟨54, _⟩ => ⟨S2x2064x8x64, .f32⟩
  | .hbm, ⟨55, _⟩ => ⟨S2x8x64x2064, .f32⟩
  | .hbm, ⟨56, _⟩ => ⟨S2x8x2064x2064, .f32⟩
  | .hbm, ⟨57, _⟩ => ⟨S2x8x64x2064, .f32⟩
  | .hbm, ⟨58, _⟩ => ⟨S2x2064x8x64, .f32⟩
  | .hbm, ⟨59, _⟩ => ⟨S2x8x2064x2064, .f32⟩
  | .hbm, ⟨60, _⟩ => ⟨S2x8x2064x2064, .f32⟩
  | .hbm, ⟨61, _⟩ => ⟨S2x8x2064x2064, .f32⟩
  | .hbm, ⟨62, _⟩ => ⟨S_, .f32⟩
  | .hbm, ⟨63, _⟩ => ⟨S2x8x2064, .f32⟩
  | .hbm, ⟨64, _⟩ => ⟨S2x8x2064x1, .f32⟩
  | .hbm, ⟨65, _⟩ => ⟨S2x8x2064x1, .f32⟩
  | .hbm, ⟨66, _⟩ => ⟨S2x8x2064x2064, .f32⟩
  | .hbm, ⟨67, _⟩ => ⟨S2x8x2064x2064, .f32⟩
  | .hbm, ⟨68, _⟩ => ⟨S_, .f32⟩
  | .hbm, ⟨69, _⟩ => ⟨S2x8x2064, .f32⟩
  | .hbm, ⟨70, _⟩ => ⟨S2x8x2064x2064, .f32⟩
  | .hbm, ⟨71, _⟩ => ⟨S2x8x2064x2064, .f32⟩
  | .hbm, ⟨72, _⟩ => ⟨S2x8x2064x2064, .f32⟩
  | .hbm, ⟨73, _⟩ => ⟨S_, .f32⟩
  | .hbm, ⟨74, _⟩ => ⟨S2x8x2064x2064, .f32⟩
  | .hbm, ⟨75, _⟩ => ⟨S2x8x2064x2064, .f32⟩
  | .hbm, ⟨76, _⟩ => ⟨S2x2064x2064x8, .f32⟩
  | .hbm, ⟨77, _⟩ => ⟨S2x2064x8x32, .f32⟩
  | .hbm, ⟨78, _⟩ => ⟨S2x2064x32, .f32⟩
  | .hbm, ⟨79, _⟩ => ⟨S2x8x2064x64, .f32⟩
  | .hbm, ⟨80, _⟩ => ⟨S2x2064x8x64, .f32⟩
  | .hbm, ⟨81, _⟩ => ⟨S2x8x2064x64, .f32⟩
  | .hbm, ⟨82, _⟩ => ⟨S2x2064x8x64, .f32⟩
  | _, _ => ⟨S2x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Head.lean ====
abbrev S2x2064x1024 : Shape := ⟨3, ![2, 2064, 1024]⟩
abbrev S2x2048x1024 : Shape := ⟨3, ![2, 2048, 1024]⟩
abbrev S1024 : Shape := ⟨1, ![1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S1x512 : Shape := ⟨2, ![1, 512]⟩
abbrev S2x112x1024 : Shape := ⟨3, ![2, 112, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S1x1024 : Shape := ⟨2, ![1, 1024]⟩
abbrev S8x128 : Shape := ⟨2, ![8, 128]⟩
abbrev S256x1024 : Shape := ⟨2, ![256, 1024]⟩
abbrev S1x128x1024 : Shape := ⟨3, ![1, 128, 1024]⟩
abbrev S256x512 : Shape := ⟨2, ![256, 512]⟩
abbrev S256 : Shape := ⟨1, ![256]⟩
abbrev S256x1 : Shape := ⟨2, ![256, 1]⟩
abbrev S128x1024 : Shape := ⟨2, ![128, 1024]⟩
abbrev S1x256x1 : Shape := ⟨3, ![1, 256, 1]⟩
abbrev S1 : Shape := ⟨1, ![1]⟩
abbrev S1x1x1 : Shape := ⟨3, ![1, 1, 1]⟩
abbrev S512x1024 : Shape := ⟨2, ![512, 1024]⟩
abbrev S1x1 : Shape := ⟨2, ![1, 1]⟩

abbrev nBuf : Space → Nat
  | .hbm => 131
  | .vmem => 33
  | .smem => 0
  | _ => 0

abbrev hbmTy0_0 (i : Nat) : BufTy := match i % 128 with
  | 0 => ⟨S2x2064x1024, .f32⟩
  | 1 => ⟨S2x2048x1024, .f32⟩
  | 2 => ⟨S1024, .f32⟩
  | 3 => ⟨S2x2064x512, .f32⟩
  | 4 => ⟨S2x2064x512, .f32⟩
  | 5 => ⟨S2x2064x512, .f32⟩
  | 6 => ⟨S2x2064x512, .f32⟩
  | 7 => ⟨S512, .f32⟩
  | 8 => ⟨S512, .f32⟩
  | 9 => ⟨S1024x1024, .f32⟩
  | 10 => ⟨S2x2064x512, .f32⟩
  | 11 => ⟨S_, .f32⟩
  | 12 => ⟨S2x2064, .f32⟩
  | 13 => ⟨S2x2064x1, .f32⟩
  | 14 => ⟨S_, .f32⟩
  | 15 => ⟨S2x2064x1, .f32⟩
  | 16 => ⟨S2x2064x1, .f32⟩
  | 17 => ⟨S_, .f32⟩
  | 18 => ⟨S2x2064x1, .f32⟩
  | 19 => ⟨S2x2064x1, .f32⟩
  | 20 => ⟨S2x2064x1, .f32⟩
  | 21 => ⟨S2x2064x512, .f32⟩
  | 22 => ⟨S2x2064x512, .f32⟩
  | 23 => ⟨S1x1x512, .f32⟩
  | 24 => ⟨S2x2064x512, .f32⟩
  | 25 => ⟨S2x2064x512, .f32⟩
  | 26 => ⟨S2x2064x512, .f32⟩
  | 27 => ⟨S2x2064x512, .f32⟩
  | 28 => ⟨S_, .f32⟩
  | 29 => ⟨S2x2064x512, .f32⟩
  | 30 => ⟨S2x2064x512, .f32⟩
  | 31 => ⟨S_, .f32⟩
  | 32 => ⟨S2x2064x512, .f32⟩
  | 33 => ⟨S2x2064x512, .f32⟩
  | 34 => ⟨S2x2064x512, .f32⟩
  | 35 => ⟨S2x2064x512, .f32⟩
  | 36 => ⟨S2x2064x512, .f32⟩
  | 37 => ⟨S_, .f32⟩
  | 38 => ⟨S2x2064, .f32⟩
  | 39 => ⟨S2x2064x1, .f32⟩
  | 40 => ⟨S_, .f32⟩
  | 41 => ⟨S2x2064x1, .f32⟩
  | 42 => ⟨S2x2064x1, .f32⟩
  | 43 => ⟨S_, .f32⟩
  | 44 => ⟨S2x2064x1, .f32⟩
  | 45 => ⟨S2x2064x1, .f32⟩
  | 46 => ⟨S2x2064x1, .f32⟩
  | 47 => ⟨S2x2064x512, .f32⟩
  | 48 => ⟨S2x2064x512, .f32⟩
  | 49 => ⟨S1x1x512, .f32⟩
  | 50 => ⟨S2x2064x512, .f32⟩
  | 51 => ⟨S2x2064x512, .f32⟩
  | 52 => ⟨S2x2064x512, .f32⟩
  | 53 => ⟨S2x2064x512, .f32⟩
  | 54 => ⟨S_, .f32⟩
  | 55 => ⟨S2x2064x512, .f32⟩
  | 56 => ⟨S2x2064x512, .f32⟩
  | 57 => ⟨S_, .f32⟩
  | 58 => ⟨S2x2064x512, .f32⟩
  | 59 => ⟨S2x2064x512, .f32⟩
  | 60 => ⟨S2x2064x512, .f32⟩
  | 61 => ⟨S2x2064x512, .f32⟩
  | 62 => ⟨S2x2064x1024, .f32⟩
  | 63 => ⟨S2x2064x1024, .f32⟩
  | 64 => ⟨S2x2064x1024, .f32⟩
  | 65 => ⟨S_, .f32⟩
  | 66 => ⟨S2x2064x512, .f32⟩
  | 67 => ⟨S2x2064x2560, .f32⟩
  | 68 => ⟨S_, .f32⟩
  | 69 => ⟨S2x112x2560, .f32⟩
  | 70 => ⟨S2x2048x2560, .f32⟩
  | 71 => ⟨S2x16x2560, .f32⟩
  | 72 => ⟨S2x2176x2560, .f32⟩
  | 73 => ⟨S4352x2560, .f32⟩
  | 74 => ⟨S_, .f32⟩
  | 75 => ⟨S2x112x512, .f32⟩
  | 76 => ⟨S2x2048x512, .f32⟩
  | 77 => ⟨S2x16x512, .f32⟩
  | 78 => ⟨S2x2176x512, .f32⟩
  | 79 => ⟨S4352x512, .f32⟩
  | 80 => ⟨S_, .f32⟩
  | 81 => ⟨S2x112x512, .f32⟩
  | 82 => ⟨S2x2048x512, .f32⟩
  | 83 => ⟨S2x16x512, .f32⟩
  | 84 => ⟨S2x2176x512, .f32⟩
  | 85 => ⟨S4352x512, .f32⟩
  | 86 => ⟨S1x512, .f32⟩
  | 87 => ⟨S1x512, .f32⟩
  | 88 => ⟨S1024x1024, .bf16⟩
  | 89 => ⟨S_, .f32⟩
  | 90 => ⟨S2x112x1024, .f32⟩
  | 91 => ⟨S2x2048x1024, .f32⟩
  | 92 => ⟨S2x16x1024, .f32⟩
  | 93 => ⟨S2x2176x1024, .f32⟩
  | 94 => ⟨S4352x1024, .f32⟩
  | 95 => ⟨S1x1024, .f32⟩
  | 96 => ⟨S4352x512, .f32⟩
  | 97 => ⟨S4352x512, .f32⟩
  | 98 => ⟨S4352x512, .f32⟩
  | 99 => ⟨S4352x512, .f32⟩
  | 100 => ⟨S1024x1024, .f32⟩
  | 101 => ⟨S1x512, .f32⟩
  | 102 => ⟨S1x512, .f32⟩
  | 103 => ⟨S4352x1024, .f32⟩
  | 104 => ⟨S8x128, .f32⟩
  | 105 => ⟨S1x1024, .f32⟩
  | 106 => ⟨S1x1, .f32⟩
  | 107 => ⟨S_, .f32⟩
  | 108 => ⟨S2x2176x1024, .f32⟩
  | 109 => ⟨S2x16x1024, .f32⟩
  | 110 => ⟨S2x2048x1024, .f32⟩
  | 111 => ⟨S2x2064x1024, .f32⟩
  | 112 => ⟨S1024, .f32⟩
  | 113 => ⟨S2x2176x512, .f32⟩
  | 114 => ⟨S2x16x512, .f32⟩
  | 115 => ⟨S2x2048x512, .f32⟩
  | 116 => ⟨S2x2064x512, .f32⟩
  | 117 => ⟨S2x2176x512, .f32⟩
  | 118 => ⟨S2x16x512, .f32⟩
  | 119 => ⟨S2x2048x512, .f32⟩
  | 120 => ⟨S2x2064x512, .f32⟩
  | 121 => ⟨S2x2176x512, .f32⟩
  | 122 => ⟨S2x16x512, .f32⟩
  | 123 => ⟨S2x2048x512, .f32⟩
  | 124 => ⟨S2x2064x512, .f32⟩
  | 125 => ⟨S2x2176x512, .f32⟩
  | 126 => ⟨S2x16x512, .f32⟩
  | 127 => ⟨S2x2048x512, .f32⟩
  | _ => ⟨S2x2064x1024, .f32⟩

abbrev hbmTy0_1 (i : Nat) : BufTy := match i % 128 with
  | 0 => ⟨S2x2064x512, .f32⟩
  | 1 => ⟨S512, .f32⟩
  | 2 => ⟨S512, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S1x512, .f32⟩
  | .local _ .vmem, ⟨17, _⟩ => ⟨S1024x1024, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S1024x1024, .f32⟩
  | .local _ .vmem, ⟨27, _⟩ => ⟨S1x512, .f32⟩
  | .local _ .vmem, ⟨28, _⟩ => ⟨S1x512, .f32⟩
  | .local _ .vmem, ⟨29, _⟩ => ⟨S256x1024, .f32⟩
  | .local _ .vmem, ⟨30, _⟩ => ⟨S256x1024, .f32⟩
  | .local _ .vmem, ⟨31, _⟩ => ⟨S8x128, .f32⟩
  | .local _ .vmem, ⟨32, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59_0 : Ref sig .tc := ⟨.hbm, 96, rfl⟩
abbrev main_v59_1 : Ref sig .tc := ⟨.hbm, 97, rfl⟩
abbrev main_v59_2 : Ref sig .tc := ⟨.hbm, 98, rfl⟩
abbrev main_v59_3 : Ref sig .tc := ⟨.hbm, 99, rfl⟩
abbrev main_v59_4 : Ref sig .tc := ⟨.hbm, 100, rfl⟩
abbrev main_v59_5 : Ref sig .tc := ⟨.hbm, 101, rfl⟩
abbrev main_v59_6 : Ref sig .tc := ⟨.hbm, 102, rfl⟩
abbrev main_v59_7 : Ref sig .tc := ⟨.hbm, 103, rfl⟩
abbrev main_v59_8 : Ref sig .tc := ⟨.hbm, 104, rfl⟩
abbrev main_v59_9 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== HeadRefIdeal.lean ====
abbrev S2x2064x1024 : Shape := ⟨3, ![2, 2064, 1024]⟩
abbrev S2x2048x1024 : Shape := ⟨3, ![2, 2048, 1024]⟩
abbrev S1024 : Shape := ⟨1, ![1024]⟩
abbrev S2x2064x512 : Shape := ⟨3, ![2, 2064, 512]⟩
abbrev S512 : Shape := ⟨1, ![512]⟩
abbrev S1024x1024 : Shape := ⟨2, ![1024, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 219
  | .vmem => 0
  | .smem => 0
  | _ => 0

abbrev hbmTy0_0 (i : Nat) : BufTy := match i % 128 with
  | 0 => ⟨S2x2064x1024, .f32⟩
  | 1 => ⟨S2x2048x1024, .f32⟩
  | 2 => ⟨S1024, .f32⟩
  | 3 => ⟨S2x2064x512, .f32⟩
  | 4 => ⟨S2x2064x512, .f32⟩
  | 5 => ⟨S2x2064x512, .f32⟩
  | 6 => ⟨S2x2064x512, .f32⟩
  | 7 => ⟨S512, .f32⟩
  | 8 => ⟨S512, .f32⟩
  | 9 => ⟨S1024x1024, .f32⟩
  | 10 => ⟨S2x2064x512, .f32⟩
  | 11 => ⟨S_, .f32⟩
  | 12 => ⟨S2x2064, .f32⟩
  | 13 => ⟨S2x2064x1, .f32⟩
  | 14 => ⟨S_, .f32⟩
  | 15 => ⟨S2x2064x1, .f32⟩
  | 16 => ⟨S2x2064x1, .f32⟩
  | 17 => ⟨S_, .f32⟩
  | 18 => ⟨S2x2064x1, .f32⟩
  | 19 => ⟨S2x2064x1, .f32⟩
  | 20 => ⟨S2x2064x1, .f32⟩
  | 21 => ⟨S2x2064x1, .f32⟩
  | 22 => ⟨S_, .f32⟩
  | 23 => ⟨S2x2064x1, .f32⟩
  | 24 => ⟨S2x2064x1, .f32⟩
  | 25 => ⟨S2x2064x512, .f32⟩
  | 26 => ⟨S2x2064x512, .f32⟩
  | 27 => ⟨S1x1x512, .f32⟩
  | 28 => ⟨S2x2064x512, .f32⟩
  | 29 => ⟨S2x2064x512, .f32⟩
  | 30 => ⟨S2x2064x512, .f32⟩
  | 31 => ⟨S2x2064x512, .f32⟩
  | 32 => ⟨S_, .f32⟩
  | 33 => ⟨S2x2064x512, .f32⟩
  | 34 => ⟨S2x2064x512, .f32⟩
  | 35 => ⟨S_, .f32⟩
  | 36 => ⟨S2x2064x512, .f32⟩
  | 37 => ⟨S2x2064x512, .f32⟩
  | 38 => ⟨S_, .f32⟩
  | 39 => ⟨S2x2064x512, .f32⟩
  | 40 => ⟨S2x2064x512, .f32⟩
  | 41 => ⟨S2x2064x512, .f32⟩
  | 42 => ⟨S2x2064x512, .f32⟩
  | 43 => ⟨S2x2064x512, .f32⟩
  | 44 => ⟨S2x2064x512, .f32⟩
  | 45 => ⟨S_, .f32⟩
  | 46 => ⟨S2x2064, .f32⟩
  | 47 => ⟨S2x2064x1, .f32⟩
  | 48 => ⟨S_, .f32⟩
  | 49 => ⟨S2x2064x1, .f32⟩
  | 50 => ⟨S2x2064x1, .f32⟩
  | 51 => ⟨S_, .f32⟩
  | 52 => ⟨S2x2064x1, .f32⟩
  | 53 => ⟨S2x2064x1, .f32⟩
  | 54 => ⟨S2x2064x1, .f32⟩
  | 55 => ⟨S2x2064x1, .f32⟩
  | 56 => ⟨S_, .f32⟩
  | 57 => ⟨S2x2064x1, .f32⟩
  | 58 => ⟨S2x2064x1, .f32⟩
  | 59 => ⟨S2x2064x512, .f32⟩
  | 60 => ⟨S2x2064x512, .f32⟩
  | 61 => ⟨S1x1x512, .f32⟩
  | 62 => ⟨S2x2064x512, .f32⟩
  | 63 => ⟨S2x2064x512, .f32⟩
  | 64 => ⟨S2x2064x512, .f32⟩
  | 65 => ⟨S2x2064x512, .f32⟩
  | 66 => ⟨S_, .f32⟩
  | 67 => ⟨S2x2064x512, .f32⟩
  | 68 => ⟨S2x2064x512, .f32⟩
  | 69 => ⟨S_, .f32⟩
  | 70 => ⟨S2x2064x512, .f32⟩
  | 71 => ⟨S2x2064x512, .f32⟩
  | 72 => ⟨S_, .f32⟩
  | 73 => ⟨S2x2064x512, .f32⟩
  | 74 => ⟨S2x2064x512, .f32⟩
  | 75 => ⟨S2x2064x512, .f32⟩
  | 76 => ⟨S2x2064x512, .f32⟩
  | 77 => ⟨S2x2064x512, .f32⟩
  | 78 => ⟨S2x2064x1024, .f32⟩
  | 79 => ⟨S2x2064x1024, .f32⟩
  | 80 => ⟨S2x2064x1024, .f32⟩
  | 81 => ⟨S2x2048x1024, .f32⟩
  | 82 => ⟨S2x2048x1024, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S_, .f32⟩
  | 90 => ⟨S2x2048x1, .f32⟩
  | 91 => ⟨S2x2048x1, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x1024, .f32⟩
  | 98 => ⟨S2x2048x1024, .f32⟩
  | 99 => ⟨S1x1x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S_, .f32⟩
  | 105 => ⟨S2x2048x1024, .f32⟩
  | 106 => ⟨S2x2048x1024, .f32⟩
  | 107 => ⟨S_, .f32⟩
  | 108 => ⟨S2x2048, .f32⟩
  | 109 => ⟨S_, .f32⟩
  | 110 => ⟨S2x2048, .f32⟩
  | 111 => ⟨S2x2048, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S2x2048, .f32⟩
  | 120 => ⟨S_, .f32⟩
  | 121 => ⟨S2x2048, .f32⟩
  | 122 => ⟨S2x2048, .f32⟩
  | 123 => ⟨S2x2048x1024, .f32⟩
  | 124 => ⟨S2x2048x1024, .f32⟩
  | 125 => ⟨S2x2048x1024, .f32⟩
  | 126 => ⟨S_, .f32⟩
  | 127 => ⟨S1024, .f32⟩
  | _ => ⟨S2x2064x1024, .f32⟩

abbrev hbmTy0_1 (i : Nat) : BufTy := match i % 128 with
  | 0 => ⟨S1x1x1024, .f32⟩
  | 1 => ⟨S2x2048x1024, .f32⟩
  | 2 => ⟨S2x2048x1024, .f32⟩
  | 3 => ⟨S_, .f32⟩
  | 4 => ⟨S1024, .f32⟩
  | 5 => ⟨S2x2048x1024, .f32⟩
  | 6 => ⟨S_, .f32⟩
  | 7 => ⟨S2x2048, .f32⟩
  | 8 => ⟨S2x2048x1, .f32⟩
  | 9 => ⟨S2x2048x1024, .f32⟩
  | 10 => ⟨S2x2048x1024, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S_, .f32⟩
  | 23 => ⟨S2x2064x1024, .f32⟩
  | 24 => ⟨S1024x1024, .f32⟩
  | 25 => ⟨S1024x1024, .f32⟩
  | 26 => ⟨S2x2064x1024, .f32⟩
  | 27 => ⟨S2x2064x512, .f32⟩
  | 28 => ⟨S2x2064x512, .f32⟩
  | 29 => ⟨S2x2064x512, .f32⟩
  | 30 => ⟨S2x2064x512, .f32⟩
  | 31 => ⟨S2x2064x512, .f32⟩
  | 32 => ⟨S2x2064x512, .f32⟩
  | 33 => ⟨S2x2064x512, .f32⟩
  | 34 => ⟨S2x2064x512, .f32⟩
  | 35 => ⟨S2x2064x512, .f32⟩
  | 36 => ⟨S_, .f32⟩
  | 37 => ⟨S512, .f32⟩
  | 38 => ⟨S1x1x512, .f32⟩
  | 39 => ⟨S2x2064x512, .f32⟩
  | 40 => ⟨S2x2064x512, .f32⟩
  | 41 => ⟨S_, .f32⟩
  | 42 => ⟨S512, .f32⟩
  | 43 => ⟨S2x2064x512, .f32⟩
  | 44 => ⟨S_, .f32⟩
  | 45 => ⟨S2x2064, .f32⟩
  | 46 => ⟨S2x2064x1, .f32⟩
  | 47 => ⟨S2x2064x512, .f32⟩
  | 48 => ⟨S2x2064x512, .f32⟩
  | 49 => ⟨S2x2064x1, .f32⟩
  | 50 => ⟨S_, .f32⟩
  | 51 => ⟨S2x2064x1, .f32⟩
  | 52 => ⟨S2x2064x1, .f32⟩
  | 53 => ⟨S_, .f32⟩
  | 54 => ⟨S2x2064, .f32⟩
  | 55 => ⟨S2x2064x512, .f32⟩
  | 56 => ⟨S2x2064x512, .f32⟩
  | 57 => ⟨S2x2064x512, .f32⟩
  | 58 => ⟨S2x2064x512, .f32⟩
  | 59 => ⟨S2x2064x512, .f32⟩
  | 60 => ⟨S2x2064x512, .f32⟩
  | 61 => ⟨S2x2064x512, .f32⟩
  | 62 => ⟨S2x2064x512, .f32⟩
  | 63 => ⟨S2x2064x512, .f32⟩
  | 64 => ⟨S2x2064x512, .f32⟩
  | 65 => ⟨S2x2064x512, .f32⟩
  | 66 => ⟨S2x2064x512, .f32⟩
  | 67 => ⟨S_, .f32⟩
  | 68 => ⟨S512, .f32⟩
  | 69 => ⟨S1x1x512, .f32⟩
  | 70 => ⟨S2x2064x512, .f32⟩
  | 71 => ⟨S2x2064x512, .f32⟩
  | 72 => ⟨S_, .f32⟩
  | 73 => ⟨S512, .f32⟩
  | 74 => ⟨S2x2064x512, .f32⟩
  | 75 => ⟨S_, .f32⟩
  | 76 => ⟨S2x2064, .f32⟩
  | 77 => ⟨S2x2064x1, .f32⟩
  | 78 => ⟨S2x2064x512, .f32⟩
  | 79 => ⟨S2x2064x512, .f32⟩
  | 80 => ⟨S2x2064x1, .f32⟩
  | 81 => ⟨S_, .f32⟩
  | 82 => ⟨S2x2064x1, .f32⟩
  | 83 => ⟨S2x2064x1, .f32⟩
  | 84 => ⟨S_, .f32⟩
  | 85 => ⟨S2x2064, .f32⟩
  | 86 => ⟨S2x2064x512, .f32⟩
  | 87 => ⟨S2x2064x512, .f32⟩
  | 88 => ⟨S2x2064x512, .f32⟩
  | 89 => ⟨S2x2064x512, .f32⟩
  | 90 => ⟨S2x2064x512, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v16_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v16_1 : Ref sig .tc := ⟨.hbm, 41, rfl⟩
abbrev main_v16_0 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_cst_4 : Ref sig .tc := ⟨.hbm, 48, rfl⟩
abbrev main_v21 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_v34_2 : Ref sig .tc := ⟨.hbm, 71, rfl⟩
abbrev main_call1_cst_1 : Ref sig .tc := ⟨.hbm, 72, rfl⟩
abbrev main_call1_v6 : Ref sig .tc := ⟨.hbm, 73, rfl⟩
abbrev main_call1_v7 : Ref sig .tc := ⟨.hbm, 74, rfl⟩
abbrev main_v34_1 : Ref sig .tc := ⟨.hbm, 75, rfl⟩
abbrev main_v34_0 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_7 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_cst_9 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_10 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_cst_15 : Ref sig .tc := ⟨.hbm, 114, rfl⟩
abbrev main_v64 : Ref sig .tc := ⟨.hbm, 115, rfl⟩
abbrev main_cst_16 : Ref sig .tc := ⟨.hbm, 116, rfl⟩
abbrev main_cst_17 : Ref sig .tc := ⟨.hbm, 117, rfl⟩
abbrev main_v65 : Ref sig .tc := ⟨.hbm, 118, rfl⟩
abbrev main_v66 : Ref sig .tc := ⟨.hbm, 119, rfl⟩
abbrev main_cst_18 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_19 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_20 : Ref sig .tc := ⟨.hbm, 131, rfl⟩
abbrev main_v76 : Ref sig .tc := ⟨.hbm, 132, rfl⟩
abbrev main_v77 : Ref sig .tc := ⟨.hbm, 133, rfl⟩
abbrev main_cst_21 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_22 : Ref sig .tc := ⟨.hbm, 140, rfl⟩
abbrev main_v83 : Ref sig .tc := ⟨.hbm, 141, rfl⟩
abbrev main_v84 : Ref sig .tc := ⟨.hbm, 142, rfl⟩
abbrev main_cst_23 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_24 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v99 : Ref sig .tc := ⟨.hbm, 162, rfl⟩
abbrev main_v100 : Ref sig .tc := ⟨.hbm, 163, rfl⟩
abbrev main_cst_25 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_26 : Ref sig .tc := ⟨.hbm, 169, rfl⟩
abbrev main_v105 : Ref sig .tc := ⟨.hbm, 170, rfl⟩
abbrev main_v106 : Ref sig .tc := ⟨.hbm, 171, rfl⟩
abbrev main_cst_27 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_28 : Ref sig .tc := ⟨.hbm, 178, rfl⟩
abbrev main_v112 : Ref sig .tc := ⟨.hbm, 179, rfl⟩
abbrev main_v113 : Ref sig .tc := ⟨.hbm, 180, rfl⟩
abbrev main_cst_29 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_call3_v0 : Ref sig .tc := ⟨.hbm, 190, rfl⟩
abbrev main_call3_v1 : Ref sig .tc := ⟨.hbm, 191, rfl⟩
abbrev main_call3_v2 : Ref sig .tc := ⟨.hbm, 192, rfl⟩
abbrev main_v122 : Ref sig .tc := ⟨.hbm, 193, rfl⟩
abbrev main_v123 : Ref sig .tc := ⟨.hbm, 194, rfl⟩
abbrev main_cst_30 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_31 : Ref sig .tc := ⟨.hbm, 200, rfl⟩
abbrev main_v128 : Ref sig .tc := ⟨.hbm, 201, rfl⟩
abbrev main_v129 : Ref sig .tc := ⟨.hbm, 202, rfl⟩
abbrev main_cst_32 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_33 : Ref sig .tc := ⟨.hbm, 209, rfl⟩
abbrev main_v135 : Ref sig .tc := ⟨.hbm, 210, rfl⟩
abbrev main_v136 : Ref sig .tc := ⟨.hbm, 211, rfl⟩
abbrev main_cst_34 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩

abbrev nD : Nat := 1
abbrev τ : Topo := Topo.v7x

variable {F : FTy → Type} [FloatOps F]
-- ==== Table.lean ====
abbrev S2x4x8x128x512 : Shape := ⟨5, ![2, 4, 8, 128, 512]⟩
abbrev S128 : Shape := ⟨1, ![128]⟩
abbrev S128x1 : Shape := ⟨2, ![128, 1]⟩
abbrev S512 : Shape := ⟨1, ![512]⟩
abbrev S1x512 : Shape := ⟨2, ![1, 512]⟩
abbrev S_ : Shape := ⟨0, ![]⟩
abbrev S128x512 : Shape := ⟨2, ![128, 512]⟩
abbrev S1x128x512 : Shape := ⟨3, ![1, 128, 512]⟩
abbrev S4x128x512 : Shape := ⟨3, ![4, 128, 512]⟩
abbrev S8x128 : Shape := ⟨2, ![8, 128]⟩
abbrev S2x8x128 : Shape := ⟨3, ![2, 8, 128]⟩
abbrev S1x1x8x128x512 : Shape := ⟨5, ![1, 1, 8, 128, 512]⟩
abbrev S8x128x512 : Shape := ⟨3, ![8, 128, 512]⟩
abbrev S8x32x8x512 : Shape := ⟨4, ![8, 32, 8, 512]⟩
abbrev S1x1x1x128x512 : Shape := ⟨5, ![1, 1, 1, 128, 512]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S16x8x512 : Shape := ⟨3, ![16, 8, 512]⟩
abbrev S8x512 : Shape := ⟨2, ![8, 512]⟩
abbrev S1x1x8x512 : Shape := ⟨4, ![1, 1, 8, 512]⟩
abbrev S32x128 : Shape := ⟨2, ![32, 128]⟩
abbrev S1x32x8x512 : Shape := ⟨4, ![1, 32, 8, 512]⟩
abbrev S32x8x512 : Shape := ⟨3, ![32, 8, 512]⟩
abbrev S32x512 : Shape := ⟨2, ![32, 512]⟩
abbrev S32 : Shape := ⟨1, ![32]⟩
abbrev S32x1 : Shape := ⟨2, ![32, 1]⟩
abbrev S8x32 : Shape := ⟨2, ![8, 32]⟩
abbrev S2x8x1 : Shape := ⟨3, ![2, 8, 1]⟩
abbrev S2x8 : Shape := ⟨2, ![2, 8]⟩

abbrev nBuf : Space → Nat
  | .hbm => 173
  | .vmem => 10
  | .smem => 0
  | _ => 0

abbrev hbmTy0_0 (i : Nat) : BufTy := match i % 128 with
  | 0 => ⟨S2x4x8x128x512, .f32⟩
  | 1 => ⟨S2x4x8x128x512, .f32⟩
  | 2 => ⟨S128, .i32⟩
  | 3 => ⟨S128x1, .i32⟩
  | 4 => ⟨S512, .i32⟩
  | 5 => ⟨S1x512, .i32⟩
  | 6 => ⟨S_, .i32⟩
  | 7 => ⟨S1x512, .i32⟩
  | 8 => ⟨S1x512, .i1⟩
  | 9 => ⟨S_, .i32⟩
  | 10 => ⟨S1x512, .i32⟩
  | 11 => ⟨S1x512, .i1⟩
  | 12 => ⟨S1x512, .i1⟩
  | 13 => ⟨S_, .i32⟩
  | 14 => ⟨S1x512, .i32⟩
  | 15 => ⟨S1x512, .i32⟩
  | 16 => ⟨S_, .i32⟩
  | 17 => ⟨S1x512, .i32⟩
  | 18 => ⟨S1x512, .i32⟩
  | 19 => ⟨S128x512, .i32⟩
  | 20 => ⟨S128x512, .i32⟩
  | 21 => ⟨S128x512, .i32⟩
  | 22 => ⟨S_, .i32⟩
  | 23 => ⟨S1x512, .i32⟩
  | 24 => ⟨S1x512, .i1⟩
  | 25 => ⟨S128x512, .i32⟩
  | 26 => ⟨S_, .i32⟩
  | 27 => ⟨S128x512, .i32⟩
  | 28 => ⟨S128x512, .i1⟩
  | 29 => ⟨S128x512, .i1⟩
  | 30 => ⟨S128x512, .i1⟩
  | 31 => ⟨S_, .i32⟩
  | 32 => ⟨S128x1, .i32⟩
  | 33 => ⟨S128x1, .i32⟩
  | 34 => ⟨S128x512, .i32⟩
  | 35 => ⟨S128x512, .i32⟩
  | 36 => ⟨S128x512, .i32⟩
  | 37 => ⟨S128x512, .i1⟩
  | 38 => ⟨S128x512, .i32⟩
  | 39 => ⟨S128x512, .i1⟩
  | 40 => ⟨S128x512, .i1⟩
  | 41 => ⟨S_, .i32⟩
  | 42 => ⟨S1x512, .i32⟩
  | 43 => ⟨S1x512, .i32⟩
  | 44 => ⟨S128x512, .i32⟩
  | 45 => ⟨S128x512, .i32⟩
  | 46 => ⟨S128x512, .i32⟩
  | 47 => ⟨S_, .i32⟩
  | 48 => ⟨S1x512, .i32⟩
  | 49 => ⟨S1x512, .i1⟩
  | 50 => ⟨S128x512, .i32⟩
  | 51 => ⟨S_, .i32⟩
  | 52 => ⟨S128x512, .i32⟩
  | 53 => ⟨S128x512, .i1⟩
  | 54 => ⟨S128x512, .i1⟩
  | 55 => ⟨S128x512, .i1⟩
  | 56 => ⟨S128x512, .i32⟩
  | 57 => ⟨S128x512, .i32⟩
  | 58 => ⟨S128x512, .i32⟩
  | 59 => ⟨S_, .i32⟩
  | 60 => ⟨S128x512, .i32⟩
  | 61 => ⟨S128x512, .i1⟩
  | 62 => ⟨S128x512, .i32⟩
  | 63 => ⟨S128x512, .i1⟩
  | 64 => ⟨S128x512, .i1⟩
  | 65 => ⟨S_, .i32⟩
  | 66 => ⟨S1x512, .i32⟩
  | 67 => ⟨S1x512, .i32⟩
  | 68 => ⟨S128x512, .i32⟩
  | 69 => ⟨S128x512, .i32⟩
  | 70 => ⟨S128x512, .i32⟩
  | 71 => ⟨S_, .i32⟩
  | 72 => ⟨S1x512, .i32⟩
  | 73 => ⟨S1x512, .i1⟩
  | 74 => ⟨S128x512, .i32⟩
  | 75 => ⟨S_, .i32⟩
  | 76 => ⟨S128x512, .i32⟩
  | 77 => ⟨S128x512, .i1⟩
  | 78 => ⟨S128x512, .i1⟩
  | 79 => ⟨S128x512, .i1⟩
  | 80 => ⟨S128x512, .i32⟩
  | 81 => ⟨S128x512, .i32⟩
  | 82 => ⟨S128x512, .i32⟩
  | 83 => ⟨S_, .i32⟩
  | 84 => ⟨S128x512, .i32⟩
  | 85 => ⟨S128x512, .i1⟩
  | 86 => ⟨S128x512, .i32⟩
  | 87 => ⟨S128x512, .i1⟩
  | 88 => ⟨S128x512, .i1⟩
  | 89 => ⟨S_, .i32⟩
  | 90 => ⟨S128x1, .i32⟩
  | 91 => ⟨S128x1, .i1⟩
  | 92 => ⟨S_, .i32⟩
  | 93 => ⟨S1x512, .i32⟩
  | 94 => ⟨S1x512, .i32⟩
  | 95 => ⟨S128x512, .i32⟩
  | 96 => ⟨S128x512, .i32⟩
  | 97 => ⟨S128x512, .i32⟩
  | 98 => ⟨S_, .i32⟩
  | 99 => ⟨S1x512, .i32⟩
  | 100 => ⟨S1x512, .i1⟩
  | 101 => ⟨S128x512, .i32⟩
  | 102 => ⟨S_, .i32⟩
  | 103 => ⟨S128x512, .i32⟩
  | 104 => ⟨S128x512, .i1⟩
  | 105 => ⟨S128x512, .i1⟩
  | 106 => ⟨S128x512, .i1⟩
  | 107 => ⟨S128x512, .i1⟩
  | 108 => ⟨S128x512, .i1⟩
  | 109 => ⟨S128x512, .i32⟩
  | 110 => ⟨S128x512, .i32⟩
  | 111 => ⟨S128x512, .i32⟩
  | 112 => ⟨S128x512, .i1⟩
  | 113 => ⟨S128x512, .i32⟩
  | 114 => ⟨S128x512, .i1⟩
  | 115 => ⟨S128x512, .i1⟩
  | 116 => ⟨S1x128x512, .i32⟩
  | 117 => ⟨S1x128x512, .i32⟩
  | 118 => ⟨S1x128x512, .i32⟩
  | 119 => ⟨S1x128x512, .i32⟩
  | 120 => ⟨S4x128x512, .i32⟩
  | 121 => ⟨S1x128x512, .i1⟩
  | 122 => ⟨S1x128x512, .i1⟩
  | 123 => ⟨S1x128x512, .i1⟩
  | 124 => ⟨S1x128x512, .i1⟩
  | 125 => ⟨S4x128x512, .i1⟩
  | 126 => ⟨S_, .i32⟩
  | 127 => ⟨S4x128x512, .i32⟩
  | _ => ⟨S2x4x8x128x512, .f32⟩

abbrev hbmTy0_1 (i : Nat) : BufTy := match i % 128 with
  | 0 => ⟨S4x128x512, .i1⟩
  | 1 => ⟨S_, .i32⟩
  | 2 => ⟨S_, .i32⟩
  | 3 => ⟨S4x128x512, .i32⟩
  | 4 => ⟨S4x128x512, .i32⟩
  | 5 => ⟨S4x128x512, .i32⟩
  | 6 => ⟨S4x128x512, .i32⟩
  | 7 => ⟨S_, .i32⟩
  | 8 => ⟨S4x128x512, .i32⟩
  | 9 => ⟨S4x128x512, .i32⟩
  | 10 => ⟨S4x128x512, .f32⟩
  | 11 => ⟨S_, .f32⟩
  | 12 => ⟨S4x128x512, .f32⟩
  | 13 => ⟨S4x128x512, .f32⟩
  | 14 => ⟨S4x128x512, .f32⟩
  | 15 => ⟨S_, .f32⟩
  | 16 => ⟨S4x128x512, .f32⟩
  | 17 => ⟨S4x128x512, .f32⟩
  | 18 => ⟨S_, .f32⟩
  | 19 => ⟨S4x128x512, .f32⟩
  | 20 => ⟨S4x128x512, .f32⟩
  | 21 => ⟨S4x128x512, .i32⟩
  | 22 => ⟨S_, .i32⟩
  | 23 => ⟨S4x128x512, .i32⟩
  | 24 => ⟨S4x128x512, .i32⟩
  | 25 => ⟨S_, .i32⟩
  | 26 => ⟨S4x128x512, .i32⟩
  | 27 => ⟨S4x128x512, .i32⟩
  | 28 => ⟨S_, .i32⟩
  | 29 => ⟨S4x128x512, .i32⟩
  | 30 => ⟨S4x128x512, .i1⟩
  | 31 => ⟨S4x128x512, .i32⟩
  | 32 => ⟨S4x128x512, .i32⟩
  | 33 => ⟨S4x128x512, .i32⟩
  | 34 => ⟨S_, .i32⟩
  | 35 => ⟨S_, .i32⟩
  | 36 => ⟨S4x128x512, .i32⟩
  | 37 => ⟨S4x128x512, .i32⟩
  | 38 => ⟨S_, .f32⟩
  | 39 => ⟨S8x128, .f32⟩
  | 40 => ⟨S8x128, .f32⟩
  | 41 => ⟨S2x8x128, .f32⟩
  | 42 => ⟨S8x32, .f32⟩
  | 43 => ⟨S2x8x1, .f32⟩
  | 44 => ⟨S2x8, .f32⟩
  | _ => ⟨S2x4x8x128x512, .f32⟩

abbrev hbmTy (i : Nat) : BufTy := match i / 128 with
  | 0 => hbmTy0_0 i
  | 1 => hbmTy0_1 i
  | _ => ⟨S2x4x8x128x512, .f32⟩

abbrev bufTy : (tb : Table) → Fin (tcTables nBuf tb) → BufTy
  | .hbm, ⟨i, _⟩ => hbmTy i
  | .local _ .vmem, ⟨0, _⟩ => ⟨S1x1x8x128x512, .f32⟩
  | .local _ .vmem, ⟨1, _⟩ => ⟨S1x1x8x128x512, .f32⟩
  | .local _ .vmem, ⟨2, _⟩ => ⟨S1x1x8x128x512, .f32⟩
  | .local _ .vmem, ⟨3, _⟩ => ⟨S1x1x8x128x512, .f32⟩
  | .local _ .vmem, ⟨4, _⟩ => ⟨S1x128x512, .i32⟩
  | .local _ .vmem, ⟨5, _⟩ => ⟨S1x128x512, .i32⟩
  | .local _ .vmem, ⟨6, _⟩ => ⟨S8x128, .f32⟩
  | .local _ .vmem, ⟨7, _⟩ => ⟨S2x8x128, .f32⟩
  | .local _ .vmem, ⟨8, _⟩ => ⟨S8x128x512, .f32⟩
  | .local _ .vmem, ⟨9, _⟩ => ⟨S8x32x8x512, .f32⟩
  | _, _ => ⟨S2x4x8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_call1_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_call2_v0 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_14 : Ref sig .tc := ⟨.hbm, 89, rfl⟩
abbrev main_v69 : Ref sig .tc := ⟨.hbm, 90, rfl⟩
abbrev main_v70 : Ref sig .tc := ⟨.hbm, 91, rfl⟩
abbrev main_c_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_17 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call3_v0 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_c_18 : Ref sig .tc := ⟨.hbm, 126, rfl⟩
abbrev main_v101 : Ref sig .tc := ⟨.hbm, 127, rfl⟩
abbrev main_v102 : Ref sig .tc := ⟨.hbm, 128, rfl⟩
abbrev main_c_19 : Ref sig .tc := ⟨.hbm, 129, rfl⟩
abbrev main_c_20 : Ref sig .tc := ⟨.hbm, 130, rfl⟩
abbrev main_call4_v0 : Ref sig .tc := ⟨.hbm, 131, rfl⟩
abbrev main_call4_v1 : Ref sig .tc := ⟨.hbm, 132, rfl⟩
abbrev main_v103 : Ref sig .tc := ⟨.hbm, 133, rfl⟩
abbrev main_v104 : Ref sig .tc := ⟨.hbm, 134, rfl⟩
abbrev main_c_21 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_cst_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_24 : Ref sig .tc := ⟨.hbm, 150, rfl⟩
abbrev main_v116 : Ref sig .tc := ⟨.hbm, 151, rfl⟩
abbrev main_v117 : Ref sig .tc := ⟨.hbm, 152, rfl⟩
abbrev main_c_25 : Ref sig .tc := ⟨.hbm, 153, rfl⟩
abbrev main_v118 : Ref sig .tc := ⟨.hbm, 154, rfl⟩
abbrev main_v119 : Ref sig .tc := ⟨.hbm, 155, rfl⟩
abbrev main_c_26 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_27 : Ref sig .tc := ⟨.hbm, 162, rfl⟩
abbrev main_call6_v0 : Ref sig .tc := ⟨.hbm, 163, rfl⟩
abbrev main_call6_v1 : Ref sig .tc := ⟨.hbm, 164, rfl⟩
abbrev main_v125 : Ref sig .tc := ⟨.hbm, 165, rfl⟩
abbrev main_cst_28 : Ref sig .tc := ⟨.hbm, 166, rfl⟩
abbrev main_v126 : Ref sig .tc := ⟨.hbm, 167, rfl⟩
abbrev main_v127_0 : Ref sig .tc := ⟨.hbm, 168, rfl⟩
abbrev main_v127_1 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![4, 2], ![false, false]⟩

def k0_cond4 (i : grid0.Coords) : BitVec 1 :=
  let arg1 : BitVec 32 := BitVec.ofNat 32 (i 1).val
  let c1_i32 : BitVec 32 := 1#32
  let v289 : BitVec 1 := Scalar.cmpi .eq arg1 c1_i32
  let v290 : BitVec 32 := Scalar.extui v289
  let c0_i32_246 : BitVec 32 := 0#32
  let v291 : BitVec 1 := Scalar.cmpi .ne v290 c0_i32_246
  v291

@[reducible] def k0_t1_loop : Scf.Loop 32 :=
  let c0_i32_250 : BitVec 32 := 0#32
  let c32_i32 : BitVec 32 := 32#32
  let v294 : BitVec 32 := Scalar.addi c0_i32_250 c32_i32
  let c1_i32_251 : BitVec 32 := 1#32
  ⟨c0_i32_250, v294, c1_i32_251⟩
def k0_off1 (k0_t1 : Fin k0_t1_loop.trips) : Fin 4 → Nat :=
  let c0_354 : Index := 0#32
  let c0_i32_250 : BitVec 32 := 0#32
  let c1_i32_251 : BitVec 32 := 1#32
  let arg10 : BitVec 32 := Scf.iv c0_i32_250 c1_i32_251 k0_t1
  let v433 : Index := Scalar.indexCast arg10
  let c0_355 : Index := 0#32
  let c0_356 : Index := 0#32
  ![0, v433.toNat, 0, 0]
def k0_off2 (k0_t1 : Fin k0_t1_loop.trips) : Fin 4 → Nat :=
  let c1_362 : Index := 1#32
  let c0_i32_250 : BitVec 32 := 0#32
  let c1_i32_251 : BitVec 32 := 1#32
  let arg10 : BitVec 32 := Scf.iv c0_i32_250 c1_i32_251 k0_t1
  let v443 : Index := Scalar.indexCast arg10
  let c0_363 : Index := 0#32
  let c0_364 : Index := 0#32
  ![1, v443.toNat, 0, 0]
def k0_off3 (k0_t1 : Fin k0_t1_loop.trips) : Fin 4 → Nat :=
  let c2_370 : Index := 2#32
  let c0_i32_250 : BitVec 32 := 0#32
  let c1_i32_251 : BitVec 32 := 1#32
  let arg10 : BitVec 32 := Scf.iv c0_i32_250 c1_i32_251 k0_t1
  let v453 : Index := Scalar.indexCast arg10
  let c0_371 : Index := 0#32
  let c0_372 : Index := 0#32
  ![2, v453.toNat, 0, 0]
def k0_off4 (k0_t1 : Fin k0_t1_loop.trips) : Fin 4 → Nat :=
  let c3_378 : Index := 3#32
  let c0_i32_250 : BitVec 32 := 0#32
  let c1_i32_251 : BitVec 32 := 1#32
  let arg10 : BitVec 32 := Scf.iv c0_i32_250 c1_i32_251 k0_t1
  let v463 : Index := Scalar.indexCast arg10
  let c0_379 : Index := 0#32
  let c0_380 : Index := 0#32
  ![3, v463.toNat, 0, 0]
def k0_off5 (k0_t1 : Fin k0_t1_loop.trips) : Fin 4 → Nat :=
  let c4_386 : Index := 4#32
  let c0_i32_250 : BitVec 32 := 0#32
  let c1_i32_251 : BitVec 32 := 1#32
  let arg10 : BitVec 32 := Scf.iv c0_i32_250 c1_i32_251 k0_t1
  let v473 : Index := Scalar.indexCast arg10
  let c0_387 : Index := 0#32
  let c0_388 : Index := 0#32
  ![4, v473.toNat, 0, 0]
def k0_off6 (k0_t1 : Fin k0_t1_loop.trips) : Fin 4 → Nat :=
  let c5_394 : Index := 5#32
  let c0_i32_250 : BitVec 32 := 0#32
  let c1_i32_251 : BitVec 32 := 1#32
  let arg10 : BitVec 32 := Scf.iv c0_i32_250 c1_i32_251 k0_t1
  let v483 : Index := Scalar.indexCast arg10
  let c0_395 : Index := 0#32
  let c0_396 : Index := 0#32
  ![5, v483.toNat, 0, 0]
def k0_off7 (k0_t1 : Fin k0_t1_loop.trips) : Fin 4 → Nat :=
  let c6_402 : Index := 6#32
  let c0_i32_250 : BitVec 32 := 0#32
  let c1_i32_251 : BitVec 32 := 1#32
  let arg10 : BitVec 32 := Scf.iv c0_i32_250 c1_i32_251 k0_t1
  let v493 : Index := Scalar.indexCast arg10
  let c0_403 : Index := 0#32
  let c0_404 : Index := 0#32
  ![6, v493.toNat, 0, 0]
def k0_off8 (k0_t1 : Fin k0_t1_loop.trips) : Fin 4 → Nat :=
  let c7_410 : Index := 7#32
  let c0_i32_250 : BitVec 32 := 0#32
  let c1_i32_251 : BitVec 32 := 1#32
  let arg10 : BitVec 32 := Scf.iv c0_i32_250 c1_i32_251 k0_t1
  let v503 : Index := Scalar.indexCast arg10
  let c0_411 : Index := 0#32
  let c0_412 : Index := 0#32
  ![7, v503.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== TableRefIdeal.lean ====
abbrev S2x4x8x128x512 : Shape := ⟨5, ![2, 4, 8, 128, 512]⟩
abbrev S4x128x512 : Shape := ⟨3, ![4, 128, 512]⟩
abbrev S_ : Shape := ⟨0, ![]⟩
abbrev S32x8 : Shape := ⟨2, ![32, 8]⟩
abbrev S2x8 : Shape := ⟨2, ![2, 8]⟩
abbrev S4x1x128x512 : Shape := ⟨4, ![4, 1, 128, 512]⟩
abbrev S4x128x512x1 : Shape := ⟨4, ![4, 128, 512, 1]⟩
abbrev S4x128x512x8 : Shape := ⟨4, ![4, 128, 512, 8]⟩
abbrev S4x8x128x512 : Shape := ⟨4, ![4, 8, 128, 512]⟩
abbrev S1x8 : Shape := ⟨2, ![1, 8]⟩
abbrev S8 : Shape := ⟨1, ![8]⟩
abbrev S8x1x1 : Shape := ⟨3, ![8, 1, 1]⟩
abbrev S8x32 : Shape := ⟨2, ![8, 32]⟩

abbrev nBuf : Space → Nat
  | .hbm => 192
  | .vmem => 0
  | .smem => 0
  | _ => 0

abbrev hbmTy0_0 (i : Nat) : BufTy := match i % 128 with
  | 0 => ⟨S2x4x8x128x512, .f32⟩
  | 1 => ⟨S2x4x8x128x512, .f32⟩
  | 2 => ⟨S4x128x512, .i32⟩
  | 3 => ⟨S4x128x512, .i32⟩
  | 4 => ⟨S4x128x512, .i32⟩
  | 5 => ⟨S_, .i32⟩
  | 6 => ⟨S4x128x512, .i32⟩
  | 7 => ⟨S4x128x512, .i1⟩
  | 8 => ⟨S_, .i32⟩
  | 9 => ⟨S4x128x512, .i32⟩
  | 10 => ⟨S4x128x512, .i1⟩
  | 11 => ⟨S4x128x512, .i1⟩
  | 12 => ⟨S_, .i32⟩
  | 13 => ⟨S4x128x512, .i32⟩
  | 14 => ⟨S4x128x512, .i1⟩
  | 15 => ⟨S_, .i32⟩
  | 16 => ⟨S4x128x512, .i32⟩
  | 17 => ⟨S4x128x512, .i32⟩
  | 18 => ⟨S4x128x512, .i32⟩
  | 19 => ⟨S_, .i32⟩
  | 20 => ⟨S4x128x512, .i32⟩
  | 21 => ⟨S4x128x512, .i32⟩
  | 22 => ⟨S_, .i32⟩
  | 23 => ⟨S4x128x512, .i32⟩
  | 24 => ⟨S4x128x512, .i1⟩
  | 25 => ⟨S_, .i32⟩
  | 26 => ⟨S4x128x512, .i32⟩
  | 27 => ⟨S4x128x512, .i32⟩
  | 28 => ⟨S_, .i32⟩
  | 29 => ⟨S4x128x512, .i32⟩
  | 30 => ⟨S4x128x512, .i32⟩
  | 31 => ⟨S_, .i32⟩
  | 32 => ⟨S4x128x512, .i32⟩
  | 33 => ⟨S4x128x512, .i32⟩
  | 34 => ⟨S4x128x512, .i32⟩
  | 35 => ⟨S4x128x512, .i32⟩
  | 36 => ⟨S4x128x512, .i32⟩
  | 37 => ⟨S_, .i32⟩
  | 38 => ⟨S4x128x512, .i32⟩
  | 39 => ⟨S4x128x512, .i1⟩
  | 40 => ⟨S4x128x512, .i32⟩
  | 41 => ⟨S4x128x512, .i32⟩
  | 42 => ⟨S_, .i32⟩
  | 43 => ⟨S4x128x512, .i32⟩
  | 44 => ⟨S4x128x512, .i1⟩
  | 45 => ⟨S4x128x512, .i1⟩
  | 46 => ⟨S_, .i32⟩
  | 47 => ⟨S4x128x512, .i32⟩
  | 48 => ⟨S4x128x512, .i1⟩
  | 49 => ⟨S_, .i32⟩
  | 50 => ⟨S4x128x512, .i32⟩
  | 51 => ⟨S4x128x512, .i1⟩
  | 52 => ⟨S_, .i32⟩
  | 53 => ⟨S4x128x512, .i32⟩
  | 54 => ⟨S4x128x512, .i1⟩
  | 55 => ⟨S4x128x512, .i1⟩
  | 56 => ⟨S4x128x512, .i1⟩
  | 57 => ⟨S4x128x512, .i1⟩
  | 58 => ⟨S_, .i1⟩
  | 59 => ⟨S4x128x512, .i1⟩
  | 60 => ⟨S4x128x512, .i1⟩
  | 61 => ⟨S_, .i32⟩
  | 62 => ⟨S4x128x512, .i32⟩
  | 63 => ⟨S4x128x512, .i1⟩
  | 64 => ⟨S_, .i32⟩
  | 65 => ⟨S4x128x512, .i32⟩
  | 66 => ⟨S4x128x512, .i1⟩
  | 67 => ⟨S4x128x512, .i1⟩
  | 68 => ⟨S4x128x512, .i1⟩
  | 69 => ⟨S4x128x512, .i32⟩
  | 70 => ⟨S_, .i32⟩
  | 71 => ⟨S_, .i32⟩
  | 72 => ⟨S4x128x512, .i32⟩
  | 73 => ⟨S4x128x512, .i32⟩
  | 74 => ⟨S_, .i32⟩
  | 75 => ⟨S4x128x512, .i32⟩
  | 76 => ⟨S4x128x512, .i1⟩
  | 77 => ⟨S_, .i32⟩
  | 78 => ⟨S_, .i32⟩
  | 79 => ⟨S4x128x512, .i32⟩
  | 80 => ⟨S4x128x512, .i32⟩
  | 81 => ⟨S4x128x512, .i32⟩
  | 82 => ⟨S4x128x512, .i32⟩
  | 83 => ⟨S_, .i32⟩
  | 84 => ⟨S4x128x512, .i32⟩
  | 85 => ⟨S4x128x512, .i32⟩
  | 86 => ⟨S4x128x512, .f32⟩
  | 87 => ⟨S_, .f32⟩
  | 88 => ⟨S4x128x512, .f32⟩
  | 89 => ⟨S4x128x512, .f32⟩
  | 90 => ⟨S4x128x512, .f32⟩
  | 91 => ⟨S_, .f32⟩
  | 92 => ⟨S4x128x512, .f32⟩
  | 93 => ⟨S4x128x512, .f32⟩
  | 94 => ⟨S_, .f32⟩
  | 95 => ⟨S4x128x512, .f32⟩
  | 96 => ⟨S4x128x512, .f32⟩
  | 97 => ⟨S4x128x512, .i32⟩
  | 98 => ⟨S_, .i32⟩
  | 99 => ⟨S4x128x512, .i32⟩
  | 100 => ⟨S4x128x512, .i32⟩
  | 101 => ⟨S_, .i32⟩
  | 102 => ⟨S4x128x512, .i32⟩
  | 103 => ⟨S4x128x512, .i32⟩
  | 104 => ⟨S_, .i32⟩
  | 105 => ⟨S4x128x512, .i32⟩
  | 106 => ⟨S4x128x512, .i1⟩
  | 107 => ⟨S4x128x512, .i32⟩
  | 108 => ⟨S4x128x512, .i32⟩
  | 109 => ⟨S4x128x512, .i32⟩
  | 110 => ⟨S_, .f32⟩
  | 111 => ⟨S32x8, .f32⟩
  | 112 => ⟨S_, .f32⟩
  | 113 => ⟨S2x8, .f32⟩
  | 114 => ⟨S4x1x128x512, .i1⟩
  | 115 => ⟨S_, .i32⟩
  | 116 => ⟨S4x128x512, .i32⟩
  | 117 => ⟨S4x128x512, .i1⟩
  | 118 => ⟨S_, .i32⟩
  | 119 => ⟨S4x128x512, .i32⟩
  | 120 => ⟨S4x128x512, .i32⟩
  | 121 => ⟨S4x128x512, .i32⟩
  | 122 => ⟨S4x128x512x1, .i32⟩
  | 123 => ⟨S4x128x512x8, .f32⟩
  | 124 => ⟨S4x8x128x512, .f32⟩
  | 125 => ⟨S_, .f32⟩
  | 126 => ⟨S_, .f32⟩
  | 127 => ⟨S4x8x128x512, .i1⟩
  | _ => ⟨S2x4x8x128x512, .f32⟩

abbrev hbmTy0_1 (i : Nat) : BufTy := match i % 128 with
  | 0 => ⟨S4x8x128x512, .f32⟩
  | 1 => ⟨S4x8x128x512, .f32⟩
  | 2 => ⟨S_, .f32⟩
  | 3 => ⟨S4x8x128x512, .f32⟩
  | 4 => ⟨S1x8, .f32⟩
  | 5 => ⟨S8, .f32⟩
  | 6 => ⟨S_, .i32⟩
  | 7 => ⟨S4x128x512, .i32⟩
  | 8 => ⟨S4x128x512, .i1⟩
  | 9 => ⟨S4x1x128x512, .i1⟩
  | 10 => ⟨S8x1x1, .f32⟩
  | 11 => ⟨S4x8x128x512, .i1⟩
  | 12 => ⟨S4x8x128x512, .f32⟩
  | 13 => ⟨S4x8x128x512, .f32⟩
  | 14 => ⟨S2x4x8x128x512, .f32⟩
  | 15 => ⟨S1x8, .f32⟩
  | 16 => ⟨S8, .f32⟩
  | 17 => ⟨S_, .i32⟩
  | 18 => ⟨S4x128x512, .i32⟩
  | 19 => ⟨S4x128x512, .i1⟩
  | 20 => ⟨S4x1x128x512, .i1⟩
  | 21 => ⟨S8x1x1, .f32⟩
  | 22 => ⟨S4x8x128x512, .i1⟩
  | 23 => ⟨S4x8x128x512, .f32⟩
  | 24 => ⟨S4x8x128x512, .f32⟩
  | 25 => ⟨S2x4x8x128x512, .f32⟩
  | 26 => ⟨S_, .f32⟩
  | 27 => ⟨S4x8x128x512, .f32⟩
  | 28 => ⟨S_, .f32⟩
  | 29 => ⟨S4x8x128x512, .f32⟩
  | 30 => ⟨S4x8x128x512, .f32⟩
  | 31 => ⟨S4x8x128x512, .f32⟩
  | 32 => ⟨S_, .f32⟩
  | 33 => ⟨S8, .f32⟩
  | 34 => ⟨S8x1x1, .f32⟩
  | 35 => ⟨S_, .f32⟩
  | 36 => ⟨S8, .f32⟩
  | 37 => ⟨S1x8, .f32⟩
  | 38 => ⟨S_, .f32⟩
  | 39 => ⟨S2x8, .f32⟩
  | 40 => ⟨S_, .f32⟩
  | 41 => ⟨S4x8x128x512, .f32⟩
  | 42 => ⟨S_, .f32⟩
  | 43 => ⟨S4x8x128x512, .f32⟩
  | 44 => ⟨S4x8x128x512, .f32⟩
  | 45 => ⟨S4x8x128x512, .f32⟩
  | 46 => ⟨S_, .f32⟩
  | 47 => ⟨S8, .f32⟩
  | 48 => ⟨S8x1x1, .f32⟩
  | 49 => ⟨S4x8x128x512, .f32⟩
  | 50 => ⟨S_, .f32⟩
  | 51 => ⟨S8, .f32⟩
  | 52 => ⟨S1x8, .f32⟩
  | 53 => ⟨S_, .f32⟩
  | 54 => ⟨S2x8, .f32⟩
  | 55 => ⟨S2x8, .f32⟩
  | 56 => ⟨S_, .f32⟩
  | 57 => ⟨S4x8x128x512, .f32⟩
  | 58 => ⟨S4x8x128x512, .f32⟩
  | 59 => ⟨S4x128x512x8, .f32⟩
  | 60 => ⟨S_, .f32⟩
  | 61 => ⟨S32x8, .f32⟩
  | 62 => ⟨S32x8, .f32⟩
  | 63 => ⟨S8x32, .f32⟩
  | _ => ⟨S2x4x8x128x512, .f32⟩

abbrev hbmTy (i : Nat) : BufTy := match i / 128 with
  | 0 => hbmTy0_0 i
  | 1 => hbmTy0_1 i
  | _ => ⟨S2x4x8x128x512, .f32⟩

abbrev bufTy : (tb : Table) → Fin (tcTables nBuf tb) → BufTy
  | .hbm, ⟨i, _⟩ => hbmTy i
  | _, _ => ⟨S2x4x8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_10 : Ref sig .tc := ⟨.hbm, 46, rfl⟩
abbrev main_v33 : Ref sig .tc := ⟨.hbm, 47, rfl⟩
abbrev main_v34 : Ref sig .tc := ⟨.hbm, 48, rfl⟩
abbrev main_c_11 : Ref sig .tc := ⟨.hbm, 49, rfl⟩
abbrev main_v35 : Ref sig .tc := ⟨.hbm, 50, rfl⟩
abbrev main_v36 : Ref sig .tc := ⟨.hbm, 51, rfl⟩
abbrev main_c_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_call3_v0 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_c_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_16 : Ref sig .tc := ⟨.hbm, 70, rfl⟩
abbrev main_call4_v0 : Ref sig .tc := ⟨.hbm, 71, rfl⟩
abbrev main_call4_v1 : Ref sig .tc := ⟨.hbm, 72, rfl⟩
abbrev main_v50 : Ref sig .tc := ⟨.hbm, 73, rfl⟩
abbrev main_c_17 : Ref sig .tc := ⟨.hbm, 74, rfl⟩
abbrev main_v51 : Ref sig .tc := ⟨.hbm, 75, rfl⟩
abbrev main_v52 : Ref sig .tc := ⟨.hbm, 76, rfl⟩
abbrev main_c_18 : Ref sig .tc := ⟨.hbm, 77, rfl⟩
abbrev main_c_19 : Ref sig .tc := ⟨.hbm, 78, rfl⟩
abbrev main_call5_v0 : Ref sig .tc := ⟨.hbm, 79, rfl⟩
abbrev main_call5_v1 : Ref sig .tc := ⟨.hbm, 80, rfl⟩
abbrev main_v53 : Ref sig .tc := ⟨.hbm, 81, rfl⟩
abbrev main_v54 : Ref sig .tc := ⟨.hbm, 82, rfl⟩
abbrev main_c_20 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_21 : Ref sig .tc := ⟨.hbm, 91, rfl⟩
abbrev main_v61 : Ref sig .tc := ⟨.hbm, 92, rfl⟩
abbrev main_v62 : Ref sig .tc := ⟨.hbm, 93, rfl⟩
abbrev main_cst_22 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_23 : Ref sig .tc := ⟨.hbm, 98, rfl⟩
abbrev main_v66 : Ref sig .tc := ⟨.hbm, 99, rfl⟩
abbrev main_v67 : Ref sig .tc := ⟨.hbm, 100, rfl⟩
abbrev main_c_24 : Ref sig .tc := ⟨.hbm, 101, rfl⟩
abbrev main_v68 : Ref sig .tc := ⟨.hbm, 102, rfl⟩
abbrev main_v69 : Ref sig .tc := ⟨.hbm, 103, rfl⟩
abbrev main_c_25 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_26 : Ref sig .tc := ⟨.hbm, 110, rfl⟩
abbrev main_v75 : Ref sig .tc := ⟨.hbm, 111, rfl⟩
abbrev main_cst_27 : Ref sig .tc := ⟨.hbm, 112, rfl⟩
abbrev main_v76 : Ref sig .tc := ⟨.hbm, 113, rfl⟩
abbrev main_v77 : Ref sig .tc := ⟨.hbm, 114, rfl⟩
abbrev main_c_28 : Ref sig .tc := ⟨.hbm, 115, rfl⟩
abbrev main_v78 : Ref sig .tc := ⟨.hbm, 116, rfl⟩
abbrev main_v79 : Ref sig .tc := ⟨.hbm, 117, rfl⟩
abbrev main_c_29 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_30 : Ref sig .tc := ⟨.hbm, 125, rfl⟩
abbrev main_call7_v0 : Ref sig .tc := ⟨.hbm, 126, rfl⟩
abbrev main_v86_1 : Ref sig .tc := ⟨.hbm, 127, rfl⟩
abbrev main_call7_v2 : Ref sig .tc := ⟨.hbm, 128, rfl⟩
abbrev main_v86_0 : Ref sig .tc := ⟨.hbm, 129, rfl⟩
abbrev main_call7_cst : Ref sig .tc := ⟨.hbm, 130, rfl⟩
abbrev main_v86_2 : Ref sig .tc := ⟨.hbm, 131, rfl⟩
abbrev main_v87 : Ref sig .tc := ⟨.hbm, 132, rfl⟩
abbrev main_v88 : Ref sig .tc := ⟨.hbm, 133, rfl⟩
abbrev main_c_31 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93_1 : Ref sig .tc := ⟨.hbm, 139, rfl⟩
abbrev main_call8_v1 : Ref sig .tc := ⟨.hbm, 140, rfl⟩
abbrev main_v93_0 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_32 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101_1 : Ref sig .tc := ⟨.hbm, 150, rfl⟩
abbrev main_call9_v1 : Ref sig .tc := ⟨.hbm, 151, rfl⟩
abbrev main_v101_0 : Ref sig .tc := ⟨.hbm, 152, rfl⟩
abbrev main_v102 : Ref sig .tc := ⟨.hbm, 153, rfl⟩
abbrev main_cst_33 : Ref sig .tc := ⟨.hbm, 154, rfl⟩
abbrev main_v103 : Ref sig .tc := ⟨.hbm, 155, rfl⟩
abbrev main_call10_cst : Ref sig .tc := ⟨.hbm, 156, rfl⟩
abbrev main_call10_v0 : Ref sig .tc := ⟨.hbm, 157, rfl⟩
abbrev main_v104_1 : Ref sig .tc := ⟨.hbm, 158, rfl⟩
abbrev main_call10_v2 : Ref sig .tc := ⟨.hbm, 159, rfl⟩
abbrev main_call10_cst_0 : Ref sig .tc := ⟨.hbm, 160, rfl⟩
abbrev main_call10_v3 : Ref sig .tc := ⟨.hbm, 161, rfl⟩
abbrev main_v104_0 : Ref sig .tc := ⟨.hbm, 162, rfl⟩
abbrev main_cst_34 : Ref sig .tc := ⟨.hbm, 163, rfl⟩
abbrev main_v105 : Ref sig .tc := ⟨.hbm, 164, rfl⟩
abbrev main_v106 : Ref sig .tc := ⟨.hbm, 165, rfl⟩
abbrev main_cst_35 : Ref sig .tc := ⟨.hbm, 166, rfl⟩
abbrev main_v107 : Ref sig .tc := ⟨.hbm, 167, rfl⟩
abbrev main_cst_36 : Ref sig .tc := ⟨.hbm, 168, rfl⟩
abbrev main_v108 : Ref sig .tc := ⟨.hbm, 169, rfl⟩
abbrev main_call11_cst : Ref sig .tc := ⟨.hbm, 170, rfl⟩
abbrev main_call11_v0 : Ref sig .tc := ⟨.hbm, 171, rfl⟩
abbrev main_v109_1 : Ref sig .tc := ⟨.hbm, 172, rfl⟩
abbrev main_call11_v2 : Ref sig .tc := ⟨.hbm, 173, rfl⟩
abbrev main_call11_cst_0 : Ref sig .tc := ⟨.hbm, 174, rfl⟩
abbrev main_call11_v3 : Ref sig .tc := ⟨.hbm, 175, rfl⟩
abbrev main_v109_0 : Ref sig .tc := ⟨.hbm, 176, rfl⟩
abbrev main_v110 : Ref sig .tc := ⟨.hbm, 177, rfl⟩
abbrev main_cst_37 : Ref sig .tc := ⟨.hbm, 178, rfl⟩
abbrev main_v111 : Ref sig .tc := ⟨.hbm, 179, rfl⟩
abbrev main_v112 : Ref sig .tc := ⟨.hbm, 180, rfl⟩
abbrev main_cst_38 : Ref sig .tc := ⟨.hbm, 181, rfl⟩
abbrev main_v113 : Ref sig .tc := ⟨.hbm, 182, rfl⟩
abbrev main_v114 : Ref sig .tc := ⟨.hbm, 183, rfl⟩
abbrev main_call12_cst : Ref sig .tc := ⟨.hbm, 184, rfl⟩
abbrev main_call12_v0 : Ref sig .tc := ⟨.hbm, 185, rfl⟩
abbrev main_v115 : Ref sig .tc := ⟨.hbm, 186, rfl⟩
abbrev main_v116 : Ref sig .tc := ⟨.hbm, 187, rfl⟩
abbrev main_cst_39 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩

abbrev nD : Nat := 1
abbrev τ : Topo := Topo.v7x

variable {F : FTy → Type} [FloatOps F]
-- ==== Prep.lean ====
abbrev S2x2064x8x96 : Shape := ⟨4, ![2, 2064, 8, 96]⟩
abbrev S2x2064x8x64 : Shape := ⟨4, ![2, 2064, 8, 64]⟩
abbrev S2x2064x256 : Shape := ⟨3, ![2, 2064, 256]⟩
abbrev S2x2064x128 : Shape := ⟨3, ![2, 2064, 128]⟩
abbrev S2x2064x32 : Shape := ⟨3, ![2, 2064, 32]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S2176 : Shape := ⟨1, ![2176]⟩
abbrev S16 : Shape := ⟨1, ![16]⟩
abbrev S_ : Shape := ⟨0, ![]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S2176x48 : Shape := ⟨2, ![2176, 48]⟩
abbrev S2176x80 : Shape := ⟨2, ![2176, 80]⟩
abbrev S1x2176x128 : Shape := ⟨3, ![1, 2176, 128]⟩
abbrev S3x2176x128 : Shape := ⟨3, ![3, 2176, 128]⟩
abbrev S1x3x1x2176x1x128 : Shape := ⟨6, ![1, 3, 1, 2176, 1, 128]⟩
abbrev S1x3x2x2176x1x128 : Shape := ⟨6, ![1, 3, 2, 2176, 1, 128]⟩
abbrev S3x4352x128 : Shape := ⟨3, ![3, 4352, 128]⟩
abbrev S1x128 : Shape := ⟨2, ![1, 128]⟩
abbrev S2176x0 : Shape := ⟨2, ![2176, 0]⟩
abbrev S2176x96 : Shape := ⟨2, ![2176, 96]⟩
abbrev S2176x112 : Shape := ⟨2, ![2176, 112]⟩
abbrev S4x2176x128 : Shape := ⟨3, ![4, 2176, 128]⟩
abbrev S1x4x1x2176x1x128 : Shape := ⟨6, ![1, 4, 1, 2176, 1, 128]⟩
abbrev S1x4x2x2176x1x128 : Shape := ⟨6, ![1, 4, 2, 2176, 1, 128]⟩
abbrev S4x4352x128 : Shape := ⟨3, ![4, 4352, 128]⟩
abbrev S2x2064x1536 : Shape := ⟨3, ![2, 2064, 1536]⟩
abbrev S2x2064x608 : Shape := ⟨3, ![2, 2064, 608]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S128x8x128 : Shape := ⟨3, ![128, 8, 128]⟩
abbrev S128x8x64 : Shape := ⟨3, ![128, 8, 64]⟩
abbrev S2x2064x8x32 : Shape := ⟨4, ![2, 2064, 8, 32]⟩
abbrev S2x2064x8x128 : Shape := ⟨4, ![2, 2064, 8, 128]⟩
abbrev S2x2064x1024 : Shape := ⟨3, ![2, 2064, 1024]⟩
abbrev S2x112x1024 : Shape := ⟨3, ![2, 112, 1024]⟩
abbrev S2x2048x1024 : Shape := ⟨3, ![2, 2048, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S1x256 : Shape := ⟨2, ![1, 256]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S4352x256 : Shape := ⟨2, ![4352, 256]⟩
abbrev S4352x128 : Shape := ⟨2, ![4352, 128]⟩
abbrev S544x1024 : Shape := ⟨2, ![544, 1024]⟩
abbrev S544x256 : Shape := ⟨2, ![544, 256]⟩
abbrev S544x128 : Shape := ⟨2, ![544, 128]⟩
abbrev S3x544x128 : Shape := ⟨3, ![3, 544, 128]⟩
abbrev S4x544x128 : Shape := ⟨3, ![4, 544, 128]⟩
abbrev S1x544x128 : Shape := ⟨3, ![1, 544, 128]⟩
abbrev S544 : Shape := ⟨1, ![544]⟩
abbrev S544x1 : Shape := ⟨2, ![544, 1]⟩
abbrev S2x2176x256 : Shape := ⟨3, ![2, 2176, 256]⟩
abbrev S2x16x256 : Shape := ⟨3, ![2, 16, 256]⟩
abbrev S2x2048x256 : Shape := ⟨3, ![2, 2048, 256]⟩
abbrev S2x2176x128 : Shape := ⟨3, ![2, 2176, 128]⟩
abbrev S2x16x128 : Shape := ⟨3, ![2, 16, 128]⟩
abbrev S2x2048x128 : Shape := ⟨3, ![2, 2048, 128]⟩

abbrev nBuf : Space → Nat
  | .hbm => 200
  | .vmem => 30
  | .smem => 0
  | _ => 0

abbrev hbmTy0_0 (i : Nat) : BufTy := match i % 128 with
  | 0 => ⟨S2x2064x8x96, .f32⟩
  | 1 => ⟨S2x2064x8x96, .f32⟩
  | 2 => ⟨S2x2064x8x64, .f32⟩
  | 3 => ⟨S2x2064x256, .f32⟩
  | 4 => ⟨S2x2064x128, .f32⟩
  | 5 => ⟨S2x2064x32, .f32⟩
  | 6 => ⟨S256, .f32⟩
  | 7 => ⟨S128, .f32⟩
  | 8 => ⟨S256x768, .f32⟩
  | 9 => ⟨S128x1024, .f32⟩
  | 10 => ⟨S2176, .f32⟩
  | 11 => ⟨S2176, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S2176x1, .f32⟩
  | 21 => ⟨S1x16, .f32⟩
  | 22 => ⟨S2176x16, .f32⟩
  | 23 => ⟨S2176x16, .f32⟩
  | 24 => ⟨S2176x16, .f32⟩
  | 25 => ⟨S2176x16, .f32⟩
  | 26 => ⟨S2176x16, .f32⟩
  | 27 => ⟨S_, .f32⟩
  | 28 => ⟨S2176x64, .f32⟩
  | 29 => ⟨S_, .f32⟩
  | 30 => ⟨S2176x32, .f32⟩
  | 31 => ⟨S2176x128, .f32⟩
  | 32 => ⟨S_, .f32⟩
  | 33 => ⟨S2176x64, .f32⟩
  | 34 => ⟨S2176x16, .f32⟩
  | 35 => ⟨S_, .f32⟩
  | 36 => ⟨S2176x48, .f32⟩
  | 37 => ⟨S2176x128, .f32⟩
  | 38 => ⟨S_, .f32⟩
  | 39 => ⟨S2176x80, .f32⟩
  | 40 => ⟨S_, .f32⟩
  | 41 => ⟨S2176x32, .f32⟩
  | 42 => ⟨S2176x128, .f32⟩
  | 43 => ⟨S1x2176x128, .f32⟩
  | 44 => ⟨S1x2176x128, .f32⟩
  | 45 => ⟨S1x2176x128, .f32⟩
  | 46 => ⟨S3x2176x128, .f32⟩
  | 47 => ⟨S1x3x1x2176x1x128, .f32⟩
  | 48 => ⟨S1x3x2x2176x1x128, .f32⟩
  | 49 => ⟨S3x4352x128, .f32⟩
  | 50 => ⟨S2176, .i32⟩
  | 51 => ⟨S_, .i32⟩
  | 52 => ⟨S2176, .i32⟩
  | 53 => ⟨S2176, .i1⟩
  | 54 => ⟨S2176x1, .i1⟩
  | 55 => ⟨S128, .i32⟩
  | 56 => ⟨S_, .i32⟩
  | 57 => ⟨S128, .i32⟩
  | 58 => ⟨S128, .i1⟩
  | 59 => ⟨S1x128, .i1⟩
  | 60 => ⟨S2176x128, .i1⟩
  | 61 => ⟨S2176x128, .i1⟩
  | 62 => ⟨S2176x128, .i1⟩
  | 63 => ⟨S_, .f32⟩
  | 64 => ⟨S_, .f32⟩
  | 65 => ⟨S2176x128, .f32⟩
  | 66 => ⟨S2176x128, .f32⟩
  | 67 => ⟨S2176x128, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S2176x1, .f32⟩
  | 77 => ⟨S1x16, .f32⟩
  | 78 => ⟨S2176x16, .f32⟩
  | 79 => ⟨S2176x16, .f32⟩
  | 80 => ⟨S2176x16, .f32⟩
  | 81 => ⟨S2176x16, .f32⟩
  | 82 => ⟨S2176x16, .f32⟩
  | 83 => ⟨S_, .f32⟩
  | 84 => ⟨S2176x0, .f32⟩
  | 85 => ⟨S_, .f32⟩
  | 86 => ⟨S2176x96, .f32⟩
  | 87 => ⟨S2176x128, .f32⟩
  | 88 => ⟨S_, .f32⟩
  | 89 => ⟨S2176x0, .f32⟩
  | 90 => ⟨S2176x16, .f32⟩
  | 91 => ⟨S_, .f32⟩
  | 92 => ⟨S2176x112, .f32⟩
  | 93 => ⟨S2176x128, .f32⟩
  | 94 => ⟨S_, .f32⟩
  | 95 => ⟨S2176x16, .f32⟩
  | 96 => ⟨S_, .f32⟩
  | 97 => ⟨S2176x96, .f32⟩
  | 98 => ⟨S2176x128, .f32⟩
  | 99 => ⟨S1x2176x128, .f32⟩
  | 100 => ⟨S1x2176x128, .f32⟩
  | 101 => ⟨S1x2176x128, .f32⟩
  | 102 => ⟨S3x2176x128, .f32⟩
  | 103 => ⟨S2176x128, .f32⟩
  | 104 => ⟨S1x2176x128, .f32⟩
  | 105 => ⟨S4x2176x128, .f32⟩
  | 106 => ⟨S1x4x1x2176x1x128, .f32⟩
  | 107 => ⟨S1x4x2x2176x1x128, .f32⟩
  | 108 => ⟨S4x4352x128, .f32⟩
  | 109 => ⟨S_, .f32⟩
  | 110 => ⟨S2x2064x1536, .f32⟩
  | 111 => ⟨S_, .f32⟩
  | 112 => ⟨S2x2064x608, .f32⟩
  | 113 => ⟨S2x2064x2560, .f32⟩
  | 114 => ⟨S_, .f32⟩
  | 115 => ⟨S2x112x2560, .f32⟩
  | 116 => ⟨S2x2048x2560, .f32⟩
  | 117 => ⟨S2x16x2560, .f32⟩
  | 118 => ⟨S2x2176x2560, .f32⟩
  | 119 => ⟨S4352x2560, .f32⟩
  | 120 => ⟨S128x1024, .bf16⟩
  | 121 => ⟨S128x8x128, .bf16⟩
  | 122 => ⟨S_, .bf16⟩
  | 123 => ⟨S128x8x64, .bf16⟩
  | 124 => ⟨S128x8x64, .bf16⟩
  | 125 => ⟨S128x8x128, .bf16⟩
  | 126 => ⟨S128x1024, .bf16⟩
  | 127 => ⟨S128x8x64, .bf16⟩
  | _ => ⟨S2x2064x8x96, .f32⟩

abbrev hbmTy0_1 (i : Nat) : BufTy := match i % 128 with
  | 0 => ⟨S128x8x128, .bf16⟩
  | 1 => ⟨S128x1024, .bf16⟩
  | 2 => ⟨S_, .f32⟩
  | 3 => ⟨S2x2064x8x32, .f32⟩
  | 4 => ⟨S2x2064x8x128, .f32⟩
  | 5 => ⟨S2x2064x1024, .f32⟩
  | 6 => ⟨S_, .f32⟩
  | 7 => ⟨S2x112x1024, .f32⟩
  | 8 => ⟨S2x2048x1024, .f32⟩
  | 9 => ⟨S2x16x1024, .f32⟩
  | 10 => ⟨S2x2176x1024, .f32⟩
  | 11 => ⟨S4352x1024, .f32⟩
  | 12 => ⟨S_, .f32⟩
  | 13 => ⟨S2x2064x8x32, .f32⟩
  | 14 => ⟨S2x2064x8x128, .f32⟩
  | 15 => ⟨S2x2064x1024, .f32⟩
  | 16 => ⟨S_, .f32⟩
  | 17 => ⟨S2x112x1024, .f32⟩
  | 18 => ⟨S2x2048x1024, .f32⟩
  | 19 => ⟨S2x16x1024, .f32⟩
  | 20 => ⟨S2x2176x1024, .f32⟩
  | 21 => ⟨S4352x1024, .f32⟩
  | 22 => ⟨S_, .f32⟩
  | 23 => ⟨S2x2064x8x64, .f32⟩
  | 24 => ⟨S2x2064x8x128, .f32⟩
  | 25 => ⟨S2x2064x1024, .f32⟩
  | 26 => ⟨S_, .f32⟩
  | 27 => ⟨S2x112x1024, .f32⟩
  | 28 => ⟨S2x2048x1024, .f32⟩
  | 29 => ⟨S2x16x1024, .f32⟩
  | 30 => ⟨S2x2176x1024, .f32⟩
  | 31 => ⟨S4352x1024, .f32⟩
  | 32 => ⟨S1x256, .f32⟩
  | 33 => ⟨S1x128, .f32⟩
  | 34 => ⟨S256x768, .bf16⟩
  | 35 => ⟨S256x8x96, .bf16⟩
  | 36 => ⟨S_, .bf16⟩
  | 37 => ⟨S256x8x32, .bf16⟩
  | 38 => ⟨S256x8x128, .bf16⟩
  | 39 => ⟨S256x1024, .bf16⟩
  | 40 => ⟨S4352x256, .f32⟩
  | 41 => ⟨S4352x128, .f32⟩
  | 42 => ⟨S4352x128, .f32⟩
  | 43 => ⟨S256x1024, .f32⟩
  | 44 => ⟨S128x1024, .f32⟩
  | 45 => ⟨S128x1024, .f32⟩
  | 46 => ⟨S1x256, .f32⟩
  | 47 => ⟨S1x128, .f32⟩
  | 48 => ⟨S2x2176x256, .f32⟩
  | 49 => ⟨S2x16x256, .f32⟩
  | 50 => ⟨S2x2048x256, .f32⟩
  | 51 => ⟨S2x2064x256, .f32⟩
  | 52 => ⟨S2x2176x128, .f32⟩
  | 53 => ⟨S2x16x128, .f32⟩
  | 54 => ⟨S2x2048x128, .f32⟩
  | 55 => ⟨S2x2064x128, .f32⟩
  | 56 => ⟨S2x2176x128, .f32⟩
  | 57 => ⟨S2x16x128, .f32⟩
  | 58 => ⟨S2x2048x128, .f32⟩
  | 59 => ⟨S2x2064x128, .f32⟩
  | 60 => ⟨S2x2064x32, .f32⟩
  | 61 => ⟨S256, .f32⟩
  | 62 => ⟨S128, .f32⟩
  | 63 => ⟨S256x8x128, .f32⟩
  | 64 => ⟨S256x8x96, .f32⟩
  | 65 => ⟨S256x768, .f32⟩
  | 66 => ⟨S128x8x128, .f32⟩
  | 67 => ⟨S128x8x64, .f32⟩
  | 68 => ⟨S128x8x128, .f32⟩
  | 69 => ⟨S128x8x64, .f32⟩
  | 70 => ⟨S128x8x128, .f32⟩
  | 71 => ⟨S128x1024, .f32⟩
  | _ => ⟨S2x2064x8x96, .f32⟩

abbrev hbmTy (i : Nat) : BufTy := match i / 128 with
  | 0 => hbmTy0_0 i
  | 1 => hbmTy0_1 i
  | _ => ⟨S2x2064x8x96, .f32⟩

abbrev bufTy : (tb : Table) → Fin (tcTables nBuf tb) → BufTy
  | .hbm, ⟨i, _⟩ => hbmTy i
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x256, .f32⟩
  | .local _ .vmem, ⟨7, _⟩ => ⟨S544x256, .f32⟩
  | .local _ .vmem, ⟨8, _⟩ => ⟨S544x128, .f32⟩
  | .local _ .vmem, ⟨9, _⟩ => ⟨S544x128, .f32⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S128x1024, .bf16⟩
  | .local _ .vmem, ⟨14, _⟩ => ⟨S128x1024, .bf16⟩
  | .local _ .vmem, ⟨15, _⟩ => ⟨S3x544x128, .f32⟩
  | .local _ .vmem, ⟨16, _⟩ => ⟨S3x544x128, .f32⟩
  | .local _ .vmem, ⟨17, _⟩ => ⟨S4x544x128, .f32⟩
  | .local _ .vmem, ⟨18, _⟩ => ⟨S4x544x128, .f32⟩
  | .local _ .vmem, ⟨19, _⟩ => ⟨S544x256, .f32⟩
  | .local _ .vmem, ⟨20, _⟩ => ⟨S544x256, .f32⟩
  | .local _ .vmem, ⟨21, _⟩ => ⟨S544x128, .f32⟩
  | .local _ .vmem, ⟨22, _⟩ => ⟨S544x128, .f32⟩
  | .local _ .vmem, ⟨23, _⟩ => ⟨S544x128, .f32⟩
  | .local _ .vmem, ⟨24, _⟩ => ⟨S544x128, .f32⟩
  | .local _ .vmem, ⟨25, _⟩ => ⟨S256x1024, .f32⟩
  | .local _ .vmem, ⟨26, _⟩ => ⟨S128x1024, .f32⟩
  | .local _ .vmem, ⟨27, _⟩ => ⟨S128x1024, .f32⟩
  | .local _ .vmem, ⟨28, _⟩ => ⟨S1x256, .f32⟩
  | .local _ .vmem, ⟨29, _⟩ => ⟨S1x128, .f32⟩
  | _, _ => ⟨S2x2064x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_cst_11 : Ref sig .tc := ⟨.hbm, 64, rfl⟩
abbrev main_call0_v0 : Ref sig .tc := ⟨.hbm, 65, rfl⟩
abbrev main_call0_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_20 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_cst_22 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_23 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_24 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_25 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_26 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_28 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_29 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_30 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123_0 : Ref sig .tc := ⟨.hbm, 168, rfl⟩
abbrev main_v123_1 : Ref sig .tc := ⟨.hbm, 169, rfl⟩
abbrev main_v123_2 : Ref sig .tc := ⟨.hbm, 170, rfl⟩
abbrev main_v123_3 : Ref sig .tc := ⟨.hbm, 171, rfl⟩
abbrev main_v123_4 : Ref sig .tc := ⟨.hbm, 172, rfl⟩
abbrev main_v123_5 : Ref sig .tc := ⟨.hbm, 173, rfl⟩
abbrev main_v123_6 : Ref sig .tc := ⟨.hbm, 174, rfl⟩
abbrev main_v123_7 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x544x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x544x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S544x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S544x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== PrepRefIdeal.lean ====
abbrev S2x2064x8x96 : Shape := ⟨4, ![2, 2064, 8, 96]⟩
abbrev S2x2064x8x64 : Shape := ⟨4, ![2, 2064, 8, 64]⟩
abbrev S2x2064x256 : Shape := ⟨3, ![2, 2064, 256]⟩
abbrev S2x2064x128 : Shape := ⟨3, ![2, 2064, 128]⟩
abbrev S2x2064x32 : Shape := ⟨3, ![2, 2064, 32]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S2064 : Shape := ⟨1, ![2064]⟩
abbrev S2064x1 : Shape := ⟨2, ![2064, 1]⟩
abbrev S1x16 : Shape := ⟨2, ![1, 16]⟩
abbrev S2064x16 : Shape := ⟨2, ![2064, 16]⟩
abbrev S2x2064 : Shape := ⟨2, ![2, 2064]⟩
abbrev S2x2064x1 : Shape := ⟨3, ![2, 2064, 1]⟩
abbrev S1x1x256 : Shape := ⟨3, ![1, 1, 256]⟩
abbrev S2x2064x768 : Shape := ⟨3, ![2, 2064, 768]⟩
abbrev S2x2064x8x32 : Shape := ⟨4, ![2, 2064, 8, 32]⟩
abbrev S2064x1x16 : Shape := ⟨3, ![2064, 1, 16]⟩
abbrev S2x2064x8x16 : Shape := ⟨4, ![2, 2064, 8, 16]⟩
abbrev S1x2064x1x16 : Shape := ⟨4, ![1, 2064, 1, 16]⟩
abbrev S1x1x128 : Shape := ⟨3, ![1, 1, 128]⟩
abbrev S2x2064x1024 : Shape := ⟨3, ![2, 2064, 1024]⟩
abbrev S2x2064x8x128 : Shape := ⟨4, ![2, 2064, 8, 128]⟩
abbrev S2x2064x16 : Shape := ⟨3, ![2, 2064, 16]⟩
abbrev S1x2064x16 : Shape := ⟨3, ![1, 2064, 16]⟩
abbrev S2x2064x1x32 : Shape := ⟨4, ![2, 2064, 1, 32]⟩
abbrev S1024x128 : Shape := ⟨2, ![1024, 128]⟩
abbrev S768x256 : Shape := ⟨2, ![768, 256]⟩

abbrev nBuf : Space → Nat
  | .hbm => 219
  | .vmem => 0
  | .smem => 0
  | _ => 0

abbrev hbmTy0_0 (i : Nat) : BufTy := match i % 128 with
  | 0 => ⟨S2x2064x8x96, .f32⟩
  | 1 => ⟨S2x2064x8x96, .f32⟩
  | 2 => ⟨S2x2064x8x64, .f32⟩
  | 3 => ⟨S2x2064x256, .f32⟩
  | 4 => ⟨S2x2064x128, .f32⟩
  | 5 => ⟨S2x2064x32, .f32⟩
  | 6 => ⟨S256, .f32⟩
  | 7 => ⟨S128, .f32⟩
  | 8 => ⟨S256x768, .f32⟩
  | 9 => ⟨S128x1024, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S2064, .f32⟩
  | 19 => ⟨S2064x1, .f32⟩
  | 20 => ⟨S1x16, .f32⟩
  | 21 => ⟨S2064x16, .f32⟩
  | 22 => ⟨S2064x16, .f32⟩
  | 23 => ⟨S2064x16, .f32⟩
  | 24 => ⟨S2064x16, .f32⟩
  | 25 => ⟨S2064x16, .f32⟩
  | 26 => ⟨S2x2064x256, .f32⟩
  | 27 => ⟨S_, .f32⟩
  | 28 => ⟨S2x2064, .f32⟩
  | 29 => ⟨S2x2064x1, .f32⟩
  | 30 => ⟨S_, .f32⟩
  | 31 => ⟨S2x2064x1, .f32⟩
  | 32 => ⟨S2x2064x1, .f32⟩
  | 33 => ⟨S_, .f32⟩
  | 34 => ⟨S2x2064x1, .f32⟩
  | 35 => ⟨S2x2064x1, .f32⟩
  | 36 => ⟨S2x2064x1, .f32⟩
  | 37 => ⟨S2x2064x1, .f32⟩
  | 38 => ⟨S_, .f32⟩
  | 39 => ⟨S2x2064x1, .f32⟩
  | 40 => ⟨S2x2064x1, .f32⟩
  | 41 => ⟨S2x2064x256, .f32⟩
  | 42 => ⟨S2x2064x256, .f32⟩
  | 43 => ⟨S1x1x256, .f32⟩
  | 44 => ⟨S2x2064x256, .f32⟩
  | 45 => ⟨S2x2064x256, .f32⟩
  | 46 => ⟨S2x2064x768, .f32⟩
  | 47 => ⟨S2x2064x8x96, .f32⟩
  | 48 => ⟨S2x2064x8x64, .f32⟩
  | 49 => ⟨S2x2064x8x32, .f32⟩
  | 50 => ⟨S2064x1x16, .f32⟩
  | 51 => ⟨S2064x1x16, .f32⟩
  | 52 => ⟨S2x2064x8x16, .f32⟩
  | 53 => ⟨S2x2064x8x16, .f32⟩
  | 54 => ⟨S1x2064x1x16, .f32⟩
  | 55 => ⟨S2x2064x8x16, .f32⟩
  | 56 => ⟨S2x2064x8x16, .f32⟩
  | 57 => ⟨S1x2064x1x16, .f32⟩
  | 58 => ⟨S2x2064x8x16, .f32⟩
  | 59 => ⟨S2x2064x8x16, .f32⟩
  | 60 => ⟨S2x2064x8x16, .f32⟩
  | 61 => ⟨S1x2064x1x16, .f32⟩
  | 62 => ⟨S2x2064x8x16, .f32⟩
  | 63 => ⟨S2x2064x8x16, .f32⟩
  | 64 => ⟨S1x2064x1x16, .f32⟩
  | 65 => ⟨S2x2064x8x16, .f32⟩
  | 66 => ⟨S2x2064x8x16, .f32⟩
  | 67 => ⟨S2x2064x8x16, .f32⟩
  | 68 => ⟨S2x2064x8x32, .f32⟩
  | 69 => ⟨S2x2064x128, .f32⟩
  | 70 => ⟨S_, .f32⟩
  | 71 => ⟨S2x2064, .f32⟩
  | 72 => ⟨S2x2064x1, .f32⟩
  | 73 => ⟨S_, .f32⟩
  | 74 => ⟨S2x2064x1, .f32⟩
  | 75 => ⟨S2x2064x1, .f32⟩
  | 76 => ⟨S_, .f32⟩
  | 77 => ⟨S2x2064x1, .f32⟩
  | 78 => ⟨S2x2064x1, .f32⟩
  | 79 => ⟨S2x2064x1, .f32⟩
  | 80 => ⟨S2x2064x1, .f32⟩
  | 81 => ⟨S_, .f32⟩
  | 82 => ⟨S2x2064x1, .f32⟩
  | 83 => ⟨S2x2064x1, .f32⟩
  | 84 => ⟨S2x2064x128, .f32⟩
  | 85 => ⟨S2x2064x128, .f32⟩
  | 86 => ⟨S1x1x128, .f32⟩
  | 87 => ⟨S2x2064x128, .f32⟩
  | 88 => ⟨S2x2064x128, .f32⟩
  | 89 => ⟨S2x2064x1024, .f32⟩
  | 90 => ⟨S2x2064x8x128, .f32⟩
  | 91 => ⟨S2x2064x8x64, .f32⟩
  | 92 => ⟨S2x2064x8x64, .f32⟩
  | 93 => ⟨S2x2064x16, .f32⟩
  | 94 => ⟨S2x2064x16, .f32⟩
  | 95 => ⟨S1x2064x16, .f32⟩
  | 96 => ⟨S2x2064x16, .f32⟩
  | 97 => ⟨S2x2064x16, .f32⟩
  | 98 => ⟨S1x2064x16, .f32⟩
  | 99 => ⟨S2x2064x16, .f32⟩
  | 100 => ⟨S2x2064x16, .f32⟩
  | 101 => ⟨S2x2064x16, .f32⟩
  | 102 => ⟨S1x2064x16, .f32⟩
  | 103 => ⟨S2x2064x16, .f32⟩
  | 104 => ⟨S2x2064x16, .f32⟩
  | 105 => ⟨S1x2064x16, .f32⟩
  | 106 => ⟨S2x2064x16, .f32⟩
  | 107 => ⟨S2x2064x16, .f32⟩
  | 108 => ⟨S2x2064x16, .f32⟩
  | 109 => ⟨S2x2064x32, .f32⟩
  | 110 => ⟨S2x2064x1x32, .f32⟩
  | 111 => ⟨S2x2064x8x32, .f32⟩
  | 112 => ⟨S2x2064x8x96, .f32⟩
  | 113 => ⟨S2x2064x8x96, .f32⟩
  | 114 => ⟨S2x2064x8x64, .f32⟩
  | 115 => ⟨S2x2064x8x32, .f32⟩
  | 116 => ⟨S2x2064x8x64, .f32⟩
  | 117 => ⟨S2x2064x8x32, .f32⟩
  | 118 => ⟨S_, .f32⟩
  | 119 => ⟨S2x2064x32, .f32⟩
  | 120 => ⟨S2x2064x1x32, .f32⟩
  | 121 => ⟨S_, .f32⟩
  | 122 => ⟨S2x2064x32, .f32⟩
  | 123 => ⟨S2x2064x16, .f32⟩
  | 124 => ⟨S2x2064x16, .f32⟩
  | 125 => ⟨S2x2064x16, .f32⟩
  | 126 => ⟨S2x2064x16, .f32⟩
  | 127 => ⟨S2x2064x16, .f32⟩
  | _ => ⟨S2x2064x8x96, .f32⟩

abbrev hbmTy0_1 (i : Nat) : BufTy := match i % 128 with
  | 0 => ⟨S2x2064x16, .f32⟩
  | 1 => ⟨S2x2064x16, .f32⟩
  | 2 => ⟨S2x2064x16, .f32⟩
  | 3 => ⟨S2x2064x16, .f32⟩
  | 4 => ⟨S2x2064x16, .f32⟩
  | 5 => ⟨S2x2064x16, .f32⟩
  | 6 => ⟨S2x2064x16, .f32⟩
  | 7 => ⟨S2x2064x16, .f32⟩
  | 8 => ⟨S2x2064x32, .f32⟩
  | 9 => ⟨S_, .f32⟩
  | 10 => ⟨S2x2064x8x128, .f32⟩
  | 11 => ⟨S_, .f32⟩
  | 12 => ⟨S2x2064x8x128, .f32⟩
  | 13 => ⟨S2x2064x8x128, .f32⟩
  | 14 => ⟨S2x2064x1024, .f32⟩
  | 15 => ⟨S1024x128, .f32⟩
  | 16 => ⟨S128x1024, .f32⟩
  | 17 => ⟨S2x2064x128, .f32⟩
  | 18 => ⟨S2x2064x128, .f32⟩
  | 19 => ⟨S_, .f32⟩
  | 20 => ⟨S128, .f32⟩
  | 21 => ⟨S1x1x128, .f32⟩
  | 22 => ⟨S2x2064x128, .f32⟩
  | 23 => ⟨S2x2064x128, .f32⟩
  | 24 => ⟨S_, .f32⟩
  | 25 => ⟨S128, .f32⟩
  | 26 => ⟨S2x2064x128, .f32⟩
  | 27 => ⟨S_, .f32⟩
  | 28 => ⟨S2x2064, .f32⟩
  | 29 => ⟨S2x2064x1, .f32⟩
  | 30 => ⟨S2x2064x128, .f32⟩
  | 31 => ⟨S2x2064x128, .f32⟩
  | 32 => ⟨S2x2064x1, .f32⟩
  | 33 => ⟨S_, .f32⟩
  | 34 => ⟨S2x2064x1, .f32⟩
  | 35 => ⟨S2x2064x1, .f32⟩
  | 36 => ⟨S_, .f32⟩
  | 37 => ⟨S2x2064, .f32⟩
  | 38 => ⟨S2x2064x128, .f32⟩
  | 39 => ⟨S2x2064x128, .f32⟩
  | 40 => ⟨S2x2064x128, .f32⟩
  | 41 => ⟨S2x2064x128, .f32⟩
  | 42 => ⟨S2x2064x128, .f32⟩
  | 43 => ⟨S2x2064x8x16, .f32⟩
  | 44 => ⟨S2x2064x8x16, .f32⟩
  | 45 => ⟨S2x2064x8x16, .f32⟩
  | 46 => ⟨S2x2064x8x16, .f32⟩
  | 47 => ⟨S2x2064x8x16, .f32⟩
  | 48 => ⟨S2x2064x8x16, .f32⟩
  | 49 => ⟨S2x2064x8x16, .f32⟩
  | 50 => ⟨S2x2064x8x16, .f32⟩
  | 51 => ⟨S2x2064x8x16, .f32⟩
  | 52 => ⟨S2x2064x8x16, .f32⟩
  | 53 => ⟨S2x2064x8x16, .f32⟩
  | 54 => ⟨S2x2064x8x16, .f32⟩
  | 55 => ⟨S2x2064x8x16, .f32⟩
  | 56 => ⟨S2x2064x8x32, .f32⟩
  | 57 => ⟨S_, .f32⟩
  | 58 => ⟨S2x2064x8x96, .f32⟩
  | 59 => ⟨S_, .f32⟩
  | 60 => ⟨S2x2064x8x96, .f32⟩
  | 61 => ⟨S2x2064x8x96, .f32⟩
  | 62 => ⟨S2x2064x768, .f32⟩
  | 63 => ⟨S768x256, .f32⟩
  | 64 => ⟨S256x768, .f32⟩
  | 65 => ⟨S2x2064x256, .f32⟩
  | 66 => ⟨S2x2064x256, .f32⟩
  | 67 => ⟨S_, .f32⟩
  | 68 => ⟨S256, .f32⟩
  | 69 => ⟨S1x1x256, .f32⟩
  | 70 => ⟨S2x2064x256, .f32⟩
  | 71 => ⟨S2x2064x256, .f32⟩
  | 72 => ⟨S_, .f32⟩
  | 73 => ⟨S256, .f32⟩
  | 74 => ⟨S2x2064x256, .f32⟩
  | 75 => ⟨S_, .f32⟩
  | 76 => ⟨S2x2064, .f32⟩
  | 77 => ⟨S2x2064x1, .f32⟩
  | 78 => ⟨S2x2064x256, .f32⟩
  | 79 => ⟨S2x2064x256, .f32⟩
  | 80 => ⟨S2x2064x1, .f32⟩
  | 81 => ⟨S_, .f32⟩
  | 82 => ⟨S2x2064x1, .f32⟩
  | 83 => ⟨S2x2064x1, .f32⟩
  | 84 => ⟨S_, .f32⟩
  | 85 => ⟨S2x2064, .f32⟩
  | 86 => ⟨S2x2064x256, .f32⟩
  | 87 => ⟨S2x2064x256, .f32⟩
  | 88 => ⟨S2x2064x256, .f32⟩
  | 89 => ⟨S2x2064x256, .f32⟩
  | 90 => ⟨S2x2064x256, .f32⟩
  | _ => ⟨S2x2064x8x96, .f32⟩

abbrev hbmTy (i : Nat) : BufTy := match i / 128 with
  | 0 => hbmTy0_0 i
  | 1 => hbmTy0_1 i
  | _ => ⟨S2x2064x8x96, .f32⟩

abbrev bufTy : (tb : Table) → Fin (tcTables nBuf tb) → BufTy
  | .hbm, ⟨i, _⟩ => hbmTy i
  | _, _ => ⟨S2x2064x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_9 : Ref sig .tc := ⟨.hbm, 118, rfl⟩
abbrev main_v98 : Ref sig .tc := ⟨.hbm, 119, rfl⟩
abbrev main_v99 : Ref sig .tc := ⟨.hbm, 120, rfl⟩
abbrev main_cst_10 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_11 : Ref sig .tc := ⟨.hbm, 137, rfl⟩
abbrev main_v115 : Ref sig .tc := ⟨.hbm, 138, rfl⟩
abbrev main_cst_12 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_13 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_14 : Ref sig .tc := ⟨.hbm, 152, rfl⟩
abbrev main_v127 : Ref sig .tc := ⟨.hbm, 153, rfl⟩
abbrev main_v128 : Ref sig .tc := ⟨.hbm, 154, rfl⟩
abbrev main_cst_15 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_16 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_18 : Ref sig .tc := ⟨.hbm, 185, rfl⟩
abbrev main_v156 : Ref sig .tc := ⟨.hbm, 186, rfl⟩
abbrev main_cst_19 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_20 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_cst_21 : Ref sig .tc := ⟨.hbm, 200, rfl⟩
abbrev main_v168 : Ref sig .tc := ⟨.hbm, 201, rfl⟩
abbrev main_v169 : Ref sig .tc := ⟨.hbm, 202, rfl⟩
abbrev main_cst_22 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_cst_23 : Ref sig .tc := ⟨.hbm, 209, rfl⟩
abbrev main_v175 : Ref sig .tc := ⟨.hbm, 210, rfl⟩
abbrev main_v176 : Ref sig .tc := ⟨.hbm, 211, rfl⟩
abbrev main_cst_24 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩

abbrev nD : Nat := 1
abbrev τ : Topo := Topo.v7x

variable {F : FTy → Type} [FloatOps F]
-- ==== Inproj.lean ====
abbrev S2x2064x1024 : Shape := ⟨3, ![2, 2064, 1024]⟩
abbrev S2x2064x512 : Shape := ⟨3, ![2, 2064, 512]⟩
abbrev S2x2064x2x2x64 : Shape := ⟨5, ![2, 2064, 2, 2, 64]⟩
abbrev S2x2064x256 : Shape := ⟨3, ![2, 2064, 256]⟩
abbrev S2x2064x128 : Shape := ⟨3, ![2, 2064, 128]⟩
abbrev S2x2064x32 : Shape := ⟨3, ![2, 2064, 32]⟩
abbrev S1024 : Shape := ⟨1, ![1024]⟩
abbrev S1024x2208 : Shape := ⟨2, ![1024, 2208]⟩
abbrev S1024x8x276 : Shape := ⟨3, ![1024, 8, 276]⟩
abbrev S8x1024x276 : Shape := ⟨3, ![8, 1024, 276]⟩
abbrev S_ : Shape := ⟨0, ![]⟩
abbrev S1024x96 : Shape := ⟨2, ![1024, 96]⟩
abbrev S1x1024x276 : Shape := ⟨3, ![1, 1024, 276]⟩
abbrev S1024x276 : Shape := ⟨2, ![1024, 276]⟩
abbrev S1024x236 : Shape := ⟨2, ![1024, 236]⟩
abbrev S1024x40 : Shape := ⟨2, ![1024, 40]⟩
abbrev S1024x24 : Shape := ⟨2, ![1024, 24]⟩
abbrev S1024x64 : Shape := ⟨2, ![1024, 64]⟩
abbrev S1024x60 : Shape := ⟨2, ![1024, 60]⟩
abbrev S1024x176 : Shape := ⟨2, ![1024, 176]⟩
abbrev S1024x100 : Shape := ⟨2, ![1024, 100]⟩
abbrev S1024x156 : Shape := ⟨2, ![1024, 156]⟩
abbrev S1024x120 : Shape := ⟨2, ![1024, 120]⟩
abbrev S1024x8 : Shape := ⟨2, ![1024, 8]⟩
abbrev S1024x32 : Shape := ⟨2, ![1024, 32]⟩
abbrev S1024x1636 : Shape := ⟨2, ![1024, 1636]⟩
abbrev S1024x924 : Shape := ⟨2, ![1024, 924]⟩
abbrev S1024x2560 : Shape := ⟨2, ![1024, 2560]⟩
abbrev S2x2064x96 : Shape := ⟨3, ![2, 2064, 96]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S2x112x256 : Shape := ⟨3, ![2, 112, 256]⟩
abbrev S2x2048x256 : Shape := ⟨3, ![2, 2048, 256]⟩
abbrev S2x16x256 : Shape := ⟨3, ![2, 16, 256]⟩
abbrev S2x2176x256 : Shape := ⟨3, ![2, 2176, 256]⟩
abbrev S4352x256 : Shape := ⟨2, ![4352, 256]⟩
abbrev S2x112x128 : Shape := ⟨3, ![2, 112, 128]⟩
abbrev S2x2048x128 : Shape := ⟨3, ![2, 2048, 128]⟩
abbrev S2x16x128 : Shape := ⟨3, ![2, 16, 128]⟩
abbrev S2x2176x128 : Shape := ⟨3, ![2, 2176, 128]⟩
abbrev S4352x128 : Shape := ⟨2, ![4352, 128]⟩
abbrev S2x112x1024 : Shape := ⟨3, ![2, 112, 1024]⟩
abbrev S2x2048x1024 : Shape := ⟨3, ![2, 2048, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S1x1024 : Shape := ⟨2, ![1, 1024]⟩
abbrev S256x512 : Shape := ⟨2, ![256, 512]⟩
abbrev S256x256 : Shape := ⟨2, ![256, 256]⟩
abbrev S256x128 : Shape := ⟨2, ![256, 128]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩
abbrev S1024x512 : Shape := ⟨2, ![1024, 512]⟩

abbrev nBuf : Space → Nat
  | .hbm => 185
  | .vmem => 26
  | .smem => 0
  | _ => 0

abbrev hbmTy0_0 (i : Nat) : BufTy := match i % 128 with
  | 0 => ⟨S2x2064x1024, .f32⟩
  | 1 => ⟨S2x2064x512, .f32⟩
  | 2 => ⟨S2x2064x2x2x64, .f32⟩
  | 3 => ⟨S2x2064x2x2x64, .f32⟩
  | 4 => ⟨S2x2064x512, .f32⟩
  | 5 => ⟨S2x2064x256, .f32⟩
  | 6 => ⟨S2x2064x128, .f32⟩
  | 7 => ⟨S2x2064x32, .f32⟩
  | 8 => ⟨S2x2064x512, .f32⟩
  | 9 => ⟨S2x2064x1024, .f32⟩
  | 10 => ⟨S1024, .f32⟩
  | 11 => ⟨S1024x2208, .f32⟩
  | 12 => ⟨S1024x8x276, .f32⟩
  | 13 => ⟨S8x1024x276, .f32⟩
  | 14 => ⟨S8x1024x276, .bf16⟩
  | 15 => ⟨S_, .bf16⟩
  | 16 => ⟨S1024x96, .bf16⟩
  | 17 => ⟨S1x1024x276, .bf16⟩
  | 18 => ⟨S1024x276, .bf16⟩
  | 19 => ⟨S1x1024x276, .bf16⟩
  | 20 => ⟨S1024x276, .bf16⟩
  | 21 => ⟨S1024x236, .bf16⟩
  | 22 => ⟨S1x1024x276, .bf16⟩
  | 23 => ⟨S1024x276, .bf16⟩
  | 24 => ⟨S1024x40, .bf16⟩
  | 25 => ⟨S1x1024x276, .bf16⟩
  | 26 => ⟨S1024x276, .bf16⟩
  | 27 => ⟨S1024x24, .bf16⟩
  | 28 => ⟨S1x1024x276, .bf16⟩
  | 29 => ⟨S1024x276, .bf16⟩
  | 30 => ⟨S1024x64, .bf16⟩
  | 31 => ⟨S1x1024x276, .bf16⟩
  | 32 => ⟨S1024x276, .bf16⟩
  | 33 => ⟨S1024x64, .bf16⟩
  | 34 => ⟨S1x1024x276, .bf16⟩
  | 35 => ⟨S1024x276, .bf16⟩
  | 36 => ⟨S1024x64, .bf16⟩
  | 37 => ⟨S1x1024x276, .bf16⟩
  | 38 => ⟨S1024x276, .bf16⟩
  | 39 => ⟨S1024x60, .bf16⟩
  | 40 => ⟨S1x1024x276, .bf16⟩
  | 41 => ⟨S1024x276, .bf16⟩
  | 42 => ⟨S1x1024x276, .bf16⟩
  | 43 => ⟨S1024x276, .bf16⟩
  | 44 => ⟨S1024x176, .bf16⟩
  | 45 => ⟨S1x1024x276, .bf16⟩
  | 46 => ⟨S1024x276, .bf16⟩
  | 47 => ⟨S1024x100, .bf16⟩
  | 48 => ⟨S1x1024x276, .bf16⟩
  | 49 => ⟨S1024x276, .bf16⟩
  | 50 => ⟨S1024x156, .bf16⟩
  | 51 => ⟨S1x1024x276, .bf16⟩
  | 52 => ⟨S1024x276, .bf16⟩
  | 53 => ⟨S1024x120, .bf16⟩
  | 54 => ⟨S1x1024x276, .bf16⟩
  | 55 => ⟨S1024x276, .bf16⟩
  | 56 => ⟨S1024x8, .bf16⟩
  | 57 => ⟨S1x1024x276, .bf16⟩
  | 58 => ⟨S1024x276, .bf16⟩
  | 59 => ⟨S1024x32, .bf16⟩
  | 60 => ⟨S1x1024x276, .bf16⟩
  | 61 => ⟨S1024x276, .bf16⟩
  | 62 => ⟨S1024x236, .bf16⟩
  | 63 => ⟨S1x1024x276, .bf16⟩
  | 64 => ⟨S1024x276, .bf16⟩
  | 65 => ⟨S1024x1636, .bf16⟩
  | 66 => ⟨S1024x924, .bf16⟩
  | 67 => ⟨S1024x2560, .bf16⟩
  | 68 => ⟨S_, .f32⟩
  | 69 => ⟨S2x2064x96, .f32⟩
  | 70 => ⟨S2x2064x128, .f32⟩
  | 71 => ⟨S_, .f32⟩
  | 72 => ⟨S2x112x512, .f32⟩
  | 73 => ⟨S2x2048x512, .f32⟩
  | 74 => ⟨S2x16x512, .f32⟩
  | 75 => ⟨S2x2176x512, .f32⟩
  | 76 => ⟨S4352x512, .f32⟩
  | 77 => ⟨S2x2064x256, .f32⟩
  | 78 => ⟨S_, .f32⟩
  | 79 => ⟨S2x112x256, .f32⟩
  | 80 => ⟨S2x2048x256, .f32⟩
  | 81 => ⟨S2x16x256, .f32⟩
  | 82 => ⟨S2x2176x256, .f32⟩
  | 83 => ⟨S4352x256, .f32⟩
  | 84 => ⟨S2x2064x256, .f32⟩
  | 85 => ⟨S_, .f32⟩
  | 86 => ⟨S2x112x256, .f32⟩
  | 87 => ⟨S2x2048x256, .f32⟩
  | 88 => ⟨S2x16x256, .f32⟩
  | 89 => ⟨S2x2176x256, .f32⟩
  | 90 => ⟨S4352x256, .f32⟩
  | 91 => ⟨S_, .f32⟩
  | 92 => ⟨S2x112x512, .f32⟩
  | 93 => ⟨S2x2048x512, .f32⟩
  | 94 => ⟨S2x16x512, .f32⟩
  | 95 => ⟨S2x2176x512, .f32⟩
  | 96 => ⟨S4352x512, .f32⟩
  | 97 => ⟨S_, .f32⟩
  | 98 => ⟨S2x112x256, .f32⟩
  | 99 => ⟨S2x2048x256, .f32⟩
  | 100 => ⟨S2x16x256, .f32⟩
  | 101 => ⟨S2x2176x256, .f32⟩
  | 102 => ⟨S4352x256, .f32⟩
  | 103 => ⟨S_, .f32⟩
  | 104 => ⟨S2x112x128, .f32⟩
  | 105 => ⟨S2x2048x128, .f32⟩
  | 106 => ⟨S2x16x128, .f32⟩
  | 107 => ⟨S2x2176x128, .f32⟩
  | 108 => ⟨S4352x128, .f32⟩
  | 109 => ⟨S_, .f32⟩
  | 110 => ⟨S2x112x128, .f32⟩
  | 111 => ⟨S2x2048x128, .f32⟩
  | 112 => ⟨S2x16x128, .f32⟩
  | 113 => ⟨S2x2176x128, .f32⟩
  | 114 => ⟨S4352x128, .f32⟩
  | 115 => ⟨S_, .f32⟩
  | 116 => ⟨S2x112x512, .f32⟩
  | 117 => ⟨S2x2048x512, .f32⟩
  | 118 => ⟨S2x16x512, .f32⟩
  | 119 => ⟨S2x2176x512, .f32⟩
  | 120 => ⟨S4352x512, .f32⟩
  | 121 => ⟨S_, .f32⟩
  | 122 => ⟨S2x112x1024, .f32⟩
  | 123 => ⟨S2x2048x1024, .f32⟩
  | 124 => ⟨S2x16x1024, .f32⟩
  | 125 => ⟨S2x2176x1024, .f32⟩
  | 126 => ⟨S4352x1024, .f32⟩
  | 127 => ⟨S1x1024, .f32⟩
  | _ => ⟨S2x2064x1024, .f32⟩

abbrev hbmTy0_1 (i : Nat) : BufTy := match i % 128 with
  | 0 => ⟨S_, .f32⟩
  | 1 => ⟨S2x112x1024, .f32⟩
  | 2 => ⟨S2x2048x1024, .f32⟩
  | 3 => ⟨S2x16x1024, .f32⟩
  | 4 => ⟨S2x2176x1024, .f32⟩
  | 5 => ⟨S4352x1024, .f32⟩
  | 6 => ⟨S4352x1024, .f32⟩
  | 7 => ⟨S1024x2560, .f32⟩
  | 8 => ⟨S1x1024, .f32⟩
  | 9 => ⟨S2x2176x1024, .f32⟩
  | 10 => ⟨S2x16x1024, .f32⟩
  | 11 => ⟨S2x2048x1024, .f32⟩
  | 12 => ⟨S2x2064x1024, .f32⟩
  | 13 => ⟨S1024, .f32⟩
  | 14 => ⟨S1024x276, .f32⟩
  | 15 => ⟨S1024x236, .f32⟩
  | 16 => ⟨S1024x40, .f32⟩
  | 17 => ⟨S1024x40, .f32⟩
  | 18 => ⟨S1024x40, .f32⟩
  | 19 => ⟨S1024x24, .f32⟩
  | 20 => ⟨S1024x24, .f32⟩
  | 21 => ⟨S1024x24, .f32⟩
  | 22 => ⟨S1024x64, .f32⟩
  | 23 => ⟨S1024x64, .f32⟩
  | 24 => ⟨S1024x64, .f32⟩
  | 25 => ⟨S1024x64, .f32⟩
  | 26 => ⟨S1024x64, .f32⟩
  | 27 => ⟨S1024x64, .f32⟩
  | 28 => ⟨S1024x64, .f32⟩
  | 29 => ⟨S1024x64, .f32⟩
  | 30 => ⟨S1024x64, .f32⟩
  | 31 => ⟨S1024x60, .f32⟩
  | 32 => ⟨S1024x276, .f32⟩
  | 33 => ⟨S1024x176, .f32⟩
  | 34 => ⟨S1024x100, .f32⟩
  | 35 => ⟨S1024x156, .f32⟩
  | 36 => ⟨S1024x120, .f32⟩
  | 37 => ⟨S1024x8, .f32⟩
  | 38 => ⟨S1024x32, .f32⟩
  | 39 => ⟨S1024x236, .f32⟩
  | 40 => ⟨S1024x276, .f32⟩
  | 41 => ⟨S1024x276, .f32⟩
  | 42 => ⟨S1024x276, .f32⟩
  | 43 => ⟨S1024x276, .f32⟩
  | 44 => ⟨S1024x276, .f32⟩
  | 45 => ⟨S1024x276, .f32⟩
  | 46 => ⟨S1x1024x276, .f32⟩
  | 47 => ⟨S1x1024x276, .f32⟩
  | 48 => ⟨S1x1024x276, .f32⟩
  | 49 => ⟨S1x1024x276, .f32⟩
  | 50 => ⟨S1x1024x276, .f32⟩
  | 51 => ⟨S1x1024x276, .f32⟩
  | 52 => ⟨S1x1024x276, .f32⟩
  | 53 => ⟨S1x1024x276, .f32⟩
  | 54 => ⟨S8x1024x276, .f32⟩
  | 55 => ⟨S1024x8x276, .f32⟩
  | 56 => ⟨S1024x2208, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1024x2560, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x2560, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_0 : Ref sig .tc := ⟨.hbm, 68, rfl⟩
abbrev main_v55 : Ref sig .tc := ⟨.hbm, 69, rfl⟩
abbrev main_v56 : Ref sig .tc := ⟨.hbm, 70, rfl⟩
abbrev main_cst_1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_2 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_3 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_4 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_5 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_7 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_8 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_9 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_10 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110_0 : Ref sig .tc := ⟨.hbm, 134, rfl⟩
abbrev main_v110_1 : Ref sig .tc := ⟨.hbm, 135, rfl⟩
abbrev main_v110_2 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojRefIdeal.lean ====
abbrev S2x2064x1024 : Shape := ⟨3, ![2, 2064, 1024]⟩
abbrev S2x2064x512 : Shape := ⟨3, ![2, 2064, 512]⟩
abbrev S2x2064x2x2x64 : Shape := ⟨5, ![2, 2064, 2, 2, 64]⟩
abbrev S2x2064x256 : Shape := ⟨3, ![2, 2064, 256]⟩
abbrev S2x2064x128 : Shape := ⟨3, ![2, 2064, 128]⟩
abbrev S2x2064x32 : Shape := ⟨3, ![2, 2064, 32]⟩
abbrev S1024 : Shape := ⟨1, ![1024]⟩
abbrev S1024x2208 : Shape := ⟨2, ![1024, 2208]⟩
abbrev S_ : Shape := ⟨0, ![]⟩
abbrev S2x2064x2x64 : Shape := ⟨4, ![2, 2064, 2, 64]⟩
abbrev S2x2064x2208 : Shape := ⟨3, ![2, 2064, 2208]⟩
abbrev S2x2064 : Shape := ⟨2, ![2, 2064]⟩
abbrev S2x2064x1 : Shape := ⟨3, ![2, 2064, 1]⟩
abbrev S1x1x1024 : Shape := ⟨3, ![1, 1, 1024]⟩
abbrev S2208x1024 : Shape := ⟨2, ![2208, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x2x2x64, .f32⟩
  | .hbm, ⟨3, _⟩ => ⟨S2x2064x2x2x64, .f32⟩
  | .hbm, ⟨4, _⟩ => ⟨S2x2064x512, .f32⟩
  | .hbm, ⟨5, _⟩ => ⟨S2x2064x256, .f32⟩
  | .hbm, ⟨6, _⟩ => ⟨S2x2064x128, .f32⟩
  | .hbm, ⟨7, _⟩ => ⟨S2x2064x32, .f32⟩
  | .hbm, ⟨8, _⟩ => ⟨S2x2064x512, .f32⟩
  | .hbm, ⟨9, _⟩ => ⟨S2x2064x1024, .f32⟩
  | .hbm, ⟨10, _⟩ => ⟨S1024, .f32⟩
  | .hbm, ⟨11, _⟩ => ⟨S1024x2208, .f32⟩
  | .hbm, ⟨12, _⟩ => ⟨S_, .f32⟩
  | .hbm, ⟨13, _⟩ => ⟨S2x2064x2x64, .f32⟩
  | .hbm, ⟨14, _⟩ => ⟨S2x2064x128, .f32⟩
  | .hbm, ⟨15, _⟩ => ⟨S_, .f32⟩
  | .hbm, ⟨16, _⟩ => ⟨S2x2064x2x64, .f32⟩
  | .hbm, ⟨17, _⟩ => ⟨S2x2064x128, .f32⟩
  | .hbm, ⟨18, _⟩ => ⟨S2x2064x2208, .f32⟩
  | .hbm, ⟨19, _⟩ => ⟨S2x2064x1024, .f32⟩
  | .hbm, ⟨20, _⟩ => ⟨S_, .f32⟩
  | .hbm, ⟨21, _⟩ => ⟨S2x2064, .f32⟩
  | .hbm, ⟨22, _⟩ => ⟨S2x2064x1, .f32⟩
  | .hbm, ⟨23, _⟩ => ⟨S_, .f32⟩
  | .hbm, ⟨24, _⟩ => ⟨S2x2064x1, .f32⟩
  | .hbm, ⟨25, _⟩ => ⟨S2x2064x1, .f32⟩
  | .hbm, ⟨26, _⟩ => ⟨S_, .f32⟩
  | .hbm, ⟨27, _⟩ => ⟨S2x2064x1, .f32⟩
  | .hbm, ⟨28, _⟩ => ⟨S2x2064x1, .f32⟩
  | .hbm, ⟨29, _⟩ => ⟨S2x2064x1, .f32⟩
  | .hbm, ⟨30, _⟩ => ⟨S2x2064x1, .f32⟩
  | .hbm, ⟨31, _⟩ => ⟨S_, .f32⟩
  | .hbm, ⟨32, _⟩ => ⟨S2x2064x1, .f32⟩
  | .hbm, ⟨33, _⟩ => ⟨S2x2064x1, .f32⟩
  | .hbm, ⟨34, _⟩ => ⟨S2x2064x1024, .f32⟩
  | .hbm, ⟨35, _⟩ => ⟨S2x2064x1024, .f32⟩
  | .hbm, ⟨36, _⟩ => ⟨S1x1x1024, .f32⟩
  | .hbm, ⟨37, _⟩ => ⟨S2x2064x1024, .f32⟩
  | .hbm, ⟨38, _⟩ => ⟨S2x2064x1024, .f32⟩
  | .hbm, ⟨39, _⟩ => ⟨S2x2064x2208, .f32⟩
  | .hbm, ⟨40, _⟩ => ⟨S2208x1024, .f32⟩
  | .hbm, ⟨41, _⟩ => ⟨S1024x2208, .f32⟩
  | .hbm, ⟨42, _⟩ => ⟨S2x2064x1024, .f32⟩
  | .hbm, ⟨43, _⟩ => ⟨S2x2064x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S2x2064x1024, .f32⟩
  | .hbm, ⟨48, _⟩ => ⟨S2x2064x1024, .f32⟩
  | .hbm, ⟨49, _⟩ => ⟨S_, .f32⟩
  | .hbm, ⟨50, _⟩ => ⟨S1024, .f32⟩
  | .hbm, ⟨51, _⟩ => ⟨S2x2064x1024, .f32⟩
  | .hbm, ⟨52, _⟩ => ⟨S_, .f32⟩
  | .hbm, ⟨53, _⟩ => ⟨S2x2064, .f32⟩
  | .hbm, ⟨54, _⟩ => ⟨S2x2064x1, .f32⟩
  | .hbm, ⟨55, _⟩ => ⟨S2x2064x1024, .f32⟩
  | .hbm, ⟨56, _⟩ => ⟨S2x2064x1024, .f32⟩
  | .hbm, ⟨57, _⟩ => ⟨S2x2064x1024, .f32⟩
  | .hbm, ⟨58, _⟩ => ⟨S2x2064x1, .f32⟩
  | .hbm, ⟨59, _⟩ => ⟨S_, .f32⟩
  | .hbm, ⟨60, _⟩ => ⟨S2x2064x1, .f32⟩
  | .hbm, ⟨61, _⟩ => ⟨S2x2064x1, .f32⟩
  | .hbm, ⟨62, _⟩ => ⟨S_, .f32⟩
  | .hbm, ⟨63, _⟩ => ⟨S2x2064, .f32⟩
  | .hbm, ⟨64, _⟩ => ⟨S2x2064x1024, .f32⟩
  | .hbm, ⟨65, _⟩ => ⟨S2x2064x1024, .f32⟩
  | .hbm, ⟨66, _⟩ => ⟨S2x2064x1024, .f32⟩
  | .hbm, ⟨67, _⟩ => ⟨S2x2064x1024, .f32⟩
  | .hbm, ⟨68, _⟩ => ⟨S2x2064x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Win.lean ====
abbrev S2x2064x512 : Shape := ⟨3, ![2, 2064, 512]⟩
abbrev S2x2064x2x64 : Shape := ⟨4, ![2, 2064, 2, 64]⟩
abbrev S32x8 : Shape := ⟨2, ![32, 8]⟩
abbrev S8 : Shape := ⟨1, ![8]⟩
abbrev S2x2064x2x4x64 : Shape := ⟨5, ![2, 2064, 2, 4, 64]⟩
abbrev S2064x2064 : Shape := ⟨2, ![2064, 2064]⟩
abbrev S_ : Shape := ⟨0, ![]⟩
abbrev S2x2x2064x2064x4 : Shape := ⟨5, ![2, 2, 2064, 2064, 4]⟩
abbrev S2x2x4x2064x2064 : Shape := ⟨5, ![2, 2, 4, 2064, 2064]⟩
abbrev S32x2x4 : Shape := ⟨3, ![32, 2, 4]⟩
abbrev S2064x2064x1 : Shape := ⟨3, ![2064, 2064, 1]⟩
abbrev S2064x2064x2x4 : Shape := ⟨4, ![2064, 2064, 2, 4]⟩
abbrev S2x4x2064x2064 : Shape := ⟨4, ![2, 4, 2064, 2064]⟩
abbrev S1x2x4x2064x2064 : Shape := ⟨5, ![1, 2, 4, 2064, 2064]⟩
abbrev S2x4 : Shape := ⟨2, ![2, 4]⟩
abbrev S2x4x1x1 : Shape := ⟨4, ![2, 4, 1, 1]⟩
abbrev S2x2x4x2064 : Shape := ⟨4, ![2, 2, 4, 2064]⟩
abbrev S2x2x4x2064x1 : Shape := ⟨5, ![2, 2, 4, 2064, 1]⟩
abbrev S1x2x4x1x1 : Shape := ⟨5, ![1, 2, 4, 1, 1]⟩
abbrev S2x2x64x4x2064 : Shape := ⟨5, ![2, 2, 64, 4, 2064]⟩
abbrev S2x2064x2x4 : Shape := ⟨4, ![2, 2064, 2, 4]⟩
abbrev S2x2064x8 : Shape := ⟨3, ![2, 2064, 8]⟩
abbrev S2x2064x1536 : Shape := ⟨3, ![2, 2064, 1536]⟩
abbrev S2x2064x2x1x64 : Shape := ⟨5, ![2, 2064, 2, 1, 64]⟩
abbrev S2x2064x2x2x64 : Shape := ⟨5, ![2, 2064, 2, 2, 64]⟩
abbrev S2x2064x256 : Shape := ⟨3, ![2, 2064, 256]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S4x128x512 : Shape := ⟨3, ![4, 128, 512]⟩
abbrev S4x1x128x512 : Shape := ⟨4, ![4, 1, 128, 512]⟩
abbrev S4x128x512x1 : Shape := ⟨4, ![4, 128, 512, 1]⟩
abbrev S4x128x512x8 : Shape := ⟨4, ![4, 128, 512, 8]⟩
abbrev S4x8x128x512 : Shape := ⟨4, ![4, 8, 128, 512]⟩
abbrev S8x1x1 : Shape := ⟨3, ![8, 1, 1]⟩
abbrev S2x2064x120 : Shape := ⟨3, ![2, 2064, 120]⟩
abbrev S2x2064x128 : Shape := ⟨3, ![2, 2064, 128]⟩
abbrev S2x112x128 : Shape := ⟨3, ![2, 112, 128]⟩
abbrev S2x2048x128 : Shape := ⟨3, ![2, 2048, 128]⟩
abbrev S2x16x128 : Shape := ⟨3, ![2, 16, 128]⟩
abbrev S2x2176x128 : Shape := ⟨3, ![2, 2176, 128]⟩
abbrev S4352x128 : Shape := ⟨2, ![4352, 128]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S4352x256 : Shape := ⟨2, ![4352, 256]⟩
abbrev S2x4x8x128x512 : Shape := ⟨5, ![2, 4, 8, 128, 512]⟩
abbrev S2176x256 : Shape := ⟨2, ![2176, 256]⟩
abbrev S1x8x128x512 : Shape := ⟨4, ![1, 8, 128, 512]⟩
abbrev S128x128 : Shape := ⟨2, ![128, 128]⟩
abbrev S1x1x8x128x512 : Shape := ⟨5, ![1, 1, 8, 128, 512]⟩
abbrev S384x128 : Shape := ⟨2, ![384, 128]⟩
abbrev S512x128 : Shape := ⟨2, ![512, 128]⟩
abbrev S1x1x128x512 : Shape := ⟨4, ![1, 1, 128, 512]⟩
abbrev S1x1x1x128x512 : Shape := ⟨5, ![1, 1, 1, 128, 512]⟩
abbrev S512x512 : Shape := ⟨2, ![512, 512]⟩

abbrev nBuf : Space → Nat
  | .hbm => 357
  | .vmem => 22
  | .smem => 0
  | _ => 0

abbrev hbmTy0_0 (i : Nat) : BufTy := match i % 128 with
  | 0 => ⟨S2x2064x512, .f32⟩
  | 1 => ⟨S2x2064x2x64, .f32⟩
  | 2 => ⟨S2x2064x2x64, .f32⟩
  | 3 => ⟨S32x8, .f32⟩
  | 4 => ⟨S8, .f32⟩
  | 5 => ⟨S2x2064x512, .f32⟩
  | 6 => ⟨S2x2064x2x4x64, .f32⟩
  | 7 => ⟨S2064x2064, .i32⟩
  | 8 => ⟨S2064x2064, .i32⟩
  | 9 => ⟨S_, .i32⟩
  | 10 => ⟨S2064x2064, .i32⟩
  | 11 => ⟨S2064x2064, .i1⟩
  | 12 => ⟨S2064x2064, .i32⟩
  | 13 => ⟨S2064x2064, .i32⟩
  | 14 => ⟨S_, .i32⟩
  | 15 => ⟨S2064x2064, .i32⟩
  | 16 => ⟨S2064x2064, .i1⟩
  | 17 => ⟨S2064x2064, .i1⟩
  | 18 => ⟨S2x2x2064x2064x4, .f32⟩
  | 19 => ⟨S2x2x4x2064x2064, .f32⟩
  | 20 => ⟨S_, .f32⟩
  | 21 => ⟨S2x2x4x2064x2064, .f32⟩
  | 22 => ⟨S2x2x4x2064x2064, .f32⟩
  | 23 => ⟨S32x2x4, .f32⟩
  | 24 => ⟨S2064x2064, .i32⟩
  | 25 => ⟨S_, .i32⟩
  | 26 => ⟨S2064x2064, .i32⟩
  | 27 => ⟨S2064x2064, .i1⟩
  | 28 => ⟨S_, .i32⟩
  | 29 => ⟨S_, .i32⟩
  | 30 => ⟨S2064x2064, .i32⟩
  | 31 => ⟨S2064x2064, .i32⟩
  | 32 => ⟨S2064x2064, .i32⟩
  | 33 => ⟨S2064x2064, .i32⟩
  | 34 => ⟨S_, .i32⟩
  | 35 => ⟨S2064x2064, .i32⟩
  | 36 => ⟨S2064x2064, .i32⟩
  | 37 => ⟨S2064x2064, .f32⟩
  | 38 => ⟨S_, .f32⟩
  | 39 => ⟨S2064x2064, .f32⟩
  | 40 => ⟨S2064x2064, .f32⟩
  | 41 => ⟨S2064x2064, .f32⟩
  | 42 => ⟨S_, .f32⟩
  | 43 => ⟨S2064x2064, .f32⟩
  | 44 => ⟨S2064x2064, .f32⟩
  | 45 => ⟨S_, .f32⟩
  | 46 => ⟨S2064x2064, .f32⟩
  | 47 => ⟨S2064x2064, .f32⟩
  | 48 => ⟨S2064x2064, .i32⟩
  | 49 => ⟨S_, .i32⟩
  | 50 => ⟨S2064x2064, .i32⟩
  | 51 => ⟨S2064x2064, .i32⟩
  | 52 => ⟨S_, .i32⟩
  | 53 => ⟨S2064x2064, .i32⟩
  | 54 => ⟨S2064x2064, .i32⟩
  | 55 => ⟨S_, .i32⟩
  | 56 => ⟨S2064x2064, .i32⟩
  | 57 => ⟨S2064x2064, .i1⟩
  | 58 => ⟨S2064x2064, .i32⟩
  | 59 => ⟨S2064x2064, .i32⟩
  | 60 => ⟨S2064x2064, .i32⟩
  | 61 => ⟨S_, .i32⟩
  | 62 => ⟨S2064x2064, .i32⟩
  | 63 => ⟨S2064x2064, .i1⟩
  | 64 => ⟨S_, .i32⟩
  | 65 => ⟨S2064x2064, .i32⟩
  | 66 => ⟨S2064x2064, .i32⟩
  | 67 => ⟨S2064x2064, .i32⟩
  | 68 => ⟨S2064x2064x1, .i32⟩
  | 69 => ⟨S2064x2064x2x4, .f32⟩
  | 70 => ⟨S2x4x2064x2064, .f32⟩
  | 71 => ⟨S1x2x4x2064x2064, .f32⟩
  | 72 => ⟨S2x2x4x2064x2064, .f32⟩
  | 73 => ⟨S2x2x4x2064x2064, .f32⟩
  | 74 => ⟨S_, .f32⟩
  | 75 => ⟨S_, .f32⟩
  | 76 => ⟨S2x2x4x2064x2064, .i1⟩
  | 77 => ⟨S2x2x4x2064x2064, .f32⟩
  | 78 => ⟨S2x2x4x2064x2064, .f32⟩
  | 79 => ⟨S2x4, .f32⟩
  | 80 => ⟨S2x4x1x1, .f32⟩
  | 81 => ⟨S_, .f32⟩
  | 82 => ⟨S2x2x4x2064, .f32⟩
  | 83 => ⟨S2x2x4x2064x1, .f32⟩
  | 84 => ⟨S1x2x4x1x1, .f32⟩
  | 85 => ⟨S2x2x4x2064x1, .f32⟩
  | 86 => ⟨S2x2x4x2064x1, .f32⟩
  | 87 => ⟨S2x2x4x2064x2064, .f32⟩
  | 88 => ⟨S2x2x4x2064x2064, .f32⟩
  | 89 => ⟨S2x2x4x2064x2064, .f32⟩
  | 90 => ⟨S_, .f32⟩
  | 91 => ⟨S2x2x4x2064, .f32⟩
  | 92 => ⟨S2x2x4x2064x1, .f32⟩
  | 93 => ⟨S1x2x4x1x1, .f32⟩
  | 94 => ⟨S2x2x4x2064x1, .f32⟩
  | 95 => ⟨S2x2x4x2064x1, .f32⟩
  | 96 => ⟨S2x2x4x2064x1, .f32⟩
  | 97 => ⟨S2x2x4x2064x1, .f32⟩
  | 98 => ⟨S2x2x4x2064x2064, .f32⟩
  | 99 => ⟨S2x2x4x2064x2064, .f32⟩
  | 100 => ⟨S2x2x64x4x2064, .f32⟩
  | 101 => ⟨S2x2064x2x4x64, .f32⟩
  | 102 => ⟨S2x2064x512, .f32⟩
  | 103 => ⟨S2x2x4x2064x1, .f32⟩
  | 104 => ⟨S2x2x4x2064x1, .f32⟩
  | 105 => ⟨S2x2x4x2064, .f32⟩
  | 106 => ⟨S2x2064x2x4, .f32⟩
  | 107 => ⟨S2x2064x8, .f32⟩
  | 108 => ⟨S_, .f32⟩
  | 109 => ⟨S2x2064x1536, .f32⟩
  | 110 => ⟨S2x2064x2x1x64, .f32⟩
  | 111 => ⟨S2x2064x2x1x64, .f32⟩
  | 112 => ⟨S2x2064x2x2x64, .f32⟩
  | 113 => ⟨S2x2064x256, .f32⟩
  | 114 => ⟨S2x2064x2x1x64, .f32⟩
  | 115 => ⟨S2x2064x2x1x64, .f32⟩
  | 116 => ⟨S2x2064x2x2x64, .f32⟩
  | 117 => ⟨S2x2064x256, .f32⟩
  | 118 => ⟨S2x2064x2560, .f32⟩
  | 119 => ⟨S_, .f32⟩
  | 120 => ⟨S2x112x2560, .f32⟩
  | 121 => ⟨S2x2048x2560, .f32⟩
  | 122 => ⟨S2x16x2560, .f32⟩
  | 123 => ⟨S2x2176x2560, .f32⟩
  | 124 => ⟨S4352x2560, .f32⟩
  | 125 => ⟨S128, .i32⟩
  | 126 => ⟨S128x1, .i32⟩
  | 127 => ⟨S512, .i32⟩
  | _ => ⟨S2x2064x512, .f32⟩

abbrev hbmTy0_1 (i : Nat) : BufTy := match i % 128 with
  | 0 => ⟨S1x512, .i32⟩
  | 1 => ⟨S_, .i32⟩
  | 2 => ⟨S1x512, .i32⟩
  | 3 => ⟨S1x512, .i1⟩
  | 4 => ⟨S_, .i32⟩
  | 5 => ⟨S1x512, .i32⟩
  | 6 => ⟨S1x512, .i1⟩
  | 7 => ⟨S1x512, .i1⟩
  | 8 => ⟨S_, .i32⟩
  | 9 => ⟨S1x512, .i32⟩
  | 10 => ⟨S1x512, .i32⟩
  | 11 => ⟨S_, .i32⟩
  | 12 => ⟨S1x512, .i32⟩
  | 13 => ⟨S1x512, .i32⟩
  | 14 => ⟨S128x512, .i32⟩
  | 15 => ⟨S128x512, .i32⟩
  | 16 => ⟨S128x512, .i32⟩
  | 17 => ⟨S_, .i32⟩
  | 18 => ⟨S1x512, .i32⟩
  | 19 => ⟨S1x512, .i1⟩
  | 20 => ⟨S128x512, .i32⟩
  | 21 => ⟨S_, .i32⟩
  | 22 => ⟨S128x512, .i32⟩
  | 23 => ⟨S128x512, .i1⟩
  | 24 => ⟨S128x512, .i1⟩
  | 25 => ⟨S128x512, .i1⟩
  | 26 => ⟨S_, .i32⟩
  | 27 => ⟨S128x1, .i32⟩
  | 28 => ⟨S128x1, .i32⟩
  | 29 => ⟨S128x512, .i32⟩
  | 30 => ⟨S128x512, .i32⟩
  | 31 => ⟨S128x512, .i32⟩
  | 32 => ⟨S128x512, .i1⟩
  | 33 => ⟨S128x512, .i32⟩
  | 34 => ⟨S128x512, .i1⟩
  | 35 => ⟨S128x512, .i1⟩
  | 36 => ⟨S_, .i32⟩
  | 37 => ⟨S1x512, .i32⟩
  | 38 => ⟨S1x512, .i32⟩
  | 39 => ⟨S128x512, .i32⟩
  | 40 => ⟨S128x512, .i32⟩
  | 41 => ⟨S128x512, .i32⟩
  | 42 => ⟨S_, .i32⟩
  | 43 => ⟨S1x512, .i32⟩
  | 44 => ⟨S1x512, .i1⟩
  | 45 => ⟨S128x512, .i32⟩
  | 46 => ⟨S_, .i32⟩
  | 47 => ⟨S128x512, .i32⟩
  | 48 => ⟨S128x512, .i1⟩
  | 49 => ⟨S128x512, .i1⟩
  | 50 => ⟨S128x512, .i1⟩
  | 51 => ⟨S128x512, .i32⟩
  | 52 => ⟨S128x512, .i32⟩
  | 53 => ⟨S128x512, .i32⟩
  | 54 => ⟨S_, .i32⟩
  | 55 => ⟨S128x512, .i32⟩
  | 56 => ⟨S128x512, .i1⟩
  | 57 => ⟨S128x512, .i32⟩
  | 58 => ⟨S128x512, .i1⟩
  | 59 => ⟨S128x512, .i1⟩
  | 60 => ⟨S_, .i32⟩
  | 61 => ⟨S1x512, .i32⟩
  | 62 => ⟨S1x512, .i32⟩
  | 63 => ⟨S128x512, .i32⟩
  | 64 => ⟨S128x512, .i32⟩
  | 65 => ⟨S128x512, .i32⟩
  | 66 => ⟨S_, .i32⟩
  | 67 => ⟨S1x512, .i32⟩
  | 68 => ⟨S1x512, .i1⟩
  | 69 => ⟨S128x512, .i32⟩
  | 70 => ⟨S_, .i32⟩
  | 71 => ⟨S128x512, .i32⟩
  | 72 => ⟨S128x512, .i1⟩
  | 73 => ⟨S128x512, .i1⟩
  | 74 => ⟨S128x512, .i1⟩
  | 75 => ⟨S128x512, .i32⟩
  | 76 => ⟨S128x512, .i32⟩
  | 77 => ⟨S128x512, .i32⟩
  | 78 => ⟨S_, .i32⟩
  | 79 => ⟨S128x512, .i32⟩
  | 80 => ⟨S128x512, .i1⟩
  | 81 => ⟨S128x512, .i32⟩
  | 82 => ⟨S128x512, .i1⟩
  | 83 => ⟨S128x512, .i1⟩
  | 84 => ⟨S_, .i32⟩
  | 85 => ⟨S128x1, .i32⟩
  | 86 => ⟨S128x1, .i1⟩
  | 87 => ⟨S_, .i32⟩
  | 88 => ⟨S1x512, .i32⟩
  | 89 => ⟨S1x512, .i32⟩
  | 90 => ⟨S128x512, .i32⟩
  | 91 => ⟨S128x512, .i32⟩
  | 92 => ⟨S128x512, .i32⟩
  | 93 => ⟨S_, .i32⟩
  | 94 => ⟨S1x512, .i32⟩
  | 95 => ⟨S1x512, .i1⟩
  | 96 => ⟨S128x512, .i32⟩
  | 97 => ⟨S_, .i32⟩
  | 98 => ⟨S128x512, .i32⟩
  | 99 => ⟨S128x512, .i1⟩
  | 100 => ⟨S128x512, .i1⟩
  | 101 => ⟨S128x512, .i1⟩
  | 102 => ⟨S128x512, .i1⟩
  | 103 => ⟨S128x512, .i1⟩
  | 104 => ⟨S128x512, .i32⟩
  | 105 => ⟨S128x512, .i32⟩
  | 106 => ⟨S128x512, .i32⟩
  | 107 => ⟨S128x512, .i1⟩
  | 108 => ⟨S128x512, .i32⟩
  | 109 => ⟨S128x512, .i1⟩
  | 110 => ⟨S128x512, .i1⟩
  | 111 => ⟨S1x128x512, .i32⟩
  | 112 => ⟨S1x128x512, .i32⟩
  | 113 => ⟨S1x128x512, .i32⟩
  | 114 => ⟨S1x128x512, .i32⟩
  | 115 => ⟨S4x128x512, .i32⟩
  | 116 => ⟨S1x128x512, .i1⟩
  | 117 => ⟨S1x128x512, .i1⟩
  | 118 => ⟨S1x128x512, .i1⟩
  | 119 => ⟨S1x128x512, .i1⟩
  | 120 => ⟨S4x128x512, .i1⟩
  | 121 => ⟨S_, .i32⟩
  | 122 => ⟨S4x128x512, .i32⟩
  | 123 => ⟨S4x128x512, .i1⟩
  | 124 => ⟨S_, .i32⟩
  | 125 => ⟨S_, .i32⟩
  | 126 => ⟨S4x128x512, .i32⟩
  | 127 => ⟨S4x128x512, .i32⟩
  | _ => ⟨S2x2064x512, .f32⟩

abbrev hbmTy0_2 (i : Nat) : BufTy := match i % 128 with
  | 0 => ⟨S4x128x512, .i32⟩
  | 1 => ⟨S4x128x512, .i32⟩
  | 2 => ⟨S_, .i32⟩
  | 3 => ⟨S4x128x512, .i32⟩
  | 4 => ⟨S4x128x512, .i32⟩
  | 5 => ⟨S4x128x512, .f32⟩
  | 6 => ⟨S_, .f32⟩
  | 7 => ⟨S4x128x512, .f32⟩
  | 8 => ⟨S4x128x512, .f32⟩
  | 9 => ⟨S4x128x512, .f32⟩
  | 10 => ⟨S_, .f32⟩
  | 11 => ⟨S4x128x512, .f32⟩
  | 12 => ⟨S4x128x512, .f32⟩
  | 13 => ⟨S_, .f32⟩
  | 14 => ⟨S4x128x512, .f32⟩
  | 15 => ⟨S4x128x512, .f32⟩
  | 16 => ⟨S4x128x512, .i32⟩
  | 17 => ⟨S_, .i32⟩
  | 18 => ⟨S4x128x512, .i32⟩
  | 19 => ⟨S4x128x512, .i32⟩
  | 20 => ⟨S_, .i32⟩
  | 21 => ⟨S4x128x512, .i32⟩
  | 22 => ⟨S4x128x512, .i32⟩
  | 23 => ⟨S_, .i32⟩
  | 24 => ⟨S4x128x512, .i32⟩
  | 25 => ⟨S4x128x512, .i1⟩
  | 26 => ⟨S4x128x512, .i32⟩
  | 27 => ⟨S4x128x512, .i32⟩
  | 28 => ⟨S4x128x512, .i32⟩
  | 29 => ⟨S_, .i32⟩
  | 30 => ⟨S_, .i32⟩
  | 31 => ⟨S4x128x512, .i32⟩
  | 32 => ⟨S4x128x512, .i32⟩
  | 33 => ⟨S4x1x128x512, .i32⟩
  | 34 => ⟨S_, .i32⟩
  | 35 => ⟨S4x1x128x512, .i32⟩
  | 36 => ⟨S4x1x128x512, .i1⟩
  | 37 => ⟨S4x128x512, .i32⟩
  | 38 => ⟨S_, .i32⟩
  | 39 => ⟨S4x128x512, .i32⟩
  | 40 => ⟨S4x128x512, .i32⟩
  | 41 => ⟨S_, .i32⟩
  | 42 => ⟨S4x128x512, .i32⟩
  | 43 => ⟨S4x128x512, .i1⟩
  | 44 => ⟨S_, .i32⟩
  | 45 => ⟨S4x128x512, .i32⟩
  | 46 => ⟨S4x128x512, .i32⟩
  | 47 => ⟨S4x128x512, .i32⟩
  | 48 => ⟨S4x128x512x1, .i32⟩
  | 49 => ⟨S4x128x512x8, .f32⟩
  | 50 => ⟨S4x8x128x512, .f32⟩
  | 51 => ⟨S_, .f32⟩
  | 52 => ⟨S4x8x128x512, .f32⟩
  | 53 => ⟨S4x8x128x512, .f32⟩
  | 54 => ⟨S_, .f32⟩
  | 55 => ⟨S_, .f32⟩
  | 56 => ⟨S4x8x128x512, .i1⟩
  | 57 => ⟨S4x8x128x512, .f32⟩
  | 58 => ⟨S4x8x128x512, .f32⟩
  | 59 => ⟨S4x8x128x512, .i32⟩
  | 60 => ⟨S_, .i32⟩
  | 61 => ⟨S4x8x128x512, .i32⟩
  | 62 => ⟨S4x8x128x512, .i1⟩
  | 63 => ⟨S8x1x1, .f32⟩
  | 64 => ⟨S_, .f32⟩
  | 65 => ⟨S8x1x1, .f32⟩
  | 66 => ⟨S8x1x1, .f32⟩
  | 67 => ⟨S4x8x128x512, .f32⟩
  | 68 => ⟨S4x8x128x512, .f32⟩
  | 69 => ⟨S_, .f32⟩
  | 70 => ⟨S2x2064x8, .f32⟩
  | 71 => ⟨S2x2064x8, .f32⟩
  | 72 => ⟨S_, .f32⟩
  | 73 => ⟨S2x2064x120, .f32⟩
  | 74 => ⟨S2x2064x128, .f32⟩
  | 75 => ⟨S_, .f32⟩
  | 76 => ⟨S2x112x128, .f32⟩
  | 77 => ⟨S2x2048x128, .f32⟩
  | 78 => ⟨S2x16x128, .f32⟩
  | 79 => ⟨S2x2176x128, .f32⟩
  | 80 => ⟨S4352x128, .f32⟩
  | 81 => ⟨S_, .f32⟩
  | 82 => ⟨S2x112x512, .f32⟩
  | 83 => ⟨S2x2048x512, .f32⟩
  | 84 => ⟨S2x16x512, .f32⟩
  | 85 => ⟨S2x2176x512, .f32⟩
  | 86 => ⟨S4352x512, .f32⟩
  | 87 => ⟨S_, .f32⟩
  | 88 => ⟨S2x112x512, .f32⟩
  | 89 => ⟨S2x2048x512, .f32⟩
  | 90 => ⟨S2x16x512, .f32⟩
  | 91 => ⟨S2x2176x512, .f32⟩
  | 92 => ⟨S4352x512, .f32⟩
  | 93 => ⟨S4352x512, .f32⟩
  | 94 => ⟨S4352x256, .f32⟩
  | 95 => ⟨S4352x256, .f32⟩
  | 96 => ⟨S2x4x8x128x512, .f32⟩
  | 97 => ⟨S2x2176x512, .f32⟩
  | 98 => ⟨S2x16x512, .f32⟩
  | 99 => ⟨S2x2048x512, .f32⟩
  | 100 => ⟨S2x2064x512, .f32⟩
  | _ => ⟨S2x2064x512, .f32⟩

abbrev hbmTy (i : Nat) : BufTy := match i / 128 with
  | 0 => hbmTy0_0 i
  | 1 => hbmTy0_1 i
  | 2 => hbmTy0_2 i
  | _ => ⟨S2x2064x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S2176x256, .f32⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S1x8x128x512, .f32⟩
  | .local _ .vmem, ⟨7, _⟩ => ⟨S1x8x128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | .local _ .vmem, ⟨14, _⟩ => ⟨S128x512, .f32⟩
  | .local _ .vmem, ⟨15, _⟩ => ⟨S128x512, .f32⟩
  | .local _ .vmem, ⟨16, _⟩ => ⟨S2176x256, .f32⟩
  | .local _ .vmem, ⟨17, _⟩ => ⟨S2176x256, .f32⟩
  | .local _ .vmem, ⟨18, _⟩ => ⟨S2176x256, .f32⟩
  | .local _ .vmem, ⟨19, _⟩ => ⟨S2176x256, .f32⟩
  | .local _ .vmem, ⟨20, _⟩ => ⟨S1x1x8x128x512, .f32⟩
  | .local _ .vmem, ⟨21, _⟩ => ⟨S1x1x8x128x512, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_18 : Ref sig .tc := ⟨.hbm, 129, rfl⟩
abbrev main_v98 : Ref sig .tc := ⟨.hbm, 130, rfl⟩
abbrev main_v99 : Ref sig .tc := ⟨.hbm, 131, rfl⟩
abbrev main_c_19 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_20 : Ref sig .tc := ⟨.hbm, 136, rfl⟩
abbrev main_v103 : Ref sig .tc := ⟨.hbm, 137, rfl⟩
abbrev main_v104 : Ref sig .tc := ⟨.hbm, 138, rfl⟩
abbrev main_c_21 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_22 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_23 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_24 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_call3_v0 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_25 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_26 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_27 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_28 : Ref sig .tc := ⟨.hbm, 182, rfl⟩
abbrev main_v140 : Ref sig .tc := ⟨.hbm, 183, rfl⟩
abbrev main_call4_v0 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_29 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_c_30 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_c_31 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_c_32 : Ref sig .tc := ⟨.hbm, 206, rfl⟩
abbrev main_v159 : Ref sig .tc := ⟨.hbm, 207, rfl⟩
abbrev main_call5_v0 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_c_33 : Ref sig .tc := ⟨.hbm, 212, rfl⟩
abbrev main_v163 : Ref sig .tc := ⟨.hbm, 213, rfl⟩
abbrev main_v164 : Ref sig .tc := ⟨.hbm, 214, rfl⟩
abbrev main_c_34 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_c_35 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_c_36 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_call6_v0 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_c_37 : Ref sig .tc := ⟨.hbm, 249, rfl⟩
abbrev main_v195 : Ref sig .tc := ⟨.hbm, 250, rfl⟩
abbrev main_v196 : Ref sig .tc := ⟨.hbm, 251, rfl⟩
abbrev main_c_38 : Ref sig .tc := ⟨.hbm, 252, rfl⟩
abbrev main_c_39 : Ref sig .tc := ⟨.hbm, 253, rfl⟩
abbrev main_call7_v0 : Ref sig .tc := ⟨.hbm, 254, rfl⟩
abbrev main_call7_v1 : Ref sig .tc := ⟨.hbm, 255, rfl⟩
abbrev main_v197 : Ref sig .tc := ⟨.hbm, 256, rfl⟩
abbrev main_v198 : Ref sig .tc := ⟨.hbm, 257, rfl⟩
abbrev main_c_40 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_41 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_42 : Ref sig .tc := ⟨.hbm, 266, rfl⟩
abbrev main_v205 : Ref sig .tc := ⟨.hbm, 267, rfl⟩
abbrev main_v206 : Ref sig .tc := ⟨.hbm, 268, rfl⟩
abbrev main_cst_43 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_c_44 : Ref sig .tc := ⟨.hbm, 273, rfl⟩
abbrev main_v210 : Ref sig .tc := ⟨.hbm, 274, rfl⟩
abbrev main_v211 : Ref sig .tc := ⟨.hbm, 275, rfl⟩
abbrev main_c_45 : Ref sig .tc := ⟨.hbm, 276, rfl⟩
abbrev main_v212 : Ref sig .tc := ⟨.hbm, 277, rfl⟩
abbrev main_v213 : Ref sig .tc := ⟨.hbm, 278, rfl⟩
abbrev main_c_46 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_c_47 : Ref sig .tc := ⟨.hbm, 285, rfl⟩
abbrev main_call9_v0 : Ref sig .tc := ⟨.hbm, 286, rfl⟩
abbrev main_call9_v1 : Ref sig .tc := ⟨.hbm, 287, rfl⟩
abbrev main_v219 : Ref sig .tc := ⟨.hbm, 288, rfl⟩
abbrev main_v220 : Ref sig .tc := ⟨.hbm, 289, rfl⟩
abbrev main_c_48 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_c_49 : Ref sig .tc := ⟨.hbm, 294, rfl⟩
abbrev main_v224 : Ref sig .tc := ⟨.hbm, 295, rfl⟩
abbrev main_v225 : Ref sig .tc := ⟨.hbm, 296, rfl⟩
abbrev main_c_50 : Ref sig .tc := ⟨.hbm, 297, rfl⟩
abbrev main_v226 : Ref sig .tc := ⟨.hbm, 298, rfl⟩
abbrev main_v227 : Ref sig .tc := ⟨.hbm, 299, rfl⟩
abbrev main_c_51 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_cst_52 : Ref sig .tc := ⟨.hbm, 307, rfl⟩
abbrev main_v234 : Ref sig .tc := ⟨.hbm, 308, rfl⟩
abbrev main_v235 : Ref sig .tc := ⟨.hbm, 309, rfl⟩
abbrev main_cst_53 : Ref sig .tc := ⟨.hbm, 310, rfl⟩
abbrev main_call10_v0 : Ref sig .tc := ⟨.hbm, 311, rfl⟩
abbrev main_call10_v1 : Ref sig .tc := ⟨.hbm, 312, rfl⟩
abbrev main_call10_v2 : Ref sig .tc := ⟨.hbm, 313, rfl⟩
abbrev main_v236 : Ref sig .tc := ⟨.hbm, 314, rfl⟩
abbrev main_v237 : Ref sig .tc := ⟨.hbm, 315, rfl⟩
abbrev main_c_54 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_cst_55 : Ref sig .tc := ⟨.hbm, 320, rfl⟩
abbrev main_v241 : Ref sig .tc := ⟨.hbm, 321, rfl⟩
abbrev main_v242 : Ref sig .tc := ⟨.hbm, 322, rfl⟩
abbrev main_call11_v0 : Ref sig .tc := ⟨.hbm, 323, rfl⟩
abbrev main_v243 : Ref sig .tc := ⟨.hbm, 324, rfl⟩
abbrev main_cst_56 : Ref sig .tc := ⟨.hbm, 325, rfl⟩
abbrev main_v244 : Ref sig .tc := ⟨.hbm, 326, rfl⟩
abbrev main_v245 : Ref sig .tc := ⟨.hbm, 327, rfl⟩
abbrev main_cst_57 : Ref sig .tc := ⟨.hbm, 328, rfl⟩
abbrev main_v246 : Ref sig .tc := ⟨.hbm, 329, rfl⟩
abbrev main_v247 : Ref sig .tc := ⟨.hbm, 330, rfl⟩
abbrev main_cst_58 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_cst_59 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_cst_60 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263_0 : Ref sig .tc := ⟨.hbm, 349, rfl⟩
abbrev main_v263_1 : Ref sig .tc := ⟨.hbm, 350, rfl⟩
abbrev main_v263_2 : Ref sig .tc := ⟨.hbm, 351, rfl⟩
abbrev main_v263_3 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 17], ![false, false]⟩

def k0_mult1 (i : grid0.Coords) : BitVec 32 :=
  let arg1 : BitVec 32 := BitVec.ofNat 32 (i 1).val
  let c16_i32_3 : BitVec 32 := 16#32
  let v12 : BitVec 1 := Scalar.cmpi .eq arg1 c16_i32_3
  let c0_i32_6 : BitVec 32 := 0#32
  let c13_i32 : BitVec 32 := 13#32
  let c0_i32_5 : BitVec 32 := 0#32
  let c1_i32_4 : BitVec 32 := 1#32
  let v13 : BitVec 32 := Scalar.subi arg1 c1_i32_4
  let v14 : BitVec 32 := Scalar.maxsi c0_i32_5 v13
  let v15 : BitVec 32 := Scalar.minsi c13_i32 v14
  let v16 : BitVec 32 := Scalar.select v12 c0_i32_6 v15
  let c128_i32 : BitVec 32 := 128#32
  let v17 : BitVec 32 := Scalar.muli v16 c128_i32
  v17
def k0_off1 (i : grid0.Coords) : Fin 2 → Nat :=
  let arg1 : BitVec 32 := BitVec.ofNat 32 (i 1).val
  let c16_i32_3 : BitVec 32 := 16#32
  let v12 : BitVec 1 := Scalar.cmpi .eq arg1 c16_i32_3
  let c0_i32_6 : BitVec 32 := 0#32
  let c13_i32 : BitVec 32 := 13#32
  let c0_i32_5 : BitVec 32 := 0#32
  let c1_i32_4 : BitVec 32 := 1#32
  let v13 : BitVec 32 := Scalar.subi arg1 c1_i32_4
  let v14 : BitVec 32 := Scalar.maxsi c0_i32_5 v13
  let v15 : BitVec 32 := Scalar.minsi c13_i32 v14
  let v16 : BitVec 32 := Scalar.select v12 c0_i32_6 v15
  let c128_i32 : BitVec 32 := 128#32
  let v17 : BitVec 32 := Scalar.muli v16 c128_i32
  let v18 : BitVec 32 := v17
  let v24 : Index := Scalar.indexCast v18
  let c0_8 : Index := 0#32
  ![v24.toNat, 0]
def k0_off2 (i : grid0.Coords) : Fin 2 → Nat :=
  let arg1 : BitVec 32 := BitVec.ofNat 32 (i 1).val
  let c16_i32_3 : BitVec 32 := 16#32
  let v12 : BitVec 1 := Scalar.cmpi .eq arg1 c16_i32_3
  let c0_i32_6 : BitVec 32 := 0#32
  let c13_i32 : BitVec 32 := 13#32
  let c0_i32_5 : BitVec 32 := 0#32
  let c1_i32_4 : BitVec 32 := 1#32
  let v13 : BitVec 32 := Scalar.subi arg1 c1_i32_4
  let v14 : BitVec 32 := Scalar.maxsi c0_i32_5 v13
  let v15 : BitVec 32 := Scalar.minsi c13_i32 v14
  let v16 : BitVec 32 := Scalar.select v12 c0_i32_6 v15
  let c128_i32 : BitVec 32 := 128#32
  let v17 : BitVec 32 := Scalar.muli v16 c128_i32
  let v18 : BitVec 32 := v17
  let v47 : Index := Scalar.indexCast v18
  let c128 : Index := 128#32
  ![v47.toNat, 128]
def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .slt arg1 c15_i32
  let c15_i32_0 : BitVec 32 := 15#32
  let v2 : BitVec 1 := Scalar.cmpi .eq arg1 c15_i32_0
  let c2_i32 : BitVec 32 := 2#32
  let c3_i32 : BitVec 32 := 3#32
  let v3 : BitVec 32 := Scalar.select v2 c2_i32 c3_i32
  let c1_i32 : BitVec 32 := 1#32
  let v4 : BitVec 32 := Scalar.select v1 c1_i32 v3
  let c0_i32_1 : BitVec 32 := 0#32
  let v5 : BitVec 32 := Scalar.select v0 c0_i32_1 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .slt arg1 c15_i32
  let c15_i32_0 : BitVec 32 := 15#32
  let v2 : BitVec 1 := Scalar.cmpi .eq arg1 c15_i32_0
  let c2_i32 : BitVec 32 := 2#32
  let c3_i32 : BitVec 32 := 3#32
  let v3 : BitVec 32 := Scalar.select v2 c2_i32 c3_i32
  let c1_i32 : BitVec 32 := 1#32
  let v4 : BitVec 32 := Scalar.select v1 c1_i32 v3
  let c0_i32_1 : BitVec 32 := 0#32
  let v5 : BitVec 32 := Scalar.select v0 c0_i32_1 v4
  let c0_i32_2 : BitVec 32 := 0#32
  let c0_i32_3 : BitVec 32 := 0#32
  let c0_i32_4 : BitVec 32 := 0#32
  let c0_i32_5 : BitVec 32 := 0#32
  ![arg0.toNat, v5.toNat, c0_i32_2.toNat, c0_i32_3.toNat, c0_i32_4.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2176x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WinRefIdeal.lean ====
abbrev S2x2064x512 : Shape := ⟨3, ![2, 2064, 512]⟩
abbrev S2x2064x2x64 : Shape := ⟨4, ![2, 2064, 2, 64]⟩
abbrev S32x8 : Shape := ⟨2, ![32, 8]⟩
abbrev S8 : Shape := ⟨1, ![8]⟩
abbrev S2064x2064 : Shape := ⟨2, ![2064, 2064]⟩
abbrev S_ : Shape := ⟨0, ![]⟩
abbrev S2x2064x2x4x64 : Shape := ⟨5, ![2, 2064, 2, 4, 64]⟩
abbrev S2064x2064x1 : Shape := ⟨3, ![2064, 2064, 1]⟩
abbrev S2064x2064x8 : Shape := ⟨3, ![2064, 2064, 8]⟩
abbrev S8x2064x2064 : Shape := ⟨3, ![8, 2064, 2064]⟩
abbrev S2x2x2064x2064x4 : Shape := ⟨5, ![2, 2, 2064, 2064, 4]⟩
abbrev S2x2x4x2064x2064 : Shape := ⟨5, ![2, 2, 4, 2064, 2064]⟩
abbrev S2x8x2064x2064 : Shape := ⟨4, ![2, 8, 2064, 2064]⟩
abbrev S1x8x2064x2064 : Shape := ⟨4, ![1, 8, 2064, 2064]⟩
abbrev S8x1x1 : Shape := ⟨3, ![8, 1, 1]⟩
abbrev S2x8x2064 : Shape := ⟨3, ![2, 8, 2064]⟩
abbrev S2x8x2064x1 : Shape := ⟨4, ![2, 8, 2064, 1]⟩
abbrev S1x8x1x1 : Shape := ⟨4, ![1, 8, 1, 1]⟩
abbrev S2x2x64x4x2064 : Shape := ⟨5, ![2, 2, 64, 4, 2064]⟩
abbrev S2x2x64x2064 : Shape := ⟨4, ![2, 2, 64, 2064]⟩
abbrev S8x1 : Shape := ⟨2, ![8, 1]⟩
abbrev S2x2x2064x4x64 : Shape := ⟨5, ![2, 2, 2064, 4, 64]⟩
abbrev S2x2x2064x64 : Shape := ⟨4, ![2, 2, 2064, 64]⟩

abbrev nBuf : Space → Nat
  | .hbm => 211
  | .vmem => 0
  | .smem => 0
  | _ => 0

abbrev hbmTy0_0 (i : Nat) : BufTy := match i % 128 with
  | 0 => ⟨S2x2064x512, .f32⟩
  | 1 => ⟨S2x2064x2x64, .f32⟩
  | 2 => ⟨S2x2064x2x64, .f32⟩
  | 3 => ⟨S32x8, .f32⟩
  | 4 => ⟨S8, .f32⟩
  | 5 => ⟨S2x2064x512, .f32⟩
  | 6 => ⟨S2064x2064, .i32⟩
  | 7 => ⟨S2064x2064, .i32⟩
  | 8 => ⟨S_, .i32⟩
  | 9 => ⟨S2064x2064, .i32⟩
  | 10 => ⟨S2064x2064, .i1⟩
  | 11 => ⟨S2064x2064, .i32⟩
  | 12 => ⟨S2064x2064, .i32⟩
  | 13 => ⟨S_, .i32⟩
  | 14 => ⟨S2064x2064, .i32⟩
  | 15 => ⟨S2064x2064, .i1⟩
  | 16 => ⟨S2064x2064, .i1⟩
  | 17 => ⟨S2064x2064, .i32⟩
  | 18 => ⟨S_, .i32⟩
  | 19 => ⟨S2064x2064, .i32⟩
  | 20 => ⟨S2064x2064, .i1⟩
  | 21 => ⟨S_, .i32⟩
  | 22 => ⟨S_, .i32⟩
  | 23 => ⟨S2064x2064, .i32⟩
  | 24 => ⟨S2064x2064, .i32⟩
  | 25 => ⟨S2064x2064, .i32⟩
  | 26 => ⟨S2064x2064, .i32⟩
  | 27 => ⟨S_, .i32⟩
  | 28 => ⟨S2064x2064, .i32⟩
  | 29 => ⟨S2064x2064, .i32⟩
  | 30 => ⟨S2064x2064, .f32⟩
  | 31 => ⟨S_, .f32⟩
  | 32 => ⟨S2064x2064, .f32⟩
  | 33 => ⟨S2064x2064, .f32⟩
  | 34 => ⟨S2064x2064, .f32⟩
  | 35 => ⟨S_, .f32⟩
  | 36 => ⟨S2064x2064, .f32⟩
  | 37 => ⟨S2064x2064, .f32⟩
  | 38 => ⟨S_, .f32⟩
  | 39 => ⟨S2064x2064, .f32⟩
  | 40 => ⟨S2064x2064, .f32⟩
  | 41 => ⟨S2064x2064, .i32⟩
  | 42 => ⟨S_, .i32⟩
  | 43 => ⟨S2064x2064, .i32⟩
  | 44 => ⟨S2064x2064, .i32⟩
  | 45 => ⟨S_, .i32⟩
  | 46 => ⟨S2064x2064, .i32⟩
  | 47 => ⟨S2064x2064, .i32⟩
  | 48 => ⟨S_, .i32⟩
  | 49 => ⟨S2064x2064, .i32⟩
  | 50 => ⟨S2064x2064, .i1⟩
  | 51 => ⟨S2064x2064, .i32⟩
  | 52 => ⟨S2064x2064, .i32⟩
  | 53 => ⟨S2064x2064, .i32⟩
  | 54 => ⟨S2x2064x2x4x64, .f32⟩
  | 55 => ⟨S_, .i32⟩
  | 56 => ⟨S2064x2064, .i32⟩
  | 57 => ⟨S2064x2064, .i1⟩
  | 58 => ⟨S_, .i32⟩
  | 59 => ⟨S2064x2064, .i32⟩
  | 60 => ⟨S2064x2064, .i32⟩
  | 61 => ⟨S2064x2064, .i32⟩
  | 62 => ⟨S2064x2064x1, .i32⟩
  | 63 => ⟨S2064x2064x8, .f32⟩
  | 64 => ⟨S8x2064x2064, .f32⟩
  | 65 => ⟨S2x2x2064x2064x4, .f32⟩
  | 66 => ⟨S2x2x4x2064x2064, .f32⟩
  | 67 => ⟨S_, .f32⟩
  | 68 => ⟨S2x2x4x2064x2064, .f32⟩
  | 69 => ⟨S2x2x4x2064x2064, .f32⟩
  | 70 => ⟨S2x8x2064x2064, .f32⟩
  | 71 => ⟨S1x8x2064x2064, .f32⟩
  | 72 => ⟨S2x8x2064x2064, .f32⟩
  | 73 => ⟨S2x8x2064x2064, .f32⟩
  | 74 => ⟨S_, .f32⟩
  | 75 => ⟨S_, .f32⟩
  | 76 => ⟨S2x8x2064x2064, .i1⟩
  | 77 => ⟨S2x8x2064x2064, .f32⟩
  | 78 => ⟨S2x8x2064x2064, .f32⟩
  | 79 => ⟨S_, .f32⟩
  | 80 => ⟨S2x8x2064x2064, .f32⟩
  | 81 => ⟨S8x1x1, .f32⟩
  | 82 => ⟨S_, .f32⟩
  | 83 => ⟨S2x8x2064, .f32⟩
  | 84 => ⟨S2x8x2064x1, .f32⟩
  | 85 => ⟨S2x8x2064x2064, .f32⟩
  | 86 => ⟨S2x8x2064x2064, .i1⟩
  | 87 => ⟨S2x8x2064x2064, .f32⟩
  | 88 => ⟨S_, .f32⟩
  | 89 => ⟨S2x8x2064, .f32⟩
  | 90 => ⟨S2x8x2064x1, .f32⟩
  | 91 => ⟨S1x8x1x1, .f32⟩
  | 92 => ⟨S2x8x2064x1, .f32⟩
  | 93 => ⟨S2x8x2064x1, .f32⟩
  | 94 => ⟨S2x8x2064x1, .f32⟩
  | 95 => ⟨S2x8x2064x1, .i1⟩
  | 96 => ⟨S2x8x2064x1, .f32⟩
  | 97 => ⟨S2x8x2064x1, .i1⟩
  | 98 => ⟨S_, .f32⟩
  | 99 => ⟨S2x8x2064x1, .f32⟩
  | 100 => ⟨S_, .f32⟩
  | 101 => ⟨S2x8x2064x1, .f32⟩
  | 102 => ⟨S_, .f32⟩
  | 103 => ⟨S2x8x2064x1, .f32⟩
  | 104 => ⟨S2x8x2064x1, .f32⟩
  | 105 => ⟨S2x8x2064x1, .f32⟩
  | 106 => ⟨S2x8x2064x1, .f32⟩
  | 107 => ⟨S2x8x2064x1, .i1⟩
  | 108 => ⟨S2x8x2064x1, .f32⟩
  | 109 => ⟨S2x8x2064x1, .i1⟩
  | 110 => ⟨S_, .f32⟩
  | 111 => ⟨S2x8x2064x1, .f32⟩
  | 112 => ⟨S_, .f32⟩
  | 113 => ⟨S2x8x2064x1, .f32⟩
  | 114 => ⟨S_, .f32⟩
  | 115 => ⟨S2x8x2064x1, .f32⟩
  | 116 => ⟨S2x8x2064x1, .f32⟩
  | 117 => ⟨S2x8x2064x1, .f32⟩
  | 118 => ⟨S2x8x2064x2064, .f32⟩
  | 119 => ⟨S2x8x2064x2064, .f32⟩
  | 120 => ⟨S2x8x2064x2064, .f32⟩
  | 121 => ⟨S_, .f32⟩
  | 122 => ⟨S2x8x2064, .f32⟩
  | 123 => ⟨S2x8x2064x1, .f32⟩
  | 124 => ⟨S1x8x1x1, .f32⟩
  | 125 => ⟨S2x8x2064x1, .f32⟩
  | 126 => ⟨S2x8x2064x1, .f32⟩
  | 127 => ⟨S2x8x2064x1, .f32⟩
  | _ => ⟨S2x2064x512, .f32⟩

abbrev hbmTy0_1 (i : Nat) : BufTy := match i % 128 with
  | 0 => ⟨S2x8x2064x1, .f32⟩
  | 1 => ⟨S2x8x2064x2064, .f32⟩
  | 2 => ⟨S2x8x2064x2064, .f32⟩
  | 3 => ⟨S2x8x2064x1, .f32⟩
  | 4 => ⟨S_, .f32⟩
  | 5 => ⟨S2x8x2064x1, .f32⟩
  | 6 => ⟨S2x8x2064x1, .f32⟩
  | 7 => ⟨S2x2x4x2064x2064, .f32⟩
  | 8 => ⟨S2x2x64x4x2064, .f32⟩
  | 9 => ⟨S2x2064x2x4x64, .f32⟩
  | 10 => ⟨S2x2064x512, .f32⟩
  | 11 => ⟨S2x2064x2x4x64, .f32⟩
  | 12 => ⟨S2x2x64x4x2064, .f32⟩
  | 13 => ⟨S2x2x4x2064x2064, .f32⟩
  | 14 => ⟨S2x2x64x2064, .f32⟩
  | 15 => ⟨S2x2064x2x64, .f32⟩
  | 16 => ⟨S2x8x2064x2064, .f32⟩
  | 17 => ⟨S2x8x2064x2064, .f32⟩
  | 18 => ⟨S2x8x2064x2064, .f32⟩
  | 19 => ⟨S2x8x2064x2064, .f32⟩
  | 20 => ⟨S_, .f32⟩
  | 21 => ⟨S2x8x2064, .f32⟩
  | 22 => ⟨S2x8x2064x1, .f32⟩
  | 23 => ⟨S2x8x2064x1, .f32⟩
  | 24 => ⟨S2x8x2064x2064, .f32⟩
  | 25 => ⟨S2x8x2064x2064, .f32⟩
  | 26 => ⟨S2x8x2064x1, .f32⟩
  | 27 => ⟨S_, .f32⟩
  | 28 => ⟨S8x1, .f32⟩
  | 29 => ⟨S1x8x1x1, .f32⟩
  | 30 => ⟨S2x8x2064x1, .f32⟩
  | 31 => ⟨S_, .f32⟩
  | 32 => ⟨S8, .f32⟩
  | 33 => ⟨S8x1x1, .f32⟩
  | 34 => ⟨S_, .f32⟩
  | 35 => ⟨S2x8x2064, .f32⟩
  | 36 => ⟨S2x8x2064x2064, .f32⟩
  | 37 => ⟨S2x8x2064x2064, .f32⟩
  | 38 => ⟨S2x8x2064x2064, .f32⟩
  | 39 => ⟨S2x8x2064x2064, .f32⟩
  | 40 => ⟨S_, .f32⟩
  | 41 => ⟨S2x8x2064, .f32⟩
  | 42 => ⟨S2x8x2064x1, .f32⟩
  | 43 => ⟨S2x8x2064x1, .f32⟩
  | 44 => ⟨S2x8x2064x1, .f32⟩
  | 45 => ⟨S_, .f32⟩
  | 46 => ⟨S8x1, .f32⟩
  | 47 => ⟨S1x8x1x1, .f32⟩
  | 48 => ⟨S2x8x2064x1, .f32⟩
  | 49 => ⟨S_, .f32⟩
  | 50 => ⟨S8, .f32⟩
  | 51 => ⟨S8x1x1, .f32⟩
  | 52 => ⟨S8x1x1, .f32⟩
  | 53 => ⟨S_, .f32⟩
  | 54 => ⟨S2x8x2064, .f32⟩
  | 55 => ⟨S2x8x2064, .f32⟩
  | 56 => ⟨S2x8x2064x2064, .f32⟩
  | 57 => ⟨S2x8x2064x2064, .f32⟩
  | 58 => ⟨S2x8x2064x2064, .f32⟩
  | 59 => ⟨S_, .f32⟩
  | 60 => ⟨S8, .f32⟩
  | 61 => ⟨S_, .f32⟩
  | 62 => ⟨S2x8x2064x2064, .f32⟩
  | 63 => ⟨S2x8x2064x2064, .f32⟩
  | 64 => ⟨S_, .f32⟩
  | 65 => ⟨S8x2064x2064, .f32⟩
  | 66 => ⟨S1x8x2064x2064, .f32⟩
  | 67 => ⟨S_, .f32⟩
  | 68 => ⟨S8x2064x2064, .f32⟩
  | 69 => ⟨S2x2x4x2064x2064, .f32⟩
  | 70 => ⟨S_, .f32⟩
  | 71 => ⟨S2x2x4x2064x2064, .f32⟩
  | 72 => ⟨S2x2x4x2064x2064, .f32⟩
  | 73 => ⟨S2x2x2064x2064x4, .f32⟩
  | 74 => ⟨S2x2x2064x4x64, .f32⟩
  | 75 => ⟨S2x2064x2x4x64, .f32⟩
  | 76 => ⟨S2x2x2064x64, .f32⟩
  | 77 => ⟨S2x2064x2x64, .f32⟩
  | 78 => ⟨S2064x2064x8, .f32⟩
  | 79 => ⟨S_, .f32⟩
  | 80 => ⟨S32x8, .f32⟩
  | 81 => ⟨S32x8, .f32⟩
  | 82 => ⟨S2x2064x512, .f32⟩
  | _ => ⟨S2x2064x512, .f32⟩

abbrev hbmTy (i : Nat) : BufTy := match i / 128 with
  | 0 => hbmTy0_0 i
  | 1 => hbmTy0_1 i
  | _ => ⟨S2x2064x512, .f32⟩

abbrev bufTy : (tb : Table) → Fin (tcTables nBuf tb) → BufTy
  | .hbm, ⟨i, _⟩ => hbmTy i
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_call2_v0 : Ref sig .tc := ⟨.hbm, 75, rfl⟩
abbrev main_v51_1 : Ref sig .tc := ⟨.hbm, 76, rfl⟩
abbrev main_call2_v2 : Ref sig .tc := ⟨.hbm, 77, rfl⟩
abbrev main_v51_0 : Ref sig .tc := ⟨.hbm, 78, rfl⟩
abbrev main_call2_cst : Ref sig .tc := ⟨.hbm, 79, rfl⟩
abbrev main_v51_2 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_cst_18 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_28 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_29 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_30 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_31 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_32 : Ref sig .tc := ⟨.hbm, 187, rfl⟩
abbrev main_v140 : Ref sig .tc := ⟨.hbm, 188, rfl⟩
abbrev main_call3_cst : Ref sig .tc := ⟨.hbm, 189, rfl⟩
abbrev main_call3_v0 : Ref sig .tc := ⟨.hbm, 190, rfl⟩
abbrev main_v141 : Ref sig .tc := ⟨.hbm, 191, rfl⟩
abbrev main_cst_33 : Ref sig .tc := ⟨.hbm, 192, rfl⟩
abbrev main_v142 : Ref sig .tc := ⟨.hbm, 193, rfl⟩
abbrev main_v143 : Ref sig .tc := ⟨.hbm, 194, rfl⟩
abbrev main_cst_34 : Ref sig .tc := ⟨.hbm, 195, rfl⟩
abbrev main_v144 : Ref sig .tc := ⟨.hbm, 196, rfl⟩
abbrev main_v145 : Ref sig .tc := ⟨.hbm, 197, rfl⟩
abbrev main_cst_35 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_36 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩

abbrev nD : Nat := 1
abbrev τ : Topo := Topo.v7x

variable {F : FTy → Type} [FloatOps F]
-- ==== Outf.lean ====
abbrev S2x2064x512 : Shape := ⟨3, ![2, 2064, 512]⟩
abbrev S512 : Shape := ⟨1, ![512]⟩
abbrev S1024x1024 : Shape := ⟨2, ![1024, 1024]⟩
abbrev S2x2064x1024 : Shape := ⟨3, ![2, 2064, 1024]⟩
abbrev S_ : Shape := ⟨0, ![]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S2x112x512 : Shape := ⟨3, ![2, 112, 512]⟩
abbrev S2x2048x512 : Shape := ⟨3, ![2, 2048, 512]⟩
abbrev S2x16x512 : Shape := ⟨3, ![2, 16, 512]⟩
abbrev S2x2176x512 : Shape := ⟨3, ![2, 2176, 512]⟩
abbrev S4352x512 : Shape := ⟨2, ![4352, 512]⟩
abbrev S1x512 : Shape := ⟨2, ![1, 512]⟩
abbrev S2x112x1024 : Shape := ⟨3, ![2, 112, 1024]⟩
abbrev S2x2048x1024 : Shape := ⟨3, ![2, 2048, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S544x512 : Shape := ⟨2, ![544, 512]⟩
abbrev S544x1024 : Shape := ⟨2, ![544, 1024]⟩
abbrev S544 : Shape := ⟨1, ![544]⟩
abbrev S544x1 : Shape := ⟨2, ![544, 1]⟩
abbrev S512x1024 : Shape := ⟨2, ![512, 1024]⟩

abbrev nBuf : Space → Nat
  | .hbm => 43
  | .vmem => 15
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x512, .f32⟩
  | .hbm, ⟨3, _⟩ => ⟨S2x2064x512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S2x2064x1024, .f32⟩
  | .hbm, ⟨8, _⟩ => ⟨S_, .f32⟩
  | .hbm, ⟨9, _⟩ => ⟨S2x2064x512, .f32⟩
  | .hbm, ⟨10, _⟩ => ⟨S2x2064x2560, .f32⟩
  | .hbm, ⟨11, _⟩ => ⟨S_, .f32⟩
  | .hbm, ⟨12, _⟩ => ⟨S2x112x2560, .f32⟩
  | .hbm, ⟨13, _⟩ => ⟨S2x2048x2560, .f32⟩
  | .hbm, ⟨14, _⟩ => ⟨S2x16x2560, .f32⟩
  | .hbm, ⟨15, _⟩ => ⟨S2x2176x2560, .f32⟩
  | .hbm, ⟨16, _⟩ => ⟨S4352x2560, .f32⟩
  | .hbm, ⟨17, _⟩ => ⟨S_, .f32⟩
  | .hbm, ⟨18, _⟩ => ⟨S2x112x512, .f32⟩
  | .hbm, ⟨19, _⟩ => ⟨S2x2048x512, .f32⟩
  | .hbm, ⟨20, _⟩ => ⟨S2x16x512, .f32⟩
  | .hbm, ⟨21, _⟩ => ⟨S2x2176x512, .f32⟩
  | .hbm, ⟨22, _⟩ => ⟨S4352x512, .f32⟩
  | .hbm, ⟨23, _⟩ => ⟨S_, .f32⟩
  | .hbm, ⟨24, _⟩ => ⟨S2x112x512, .f32⟩
  | .hbm, ⟨25, _⟩ => ⟨S2x2048x512, .f32⟩
  | .hbm, ⟨26, _⟩ => ⟨S2x16x512, .f32⟩
  | .hbm, ⟨27, _⟩ => ⟨S2x2176x512, .f32⟩
  | .hbm, ⟨28, _⟩ => ⟨S4352x512, .f32⟩
  | .hbm, ⟨29, _⟩ => ⟨S1x512, .f32⟩
  | .hbm, ⟨30, _⟩ => ⟨S1x512, .f32⟩
  | .hbm, ⟨31, _⟩ => ⟨S1024x1024, .bf16⟩
  | .hbm, ⟨32, _⟩ => ⟨S_, .f32⟩
  | .hbm, ⟨33, _⟩ => ⟨S2x112x1024, .f32⟩
  | .hbm, ⟨34, _⟩ => ⟨S2x2048x1024, .f32⟩
  | .hbm, ⟨35, _⟩ => ⟨S2x16x1024, .f32⟩
  | .hbm, ⟨36, _⟩ => ⟨S2x2176x1024, .f32⟩
  | .hbm, ⟨37, _⟩ => ⟨S4352x1024, .f32⟩
  | .hbm, ⟨38, _⟩ => ⟨S4352x1024, .f32⟩
  | .hbm, ⟨39, _⟩ => ⟨S2x2176x1024, .f32⟩
  | .hbm, ⟨40, _⟩ => ⟨S2x16x1024, .f32⟩
  | .hbm, ⟨41, _⟩ => ⟨S2x2048x1024, .f32⟩
  | .hbm, ⟨42, _⟩ => ⟨S2x2064x1024, .f32⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S544x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutfRefIdeal.lean ====
abbrev S2x2064x512 : Shape := ⟨3, ![2, 2064, 512]⟩
abbrev S512 : Shape := ⟨1, ![512]⟩
abbrev S1024x1024 : Shape := ⟨2, ![1024, 1024]⟩
abbrev S2x2064x1024 : Shape := ⟨3, ![2, 2064, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x512, .f32⟩
  | .hbm, ⟨3, _⟩ => ⟨S2x2064x512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S2x2064x1024, .f32⟩
  | .hbm, ⟨8, _⟩ => ⟨S2x2064x512, .f32⟩
  | .hbm, ⟨9, _⟩ => ⟨S_, .f32⟩
  | .hbm, ⟨10, _⟩ => ⟨S2x2064, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S_, .f32⟩
  | .hbm, ⟨16, _⟩ => ⟨S2x2064x1, .f32⟩
  | .hbm, ⟨17, _⟩ => ⟨S2x2064x1, .f32⟩
  | .hbm, ⟨18, _⟩ => ⟨S2x2064x1, .f32⟩
  | .hbm, ⟨19, _⟩ => ⟨S2x2064x512, .f32⟩
  | .hbm, ⟨20, _⟩ => ⟨S2x2064x512, .f32⟩
  | .hbm, ⟨21, _⟩ => ⟨S1x1x512, .f32⟩
  | .hbm, ⟨22, _⟩ => ⟨S2x2064x512, .f32⟩
  | .hbm, ⟨23, _⟩ => ⟨S2x2064x512, .f32⟩
  | .hbm, ⟨24, _⟩ => ⟨S2x2064x512, .f32⟩
  | .hbm, ⟨25, _⟩ => ⟨S2x2064x512, .f32⟩
  | .hbm, ⟨26, _⟩ => ⟨S_, .f32⟩
  | .hbm, ⟨27, _⟩ => ⟨S2x2064x512, .f32⟩
  | .hbm, ⟨28, _⟩ => ⟨S2x2064x512, .f32⟩
  | .hbm, ⟨29, _⟩ => ⟨S_, .f32⟩
  | .hbm, ⟨30, _⟩ => ⟨S2x2064x512, .f32⟩
  | .hbm, ⟨31, _⟩ => ⟨S2x2064x512, .f32⟩
  | .hbm, ⟨32, _⟩ => ⟨S2x2064x512, .f32⟩
  | .hbm, ⟨33, _⟩ => ⟨S2x2064x512, .f32⟩
  | .hbm, ⟨34, _⟩ => ⟨S2x2064x512, .f32⟩
  | .hbm, ⟨35, _⟩ => ⟨S_, .f32⟩
  | .hbm, ⟨36, _⟩ => ⟨S2x2064, .f32⟩
  | .hbm, ⟨37, _⟩ => ⟨S2x2064x1, .f32⟩
  | .hbm, ⟨38, _⟩ => ⟨S_, .f32⟩
  | .hbm, ⟨39, _⟩ => ⟨S2x2064x1, .f32⟩
  | .hbm, ⟨40, _⟩ => ⟨S2x2064x1, .f32⟩
  | .hbm, ⟨41, _⟩ => ⟨S_, .f32⟩
  | .hbm, ⟨42, _⟩ => ⟨S2x2064x1, .f32⟩
  | .hbm, ⟨43, _⟩ => ⟨S2x2064x1, .f32⟩
  | .hbm, ⟨44, _⟩ => ⟨S2x2064x1, .f32⟩
  | .hbm, ⟨45, _⟩ => ⟨S2x2064x512, .f32⟩
  | .hbm, ⟨46, _⟩ => ⟨S2x2064x512, .f32⟩
  | .hbm, ⟨47, _⟩ => ⟨S1x1x512, .f32⟩
  | .hbm, ⟨48, _⟩ => ⟨S2x2064x512, .f32⟩
  | .hbm, ⟨49, _⟩ => ⟨S2x2064x512, .f32⟩
  | .hbm, ⟨50, _⟩ => ⟨S2x2064x512, .f32⟩
  | .hbm, ⟨51, _⟩ => ⟨S2x2064x512, .f32⟩
  | .hbm, ⟨52, _⟩ => ⟨S_, .f32⟩
  | .hbm, ⟨53, _⟩ => ⟨S2x2064x512, .f32⟩
  | .hbm, ⟨54, _⟩ => ⟨S2x2064x512, .f32⟩
  | .hbm, ⟨55, _⟩ => ⟨S_, .f32⟩
  | .hbm, ⟨56, _⟩ => ⟨S2x2064x512, .f32⟩
  | .hbm, ⟨57, _⟩ => ⟨S2x2064x512, .f32⟩
  | .hbm, ⟨58, _⟩ => ⟨S2x2064x512, .f32⟩
  | .hbm, ⟨59, _⟩ => ⟨S2x2064x512, .f32⟩
  | .hbm, ⟨60, _⟩ => ⟨S2x2064x1024, .f32⟩
  | .hbm, ⟨61, _⟩ => ⟨S2x2064x1024, .f32⟩
  | .hbm, ⟨62, _⟩ => ⟨S2x2064x1024, .f32⟩
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]
-- ==== Inf.lean ====
abbrev S2x2064x1024 : Shape := ⟨3, ![2, 2064, 1024]⟩
abbrev S1024 : Shape := ⟨1, ![1024]⟩
abbrev S1024x2208 : Shape := ⟨2, ![1024, 2208]⟩
abbrev S1024x8x276 : Shape := ⟨3, ![1024, 8, 276]⟩
abbrev S8x1024x276 : Shape := ⟨3, ![8, 1024, 276]⟩
abbrev S_ : Shape := ⟨0, ![]⟩
abbrev S1024x96 : Shape := ⟨2, ![1024, 96]⟩
abbrev S1x1024x276 : Shape := ⟨3, ![1, 1024, 276]⟩
abbrev S1024x276 : Shape := ⟨2, ![1024, 276]⟩
abbrev S1024x236 : Shape := ⟨2, ![1024, 236]⟩
abbrev S1024x40 : Shape := ⟨2, ![1024, 40]⟩
abbrev S1024x24 : Shape := ⟨2, ![1024, 24]⟩
abbrev S1024x64 : Shape := ⟨2, ![1024, 64]⟩
abbrev S1024x60 : Shape := ⟨2, ![1024, 60]⟩
abbrev S1024x176 : Shape := ⟨2, ![1024, 176]⟩
abbrev S1024x100 : Shape := ⟨2, ![1024, 100]⟩
abbrev S1024x156 : Shape := ⟨2, ![1024, 156]⟩
abbrev S1024x120 : Shape := ⟨2, ![1024, 120]⟩
abbrev S1024x8 : Shape := ⟨2, ![1024, 8]⟩
abbrev S1024x32 : Shape := ⟨2, ![1024, 32]⟩
abbrev S1024x1636 : Shape := ⟨2, ![1024, 1636]⟩
abbrev S1024x924 : Shape := ⟨2, ![1024, 924]⟩
abbrev S1024x2560 : Shape := ⟨2, ![1024, 2560]⟩
abbrev S2x112x1024 : Shape := ⟨3, ![2, 112, 1024]⟩
abbrev S2x2048x1024 : Shape := ⟨3, ![2, 2048, 1024]⟩
abbrev S2x16x1024 : Shape := ⟨3, ![2, 16, 1024]⟩
abbrev S2x2176x1024 : Shape := ⟨3, ![2, 2176, 1024]⟩
abbrev S4352x1024 : Shape := ⟨2, ![4352, 1024]⟩
abbrev S1x1024 : Shape := ⟨2, ![1, 1024]⟩
abbrev S4352x2560 : Shape := ⟨2, ![4352, 2560]⟩
abbrev S544x1024 : Shape := ⟨2, ![544, 1024]⟩
abbrev S544x2560 : Shape := ⟨2, ![544, 2560]⟩
abbrev S544 : Shape := ⟨1, ![544]⟩
abbrev S544x1 : Shape := ⟨2, ![544, 1]⟩
abbrev S2x2176x2560 : Shape := ⟨3, ![2, 2176, 2560]⟩
abbrev S2x16x2560 : Shape := ⟨3, ![2, 16, 2560]⟩
abbrev S2x2048x2560 : Shape := ⟨3, ![2, 2048, 2560]⟩
abbrev S2x2064x2560 : Shape := ⟨3, ![2, 2064, 2560]⟩
abbrev S2x2064x512 : Shape := ⟨3, ![2, 2064, 512]⟩
abbrev S2x2064x64 : Shape := ⟨3, ![2, 2064, 64]⟩
abbrev S2x2064x256 : Shape := ⟨3, ![2, 2064, 256]⟩
abbrev S2x2064x128 : Shape := ⟨3, ![2, 2064, 128]⟩
abbrev S2x2064x32 : Shape := ⟨3, ![2, 2064, 32]⟩
abbrev S2x2064x2208 : Shape := ⟨3, ![2, 2064, 2208]⟩

abbrev nBuf : Space → Nat
  | .hbm => 82
  | .vmem => 6
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S1024x8x276, .f32⟩
  | .hbm, ⟨4, _⟩ => ⟨S8x1024x276, .f32⟩
  | .hbm, ⟨5, _⟩ => ⟨S8x1024x276, .bf16⟩
  | .hbm, ⟨6, _⟩ => ⟨S_, .bf16⟩
  | .hbm, ⟨7, _⟩ => ⟨S1024x96, .bf16⟩
  | .hbm, ⟨8, _⟩ => ⟨S1x1024x276, .bf16⟩
  | .hbm, ⟨9, _⟩ => ⟨S1024x276, .bf16⟩
  | .hbm, ⟨10, _⟩ => ⟨S1x1024x276, .bf16⟩
  | .hbm, ⟨11, _⟩ => ⟨S1024x276, .bf16⟩
  | .hbm, ⟨12, _⟩ => ⟨S1024x236, .bf16⟩
  | .hbm, ⟨13, _⟩ => ⟨S1x1024x276, .bf16⟩
  | .hbm, ⟨14, _⟩ => ⟨S1024x276, .bf16⟩
  | .hbm, ⟨15, _⟩ => ⟨S1024x40, .bf16⟩
  | .hbm, ⟨16, _⟩ => ⟨S1x1024x276, .bf16⟩
  | .hbm, ⟨17, _⟩ => ⟨S1024x276, .bf16⟩
  | .hbm, ⟨18, _⟩ => ⟨S1024x24, .bf16⟩
  | .hbm, ⟨19, _⟩ => ⟨S1x1024x276, .bf16⟩
  | .hbm, ⟨20, _⟩ => ⟨S1024x276, .bf16⟩
  | .hbm, ⟨21, _⟩ => ⟨S1024x64, .bf16⟩
  | .hbm, ⟨22, _⟩ => ⟨S1x1024x276, .bf16⟩
  | .hbm, ⟨23, _⟩ => ⟨S1024x276, .bf16⟩
  | .hbm, ⟨24, _⟩ => ⟨S1024x64, .bf16⟩
  | .hbm, ⟨25, _⟩ => ⟨S1x1024x276, .bf16⟩
  | .hbm, ⟨26, _⟩ => ⟨S1024x276, .bf16⟩
  | .hbm, ⟨27, _⟩ => ⟨S1024x64, .bf16⟩
  | .hbm, ⟨28, _⟩ => ⟨S1x1024x276, .bf16⟩
  | .hbm, ⟨29, _⟩ => ⟨S1024x276, .bf16⟩
  | .hbm, ⟨30, _⟩ => ⟨S1024x60, .bf16⟩
  | .hbm, ⟨31, _⟩ => ⟨S1x1024x276, .bf16⟩
  | .hbm, ⟨32, _⟩ => ⟨S1024x276, .bf16⟩
  | .hbm, ⟨33, _⟩ => ⟨S1x1024x276, .bf16⟩
  | .hbm, ⟨34, _⟩ => ⟨S1024x276, .bf16⟩
  | .hbm, ⟨35, _⟩ => ⟨S1024x176, .bf16⟩
  | .hbm, ⟨36, _⟩ => ⟨S1x1024x276, .bf16⟩
  | .hbm, ⟨37, _⟩ => ⟨S1024x276, .bf16⟩
  | .hbm, ⟨38, _⟩ => ⟨S1024x100, .bf16⟩
  | .hbm, ⟨39, _⟩ => ⟨S1x1024x276, .bf16⟩
  | .hbm, ⟨40, _⟩ => ⟨S1024x276, .bf16⟩
  | .hbm, ⟨41, _⟩ => ⟨S1024x156, .bf16⟩
  | .hbm, ⟨42, _⟩ => ⟨S1x1024x276, .bf16⟩
  | .hbm, ⟨43, _⟩ => ⟨S1024x276, .bf16⟩
  | .hbm, ⟨44, _⟩ => ⟨S1024x120, .bf16⟩
  | .hbm, ⟨45, _⟩ => ⟨S1x1024x276, .bf16⟩
  | .hbm, ⟨46, _⟩ => ⟨S1024x276, .bf16⟩
  | .hbm, ⟨47, _⟩ => ⟨S1024x8, .bf16⟩
  | .hbm, ⟨48, _⟩ => ⟨S1x1024x276, .bf16⟩
  | .hbm, ⟨49, _⟩ => ⟨S1024x276, .bf16⟩
  | .hbm, ⟨50, _⟩ => ⟨S1024x32, .bf16⟩
  | .hbm, ⟨51, _⟩ => ⟨S1x1024x276, .bf16⟩
  | .hbm, ⟨52, _⟩ => ⟨S1024x276, .bf16⟩
  | .hbm, ⟨53, _⟩ => ⟨S1024x236, .bf16⟩
  | .hbm, ⟨54, _⟩ => ⟨S1x1024x276, .bf16⟩
  | .hbm, ⟨55, _⟩ => ⟨S1024x276, .bf16⟩
  | .hbm, ⟨56, _⟩ => ⟨S1024x1636, .bf16⟩
  | .hbm, ⟨57, _⟩ => ⟨S1024x924, .bf16⟩
  | .hbm, ⟨58, _⟩ => ⟨S1024x2560, .bf16⟩
  | .hbm, ⟨59, _⟩ => ⟨S_, .f32⟩
  | .hbm, ⟨60, _⟩ => ⟨S2x112x1024, .f32⟩
  | .hbm, ⟨61, _⟩ => ⟨S2x2048x1024, .f32⟩
  | .hbm, ⟨62, _⟩ => ⟨S2x16x1024, .f32⟩
  | .hbm, ⟨63, _⟩ => ⟨S2x2176x1024, .f32⟩
  | .hbm, ⟨64, _⟩ => ⟨S4352x1024, .f32⟩
  | .hbm, ⟨65, _⟩ => ⟨S1x1024, .f32⟩
  | .hbm, ⟨66, _⟩ => ⟨S4352x2560, .f32⟩
  | .hbm, ⟨67, _⟩ => ⟨S2x2176x2560, .f32⟩
  | .hbm, ⟨68, _⟩ => ⟨S2x16x2560, .f32⟩
  | .hbm, ⟨69, _⟩ => ⟨S2x2048x2560, .f32⟩
  | .hbm, ⟨70, _⟩ => ⟨S2x2064x2560, .f32⟩
  | .hbm, ⟨71, _⟩ => ⟨S2x2064x512, .f32⟩
  | .hbm, ⟨72, _⟩ => ⟨S2x2064x64, .f32⟩
  | .hbm, ⟨73, _⟩ => ⟨S2x2064x64, .f32⟩
  | .hbm, ⟨74, _⟩ => ⟨S2x2064x64, .f32⟩
  | .hbm, ⟨75, _⟩ => ⟨S2x2064x64, .f32⟩
  | .hbm, ⟨76, _⟩ => ⟨S2x2064x512, .f32⟩
  | .hbm, ⟨77, _⟩ => ⟨S2x2064x256, .f32⟩
  | .hbm, ⟨78, _⟩ => ⟨S2x2064x128, .f32⟩
  | .hbm, ⟨79, _⟩ => ⟨S2x2064x32, .f32⟩
  | .hbm, ⟨80, _⟩ => ⟨S2x2064x512, .f32⟩
  | .hbm, ⟨81, _⟩ => ⟨S2x2064x2208, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1024x2560, .bf16⟩
  | .local _ .vmem, ⟨4, _⟩ => ⟨S544x2560, .f32⟩
  | .local _ .vmem, ⟨5, _⟩ => ⟨S544x2560, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_cst_0 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InfRefIdeal.lean ====
abbrev S2x2064x1024 : Shape := ⟨3, ![2, 2064, 1024]⟩
abbrev S1024 : Shape := ⟨1, ![1024]⟩
abbrev S1024x2208 : Shape := ⟨2, ![1024, 2208]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x2208 : Shape := ⟨3, ![2, 2064, 2208]⟩

abbrev nBuf : Space → Nat
  | .hbm => 20
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x2208, .f32⟩
  | .hbm, ⟨3, _⟩ => ⟨S2x2064x1024, .f32⟩
  | .hbm, ⟨4, _⟩ => ⟨S_, .f32⟩
  | .hbm, ⟨5, _⟩ => ⟨S2x2064, .f32⟩
  | .hbm, ⟨6, _⟩ => ⟨S2x2064x1, .f32⟩
  | .hbm, ⟨7, _⟩ => ⟨S_, .f32⟩
  | .hbm, ⟨8, _⟩ => ⟨S2x2064x1, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S2x2064x1, .f32⟩
  | .hbm, ⟨14, _⟩ => ⟨S2x2064x1024, .f32⟩
  | .hbm, ⟨15, _⟩ => ⟨S2x2064x1024, .f32⟩
  | .hbm, ⟨16, _⟩ => ⟨S1x1x1024, .f32⟩
  | .hbm, ⟨17, _⟩ => ⟨S2x2064x1024, .f32⟩
  | .hbm, ⟨18, _⟩ => ⟨S2x2064x1024, .f32⟩
  | .hbm, ⟨19, _⟩ => ⟨S2x2064x2208, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Prepf.lean ====
abbrev S2x2064x256 : Shape := ⟨3, ![2, 2064, 256]⟩
abbrev S2x2064x128 : Shape := ⟨3, ![2, 2064, 128]⟩
abbrev S2x2064x32 : Shape := ⟨3, ![2, 2064, 32]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S2176 : Shape := ⟨1, ![2176]⟩
abbrev S16 : Shape := ⟨1, ![16]⟩
abbrev S_ : Shape := ⟨0, ![]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S2176x48 : Shape := ⟨2, ![2176, 48]⟩
abbrev S2176x80 : Shape := ⟨2, ![2176, 80]⟩
abbrev S1x2176x128 : Shape := ⟨3, ![1, 2176, 128]⟩
abbrev S3x2176x128 : Shape := ⟨3, ![3, 2176, 128]⟩
abbrev S1x3x1x2176x1x128 : Shape := ⟨6, ![1, 3, 1, 2176, 1, 128]⟩
abbrev S1x3x2x2176x1x128 : Shape := ⟨6, ![1, 3, 2, 2176, 1, 128]⟩
abbrev S3x4352x128 : Shape := ⟨3, ![3, 4352, 128]⟩
abbrev S1x128 : Shape := ⟨2, ![1, 128]⟩
abbrev S2176x0 : Shape := ⟨2, ![2176, 0]⟩
abbrev S2176x96 : Shape := ⟨2, ![2176, 96]⟩
abbrev S2176x112 : Shape := ⟨2, ![2176, 112]⟩
abbrev S4x2176x128 : Shape := ⟨3, ![4, 2176, 128]⟩
abbrev S1x4x1x2176x1x128 : Shape := ⟨6, ![1, 4, 1, 2176, 1, 128]⟩
abbrev S1x4x2x2176x1x128 : Shape := ⟨6, ![1, 4, 2, 2176, 1, 128]⟩
abbrev S4x4352x128 : Shape := ⟨3, ![4, 4352, 128]⟩
abbrev S2x2064x1536 : Shape := ⟨3, ![2, 2064, 1536]⟩
abbrev S2x2064x608 : Shape := ⟨3, ![2, 2064, 608]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S128x8x128 : Shape := ⟨3, ![128, 8, 128]⟩
abbrev S128x8x64 : Shape := ⟨3, ![128, 8, 64]⟩
abbrev S1x256 : Shape := ⟨2, ![1, 256]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S4352x1024 : Shape := ⟨2, ![4352, 1024]⟩
abbrev S544x256 : Shape := ⟨2, ![544, 256]⟩
abbrev S544x128 : Shape := ⟨2, ![544, 128]⟩
abbrev S3x544x128 : Shape := ⟨3, ![3, 544, 128]⟩
abbrev S4x544x128 : Shape := ⟨3, ![4, 544, 128]⟩
abbrev S544x1024 : Shape := ⟨2, ![544, 1024]⟩
abbrev S544 : Shape := ⟨1, ![544]⟩
abbrev S544x1 : Shape := ⟨2, ![544, 1]⟩
abbrev S1x544x128 : Shape := ⟨3, ![1, 544, 128]⟩
abbrev S2x2176x8x128 : Shape := ⟨4, ![2, 2176, 8, 128]⟩
abbrev S2x16x8x128 : Shape := ⟨4, ![2, 16, 8, 128]⟩
abbrev S2x2048x8x128 : Shape := ⟨4, ![2, 2048, 8, 128]⟩
abbrev S2x2064x8x128 : Shape := ⟨4, ![2, 2064, 8, 128]⟩
abbrev S2x2064x8x96 : Shape := ⟨4, ![2, 2064, 8, 96]⟩
abbrev S2x2064x8x64 : Shape := ⟨4, ![2, 2064, 8, 64]⟩

abbrev nBuf : Space → Nat
  | .hbm => 153
  | .vmem => 21
  | .smem => 0
  | _ => 0

abbrev hbmTy0_0 (i : Nat) : BufTy := match i % 128 with
  | 0 => ⟨S2x2064x256, .f32⟩
  | 1 => ⟨S2x2064x128, .f32⟩
  | 2 => ⟨S2x2064x32, .f32⟩
  | 3 => ⟨S256, .f32⟩
  | 4 => ⟨S128, .f32⟩
  | 5 => ⟨S256x768, .f32⟩
  | 6 => ⟨S128x1024, .f32⟩
  | 7 => ⟨S2176, .f32⟩
  | 8 => ⟨S2176, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S2176x1, .f32⟩
  | 18 => ⟨S1x16, .f32⟩
  | 19 => ⟨S2176x16, .f32⟩
  | 20 => ⟨S2176x16, .f32⟩
  | 21 => ⟨S2176x16, .f32⟩
  | 22 => ⟨S2176x16, .f32⟩
  | 23 => ⟨S2176x16, .f32⟩
  | 24 => ⟨S_, .f32⟩
  | 25 => ⟨S2176x64, .f32⟩
  | 26 => ⟨S_, .f32⟩
  | 27 => ⟨S2176x32, .f32⟩
  | 28 => ⟨S2176x128, .f32⟩
  | 29 => ⟨S_, .f32⟩
  | 30 => ⟨S2176x64, .f32⟩
  | 31 => ⟨S2176x16, .f32⟩
  | 32 => ⟨S_, .f32⟩
  | 33 => ⟨S2176x48, .f32⟩
  | 34 => ⟨S2176x128, .f32⟩
  | 35 => ⟨S_, .f32⟩
  | 36 => ⟨S2176x80, .f32⟩
  | 37 => ⟨S_, .f32⟩
  | 38 => ⟨S2176x32, .f32⟩
  | 39 => ⟨S2176x128, .f32⟩
  | 40 => ⟨S1x2176x128, .f32⟩
  | 41 => ⟨S1x2176x128, .f32⟩
  | 42 => ⟨S1x2176x128, .f32⟩
  | 43 => ⟨S3x2176x128, .f32⟩
  | 44 => ⟨S1x3x1x2176x1x128, .f32⟩
  | 45 => ⟨S1x3x2x2176x1x128, .f32⟩
  | 46 => ⟨S3x4352x128, .f32⟩
  | 47 => ⟨S2176, .i32⟩
  | 48 => ⟨S_, .i32⟩
  | 49 => ⟨S2176, .i32⟩
  | 50 => ⟨S2176, .i1⟩
  | 51 => ⟨S2176x1, .i1⟩
  | 52 => ⟨S128, .i32⟩
  | 53 => ⟨S_, .i32⟩
  | 54 => ⟨S128, .i32⟩
  | 55 => ⟨S128, .i1⟩
  | 56 => ⟨S1x128, .i1⟩
  | 57 => ⟨S2176x128, .i1⟩
  | 58 => ⟨S2176x128, .i1⟩
  | 59 => ⟨S2176x128, .i1⟩
  | 60 => ⟨S_, .f32⟩
  | 61 => ⟨S_, .f32⟩
  | 62 => ⟨S2176x128, .f32⟩
  | 63 => ⟨S2176x128, .f32⟩
  | 64 => ⟨S2176x128, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S2176x1, .f32⟩
  | 74 => ⟨S1x16, .f32⟩
  | 75 => ⟨S2176x16, .f32⟩
  | 76 => ⟨S2176x16, .f32⟩
  | 77 => ⟨S2176x16, .f32⟩
  | 78 => ⟨S2176x16, .f32⟩
  | 79 => ⟨S2176x16, .f32⟩
  | 80 => ⟨S_, .f32⟩
  | 81 => ⟨S2176x0, .f32⟩
  | 82 => ⟨S_, .f32⟩
  | 83 => ⟨S2176x96, .f32⟩
  | 84 => ⟨S2176x128, .f32⟩
  | 85 => ⟨S_, .f32⟩
  | 86 => ⟨S2176x0, .f32⟩
  | 87 => ⟨S2176x16, .f32⟩
  | 88 => ⟨S_, .f32⟩
  | 89 => ⟨S2176x112, .f32⟩
  | 90 => ⟨S2176x128, .f32⟩
  | 91 => ⟨S_, .f32⟩
  | 92 => ⟨S2176x16, .f32⟩
  | 93 => ⟨S_, .f32⟩
  | 94 => ⟨S2176x96, .f32⟩
  | 95 => ⟨S2176x128, .f32⟩
  | 96 => ⟨S1x2176x128, .f32⟩
  | 97 => ⟨S1x2176x128, .f32⟩
  | 98 => ⟨S1x2176x128, .f32⟩
  | 99 => ⟨S3x2176x128, .f32⟩
  | 100 => ⟨S2176x128, .f32⟩
  | 101 => ⟨S1x2176x128, .f32⟩
  | 102 => ⟨S4x2176x128, .f32⟩
  | 103 => ⟨S1x4x1x2176x1x128, .f32⟩
  | 104 => ⟨S1x4x2x2176x1x128, .f32⟩
  | 105 => ⟨S4x4352x128, .f32⟩
  | 106 => ⟨S_, .f32⟩
  | 107 => ⟨S2x2064x1536, .f32⟩
  | 108 => ⟨S_, .f32⟩
  | 109 => ⟨S2x2064x608, .f32⟩
  | 110 => ⟨S2x2064x2560, .f32⟩
  | 111 => ⟨S_, .f32⟩
  | 112 => ⟨S2x112x2560, .f32⟩
  | 113 => ⟨S2x2048x2560, .f32⟩
  | 114 => ⟨S2x16x2560, .f32⟩
  | 115 => ⟨S2x2176x2560, .f32⟩
  | 116 => ⟨S4352x2560, .f32⟩
  | 117 => ⟨S128x1024, .bf16⟩
  | 118 => ⟨S128x8x128, .bf16⟩
  | 119 => ⟨S_, .bf16⟩
  | 120 => ⟨S128x8x64, .bf16⟩
  | 121 => ⟨S128x8x64, .bf16⟩
  | 122 => ⟨S128x8x128, .bf16⟩
  | 123 => ⟨S128x1024, .bf16⟩
  | 124 => ⟨S128x8x64, .bf16⟩
  | 125 => ⟨S128x8x128, .bf16⟩
  | 126 => ⟨S128x1024, .bf16⟩
  | 127 => ⟨S1x256, .f32⟩
  | _ => ⟨S2x2064x256, .f32⟩

abbrev hbmTy0_1 (i : Nat) : BufTy := match i % 128 with
  | 0 => ⟨S1x128, .f32⟩
  | 1 => ⟨S256x768, .bf16⟩
  | 2 => ⟨S256x8x96, .bf16⟩
  | 3 => ⟨S_, .bf16⟩
  | 4 => ⟨S256x8x32, .bf16⟩
  | 5 => ⟨S256x8x128, .bf16⟩
  | 6 => ⟨S256x1024, .bf16⟩
  | 7 => ⟨S4352x1024, .bf16⟩
  | 8 => ⟨S4352x1024, .bf16⟩
  | 9 => ⟨S4352x1024, .bf16⟩
  | 10 => ⟨S2x2176x8x128, .bf16⟩
  | 11 => ⟨S2x16x8x128, .bf16⟩
  | 12 => ⟨S2x2048x8x128, .bf16⟩
  | 13 => ⟨S2x2064x8x128, .bf16⟩
  | 14 => ⟨S2x2064x8x96, .bf16⟩
  | 15 => ⟨S2x2176x8x128, .bf16⟩
  | 16 => ⟨S2x16x8x128, .bf16⟩
  | 17 => ⟨S2x2048x8x128, .bf16⟩
  | 18 => ⟨S2x2064x8x128, .bf16⟩
  | 19 => ⟨S2x2064x8x96, .bf16⟩
  | 20 => ⟨S2x2176x8x128, .bf16⟩
  | 21 => ⟨S2x16x8x128, .bf16⟩
  | 22 => ⟨S2x2048x8x128, .bf16⟩
  | 23 => ⟨S2x2064x8x128, .bf16⟩
  | 24 => ⟨S2x2064x8x64, .bf16⟩
  | _ => ⟨S2x2064x256, .f32⟩

abbrev hbmTy (i : Nat) : BufTy := match i / 128 with
  | 0 => hbmTy0_0 i
  | 1 => hbmTy0_1 i
  | _ => ⟨S2x2064x256, .f32⟩

abbrev bufTy : (tb : Table) → Fin (tcTables nBuf tb) → BufTy
  | .hbm, ⟨i, _⟩ => hbmTy i
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S1x256, .f32⟩
  | .local _ .vmem, ⟨7, _⟩ => ⟨S1x128, .f32⟩
  | .local _ .vmem, ⟨8, _⟩ => ⟨S256x1024, .bf16⟩
  | .local _ .vmem, ⟨9, _⟩ => ⟨S128x1024, .bf16⟩
  | .local _ .vmem, ⟨10, _⟩ => ⟨S128x1024, .bf16⟩
  | .local _ .vmem, ⟨11, _⟩ => ⟨S3x544x128, .f32⟩
  | .local _ .vmem, ⟨12, _⟩ => ⟨S3x544x128, .f32⟩
  | .local _ .vmem, ⟨13, _⟩ => ⟨S4x544x128, .f32⟩
  | .local _ .vmem, ⟨14, _⟩ => ⟨S4x544x128, .f32⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | .local _ .vmem, ⟨19, _⟩ => ⟨S544x1024, .bf16⟩
  | .local _ .vmem, ⟨20, _⟩ => ⟨S544x1024, .bf16⟩
  | _, _ => ⟨S2x2064x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_cst_11 : Ref sig .tc := ⟨.hbm, 61, rfl⟩
abbrev main_call0_v0 : Ref sig .tc := ⟨.hbm, 62, rfl⟩
abbrev main_call0_v1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99_0 : Ref sig .tc := ⟨.hbm, 135, rfl⟩
abbrev main_v99_1 : Ref sig .tc := ⟨.hbm, 136, rfl⟩
abbrev main_v99_2 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x544x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x544x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepfRefIdeal.lean ====
abbrev S2x2064x256 : Shape := ⟨3, ![2, 2064, 256]⟩
abbrev S2x2064x128 : Shape := ⟨3, ![2, 2064, 128]⟩
abbrev S2x2064x32 : Shape := ⟨3, ![2, 2064, 32]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S2064 : Shape := ⟨1, ![2064]⟩
abbrev S2064x1 : Shape := ⟨2, ![2064, 1]⟩
abbrev S1x16 : Shape := ⟨2, ![1, 16]⟩
abbrev S2064x16 : Shape := ⟨2, ![2064, 16]⟩
abbrev S2x2064 : Shape := ⟨2, ![2, 2064]⟩
abbrev S2x2064x1 : Shape := ⟨3, ![2, 2064, 1]⟩
abbrev S1x1x256 : Shape := ⟨3, ![1, 1, 256]⟩
abbrev S2x2064x768 : Shape := ⟨3, ![2, 2064, 768]⟩
abbrev S2x2064x8x96 : Shape := ⟨4, ![2, 2064, 8, 96]⟩
abbrev S2x2064x8x32 : Shape := ⟨4, ![2, 2064, 8, 32]⟩
abbrev S2064x1x16 : Shape := ⟨3, ![2064, 1, 16]⟩
abbrev S2x2064x8x16 : Shape := ⟨4, ![2, 2064, 8, 16]⟩
abbrev S1x2064x1x16 : Shape := ⟨4, ![1, 2064, 1, 16]⟩
abbrev S1x1x128 : Shape := ⟨3, ![1, 1, 128]⟩
abbrev S2x2064x1024 : Shape := ⟨3, ![2, 2064, 1024]⟩
abbrev S2x2064x8x128 : Shape := ⟨4, ![2, 2064, 8, 128]⟩
abbrev S2x2064x16 : Shape := ⟨3, ![2, 2064, 16]⟩
abbrev S1x2064x16 : Shape := ⟨3, ![1, 2064, 16]⟩
abbrev S2x2064x1x32 : Shape := ⟨4, ![2, 2064, 1, 32]⟩
abbrev S2x2064x8x64 : Shape := ⟨4, ![2, 2064, 8, 64]⟩

abbrev nBuf : Space → Nat
  | .hbm => 109
  | .vmem => 0
  | .smem => 0
  | _ => 0

abbrev bufTy : (tb : Table) → Fin (tcTables nBuf tb) → BufTy
  | .hbm, ⟨0, _⟩ => ⟨S2x2064x256, .f32⟩
  | .hbm, ⟨1, _⟩ => ⟨S2x2064x128, .f32⟩
  | .hbm, ⟨2, _⟩ => ⟨S2x2064x32, .f32⟩
  | .hbm, ⟨3, _⟩ => ⟨S256, .f32⟩
  | .hbm, ⟨4, _⟩ => ⟨S128, .f32⟩
  | .hbm, ⟨5, _⟩ => ⟨S256x768, .f32⟩
  | .hbm, ⟨6, _⟩ => ⟨S128x1024, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2064, .f32⟩
  | .hbm, ⟨16, _⟩ => ⟨S2064x1, .f32⟩
  | .hbm, ⟨17, _⟩ => ⟨S1x16, .f32⟩
  | .hbm, ⟨18, _⟩ => ⟨S2064x16, .f32⟩
  | .hbm, ⟨19, _⟩ => ⟨S2064x16, .f32⟩
  | .hbm, ⟨20, _⟩ => ⟨S2064x16, .f32⟩
  | .hbm, ⟨21, _⟩ => ⟨S2064x16, .f32⟩
  | .hbm, ⟨22, _⟩ => ⟨S2064x16, .f32⟩
  | .hbm, ⟨23, _⟩ => ⟨S2x2064x256, .f32⟩
  | .hbm, ⟨24, _⟩ => ⟨S_, .f32⟩
  | .hbm, ⟨25, _⟩ => ⟨S2x2064, .f32⟩
  | .hbm, ⟨26, _⟩ => ⟨S2x2064x1, .f32⟩
  | .hbm, ⟨27, _⟩ => ⟨S_, .f32⟩
  | .hbm, ⟨28, _⟩ => ⟨S2x2064x1, .f32⟩
  | .hbm, ⟨29, _⟩ => ⟨S2x2064x1, .f32⟩
  | .hbm, ⟨30, _⟩ => ⟨S_, .f32⟩
  | .hbm, ⟨31, _⟩ => ⟨S2x2064x1, .f32⟩
  | .hbm, ⟨32, _⟩ => ⟨S2x2064x1, .f32⟩
  | .hbm, ⟨33, _⟩ => ⟨S2x2064x1, .f32⟩
  | .hbm, ⟨34, _⟩ => ⟨S2x2064x256, .f32⟩
  | .hbm, ⟨35, _⟩ => ⟨S2x2064x256, .f32⟩
  | .hbm, ⟨36, _⟩ => ⟨S1x1x256, .f32⟩
  | .hbm, ⟨37, _⟩ => ⟨S2x2064x256, .f32⟩
  | .hbm, ⟨38, _⟩ => ⟨S2x2064x256, .f32⟩
  | .hbm, ⟨39, _⟩ => ⟨S2x2064x768, .f32⟩
  | .hbm, ⟨40, _⟩ => ⟨S2x2064x8x96, .f32⟩
  | .hbm, ⟨41, _⟩ => ⟨S2x2064x8x32, .f32⟩
  | .hbm, ⟨42, _⟩ => ⟨S2064x1x16, .f32⟩
  | .hbm, ⟨43, _⟩ => ⟨S2064x1x16, .f32⟩
  | .hbm, ⟨44, _⟩ => ⟨S2x2064x8x16, .f32⟩
  | .hbm, ⟨45, _⟩ => ⟨S2x2064x8x16, .f32⟩
  | .hbm, ⟨46, _⟩ => ⟨S1x2064x1x16, .f32⟩
  | .hbm, ⟨47, _⟩ => ⟨S2x2064x8x16, .f32⟩
  | .hbm, ⟨48, _⟩ => ⟨S2x2064x8x16, .f32⟩
  | .hbm, ⟨49, _⟩ => ⟨S1x2064x1x16, .f32⟩
  | .hbm, ⟨50, _⟩ => ⟨S2x2064x8x16, .f32⟩
  | .hbm, ⟨51, _⟩ => ⟨S2x2064x8x16, .f32⟩
  | .hbm, ⟨52, _⟩ => ⟨S2x2064x8x16, .f32⟩
  | .hbm, ⟨53, _⟩ => ⟨S1x2064x1x16, .f32⟩
  | .hbm, ⟨54, _⟩ => ⟨S2x2064x8x16, .f32⟩
  | .hbm, ⟨55, _⟩ => ⟨S2x2064x8x16, .f32⟩
  | .hbm, ⟨56, _⟩ => ⟨S1x2064x1x16, .f32⟩
  | .hbm, ⟨57, _⟩ => ⟨S2x2064x8x16, .f32⟩
  | .hbm, ⟨58, _⟩ => ⟨S2x2064x8x16, .f32⟩
  | .hbm, ⟨59, _⟩ => ⟨S2x2064x8x16, .f32⟩
  | .hbm, ⟨60, _⟩ => ⟨S2x2064x8x32, .f32⟩
  | .hbm, ⟨61, _⟩ => ⟨S2x2064x128, .f32⟩
  | .hbm, ⟨62, _⟩ => ⟨S_, .f32⟩
  | .hbm, ⟨63, _⟩ => ⟨S2x2064, .f32⟩
  | .hbm, ⟨64, _⟩ => ⟨S2x2064x1, .f32⟩
  | .hbm, ⟨65, _⟩ => ⟨S_, .f32⟩
  | .hbm, ⟨66, _⟩ => ⟨S2x2064x1, .f32⟩
  | .hbm, ⟨67, _⟩ => ⟨S2x2064x1, .f32⟩
  | .hbm, ⟨68, _⟩ => ⟨S_, .f32⟩
  | .hbm, ⟨69, _⟩ => ⟨S2x2064x1, .f32⟩
  | .hbm, ⟨70, _⟩ => ⟨S2x2064x1, .f32⟩
  | .hbm, ⟨71, _⟩ => ⟨S2x2064x1, .f32⟩
  | .hbm, ⟨72, _⟩ => ⟨S2x2064x128, .f32⟩
  | .hbm, ⟨73, _⟩ => ⟨S2x2064x128, .f32⟩
  | .hbm, ⟨74, _⟩ => ⟨S1x1x128, .f32⟩
  | .hbm, ⟨75, _⟩ => ⟨S2x2064x128, .f32⟩
  | .hbm, ⟨76, _⟩ => ⟨S2x2064x128, .f32⟩
  | .hbm, ⟨77, _⟩ => ⟨S2x2064x1024, .f32⟩
  | .hbm, ⟨78, _⟩ => ⟨S2x2064x8x128, .f32⟩
  | .hbm, ⟨79, _⟩ => ⟨S2x2064x16, .f32⟩
  | .hbm, ⟨80, _⟩ => ⟨S2x2064x16, .f32⟩
  | .hbm, ⟨81, _⟩ => ⟨S1x2064x16, .f32⟩
  | .hbm, ⟨82, _⟩ => ⟨S2x2064x16, .f32⟩
  | .hbm, ⟨83, _⟩ => ⟨S2x2064x16, .f32⟩
  | .hbm, ⟨84, _⟩ => ⟨S1x2064x16, .f32⟩
  | .hbm, ⟨85, _⟩ => ⟨S2x2064x16, .f32⟩
  | .hbm, ⟨86, _⟩ => ⟨S2x2064x16, .f32⟩
  | .hbm, ⟨87, _⟩ => ⟨S2x2064x16, .f32⟩
  | .hbm, ⟨88, _⟩ => ⟨S1x2064x16, .f32⟩
  | .hbm, ⟨89, _⟩ => ⟨S2x2064x16, .f32⟩
  | .hbm, ⟨90, _⟩ => ⟨S2x2064x16, .f32⟩
  | .hbm, ⟨91, _⟩ => ⟨S1x2064x16, .f32⟩
  | .hbm, ⟨92, _⟩ => ⟨S2x2064x16, .f32⟩
  | .hbm, ⟨93, _⟩ => ⟨S2x2064x16, .f32⟩
  | .hbm, ⟨94, _⟩ => ⟨S2x2064x16, .f32⟩
  | .hbm, ⟨95, _⟩ => ⟨S2x2064x32, .f32⟩
  | .hbm, ⟨96, _⟩ => ⟨S2x2064x1x32, .f32⟩
  | .hbm, ⟨97, _⟩ => ⟨S2x2064x8x32, .f32⟩
  | .hbm, ⟨98, _⟩ => ⟨S2x2064x8x64, .f32⟩
  | .hbm, ⟨99, _⟩ => ⟨S2x2064x8x96, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S2x2064x8x96, .f32⟩
  | .hbm, ⟨105, _⟩ => ⟨S2x2064x8x96, .f32⟩
  | .hbm, ⟨106, _⟩ => ⟨S2x2064x8x64, .f32⟩
  | .hbm, ⟨107, _⟩ => ⟨S2x2064x8x96, .f32⟩
  | .hbm, ⟨108, _⟩ => ⟨S2x2064x8x64, .f32⟩
  | _, _ => ⟨S2x2064x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_7 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== Winf.lean ====
abbrev S2x2064x512 : Shape := ⟨3, ![2, 2064, 512]⟩
abbrev S2x2064x2x64 : Shape := ⟨4, ![2, 2064, 2, 64]⟩
abbrev S32x8 : Shape := ⟨2, ![32, 8]⟩
abbrev S8 : Shape := ⟨1, ![8]⟩
abbrev S2x2064x2x1x64 : Shape := ⟨5, ![2, 2064, 2, 1, 64]⟩
abbrev S2x2064x2x2x64 : Shape := ⟨5, ![2, 2064, 2, 2, 64]⟩
abbrev S2x2064x256 : Shape := ⟨3, ![2, 2064, 256]⟩
abbrev S_ : Shape := ⟨0, ![]⟩
abbrev S2x2064x1536 : Shape := ⟨3, ![2, 2064, 1536]⟩
abbrev S2x2064x2560 : Shape := ⟨3, ![2, 2064, 2560]⟩
abbrev S2x112x2560 : Shape := ⟨3, ![2, 112, 2560]⟩
abbrev S2x2048x2560 : Shape := ⟨3, ![2, 2048, 2560]⟩
abbrev S2x16x2560 : Shape := ⟨3, ![2, 16, 2560]⟩
abbrev S2x2176x2560 : Shape := ⟨3, ![2, 2176, 2560]⟩
abbrev S4352x2560 : Shape := ⟨2, ![4352, 2560]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S4x128x512 : Shape := ⟨3, ![4, 128, 512]⟩
abbrev S4x1x128x512 : Shape := ⟨4, ![4, 1, 128, 512]⟩
abbrev S4x128x512x1 : Shape := ⟨4, ![4, 128, 512, 1]⟩
abbrev S4x128x512x8 : Shape := ⟨4, ![4, 128, 512, 8]⟩
abbrev S4x8x128x512 : Shape := ⟨4, ![4, 8, 128, 512]⟩
abbrev S8x1x1 : Shape := ⟨3, ![8, 1, 1]⟩
abbrev S4352x512 : Shape := ⟨2, ![4352, 512]⟩
abbrev S4352x128 : Shape := ⟨2, ![4352, 128]⟩
abbrev S2176x256 : Shape := ⟨2, ![2176, 256]⟩
abbrev S1x8x128x512 : Shape := ⟨4, ![1, 8, 128, 512]⟩
abbrev S128x128 : Shape := ⟨2, ![128, 128]⟩
abbrev S384x128 : Shape := ⟨2, ![384, 128]⟩
abbrev S512x128 : Shape := ⟨2, ![512, 128]⟩
abbrev S1x1x128x512 : Shape := ⟨4, ![1, 1, 128, 512]⟩
abbrev S2x2176x512 : Shape := ⟨3, ![2, 2176, 512]⟩
abbrev S2x16x512 : Shape := ⟨3, ![2, 16, 512]⟩
abbrev S2x2048x512 : Shape := ⟨3, ![2, 2048, 512]⟩

abbrev nBuf : Space → Nat
  | .hbm => 228
  | .vmem => 12
  | .smem => 0
  | _ => 0

abbrev hbmTy0_0 (i : Nat) : BufTy := match i % 128 with
  | 0 => ⟨S2x2064x512, .f32⟩
  | 1 => ⟨S2x2064x2x64, .f32⟩
  | 2 => ⟨S2x2064x2x64, .f32⟩
  | 3 => ⟨S32x8, .f32⟩
  | 4 => ⟨S8, .f32⟩
  | 5 => ⟨S2x2064x2x1x64, .f32⟩
  | 6 => ⟨S2x2064x2x1x64, .f32⟩
  | 7 => ⟨S2x2064x2x2x64, .f32⟩
  | 8 => ⟨S2x2064x256, .f32⟩
  | 9 => ⟨S2x2064x2x1x64, .f32⟩
  | 10 => ⟨S2x2064x2x1x64, .f32⟩
  | 11 => ⟨S2x2064x2x2x64, .f32⟩
  | 12 => ⟨S2x2064x256, .f32⟩
  | 13 => ⟨S_, .f32⟩
  | 14 => ⟨S2x2064x1536, .f32⟩
  | 15 => ⟨S2x2064x2560, .f32⟩
  | 16 => ⟨S_, .f32⟩
  | 17 => ⟨S2x112x2560, .f32⟩
  | 18 => ⟨S2x2048x2560, .f32⟩
  | 19 => ⟨S2x16x2560, .f32⟩
  | 20 => ⟨S2x2176x2560, .f32⟩
  | 21 => ⟨S4352x2560, .f32⟩
  | 22 => ⟨S128, .i32⟩
  | 23 => ⟨S128x1, .i32⟩
  | 24 => ⟨S512, .i32⟩
  | 25 => ⟨S1x512, .i32⟩
  | 26 => ⟨S_, .i32⟩
  | 27 => ⟨S1x512, .i32⟩
  | 28 => ⟨S1x512, .i1⟩
  | 29 => ⟨S_, .i32⟩
  | 30 => ⟨S1x512, .i32⟩
  | 31 => ⟨S1x512, .i1⟩
  | 32 => ⟨S1x512, .i1⟩
  | 33 => ⟨S_, .i32⟩
  | 34 => ⟨S1x512, .i32⟩
  | 35 => ⟨S1x512, .i32⟩
  | 36 => ⟨S_, .i32⟩
  | 37 => ⟨S1x512, .i32⟩
  | 38 => ⟨S1x512, .i32⟩
  | 39 => ⟨S128x512, .i32⟩
  | 40 => ⟨S128x512, .i32⟩
  | 41 => ⟨S128x512, .i32⟩
  | 42 => ⟨S_, .i32⟩
  | 43 => ⟨S1x512, .i32⟩
  | 44 => ⟨S1x512, .i1⟩
  | 45 => ⟨S128x512, .i32⟩
  | 46 => ⟨S_, .i32⟩
  | 47 => ⟨S128x512, .i32⟩
  | 48 => ⟨S128x512, .i1⟩
  | 49 => ⟨S128x512, .i1⟩
  | 50 => ⟨S128x512, .i1⟩
  | 51 => ⟨S_, .i32⟩
  | 52 => ⟨S128x1, .i32⟩
  | 53 => ⟨S128x1, .i32⟩
  | 54 => ⟨S128x512, .i32⟩
  | 55 => ⟨S128x512, .i32⟩
  | 56 => ⟨S128x512, .i32⟩
  | 57 => ⟨S128x512, .i1⟩
  | 58 => ⟨S128x512, .i32⟩
  | 59 => ⟨S128x512, .i1⟩
  | 60 => ⟨S128x512, .i1⟩
  | 61 => ⟨S_, .i32⟩
  | 62 => ⟨S1x512, .i32⟩
  | 63 => ⟨S1x512, .i32⟩
  | 64 => ⟨S128x512, .i32⟩
  | 65 => ⟨S128x512, .i32⟩
  | 66 => ⟨S128x512, .i32⟩
  | 67 => ⟨S_, .i32⟩
  | 68 => ⟨S1x512, .i32⟩
  | 69 => ⟨S1x512, .i1⟩
  | 70 => ⟨S128x512, .i32⟩
  | 71 => ⟨S_, .i32⟩
  | 72 => ⟨S128x512, .i32⟩
  | 73 => ⟨S128x512, .i1⟩
  | 74 => ⟨S128x512, .i1⟩
  | 75 => ⟨S128x512, .i1⟩
  | 76 => ⟨S128x512, .i32⟩
  | 77 => ⟨S128x512, .i32⟩
  | 78 => ⟨S128x512, .i32⟩
  | 79 => ⟨S_, .i32⟩
  | 80 => ⟨S128x512, .i32⟩
  | 81 => ⟨S128x512, .i1⟩
  | 82 => ⟨S128x512, .i32⟩
  | 83 => ⟨S128x512, .i1⟩
  | 84 => ⟨S128x512, .i1⟩
  | 85 => ⟨S_, .i32⟩
  | 86 => ⟨S1x512, .i32⟩
  | 87 => ⟨S1x512, .i32⟩
  | 88 => ⟨S128x512, .i32⟩
  | 89 => ⟨S128x512, .i32⟩
  | 90 => ⟨S128x512, .i32⟩
  | 91 => ⟨S_, .i32⟩
  | 92 => ⟨S1x512, .i32⟩
  | 93 => ⟨S1x512, .i1⟩
  | 94 => ⟨S128x512, .i32⟩
  | 95 => ⟨S_, .i32⟩
  | 96 => ⟨S128x512, .i32⟩
  | 97 => ⟨S128x512, .i1⟩
  | 98 => ⟨S128x512, .i1⟩
  | 99 => ⟨S128x512, .i1⟩
  | 100 => ⟨S128x512, .i32⟩
  | 101 => ⟨S128x512, .i32⟩
  | 102 => ⟨S128x512, .i32⟩
  | 103 => ⟨S_, .i32⟩
  | 104 => ⟨S128x512, .i32⟩
  | 105 => ⟨S128x512, .i1⟩
  | 106 => ⟨S128x512, .i32⟩
  | 107 => ⟨S128x512, .i1⟩
  | 108 => ⟨S128x512, .i1⟩
  | 109 => ⟨S_, .i32⟩
  | 110 => ⟨S128x1, .i32⟩
  | 111 => ⟨S128x1, .i1⟩
  | 112 => ⟨S_, .i32⟩
  | 113 => ⟨S1x512, .i32⟩
  | 114 => ⟨S1x512, .i32⟩
  | 115 => ⟨S128x512, .i32⟩
  | 116 => ⟨S128x512, .i32⟩
  | 117 => ⟨S128x512, .i32⟩
  | 118 => ⟨S_, .i32⟩
  | 119 => ⟨S1x512, .i32⟩
  | 120 => ⟨S1x512, .i1⟩
  | 121 => ⟨S128x512, .i32⟩
  | 122 => ⟨S_, .i32⟩
  | 123 => ⟨S128x512, .i32⟩
  | 124 => ⟨S128x512, .i1⟩
  | 125 => ⟨S128x512, .i1⟩
  | 126 => ⟨S128x512, .i1⟩
  | 127 => ⟨S128x512, .i1⟩
  | _ => ⟨S2x2064x512, .f32⟩

abbrev hbmTy0_1 (i : Nat) : BufTy := match i % 128 with
  | 0 => ⟨S128x512, .i1⟩
  | 1 => ⟨S128x512, .i32⟩
  | 2 => ⟨S128x512, .i32⟩
  | 3 => ⟨S128x512, .i32⟩
  | 4 => ⟨S128x512, .i1⟩
  | 5 => ⟨S128x512, .i32⟩
  | 6 => ⟨S128x512, .i1⟩
  | 7 => ⟨S128x512, .i1⟩
  | 8 => ⟨S1x128x512, .i32⟩
  | 9 => ⟨S1x128x512, .i32⟩
  | 10 => ⟨S1x128x512, .i32⟩
  | 11 => ⟨S1x128x512, .i32⟩
  | 12 => ⟨S4x128x512, .i32⟩
  | 13 => ⟨S1x128x512, .i1⟩
  | 14 => ⟨S1x128x512, .i1⟩
  | 15 => ⟨S1x128x512, .i1⟩
  | 16 => ⟨S1x128x512, .i1⟩
  | 17 => ⟨S4x128x512, .i1⟩
  | 18 => ⟨S_, .i32⟩
  | 19 => ⟨S4x128x512, .i32⟩
  | 20 => ⟨S4x128x512, .i1⟩
  | 21 => ⟨S_, .i32⟩
  | 22 => ⟨S_, .i32⟩
  | 23 => ⟨S4x128x512, .i32⟩
  | 24 => ⟨S4x128x512, .i32⟩
  | 25 => ⟨S4x128x512, .i32⟩
  | 26 => ⟨S4x128x512, .i32⟩
  | 27 => ⟨S_, .i32⟩
  | 28 => ⟨S4x128x512, .i32⟩
  | 29 => ⟨S4x128x512, .i32⟩
  | 30 => ⟨S4x128x512, .f32⟩
  | 31 => ⟨S_, .f32⟩
  | 32 => ⟨S4x128x512, .f32⟩
  | 33 => ⟨S4x128x512, .f32⟩
  | 34 => ⟨S4x128x512, .f32⟩
  | 35 => ⟨S_, .f32⟩
  | 36 => ⟨S4x128x512, .f32⟩
  | 37 => ⟨S4x128x512, .f32⟩
  | 38 => ⟨S_, .f32⟩
  | 39 => ⟨S4x128x512, .f32⟩
  | 40 => ⟨S4x128x512, .f32⟩
  | 41 => ⟨S4x128x512, .i32⟩
  | 42 => ⟨S_, .i32⟩
  | 43 => ⟨S4x128x512, .i32⟩
  | 44 => ⟨S4x128x512, .i32⟩
  | 45 => ⟨S_, .i32⟩
  | 46 => ⟨S4x128x512, .i32⟩
  | 47 => ⟨S4x128x512, .i32⟩
  | 48 => ⟨S_, .i32⟩
  | 49 => ⟨S4x128x512, .i32⟩
  | 50 => ⟨S4x128x512, .i1⟩
  | 51 => ⟨S4x128x512, .i32⟩
  | 52 => ⟨S4x128x512, .i32⟩
  | 53 => ⟨S4x128x512, .i32⟩
  | 54 => ⟨S_, .i32⟩
  | 55 => ⟨S_, .i32⟩
  | 56 => ⟨S4x128x512, .i32⟩
  | 57 => ⟨S4x128x512, .i32⟩
  | 58 => ⟨S4x1x128x512, .i32⟩
  | 59 => ⟨S_, .i32⟩
  | 60 => ⟨S4x1x128x512, .i32⟩
  | 61 => ⟨S4x1x128x512, .i1⟩
  | 62 => ⟨S4x128x512, .i32⟩
  | 63 => ⟨S_, .i32⟩
  | 64 => ⟨S4x128x512, .i32⟩
  | 65 => ⟨S4x128x512, .i32⟩
  | 66 => ⟨S_, .i32⟩
  | 67 => ⟨S4x128x512, .i32⟩
  | 68 => ⟨S4x128x512, .i1⟩
  | 69 => ⟨S_, .i32⟩
  | 70 => ⟨S4x128x512, .i32⟩
  | 71 => ⟨S4x128x512, .i32⟩
  | 72 => ⟨S4x128x512, .i32⟩
  | 73 => ⟨S4x128x512x1, .i32⟩
  | 74 => ⟨S4x128x512x8, .f32⟩
  | 75 => ⟨S4x8x128x512, .f32⟩
  | 76 => ⟨S_, .f32⟩
  | 77 => ⟨S4x8x128x512, .f32⟩
  | 78 => ⟨S4x8x128x512, .f32⟩
  | 79 => ⟨S_, .f32⟩
  | 80 => ⟨S_, .f32⟩
  | 81 => ⟨S4x8x128x512, .i1⟩
  | 82 => ⟨S4x8x128x512, .f32⟩
  | 83 => ⟨S4x8x128x512, .f32⟩
  | 84 => ⟨S4x8x128x512, .i32⟩
  | 85 => ⟨S_, .i32⟩
  | 86 => ⟨S4x8x128x512, .i32⟩
  | 87 => ⟨S4x8x128x512, .i1⟩
  | 88 => ⟨S8x1x1, .f32⟩
  | 89 => ⟨S_, .f32⟩
  | 90 => ⟨S8x1x1, .f32⟩
  | 91 => ⟨S8x1x1, .f32⟩
  | 92 => ⟨S4x8x128x512, .f32⟩
  | 93 => ⟨S4x8x128x512, .f32⟩
  | 94 => ⟨S4352x512, .f32⟩
  | 95 => ⟨S4352x128, .f32⟩
  | 96 => ⟨S2x2176x512, .f32⟩
  | 97 => ⟨S2x16x512, .f32⟩
  | 98 => ⟨S2x2048x512, .f32⟩
  | 99 => ⟨S2x2064x512, .f32⟩
  | _ => ⟨S2x2064x512, .f32⟩

abbrev hbmTy (i : Nat) : BufTy := match i / 128 with
  | 0 => hbmTy0_0 i
  | 1 => hbmTy0_1 i
  | _ => ⟨S2x2064x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S2176x256, .f32⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S1x8x128x512, .f32⟩
  | .local _ .vmem, ⟨7, _⟩ => ⟨S1x8x128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_call1_v0 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_14 : Ref sig .tc := ⟨.hbm, 103, rfl⟩
abbrev main_v80 : Ref sig .tc := ⟨.hbm, 104, rfl⟩
abbrev main_call2_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_15 : Ref sig .tc := ⟨.hbm, 109, rfl⟩
abbrev main_v84 : Ref sig .tc := ⟨.hbm, 110, rfl⟩
abbrev main_v85 : Ref sig .tc := ⟨.hbm, 111, rfl⟩
abbrev main_c_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call3_v0 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_19 : Ref sig .tc := ⟨.hbm, 146, rfl⟩
abbrev main_v116 : Ref sig .tc := ⟨.hbm, 147, rfl⟩
abbrev main_v117 : Ref sig .tc := ⟨.hbm, 148, rfl⟩
abbrev main_c_20 : Ref sig .tc := ⟨.hbm, 149, rfl⟩
abbrev main_c_21 : Ref sig .tc := ⟨.hbm, 150, rfl⟩
abbrev main_call4_v0 : Ref sig .tc := ⟨.hbm, 151, rfl⟩
abbrev main_call4_v1 : Ref sig .tc := ⟨.hbm, 152, rfl⟩
abbrev main_v118 : Ref sig .tc := ⟨.hbm, 153, rfl⟩
abbrev main_v119 : Ref sig .tc := ⟨.hbm, 154, rfl⟩
abbrev main_c_22 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_23 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_24 : Ref sig .tc := ⟨.hbm, 163, rfl⟩
abbrev main_v126 : Ref sig .tc := ⟨.hbm, 164, rfl⟩
abbrev main_v127 : Ref sig .tc := ⟨.hbm, 165, rfl⟩
abbrev main_cst_25 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_26 : Ref sig .tc := ⟨.hbm, 170, rfl⟩
abbrev main_v131 : Ref sig .tc := ⟨.hbm, 171, rfl⟩
abbrev main_v132 : Ref sig .tc := ⟨.hbm, 172, rfl⟩
abbrev main_c_27 : Ref sig .tc := ⟨.hbm, 173, rfl⟩
abbrev main_v133 : Ref sig .tc := ⟨.hbm, 174, rfl⟩
abbrev main_v134 : Ref sig .tc := ⟨.hbm, 175, rfl⟩
abbrev main_c_28 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_29 : Ref sig .tc := ⟨.hbm, 182, rfl⟩
abbrev main_call6_v0 : Ref sig .tc := ⟨.hbm, 183, rfl⟩
abbrev main_call6_v1 : Ref sig .tc := ⟨.hbm, 184, rfl⟩
abbrev main_v140 : Ref sig .tc := ⟨.hbm, 185, rfl⟩
abbrev main_v141 : Ref sig .tc := ⟨.hbm, 186, rfl⟩
abbrev main_c_30 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_31 : Ref sig .tc := ⟨.hbm, 191, rfl⟩
abbrev main_v145 : Ref sig .tc := ⟨.hbm, 192, rfl⟩
abbrev main_v146 : Ref sig .tc := ⟨.hbm, 193, rfl⟩
abbrev main_c_32 : Ref sig .tc := ⟨.hbm, 194, rfl⟩
abbrev main_v147 : Ref sig .tc := ⟨.hbm, 195, rfl⟩
abbrev main_v148 : Ref sig .tc := ⟨.hbm, 196, rfl⟩
abbrev main_c_33 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_34 : Ref sig .tc := ⟨.hbm, 204, rfl⟩
abbrev main_v155 : Ref sig .tc := ⟨.hbm, 205, rfl⟩
abbrev main_v156 : Ref sig .tc := ⟨.hbm, 206, rfl⟩
abbrev main_cst_35 : Ref sig .tc := ⟨.hbm, 207, rfl⟩
abbrev main_call7_v0 : Ref sig .tc := ⟨.hbm, 208, rfl⟩
abbrev main_call7_v1 : Ref sig .tc := ⟨.hbm, 209, rfl⟩
abbrev main_call7_v2 : Ref sig .tc := ⟨.hbm, 210, rfl⟩
abbrev main_v157 : Ref sig .tc := ⟨.hbm, 211, rfl⟩
abbrev main_v158 : Ref sig .tc := ⟨.hbm, 212, rfl⟩
abbrev main_c_36 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_37 : Ref sig .tc := ⟨.hbm, 217, rfl⟩
abbrev main_v162 : Ref sig .tc := ⟨.hbm, 218, rfl⟩
abbrev main_v163 : Ref sig .tc := ⟨.hbm, 219, rfl⟩
abbrev main_call8_v0 : Ref sig .tc := ⟨.hbm, 220, rfl⟩
abbrev main_v164 : Ref sig .tc := ⟨.hbm, 221, rfl⟩
abbrev main_v165_0 : Ref sig .tc := ⟨.hbm, 222, rfl⟩
abbrev main_v165_1 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 17], ![false, false]⟩

def k0_mult1 (i : grid0.Coords) : BitVec 32 :=
  let arg1 : BitVec 32 := BitVec.ofNat 32 (i 1).val
  let c16_i32 : BitVec 32 := 16#32
  let v0 : BitVec 1 := Scalar.cmpi .eq arg1 c16_i32
  let c0_i32_0 : BitVec 32 := 0#32
  let c13_i32 : BitVec 32 := 13#32
  let c0_i32 : BitVec 32 := 0#32
  let c1_i32 : BitVec 32 := 1#32
  let v1 : BitVec 32 := Scalar.subi arg1 c1_i32
  let v2 : BitVec 32 := Scalar.maxsi c0_i32 v1
  let v3 : BitVec 32 := Scalar.minsi c13_i32 v2
  let v4 : BitVec 32 := Scalar.select v0 c0_i32_0 v3
  let c128_i32 : BitVec 32 := 128#32
  let v5 : BitVec 32 := Scalar.muli v4 c128_i32
  v5
def k0_off1 (i : grid0.Coords) : Fin 2 → Nat :=
  let arg1 : BitVec 32 := BitVec.ofNat 32 (i 1).val
  let c16_i32 : BitVec 32 := 16#32
  let v0 : BitVec 1 := Scalar.cmpi .eq arg1 c16_i32
  let c0_i32_0 : BitVec 32 := 0#32
  let c13_i32 : BitVec 32 := 13#32
  let c0_i32 : BitVec 32 := 0#32
  let c1_i32 : BitVec 32 := 1#32
  let v1 : BitVec 32 := Scalar.subi arg1 c1_i32
  let v2 : BitVec 32 := Scalar.maxsi c0_i32 v1
  let v3 : BitVec 32 := Scalar.minsi c13_i32 v2
  let v4 : BitVec 32 := Scalar.select v0 c0_i32_0 v3
  let c128_i32 : BitVec 32 := 128#32
  let v5 : BitVec 32 := Scalar.muli v4 c128_i32
  let v6 : BitVec 32 := v5
  let v10 : Index := Scalar.indexCast v6
  let c0 : Index := 0#32
  ![v10.toNat, 0]
def k0_off2 (i : grid0.Coords) : Fin 2 → Nat :=
  let arg1 : BitVec 32 := BitVec.ofNat 32 (i 1).val
  let c16_i32 : BitVec 32 := 16#32
  let v0 : BitVec 1 := Scalar.cmpi .eq arg1 c16_i32
  let c0_i32_0 : BitVec 32 := 0#32
  let c13_i32 : BitVec 32 := 13#32
  let c0_i32 : BitVec 32 := 0#32
  let c1_i32 : BitVec 32 := 1#32
  let v1 : BitVec 32 := Scalar.subi arg1 c1_i32
  let v2 : BitVec 32 := Scalar.maxsi c0_i32 v1
  let v3 : BitVec 32 := Scalar.minsi c13_i32 v2
  let v4 : BitVec 32 := Scalar.select v0 c0_i32_0 v3
  let c128_i32 : BitVec 32 := 128#32
  let v5 : BitVec 32 := Scalar.muli v4 c128_i32
  let v6 : BitVec 32 := v5
  let v33 : Index := Scalar.indexCast v6
  let c128 : Index := 128#32
  ![v33.toNat, 128]
def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .slt arg1 c15_i32
  let c15_i32_0 : BitVec 32 := 15#32
  let v2 : BitVec 1 := Scalar.cmpi .eq arg1 c15_i32_0
  let c2_i32 : BitVec 32 := 2#32
  let c3_i32 : BitVec 32 := 3#32
  let v3 : BitVec 32 := Scalar.select v2 c2_i32 c3_i32
  let c1_i32 : BitVec 32 := 1#32
  let v4 : BitVec 32 := Scalar.select v1 c1_i32 v3
  let c0_i32_1 : BitVec 32 := 0#32
  let v5 : BitVec 32 := Scalar.select v0 c0_i32_1 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WinfRefIdeal.lean ====
abbrev S2x2064x512 : Shape := ⟨3, ![2, 2064, 512]⟩
abbrev S2x2064x2x64 : Shape := ⟨4, ![2, 2064, 2, 64]⟩
abbrev S32x8 : Shape := ⟨2, ![32, 8]⟩
abbrev S8 : Shape := ⟨1, ![8]⟩
abbrev S2064x2064 : Shape := ⟨2, ![2064, 2064]⟩
abbrev S_ : Shape := ⟨0, ![]⟩
abbrev S2x2064x2x4x64 : Shape := ⟨5, ![2, 2064, 2, 4, 64]⟩
abbrev S2064x2064x1 : Shape := ⟨3, ![2064, 2064, 1]⟩
abbrev S2064x2064x8 : Shape := ⟨3, ![2064, 2064, 8]⟩
abbrev S8x2064x2064 : Shape := ⟨3, ![8, 2064, 2064]⟩
abbrev S2x2x2064x2064x4 : Shape := ⟨5, ![2, 2, 2064, 2064, 4]⟩
abbrev S2x2x4x2064x2064 : Shape := ⟨5, ![2, 2, 4, 2064, 2064]⟩
abbrev S2x8x2064x2064 : Shape := ⟨4, ![2, 8, 2064, 2064]⟩
abbrev S1x8x2064x2064 : Shape := ⟨4, ![1, 8, 2064, 2064]⟩
abbrev S8x1x1 : Shape := ⟨3, ![8, 1, 1]⟩
abbrev S2x8x2064 : Shape := ⟨3, ![2, 8, 2064]⟩
abbrev S2x8x2064x1 : Shape := ⟨4, ![2, 8, 2064, 1]⟩
abbrev S1x8x1x1 : Shape := ⟨4, ![1, 8, 1, 1]⟩
abbrev S2x2x64x4x2064 : Shape := ⟨5, ![2, 2, 64, 4, 2064]⟩

abbrev nBuf : Space → Nat
  | .hbm => 102
  | .vmem => 0
  | .smem => 0
  | _ => 0

abbrev bufTy : (tb : Table) → Fin (tcTables nBuf tb) → BufTy
  | .hbm, ⟨0, _⟩ => ⟨S2x2064x512, .f32⟩
  | .hbm, ⟨1, _⟩ => ⟨S2x2064x2x64, .f32⟩
  | .hbm, ⟨2, _⟩ => ⟨S2x2064x2x64, .f32⟩
  | .hbm, ⟨3, _⟩ => ⟨S32x8, .f32⟩
  | .hbm, ⟨4, _⟩ => ⟨S8, .f32⟩
  | .hbm, ⟨5, _⟩ => ⟨S2064x2064, .i32⟩
  | .hbm, ⟨6, _⟩ => ⟨S2064x2064, .i32⟩
  | .hbm, ⟨7, _⟩ => ⟨S_, .i32⟩
  | .hbm, ⟨8, _⟩ => ⟨S2064x2064, .i32⟩
  | .hbm, ⟨9, _⟩ => ⟨S2064x2064, .i1⟩
  | .hbm, ⟨10, _⟩ => ⟨S2064x2064, .i32⟩
  | .hbm, ⟨11, _⟩ => ⟨S2064x2064, .i32⟩
  | .hbm, ⟨12, _⟩ => ⟨S_, .i32⟩
  | .hbm, ⟨13, _⟩ => ⟨S2064x2064, .i32⟩
  | .hbm, ⟨14, _⟩ => ⟨S2064x2064, .i1⟩
  | .hbm, ⟨15, _⟩ => ⟨S2064x2064, .i1⟩
  | .hbm, ⟨16, _⟩ => ⟨S2x2064x2x4x64, .f32⟩
  | .hbm, ⟨17, _⟩ => ⟨S2064x2064, .i32⟩
  | .hbm, ⟨18, _⟩ => ⟨S_, .i32⟩
  | .hbm, ⟨19, _⟩ => ⟨S2064x2064, .i32⟩
  | .hbm, ⟨20, _⟩ => ⟨S2064x2064, .i1⟩
  | .hbm, ⟨21, _⟩ => ⟨S_, .i32⟩
  | .hbm, ⟨22, _⟩ => ⟨S_, .i32⟩
  | .hbm, ⟨23, _⟩ => ⟨S2064x2064, .i32⟩
  | .hbm, ⟨24, _⟩ => ⟨S2064x2064, .i32⟩
  | .hbm, ⟨25, _⟩ => ⟨S2064x2064, .i32⟩
  | .hbm, ⟨26, _⟩ => ⟨S2064x2064, .i32⟩
  | .hbm, ⟨27, _⟩ => ⟨S_, .i32⟩
  | .hbm, ⟨28, _⟩ => ⟨S2064x2064, .i32⟩
  | .hbm, ⟨29, _⟩ => ⟨S2064x2064, .i32⟩
  | .hbm, ⟨30, _⟩ => ⟨S2064x2064, .f32⟩
  | .hbm, ⟨31, _⟩ => ⟨S_, .f32⟩
  | .hbm, ⟨32, _⟩ => ⟨S2064x2064, .f32⟩
  | .hbm, ⟨33, _⟩ => ⟨S2064x2064, .f32⟩
  | .hbm, ⟨34, _⟩ => ⟨S2064x2064, .f32⟩
  | .hbm, ⟨35, _⟩ => ⟨S_, .f32⟩
  | .hbm, ⟨36, _⟩ => ⟨S2064x2064, .f32⟩
  | .hbm, ⟨37, _⟩ => ⟨S2064x2064, .f32⟩
  | .hbm, ⟨38, _⟩ => ⟨S_, .f32⟩
  | .hbm, ⟨39, _⟩ => ⟨S2064x2064, .f32⟩
  | .hbm, ⟨40, _⟩ => ⟨S2064x2064, .f32⟩
  | .hbm, ⟨41, _⟩ => ⟨S2064x2064, .i32⟩
  | .hbm, ⟨42, _⟩ => ⟨S_, .i32⟩
  | .hbm, ⟨43, _⟩ => ⟨S2064x2064, .i32⟩
  | .hbm, ⟨44, _⟩ => ⟨S2064x2064, .i32⟩
  | .hbm, ⟨45, _⟩ => ⟨S_, .i32⟩
  | .hbm, ⟨46, _⟩ => ⟨S2064x2064, .i32⟩
  | .hbm, ⟨47, _⟩ => ⟨S2064x2064, .i32⟩
  | .hbm, ⟨48, _⟩ => ⟨S_, .i32⟩
  | .hbm, ⟨49, _⟩ => ⟨S2064x2064, .i32⟩
  | .hbm, ⟨50, _⟩ => ⟨S2064x2064, .i1⟩
  | .hbm, ⟨51, _⟩ => ⟨S2064x2064, .i32⟩
  | .hbm, ⟨52, _⟩ => ⟨S2064x2064, .i32⟩
  | .hbm, ⟨53, _⟩ => ⟨S2064x2064, .i32⟩
  | .hbm, ⟨54, _⟩ => ⟨S_, .i32⟩
  | .hbm, ⟨55, _⟩ => ⟨S2064x2064, .i32⟩
  | .hbm, ⟨56, _⟩ => ⟨S2064x2064, .i1⟩
  | .hbm, ⟨57, _⟩ => ⟨S_, .i32⟩
  | .hbm, ⟨58, _⟩ => ⟨S2064x2064, .i32⟩
  | .hbm, ⟨59, _⟩ => ⟨S2064x2064, .i32⟩
  | .hbm, ⟨60, _⟩ => ⟨S2064x2064, .i32⟩
  | .hbm, ⟨61, _⟩ => ⟨S2064x2064x1, .i32⟩
  | .hbm, ⟨62, _⟩ => ⟨S2064x2064x8, .f32⟩
  | .hbm, ⟨63, _⟩ => ⟨S8x2064x2064, .f32⟩
  | .hbm, ⟨64, _⟩ => ⟨S2x2x2064x2064x4, .f32⟩
  | .hbm, ⟨65, _⟩ => ⟨S2x2x4x2064x2064, .f32⟩
  | .hbm, ⟨66, _⟩ => ⟨S_, .f32⟩
  | .hbm, ⟨67, _⟩ => ⟨S2x2x4x2064x2064, .f32⟩
  | .hbm, ⟨68, _⟩ => ⟨S2x2x4x2064x2064, .f32⟩
  | .hbm, ⟨69, _⟩ => ⟨S2x8x2064x2064, .f32⟩
  | .hbm, ⟨70, _⟩ => ⟨S1x8x2064x2064, .f32⟩
  | .hbm, ⟨71, _⟩ => ⟨S2x8x2064x2064, .f32⟩
  | .hbm, ⟨72, _⟩ => ⟨S2x8x2064x2064, .f32⟩
  | .hbm, ⟨73, _⟩ => ⟨S_, .f32⟩
  | .hbm, ⟨74, _⟩ => ⟨S_, .f32⟩
  | .hbm, ⟨75, _⟩ => ⟨S2x8x2064x2064, .i1⟩
  | .hbm, ⟨76, _⟩ => ⟨S2x8x2064x2064, .f32⟩
  | .hbm, ⟨77, _⟩ => ⟨S2x8x2064x2064, .f32⟩
  | .hbm, ⟨78, _⟩ => ⟨S8x1x1, .f32⟩
  | .hbm, ⟨79, _⟩ => ⟨S_, .f32⟩
  | .hbm, ⟨80, _⟩ => ⟨S2x8x2064, .f32⟩
  | .hbm, ⟨81, _⟩ => ⟨S2x8x2064x1, .f32⟩
  | .hbm, ⟨82, _⟩ => ⟨S1x8x1x1, .f32⟩
  | .hbm, ⟨83, _⟩ => ⟨S2x8x2064x1, .f32⟩
  | .hbm, ⟨84, _⟩ => ⟨S2x8x2064x1, .f32⟩
  | .hbm, ⟨85, _⟩ => ⟨S2x8x2064x2064, .f32⟩
  | .hbm, ⟨86, _⟩ => ⟨S2x8x2064x2064, .f32⟩
  | .hbm, ⟨87, _⟩ => ⟨S2x8x2064x2064, .f32⟩
  | .hbm, ⟨88, _⟩ => ⟨S_, .f32⟩
  | .hbm, ⟨89, _⟩ => ⟨S2x8x2064, .f32⟩
  | .hbm, ⟨90, _⟩ => ⟨S2x8x2064x1, .f32⟩
  | .hbm, ⟨91, _⟩ => ⟨S1x8x1x1, .f32⟩
  | .hbm, ⟨92, _⟩ => ⟨S2x8x2064x1, .f32⟩
  | .hbm, ⟨93, _⟩ => ⟨S2x8x2064x1, .f32⟩
  | .hbm, ⟨94, _⟩ => ⟨S2x8x2064x1, .f32⟩
  | .hbm, ⟨95, _⟩ => ⟨S2x8x2064x1, .f32⟩
  | .hbm, ⟨96, _⟩ => ⟨S2x8x2064x2064, .f32⟩
  | .hbm, ⟨97, _⟩ => ⟨S2x8x2064x2064, .f32⟩
  | .hbm, ⟨98, _⟩ => ⟨S2x2x4x2064x2064, .f32⟩
  | .hbm, ⟨99, _⟩ => ⟨S2x2x64x4x2064, .f32⟩
  | .hbm, ⟨100, _⟩ => ⟨S2x2064x2x4x64, .f32⟩
  | .hbm, ⟨101, _⟩ => ⟨S2x2064x512, .f32⟩
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Mlaf.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x2064x1x32 : Shape := ⟨4, ![2, 2064, 1, 32]⟩
abbrev S_ : Shape := ⟨0, ![]⟩
abbrev S2x2064x8x1 : Shape := ⟨4, ![2, 2064, 8, 1]⟩
abbrev S2x2064x8x31 : Shape := ⟨4, ![2, 2064, 8, 31]⟩
abbrev S2x2064x8x128 : Shape := ⟨4, ![2, 2064, 8, 128]⟩
abbrev S2x2048x8x128 : Shape := ⟨4, ![2, 2048, 8, 128]⟩
abbrev S2x16x8x128 : Shape := ⟨4, ![2, 16, 8, 128]⟩
abbrev S2x112x8x96 : Shape := ⟨4, ![2, 112, 8, 96]⟩
abbrev S2x112x8x1 : Shape := ⟨4, ![2, 112, 8, 1]⟩
abbrev S2x112x8x31 : Shape := ⟨4, ![2, 112, 8, 31]⟩
abbrev S2x112x8x128 : Shape := ⟨4, ![2, 112, 8, 128]⟩
abbrev S2x2176x8x128 : Shape := ⟨4, ![2, 2176, 8, 128]⟩
abbrev S4352x1024 : Shape := ⟨2, ![4352, 1024]⟩
abbrev S2x2064x8x2 : Shape := ⟨4, ![2, 2064, 8, 2]⟩
abbrev S2x2064x8x62 : Shape := ⟨4, ![2, 2064, 8, 62]⟩
abbrev S2x112x8x64 : Shape := ⟨4, ![2, 112, 8, 64]⟩
abbrev S2x112x8x2 : Shape := ⟨4, ![2, 112, 8, 2]⟩
abbrev S2x112x8x62 : Shape := ⟨4, ![2, 112, 8, 62]⟩
abbrev S4352x512 : Shape := ⟨2, ![4352, 512]⟩
abbrev S2176x256 : Shape := ⟨2, ![2176, 256]⟩
abbrev S2176x128 : Shape := ⟨2, ![2176, 128]⟩
abbrev S256x128 : Shape := ⟨2, ![256, 128]⟩
abbrev S256x2176 : Shape := ⟨2, ![256, 2176]⟩
abbrev S256 : Shape := ⟨1, ![256]⟩
abbrev S256x1 : Shape := ⟨2, ![256, 1]⟩
abbrev S128x128 : Shape := ⟨2, ![128, 128]⟩
abbrev S128x2176 : Shape := ⟨2, ![128, 2176]⟩
abbrev S128 : Shape := ⟨1, ![128]⟩
abbrev S128x1 : Shape := ⟨2, ![128, 1]⟩
abbrev S2x2176x512 : Shape := ⟨3, ![2, 2176, 512]⟩
abbrev S2x16x512 : Shape := ⟨3, ![2, 16, 512]⟩
abbrev S2x2048x512 : Shape := ⟨3, ![2, 2048, 512]⟩
abbrev S2x2064x512 : Shape := ⟨3, ![2, 2064, 512]⟩

abbrev nBuf : Space → Nat
  | .hbm => 70
  | .vmem => 10
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x2064x1x32, .f32⟩
  | .hbm, ⟨6, _⟩ => ⟨S2x2064x8x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x2064x8x64, .f32⟩
  | .hbm, ⟨12, _⟩ => ⟨S2x2064x8x64, .f32⟩
  | .hbm, ⟨13, _⟩ => ⟨S2x2064x8x32, .f32⟩
  | .hbm, ⟨14, _⟩ => ⟨S2x2064x8x32, .f32⟩
  | .hbm, ⟨15, _⟩ => ⟨S_, .f32⟩
  | .hbm, ⟨16, _⟩ => ⟨S2x2064x8x1, .f32⟩
  | .hbm, ⟨17, _⟩ => ⟨S_, .f32⟩
  | .hbm, ⟨18, _⟩ => ⟨S2x2064x8x31, .f32⟩
  | .hbm, ⟨19, _⟩ => ⟨S2x2064x8x128, .f32⟩
  | .hbm, ⟨20, _⟩ => ⟨S2x2048x8x128, .f32⟩
  | .hbm, ⟨21, _⟩ => ⟨S2x16x8x128, .f32⟩
  | .hbm, ⟨22, _⟩ => ⟨S_, .f32⟩
  | .hbm, ⟨23, _⟩ => ⟨S2x112x8x96, .f32⟩
  | .hbm, ⟨24, _⟩ => ⟨S_, .f32⟩
  | .hbm, ⟨25, _⟩ => ⟨S2x112x8x1, .f32⟩
  | .hbm, ⟨26, _⟩ => ⟨S_, .f32⟩
  | .hbm, ⟨27, _⟩ => ⟨S2x112x8x31, .f32⟩
  | .hbm, ⟨28, _⟩ => ⟨S2x112x8x128, .f32⟩
  | .hbm, ⟨29, _⟩ => ⟨S2x2176x8x128, .f32⟩
  | .hbm, ⟨30, _⟩ => ⟨S4352x1024, .f32⟩
  | .hbm, ⟨31, _⟩ => ⟨S4352x1024, .bf16⟩
  | .hbm, ⟨32, _⟩ => ⟨S_, .f32⟩
  | .hbm, ⟨33, _⟩ => ⟨S2x2064x8x32, .f32⟩
  | .hbm, ⟨34, _⟩ => ⟨S2x2064x8x128, .f32⟩
  | .hbm, ⟨35, _⟩ => ⟨S2x2048x8x128, .f32⟩
  | .hbm, ⟨36, _⟩ => ⟨S2x16x8x128, .f32⟩
  | .hbm, ⟨37, _⟩ => ⟨S_, .f32⟩
  | .hbm, ⟨38, _⟩ => ⟨S2x112x8x96, .f32⟩
  | .hbm, ⟨39, _⟩ => ⟨S_, .f32⟩
  | .hbm, ⟨40, _⟩ => ⟨S2x112x8x1, .f32⟩
  | .hbm, ⟨41, _⟩ => ⟨S_, .f32⟩
  | .hbm, ⟨42, _⟩ => ⟨S2x112x8x31, .f32⟩
  | .hbm, ⟨43, _⟩ => ⟨S2x112x8x128, .f32⟩
  | .hbm, ⟨44, _⟩ => ⟨S2x2176x8x128, .f32⟩
  | .hbm, ⟨45, _⟩ => ⟨S4352x1024, .f32⟩
  | .hbm, ⟨46, _⟩ => ⟨S4352x1024, .bf16⟩
  | .hbm, ⟨47, _⟩ => ⟨S_, .f32⟩
  | .hbm, ⟨48, _⟩ => ⟨S2x2064x8x2, .f32⟩
  | .hbm, ⟨49, _⟩ => ⟨S_, .f32⟩
  | .hbm, ⟨50, _⟩ => ⟨S2x2064x8x62, .f32⟩
  | .hbm, ⟨51, _⟩ => ⟨S2x2064x8x128, .f32⟩
  | .hbm, ⟨52, _⟩ => ⟨S2x2048x8x128, .f32⟩
  | .hbm, ⟨53, _⟩ => ⟨S2x16x8x128, .f32⟩
  | .hbm, ⟨54, _⟩ => ⟨S_, .f32⟩
  | .hbm, ⟨55, _⟩ => ⟨S2x112x8x64, .f32⟩
  | .hbm, ⟨56, _⟩ => ⟨S_, .f32⟩
  | .hbm, ⟨57, _⟩ => ⟨S2x112x8x2, .f32⟩
  | .hbm, ⟨58, _⟩ => ⟨S_, .f32⟩
  | .hbm, ⟨59, _⟩ => ⟨S2x112x8x62, .f32⟩
  | .hbm, ⟨60, _⟩ => ⟨S2x112x8x128, .f32⟩
  | .hbm, ⟨61, _⟩ => ⟨S2x2176x8x128, .f32⟩
  | .hbm, ⟨62, _⟩ => ⟨S4352x1024, .f32⟩
  | .hbm, ⟨63, _⟩ => ⟨S4352x1024, .bf16⟩
  | .hbm, ⟨64, _⟩ => ⟨S4352x512, .f32⟩
  | .hbm, ⟨65, _⟩ => ⟨S4352x512, .f32⟩
  | .hbm, ⟨66, _⟩ => ⟨S2x2176x512, .f32⟩
  | .hbm, ⟨67, _⟩ => ⟨S2x16x512, .f32⟩
  | .hbm, ⟨68, _⟩ => ⟨S2x2048x512, .f32⟩
  | .hbm, ⟨69, _⟩ => ⟨S2x2064x512, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | _, _ => ⟨S2x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_cst_14 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  v79
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  v82
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v85 : Index := Scalar.indexCast v80
  let c0_36 : Index := 0#32
  ![v85.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v91 : Index := Scalar.indexCast v80
  let c128_40 : Index := 128#32
  ![v91.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v97 : Index := Scalar.indexCast v83
  let c0_44 : Index := 0#32
  ![v97.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v103 : Index := Scalar.indexCast v83
  let c128_48 : Index := 128#32
  ![v103.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v79 : BitVec 32 := Scalar.muli arg7 c512_i32
  let v80 : BitVec 32 := v79
  let v174 : Index := Scalar.indexCast v80
  let c0_77 : Index := 0#32
  ![v174.toNat, 0]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_35 : BitVec 32 := 512#32
  let v81 : BitVec 32 := Scalar.muli arg7 c512_i32_35
  let c256_i32 : BitVec 32 := 256#32
  let v82 : BitVec 32 := Scalar.addi v81 c256_i32
  let v83 : BitVec 32 := v82
  let v243 : Index := Scalar.indexCast v83
  let c0_104 : Index := 0#32
  ![v243.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlafRefIdeal.lean ====
abbrev S2x2064x8x64 : Shape := ⟨4, ![2, 2064, 8, 64]⟩
abbrev S2x2064x8x32 : Shape := ⟨4, ![2, 2064, 8, 32]⟩
abbrev S2x2064x32 : Shape := ⟨3, ![2, 2064, 32]⟩
abbrev S2x8x2064x2064 : Shape := ⟨4, ![2, 8, 2064, 2064]⟩
abbrev S2x2064x2064x8 : Shape := ⟨4, ![2, 2064, 2064, 8]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x2064x512 : Shape := ⟨3, ![2, 2064, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x2064x8x64, .f32⟩
  | .hbm, ⟨1, _⟩ => ⟨S2x2064x8x32, .f32⟩
  | .hbm, ⟨2, _⟩ => ⟨S2x2064x8x64, .f32⟩
  | .hbm, ⟨3, _⟩ => ⟨S2x2064x32, .f32⟩
  | .hbm, ⟨4, _⟩ => ⟨S2x2064x8x64, .f32⟩
  | .hbm, ⟨5, _⟩ => ⟨S2x8x2064x2064, .f32⟩
  | .hbm, ⟨6, _⟩ => ⟨S2x2064x2064x8, .f32⟩
  | .hbm, ⟨7, _⟩ => ⟨S2x8x2064x2064, .f32⟩
  | .hbm, ⟨8, _⟩ => ⟨S2x8x2064x2064, .f32⟩
  | .hbm, ⟨9, _⟩ => ⟨S_, .f32⟩
  | .hbm, ⟨10, _⟩ => ⟨S2x8x2064x2064, .f32⟩
  | .hbm, ⟨11, _⟩ => ⟨S2x8x2064x2064, .f32⟩
  | .hbm, ⟨12, _⟩ => ⟨S_, .f32⟩
  | .hbm, ⟨13, _⟩ => ⟨S2x8x2064, .f32⟩
  | .hbm, ⟨14, _⟩ => ⟨S_, .f32⟩
  | .hbm, ⟨15, _⟩ => ⟨S2x8x2064, .f32⟩
  | .hbm, ⟨16, _⟩ => ⟨S2x8x2064, .f32⟩
  | .hbm, ⟨17, _⟩ => ⟨S2x8x2064x1, .f32⟩
  | .hbm, ⟨18, _⟩ => ⟨S2x8x2064x2064, .f32⟩
  | .hbm, ⟨19, _⟩ => ⟨S2x8x2064x2064, .f32⟩
  | .hbm, ⟨20, _⟩ => ⟨S2x8x2064x2064, .f32⟩
  | .hbm, ⟨21, _⟩ => ⟨S_, .f32⟩
  | .hbm, ⟨22, _⟩ => ⟨S2x8x2064, .f32⟩
  | .hbm, ⟨23, _⟩ => ⟨S2x8x2064x1, .f32⟩
  | .hbm, ⟨24, _⟩ => ⟨S2x8x2064x2064, .f32⟩
  | .hbm, ⟨25, _⟩ => ⟨S2x8x2064x2064, .f32⟩
  | .hbm, ⟨26, _⟩ => ⟨S2x8x64x2064, .f32⟩
  | .hbm, ⟨27, _⟩ => ⟨S2x2064x8x64, .f32⟩
  | .hbm, ⟨28, _⟩ => ⟨S2x2064x512, .f32⟩
  | _, _ => ⟨S2x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Norm.lean ====
/- Facts about sums over extended reals and about the gradients of a root-mean-square norm and of a SiLU gate, for any row length: each says that the two usual ways of writing a gradient agree on finite rows. -/
module

public import Idealize.ShloMosaic.PureOps
public import Idealize.ShloMosaic.Lib.IdealHost
public import Idealize.ShloMosaic.Lib.Pointwise
public import Idealize.ShloMosaic.Lib.ReduceAll
public import Mathlib.Tactic.FieldSimp
public import Mathlib.Tactic.Positivity
public import Mathlib.Tactic.Ring

@[expose] public section

noncomputable section

open Idealize.ShloMosaic

namespace Cert.Norm

/-- `x` is a real number (neither infinity). -/
def Num (x : EReal) : Prop := ∃ r : ℝ, x = (r : EReal)

theorem num_coe (r : ℝ) : Num (r : EReal) := ⟨r, rfl⟩
theorem num_zero : Num 0 := ⟨0, by simp⟩
theorem Num.add {x y : EReal} (hx : Num x) (hy : Num y) : Num (x + y) := by
  obtain ⟨a, rfl⟩ := hx; obtain ⟨b, rfl⟩ := hy; exact ⟨a + b, by push_cast; rfl⟩
theorem Num.mul {x y : EReal} (hx : Num x) (hy : Num y) : Num (x * y) := by
  obtain ⟨a, rfl⟩ := hx; obtain ⟨b, rfl⟩ := hy; exact ⟨a * b, by push_cast; rfl⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Num.sum {ι : Type*} (s : Finset ι) {f : ι → EReal} (h : ∀ i, Num (f i)) : Num (∑ i ∈ s, f i) := by
  choose g hg using h
  exact ⟨∑ i ∈ s, g i, by rw [← coe_sum]; exact Finset.sum_congr rfl fun i _ => hg i⟩

theorem Num.logistic {x : EReal} (hx : Num x) : Num (Ideal.logistic x) := by
  obtain ⟨a, rfl⟩ := hx; exact ⟨_, Ideal.logistic_coe a⟩

theorem div_real (a b : ℝ) (hb : b ≠ 0) : Ideal.div (a : EReal) (b : EReal) = ((a / b : ℝ) : EReal) := by
  rw [Ideal.div_coe hb, ← EReal.coe_mul]; congr 1; field_simp

theorem rsqrt_pos (a : ℝ) (ha : 0 < a) : Ideal.rsqrt (a : EReal) = (((Real.sqrt a)⁻¹ : ℝ) : EReal) := by
  rw [Ideal.rsqrt_coe, if_neg ha.not_gt, if_neg ha.ne']

/-- A printed `all(|x| < ∞)` that is true says that every element is a number. -/
theorem num_of_all {s : Shape} (x : FVec Ideal s .f32) {axes : List (Fin s.rank)} (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32)))
      (constantI ⟨0, ![]⟩ 1 1#1) hr hu j = 1#1) (i : s.Idx) : Num (x i) := by
  have h1 := Host.reduce_andi_all _ _ _ _ j h i
  replace h1 : Ideal.cmp .olt (max (x i) (-(x i))) (Ideal.ofBits .f32 0x7F800000#32) = 1#1 := h1
  generalize x i = v at h1
  induction v using EReal.rec with
  | bot => exfalso; revert h1; simp [Ideal.cmp, Ideal.ofBits, Ideal.ieee]
  | top => exfalso; revert h1; simp [Ideal.cmp, Ideal.ofBits, Ideal.ieee]
  | coe r => exact ⟨r, rfl⟩

section Rms
variable {n : Nat} (N e : EReal) (y z : Fin n → EReal)

/-- The reciprocal of the root mean square of `y`, `N` its length and `e` the small number added. -/
def rst : EReal := Ideal.rsqrt (Ideal.div (∑ x, y x * y x) N + e)

/-- The gradient of `y ↦ y * rst y` at `z`, as `r z - y r³ mean(z y)`. -/
def normBwd (k : Fin n) : EReal :=
  rst N e y * z k - y k * (rst N e y * rst N e y * rst N e y) * Ideal.div (∑ x, z x * y x) N

/-- The share of one row in the slope of the mean square, as differentiation of `rsqrt` writes it. -/
def slope (H : EReal) : EReal :=
  ∑ _x : Fin 1, Ideal.div ((∑ x, y x * z x) * (H * Ideal.div (rst N e y) (Ideal.div (∑ x, y x * y x) N + e))) N

variable {N e y z}

theorem rst_real {ν ε : ℝ} (hN : N = (ν : EReal)) (hν : 0 < ν) (he : e = (ε : EReal)) (hε : 0 < ε) (f : Fin n → ℝ) (hy : y = fun k => (f k : EReal)) :
    0 < (∑ x, f x * f x) / ν + ε ∧ Ideal.div (∑ x, y x * y x) N + e = (((∑ x, f x * f x) / ν + ε : ℝ) : EReal)
      ∧ rst N e y = (((Real.sqrt ((∑ x, f x * f x) / ν + ε))⁻¹ : ℝ) : EReal) := by
  have h0 : 0 < (∑ x, f x * f x) / ν + ε := by
    have : 0 ≤ ∑ x, f x * f x := Finset.sum_nonneg fun i _ => mul_self_nonneg _
    positivity
  have h1 : Ideal.div (∑ x, y x * y x) N + e = (((∑ x, f x * f x) / ν + ε : ℝ) : EReal) := by
    subst hy hN he
    simp only [← EReal.coe_mul, coe_sum, div_real _ _ hν.ne', ← EReal.coe_add]
  exact ⟨h0, h1, by rw [rst, h1, rsqrt_pos _ h0]⟩

theorem num_rst {ν ε : ℝ} (hN : N = (ν : EReal)) (hν : 0 < ν) (he : e = (ε : EReal)) (hε : 0 < ε) (hy : ∀ k, Num (y k)) : Num (rst N e y) := by
  choose f hf using hy
  exact ⟨_, (rst_real hN hν he hε f (funext hf)).2.2⟩

/-- The two ways of writing the norm's gradient agree on finite rows. -/
theorem normBwd_eq {ν ε : ℝ} (hN : N = (ν : EReal)) (hν : 0 < ν) (he : e = (ε : EReal)) (hε : 0 < ε) {H : EReal} (hH : H = ((-1 / 2 : ℝ) : EReal))
    (hy : ∀ k, Num (y k)) (hz : ∀ k, Num (z k)) (k : Fin n) :
    normBwd N e y z k = z k * rst N e y + y k * slope N e y z H + slope N e y z H * y k := by
  choose f hf using hy
  choose g hg using hz
  obtain ⟨h0, h1, h2⟩ := rst_real hN hν he hε f (funext hf)
  rw [normBwd, slope, h2, h1]
  obtain rfl : y = fun k => (f k : EReal) := funext hf
  obtain rfl : z = fun k => (g k : EReal) := funext hg
  subst hN hH
  set v : ℝ := (∑ x, f x * f x) / ν + ε with hv
  have hs : Real.sqrt v ≠ 0 := (Real.sqrt_pos.mpr h0).ne'
  simp only [← EReal.coe_mul, coe_sum, div_real _ _ hν.ne', div_real _ _ h0.ne', ← EReal.coe_sub, ← EReal.coe_add, Finset.univ_unique, Finset.sum_const, Finset.card_singleton, one_smul]
  congr 1
  have e1 : ∑ x, g x * f x = ∑ x, f x * g x := Finset.sum_congr rfl fun _ _ => mul_comm _ _
  have e2 : (Real.sqrt v)⁻¹ / v = (Real.sqrt v)⁻¹ * (Real.sqrt v)⁻¹ * (Real.sqrt v)⁻¹ := by
    rw [div_eq_mul_inv, mul_assoc]; congr 1; rw [← mul_inv, Real.mul_self_sqrt h0.le]
  rw [e1, e2]
  field_simp
  ring

end Rms

/-- The two ways of writing a SiLU gate's gradient agree on finite values. -/
theorem gate_eq {d a g : EReal} (hd : Num d) (ha : Num a) (hg : Num g) :
    d * a * (Ideal.logistic g * (1 + g * (1 - Ideal.logistic g)))
      = a * d * Ideal.logistic g + g * (a * d) * (Ideal.logistic g * (1 - Ideal.logistic g)) := by
  obtain ⟨d, rfl⟩ := hd; obtain ⟨a, rfl⟩ := ha; obtain ⟨g, rfl⟩ := hg
  rw [Ideal.logistic_coe, ← EReal.coe_one]
  simp only [← EReal.coe_mul, ← EReal.coe_sub, ← EReal.coe_add]
  congr 1; ring

/-! ### One half of a row: a root-mean-square norm with gains `a`, multiplied by the SiLU of the gate `g`, and its gradients at `d` -/

section Half
variable {n : Nat} (N e : EReal) (y g d a : Fin n → EReal) (k : Fin n)

def silu (x : EReal) : EReal := x * Ideal.logistic x
def halfOut : EReal := y k * rst N e y * a k * silu (g k)
def halfDy : EReal := normBwd N e y (fun k => d k * silu (g k) * a k) k
def halfDg : EReal := d k * (y k * rst N e y * a k) * (Ideal.logistic (g k) * (1 + g k * (1 - Ideal.logistic (g k))))
def halfDn : EReal := d k * silu (g k) * (y k * rst N e y)

end Half

/-! ### The packed row order: per example the rows 16…2063, then the rows 0…15, then zero rows up to 2176. -/

/-- The packed row of example `b`'s row `l`. -/
def rowAt (b : Fin 2) (l : Fin 2064) : Fin 4352 :=
  ⟨b.val * 2176 + (if l.val < 16 then 2048 + l.val else l.val - 16), by have := b.isLt; have := l.isLt; split <;> omega⟩

theorem rowAt_val (b : Fin 2) (l : Fin 2064) : (rowAt b l).val = b.val * 2176 + (if l.val < 16 then 2048 + l.val else l.val - 16) := rfl

/-- A sum over packed rows whose zero rows contribute nothing is the sum over examples and rows. -/
theorem sum_packed (f : Fin 4352 → EReal) (hf : ∀ p : Fin 4352, 2064 ≤ p.val % 2176 → f p = 0) :
    ∑ p, f p = ∑ b : Fin 2, ∑ l : Fin 2064, f (rowAt b l) := by
  rw [← Fintype.sum_prod_type' (f := fun b l => f (rowAt b l))]
  refine (Fintype.sum_of_injective (fun q : Fin 2 × Fin 2064 => rowAt q.1 q.2) ?_ _ _ ?_ fun _ => rfl).symm
  · rintro ⟨b, l⟩ ⟨b', l'⟩ h
    have h' : b.val * 2176 + (if l.val < 16 then 2048 + l.val else l.val - 16) = b'.val * 2176 + (if l'.val < 16 then 2048 + l'.val else l'.val - 16) := congrArg Fin.val h
    have h1 := l.isLt; have h2 := l'.isLt
    refine Prod.ext (Fin.ext ?_) (Fin.ext ?_) <;> dsimp only <;> split_ifs at h' <;> omega
  · intro p hp
    refine hf p ?_
    by_contra hc
    refine hp ⟨(⟨p.val / 2176, by have := p.isLt; omega⟩, if h : p.val % 2176 < 2048 then ⟨p.val % 2176 + 16, by omega⟩ else ⟨p.val % 2176 - 2048, by omega⟩), Fin.ext ?_⟩
    dsimp only
    rw [rowAt_val]
    split_ifs with h1 h2 h2 <;> dsimp only at h2 ⊢ <;> omega

end Cert.Norm

namespace Idealize.ShloMosaic

variable {n0 n1 n2 : Nat}

/-- A host's float sum over the first two axes of a rank 3 array, at an index. -/
theorem Ideal.hostSum_first_two (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ k0 : Fin n0, ∑ k1 : Fin n1, v (ix3 k0 k1 j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end Idealize.ShloMosaic

end
-- ==== Proof.OutTiles.lean ====
/- The arrays the gradient kernel of the gated output leaves, as functions of the packed rows. -/
module
public import proofs.«01_k».proof.Proof.Gen.OutIdeal.Frame
public import proofs.«01_k».proof.Proof.Norm
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Norm
variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 2]
    ∧ win0_4.index t = ![t.val, 4]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![0, 0] :=
  (by decide +kernel : ∀ t : Fin grid0.N, _)

/-- The length of a half row and the number added to its mean square, as their words read. -/
abbrev Nc : EReal := Ideal.ofBits .f32 1140850688#32
abbrev ec : EReal := Ideal.ofBits .f32 897988541#32

/-! ### The packed rows: the two halves' inputs, gates, output gradients and gains -/
abbrev dhM (c : Dev nD) : FVec Ideal S4352x1024 .f32 := V m c main_v11
abbrev wM (c : Dev nD) : FVec Ideal S1024x1024 .bf16 := V m c main_v24
abbrev gM (c : Dev nD) : FVec Ideal S4352x2560 .f32 := V m c main_v6
abbrev yaM (c : Dev nD) : FVec Ideal S4352x512 .f32 := V m c main_v16
abbrev ybM (c : Dev nD) : FVec Ideal S4352x512 .f32 := V m c main_v21
abbrev naM (c : Dev nD) : FVec Ideal S1x512 .f32 := V m c main_v22
abbrev nbM (c : Dev nD) : FVec Ideal S1x512 .f32 := V m c main_v23
def yA (c : Dev nD) (p : Fin 4352) : Fin 512 → EReal := fun k => yaM m c (ix2 p k)
def yB (c : Dev nD) (p : Fin 4352) : Fin 512 → EReal := fun k => ybM m c (ix2 p k)
def gA (c : Dev nD) (p : Fin 4352) : Fin 512 → EReal := fun k => gM m c (ix2 p ⟨1024 + k.val, by omega⟩)
def gB (c : Dev nD) (p : Fin 4352) : Fin 512 → EReal := fun k => gM m c (ix2 p ⟨2048 + k.val, by omega⟩)
def dA (c : Dev nD) (p : Fin 4352) : Fin 512 → EReal := fun k => ∑ x : Fin 1024, dhM m c (ix2 p x) * wM m c (ix2 ⟨k.val, by omega⟩ x)
def dB (c : Dev nD) (p : Fin 4352) : Fin 512 → EReal := fun k => ∑ x : Fin 1024, dhM m c (ix2 p x) * wM m c (ix2 ⟨512 + k.val, by omega⟩ x)
def nA (c : Dev nD) : Fin 512 → EReal := fun k => naM m c (ix2 0 k)
def nB (c : Dev nD) : Fin 512 → EReal := fun k => nbM m c (ix2 0 k)

def res8 (c : Dev nD) : FVec Ideal S4352x512 .f32 := fun i => halfDy Nc ec (yA m c (i 0)) (gA m c (i 0)) (dA m c (i 0)) (nA m c) (i 1)

theorem final8 (c : Dev nD) : (dats m 0 c).arrAt 8 (cfgs 0).N = res8 m c := by
  refine (dats m 0 c).arrAt_eq_of_covers 8 _ (by decide +kernel) fun t hf y => ?_
  blk_simp; rw [after0_8]
  by_cases h : t.val % 17 = 0
  · rw [outsAt0_A m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res8, halfDy, normBwd, rst, silu, yA, gA, dA, nA]
    blk_point [iblk, idx_val t]
  · rw [outsAt0_B m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res8, halfDy, normBwd, rst, silu, yA, gA, dA, nA]
    blk_point [iblk, idx_val t]

def res9 (c : Dev nD) : FVec Ideal S4352x512 .f32 := fun i => halfDy Nc ec (yB m c (i 0)) (gB m c (i 0)) (dB m c (i 0)) (nB m c) (i 1)

theorem final9 (c : Dev nD) : (dats m 0 c).arrAt 9 (cfgs 0).N = res9 m c := by
  refine (dats m 0 c).arrAt_eq_of_covers 9 _ (by decide +kernel) fun t hf y => ?_
  blk_simp; rw [after0_9]
  by_cases h : t.val % 17 = 0
  · rw [outsAt0_A m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res9, halfDy, normBwd, rst, silu, yB, gB, dB, nB]
    blk_point [iblk, idx_val t]
  · rw [outsAt0_B m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res9, halfDy, normBwd, rst, silu, yB, gB, dB, nB]
    blk_point [iblk, idx_val t]

def res10 (c : Dev nD) : FVec Ideal S4352x512 .f32 := fun i => halfDg Nc ec (yA m c (i 0)) (gA m c (i 0)) (dA m c (i 0)) (nA m c) (i 1)

theorem final10 (c : Dev nD) : (dats m 0 c).arrAt 10 (cfgs 0).N = res10 m c := by
  refine (dats m 0 c).arrAt_eq_of_covers 10 _ (by decide +kernel) fun t hf y => ?_
  blk_simp; rw [after0_10]
  by_cases h : t.val % 17 = 0
  · rw [outsAt0_A m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res10, halfDg, normBwd, rst, silu, yA, gA, dA, nA]
    blk_point [iblk, idx_val t]
  · rw [outsAt0_B m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res10, halfDg, normBwd, rst, silu, yA, gA, dA, nA]
    blk_point [iblk, idx_val t]

def res11 (c : Dev nD) : FVec Ideal S4352x512 .f32 := fun i => halfDg Nc ec (yB m c (i 0)) (gB m c (i 0)) (dB m c (i 0)) (nB m c) (i 1)

theorem final11 (c : Dev nD) : (dats m 0 c).arrAt 11 (cfgs 0).N = res11 m c := by
  refine (dats m 0 c).arrAt_eq_of_covers 11 _ (by decide +kernel) fun t hf y => ?_
  blk_simp; rw [after0_11]
  by_cases h : t.val % 17 = 0
  · rw [outsAt0_A m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res11, halfDg, normBwd, rst, silu, yB, gB, dB, nB]
    blk_point [iblk, idx_val t]
  · rw [outsAt0_B m c t h]; dsimp only
    frame_out
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, res11, halfDg, normBwd, rst, silu, yB, gB, dB, nB]
    blk_point [iblk, idx_val t]
end Cert.OutIdeal.Value
end
-- ==== Proof.Packed.lean ====
/- Rows packed with the first sixteen behind the rest, and zero rows after them. -/
module
public import proofs.«01_k».proof.Proof.Norm
@[expose] public section
noncomputable section
namespace Cert.Norm
open Idealize.ShloMosaic

/-- The value at row `p` of rows packed with the first 16 behind the rest and 112 zero rows after them. -/
def packed (f : Fin 2 → Fin 2064 → EReal) (p : Fin 4352) : EReal :=
  if h : p.val % 2176 < 2048 then f ⟨p.val / 2176, by omega⟩ ⟨16 + p.val % 2176, by omega⟩
  else if h' : p.val % 2176 - 2048 < 16 then f ⟨p.val / 2176, by omega⟩ ⟨p.val % 2176 - 2048, by omega⟩ else 0

theorem packed_rowAt (f : Fin 2 → Fin 2064 → EReal) (b : Fin 2) (l : Fin 2064) : packed f (rowAt b l) = f b l := by
  have e := rowAt_val b l
  have hb := b.isLt
  have hl := l.isLt
  unfold packed
  by_cases h16 : l.val < 16
  · rw [if_pos h16] at e
    rw [dif_neg (by omega), dif_pos (by omega)]
    exact congrArg₂ f (Fin.ext (by show (rowAt b l).val / 2176 = b.val; omega)) (Fin.ext (by show (rowAt b l).val % 2176 - 2048 = l.val; omega))
  · rw [if_neg h16] at e
    rw [dif_pos (by omega)]
    exact congrArg₂ f (Fin.ext (by show (rowAt b l).val / 2176 = b.val; omega)) (Fin.ext (by show 16 + (rowAt b l).val % 2176 = l.val; omega))

theorem packed_pad (f : Fin 2 → Fin 2064 → EReal) (p : Fin 4352) (h : 2064 ≤ p.val % 2176) : packed f p = 0 := by
  unfold packed
  rw [dif_neg (by omega), dif_neg (by omega)]

end Cert.Norm
end
-- ==== Proof.OutPack.lean ====
/- The packed operands of the gradient kernel of the gated output, read from its arguments. -/
module
public import proofs.«01_k».proof.Proof.Gen.OutIdeal.Frame
public import proofs.«01_k».proof.Proof.OutTiles
public import proofs.«01_k».proof.Proof.Packed
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Norm
variable (m : (ℓ : Loc nD τ sig) → Buf (Elt Ideal) ℓ)

theorem V_flat (c : Dev nD) : V0 m c = StableHlo.after hostOps0 (fun b => m (c, b)) := by
  unfold V0; simp only [List.flatten_cons, List.flatten_nil, List.append_nil]

section Args
variable (c : Dev nD)
abbrev a0 : FVec Ideal ⟨3, ![2, 2064, 1024]⟩ .f32 := m (c, Proc.devRef .tc main_arg0)
abbrev a1 : FVec Ideal ⟨3, ![2, 2064, 512]⟩ .f32 := m (c, Proc.devRef .tc main_arg1)
abbrev a2 : FVec Ideal ⟨3, ![2, 2064, 512]⟩ .f32 := m (c, Proc.devRef .tc main_arg2)
abbrev a3 : FVec Ideal ⟨3, ![2, 2064, 512]⟩ .f32 := m (c, Proc.devRef .tc main_arg3)
abbrev a4 : FVec Ideal ⟨3, ![2, 2064, 512]⟩ .f32 := m (c, Proc.devRef .tc main_arg4)
abbrev a5 : FVec Ideal ⟨1, ![512]⟩ .f32 := m (c, Proc.devRef .tc main_arg5)
abbrev a6 : FVec Ideal ⟨1, ![512]⟩ .f32 := m (c, Proc.devRef .tc main_arg6)
abbrev a7 : FVec Ideal ⟨2, ![1024, 1024]⟩ .f32 := m (c, Proc.devRef .tc main_arg7)
end Args

set_option maxHeartbeats 2000000 in
theorem pack0 (c : Dev nD) (p : Fin 4352) (k : Fin 1024) : dhM m c (ix2 p k) = packed (fun b l => a0 m c (ix3 b l k)) p := by
  unfold packed
  unfold dhM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack1 (c : Dev nD) (p : Fin 4352) (k : Fin 512) : yaM m c (ix2 p k) = packed (fun b l => a1 m c (ix3 b l k)) p := by
  unfold packed
  unfold yaM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack2 (c : Dev nD) (p : Fin 4352) (k : Fin 512) : ybM m c (ix2 p k) = packed (fun b l => a2 m c (ix3 b l k)) p := by
  unfold packed
  unfold ybM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack3 (c : Dev nD) (p : Fin 4352) (k : Fin 512) : gM m c (ix2 p ⟨1024 + k.val, by omega⟩) = packed (fun b l => a3 m c (ix3 b l k)) p := by
  unfold packed
  unfold gM
  rw [show V m c = fun b => V0 m c (Proc.devRef .tc b) from rfl, V_flat]
  simp only [hostOps0]
  after_results
  try dsimp only [Matrix.cons_val]
  try after_results_steps
  try dsimp only [Matrix.cons_val]
  try after_results_steps
  pointwise
  have hk := k.isLt
  simp only [dif_neg (show ¬ (1024 + k.val < 512) by omega), dif_neg (show ¬ (1024 + k.val - 512 < 512) by omega),
    dif_pos (show 1024 + k.val - 512 - 512 < 512 by omega), show 1024 + k.val - 512 - 512 = k.val by omega, dif_pos hk, Fin.eta]

set_option maxHeartbeats 2000000 in
theorem pack4 (c : Dev nD) (p : Fin 4352) (k : Fin 512) : gM m c (ix2 p ⟨2048 + k.val, by omega⟩) = packed (fun b l => a4 m c (ix3 b l k)) p := by
  unfold packed
  unfold gM
  rw [show V m c = fun b => V0 m c (Proc.devRef .tc b) from rfl, V_flat]
  simp only [hostOps0]
  after_results
  try dsimp only [Matrix.cons_val]
  try after_results_steps
  try dsimp only [Matrix.cons_val]
  try after_results_steps
  pointwise
  have hk := k.isLt
  simp only [dif_neg (show ¬ (2048 + k.val < 512) by omega), dif_neg (show ¬ (2048 + k.val - 512 < 512) by omega),
    dif_neg (show ¬ (2048 + k.val - 512 - 512 < 512) by omega), dif_neg (show ¬ (2048 + k.val - 512 - 512 - 512 < 512) by omega),
    show 2048 + k.val - 512 - 512 - 512 - 512 = k.val by omega, Fin.eta]

set_option maxHeartbeats 2000000 in
theorem pack5 (c : Dev nD) (k : Fin 512) : naM m c (ix2 0 k) = a5 m c (ix1 k) := by
  unfold naM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack6 (c : Dev nD) (k : Fin 512) : nbM m c (ix2 0 k) = a6 m c (ix1 k) := by
  unfold nbM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack7 (c : Dev nD) (k x : Fin 1024) : wM m c (ix2 k x) = a7 m c (ix2 k x) := by
  unfold wM
  rw [show V m c = fun b => V0 m c (Proc.devRef .tc b) from rfl, V_flat]
  simp only [hostOps0]
  after_results
  try dsimp only [Matrix.cons_val]
  try after_results_steps
  try dsimp only [Matrix.cons_val]
  try after_results_steps
  pointwise
end Cert.OutIdeal.Value
end
-- ==== Proof.OutSums.lean ====
/- The sums over all rows that the gradient kernel of the gated output leaves. -/
module
public import proofs.«01_k».proof.Proof.Gen.OutIdeal.Frame
public import proofs.«01_k».proof.Proof.OutTiles
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Norm
variable (m : (ℓ : Loc nD τ sig) → Buf (Elt Ideal) ℓ)

theorem points_lt (t : Fin cfg0.N) : t.val < 17 := t.isLt

/-- Row `r` of the block at point `t`. -/
def rowOf (t : Fin cfg0.N) (r : Fin 256) : Fin 4352 := ⟨t.val * 256 + r.val, by have := points_lt t; omega⟩

section Reads
variable (c : Dev nD) (t : Fin cfg0.N)
theorem read0 (r : Fin 256) (x : Fin 1024) : (iblk m c 0 t : FVec Ideal ⟨2, ![256, 1024]⟩ .f32) (ix2 r x) = dhM m c (ix2 (rowOf t r) x) := by
  unfold rowOf; blk_point [iblk, idx_val t]
theorem read1 (r : Fin 256) (x : Fin 512) : (iblk m c 1 t : FVec Ideal ⟨2, ![256, 512]⟩ .f32) (ix2 r x) = yaM m c (ix2 (rowOf t r) x) := by
  unfold rowOf; blk_point [iblk, idx_val t]
theorem read2 (r : Fin 256) (x : Fin 512) : (iblk m c 2 t : FVec Ideal ⟨2, ![256, 512]⟩ .f32) (ix2 r x) = ybM m c (ix2 (rowOf t r) x) := by
  unfold rowOf; blk_point [iblk, idx_val t]
theorem read3 (r : Fin 256) (x : Fin 512) : (iblk m c 3 t : FVec Ideal ⟨2, ![256, 512]⟩ .f32) (ix2 r x) = gM m c (ix2 (rowOf t r) ⟨1024 + x.val, by omega⟩) := by
  unfold rowOf; blk_point [iblk, idx_val t]
theorem read4 (r : Fin 256) (x : Fin 512) : (iblk m c 4 t : FVec Ideal ⟨2, ![256, 512]⟩ .f32) (ix2 r x) = gM m c (ix2 (rowOf t r) ⟨2048 + x.val, by omega⟩) := by
  unfold rowOf; blk_point [iblk, idx_val t]
theorem read5 (r : Fin 1) (x : Fin 512) : (iblk m c 5 t : FVec Ideal ⟨2, ![1, 512]⟩ .f32) (ix2 r x) = naM m c (ix2 r x) := by
  blk_point [iblk, idx_val t]
theorem read6 (r : Fin 1) (x : Fin 512) : (iblk m c 6 t : FVec Ideal ⟨2, ![1, 512]⟩ .f32) (ix2 r x) = nbM m c (ix2 r x) := by
  blk_point [iblk, idx_val t]
theorem read7 (r : Fin 1024) (x : Fin 1024) : (iblk m c 7 t : FVec Ideal ⟨2, ![1024, 1024]⟩ .bf16) (ix2 r x) = wM m c (ix2 r x) := by
  blk_point [iblk, idx_val t]
end Reads

def part13 (c : Dev nD) (t : Fin cfg0.N) (j : S1x512.Idx) : EReal :=
  ∑ r : Fin 256, halfDn Nc ec (yA m c (rowOf t r)) (gA m c (rowOf t r)) (dA m c (rowOf t r)) (j 1)

def res13 (c : Dev nD) : FVec Ideal S1x512 .f32 := fun j => ∑ p : Fin 4352, halfDn Nc ec (yA m c p) (gA m c p) (dA m c p) (j 1)

theorem final13 (c : Dev nD) : (dats m 0 c).arrAt 13 (cfgs 0).N = res13 m c := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 17 (fun _ => 0) (part13 m c)
    (fun t h j => by
      rw [outsAt0_A m c t h]; dsimp only
      frame_out
      idx_vars j
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, part13, halfDn, rst, silu, yA, gA, dA, nA]
      simp only [read0, read1, read2, read3, read4, read5, read6, read7])
    (fun t h j => by
      rw [outsAt0_B m c t h]; dsimp only
      frame_out
      idx_vars j
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, part13, halfDn, rst, silu, yA, gA, dA, nA]
      simp only [read0, read1, read2, read3, read4, read5, read6, read7])
    t ((flush0_13 t).mp hf) _, zero_add]
  unfold part13 res13
  refine Fin.sum_mul_add_congr fun s k hl => ?_
  have e1 : rowOf ⟨17 * (t.val / 17) + s.val, by have := points_lt t; show _ < 17; omega⟩ k = (⟨s.val * 256 + k.val, hl⟩ : Fin 4352) := by
    have := points_lt t; apply Fin.ext; simp only [rowOf]; omega
  rw [e1]
  blk_point [idx_val t]

def part14 (c : Dev nD) (t : Fin cfg0.N) (j : S1x512.Idx) : EReal :=
  ∑ r : Fin 256, halfDn Nc ec (yB m c (rowOf t r)) (gB m c (rowOf t r)) (dB m c (rowOf t r)) (j 1)

def res14 (c : Dev nD) : FVec Ideal S1x512 .f32 := fun j => ∑ p : Fin 4352, halfDn Nc ec (yB m c p) (gB m c p) (dB m c p) (j 1)

theorem final14 (c : Dev nD) : (dats m 0 c).arrAt 14 (cfgs 0).N = res14 m c := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 17 (fun _ => 0) (part14 m c)
    (fun t h j => by
      rw [outsAt0_A m c t h]; dsimp only
      frame_out
      idx_vars j
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, part14, halfDn, rst, silu, yB, gB, dB, nB]
      simp only [read0, read1, read2, read3, read4, read5, read6, read7])
    (fun t h j => by
      rw [outsAt0_B m c t h]; dsimp only
      frame_out
      idx_vars j
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, part14, halfDn, rst, silu, yB, gB, dB, nB]
      simp only [read0, read1, read2, read3, read4, read5, read6, read7])
    t ((flush0_14 t).mp hf) _, zero_add]
  unfold part14 res14
  refine Fin.sum_mul_add_congr fun s k hl => ?_
  have e1 : rowOf ⟨17 * (t.val / 17) + s.val, by have := points_lt t; show _ < 17; omega⟩ k = (⟨s.val * 256 + k.val, hl⟩ : Fin 4352) := by
    have := points_lt t; apply Fin.ext; simp only [rowOf]; omega
  rw [e1]
  blk_point [idx_val t]
end Cert.OutIdeal.Value
end
-- ==== Proof.Rows.lean ====
/- What a buffer holds at one place after stores of whole rows. -/
module
public import Idealize.ShloMosaic.Lib.Pipeline.ValueKit
public import Idealize.ShloMosaic.Lib.Pointwise
@[expose] public section
noncomputable section
namespace Cert.Rows
open Idealize.ShloMosaic

variable {M n k o : Nat} {e : EltTy}

/-- The newest store holds the place. -/
theorem canon_hit (inb : ∀ a, (![o, 0] : Fin 2 → Nat) a + (![k, n] : Fin 2 → Nat) a ≤ (⟨2, ![M, n]⟩ : Shape).size a)
    (w : (⟨2, ![k, n]⟩ : Shape).Idx → Elt Ideal e) (L : List (View.Piece (Elt Ideal) (⟨2, ![M, n]⟩ : Shape) e))
    (i : Fin M) (j : Fin n) (h : o ≤ i.val ∧ i.val < o + k) :
    View.canon ((⟨Rect.unit (s := (⟨2, ![M, n]⟩ : Shape)) ![o, 0] ![k, n] inb, w⟩ : View.Piece (Elt Ideal) (⟨2, ![M, n]⟩ : Shape) e) :: L) (ix2 i j)
      = w (ix2 ⟨i.val - o, by omega⟩ j) := by
  have e1 : (ix2 i j : (⟨2, ![M, n]⟩ : Shape).Idx)
      = (Rect.unit (s := (⟨2, ![M, n]⟩ : Shape)) ![o, 0] ![k, n] inb).emb (ix2 ⟨i.val - o, by omega⟩ j) := by
    funext a
    refine Fin.ext ?_
    fin_cases a
    · show i.val = o + 1 * (i.val - o)
      omega
    · show j.val = 0 + 1 * j.val
      omega
  rw [e1, View.canon_cons_emb]

/-- The newest store does not hold the place. -/
theorem canon_miss (inb : ∀ a, (![o, 0] : Fin 2 → Nat) a + (![k, n] : Fin 2 → Nat) a ≤ (⟨2, ![M, n]⟩ : Shape).size a)
    (w : (⟨2, ![k, n]⟩ : Shape).Idx → Elt Ideal e) (L : List (View.Piece (Elt Ideal) (⟨2, ![M, n]⟩ : Shape) e))
    (i : Fin M) (j : Fin n) (h : i.val < o ∨ o + k ≤ i.val) :
    View.canon ((⟨Rect.unit (s := (⟨2, ![M, n]⟩ : Shape)) ![o, 0] ![k, n] inb, w⟩ : View.Piece (Elt Ideal) (⟨2, ![M, n]⟩ : Shape) e) :: L) (ix2 i j)
      = View.canon L (ix2 i j) := by
  refine View.canon_cons_of_not_mem _ _ ?_
  intro hm
  have := (Rect.mem_set_unit (inb := inb) |>.mp hm) 0
  have e0 : ((ix2 i j : (⟨2, ![M, n]⟩ : Shape).Idx) 0 : Nat) = i.val := rfl
  rw [e0] at this
  simp at this
  omega

/-- A load of rows of stored rows. -/
theorem load_rows {sig : RefSig} {κ : Kind} {sp : Space} (v : View sig κ sp (⟨2, ![M, n]⟩ : Shape) e)
    (inb : ∀ a, (![o, 0] : Fin 2 → Nat) a + (![k, n] : Fin 2 → Nat) a ≤ (⟨2, ![M, n]⟩ : Shape).size a)
    (L : List (View.Piece (Elt Ideal) (⟨2, ![M, n]⟩ : Shape) e)) (i : Fin k) (j : Fin n) (h : o + i.val < M) :
    v.readCov L (Rect.unit (s := (⟨2, ![M, n]⟩ : Shape)) ![o, 0] ![k, n] inb).toLoadRect (ix2 i j)
      = View.canon L (ix2 ⟨o + i.val, h⟩ j) := by
  rw [View.readCov_eq_canon']
  refine congrArg (View.canon L) ?_
  funext a
  refine Fin.ext ?_
  fin_cases a
  · show o + 1 * i.val = o + i.val
    omega
  · show 0 + 1 * j.val = j.val
    omega
end Cert.Rows
end
-- ==== Proof.OutWeight.lean ====
/- The weight gradient that the gradient kernel of the gated output leaves. -/
module
public import proofs.«01_k».proof.Proof.Gen.OutIdeal.Frame
public import proofs.«01_k».proof.Proof.OutSums
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Norm
variable (m : (ℓ : Loc nD τ sig) → Buf (Elt Ideal) ℓ)

/-- The normed and gated row, both halves side by side. -/
def xcat (c : Dev nD) (p : Fin 4352) (k : Fin 1024) : EReal :=
  if h : k.val < 512 then halfOut Nc ec (yA m c p) (gA m c p) (nA m c) ⟨k.val, h⟩
  else halfOut Nc ec (yB m c p) (gB m c p) (nB m c) ⟨k.val - 512, by omega⟩

def term12 (c : Dev nD) (i j : Fin 1024) (p : Fin 4352) : EReal := xcat m c p i * dhM m c (ix2 p j)

def part12 (c : Dev nD) (t : Fin cfg0.N) (j : S1024x1024.Idx) : EReal := ∑ r : Fin 256, term12 m c (j 0) (j 1) (rowOf t r)

def res12 (c : Dev nD) : FVec Ideal S1024x1024 .f32 := fun j => ∑ p : Fin 4352, term12 m c (j 0) (j 1) p

theorem runs12 (c : Dev nD) (t : Fin cfg0.N) (hf : t.val % 17 = 16) (j : S1024x1024.Idx) :
    0 + ∑ s : Fin 17, part12 m c ⟨17 * (t.val / 17) + s.val, Pipeline.run_point_lt_of_flush t hf s⟩ j = res12 m c j := by
  rw [zero_add]
  unfold part12 res12
  generalize (j 0 : Fin 1024) = a
  generalize (j 1 : Fin 1024) = b
  refine Fin.sum_mul_add_congr fun s k hl => ?_
  refine congrArg (term12 m c a b) (Fin.ext ?_)
  have := points_lt t
  show (17 * (t.val / 17) + s.val) * 256 + k.val = s.val * 256 + k.val
  omega

set_option maxHeartbeats 2000000 in
theorem final12 (c : Dev nD) : (dats m 0 c).arrAt 12 (cfgs 0).N = res12 m c := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 17 (fun _ => 0) (part12 m c)
    (fun t h j => by
      rw [outsAt0_A m c t h]; dsimp only
      frame_out
      idx_vars j
      by_cases hj : j0.val < 512
      · rw [Rows.canon_miss _ _ _ j0 j1 (Or.inl hj), Rows.canon_hit _ _ _ j0 j1 ⟨Nat.zero_le _, by omega⟩]
        open_payloads
        pointwise [part12, term12, xcat, halfOut, rst, silu, yA, gA, nA, yB, gB, nB]
        rw [Rows.load_rows (o := 0) (h := by omega), Rows.canon_hit (o := 0) (h := ⟨Nat.zero_le _, by first | omega | (show _ < 1024; omega)⟩)]
        simp only [dif_pos hj]
        simp only [read0, read1, read2, read3, read4, read5, read6, read7]
        pointwise
      · rw [Rows.canon_hit _ _ _ j0 j1 ⟨by omega, by omega⟩]
        open_payloads
        pointwise [part12, term12, xcat, halfOut, rst, silu, yA, gA, nA, yB, gB, nB]
        rw [Rows.load_rows (o := 512) (h := by omega), Rows.canon_miss (o := 0) (h := Or.inr (Nat.le_add_right _ _)), Rows.canon_hit (o := 0) (h := ⟨Nat.zero_le _, by first | omega | (show _ < 1024; omega)⟩)]
        simp only [dif_neg hj]
        simp only [read0, read1, read2, read3, read4, read5, read6, read7]
        pointwise)
    (fun t h j => by
      rw [outsAt0_B m c t h]; dsimp only
      frame_out
      idx_vars j
      by_cases hj : j0.val < 512
      · rw [Rows.canon_miss _ _ _ j0 j1 (Or.inl hj), Rows.canon_hit _ _ _ j0 j1 ⟨Nat.zero_le _, by omega⟩]
        open_payloads
        pointwise [part12, term12, xcat, halfOut, rst, silu, yA, gA, nA, yB, gB, nB]
        simp only [dif_pos hj]
        simp only [read0, read1, read2, read3, read4, read5, read6, read7]
      · rw [Rows.canon_hit _ _ _ j0 j1 ⟨by omega, by omega⟩]
        open_payloads
        pointwise [part12, term12, xcat, halfOut, rst, silu, yA, gA, nA, yB, gB, nB]
        simp only [dif_neg hj]
        simp only [read0, read1, read2, read3, read4, read5, read6, read7]
        rw [show (⟨512 + (j0.val - 512), by omega⟩ : Fin 1024) = j0 from Fin.ext (by show 512 + (j0.val - 512) = j0.val; omega)])
    t ((flush0_12 t).mp hf) _]
  refine (runs12 m c t ((flush0_12 t).mp hf) y).trans ?_
  generalize hz : (win0_12.blk t).view.emb y = z
  have e0 : (y 0 : Fin 1024) = z 0 := by subst hz; refine Fin.ext ?_; blk_simp [idx_val t]
  have e1 : (y 1 : Fin 1024) = z 1 := by subst hz; refine Fin.ext ?_; blk_simp [idx_val t]
  unfold res12
  rw [e0, e1]
end Cert.OutIdeal.Value
end
-- ==== Proof.OutSpec.lean ====
/- The gradients of the gated output layer as functions of the arguments: each half of a row is normed, given its gains and multiplied by the SiLU of its gate. -/
module
public import proofs.«01_k».proof.Proof.Packed
public import Idealize.ShloMosaic.Lib.ValueIdxCore
@[expose] public section
noncomputable section
namespace Cert.OutSpec
open Idealize.ShloMosaic Cert.Norm

abbrev Tok (n : Nat) : Shape := ⟨3, ![2, 2064, n]⟩
abbrev Vc (n : Nat) : Shape := ⟨1, ![n]⟩
abbrev Mx : Shape := ⟨2, ![1024, 1024]⟩

/-- One row of a half. -/
def row (y : FVec Ideal (Tok 512) .f32) (b : Fin 2) (l : Fin 2064) : Fin 512 → EReal := fun k => y (ix3 b l k)
def gain (a : FVec Ideal (Vc 512) .f32) : Fin 512 → EReal := fun k => a (ix1 k)
/-- The gradient of one half's product with its rows of the weight. -/
def up (x : FVec Ideal (Tok 1024) .f32) (w : FVec Ideal Mx .f32) (o : Nat) (ho : o ≤ 512) (b : Fin 2) (l : Fin 2064) : Fin 512 → EReal :=
  fun k => ∑ i : Fin 1024, x (ix3 b l i) * w (ix2 ⟨o + k.val, by omega⟩ i)

section
variable (N e : EReal) (x : FVec Ideal (Tok 1024) .f32) (w : FVec Ideal Mx .f32) (o : Nat) (ho : o ≤ 512)
variable (y g : FVec Ideal (Tok 512) .f32) (a : FVec Ideal (Vc 512) .f32)
def dy : FVec Ideal (Tok 512) .f32 := fun i =>
  halfDy N e (row y (i 0) (i 1)) (row g (i 0) (i 1)) (up x w o ho (i 0) (i 1)) (gain a) (i 2)
def dg : FVec Ideal (Tok 512) .f32 := fun i =>
  halfDg N e (row y (i 0) (i 1)) (row g (i 0) (i 1)) (up x w o ho (i 0) (i 1)) (gain a) (i 2)
def dn : FVec Ideal (Vc 512) .f32 := fun i =>
  ∑ b : Fin 2, ∑ l : Fin 2064, halfDn N e (row y b l) (row g b l) (up x w o ho b l) (i 0)
end

section
variable (N e : EReal) (x : FVec Ideal (Tok 1024) .f32) (y y' g g' : FVec Ideal (Tok 512) .f32) (a a' : FVec Ideal (Vc 512) .f32)
def cat (b : Fin 2) (l : Fin 2064) (k : Fin 1024) : EReal :=
  if h : k.val < 512 then halfOut N e (row y b l) (row g b l) (gain a) ⟨k.val, h⟩
  else halfOut N e (row y' b l) (row g' b l) (gain a') ⟨k.val - 512, by omega⟩
def dw : FVec Ideal Mx .f32 := fun i =>
  ∑ b : Fin 2, ∑ l : Fin 2064, cat N e y y' g g' a a' b l (i 0) * x (ix3 b l (i 1))
end
end Cert.OutSpec
end
-- ==== Proof.OutTail.lean ====
/- The results of the gradient of the gated output, read from its arguments. -/
module
public import proofs.«01_k».proof.Proof.Gen.OutIdeal.Frame
public import proofs.«01_k».proof.Proof.OutPack
public import proofs.«01_k».proof.Proof.OutWeight
public import proofs.«01_k».proof.Proof.OutSpec
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Norm
variable (m : (ℓ : Loc nD τ sig) → Buf (Elt Ideal) ℓ)

/-- What the region leaves in the array of window `w`. -/
theorem left_at (c : Dev nD) (w : Fin 15) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared (cfgs 0).spec c (V0 m c) (fun w => (dats m 0 c).arrAt w (cfgs 0).N) (Dat.arrAt_sharedIn (dats m 0 c) sharedIn0 (V0 m c) (A_eq m c) _) w

theorem tail0 (c : Dev nD) (b : Fin 2) (l : Fin 2064) (k : Fin 512) :
    (Pipeline.afterTail₀ cfgs (dats m) 0 (V0 m) [hostOps1] c main_v29 : FVec Ideal ⟨3, ![2, 2064, 512]⟩ .f32) (ix3 b l k)
      = res8 m c (ix2 (rowAt b l) k) := by
  have e := (left_at m c 8).trans (final8 m c)
  have er := rowAt_val b l
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_0) = res8 m c from e]
  clear e
  generalize res8 m c = R
  pointwise
  split_ifs at er ⊢ <;> exact congrArg (fun p => R (ix2 p k)) (Fin.ext er.symm)

theorem tail1 (c : Dev nD) (b : Fin 2) (l : Fin 2064) (k : Fin 512) :
    (Pipeline.afterTail₀ cfgs (dats m) 0 (V0 m) [hostOps1] c main_v33 : FVec Ideal ⟨3, ![2, 2064, 512]⟩ .f32) (ix3 b l k)
      = res9 m c (ix2 (rowAt b l) k) := by
  have e := (left_at m c 9).trans (final9 m c)
  have er := rowAt_val b l
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_1) = res9 m c from e]
  clear e
  generalize res9 m c = R
  pointwise
  split_ifs at er ⊢ <;> exact congrArg (fun p => R (ix2 p k)) (Fin.ext er.symm)

theorem tail2 (c : Dev nD) (b : Fin 2) (l : Fin 2064) (k : Fin 512) :
    (Pipeline.afterTail₀ cfgs (dats m) 0 (V0 m) [hostOps1] c main_v37 : FVec Ideal ⟨3, ![2, 2064, 512]⟩ .f32) (ix3 b l k)
      = res10 m c (ix2 (rowAt b l) k) := by
  have e := (left_at m c 10).trans (final10 m c)
  have er := rowAt_val b l
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_2) = res10 m c from e]
  clear e
  generalize res10 m c = R
  pointwise
  split_ifs at er ⊢ <;> exact congrArg (fun p => R (ix2 p k)) (Fin.ext er.symm)

theorem tail3 (c : Dev nD) (b : Fin 2) (l : Fin 2064) (k : Fin 512) :
    (Pipeline.afterTail₀ cfgs (dats m) 0 (V0 m) [hostOps1] c main_v41 : FVec Ideal ⟨3, ![2, 2064, 512]⟩ .f32) (ix3 b l k)
      = res11 m c (ix2 (rowAt b l) k) := by
  have e := (left_at m c 11).trans (final11 m c)
  have er := rowAt_val b l
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_3) = res11 m c from e]
  clear e
  generalize res11 m c = R
  pointwise
  split_ifs at er ⊢ <;> exact congrArg (fun p => R (ix2 p k)) (Fin.ext er.symm)

theorem tail4 (c : Dev nD) (k : Fin 512) :
    (Pipeline.afterTail₀ cfgs (dats m) 0 (V0 m) [hostOps1] c main_v42 : FVec Ideal ⟨1, ![512]⟩ .f32) (ix1 k)
      = res13 m c (ix2 0 k) := by
  have e := (left_at m c 13).trans (final13 m c)
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_5) = res13 m c from e]
  clear e
  generalize res13 m c = R
  pointwise

theorem tail5 (c : Dev nD) (k : Fin 512) :
    (Pipeline.afterTail₀ cfgs (dats m) 0 (V0 m) [hostOps1] c main_v43 : FVec Ideal ⟨1, ![512]⟩ .f32) (ix1 k)
      = res14 m c (ix2 0 k) := by
  have e := (left_at m c 14).trans (final14 m c)
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25_6) = res14 m c from e]
  clear e
  generalize res14 m c = R
  pointwise

section Rows
variable (c : Dev nD) (b : Fin 2) (l : Fin 2064)
theorem yA_row : yA m c (rowAt b l) = OutSpec.row (a1 m c) b l := by
  funext k; unfold yA OutSpec.row; rw [pack1, packed_rowAt]
theorem yB_row : yB m c (rowAt b l) = OutSpec.row (a2 m c) b l := by
  funext k; unfold yB OutSpec.row; rw [pack2, packed_rowAt]
theorem gA_row : gA m c (rowAt b l) = OutSpec.row (a3 m c) b l := by
  funext k; unfold gA OutSpec.row; rw [pack3, packed_rowAt]
theorem gB_row : gB m c (rowAt b l) = OutSpec.row (a4 m c) b l := by
  funext k; unfold gB OutSpec.row; rw [pack4, packed_rowAt]
theorem nA_eq : nA m c = OutSpec.gain (a5 m c) := by
  funext k; unfold nA OutSpec.gain; rw [pack5]
theorem nB_eq : nB m c = OutSpec.gain (a6 m c) := by
  funext k; unfold nB OutSpec.gain; rw [pack6]
theorem dA_row : dA m c (rowAt b l) = OutSpec.up (a0 m c) (a7 m c) 0 (Nat.zero_le _) b l := by
  funext k; unfold dA OutSpec.up
  refine Finset.sum_congr rfl fun x _ => ?_
  rw [pack0, packed_rowAt, pack7]
  exact congrArg (fun i => a0 m c (ix3 b l x) * a7 m c (ix2 i x)) (Fin.ext (Nat.zero_add _).symm)
theorem dB_row : dB m c (rowAt b l) = OutSpec.up (a0 m c) (a7 m c) 512 le_rfl b l := by
  funext k; unfold dB OutSpec.up
  refine Finset.sum_congr rfl fun x _ => ?_
  rw [pack0, packed_rowAt, pack7]
theorem dA_pad (p : Fin 4352) (h : 2064 ≤ p.val % 2176) (k : Fin 512) : dA m c p k = 0 := by
  unfold dA
  refine Finset.sum_eq_zero fun x _ => ?_
  rw [pack0, packed_pad _ _ h, zero_mul]
theorem dB_pad (p : Fin 4352) (h : 2064 ≤ p.val % 2176) (k : Fin 512) : dB m c p k = 0 := by
  unfold dB
  refine Finset.sum_eq_zero fun x _ => ?_
  rw [pack0, packed_pad _ _ h, zero_mul]
theorem xcat_row (k : Fin 1024) : xcat m c (rowAt b l) k
    = OutSpec.cat Nc ec (a1 m c) (a2 m c) (a3 m c) (a4 m c) (a5 m c) (a6 m c) b l k := by
  unfold xcat OutSpec.cat
  rw [yA_row, yB_row, gA_row, gB_row, nA_eq, nB_eq]
end Rows

section Results
variable (c : Dev nD)
theorem out0 : (Pipeline.afterTail₀ cfgs (dats m) 0 (V0 m) [hostOps1] c main_v29 : FVec Ideal ⟨3, ![2, 2064, 512]⟩ .f32)
    = OutSpec.dy Nc ec (a0 m c) (a7 m c) 0 (Nat.zero_le _) (a1 m c) (a3 m c) (a5 m c) := by
  funext i
  idx_vars i
  rw [tail0]
  show halfDy Nc ec (yA m c (rowAt i0 i1)) (gA m c (rowAt i0 i1)) (dA m c (rowAt i0 i1)) (nA m c) i2 = _
  rw [yA_row, gA_row, dA_row, nA_eq]
  rfl
theorem out1 : (Pipeline.afterTail₀ cfgs (dats m) 0 (V0 m) [hostOps1] c main_v33 : FVec Ideal ⟨3, ![2, 2064, 512]⟩ .f32)
    = OutSpec.dy Nc ec (a0 m c) (a7 m c) 512 le_rfl (a2 m c) (a4 m c) (a6 m c) := by
  funext i
  idx_vars i
  rw [tail1]
  show halfDy Nc ec (yB m c (rowAt i0 i1)) (gB m c (rowAt i0 i1)) (dB m c (rowAt i0 i1)) (nB m c) i2 = _
  rw [yB_row, gB_row, dB_row, nB_eq]
  rfl
theorem out2 : (Pipeline.afterTail₀ cfgs (dats m) 0 (V0 m) [hostOps1] c main_v37 : FVec Ideal ⟨3, ![2, 2064, 512]⟩ .f32)
    = OutSpec.dg Nc ec (a0 m c) (a7 m c) 0 (Nat.zero_le _) (a1 m c) (a3 m c) (a5 m c) := by
  funext i
  idx_vars i
  rw [tail2]
  show halfDg Nc ec (yA m c (rowAt i0 i1)) (gA m c (rowAt i0 i1)) (dA m c (rowAt i0 i1)) (nA m c) i2 = _
  rw [yA_row, gA_row, dA_row, nA_eq]
  rfl
theorem out3 : (Pipeline.afterTail₀ cfgs (dats m) 0 (V0 m) [hostOps1] c main_v41 : FVec Ideal ⟨3, ![2, 2064, 512]⟩ .f32)
    = OutSpec.dg Nc ec (a0 m c) (a7 m c) 512 le_rfl (a2 m c) (a4 m c) (a6 m c) := by
  funext i
  idx_vars i
  rw [tail3]
  show halfDg Nc ec (yB m c (rowAt i0 i1)) (gB m c (rowAt i0 i1)) (dB m c (rowAt i0 i1)) (nB m c) i2 = _
  rw [yB_row, gB_row, dB_row, nB_eq]
  rfl
theorem out4 : (Pipeline.afterTail₀ cfgs (dats m) 0 (V0 m) [hostOps1] c main_v42 : FVec Ideal ⟨1, ![512]⟩ .f32)
    = OutSpec.dn Nc ec (a0 m c) (a7 m c) 0 (Nat.zero_le _) (a1 m c) (a3 m c) := by
  funext i
  idx_vars i
  rw [tail4]
  show ∑ p : Fin 4352, halfDn Nc ec (yA m c p) (gA m c p) (dA m c p) i0 = _
  rw [sum_packed _ fun p hp => by unfold halfDn; rw [dA_pad m c p hp, zero_mul, zero_mul]]
  simp only [yA_row, gA_row, dA_row]
  rfl
theorem out5 : (Pipeline.afterTail₀ cfgs (dats m) 0 (V0 m) [hostOps1] c main_v43 : FVec Ideal ⟨1, ![512]⟩ .f32)
    = OutSpec.dn Nc ec (a0 m c) (a7 m c) 512 le_rfl (a2 m c) (a4 m c) := by
  funext i
  idx_vars i
  rw [tail5]
  show ∑ p : Fin 4352, halfDn Nc ec (yB m c p) (gB m c p) (dB m c p) i0 = _
  rw [sum_packed _ fun p hp => by unfold halfDn; rw [dB_pad m c p hp, zero_mul, zero_mul]]
  simp only [yB_row, gB_row, dB_row]
  rfl
theorem out6 : res12 m c
    = OutSpec.dw Nc ec (a0 m c) (a1 m c) (a2 m c) (a3 m c) (a4 m c) (a5 m c) (a6 m c) := by
  funext i
  idx_vars i
  have e : ∀ p, term12 m c i0 i1 p = xcat m c p i0 * packed (fun b l => a0 m c (ix3 b l i1)) p := fun p => by
    unfold term12; rw [pack0]
  have h : res12 m c (ix2 i0 i1) = ∑ p : Fin 4352, term12 m c i0 i1 p := by unfold res12; rfl
  rw [h, sum_packed _ fun p hp => by rw [e, packed_pad _ _ hp, mul_zero]]
  refine Finset.sum_congr rfl fun b _ => Finset.sum_congr rfl fun l _ => ?_
  rw [e, packed_rowAt, xcat_row]
  rfl
end Results
end Cert.OutIdeal.Value
end
-- ==== Proof.OutRefForm.lean ====
/- The reference gradients of the gated output layer, in the same closed form. -/
module
public import proofs.«01_k».proof.Proof.Gen.OutRefIdeal.Read
public import proofs.«01_k».proof.Proof.OutSpec
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.OutRefIdeal.Form
open Cert.OutRefIdeal Cert.OutRefIdeal.Gen Cert.OutRefIdeal.Read Cert.Norm
abbrev Nc : EReal := Ideal.ofBits .f32 1140850688#32
abbrev ec : EReal := Ideal.ofBits .f32 897988541#32
abbrev Hc : EReal := Ideal.ofBits .f32 3204448256#32
theorem Nc_eq : Nc = ((512 : ℝ) : EReal) := by
  simp [Nc, Ideal.ofBits, Ideal.ieee, -EReal.coe_mul]; norm_num
theorem ec_eq : ∃ r : ℝ, 0 < r ∧ ec = (r : EReal) := by
  refine ⟨(8796093 : ℝ) / 2 ^ 43, by norm_num, ?_⟩
  simp [ec, Ideal.ofBits, Ideal.ieee, -EReal.coe_mul]; norm_num
theorem Hc_eq : Hc = ((-1 / 2 : ℝ) : EReal) := by
  simp [Hc, Ideal.ofBits, Ideal.ieee, -EReal.coe_mul]; norm_num

variable (x0 : FVec Ideal S2x2064x1024 .f32) (x1 x2 x3 x4 : FVec Ideal S2x2064x512 .f32) (x5 x6 : FVec Ideal S512 .f32) (x7 : FVec Ideal S1024x1024 .f32)
theorem num_row {y : FVec Ideal S2x2064x512 .f32} (h : ∀ i, Num (y i)) (b : Fin 2) (l : Fin 2064) (k : Fin 512) : Num (OutSpec.row y b l k) := h _
theorem num_gain {a : FVec Ideal S512 .f32} (h : ∀ i, Num (a i)) (k : Fin 512) : Num (OutSpec.gain a k) := h _
theorem num_silu {x : EReal} (h : Num x) : Num (silu x) := h.mul h.logistic
variable (h0 : ∀ i, Num (x0 i)) (h7 : ∀ i, Num (x7 i))
include h0 h7
theorem num_up (o : Nat) (ho : o ≤ 512) (b : Fin 2) (l : Fin 2064) (k : Fin 512) : Num (OutSpec.up x0 x7 o ho b l k) :=
  Num.sum _ fun i => (h0 _).mul (h7 _)

theorem r_v88 (hy : ∀ i, Num (x1 i)) (hg : ∀ i, Num (x3 i)) (ha : ∀ i, Num (x5 i)) :
    val_main_v88 (F := Ideal) x0 x1 x3 x5 x7 = OutSpec.dy Nc ec x0 x7 0 (Nat.zero_le _) x1 x3 x5 := by
  funext i
  idx_vars i
  obtain ⟨ε, hε, he⟩ := ec_eq
  show _ = halfDy Nc ec (OutSpec.row x1 i0 i1) (OutSpec.row x3 i0 i1) (OutSpec.up x0 x7 0 (Nat.zero_le _) i0 i1) (OutSpec.gain x5) i2
  unfold halfDy
  rw [normBwd_eq Nc_eq (by norm_num) he hε Hc_eq (num_row hy i0 i1)
    (fun k => ((num_up x0 x7 h0 h7 0 (Nat.zero_le _) i0 i1 k).mul (num_silu (num_row hg i0 i1 k))).mul (num_gain ha k)) i2]
  pointwise [val_main_v0, val_main_cst, val_main_v1, val_main_v2, val_main_cst_0, val_main_v3, val_main_v4, val_main_cst_1, val_main_v5, val_main_v6, val_main_v7, val_main_v8, val_main_cst_2, val_main_v9, val_main_v10, val_main_v13, val_main_call0_v0, val_main_call0_v1, val_main_call0_cst, val_main_call0_v2, val_main_call0_v3, val_main_call0_cst_0, val_main_call0_v4, val_main_v16_2, val_main_v16_0, val_main_v40, val_main_v41, val_main_v67, val_main_v72, val_main_v73, val_main_v75, val_main_cst_14, val_main_v76, val_main_v77, val_main_v78, val_main_v79, val_main_v80, val_main_cst_15, val_main_v81, val_main_v82, val_main_cst_16, val_main_v83, val_main_v84, val_main_v85, val_main_v86, val_main_v87, val_main_v88, Norm.slope, rst, silu, OutSpec.row, OutSpec.up, OutSpec.gain]
  rfl

theorem r_v65 (hy : ∀ i, Num (x2 i)) (hg : ∀ i, Num (x4 i)) (ha : ∀ i, Num (x6 i)) :
    val_main_v65 (F := Ideal) x0 x2 x4 x6 x7 = OutSpec.dy Nc ec x0 x7 512 le_rfl x2 x4 x6 := by
  funext i
  idx_vars i
  obtain ⟨ε, hε, he⟩ := ec_eq
  show _ = halfDy Nc ec (OutSpec.row x2 i0 i1) (OutSpec.row x4 i0 i1) (OutSpec.up x0 x7 512 le_rfl i0 i1) (OutSpec.gain x6) i2
  unfold halfDy
  rw [normBwd_eq Nc_eq (by norm_num) he hε Hc_eq (num_row hy i0 i1)
    (fun k => ((num_up x0 x7 h0 h7 512 le_rfl i0 i1 k).mul (num_silu (num_row hg i0 i1 k))).mul (num_gain ha k)) i2]
  pointwise [val_main_v18, val_main_cst_3, val_main_v19, val_main_v20, val_main_cst_4, val_main_v21, val_main_v22, val_main_cst_5, val_main_v23, val_main_v24, val_main_v25, val_main_v26, val_main_cst_6, val_main_v27, val_main_v28, val_main_v31, val_main_call1_v0, val_main_call1_v1, val_main_call1_cst, val_main_call1_v2, val_main_call1_v3, val_main_call1_cst_0, val_main_call1_v4, val_main_v34_2, val_main_v34_0, val_main_v40, val_main_v42, val_main_v44, val_main_v49, val_main_v50, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, Norm.slope, rst, silu, OutSpec.row, OutSpec.up, OutSpec.gain]
  rfl

theorem r_v68 (hy : ∀ i, Num (x1 i)) (hg : ∀ i, Num (x3 i)) (ha : ∀ i, Num (x5 i)) :
    val_main_v68 (F := Ideal) x0 x1 x3 x5 x7 = OutSpec.dg Nc ec x0 x7 0 (Nat.zero_le _) x1 x3 x5 := by
  funext i
  idx_vars i
  obtain ⟨ε, hε, he⟩ := ec_eq
  show _ = halfDg Nc ec (OutSpec.row x1 i0 i1) (OutSpec.row x3 i0 i1) (OutSpec.up x0 x7 0 (Nat.zero_le _) i0 i1) (OutSpec.gain x5) i2
  have hr : Num (rst Nc ec (OutSpec.row x1 i0 i1)) := num_rst Nc_eq (by norm_num) he hε (num_row hy i0 i1)
  unfold halfDg
  rw [gate_eq (num_up x0 x7 h0 h7 0 (Nat.zero_le _) i0 i1 i2) (((num_row hy i0 i1 i2).mul hr).mul (num_gain ha i2)) (num_row hg i0 i1 i2)]
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_call0_v0, val_main_call0_v1, val_main_call0_cst, val_main_call0_v2, val_main_call0_v3, val_main_call0_cst_0, val_main_call0_v4, val_main_v16_2, val_main_call0_cst_1, val_main_call0_v6, val_main_call0_v7, val_main_v16_1, val_main_v40, val_main_v41, val_main_v66, val_main_call3_v0, val_main_call3_v1, val_main_call3_v2, val_main_v68, rst, OutSpec.row, OutSpec.up, OutSpec.gain]
  rfl

theorem r_v45 (hy : ∀ i, Num (x2 i)) (hg : ∀ i, Num (x4 i)) (ha : ∀ i, Num (x6 i)) :
    val_main_v45 (F := Ideal) x0 x2 x4 x6 x7 = OutSpec.dg Nc ec x0 x7 512 le_rfl x2 x4 x6 := by
  funext i
  idx_vars i
  obtain ⟨ε, hε, he⟩ := ec_eq
  show _ = halfDg Nc ec (OutSpec.row x2 i0 i1) (OutSpec.row x4 i0 i1) (OutSpec.up x0 x7 512 le_rfl i0 i1) (OutSpec.gain x6) i2
  have hr : Num (rst Nc ec (OutSpec.row x2 i0 i1)) := num_rst Nc_eq (by norm_num) he hε (num_row hy i0 i1)
  unfold halfDg
  rw [gate_eq (num_up x0 x7 h0 h7 512 le_rfl i0 i1 i2) (((num_row hy i0 i1 i2).mul hr).mul (num_gain ha i2)) (num_row hg i0 i1 i2)]
  pointwise [val_main_v18, val_main_cst_3, val_main_v19, val_main_v20, val_main_cst_4, val_main_v21, val_main_v22, val_main_cst_5, val_main_v23, val_main_v24, val_main_v25, val_main_v29, val_main_v30, val_main_v31, val_main_v32, val_main_v33, val_main_call1_v0, val_main_call1_v1, val_main_call1_cst, val_main_call1_v2, val_main_call1_v3, val_main_call1_cst_0, val_main_call1_v4, val_main_v34_2, val_main_call1_cst_1, val_main_call1_v6, val_main_call1_v7, val_main_v34_1, val_main_v40, val_main_v42, val_main_v43, val_main_call2_v0, val_main_call2_v1, val_main_call2_v2, val_main_v45, rst, OutSpec.row, OutSpec.up, OutSpec.gain]
  rfl
omit h0 h7

theorem r_v74 : val_main_v74 (F := Ideal) x0 x1 x3 x7 = OutSpec.dn Nc ec x0 x7 0 (Nat.zero_le _) x1 x3 := by
  funext i
  idx_vars i
  show _ = ∑ b : Fin 2, ∑ l : Fin 2064, halfDn Nc ec (OutSpec.row x1 b l) (OutSpec.row x3 b l) (OutSpec.up x0 x7 0 (Nat.zero_le _) b l) i0
  pointwise [val_main_v0, val_main_cst, val_main_v1, val_main_v2, val_main_cst_0, val_main_v3, val_main_v4, val_main_cst_1, val_main_v5, val_main_v6, val_main_v7, val_main_v11, val_main_v12, val_main_call0_v0, val_main_call0_v1, val_main_call0_cst, val_main_call0_v2, val_main_call0_v3, val_main_call0_cst_0, val_main_call0_v4, val_main_v16_2, val_main_v16_0, val_main_v40, val_main_v41, val_main_v67, val_main_v69, val_main_cst_12, val_main_v70, val_main_v71, val_main_cst_13, val_main_v74, Ideal.hostSum_first_two, halfDn, silu, rst, OutSpec.row, OutSpec.up, OutSpec.gain]
  simp only [Finset.univ_unique, Finset.sum_const, Finset.card_singleton, one_smul]
  refine Finset.sum_congr rfl fun b _ => Finset.sum_congr rfl fun l _ => ?_
  exact mul_comm _ _

theorem r_v51 : val_main_v51 (F := Ideal) x0 x2 x4 x7 = OutSpec.dn Nc ec x0 x7 512 le_rfl x2 x4 := by
  funext i
  idx_vars i
  show _ = ∑ b : Fin 2, ∑ l : Fin 2064, halfDn Nc ec (OutSpec.row x2 b l) (OutSpec.row x4 b l) (OutSpec.up x0 x7 512 le_rfl b l) i0
  pointwise [val_main_v18, val_main_cst_3, val_main_v19, val_main_v20, val_main_cst_4, val_main_v21, val_main_v22, val_main_cst_5, val_main_v23, val_main_v24, val_main_v25, val_main_v29, val_main_v30, val_main_call1_v0, val_main_call1_v1, val_main_call1_cst, val_main_call1_v2, val_main_call1_v3, val_main_call1_cst_0, val_main_call1_v4, val_main_v34_2, val_main_v34_0, val_main_v40, val_main_v42, val_main_v44, val_main_v46, val_main_cst_7, val_main_v47, val_main_v48, val_main_cst_8, val_main_v51, Ideal.hostSum_first_two, halfDn, silu, rst, OutSpec.row, OutSpec.up, OutSpec.gain]
  simp only [Finset.univ_unique, Finset.sum_const, Finset.card_singleton, one_smul]
  refine Finset.sum_congr rfl fun b _ => Finset.sum_congr rfl fun l _ => ?_
  exact mul_comm _ _

theorem r_v39 : val_main_v39 (F := Ideal) x0 x1 x2 x3 x4 x5 x6 = OutSpec.dw Nc ec x0 x1 x2 x3 x4 x5 x6 := by
  funext i
  idx_vars i
  show _ = ∑ b : Fin 2, ∑ l : Fin 2064, OutSpec.cat Nc ec x1 x2 x3 x4 x5 x6 b l i0 * x0 (ix3 b l i1)
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_call0_v0, val_main_call0_v1, val_main_call0_cst, val_main_call0_v2, val_main_call0_v3, val_main_call0_cst_0, val_main_call0_v4, val_main_v16_2, val_main_v16_0, val_main_v17, val_main_v18, val_main_cst_3, val_main_v19, val_main_v20, val_main_cst_4, val_main_v21, val_main_v22, val_main_cst_5, val_main_v23, val_main_v24, val_main_v25, val_main_v29, val_main_v30, val_main_v31, val_main_v32, val_main_v33, val_main_call1_v0, val_main_call1_v1, val_main_call1_cst, val_main_call1_v2, val_main_call1_v3, val_main_call1_cst_0, val_main_call1_v4, val_main_v34_2, val_main_v34_0, val_main_v35, val_main_v36, val_main_v38, val_main_v39, OutSpec.cat, halfOut, silu, rst, OutSpec.row, OutSpec.gain]
  refine Finset.sum_congr rfl fun b _ => Finset.sum_congr rfl fun l _ => ?_
  exact mul_comm _ _
end Cert.OutRefIdeal.Form
end
-- ==== Proof.OutClaim.lean ====
/- The claims about the gated output layer: the runs of both programs, and equal gradients on finite arguments. -/
module
public import proofs.«01_k».proof.Defs
public import proofs.«01_k».proof.Proof.OutTail
public import proofs.«01_k».proof.Proof.OutRefForm
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import Idealize.ShloMosaic.Lib.Claim
@[expose] public section
set_option maxRecDepth 16384
noncomputable section
open Idealize.ShloMosaic Idealize.ShloMosaic.TcCoe Idealize.SL.Sem
namespace Cert.OutClaim
open Cert.Norm

theorem pre_facts : Cert.Pre_finite.Facts where
  bcast_S_S2x2064x1024 := by decide
  reducesTo_S2x2064x1024_S_d0_1_2 := by decide
  h_S_ := by decide
  bcast_S_S2x2064x512 := by decide
  reducesTo_S2x2064x512_S_d0_1_2 := by decide
  bcast_S_S512 := by decide
  reducesTo_S512_S_d0 := by decide
  bcast_S_S1024x1024 := by decide
  reducesTo_S1024x1024_S_d0_1 := by decide

attribute [local instance] Cert.Out.Gen.facts Cert.OutIdeal.Gen.facts Cert.OutRefIdeal.Gen.facts pre_facts

/-- What the precondition says of the eight arguments: every element is a number. -/
theorem nums (m : (ℓ : Loc Cert.OutIdeal.nD Cert.OutIdeal.τ Cert.OutIdeal.sig) → Buf (Elt Ideal) ℓ) (h : Cert.Pre_OutIdeal_finite m) (c : Dev Cert.OutIdeal.nD) :
    (∀ i, Num (OutIdeal.Value.a0 m c i)) ∧ (∀ i, Num (OutIdeal.Value.a1 m c i)) ∧ (∀ i, Num (OutIdeal.Value.a2 m c i)) ∧ (∀ i, Num (OutIdeal.Value.a3 m c i))
      ∧ (∀ i, Num (OutIdeal.Value.a4 m c i)) ∧ (∀ i, Num (OutIdeal.Value.a5 m c i)) ∧ (∀ i, Num (OutIdeal.Value.a6 m c i)) ∧ (∀ i, Num (OutIdeal.Value.a7 m c i)) := by
  have h := congrFun (h c) (fun x => x.elim0)
  dsimp only [Cert.Pre_finite.fn, Cert.Pre_finite.fn_part1, Cert.Pre_finite.fn_part2] at h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨num_of_all _ _ _ _ _ h0, num_of_all _ _ _ _ _ h1, num_of_all _ _ _ _ _ h2, num_of_all _ _ _ _ _ h3,
    num_of_all _ _ _ _ _ h4, num_of_all _ _ _ _ _ h5, num_of_all _ _ _ _ _ h6, num_of_all _ _ _ _ _ h7⟩

theorem frame_p : Cert.quiescent_Out := fun m ρ _ => Cert.Out.Gen.frame m ρ
theorem frame_pi : Cert.quiescent_OutIdeal := fun m ρ _ => Cert.OutIdeal.Gen.frame m ρ
theorem frame_pi_finite : Cert.quiescent_OutIdeal_pre_finite := fun m ρ _ => Cert.OutIdeal.Gen.frame m ρ
theorem frame_ri : Cert.quiescent_OutRefIdeal := fun m ρ _ =>
  (θ_run Cert.OutRefIdeal.defs _ _).mono (fun r h => ⟨fun c => (h c).2.2.2.2.2.2.2, sem_eq_zero_of_no_sems (by decide) r.2⟩)
    (Cert.OutRefIdeal.Value.run (F := Ideal) m ρ)
theorem frame_ri_finite : Cert.quiescent_OutRefIdeal_pre_finite := fun m ρ _ => frame_ri m ρ trivial

open Cert.OutIdeal.Value Cert.OutIdeal in
theorem algebraic : Cert.algebraic_OutIdeal_OutRefIdeal_pre_finite := by
  intro m g m' g' hpre hagree
  refine ⟨fun c => OutSpec.dy Nc ec (a0 m c) (a7 m c) 0 (Nat.zero_le _) (a1 m c) (a3 m c) (a5 m c),
    fun c => OutSpec.dy Nc ec (a0 m c) (a7 m c) 512 le_rfl (a2 m c) (a4 m c) (a6 m c),
    fun c => OutSpec.dg Nc ec (a0 m c) (a7 m c) 0 (Nat.zero_le _) (a1 m c) (a3 m c) (a5 m c),
    fun c => OutSpec.dg Nc ec (a0 m c) (a7 m c) 512 le_rfl (a2 m c) (a4 m c) (a6 m c),
    fun c => OutSpec.dn Nc ec (a0 m c) (a7 m c) 0 (Nat.zero_le _) (a1 m c) (a3 m c),
    fun c => OutSpec.dn Nc ec (a0 m c) (a7 m c) 512 le_rfl (a2 m c) (a4 m c),
    fun c => OutSpec.dw Nc ec (a0 m c) (a1 m c) (a2 m c) (a3 m c) (a4 m c) (a5 m c) (a6 m c), ?_, ?_⟩
  · refine (θ_run defs _ _).mono ?_ (θ_run_and (Gen.run_main m g) (Gen.unchanged m g))
    rintro r ⟨h, hu⟩ c
    refine ⟨((h c).2 main_v29 (by decide)).trans (out0 m c), ((h c).2 main_v33 (by decide)).trans (out1 m c), ((h c).2 main_v37 (by decide)).trans (out2 m c),
      ((h c).2 main_v41 (by decide)).trans (out3 m c), ((h c).2 main_v42 (by decide)).trans (out4 m c), ((h c).2 main_v43 (by decide)).trans (out5 m c),
      ((h c).1 12).trans ((final12 m c).trans (out6 m c)), hu c⟩
  · refine (θ_run OutRefIdeal.defs _ _).mono ?_ (OutRefIdeal.Value.run m' g')
    intro r h c
    obtain ⟨h0, h1, h2, h3, h4, h5, h6, hu⟩ := h c
    obtain ⟨e0, e1, e2, e3, e4, e5, e6, e7⟩ := hagree c
    obtain ⟨n0, n1, n2, n3, n4, n5, n6, n7⟩ := nums m hpre c
    refine ⟨h0.trans ?_, h1.trans ?_, h2.trans ?_, h3.trans ?_, h4.trans ?_, h5.trans ?_, h6.trans ?_, hu⟩
    · rw [OutRefIdeal.Read.val_main_v88_eq, e0, e1, e3, e5, e7]; exact OutRefIdeal.Form.r_v88 _ _ _ _ _ n0 n7 n1 n3 n5
    · rw [OutRefIdeal.Read.val_main_v65_eq, e0, e2, e4, e6, e7]; exact OutRefIdeal.Form.r_v65 _ _ _ _ _ n0 n7 n2 n4 n6
    · rw [OutRefIdeal.Read.val_main_v68_eq, e0, e1, e3, e5, e7]; exact OutRefIdeal.Form.r_v68 _ _ _ _ _ n0 n7 n1 n3 n5
    · rw [OutRefIdeal.Read.val_main_v45_eq, e0, e2, e4, e6, e7]; exact OutRefIdeal.Form.r_v45 _ _ _ _ _ n0 n7 n2 n4 n6
    · rw [OutRefIdeal.Read.val_main_v74_eq, e0, e1, e3, e7]; exact OutRefIdeal.Form.r_v74 _ _ _ _
    · rw [OutRefIdeal.Read.val_main_v51_eq, e0, e2, e4, e7]; exact OutRefIdeal.Form.r_v51 _ _ _ _
    · rw [OutRefIdeal.Read.val_main_v39_eq, e0, e1, e2, e3, e4, e5, e6]; exact OutRefIdeal.Form.r_v39 _ _ _ _ _ _ _
end Cert.OutClaim
end
-- ==== Proof.MlaRun.lean ====
/- The attention gradient's body, run once on any whole buffers: what it stores into its three results, as
   functions of what the six operands hold and of what the results held before. -/
module

public import proofs.«01_k».proof.Proof.Gen.MlaIdeal.Frame.Runs

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The stores of one run of the body, last first, with the run itself. -/
@[irreducible] def stores (c : Dev nD) (i : grid0.Coords) (a2 : Memref sig .tc .vmem S2176x256 .bf16) (h2 : a2.IsWhole) (a3 : Memref sig .tc .vmem S2176x256 .bf16) (h3 : a3.IsWhole) (a4 : Memref sig .tc .vmem S2176x256 .bf16) (h4 : a4.IsWhole) (a5 : Memref sig .tc .vmem S2176x128 .f32) (h5 : a5.IsWhole) (a6 : Memref sig .tc .vmem S2176x128 .f32) (h6 : a6.IsWhole) (a7 : Memref sig .tc .vmem S2176x128 .f32) (h7 : a7.IsWhole) (a9 : Memref sig .tc .vmem S2176x256 .f32) (h9 : a9.IsWhole) (a10 : Memref sig .tc .vmem S2176x256 .f32) (h10 : a10.IsWhole) (a11 : Memref sig .tc .vmem S2176x256 .f32) (h11 : a11.IsWhole)
    (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) :
    Σ' (L9 : (BufTy.Contents (Elt F) a9.view.ty → BufTy.Contents (Elt F) a10.view.ty → BufTy.Contents (Elt F) a11.view.ty → List (View.Piece (Elt F) S2176x256 .f32))) (L10 : (BufTy.Contents (Elt F) a9.view.ty → BufTy.Contents (Elt F) a10.view.ty → BufTy.Contents (Elt F) a11.view.ty → List (View.Piece (Elt F) S2176x256 .f32))), { L11 : (BufTy.Contents (Elt F) a9.view.ty → BufTy.Contents (Elt F) a10.view.ty → BufTy.Contents (Elt F) a11.view.ty → List (View.Piece (Elt F) S2176x256 .f32)) //
      ∀ (E : Set ℕ) (K : PUnit → sProp 𝕄) (f9 : BufTy.Contents (Elt F) a9.view.ty) (f10 : BufTy.Contents (Elt F) a10.view.ty) (f11 : BufTy.Contents (Elt F) a11.view.ty),
        iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11)
            ∗ (iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (∃ f, a9.view.loc (c : Thread nD τ) ↦[a9.view.set]{fullShare} a9.view.writes (Elt F) f (L9 f9 f10 f11)) ∗ (∃ f, a10.view.loc (c : Thread nD τ) ↦[a10.view.set]{fullShare} a10.view.writes (Elt F) f (L10 f9 f10 f11)) ∗ (∃ f, a11.view.loc (c : Thread nD τ) ↦[a11.view.set]{fullShare} a11.view.writes (Elt F) f (L11 f9 f10 f11))) -∗ K ⟨⟩))
          ⊢ wp frame (wpE (defs₀ (F := F)) Variants.none c none) E (cc0_mla_bwd i a2 h2 a3 h3 a4 h4 a5 h5 a6 h6 a7 h7 (Memref.whole main_v86) (Memref.isWhole_whole _) a9 h9 a10 h10 a11 h11) K } := by
  refine ⟨?_, ?_, ?_, fun E K f9 f10 f11 => ?run⟩
  case run =>
    simp only [cc0_mla_bwd_eq_skeleton]; unfold cc0_mla_bwd_skel
    simp only [k0_part7_eq_skeleton, k0_part8_eq_skeleton, k0_part9_eq_skeleton]
    iintro ⟨H2, H3, H4, H5, H6, H7, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H9]; · iexists _; iexact H9
    isplitl [H10]; · iexists _; iexact H10
    iexists _; iexact H11

end Cert.MlaRun

end
-- ==== Proof.MlaStores.lean ====
/- What one run of the attention gradient's body stores, written out: the three lists of stores as the tiles the
   body loads and the body's own operations on a tile. -/
module

public import proofs.«01_k».proof.Proof.MlaRun

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Whole buffers for a run: the six operands with what they hold, and the three results. -/
structure Bufs (F : FTy → Type) [FloatOps F] [Named F] where
  a2 : Memref sig .tc .vmem S2176x256 .bf16
  h2 : a2.IsWhole
  a3 : Memref sig .tc .vmem S2176x256 .bf16
  h3 : a3.IsWhole
  a4 : Memref sig .tc .vmem S2176x256 .bf16
  h4 : a4.IsWhole
  a5 : Memref sig .tc .vmem S2176x128 .f32
  h5 : a5.IsWhole
  a6 : Memref sig .tc .vmem S2176x128 .f32
  h6 : a6.IsWhole
  a7 : Memref sig .tc .vmem S2176x128 .f32
  h7 : a7.IsWhole
  a9 : Memref sig .tc .vmem S2176x256 .f32
  h9 : a9.IsWhole
  a10 : Memref sig .tc .vmem S2176x256 .f32
  h10 : a10.IsWhole
  a11 : Memref sig .tc .vmem S2176x256 .f32
  h11 : a11.IsWhole
  X2 : BufTy.Contents (Elt F) a2.view.ty
  X3 : BufTy.Contents (Elt F) a3.view.ty
  X4 : BufTy.Contents (Elt F) a4.view.ty
  X5 : BufTy.Contents (Elt F) a5.view.ty
  X6 : BufTy.Contents (Elt F) a6.view.ty
  X7 : BufTy.Contents (Elt F) a7.view.ty

/-! ## The tiles a run loads -/

def dA (B : Bufs F) (k : Fin k0_t1_loop.trips) : Vec F S256x128 .f32 :=
  B.a6.view.readAt (Elt F) (Rect.unit (s := S2176x128) (k0_off1 k) S256x128.size (k0_off1_inb k)).toLoadRect B.X6
def oA (B : Bufs F) (k : Fin k0_t1_loop.trips) : Vec F S256x128 .f32 :=
  B.a5.view.readAt (Elt F) (Rect.unit (s := S2176x128) (k0_off1 k) S256x128.size (k0_off1_inb k)).toLoadRect B.X5
def lA (B : Bufs F) (k : Fin k0_t1_loop.trips) : Vec F S256x128 .f32 :=
  B.a7.view.readAt (Elt F) (Rect.unit (s := S2176x128) (k0_off1 k) S256x128.size (k0_off1_inb k)).toLoadRect B.X7
def qA0 (B : Bufs F) (k : Fin k0_t1_loop.trips) : Vec F S256x128 .bf16 :=
  B.a2.view.readAt (Elt F) (Rect.unit (s := S2176x256) (k0_off2 k) S256x128.size (k0_off2_inb k)).toLoadRect B.X2
def qA1 (B : Bufs F) (k : Fin k0_t1_loop.trips) : Vec F S256x128 .bf16 :=
  B.a2.view.readAt (Elt F) (Rect.unit (s := S2176x256) (k0_off3 k) S256x128.size (k0_off3_inb k)).toLoadRect B.X2
def dB (B : Bufs F) (k : Fin k0_t1_loop.trips) : Vec F S256x128 .f32 :=
  B.a6.view.readAt (Elt F) (Rect.unit (s := S2176x128) (k0_off4 k) S256x128.size (k0_off4_inb k)).toLoadRect B.X6
def oB (B : Bufs F) (k : Fin k0_t1_loop.trips) : Vec F S256x128 .f32 :=
  B.a5.view.readAt (Elt F) (Rect.unit (s := S2176x128) (k0_off4 k) S256x128.size (k0_off4_inb k)).toLoadRect B.X5
def lB (B : Bufs F) (k : Fin k0_t1_loop.trips) : Vec F S256x128 .f32 :=
  B.a7.view.readAt (Elt F) (Rect.unit (s := S2176x128) (k0_off4 k) S256x128.size (k0_off4_inb k)).toLoadRect B.X7
def qB0 (B : Bufs F) (k : Fin k0_t1_loop.trips) : Vec F S256x128 .bf16 :=
  B.a2.view.readAt (Elt F) (Rect.unit (s := S2176x256) (k0_off5 k) S256x128.size (k0_off5_inb k)).toLoadRect B.X2
def qB1 (B : Bufs F) (k : Fin k0_t1_loop.trips) : Vec F S256x128 .bf16 :=
  B.a2.view.readAt (Elt F) (Rect.unit (s := S2176x256) (k0_off6 k) S256x128.size (k0_off6_inb k)).toLoadRect B.X2
def dT (B : Bufs F) : Vec F S128x128 .f32 :=
  B.a6.view.readAt (Elt F) (Rect.unit (s := S2176x128) ![2048, 0] S128x128.size inb_S2176x128_S128x128_2048_0).toLoadRect B.X6
def oT (B : Bufs F) : Vec F S128x128 .f32 :=
  B.a5.view.readAt (Elt F) (Rect.unit (s := S2176x128) ![2048, 0] S128x128.size inb_S2176x128_S128x128_2048_0).toLoadRect B.X5
def lT (B : Bufs F) : Vec F S128x128 .f32 :=
  B.a7.view.readAt (Elt F) (Rect.unit (s := S2176x128) ![2048, 0] S128x128.size inb_S2176x128_S128x128_2048_0).toLoadRect B.X7
def qT0 (B : Bufs F) : Vec F S128x128 .bf16 :=
  B.a2.view.readAt (Elt F) (Rect.unit (s := S2176x256) ![2048, 0] S128x128.size inb_S2176x256_S128x128_2048_0).toLoadRect B.X2
def k0 (B : Bufs F) : Vec F S2176x128 .bf16 :=
  B.a3.view.readAt (Elt F) (Rect.unit (s := S2176x256) ![0, 0] S2176x128.size inb_S2176x256_S2176x128_0_0).toLoadRect B.X3
def v0 (B : Bufs F) : Vec F S2176x128 .bf16 :=
  B.a4.view.readAt (Elt F) (Rect.unit (s := S2176x256) ![0, 0] S2176x128.size inb_S2176x256_S2176x128_0_0).toLoadRect B.X4
def qT1 (B : Bufs F) : Vec F S128x128 .bf16 :=
  B.a2.view.readAt (Elt F) (Rect.unit (s := S2176x256) ![2048, 128] S128x128.size inb_S2176x256_S128x128_2048_128).toLoadRect B.X2
def k1 (B : Bufs F) : Vec F S2176x128 .bf16 :=
  B.a3.view.readAt (Elt F) (Rect.unit (s := S2176x256) ![0, 128] S2176x128.size inb_S2176x256_S2176x128_0_128).toLoadRect B.X3
def v1 (B : Bufs F) : Vec F S2176x128 .bf16 :=
  B.a4.view.readAt (Elt F) (Rect.unit (s := S2176x256) ![0, 128] S2176x128.size inb_S2176x256_S2176x128_0_128).toLoadRect B.X4

/-! ## What it computes of a tile -/

/-- A step of 256 query rows, first head: the query gradient, and the key and value sums it adds to. -/
def dq0 (d o l : Vec F S256x128 .f32) (q : Vec F S256x128 .bf16) (k v : Vec F S2176x128 .bf16) : Vec F S256x128 .f32 :=
  k0_pay16 (k0_pay7 l) (k0_pay8 d o) (k0_pay9 q) (k0_pay10 k) (k0_pay11 v) k0_pay12 k0_pay13
def dk0 (d o l : Vec F S256x128 .f32) (q : Vec F S256x128 .bf16) (k v : Vec F S2176x128 .bf16) (a : Vec F S2176x128 .f32) : Vec F S2176x128 .f32 :=
  k0_pay17 (k0_pay7 l) (k0_pay8 d o) (k0_pay9 q) (k0_pay10 k) (k0_pay11 v) k0_pay12 k0_pay13 a
def dv0 (d o l : Vec F S256x128 .f32) (q : Vec F S256x128 .bf16) (k v : Vec F S2176x128 .bf16) (a : Vec F S2176x128 .f32) : Vec F S2176x128 .f32 :=
  k0_pay18 (k0_pay7 l) (k0_pay8 d o) (k0_pay9 q) (k0_pay10 k) k0_pay12 k0_pay13 a
/-- The same of the second head. -/
def dq1 (d o l : Vec F S256x128 .f32) (q : Vec F S256x128 .bf16) (k v : Vec F S2176x128 .bf16) : Vec F S256x128 .f32 :=
  k0_pay49 (k0_pay44 k) (k0_pay46 (iota .tc S256x128 32 [1] iota_S256x128_d1_w32) (k0_pay31 d) (k0_pay32 o) (k0_pay33 l) q k v)
    (constant S256x128 .f32 0x00000000#32)
def dk1 (d o l : Vec F S256x128 .f32) (q : Vec F S256x128 .bf16) (k v : Vec F S2176x128 .bf16) (a : Vec F S2176x128 .f32) : Vec F S2176x128 .f32 :=
  k0_pay50 (k0_pay43 q) (k0_pay46 (iota .tc S256x128 32 [1] iota_S256x128_d1_w32) (k0_pay31 d) (k0_pay32 o) (k0_pay33 l) q k v) a
def dv1 (d o l : Vec F S256x128 .f32) (q : Vec F S256x128 .bf16) (k v : Vec F S2176x128 .bf16) (a : Vec F S2176x128 .f32) : Vec F S2176x128 .f32 :=
  k0_pay51 (k0_pay42 (iota .tc S256x128 32 [1] iota_S256x128_d1_w32) (k0_pay31 d) (k0_pay32 o)) (k0_pay45 (iota .tc S256x128 32 [1] iota_S256x128_d1_w32) (k0_pay33 l) q k) a
/-- The last 128 query rows, first head. -/
def dqT0 (d o l : Vec F S128x128 .f32) (q : Vec F S128x128 .bf16) (k v : Vec F S2176x128 .bf16) : Vec F S128x128 .f32 :=
  k0_pay60 (iota .tc S128x128 32 [1] iota_S128x128_d1_w32) (k0_pay54 l) (k0_pay55 d o) q k v
def dkT0 (d o l : Vec F S128x128 .f32) (q : Vec F S128x128 .bf16) (k v : Vec F S2176x128 .bf16) (a : Vec F S2176x128 .f32) : Vec F S2176x128 .f32 :=
  k0_pay61 (iota .tc S128x128 32 [1] iota_S128x128_d1_w32) (k0_pay54 l) (k0_pay55 d o) q k v a
def dvT0 (d o l : Vec F S128x128 .f32) (q : Vec F S128x128 .bf16) (k v : Vec F S2176x128 .bf16) (a : Vec F S2176x128 .f32) : Vec F S2176x128 .f32 :=
  k0_pay62 (iota .tc S128x128 32 [1] iota_S128x128_d1_w32) (k0_pay54 l) (k0_pay55 d o) q k a
/-- The last 128 query rows, second head. -/
def dqT1 (d o l : Vec F S128x128 .f32) (q : Vec F S128x128 .bf16) (k v : Vec F S2176x128 .bf16) : Vec F S128x128 .f32 :=
  k0_pay1 (k0_pay65 k) (k0_pay67 (iota .tc S128x128 32 [1] iota_S128x128_d1_w32) (k0_pay52 d) (k0_pay53 o) (k0_pay54 l) q k v)
    (constant S128x128 .f32 0x00000000#32)
def dkT1 (d o l : Vec F S128x128 .f32) (q : Vec F S128x128 .bf16) (k v : Vec F S2176x128 .bf16) (a : Vec F S2176x128 .f32) : Vec F S2176x128 .f32 :=
  k0_pay2 (k0_pay64 q) (k0_pay67 (iota .tc S128x128 32 [1] iota_S128x128_d1_w32) (k0_pay52 d) (k0_pay53 o) (k0_pay54 l) q k v) a
def dvT1 (d o l : Vec F S128x128 .f32) (q : Vec F S128x128 .bf16) (k v : Vec F S2176x128 .bf16) (a : Vec F S2176x128 .f32) : Vec F S2176x128 .f32 :=
  k0_pay3 (k0_pay63 (iota .tc S128x128 32 [1] iota_S128x128_d1_w32) (k0_pay52 d) (k0_pay53 o)) (k0_pay66 (iota .tc S128x128 32 [1] iota_S128x128_d1_w32) (k0_pay54 l) q k) a

/-! ## The stores -/

/-- One trip's stores into result 0, last first. -/
def dqTrip (B : Bufs F) (k : Fin k0_t1_loop.trips) : List (View.Piece (Elt F) S2176x256 .f32) :=
  [⟨Rect.unit (s := S2176x256) (k0_off6 k) S256x128.size (k0_off6_inb k), dq1 (dB B k) (oB B k) (lB B k) (qB1 B k) (k1 B) (v1 B)⟩, ⟨Rect.unit (s := S2176x256) (k0_off5 k) S256x128.size (k0_off5_inb k), dq0 (dB B k) (oB B k) (lB B k) (qB0 B k) (k0 B) (v0 B)⟩,
   ⟨Rect.unit (s := S2176x256) (k0_off3 k) S256x128.size (k0_off3_inb k), dq1 (dA B k) (oA B k) (lA B k) (qA1 B k) (k1 B) (v1 B)⟩, ⟨Rect.unit (s := S2176x256) (k0_off2 k) S256x128.size (k0_off2_inb k), dq0 (dA B k) (oA B k) (lA B k) (qA0 B k) (k0 B) (v0 B)⟩]
def dqList (B : Bufs F) : ℕ → List (View.Piece (Elt F) S2176x256 .f32)
  | 0 => []
  | k + 1 => if h : k < k0_t1_loop.trips then dqTrip B ⟨k, h⟩ ++ dqList B k else dqList B k

/-- One trip's stores into result 1, last first, over what the result held. -/
def dkHalf (B : Bufs F) (k : Fin k0_t1_loop.trips) (f : BufTy.Contents (Elt F) B.a10.view.ty) : List (View.Piece (Elt F) S2176x256 .f32) :=
  [⟨(Rect.unit (s := S2176x256) ![0, 128] S2176x128.size inb_S2176x256_S2176x128_0_128), dk1 (dA B k) (oA B k) (lA B k) (qA1 B k) (k1 B) (v1 B) (B.a10.view.readAt (Elt F) (Rect.unit (s := S2176x256) ![0, 128] S2176x128.size inb_S2176x256_S2176x128_0_128).toLoadRect f)⟩,
   ⟨(Rect.unit (s := S2176x256) ![0, 0] S2176x128.size inb_S2176x256_S2176x128_0_0), dk0 (dA B k) (oA B k) (lA B k) (qA0 B k) (k0 B) (v0 B) (B.a10.view.readAt (Elt F) (Rect.unit (s := S2176x256) ![0, 0] S2176x128.size inb_S2176x256_S2176x128_0_0).toLoadRect f)⟩]
def dkMid (B : Bufs F) (k : Fin k0_t1_loop.trips) (f : BufTy.Contents (Elt F) B.a10.view.ty) : List (View.Piece (Elt F) S2176x256 .f32) :=
  ⟨(Rect.unit (s := S2176x256) ![0, 0] S2176x128.size inb_S2176x256_S2176x128_0_0), dk0 (dB B k) (oB B k) (lB B k) (qB0 B k) (k0 B) (v0 B) (B.a10.view.readCov (dkHalf B k f) (Rect.unit (s := S2176x256) ![0, 0] S2176x128.size inb_S2176x256_S2176x128_0_0).toLoadRect)⟩ :: dkHalf B k f
def dkTrip (B : Bufs F) (k : Fin k0_t1_loop.trips) (f : BufTy.Contents (Elt F) B.a10.view.ty) : List (View.Piece (Elt F) S2176x256 .f32) :=
  ⟨(Rect.unit (s := S2176x256) ![0, 128] S2176x128.size inb_S2176x256_S2176x128_0_128), dk1 (dB B k) (oB B k) (lB B k) (qB1 B k) (k1 B) (v1 B) (B.a10.view.readCov (dkMid B k f) (Rect.unit (s := S2176x256) ![0, 128] S2176x128.size inb_S2176x256_S2176x128_0_128).toLoadRect)⟩ :: dkMid B k f
/-- The stores into result 1 of the zeros and of the first `k` trips. -/
def dkZero : List (View.Piece (Elt F) S2176x256 .f32) := [⟨(Rect.unit (s := S2176x256) ![0, 0] S2176x256.size inb_S2176x256_S2176x256_0_0), k0_pay47⟩]
def dkList (B : Bufs F) : ℕ → List (View.Piece (Elt F) S2176x256 .f32)
  | 0 => []
  | k + 1 => if h : k < k0_t1_loop.trips then
      dkTrip B ⟨k, h⟩ (B.a10.view.writes (Elt F) (B.a10.view.writes (Elt F) B.a10.view.junk dkZero) (dkList B k)) ++ dkList B k
    else dkList B k

/-- One trip's stores into result 2, last first, over what the result held. -/
def dvHalf (B : Bufs F) (k : Fin k0_t1_loop.trips) (f : BufTy.Contents (Elt F) B.a11.view.ty) : List (View.Piece (Elt F) S2176x256 .f32) :=
  [⟨(Rect.unit (s := S2176x256) ![0, 128] S2176x128.size inb_S2176x256_S2176x128_0_128), dv1 (dA B k) (oA B k) (lA B k) (qA1 B k) (k1 B) (v1 B) (B.a11.view.readAt (Elt F) (Rect.unit (s := S2176x256) ![0, 128] S2176x128.size inb_S2176x256_S2176x128_0_128).toLoadRect f)⟩,
   ⟨(Rect.unit (s := S2176x256) ![0, 0] S2176x128.size inb_S2176x256_S2176x128_0_0), dv0 (dA B k) (oA B k) (lA B k) (qA0 B k) (k0 B) (v0 B) (B.a11.view.readAt (Elt F) (Rect.unit (s := S2176x256) ![0, 0] S2176x128.size inb_S2176x256_S2176x128_0_0).toLoadRect f)⟩]
def dvMid (B : Bufs F) (k : Fin k0_t1_loop.trips) (f : BufTy.Contents (Elt F) B.a11.view.ty) : List (View.Piece (Elt F) S2176x256 .f32) :=
  ⟨(Rect.unit (s := S2176x256) ![0, 0] S2176x128.size inb_S2176x256_S2176x128_0_0), dv0 (dB B k) (oB B k) (lB B k) (qB0 B k) (k0 B) (v0 B) (B.a11.view.readCov (dvHalf B k f) (Rect.unit (s := S2176x256) ![0, 0] S2176x128.size inb_S2176x256_S2176x128_0_0).toLoadRect)⟩ :: dvHalf B k f
def dvTrip (B : Bufs F) (k : Fin k0_t1_loop.trips) (f : BufTy.Contents (Elt F) B.a11.view.ty) : List (View.Piece (Elt F) S2176x256 .f32) :=
  ⟨(Rect.unit (s := S2176x256) ![0, 128] S2176x128.size inb_S2176x256_S2176x128_0_128), dv1 (dB B k) (oB B k) (lB B k) (qB1 B k) (k1 B) (v1 B) (B.a11.view.readCov (dvMid B k f) (Rect.unit (s := S2176x256) ![0, 128] S2176x128.size inb_S2176x256_S2176x128_0_128).toLoadRect)⟩ :: dvMid B k f
/-- The stores into result 2 of the zeros and of the first `k` trips. -/
def dvZero : List (View.Piece (Elt F) S2176x256 .f32) := [⟨(Rect.unit (s := S2176x256) ![0, 0] S2176x256.size inb_S2176x256_S2176x256_0_0), k0_pay48⟩]
def dvList (B : Bufs F) : ℕ → List (View.Piece (Elt F) S2176x256 .f32)
  | 0 => []
  | k + 1 => if h : k < k0_t1_loop.trips then
      dvTrip B ⟨k, h⟩ (B.a11.view.writes (Elt F) (B.a11.view.writes (Elt F) B.a11.view.junk dvZero) (dvList B k)) ++ dvList B k
    else dvList B k

theorem trip_dq (c : Dev nD) (i : grid0.Coords) (B : Bufs F) (k : Fin k0_t1_loop.trips) (f9 : BufTy.Contents (Elt F) B.a9.view.ty) (f10 : BufTy.Contents (Elt F) B.a10.view.ty) (f11 : BufTy.Contents (Elt F) B.a11.view.ty) :
    (trip_k0_t1 (F := F) Variants.none c none i B.a2 B.h2 B.a3 B.h3 B.a4 B.h4 B.a5 B.h5 B.a6 B.h6 B.a7 B.h7 (Memref.whole main_v86) (Memref.isWhole_whole _) B.a9 B.h9 B.a10 B.h10 B.a11 B.h11 B.X2 B.X3 B.X4 B.X5 B.X6 B.X7 k).1 f9 f10 f11 = dqTrip B k := by
  unfold trip_k0_t1
  rfl
theorem trip_dk (c : Dev nD) (i : grid0.Coords) (B : Bufs F) (k : Fin k0_t1_loop.trips) (f9 : BufTy.Contents (Elt F) B.a9.view.ty) (f10 : BufTy.Contents (Elt F) B.a10.view.ty) (f11 : BufTy.Contents (Elt F) B.a11.view.ty) :
    (trip_k0_t1 (F := F) Variants.none c none i B.a2 B.h2 B.a3 B.h3 B.a4 B.h4 B.a5 B.h5 B.a6 B.h6 B.a7 B.h7 (Memref.whole main_v86) (Memref.isWhole_whole _) B.a9 B.h9 B.a10 B.h10 B.a11 B.h11 B.X2 B.X3 B.X4 B.X5 B.X6 B.X7 k).2.1 f9 f10 f11 = dkTrip B k f10 := by
  unfold trip_k0_t1
  rfl
theorem trip_dv (c : Dev nD) (i : grid0.Coords) (B : Bufs F) (k : Fin k0_t1_loop.trips) (f9 : BufTy.Contents (Elt F) B.a9.view.ty) (f10 : BufTy.Contents (Elt F) B.a10.view.ty) (f11 : BufTy.Contents (Elt F) B.a11.view.ty) :
    (trip_k0_t1 (F := F) Variants.none c none i B.a2 B.h2 B.a3 B.h3 B.a4 B.h4 B.a5 B.h5 B.a6 B.h6 B.a7 B.h7 (Memref.whole main_v86) (Memref.isWhole_whole _) B.a9 B.h9 B.a10 B.h10 B.a11 B.h11 B.X2 B.X3 B.X4 B.X5 B.X6 B.X7 k).2.2.1 f9 f10 f11 = dvTrip B k f11 := by
  unfold trip_k0_t1
  rfl

theorem pb_eq (c : Dev nD) (i : grid0.Coords) (B : Bufs F) (f9 : BufTy.Contents (Elt F) B.a9.view.ty) (k : ℕ) (hk : k ≤ k0_t1_loop.trips) :
    pb_k0_t1 (F := F) Variants.none c none i B.a2 B.h2 B.a3 B.h3 B.a4 B.h4 B.a5 B.h5 B.a6 B.h6 B.a7 B.h7 (Memref.whole main_v86) (Memref.isWhole_whole _) B.a9 B.h9 B.a10 B.h10 B.a11 B.h11 B.X2 B.X3 B.X4 B.X5 B.X6 B.X7 f9 (B.a10.view.writes (Elt F) B.a10.view.junk dkZero) (B.a11.view.writes (Elt F) B.a11.view.junk dvZero) k
      = (dqList B k, dkList B k, dvList B k) := by
  induction k with
  | zero => rfl
  | succ k ih =>
    refine (pb_k0_t1_succ (F := F) Variants.none c none i B.a2 B.h2 B.a3 B.h3 B.a4 B.h4 B.a5 B.h5 B.a6 B.h6 B.a7 B.h7 (Memref.whole main_v86) (Memref.isWhole_whole _) B.a9 B.h9 B.a10 B.h10 B.a11 B.h11 B.X2 B.X3 B.X4 B.X5 B.X6 B.X7 f9 _ _ ⟨k, hk⟩).trans ?_
    dsimp only
    rw [ih (Nat.le_of_succ_le hk), trip_dq, trip_dk, trip_dv]
    simp only [dqList, dkList, dvList, dif_pos (show k < k0_t1_loop.trips from hk)]

/-- All the stores into each result, last first. -/
def dqAll (B : Bufs F) : List (View.Piece (Elt F) S2176x256 .f32) :=
  ⟨Rect.unit (s := S2176x256) ![2048, 128] S128x128.size inb_S2176x256_S128x128_2048_128, dqT1 (dT B) (oT B) (lT B) (qT1 B) (k1 B) (v1 B)⟩ ::
  ⟨Rect.unit (s := S2176x256) ![2048, 0] S128x128.size inb_S2176x256_S128x128_2048_0, dqT0 (dT B) (oT B) (lT B) (qT0 B) (k0 B) (v0 B)⟩ :: dqList B 4
def dkMost (B : Bufs F) : List (View.Piece (Elt F) S2176x256 .f32) :=
  ⟨(Rect.unit (s := S2176x256) ![0, 0] S2176x128.size inb_S2176x256_S2176x128_0_0), dkT0 (dT B) (oT B) (lT B) (qT0 B) (k0 B) (v0 B) (B.a10.view.readCov (dkList B 4 ++ dkZero) (Rect.unit (s := S2176x256) ![0, 0] S2176x128.size inb_S2176x256_S2176x128_0_0).toLoadRect)⟩ :: (dkList B 4 ++ dkZero)
def dkSum (B : Bufs F) : List (View.Piece (Elt F) S2176x256 .f32) :=
  ⟨(Rect.unit (s := S2176x256) ![0, 128] S2176x128.size inb_S2176x256_S2176x128_0_128), dkT1 (dT B) (oT B) (lT B) (qT1 B) (k1 B) (v1 B) (B.a10.view.readCov (dkMost B) (Rect.unit (s := S2176x256) ![0, 128] S2176x128.size inb_S2176x256_S2176x128_0_128).toLoadRect)⟩ :: dkMost B
def dkAll (B : Bufs F) : List (View.Piece (Elt F) S2176x256 .f32) :=
  ⟨(Rect.unit (s := S2176x256) ![0, 0] S2176x256.size inb_S2176x256_S2176x256_0_0), k0_pay4 (B.a10.view.readCov (dkSum B) (Rect.unit (s := S2176x256) ![0, 0] S2176x256.size inb_S2176x256_S2176x256_0_0).toLoadRect)⟩ :: dkSum B
def dvMost (B : Bufs F) : List (View.Piece (Elt F) S2176x256 .f32) :=
  ⟨(Rect.unit (s := S2176x256) ![0, 0] S2176x128.size inb_S2176x256_S2176x128_0_0), dvT0 (dT B) (oT B) (lT B) (qT0 B) (k0 B) (v0 B) (B.a11.view.readCov (dvList B 4 ++ dvZero) (Rect.unit (s := S2176x256) ![0, 0] S2176x128.size inb_S2176x256_S2176x128_0_0).toLoadRect)⟩ :: (dvList B 4 ++ dvZero)
def dvAll (B : Bufs F) : List (View.Piece (Elt F) S2176x256 .f32) :=
  ⟨(Rect.unit (s := S2176x256) ![0, 128] S2176x128.size inb_S2176x256_S2176x128_0_128), dvT1 (dT B) (oT B) (lT B) (qT1 B) (k1 B) (v1 B) (B.a11.view.readCov (dvMost B) (Rect.unit (s := S2176x256) ![0, 128] S2176x128.size inb_S2176x256_S2176x128_0_128).toLoadRect)⟩ :: dvMost B

theorem dqAll_eq (c : Dev nD) (i : grid0.Coords) (B : Bufs F) (f9 : BufTy.Contents (Elt F) B.a9.view.ty) (f10 : BufTy.Contents (Elt F) B.a10.view.ty) (f11 : BufTy.Contents (Elt F) B.a11.view.ty) :
    (stores c i B.a2 B.h2 B.a3 B.h3 B.a4 B.h4 B.a5 B.h5 B.a6 B.h6 B.a7 B.h7 B.a9 B.h9 B.a10 B.h10 B.a11 B.h11 B.X2 B.X3 B.X4 B.X5 B.X6 B.X7).1 f9 f10 f11 = dqAll B := by
  have e := congrArg (fun p => p.1) (pb_eq c i B f9 4 (by decide))
  dsimp only at e
  unfold dkZero dvZero at e
  unfold stores
  dsimp only
  unfold stores.sl.H10_1 stores.sl.H11_1
  rw [show Scf.trips 0#32 (Scalar.addi 0#32 4#32) 1#32 = 4 from by decide, e]
  rfl

/-- They fill result 0. -/
theorem dqAll_cover (B : Bufs F) (y : S2176x256.Idx) : ∃ pc ∈ dqAll B, y ∈ pc.1.set :=
  View.cover_of_tiledBy (dqAll B) ![128, 128] (by sl_kernel_rfl) y

theorem dkAll_eq (c : Dev nD) (i : grid0.Coords) (B : Bufs F) (f9 : BufTy.Contents (Elt F) B.a9.view.ty) (f10 : BufTy.Contents (Elt F) B.a10.view.ty) (f11 : BufTy.Contents (Elt F) B.a11.view.ty) :
    (stores c i B.a2 B.h2 B.a3 B.h3 B.a4 B.h4 B.a5 B.h5 B.a6 B.h6 B.a7 B.h7 B.a9 B.h9 B.a10 B.h10 B.a11 B.h11 B.X2 B.X3 B.X4 B.X5 B.X6 B.X7).2.1 f9 f10 f11 = dkAll B := by
  have e := congrArg (fun p => p.2.1) (pb_eq c i B f9 4 (by decide))
  dsimp only at e
  unfold dkZero dvZero at e
  unfold stores
  dsimp only
  unfold stores.sl.v123 stores.sl.H10_2 stores.sl.v112 stores.sl.H10_1_1 stores.sl.v56
  unfold stores.sl.H10_1 stores.sl.H11_1
  rw [show Scf.trips 0#32 (Scalar.addi 0#32 4#32) 1#32 = 4 from by decide, e]
  rfl

/-- They fill result 1. -/
theorem dkAll_cover (B : Bufs F) (y : S2176x256.Idx) : ∃ pc ∈ dkAll B, y ∈ pc.1.set :=
  View.cover_of_tiledBy (dkAll B) ![2176, 128] (by sl_kernel_rfl) y

theorem dvAll_eq (c : Dev nD) (i : grid0.Coords) (B : Bufs F) (f9 : BufTy.Contents (Elt F) B.a9.view.ty) (f10 : BufTy.Contents (Elt F) B.a10.view.ty) (f11 : BufTy.Contents (Elt F) B.a11.view.ty) :
    (stores c i B.a2 B.h2 B.a3 B.h3 B.a4 B.h4 B.a5 B.h5 B.a6 B.h6 B.a7 B.h7 B.a9 B.h9 B.a10 B.h10 B.a11 B.h11 B.X2 B.X3 B.X4 B.X5 B.X6 B.X7).2.2.1 f9 f10 f11 = dvAll B := by
  have e := congrArg (fun p => p.2.2) (pb_eq c i B f9 4 (by decide))
  dsimp only at e
  unfold dkZero dvZero at e
  unfold stores
  dsimp only
  unfold stores.sl.v117 stores.sl.H11_1_1 stores.sl.r_4 stores.sl.v61
  unfold stores.sl.H10_1 stores.sl.H11_1
  rw [show Scf.trips 0#32 (Scalar.addi 0#32 4#32) 1#32 = 4 from by decide, e]
  rfl

/-- They fill result 2. -/
theorem dvAll_cover (B : Bufs F) (y : S2176x256.Idx) : ∃ pc ∈ dvAll B, y ∈ pc.1.set :=
  View.cover_of_tiledBy (dvAll B) ![2176, 128] (by sl_kernel_rfl) y

end Cert.MlaRun

end
-- ==== Proof.MlaFrame.lean ====
/- The attention gradient's launch: what each grid point leaves, the run of the whole program, and that it ends with its
   arguments and counters as they were. -/
module

public import proofs.«01_k».proof.Proof.MlaStores
public import Idealize.ShloMosaic.Lib.Claim

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of grid point `t`, the operands holding their blocks. -/
def bufs (c : Dev nD) (t : Fin cfg0.N) : Bufs F where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := ms0_5 t
  h7 := hs0_5 t
  a9 := ms0_6 t
  h9 := hs0_6 t
  a10 := ms0_7 t
  h10 := hs0_7 t
  a11 := ms0_8 t
  h11 := hs0_8 t
  X2 := (hs0_0 t).unread (iblk m c 0 t)
  X3 := (hs0_1 t).unread (iblk m c 1 t)
  X4 := (hs0_2 t).unread (iblk m c 2 t)
  X5 := (hs0_3 t).unread (iblk m c 3 t)
  X6 := (hs0_4 t).unread (iblk m c 4 t)
  X7 := (hs0_5 t).unread (iblk m c 5 t)

/-- What the three results' buffers hold after point `t`. -/
def dqOut (c : Dev nD) (t : Fin cfg0.N) : Vec F S2176x256 .f32 :=
  VO0_6.read (Elt F) (VO0_6.writes (Elt F) VO0_6.junk (dqAll (bufs m c t)))
def dkOut (c : Dev nD) (t : Fin cfg0.N) : Vec F S2176x256 .f32 :=
  VO0_7.read (Elt F) (VO0_7.writes (Elt F) VO0_7.junk (dkAll (bufs m c t)))
def dvOut (c : Dev nD) (t : Fin cfg0.N) : Vec F S2176x256 .f32 :=
  VO0_8.read (Elt F) (VO0_8.writes (Elt F) VO0_8.junk (dvAll (bufs m c t)))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t
    | ⟨7, _⟩ => dkOut m c t
    | ⟨8, _⟩ => dvOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqOut m c t := by dsimp only [dats]
theorem after0_7 (c : Dev nD) (t : Fin cfg0.N) : (dats m 0 c).after 7 t = dkOut m c t := by dsimp only [dats]
theorem after0_8 (c : Dev nD) (t : Fin cfg0.N) : (dats m 0 c).after 8 t = dvOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold dqOut dkOut dvOut
  have run := (stores c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t))).2.2.2 Set.univ
  have r9 := fun f9 f10 f11 => dqAll_eq c (grid0.coords t) (bufs m c t) f9 f10 f11
  have r10 := fun f9 f10 f11 => dkAll_eq c (grid0.coords t) (bufs m c t) f9 f10 f11
  have r11 := fun f9 f10 f11 => dvAll_eq c (grid0.coords t) (bufs m c t) f9 f10 f11
  generalize hb : bufs m c t = B at r9 r10 r11 ⊢
  have e9 := dqAll_cover B
  have e10 := dkAll_cover B
  have e11 := dvAll_cover B
  generalize dqAll B = L9 at r9 e9 ⊢
  generalize dkAll B = L10 at r10 e10 ⊢
  generalize dvAll B = L11 at r11 e11 ⊢
  subst hb
  dsimp only [bufs] at r9 r10 r11
  simp only [r9, r10, r11] at run
  clear r9 r10 r11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  obtain rfl := (hs0_0 t).eq_unread hf0
  obtain rfl := (hs0_1 t).eq_unread hf1
  obtain rfl := (hs0_2 t).eq_unread hf2
  obtain rfl := (hs0_3 t).eq_unread hf3
  obtain rfl := (hs0_4 t).eq_unread hf4
  obtain rfl := (hs0_5 t).eq_unread hf5
  iapply (run _ f6 f7 f8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact View.read_writes_of_cover _ _ _ _ _ e9
  isplitl [H7]
  · iexists _; isplitr; swap; · iexact H7
    ipureintro; exact View.read_writes_of_cover _ _ _ _ _ e10
  iexists _; isplitr; swap; · iexact H8
  ipureintro; exact View.read_writes_of_cover _ _ _ _ _ e11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.MlaRun

end
-- ==== Proof.MlaClaim.lean ====
/- The attention gradient's claims. -/
module

public import proofs.«01_k».proof.Defs
public import proofs.«01_k».proof.Proof.MlaFrame
public import proofs.«01_k».proof.Proof.Gen.Mla
public import proofs.«01_k».proof.Proof.Gen.MlaIdeal
public import proofs.«01_k».proof.Proof.Gen.MlaRefIdeal
public import proofs.«01_k».proof.Proof.Gen.MlaRefIdeal.Run
public import proofs.«01_k».proof.Proof.Gen.MlaRefIdeal.Read
public import Idealize.ShloMosaic.Lib.Claim

@[expose] public section

set_option maxRecDepth 16384

noncomputable section

namespace Cert.MlaClaim

open Idealize.ShloMosaic Idealize.ShloMosaic.TcCoe Idealize.ShloMosaic.Tactic
open Idealize.SL Idealize.SL.Sem

theorem pre_facts : Cert.Pre_mla_finite.Facts where
  bcast_S_S2x2064x8x64 := by decide
  reducesTo_S2x2064x8x64_S_d0_1_2_3 := by decide
  h_S_ := by decide
  bcast_S_S2x2064x8x32 := by decide
  reducesTo_S2x2064x8x32_S_d0_1_2_3 := by decide
  bcast_S_S2x2064x32 := by decide
  reducesTo_S2x2064x32_S_d0_1_2 := by decide
  bcast_S_S2x2064x512 := by decide
  reducesTo_S2x2064x512_S_d0_1_2 := by decide

attribute [local instance] pre_facts

/-- At the machine's floats a named constant stands for its printed word. -/
local instance wordNames : Named Bits where
  named _ _ {φ} bits := FloatOps.ofBits φ bits

theorem frame_p : Cert.quiescent_Mla := by
  intro m ρ _
  have e1 : Cert.Mla.defs (F := Bits) = Cert.MlaIdeal.defs (F := Bits) := by sl_kernel_rfl
  have e2 : Cert.Mla.main (F := Bits) = Cert.MlaIdeal.main (F := Bits) := by sl_kernel_rfl
  rw [e1, e2]
  exact MlaRun.frame (F := Bits) m ρ

theorem frame_pi : Cert.quiescent_MlaIdeal := fun m ρ _ => MlaRun.frame (F := Ideal) m ρ
theorem frame_pi_finite : Cert.quiescent_MlaIdeal_pre_mla_finite := fun m ρ _ => MlaRun.frame (F := Ideal) m ρ
theorem frame_ri : Cert.quiescent_MlaRefIdeal := fun m ρ _ =>
  (θ_run Cert.MlaRefIdeal.defs _ _).mono (fun r h => ⟨fun c => (h c).2.2.2.2.2, sem_eq_zero_of_no_sems (by decide) r.2⟩)
    (Cert.MlaRefIdeal.Value.run (F := Ideal) m ρ)
theorem frame_ri_finite : Cert.quiescent_MlaRefIdeal_pre_mla_finite := fun m ρ _ => frame_ri m ρ trivial

theorem preserves : Cert.preserves_Mla_MlaIdeal :=
  IdealRules.named_const.statement Cert.MlaIdeal.κ "ln2" .f32 0x3F317218#32 ((Real.log 2 : ℝ) : EReal) rfl

end Cert.MlaClaim

end
-- ==== Proof.MlaTile.lean ====
/- What the attention gradient's body computes of a tile of query rows, one row at a time over the extended reals. -/
module
public import proofs.«01_k».proof.Proof.MlaStores
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.MlaTile
open Cert.MlaIdeal Cert.MlaIdeal.Gen Cert.MlaRun

/-! ## One query row, of head `h` of the pair -/

/-- The output gradient's half row, -/
def dm (h : ℕ) (D : Fin 128 → EReal) (e : Fin 128) : EReal := if h = 0 then (if e.val < 64 then D e else 0) else (if e.val < 64 then 0 else D e)
/-- its product with the output, -/
def dl (h : ℕ) (D O : Fin 128 → EReal) : EReal := ∑ e : Fin 128, dm h D e * O e
/-- the half row moved to the front, the product behind it, -/
def dx (h : ℕ) (D O : Fin 128 → EReal) (e : Fin 128) : EReal :=
  if e.val = 64 then dl h D O else if e.val = 65 then dl h D O - dl h D O
  else dm h D (if h = 0 then e else ⟨(e.val + 64) % 128, Nat.mod_lt _ (by decide)⟩)
/-- the row's logarithm of sums, -/
def ls (h : ℕ) (L : Fin 128 → EReal) : EReal := ∑ e : Fin 128, if e.val = h then L e else 0
/-- its weight at a key, -/
def pw (h : ℕ) (L Q K : Fin 128 → EReal) : EReal := Ideal.exp2 ((∑ e : Fin 128, Q e * K e) - ls h L)
/-- and the weight's gradient. -/
def dw (h : ℕ) (D O L Q K V : Fin 128 → EReal) : EReal := pw h L Q K * ∑ e : Fin 128, dx h D O e * V e
/-- The number each query gradient is multiplied by, as its word reads. -/
abbrev cw : EReal := Ideal.ofBits .f32 0x3DD105EC#32

/-- A matrix's row. -/
def row {a : ℕ} (x : (⟨2, ![a, 128]⟩ : Shape).Idx → EReal) (p : Fin a) : Fin 128 → EReal := fun e => x (ix2 p e)
theorem row_apply {a : ℕ} (x : (⟨2, ![a, 128]⟩ : Shape).Idx → EReal) (p : Fin a) (e : Fin 128) : row x p e = x (ix2 p e) := rfl

theorem sel_lt (e : Fin 128) (a b : EReal) : Scalar.select (IntOp.cmpi CmpIPredicate.slt (BitVec.ofNat 32 e.val) 64#32) a b = if e.val < 64 then a else b := by
  revert e a b
  have h : ∀ e : Fin 128, IntOp.cmpi CmpIPredicate.slt (BitVec.ofNat 32 e.val) 64#32 = if e.val < 64 then 1#1 else 0#1 := by decide
  intro e a b
  rw [h e]
  split_ifs <;> rfl
theorem sel_ge (n : ℕ) (hn : n < 128) (a b : EReal) : Scalar.select (IntOp.cmpi CmpIPredicate.sge (BitVec.ofNat 32 n) 64#32) a b = if n < 64 then b else a := by
  revert a b
  have h : ∀ e : Fin 128, IntOp.cmpi CmpIPredicate.sge (BitVec.ofNat 32 e.val) 64#32 = if e.val < 64 then 0#1 else 1#1 := by decide
  intro a b
  rw [h ⟨n, hn⟩]
  split_ifs <;> rfl
theorem sel_eq (n : ℕ) (hn : n < 128) (e : Fin 128) (a b : EReal) : Scalar.select (IntOp.cmpi CmpIPredicate.eq (BitVec.ofNat 32 e.val) (BitVec.ofNat 32 n)) a b = if e.val = n then a else b := by
  revert e a b
  have h : ∀ n e : Fin 128, IntOp.cmpi CmpIPredicate.eq (BitVec.ofNat 32 e.val) (BitVec.ofNat 32 n.val) = if e.val = n.val then 1#1 else 0#1 := by decide
  intro e a b
  rw [h ⟨n, hn⟩ e]
  split_ifs <;> rfl

theorem dx0_apply (d o : Vec Ideal S256x128 .f32) (x : Fin 256) (e : Fin 128) :
    k0_pay8 (F := Ideal) d o (ix2 x e) = dx 0 (row d x) (row o x) e := by
  pointwise [k0_pay8, k0_pay5, k0_pay6]
  unfold dx dl dm row

  simp only [sel_lt, sel_ge _ (Fin.isLt _), sel_eq 64 (by decide), sel_eq 65 (by decide), ite_mul, zero_mul]
  rfl
theorem p0_apply (l : Vec Ideal S256x128 .f32) (q : Vec Ideal S256x128 .bf16) (k : Vec Ideal S2176x128 .bf16) (x : Fin 256) (j : Fin 2176) :
    k0_pay14 (F := Ideal) (k0_pay7 l) (k0_pay9 q) (k0_pay10 k) k0_pay12 k0_pay13 (ix2 x j) = pw 0 (row l x) (row q x) (row k j) := by
  pointwise [k0_pay14, k0_pay7, k0_pay9, k0_pay10, k0_pay12, k0_pay13]
  unfold pw ls row
  simp only [sel_eq 0 (by decide)]
  rfl
theorem dq0_apply (d o l : Vec Ideal S256x128 .f32) (q : Vec Ideal S256x128 .bf16) (k v : Vec Ideal S2176x128 .bf16) (x : Fin 256) (e : Fin 128) :
    dq0 (F := Ideal) d o l q k v (ix2 x e) = (∑ j : Fin 2176, dw 0 (row d x) (row o x) (row l x) (row q x) (row k j) (row v j) * k (ix2 j e)) * cw := by
  unfold dw
  simp only [← dx0_apply, ← p0_apply, row_apply]
  unfold dq0
  pointwise [k0_pay16, k0_pay15, k0_pay7, k0_pay9, k0_pay10, k0_pay11]
theorem dk0_apply (d o l : Vec Ideal S256x128 .f32) (q : Vec Ideal S256x128 .bf16) (k v : Vec Ideal S2176x128 .bf16) (a : Vec Ideal S2176x128 .f32) (j : Fin 2176) (e : Fin 128) :
    dk0 (F := Ideal) d o l q k v a (ix2 j e) = a (ix2 j e) + ∑ x : Fin 256, dw 0 (row d x) (row o x) (row l x) (row q x) (row k j) (row v j) * q (ix2 x e) := by
  unfold dw
  simp only [← dx0_apply, ← p0_apply, row_apply]
  unfold dk0
  pointwise [k0_pay17, k0_pay15, k0_pay7, k0_pay9, k0_pay10, k0_pay11]
theorem dv0_apply (d o l : Vec Ideal S256x128 .f32) (q : Vec Ideal S256x128 .bf16) (k v : Vec Ideal S2176x128 .bf16) (a : Vec Ideal S2176x128 .f32) (j : Fin 2176) (e : Fin 128) :
    dv0 (F := Ideal) d o l q k v a (ix2 j e) = a (ix2 j e) + ∑ x : Fin 256, pw 0 (row l x) (row q x) (row k j) * dx 0 (row d x) (row o x) e := by
  simp only [← dx0_apply, ← p0_apply, row_apply]
  unfold dv0
  pointwise [k0_pay18, k0_pay15, k0_pay7, k0_pay9, k0_pay10, k0_pay11]

theorem dx1_apply (d o : Vec Ideal S256x128 .f32) (x : Fin 256) (e : Fin 128) :
    k0_pay42 (F := Ideal) (iota .tc S256x128 32 [1] iota_S256x128_d1_w32) (k0_pay31 d) (k0_pay32 o) (ix2 x e) = dx 1 (row d x) (row o x) e := by
  pointwise [k0_pay42, k0_pay31, k0_pay32]
  unfold dx dl dm row
  have hr : (e.val + 128 - 64) = e.val + 64 := by omega
  simp only [sel_lt, sel_ge _ (Fin.isLt _), sel_eq 64 (by decide), sel_eq 65 (by decide), ite_mul, zero_mul, hr, sel_ge _ (Nat.mod_lt _ (by decide))]
  rfl
theorem p1_apply (l : Vec Ideal S256x128 .f32) (q : Vec Ideal S256x128 .bf16) (k : Vec Ideal S2176x128 .bf16) (x : Fin 256) (j : Fin 2176) :
    k0_pay45 (F := Ideal) (iota .tc S256x128 32 [1] iota_S256x128_d1_w32) (k0_pay33 l) q k (ix2 x j) = pw 1 (row l x) (row q x) (row k j) := by
  pointwise [k0_pay45, k0_pay43, k0_pay44, k0_pay33]
  unfold pw ls row
  simp only [sel_eq 1 (by decide)]
  rfl
theorem dq1_apply (d o l : Vec Ideal S256x128 .f32) (q : Vec Ideal S256x128 .bf16) (k v : Vec Ideal S2176x128 .bf16) (x : Fin 256) (e : Fin 128) :
    dq1 (F := Ideal) d o l q k v (ix2 x e) = (∑ j : Fin 2176, dw 1 (row d x) (row o x) (row l x) (row q x) (row k j) (row v j) * k (ix2 j e)) * cw := by
  unfold dw
  simp only [← dx1_apply, ← p1_apply, row_apply]
  unfold dq1
  pointwise [k0_pay49, k0_pay46, k0_pay43, k0_pay44]
theorem dk1_apply (d o l : Vec Ideal S256x128 .f32) (q : Vec Ideal S256x128 .bf16) (k v : Vec Ideal S2176x128 .bf16) (a : Vec Ideal S2176x128 .f32) (j : Fin 2176) (e : Fin 128) :
    dk1 (F := Ideal) d o l q k v a (ix2 j e) = a (ix2 j e) + ∑ x : Fin 256, dw 1 (row d x) (row o x) (row l x) (row q x) (row k j) (row v j) * q (ix2 x e) := by
  unfold dw
  simp only [← dx1_apply, ← p1_apply, row_apply]
  unfold dk1
  pointwise [k0_pay50, k0_pay46, k0_pay43, k0_pay44]
theorem dv1_apply (d o l : Vec Ideal S256x128 .f32) (q : Vec Ideal S256x128 .bf16) (k v : Vec Ideal S2176x128 .bf16) (a : Vec Ideal S2176x128 .f32) (j : Fin 2176) (e : Fin 128) :
    dv1 (F := Ideal) d o l q k v a (ix2 j e) = a (ix2 j e) + ∑ x : Fin 256, pw 1 (row l x) (row q x) (row k j) * dx 1 (row d x) (row o x) e := by
  simp only [← dx1_apply, ← p1_apply, row_apply]
  unfold dv1
  pointwise [k0_pay51, k0_pay46, k0_pay43, k0_pay44]

theorem dxT0_apply (d o : Vec Ideal S128x128 .f32) (x : Fin 128) (e : Fin 128) :
    k0_pay55 (F := Ideal) d o (ix2 x e) = dx 0 (row d x) (row o x) e := by
  pointwise [k0_pay55, k0_pay52, k0_pay53]
  unfold dx dl dm row

  simp only [sel_lt, sel_ge _ (Fin.isLt _), sel_eq 64 (by decide), sel_eq 65 (by decide), ite_mul, zero_mul]
  rfl
theorem pT0_apply (l : Vec Ideal S128x128 .f32) (q : Vec Ideal S128x128 .bf16) (k : Vec Ideal S2176x128 .bf16) (x : Fin 128) (j : Fin 2176) :
    k0_pay58 (F := Ideal) (iota .tc S128x128 32 [1] iota_S128x128_d1_w32) (k0_pay54 l) q k (ix2 x j) = pw 0 (row l x) (row q x) (row k j) := by
  pointwise [k0_pay58, k0_pay56, k0_pay57, k0_pay54]
  unfold pw ls row
  simp only [sel_eq 0 (by decide)]
  rfl
theorem dqT0_apply (d o l : Vec Ideal S128x128 .f32) (q : Vec Ideal S128x128 .bf16) (k v : Vec Ideal S2176x128 .bf16) (x : Fin 128) (e : Fin 128) :
    dqT0 (F := Ideal) d o l q k v (ix2 x e) = (∑ j : Fin 2176, dw 0 (row d x) (row o x) (row l x) (row q x) (row k j) (row v j) * k (ix2 j e)) * cw := by
  unfold dw
  simp only [← dxT0_apply, ← pT0_apply, row_apply]
  unfold dqT0
  pointwise [k0_pay60, k0_pay59, k0_pay56, k0_pay57]
theorem dkT0_apply (d o l : Vec Ideal S128x128 .f32) (q : Vec Ideal S128x128 .bf16) (k v : Vec Ideal S2176x128 .bf16) (a : Vec Ideal S2176x128 .f32) (j : Fin 2176) (e : Fin 128) :
    dkT0 (F := Ideal) d o l q k v a (ix2 j e) = a (ix2 j e) + ∑ x : Fin 128, dw 0 (row d x) (row o x) (row l x) (row q x) (row k j) (row v j) * q (ix2 x e) := by
  unfold dw
  simp only [← dxT0_apply, ← pT0_apply, row_apply]
  unfold dkT0
  pointwise [k0_pay61, k0_pay59, k0_pay56, k0_pay57]
theorem dvT0_apply (d o l : Vec Ideal S128x128 .f32) (q : Vec Ideal S128x128 .bf16) (k v : Vec Ideal S2176x128 .bf16) (a : Vec Ideal S2176x128 .f32) (j : Fin 2176) (e : Fin 128) :
    dvT0 (F := Ideal) d o l q k v a (ix2 j e) = a (ix2 j e) + ∑ x : Fin 128, pw 0 (row l x) (row q x) (row k j) * dx 0 (row d x) (row o x) e := by
  simp only [← dxT0_apply, ← pT0_apply, row_apply]
  unfold dvT0
  pointwise [k0_pay62, k0_pay59, k0_pay56, k0_pay57]

theorem dxT1_apply (d o : Vec Ideal S128x128 .f32) (x : Fin 128) (e : Fin 128) :
    k0_pay63 (F := Ideal) (iota .tc S128x128 32 [1] iota_S128x128_d1_w32) (k0_pay52 d) (k0_pay53 o) (ix2 x e) = dx 1 (row d x) (row o x) e := by
  pointwise [k0_pay63, k0_pay52, k0_pay53]
  unfold dx dl dm row
  have hr : (e.val + 128 - 64) = e.val + 64 := by omega
  simp only [sel_lt, sel_ge _ (Fin.isLt _), sel_eq 64 (by decide), sel_eq 65 (by decide), ite_mul, zero_mul, hr, sel_ge _ (Nat.mod_lt _ (by decide))]
  rfl
theorem pT1_apply (l : Vec Ideal S128x128 .f32) (q : Vec Ideal S128x128 .bf16) (k : Vec Ideal S2176x128 .bf16) (x : Fin 128) (j : Fin 2176) :
    k0_pay66 (F := Ideal) (iota .tc S128x128 32 [1] iota_S128x128_d1_w32) (k0_pay54 l) q k (ix2 x j) = pw 1 (row l x) (row q x) (row k j) := by
  pointwise [k0_pay66, k0_pay64, k0_pay65, k0_pay54]
  unfold pw ls row
  simp only [sel_eq 1 (by decide)]
  rfl
theorem dqT1_apply (d o l : Vec Ideal S128x128 .f32) (q : Vec Ideal S128x128 .bf16) (k v : Vec Ideal S2176x128 .bf16) (x : Fin 128) (e : Fin 128) :
    dqT1 (F := Ideal) d o l q k v (ix2 x e) = (∑ j : Fin 2176, dw 1 (row d x) (row o x) (row l x) (row q x) (row k j) (row v j) * k (ix2 j e)) * cw := by
  unfold dw
  simp only [← dxT1_apply, ← pT1_apply, row_apply]
  unfold dqT1
  pointwise [k0_pay1, k0_pay67, k0_pay64, k0_pay65]
theorem dkT1_apply (d o l : Vec Ideal S128x128 .f32) (q : Vec Ideal S128x128 .bf16) (k v : Vec Ideal S2176x128 .bf16) (a : Vec Ideal S2176x128 .f32) (j : Fin 2176) (e : Fin 128) :
    dkT1 (F := Ideal) d o l q k v a (ix2 j e) = a (ix2 j e) + ∑ x : Fin 128, dw 1 (row d x) (row o x) (row l x) (row q x) (row k j) (row v j) * q (ix2 x e) := by
  unfold dw
  simp only [← dxT1_apply, ← pT1_apply, row_apply]
  unfold dkT1
  pointwise [k0_pay2, k0_pay67, k0_pay64, k0_pay65]
theorem dvT1_apply (d o l : Vec Ideal S128x128 .f32) (q : Vec Ideal S128x128 .bf16) (k v : Vec Ideal S2176x128 .bf16) (a : Vec Ideal S2176x128 .f32) (j : Fin 2176) (e : Fin 128) :
    dvT1 (F := Ideal) d o l q k v a (ix2 j e) = a (ix2 j e) + ∑ x : Fin 128, pw 1 (row l x) (row q x) (row k j) * dx 1 (row d x) (row o x) e := by
  simp only [← dxT1_apply, ← pT1_apply, row_apply]
  unfold dvT1
  pointwise [k0_pay3, k0_pay67, k0_pay64, k0_pay65]

end Cert.MlaTile
-- ==== Proof.MlaAcc.lean ====
/- What the attention gradient's body leaves in its three results: each a sum over all keys, or over all query rows. -/
module
public import proofs.«01_k».proof.Proof.MlaTile
@[expose] public section
set_option maxRecDepth 16384
noncomputable section
open Idealize.ShloMosaic Idealize.ShloMosaic.TcCoe Idealize.SL.Sem

namespace Cert.Blocks
variable {M N k n r c : Nat} {e : EltTy} {off : Fin 2 → Nat}

/-- The newest store of a block holds the place. -/
theorem canon_hit (inb : ∀ a, off a + (![k, n] : Fin 2 → Nat) a ≤ (⟨2, ![M, N]⟩ : Shape).size a) (ho : off = ![r, c])
    (w : (⟨2, ![k, n]⟩ : Shape).Idx → Elt Ideal e) (L : List (View.Piece (Elt Ideal) (⟨2, ![M, N]⟩ : Shape) e))
    (i : Fin M) (j : Fin N) (x : Fin k) (y : Fin n) (hi : i.val = r + x.val) (hj : j.val = c + y.val) :
    View.canon ((⟨Rect.unit (s := (⟨2, ![M, N]⟩ : Shape)) off ![k, n] inb, w⟩ : View.Piece (Elt Ideal) (⟨2, ![M, N]⟩ : Shape) e) :: L) (ix2 i j)
      = w (ix2 x y) := by
  subst ho
  have e1 : (ix2 i j : (⟨2, ![M, N]⟩ : Shape).Idx)
      = (Rect.unit (s := (⟨2, ![M, N]⟩ : Shape)) ![r, c] ![k, n] inb).emb (ix2 x y) := by
    funext a
    refine Fin.ext ?_
    fin_cases a
    · show i.val = r + 1 * x.val
      omega
    · show j.val = c + 1 * y.val
      omega
  rw [e1, View.canon_cons_emb]

/-- The newest store of a block does not hold the place. -/
theorem canon_miss (inb : ∀ a, off a + (![k, n] : Fin 2 → Nat) a ≤ (⟨2, ![M, N]⟩ : Shape).size a) (ho : off = ![r, c])
    (w : (⟨2, ![k, n]⟩ : Shape).Idx → Elt Ideal e) (L : List (View.Piece (Elt Ideal) (⟨2, ![M, N]⟩ : Shape) e))
    (i : Fin M) (j : Fin N) (h : i.val < r ∨ r + k ≤ i.val ∨ j.val < c ∨ c + n ≤ j.val) :
    View.canon ((⟨Rect.unit (s := (⟨2, ![M, N]⟩ : Shape)) off ![k, n] inb, w⟩ : View.Piece (Elt Ideal) (⟨2, ![M, N]⟩ : Shape) e) :: L) (ix2 i j)
      = View.canon L (ix2 i j) := by
  subst ho
  refine View.canon_cons_of_not_mem _ _ ?_
  intro hm
  have h0 := (Rect.mem_set_unit (inb := inb) |>.mp hm) 0
  have h1 := (Rect.mem_set_unit (inb := inb) |>.mp hm) 1
  have e0 : ((ix2 i j : (⟨2, ![M, N]⟩ : Shape).Idx) 0 : Nat) = i.val := rfl
  have e1 : ((ix2 i j : (⟨2, ![M, N]⟩ : Shape).Idx) 1 : Nat) = j.val := rfl
  rw [e0] at h0
  rw [e1] at h1
  simp at h0 h1
  omega

/-- A load of a block, at one place. -/
theorem emb_ix2 (inb : ∀ a, off a + (![k, n] : Fin 2 → Nat) a ≤ (⟨2, ![M, N]⟩ : Shape).size a) (ho : off = ![r, c])
    (i : Fin M) (j : Fin N) (x : Fin k) (y : Fin n) (hi : i.val = r + x.val) (hj : j.val = c + y.val) :
    (Rect.unit (s := (⟨2, ![M, N]⟩ : Shape)) off ![k, n] inb).toLoadRect.idx (ix2 x y) = ix2 i j := by
  subst ho
  funext a
  refine Fin.ext ?_
  fin_cases a
  · show r + 1 * x.val = i.val
    omega
  · show c + 1 * y.val = j.val
    omega

end Cert.Blocks

namespace Cert.MlaAcc
open Cert.MlaIdeal Cert.MlaIdeal.Gen Cert.MlaRun Cert.MlaTile

theorem off1_eq : ∀ k : Fin k0_t1_loop.trips, k0_off1 k = ![512 * k.val, 0] := by decide +kernel
theorem off2_eq : ∀ k : Fin k0_t1_loop.trips, k0_off2 k = ![512 * k.val, 0] := by decide +kernel
theorem off3_eq : ∀ k : Fin k0_t1_loop.trips, k0_off3 k = ![512 * k.val, 128] := by decide +kernel
theorem off4_eq : ∀ k : Fin k0_t1_loop.trips, k0_off4 k = ![512 * k.val + 256, 0] := by decide +kernel
theorem off5_eq : ∀ k : Fin k0_t1_loop.trips, k0_off5 k = ![512 * k.val + 256, 0] := by decide +kernel
theorem off6_eq : ∀ k : Fin k0_t1_loop.trips, k0_off6 k = ![512 * k.val + 256, 128] := by decide +kernel
theorem trips_four : k0_t1_loop.trips = 4 := by decide +kernel

/-! ## The operands' rows -/

variable (B : Bufs Ideal)

/-- A column of head `h`'s half. -/
def col (h : Fin 2) (e : Fin 128) : Fin 256 := ⟨128 * h.val + e.val, by omega⟩
def rD (r : Fin 2176) (e : Fin 128) : EReal := B.a6.view.read (Elt Ideal) B.X6 (ix2 r e)
def rO (r : Fin 2176) (e : Fin 128) : EReal := B.a5.view.read (Elt Ideal) B.X5 (ix2 r e)
def rL (r : Fin 2176) (e : Fin 128) : EReal := B.a7.view.read (Elt Ideal) B.X7 (ix2 r e)
def rQ (h : Fin 2) (r : Fin 2176) (e : Fin 128) : EReal := B.a2.view.read (Elt Ideal) B.X2 (ix2 r (col h e))
def rK (h : Fin 2) (r : Fin 2176) (e : Fin 128) : EReal := B.a3.view.read (Elt Ideal) B.X3 (ix2 r (col h e))
def rV (h : Fin 2) (r : Fin 2176) (e : Fin 128) : EReal := B.a4.view.read (Elt Ideal) B.X4 (ix2 r (col h e))
/-- A query row's weight at a key, and the weight's gradient. -/
def wt (h : Fin 2) (r j : Fin 2176) : EReal := pw h (rL B r) (rQ B h r) (rK B h j)
def dwt (h : Fin 2) (r j : Fin 2176) : EReal := dw h (rD B r) (rO B r) (rL B r) (rQ B h r) (rK B h j) (rV B h j)
/-- What a query row adds to a key's and to a value's gradient. -/
def ck (h : Fin 2) (j : Fin 2176) (e : Fin 128) (r : ℕ) : EReal := if hr : r < 2176 then dwt B h ⟨r, hr⟩ j * rQ B h ⟨r, hr⟩ e else 0
def cv (h : Fin 2) (j : Fin 2176) (e : Fin 128) (r : ℕ) : EReal := if hr : r < 2176 then wt B h ⟨r, hr⟩ j * dx h (rD B ⟨r, hr⟩) (rO B ⟨r, hr⟩) e else 0

/-! ## The loaded tiles' rows -/
theorem row_dA (k : Fin k0_t1_loop.trips) (x : Fin 256) (hx : 512 * k.val + x.val < 2176) : row (dA B k) x = rD B ⟨512 * k.val + x.val, hx⟩ := by
  funext e
  refine congrArg (B.a6.view.read (Elt Ideal) B.X6) ?_
  exact Blocks.emb_ix2 (r := 512 * k.val) (c := 0) _ (off1_eq k) _ _ _ _ rfl (by simp)
theorem row_oA (k : Fin k0_t1_loop.trips) (x : Fin 256) (hx : 512 * k.val + x.val < 2176) : row (oA B k) x = rO B ⟨512 * k.val + x.val, hx⟩ := by
  funext e
  refine congrArg (B.a5.view.read (Elt Ideal) B.X5) ?_
  exact Blocks.emb_ix2 (r := 512 * k.val) (c := 0) _ (off1_eq k) _ _ _ _ rfl (by simp)
theorem row_lA (k : Fin k0_t1_loop.trips) (x : Fin 256) (hx : 512 * k.val + x.val < 2176) : row (lA B k) x = rL B ⟨512 * k.val + x.val, hx⟩ := by
  funext e
  refine congrArg (B.a7.view.read (Elt Ideal) B.X7) ?_
  exact Blocks.emb_ix2 (r := 512 * k.val) (c := 0) _ (off1_eq k) _ _ _ _ rfl (by simp)
theorem row_qA0 (k : Fin k0_t1_loop.trips) (x : Fin 256) (hx : 512 * k.val + x.val < 2176) : row (qA0 B k) x = rQ B 0 ⟨512 * k.val + x.val, hx⟩ := by
  funext e
  refine congrArg (B.a2.view.read (Elt Ideal) B.X2) ?_
  exact Blocks.emb_ix2 (r := 512 * k.val) (c := 0) _ (off2_eq k) _ _ _ _ rfl (by simp [col])
theorem row_qA1 (k : Fin k0_t1_loop.trips) (x : Fin 256) (hx : 512 * k.val + x.val < 2176) : row (qA1 B k) x = rQ B 1 ⟨512 * k.val + x.val, hx⟩ := by
  funext e
  refine congrArg (B.a2.view.read (Elt Ideal) B.X2) ?_
  exact Blocks.emb_ix2 (r := 512 * k.val) (c := 128) _ (off3_eq k) _ _ _ _ rfl (by simp [col])
theorem row_dB (k : Fin k0_t1_loop.trips) (x : Fin 256) (hx : 512 * k.val + 256 + x.val < 2176) : row (dB B k) x = rD B ⟨512 * k.val + 256 + x.val, hx⟩ := by
  funext e
  refine congrArg (B.a6.view.read (Elt Ideal) B.X6) ?_
  exact Blocks.emb_ix2 (r := 512 * k.val + 256) (c := 0) _ (off4_eq k) _ _ _ _ rfl (by simp)
theorem row_oB (k : Fin k0_t1_loop.trips) (x : Fin 256) (hx : 512 * k.val + 256 + x.val < 2176) : row (oB B k) x = rO B ⟨512 * k.val + 256 + x.val, hx⟩ := by
  funext e
  refine congrArg (B.a5.view.read (Elt Ideal) B.X5) ?_
  exact Blocks.emb_ix2 (r := 512 * k.val + 256) (c := 0) _ (off4_eq k) _ _ _ _ rfl (by simp)
theorem row_lB (k : Fin k0_t1_loop.trips) (x : Fin 256) (hx : 512 * k.val + 256 + x.val < 2176) : row (lB B k) x = rL B ⟨512 * k.val + 256 + x.val, hx⟩ := by
  funext e
  refine congrArg (B.a7.view.read (Elt Ideal) B.X7) ?_
  exact Blocks.emb_ix2 (r := 512 * k.val + 256) (c := 0) _ (off4_eq k) _ _ _ _ rfl (by simp)
theorem row_qB0 (k : Fin k0_t1_loop.trips) (x : Fin 256) (hx : 512 * k.val + 256 + x.val < 2176) : row (qB0 B k) x = rQ B 0 ⟨512 * k.val + 256 + x.val, hx⟩ := by
  funext e
  refine congrArg (B.a2.view.read (Elt Ideal) B.X2) ?_
  exact Blocks.emb_ix2 (r := 512 * k.val + 256) (c := 0) _ (off5_eq k) _ _ _ _ rfl (by simp [col])
theorem row_qB1 (k : Fin k0_t1_loop.trips) (x : Fin 256) (hx : 512 * k.val + 256 + x.val < 2176) : row (qB1 B k) x = rQ B 1 ⟨512 * k.val + 256 + x.val, hx⟩ := by
  funext e
  refine congrArg (B.a2.view.read (Elt Ideal) B.X2) ?_
  exact Blocks.emb_ix2 (r := 512 * k.val + 256) (c := 128) _ (off6_eq k) _ _ _ _ rfl (by simp [col])
theorem row_dT (x : Fin 128) (hx : 2048 + x.val < 2176) : row (dT B) x = rD B ⟨2048 + x.val, hx⟩ := by
  funext e
  refine congrArg (B.a6.view.read (Elt Ideal) B.X6) ?_
  exact Blocks.emb_ix2 (r := 2048) (c := 0) _ (rfl) _ _ _ _ rfl (by simp)
theorem row_oT (x : Fin 128) (hx : 2048 + x.val < 2176) : row (oT B) x = rO B ⟨2048 + x.val, hx⟩ := by
  funext e
  refine congrArg (B.a5.view.read (Elt Ideal) B.X5) ?_
  exact Blocks.emb_ix2 (r := 2048) (c := 0) _ (rfl) _ _ _ _ rfl (by simp)
theorem row_lT (x : Fin 128) (hx : 2048 + x.val < 2176) : row (lT B) x = rL B ⟨2048 + x.val, hx⟩ := by
  funext e
  refine congrArg (B.a7.view.read (Elt Ideal) B.X7) ?_
  exact Blocks.emb_ix2 (r := 2048) (c := 0) _ (rfl) _ _ _ _ rfl (by simp)
theorem row_qT0 (x : Fin 128) (hx : 2048 + x.val < 2176) : row (qT0 B) x = rQ B 0 ⟨2048 + x.val, hx⟩ := by
  funext e
  refine congrArg (B.a2.view.read (Elt Ideal) B.X2) ?_
  exact Blocks.emb_ix2 (r := 2048) (c := 0) _ (rfl) _ _ _ _ rfl (by simp [col])
theorem row_qT1 (x : Fin 128) (hx : 2048 + x.val < 2176) : row (qT1 B) x = rQ B 1 ⟨2048 + x.val, hx⟩ := by
  funext e
  refine congrArg (B.a2.view.read (Elt Ideal) B.X2) ?_
  exact Blocks.emb_ix2 (r := 2048) (c := 128) _ (rfl) _ _ _ _ rfl (by simp [col])
theorem row_k0 (x : Fin 2176) : row (MlaRun.k0 B) x = rK B 0 x := by
  funext e
  refine congrArg (B.a3.view.read (Elt Ideal) B.X3) ?_
  exact Blocks.emb_ix2 (r := 0) (c := 0) _ (rfl) _ _ _ _ (by simp) (by simp [col])
theorem row_v0 (x : Fin 2176) : row (MlaRun.v0 B) x = rV B 0 x := by
  funext e
  refine congrArg (B.a4.view.read (Elt Ideal) B.X4) ?_
  exact Blocks.emb_ix2 (r := 0) (c := 0) _ (rfl) _ _ _ _ (by simp) (by simp [col])
theorem row_k1 (x : Fin 2176) : row (MlaRun.k1 B) x = rK B 1 x := by
  funext e
  refine congrArg (B.a3.view.read (Elt Ideal) B.X3) ?_
  exact Blocks.emb_ix2 (r := 0) (c := 128) _ (rfl) _ _ _ _ (by simp) (by simp [col])
theorem row_v1 (x : Fin 2176) : row (MlaRun.v1 B) x = rV B 1 x := by
  funext e
  refine congrArg (B.a4.view.read (Elt Ideal) B.X4) ?_
  exact Blocks.emb_ix2 (r := 0) (c := 128) _ (rfl) _ _ _ _ (by simp) (by simp [col])

/-! ## What a tile adds -/
theorem ck_A0 (k : Fin k0_t1_loop.trips) (a : Vec Ideal S2176x128 .f32) (j : Fin 2176) (e : Fin 128) :
    dk0 (F := Ideal) (dA B k) (oA B k) (lA B k) (qA0 B k) (MlaRun.k0 B) (MlaRun.v0 B) a (ix2 j e) = a (ix2 j e) + ∑ x ∈ Finset.range 256, ck B 0 j e (512 * k.val + x) := by
  have hk : k.val < 4 := trips_four ▸ k.isLt
  rw [dk0_apply, ← Fin.sum_univ_eq_sum_range (fun x => ck B 0 j e (512 * k.val + x)) 256]
  refine congrArg _ (Finset.sum_congr rfl fun x _ => ?_)
  have hx : 512 * k.val + x.val < 2176 := by omega
  unfold ck
  rw [dif_pos hx]
  refine congrArg₂ (· * ·) ?_ ?_
  · unfold dwt
    rw [row_dA B k x hx, row_oA B k x hx, row_lA B k x hx, row_qA0 B k x hx, row_k0 B j, row_v0 B j]
    rfl
  · rw [← row_apply (qA0 B k), row_qA0 B k x hx]
theorem cv_A0 (k : Fin k0_t1_loop.trips) (a : Vec Ideal S2176x128 .f32) (j : Fin 2176) (e : Fin 128) :
    dv0 (F := Ideal) (dA B k) (oA B k) (lA B k) (qA0 B k) (MlaRun.k0 B) (MlaRun.v0 B) a (ix2 j e) = a (ix2 j e) + ∑ x ∈ Finset.range 256, cv B 0 j e (512 * k.val + x) := by
  have hk : k.val < 4 := trips_four ▸ k.isLt
  rw [dv0_apply, ← Fin.sum_univ_eq_sum_range (fun x => cv B 0 j e (512 * k.val + x)) 256]
  refine congrArg _ (Finset.sum_congr rfl fun x _ => ?_)
  have hx : 512 * k.val + x.val < 2176 := by omega
  unfold cv
  rw [dif_pos hx]
  unfold wt
  rw [row_dA B k x hx, row_oA B k x hx, row_lA B k x hx, row_qA0 B k x hx, row_k0 B j]
  rfl
theorem q_A0 (k : Fin k0_t1_loop.trips) (x : Fin 256) (e : Fin 128) (hx : 512 * k.val + x.val < 2176) :
    dq0 (F := Ideal) (dA B k) (oA B k) (lA B k) (qA0 B k) (MlaRun.k0 B) (MlaRun.v0 B) (ix2 x e) = (∑ j : Fin 2176, dwt B 0 ⟨512 * k.val + x.val, hx⟩ j * rK B 0 j e) * cw := by
  rw [dq0_apply]
  refine congrArg (· * cw) (Finset.sum_congr rfl fun j _ => congrArg₂ (· * ·) ?_ ?_)
  · unfold dwt
    rw [row_dA B k x hx, row_oA B k x hx, row_lA B k x hx, row_qA0 B k x hx, row_k0 B j, row_v0 B j]
    rfl
  · rw [← row_apply (MlaRun.k0 B), row_k0 B j]
theorem ck_A1 (k : Fin k0_t1_loop.trips) (a : Vec Ideal S2176x128 .f32) (j : Fin 2176) (e : Fin 128) :
    dk1 (F := Ideal) (dA B k) (oA B k) (lA B k) (qA1 B k) (MlaRun.k1 B) (MlaRun.v1 B) a (ix2 j e) = a (ix2 j e) + ∑ x ∈ Finset.range 256, ck B 1 j e (512 * k.val + x) := by
  have hk : k.val < 4 := trips_four ▸ k.isLt
  rw [dk1_apply, ← Fin.sum_univ_eq_sum_range (fun x => ck B 1 j e (512 * k.val + x)) 256]
  refine congrArg _ (Finset.sum_congr rfl fun x _ => ?_)
  have hx : 512 * k.val + x.val < 2176 := by omega
  unfold ck
  rw [dif_pos hx]
  refine congrArg₂ (· * ·) ?_ ?_
  · unfold dwt
    rw [row_dA B k x hx, row_oA B k x hx, row_lA B k x hx, row_qA1 B k x hx, row_k1 B j, row_v1 B j]
    rfl
  · rw [← row_apply (qA1 B k), row_qA1 B k x hx]
theorem cv_A1 (k : Fin k0_t1_loop.trips) (a : Vec Ideal S2176x128 .f32) (j : Fin 2176) (e : Fin 128) :
    dv1 (F := Ideal) (dA B k) (oA B k) (lA B k) (qA1 B k) (MlaRun.k1 B) (MlaRun.v1 B) a (ix2 j e) = a (ix2 j e) + ∑ x ∈ Finset.range 256, cv B 1 j e (512 * k.val + x) := by
  have hk : k.val < 4 := trips_four ▸ k.isLt
  rw [dv1_apply, ← Fin.sum_univ_eq_sum_range (fun x => cv B 1 j e (512 * k.val + x)) 256]
  refine congrArg _ (Finset.sum_congr rfl fun x _ => ?_)
  have hx : 512 * k.val + x.val < 2176 := by omega
  unfold cv
  rw [dif_pos hx]
  unfold wt
  rw [row_dA B k x hx, row_oA B k x hx, row_lA B k x hx, row_qA1 B k x hx, row_k1 B j]
  rfl
theorem q_A1 (k : Fin k0_t1_loop.trips) (x : Fin 256) (e : Fin 128) (hx : 512 * k.val + x.val < 2176) :
    dq1 (F := Ideal) (dA B k) (oA B k) (lA B k) (qA1 B k) (MlaRun.k1 B) (MlaRun.v1 B) (ix2 x e) = (∑ j : Fin 2176, dwt B 1 ⟨512 * k.val + x.val, hx⟩ j * rK B 1 j e) * cw := by
  rw [dq1_apply]
  refine congrArg (· * cw) (Finset.sum_congr rfl fun j _ => congrArg₂ (· * ·) ?_ ?_)
  · unfold dwt
    rw [row_dA B k x hx, row_oA B k x hx, row_lA B k x hx, row_qA1 B k x hx, row_k1 B j, row_v1 B j]
    rfl
  · rw [← row_apply (MlaRun.k1 B), row_k1 B j]
theorem ck_B0 (k : Fin k0_t1_loop.trips) (a : Vec Ideal S2176x128 .f32) (j : Fin 2176) (e : Fin 128) :
    dk0 (F := Ideal) (dB B k) (oB B k) (lB B k) (qB0 B k) (MlaRun.k0 B) (MlaRun.v0 B) a (ix2 j e) = a (ix2 j e) + ∑ x ∈ Finset.range 256, ck B 0 j e (512 * k.val + 256 + x) := by
  have hk : k.val < 4 := trips_four ▸ k.isLt
  rw [dk0_apply, ← Fin.sum_univ_eq_sum_range (fun x => ck B 0 j e (512 * k.val + 256 + x)) 256]
  refine congrArg _ (Finset.sum_congr rfl fun x _ => ?_)
  have hx : 512 * k.val + 256 + x.val < 2176 := by omega
  unfold ck
  rw [dif_pos hx]
  refine congrArg₂ (· * ·) ?_ ?_
  · unfold dwt
    rw [row_dB B k x hx, row_oB B k x hx, row_lB B k x hx, row_qB0 B k x hx, row_k0 B j, row_v0 B j]
    rfl
  · rw [← row_apply (qB0 B k), row_qB0 B k x hx]
theorem cv_B0 (k : Fin k0_t1_loop.trips) (a : Vec Ideal S2176x128 .f32) (j : Fin 2176) (e : Fin 128) :
    dv0 (F := Ideal) (dB B k) (oB B k) (lB B k) (qB0 B k) (MlaRun.k0 B) (MlaRun.v0 B) a (ix2 j e) = a (ix2 j e) + ∑ x ∈ Finset.range 256, cv B 0 j e (512 * k.val + 256 + x) := by
  have hk : k.val < 4 := trips_four ▸ k.isLt
  rw [dv0_apply, ← Fin.sum_univ_eq_sum_range (fun x => cv B 0 j e (512 * k.val + 256 + x)) 256]
  refine congrArg _ (Finset.sum_congr rfl fun x _ => ?_)
  have hx : 512 * k.val + 256 + x.val < 2176 := by omega
  unfold cv
  rw [dif_pos hx]
  unfold wt
  rw [row_dB B k x hx, row_oB B k x hx, row_lB B k x hx, row_qB0 B k x hx, row_k0 B j]
  rfl
theorem q_B0 (k : Fin k0_t1_loop.trips) (x : Fin 256) (e : Fin 128) (hx : 512 * k.val + 256 + x.val < 2176) :
    dq0 (F := Ideal) (dB B k) (oB B k) (lB B k) (qB0 B k) (MlaRun.k0 B) (MlaRun.v0 B) (ix2 x e) = (∑ j : Fin 2176, dwt B 0 ⟨512 * k.val + 256 + x.val, hx⟩ j * rK B 0 j e) * cw := by
  rw [dq0_apply]
  refine congrArg (· * cw) (Finset.sum_congr rfl fun j _ => congrArg₂ (· * ·) ?_ ?_)
  · unfold dwt
    rw [row_dB B k x hx, row_oB B k x hx, row_lB B k x hx, row_qB0 B k x hx, row_k0 B j, row_v0 B j]
    rfl
  · rw [← row_apply (MlaRun.k0 B), row_k0 B j]
theorem ck_B1 (k : Fin k0_t1_loop.trips) (a : Vec Ideal S2176x128 .f32) (j : Fin 2176) (e : Fin 128) :
    dk1 (F := Ideal) (dB B k) (oB B k) (lB B k) (qB1 B k) (MlaRun.k1 B) (MlaRun.v1 B) a (ix2 j e) = a (ix2 j e) + ∑ x ∈ Finset.range 256, ck B 1 j e (512 * k.val + 256 + x) := by
  have hk : k.val < 4 := trips_four ▸ k.isLt
  rw [dk1_apply, ← Fin.sum_univ_eq_sum_range (fun x => ck B 1 j e (512 * k.val + 256 + x)) 256]
  refine congrArg _ (Finset.sum_congr rfl fun x _ => ?_)
  have hx : 512 * k.val + 256 + x.val < 2176 := by omega
  unfold ck
  rw [dif_pos hx]
  refine congrArg₂ (· * ·) ?_ ?_
  · unfold dwt
    rw [row_dB B k x hx, row_oB B k x hx, row_lB B k x hx, row_qB1 B k x hx, row_k1 B j, row_v1 B j]
    rfl
  · rw [← row_apply (qB1 B k), row_qB1 B k x hx]
theorem cv_B1 (k : Fin k0_t1_loop.trips) (a : Vec Ideal S2176x128 .f32) (j : Fin 2176) (e : Fin 128) :
    dv1 (F := Ideal) (dB B k) (oB B k) (lB B k) (qB1 B k) (MlaRun.k1 B) (MlaRun.v1 B) a (ix2 j e) = a (ix2 j e) + ∑ x ∈ Finset.range 256, cv B 1 j e (512 * k.val + 256 + x) := by
  have hk : k.val < 4 := trips_four ▸ k.isLt
  rw [dv1_apply, ← Fin.sum_univ_eq_sum_range (fun x => cv B 1 j e (512 * k.val + 256 + x)) 256]
  refine congrArg _ (Finset.sum_congr rfl fun x _ => ?_)
  have hx : 512 * k.val + 256 + x.val < 2176 := by omega
  unfold cv
  rw [dif_pos hx]
  unfold wt
  rw [row_dB B k x hx, row_oB B k x hx, row_lB B k x hx, row_qB1 B k x hx, row_k1 B j]
  rfl
theorem q_B1 (k : Fin k0_t1_loop.trips) (x : Fin 256) (e : Fin 128) (hx : 512 * k.val + 256 + x.val < 2176) :
    dq1 (F := Ideal) (dB B k) (oB B k) (lB B k) (qB1 B k) (MlaRun.k1 B) (MlaRun.v1 B) (ix2 x e) = (∑ j : Fin 2176, dwt B 1 ⟨512 * k.val + 256 + x.val, hx⟩ j * rK B 1 j e) * cw := by
  rw [dq1_apply]
  refine congrArg (· * cw) (Finset.sum_congr rfl fun j _ => congrArg₂ (· * ·) ?_ ?_)
  · unfold dwt
    rw [row_dB B k x hx, row_oB B k x hx, row_lB B k x hx, row_qB1 B k x hx, row_k1 B j, row_v1 B j]
    rfl
  · rw [← row_apply (MlaRun.k1 B), row_k1 B j]
theorem ck_T0 (a : Vec Ideal S2176x128 .f32) (j : Fin 2176) (e : Fin 128) :
    dkT0 (F := Ideal) (dT B) (oT B) (lT B) (qT0 B) (MlaRun.k0 B) (MlaRun.v0 B) a (ix2 j e) = a (ix2 j e) + ∑ x ∈ Finset.range 128, ck B 0 j e (2048 + x) := by
  rw [dkT0_apply, ← Fin.sum_univ_eq_sum_range (fun x => ck B 0 j e (2048 + x)) 128]
  refine congrArg _ (Finset.sum_congr rfl fun x _ => ?_)
  have hx : 2048 + x.val < 2176 := by omega
  unfold ck
  rw [dif_pos hx]
  refine congrArg₂ (· * ·) ?_ ?_
  · unfold dwt
    rw [row_dT B x hx, row_oT B x hx, row_lT B x hx, row_qT0 B x hx, row_k0 B j, row_v0 B j]
    rfl
  · rw [← row_apply (qT0 B), row_qT0 B x hx]
theorem cv_T0 (a : Vec Ideal S2176x128 .f32) (j : Fin 2176) (e : Fin 128) :
    dvT0 (F := Ideal) (dT B) (oT B) (lT B) (qT0 B) (MlaRun.k0 B) (MlaRun.v0 B) a (ix2 j e) = a (ix2 j e) + ∑ x ∈ Finset.range 128, cv B 0 j e (2048 + x) := by
  rw [dvT0_apply, ← Fin.sum_univ_eq_sum_range (fun x => cv B 0 j e (2048 + x)) 128]
  refine congrArg _ (Finset.sum_congr rfl fun x _ => ?_)
  have hx : 2048 + x.val < 2176 := by omega
  unfold cv
  rw [dif_pos hx]
  unfold wt
  rw [row_dT B x hx, row_oT B x hx, row_lT B x hx, row_qT0 B x hx, row_k0 B j]
  rfl
theorem q_T0 (x : Fin 128) (e : Fin 128) (hx : 2048 + x.val < 2176) :
    dqT0 (F := Ideal) (dT B) (oT B) (lT B) (qT0 B) (MlaRun.k0 B) (MlaRun.v0 B) (ix2 x e) = (∑ j : Fin 2176, dwt B 0 ⟨2048 + x.val, hx⟩ j * rK B 0 j e) * cw := by
  rw [dqT0_apply]
  refine congrArg (· * cw) (Finset.sum_congr rfl fun j _ => congrArg₂ (· * ·) ?_ ?_)
  · unfold dwt
    rw [row_dT B x hx, row_oT B x hx, row_lT B x hx, row_qT0 B x hx, row_k0 B j, row_v0 B j]
    rfl
  · rw [← row_apply (MlaRun.k0 B), row_k0 B j]
theorem ck_T1 (a : Vec Ideal S2176x128 .f32) (j : Fin 2176) (e : Fin 128) :
    dkT1 (F := Ideal) (dT B) (oT B) (lT B) (qT1 B) (MlaRun.k1 B) (MlaRun.v1 B) a (ix2 j e) = a (ix2 j e) + ∑ x ∈ Finset.range 128, ck B 1 j e (2048 + x) := by
  rw [dkT1_apply, ← Fin.sum_univ_eq_sum_range (fun x => ck B 1 j e (2048 + x)) 128]
  refine congrArg _ (Finset.sum_congr rfl fun x _ => ?_)
  have hx : 2048 + x.val < 2176 := by omega
  unfold ck
  rw [dif_pos hx]
  refine congrArg₂ (· * ·) ?_ ?_
  · unfold dwt
    rw [row_dT B x hx, row_oT B x hx, row_lT B x hx, row_qT1 B x hx, row_k1 B j, row_v1 B j]
    rfl
  · rw [← row_apply (qT1 B), row_qT1 B x hx]
theorem cv_T1 (a : Vec Ideal S2176x128 .f32) (j : Fin 2176) (e : Fin 128) :
    dvT1 (F := Ideal) (dT B) (oT B) (lT B) (qT1 B) (MlaRun.k1 B) (MlaRun.v1 B) a (ix2 j e) = a (ix2 j e) + ∑ x ∈ Finset.range 128, cv B 1 j e (2048 + x) := by
  rw [dvT1_apply, ← Fin.sum_univ_eq_sum_range (fun x => cv B 1 j e (2048 + x)) 128]
  refine congrArg _ (Finset.sum_congr rfl fun x _ => ?_)
  have hx : 2048 + x.val < 2176 := by omega
  unfold cv
  rw [dif_pos hx]
  unfold wt
  rw [row_dT B x hx, row_oT B x hx, row_lT B x hx, row_qT1 B x hx, row_k1 B j]
  rfl
theorem q_T1 (x : Fin 128) (e : Fin 128) (hx : 2048 + x.val < 2176) :
    dqT1 (F := Ideal) (dT B) (oT B) (lT B) (qT1 B) (MlaRun.k1 B) (MlaRun.v1 B) (ix2 x e) = (∑ j : Fin 2176, dwt B 1 ⟨2048 + x.val, hx⟩ j * rK B 1 j e) * cw := by
  rw [dqT1_apply]
  refine congrArg (· * cw) (Finset.sum_congr rfl fun j _ => congrArg₂ (· * ·) ?_ ?_)
  · unfold dwt
    rw [row_dT B x hx, row_oT B x hx, row_lT B x hx, row_qT1 B x hx, row_k1 B j, row_v1 B j]
    rfl
  · rw [← row_apply (MlaRun.k1 B), row_k1 B j]

/-! ## The sums -/
theorem two : ∀ h : Fin 2, h = 0 ∨ h = 1 := by decide

theorem dk_read (n : ℕ) (j : Fin 2176) (h : Fin 2) (e : Fin 128) (off : Fin 2 → ℕ) (inb) (ho : off = ![0, 128 * h.val]) :
    B.a10.view.readAt (Elt Ideal) (Rect.unit (s := S2176x256) off S2176x128.size inb).toLoadRect (B.a10.view.writes (Elt Ideal) (B.a10.view.writes (Elt Ideal) B.a10.view.junk dkZero) (dkList B n)) (ix2 j e)
      = View.canon (dkList B n ++ dkZero) (ix2 j (col h e)) := by
  rw [← View.writes_append, View.readAt_writes_junk_eq_canon]
  exact congrArg (View.canon _) (Blocks.emb_ix2 inb ho _ _ _ _ (by simp) (by simp [col]))
theorem dk_cov (L : List (View.Piece (Elt Ideal) S2176x256 .f32)) (j : Fin 2176) (h : Fin 2) (e : Fin 128) (off : Fin 2 → ℕ) (inb) (ho : off = ![0, 128 * h.val]) :
    B.a10.view.readCov L (Rect.unit (s := S2176x256) off S2176x128.size inb).toLoadRect (ix2 j e) = View.canon L (ix2 j (col h e)) := by
  rw [View.readCov_eq_canon']
  exact congrArg (View.canon _) (Blocks.emb_ix2 inb ho _ _ _ _ (by simp) (by simp [col]))
theorem dk_sum (n : ℕ) (hn : n ≤ 4) (j : Fin 2176) (h : Fin 2) (e : Fin 128) :
    View.canon (dkList B n ++ dkZero) (ix2 j (col h e)) = ∑ r ∈ Finset.range (512 * n), ck B h j e r := by
  induction n with
  | zero =>
    unfold dkList dkZero
    rw [List.nil_append]
    refine (Blocks.canon_hit (r := 0) (c := 0) _ rfl _ _ _ _ j (col h e) (by simp) (by simp)).trans ?_
    pointwise [k0_pay47]
    simp
  | succ n ih =>
    have ht : n < k0_t1_loop.trips := trips_four ▸ hn
    unfold dkList
    rw [dif_pos ht, show 512 * (n + 1) = 512 * n + 256 + 256 from by ring, Finset.sum_range_add, Finset.sum_range_add, ← ih (by omega)]
    unfold dkTrip dkMid dkHalf
    simp only [List.cons_append, List.nil_append, List.append_assoc]
    obtain rfl | rfl := two h
    · refine (Blocks.canon_miss (r := 0) (c := 128) _ rfl _ _ _ _ (by simp [col])).trans ?_
      refine (Blocks.canon_hit (r := 0) (c := 0) _ rfl _ _ _ _ j e (by simp) (by simp [col])).trans ?_
      rw [ck_B0 B ⟨n, ht⟩]
      refine congrArg (· + _) ?_
      refine (dk_cov B _ j 0 e _ _ rfl).trans ?_
      refine (Blocks.canon_miss (r := 0) (c := 128) _ rfl _ _ _ _ (by simp [col])).trans ?_
      refine (Blocks.canon_hit (r := 0) (c := 0) _ rfl _ _ _ _ j e (by simp) (by simp [col])).trans ?_
      rw [ck_A0 B ⟨n, ht⟩]
      refine congrArg (· + _) ?_
      exact dk_read B n j 0 e _ _ rfl
    · refine (Blocks.canon_hit (r := 0) (c := 128) _ rfl _ _ _ _ j e (by simp) (by simp [col])).trans ?_
      rw [ck_B1 B ⟨n, ht⟩]
      refine congrArg (· + _) ?_
      refine (dk_cov B _ j 1 e _ _ rfl).trans ?_
      refine (Blocks.canon_miss (r := 0) (c := 0) _ rfl _ _ _ _ (by simp [col])).trans ?_
      refine (Blocks.canon_hit (r := 0) (c := 128) _ rfl _ _ _ _ j e (by simp) (by simp [col])).trans ?_
      rw [ck_A1 B ⟨n, ht⟩]
      refine congrArg (· + _) ?_
      exact dk_read B n j 1 e _ _ rfl

theorem dkSum_sum (j : Fin 2176) (h : Fin 2) (e : Fin 128) :
    View.canon (dkSum B) (ix2 j (col h e)) = ∑ r ∈ Finset.range 2176, ck B h j e r := by
  rw [show Finset.range 2176 = Finset.range (512 * 4 + 128) from rfl, Finset.sum_range_add, ← dk_sum B 4 le_rfl]
  unfold dkSum dkMost
  obtain rfl | rfl := two h
  · refine (Blocks.canon_miss (r := 0) (c := 128) _ rfl _ _ _ _ (by simp [col])).trans ?_
    refine (Blocks.canon_hit (r := 0) (c := 0) _ rfl _ _ _ _ j e (by simp) (by simp [col])).trans ?_
    rw [ck_T0 B]
    refine congrArg (· + _) ?_
    exact dk_cov B _ j 0 e _ _ rfl
  · refine (Blocks.canon_hit (r := 0) (c := 128) _ rfl _ _ _ _ j e (by simp) (by simp [col])).trans ?_
    rw [ck_T1 B]
    refine congrArg (· + _) ?_
    refine (dk_cov B _ j 1 e _ _ rfl).trans ?_
    exact (Blocks.canon_miss (r := 0) (c := 0) _ rfl _ _ _ _ (by simp [col]))

theorem dv_read (n : ℕ) (j : Fin 2176) (h : Fin 2) (e : Fin 128) (off : Fin 2 → ℕ) (inb) (ho : off = ![0, 128 * h.val]) :
    B.a11.view.readAt (Elt Ideal) (Rect.unit (s := S2176x256) off S2176x128.size inb).toLoadRect (B.a11.view.writes (Elt Ideal) (B.a11.view.writes (Elt Ideal) B.a11.view.junk dvZero) (dvList B n)) (ix2 j e)
      = View.canon (dvList B n ++ dvZero) (ix2 j (col h e)) := by
  rw [← View.writes_append, View.readAt_writes_junk_eq_canon]
  exact congrArg (View.canon _) (Blocks.emb_ix2 inb ho _ _ _ _ (by simp) (by simp [col]))
theorem dv_cov (L : List (View.Piece (Elt Ideal) S2176x256 .f32)) (j : Fin 2176) (h : Fin 2) (e : Fin 128) (off : Fin 2 → ℕ) (inb) (ho : off = ![0, 128 * h.val]) :
    B.a11.view.readCov L (Rect.unit (s := S2176x256) off S2176x128.size inb).toLoadRect (ix2 j e) = View.canon L (ix2 j (col h e)) := by
  rw [View.readCov_eq_canon']
  exact congrArg (View.canon _) (Blocks.emb_ix2 inb ho _ _ _ _ (by simp) (by simp [col]))
theorem dv_sum (n : ℕ) (hn : n ≤ 4) (j : Fin 2176) (h : Fin 2) (e : Fin 128) :
    View.canon (dvList B n ++ dvZero) (ix2 j (col h e)) = ∑ r ∈ Finset.range (512 * n), cv B h j e r := by
  induction n with
  | zero =>
    unfold dvList dvZero
    rw [List.nil_append]
    refine (Blocks.canon_hit (r := 0) (c := 0) _ rfl _ _ _ _ j (col h e) (by simp) (by simp)).trans ?_
    pointwise [k0_pay48]
    simp
  | succ n ih =>
    have ht : n < k0_t1_loop.trips := trips_four ▸ hn
    unfold dvList
    rw [dif_pos ht, show 512 * (n + 1) = 512 * n + 256 + 256 from by ring, Finset.sum_range_add, Finset.sum_range_add, ← ih (by omega)]
    unfold dvTrip dvMid dvHalf
    simp only [List.cons_append, List.nil_append, List.append_assoc]
    obtain rfl | rfl := two h
    · refine (Blocks.canon_miss (r := 0) (c := 128) _ rfl _ _ _ _ (by simp [col])).trans ?_
      refine (Blocks.canon_hit (r := 0) (c := 0) _ rfl _ _ _ _ j e (by simp) (by simp [col])).trans ?_
      rw [cv_B0 B ⟨n, ht⟩]
      refine congrArg (· + _) ?_
      refine (dv_cov B _ j 0 e _ _ rfl).trans ?_
      refine (Blocks.canon_miss (r := 0) (c := 128) _ rfl _ _ _ _ (by simp [col])).trans ?_
      refine (Blocks.canon_hit (r := 0) (c := 0) _ rfl _ _ _ _ j e (by simp) (by simp [col])).trans ?_
      rw [cv_A0 B ⟨n, ht⟩]
      refine congrArg (· + _) ?_
      exact dv_read B n j 0 e _ _ rfl
    · refine (Blocks.canon_hit (r := 0) (c := 128) _ rfl _ _ _ _ j e (by simp) (by simp [col])).trans ?_
      rw [cv_B1 B ⟨n, ht⟩]
      refine congrArg (· + _) ?_
      refine (dv_cov B _ j 1 e _ _ rfl).trans ?_
      refine (Blocks.canon_miss (r := 0) (c := 0) _ rfl _ _ _ _ (by simp [col])).trans ?_
      refine (Blocks.canon_hit (r := 0) (c := 128) _ rfl _ _ _ _ j e (by simp) (by simp [col])).trans ?_
      rw [cv_A1 B ⟨n, ht⟩]
      refine congrArg (· + _) ?_
      exact dv_read B n j 1 e _ _ rfl

theorem dvAll_sum (j : Fin 2176) (h : Fin 2) (e : Fin 128) :
    View.canon (dvAll B) (ix2 j (col h e)) = ∑ r ∈ Finset.range 2176, cv B h j e r := by
  rw [show Finset.range 2176 = Finset.range (512 * 4 + 128) from rfl, Finset.sum_range_add, ← dv_sum B 4 le_rfl]
  unfold dvAll dvMost
  obtain rfl | rfl := two h
  · refine (Blocks.canon_miss (r := 0) (c := 128) _ rfl _ _ _ _ (by simp [col])).trans ?_
    refine (Blocks.canon_hit (r := 0) (c := 0) _ rfl _ _ _ _ j e (by simp) (by simp [col])).trans ?_
    rw [cv_T0 B]
    refine congrArg (· + _) ?_
    exact dv_cov B _ j 0 e _ _ rfl
  · refine (Blocks.canon_hit (r := 0) (c := 128) _ rfl _ _ _ _ j e (by simp) (by simp [col])).trans ?_
    rw [cv_T1 B]
    refine congrArg (· + _) ?_
    refine (dv_cov B _ j 1 e _ _ rfl).trans ?_
    exact (Blocks.canon_miss (r := 0) (c := 0) _ rfl _ _ _ _ (by simp [col]))

theorem sum_rows (f : ℕ → EReal) : ∑ r ∈ Finset.range 2176, f r = ∑ r : Fin 2176, f r.val :=
  (Fin.sum_univ_eq_sum_range f 2176).symm

/-- The value gradient the body leaves, -/
theorem dvAll_value (j : Fin 2176) (h : Fin 2) (e : Fin 128) :
    View.canon (dvAll B) (ix2 j (col h e)) = ∑ r : Fin 2176, wt B h r j * dx h (rD B r) (rO B r) e := by
  rw [dvAll_sum, sum_rows]
  refine Finset.sum_congr rfl fun r _ => ?_
  unfold cv
  rw [dif_pos r.isLt]

/-- the key gradient, -/
theorem dkAll_value (j : Fin 2176) (h : Fin 2) (e : Fin 128) :
    View.canon (dkAll B) (ix2 j (col h e)) = (∑ r : Fin 2176, dwt B h r j * rQ B h r e) * ((Real.log 2 : ℝ) : EReal) := by
  unfold dkAll
  refine (Blocks.canon_hit (r := 0) (c := 0) _ rfl _ _ _ _ j (col h e) (by simp) (by simp)).trans ?_
  pointwise [k0_pay4]
  rw [View.readCov_eq_canon']
  refine congrArg₂ (· * ·) ?_ ?_
  · refine (congrArg (View.canon _) (Blocks.emb_ix2 (r := 0) (c := 0) _ rfl j (col h e) _ _ (by simp) (by simp))).trans ?_
    rw [dkSum_sum, sum_rows]
    refine Finset.sum_congr rfl fun r _ => ?_
    unfold ck
    rw [dif_pos r.isLt]
  · rfl

/-- the query gradient: of the first trips' rows, -/
theorem dq_list (n : ℕ) (hn : n ≤ 4) (r : Fin 2176) (hr : r.val < 512 * n) (h : Fin 2) (e : Fin 128) :
    View.canon (dqList B n) (ix2 r (col h e)) = (∑ j : Fin 2176, dwt B h r j * rK B h j e) * cw := by
  induction n with
  | zero => exact absurd hr (by simp)
  | succ n ih =>
    have ht : n < k0_t1_loop.trips := trips_four ▸ hn
    unfold dqList
    rw [dif_pos ht]
    unfold dqTrip
    simp only [List.cons_append, List.nil_append, List.append_assoc]
    have he : e.val < 128 := e.isLt
    by_cases h1 : r.val < 512 * n
    · refine (Blocks.canon_miss _ (off6_eq ⟨n, ht⟩) _ _ _ _ (Or.inl (by simp; omega))).trans ?_
      refine (Blocks.canon_miss _ (off5_eq ⟨n, ht⟩) _ _ _ _ (Or.inl (by simp; omega))).trans ?_
      refine (Blocks.canon_miss _ (off3_eq ⟨n, ht⟩) _ _ _ _ (Or.inl (by simpa using h1))).trans ?_
      refine (Blocks.canon_miss _ (off2_eq ⟨n, ht⟩) _ _ _ _ (Or.inl (by simpa using h1))).trans ?_
      exact ih (by omega) h1
    · by_cases h2 : r.val < 512 * n + 256
      · refine (Blocks.canon_miss _ (off6_eq ⟨n, ht⟩) _ _ _ _ (Or.inl (by simpa using h2))).trans ?_
        refine (Blocks.canon_miss _ (off5_eq ⟨n, ht⟩) _ _ _ _ (Or.inl (by simpa using h2))).trans ?_
        have er : r = ⟨512 * n + (⟨r.val - 512 * n, by omega⟩ : Fin 256).val, by simp; omega⟩ := Fin.ext (by simp; omega)
        obtain rfl | rfl := two h
        · refine (Blocks.canon_miss _ (off3_eq ⟨n, ht⟩) _ _ _ _ (Or.inr (Or.inr (Or.inl (by simp [col]))))).trans ?_
          refine (Blocks.canon_hit _ (off2_eq ⟨n, ht⟩) _ _ _ _ ⟨r.val - 512 * n, by omega⟩ e (by simp; omega) (by simp [col])).trans ?_
          refine (q_A0 B ⟨n, ht⟩ _ e (by simp; omega)).trans ?_
          simp only [← er]
        · refine (Blocks.canon_hit _ (off3_eq ⟨n, ht⟩) _ _ _ _ ⟨r.val - 512 * n, by omega⟩ e (by simp; omega) (by simp [col])).trans ?_
          refine (q_A1 B ⟨n, ht⟩ _ e (by simp; omega)).trans ?_
          simp only [← er]
      · have er : r = ⟨512 * n + 256 + (⟨r.val - (512 * n + 256), by omega⟩ : Fin 256).val, by simp; omega⟩ := Fin.ext (by simp; omega)
        obtain rfl | rfl := two h
        · refine (Blocks.canon_miss _ (off6_eq ⟨n, ht⟩) _ _ _ _ (Or.inr (Or.inr (Or.inl (by simp [col]))))).trans ?_
          refine (Blocks.canon_hit _ (off5_eq ⟨n, ht⟩) _ _ _ _ ⟨r.val - (512 * n + 256), by omega⟩ e (by simp; omega) (by simp [col])).trans ?_
          refine (q_B0 B ⟨n, ht⟩ _ e (by simp; omega)).trans ?_
          simp only [← er]
        · refine (Blocks.canon_hit _ (off6_eq ⟨n, ht⟩) _ _ _ _ ⟨r.val - (512 * n + 256), by omega⟩ e (by simp; omega) (by simp [col])).trans ?_
          refine (q_B1 B ⟨n, ht⟩ _ e (by simp; omega)).trans ?_
          simp only [← er]

/-- and of all. -/
theorem dqAll_value (r : Fin 2176) (h : Fin 2) (e : Fin 128) :
    View.canon (dqAll B) (ix2 r (col h e)) = (∑ j : Fin 2176, dwt B h r j * rK B h j e) * cw := by
  unfold dqAll
  have he : e.val < 128 := e.isLt
  by_cases h1 : r.val < 2048
  · refine (Blocks.canon_miss (r := 2048) (c := 128) _ rfl _ _ _ _ (Or.inl h1)).trans ?_
    refine (Blocks.canon_miss (r := 2048) (c := 0) _ rfl _ _ _ _ (Or.inl h1)).trans ?_
    exact dq_list B 4 le_rfl r h1 h e
  · have er : r = ⟨2048 + (⟨r.val - 2048, by omega⟩ : Fin 128).val, by simp; omega⟩ := Fin.ext (by simp; omega)
    obtain rfl | rfl := two h
    · refine (Blocks.canon_miss (r := 2048) (c := 128) _ rfl _ _ _ _ (Or.inr (Or.inr (Or.inl (by simp [col]))))).trans ?_
      refine (Blocks.canon_hit (r := 2048) (c := 0) _ rfl _ _ _ _ ⟨r.val - 2048, by omega⟩ e (by simp; omega) (by simp [col])).trans ?_
      refine (q_T0 B _ e (by simp; omega)).trans ?_
      simp only [← er]
    · refine (Blocks.canon_hit (r := 2048) (c := 128) _ rfl _ _ _ _ ⟨r.val - 2048, by omega⟩ e (by simp; omega) (by simp [col])).trans ?_
      refine (q_T1 B _ e (by simp; omega)).trans ?_
      simp only [← er]

end Cert.MlaAcc
end
-- ==== Proof.MlaTiles.lean ====
/- The three arrays the attention gradient kernel leaves, as functions of the packed operands. -/
module
public import proofs.«01_k».proof.Proof.MlaAcc
public import proofs.«01_k».proof.Proof.MlaFrame
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.MlaTiles
open Cert.MlaIdeal Cert.MlaIdeal.Gen Cert.MlaRun Cert.MlaTile Cert.MlaAcc
variable (m : (ℓ : Loc nD τ sig) → Buf (Elt Ideal) ℓ)

/-- Every window's block index at every grid point. -/
theorem idx_val : ∀ t : Fin cfg0.N, win0_0.index t = ![t.val / 4, t.val % 4]
    ∧ win0_1.index t = ![t.val / 4, t.val % 4]
    ∧ win0_2.index t = ![t.val / 4, t.val % 4]
    ∧ win0_3.index t = ![t.val / 4, t.val % 4]
    ∧ win0_4.index t = ![t.val / 4, t.val % 4]
    ∧ win0_5.index t = ![t.val / 4, t.val % 4]
    ∧ win0_6.index t = ![t.val / 4, t.val % 4]
    ∧ win0_7.index t = ![t.val / 4, t.val % 4]
    ∧ win0_8.index t = ![t.val / 4, t.val % 4] :=
  (by decide +kernel : ∀ t : Fin grid0.N, _)
theorem pts (t : Fin cfg0.N) : t.val < 8 := lt_of_lt_of_eq t.isLt (by decide +kernel : cfg0.N = 8)

/-! ## The packed operands: a batch's row, a head's columns -/
def rowOf (b : Fin 2) (r : Fin 2176) : Fin 4352 := ⟨2176 * b.val + r.val, by omega⟩
def headOf (H : Fin 8) (e : Fin 128) : Fin 1024 := ⟨128 * H.val + e.val, by omega⟩
def pairOf (H : Fin 8) (e : Fin 128) : Fin 512 := ⟨128 * (H.val / 2) + e.val, by omega⟩
def gD (c : Dev nD) (b : Fin 2) (H : Fin 8) (r : Fin 2176) (e : Fin 128) : EReal := (V m c main_v85 : FVec Ideal S4352x512 .f32) (ix2 (rowOf b r) (pairOf H e))
def gO (c : Dev nD) (b : Fin 2) (H : Fin 8) (r : Fin 2176) (e : Fin 128) : EReal := (V m c main_v80 : FVec Ideal S4352x512 .f32) (ix2 (rowOf b r) (pairOf H e))
def gL (c : Dev nD) (b : Fin 2) (H : Fin 8) (r : Fin 2176) (e : Fin 128) : EReal := (V m c main_v75 : FVec Ideal S4352x512 .f32) (ix2 (rowOf b r) (pairOf H e))
def gQ (c : Dev nD) (b : Fin 2) (H : Fin 8) (r : Fin 2176) (e : Fin 128) : EReal := (V m c main_v46 : FVec Ideal S4352x1024 .bf16) (ix2 (rowOf b r) (headOf H e))
def gK (c : Dev nD) (b : Fin 2) (H : Fin 8) (r : Fin 2176) (e : Fin 128) : EReal := (V m c main_v57 : FVec Ideal S4352x1024 .bf16) (ix2 (rowOf b r) (headOf H e))
def gV (c : Dev nD) (b : Fin 2) (H : Fin 8) (r : Fin 2176) (e : Fin 128) : EReal := (V m c main_v69 : FVec Ideal S4352x1024 .bf16) (ix2 (rowOf b r) (headOf H e))
/-- A query row's weight at a key, its gradient, and the three gradients. -/
def gP (c : Dev nD) (b : Fin 2) (H : Fin 8) (r j : Fin 2176) : EReal := pw (H.val % 2) (gL m c b H r) (gQ m c b H r) (gK m c b H j)
def gW (c : Dev nD) (b : Fin 2) (H : Fin 8) (r j : Fin 2176) : EReal := dw (H.val % 2) (gD m c b H r) (gO m c b H r) (gL m c b H r) (gQ m c b H r) (gK m c b H j) (gV m c b H j)
def oQ (c : Dev nD) (b : Fin 2) (H : Fin 8) (r : Fin 2176) (e : Fin 128) : EReal := (∑ j : Fin 2176, gW m c b H r j * gK m c b H j e) * cw
def oK (c : Dev nD) (b : Fin 2) (H : Fin 8) (j : Fin 2176) (e : Fin 128) : EReal := (∑ r : Fin 2176, gW m c b H r j * gQ m c b H r e) * ((Real.log 2 : ℝ) : EReal)
def oV (c : Dev nD) (b : Fin 2) (H : Fin 8) (j : Fin 2176) (e : Fin 128) : EReal := ∑ r : Fin 2176, gP m c b H r j * dx (H.val % 2) (gD m c b H r) (gO m c b H r) e

def ptB (t : Fin cfg0.N) : Fin 2 := ⟨t.val / 4, by have := pts t; omega⟩
def ptH (t : Fin cfg0.N) (h : Fin 2) : Fin 8 := ⟨2 * (t.val % 4) + h.val, by omega⟩

theorem rD_eq (c : Dev nD) (t : Fin cfg0.N) (h : Fin 2) (r : Fin 2176) : rD (bufs m c t) r = gD m c (ptB t) (ptH t h) r := by
  funext e
  unfold rD gD bufs
  dsimp only
  rw [(hs0_4 t).read_unread]
  have h2 := h.isLt
  blk_point [iblk, idx_val t]
  · show _ = 2176 * (t.val / 4) + r.val
    omega
  · show _ = 128 * ((2 * (t.val % 4) + h.val) / 2) + e.val
    omega
theorem rO_eq (c : Dev nD) (t : Fin cfg0.N) (h : Fin 2) (r : Fin 2176) : rO (bufs m c t) r = gO m c (ptB t) (ptH t h) r := by
  funext e
  unfold rO gO bufs
  dsimp only
  rw [(hs0_3 t).read_unread]
  have h2 := h.isLt
  blk_point [iblk, idx_val t]
  · show _ = 2176 * (t.val / 4) + r.val
    omega
  · show _ = 128 * ((2 * (t.val % 4) + h.val) / 2) + e.val
    omega
theorem rL_eq (c : Dev nD) (t : Fin cfg0.N) (h : Fin 2) (r : Fin 2176) : rL (bufs m c t) r = gL m c (ptB t) (ptH t h) r := by
  funext e
  unfold rL gL bufs
  dsimp only
  rw [(hs0_5 t).read_unread]
  have h2 := h.isLt
  blk_point [iblk, idx_val t]
  · show _ = 2176 * (t.val / 4) + r.val
    omega
  · show _ = 128 * ((2 * (t.val % 4) + h.val) / 2) + e.val
    omega
theorem rQ_eq (c : Dev nD) (t : Fin cfg0.N) (h : Fin 2) (r : Fin 2176) : rQ (bufs m c t) h r = gQ m c (ptB t) (ptH t h) r := by
  funext e
  unfold rQ gQ bufs
  dsimp only
  rw [(hs0_0 t).read_unread]
  have h2 := h.isLt
  blk_point [iblk, idx_val t]
  · show _ = 2176 * (t.val / 4) + r.val
    omega
  · show _ = 128 * (2 * (t.val % 4) + h.val) + e.val
    try unfold col
    try dsimp only
    omega
theorem rK_eq (c : Dev nD) (t : Fin cfg0.N) (h : Fin 2) (r : Fin 2176) : rK (bufs m c t) h r = gK m c (ptB t) (ptH t h) r := by
  funext e
  unfold rK gK bufs
  dsimp only
  rw [(hs0_1 t).read_unread]
  have h2 := h.isLt
  blk_point [iblk, idx_val t]
  · show _ = 2176 * (t.val / 4) + r.val
    omega
  · show _ = 128 * (2 * (t.val % 4) + h.val) + e.val
    try unfold col
    try dsimp only
    omega
theorem rV_eq (c : Dev nD) (t : Fin cfg0.N) (h : Fin 2) (r : Fin 2176) : rV (bufs m c t) h r = gV m c (ptB t) (ptH t h) r := by
  funext e
  unfold rV gV bufs
  dsimp only
  rw [(hs0_2 t).read_unread]
  have h2 := h.isLt
  blk_point [iblk, idx_val t]
  · show _ = 2176 * (t.val / 4) + r.val
    omega
  · show _ = 128 * (2 * (t.val % 4) + h.val) + e.val
    try unfold col
    try dsimp only
    omega

theorem par (t : Fin cfg0.N) (h : Fin 2) : (ptH t h).val % 2 = h.val := by
  show (2 * (t.val % 4) + h.val) % 2 = h.val
  have := h.isLt
  omega
theorem dwt_eq (c : Dev nD) (t : Fin cfg0.N) (h : Fin 2) (r j : Fin 2176) : dwt (bufs m c t) h r j = gW m c (ptB t) (ptH t h) r j := by
  unfold dwt gW
  rw [rD_eq m c t h, rO_eq m c t h, rL_eq m c t h, rQ_eq, rK_eq, rV_eq, par]
theorem wt_eq (c : Dev nD) (t : Fin cfg0.N) (h : Fin 2) (r j : Fin 2176) : wt (bufs m c t) h r j = gP m c (ptB t) (ptH t h) r j := by
  unfold wt gP
  rw [rL_eq m c t h, rQ_eq, rK_eq, par]

theorem dqOut_eq (c : Dev nD) (t : Fin cfg0.N) (h : Fin 2) (r : Fin 2176) (e : Fin 128) : dqOut m c t (ix2 r (col h e)) = oQ m c (ptB t) (ptH t h) r e := by
  unfold dqOut oQ
  refine (View.read_writes_junk_apply_eq_canon _ _ _).trans ((dqAll_value _ r h e).trans ?_)
  refine congrArg (· * cw) (Finset.sum_congr rfl fun j _ => ?_)
  rw [dwt_eq, rK_eq]
theorem dkOut_eq (c : Dev nD) (t : Fin cfg0.N) (h : Fin 2) (r : Fin 2176) (e : Fin 128) : dkOut m c t (ix2 r (col h e)) = oK m c (ptB t) (ptH t h) r e := by
  unfold dkOut oK
  refine (View.read_writes_junk_apply_eq_canon _ _ _).trans ((dkAll_value _ r h e).trans ?_)
  refine congrArg (· * ((Real.log 2 : ℝ) : EReal)) (Finset.sum_congr rfl fun j _ => ?_)
  rw [dwt_eq, rQ_eq]
theorem dvOut_eq (c : Dev nD) (t : Fin cfg0.N) (h : Fin 2) (r : Fin 2176) (e : Fin 128) : dvOut m c t (ix2 r (col h e)) = oV m c (ptB t) (ptH t h) r e := by
  unfold dvOut oV
  refine (View.read_writes_junk_apply_eq_canon _ _ _).trans ((dvAll_value _ r h e).trans ?_)
  refine Finset.sum_congr rfl fun j _ => ?_
  rw [wt_eq, rD_eq m c t h, rO_eq m c t h, par]

/-! ## The whole arrays -/
def batchAt (p : Fin 4352) : Fin 2 := ⟨p.val / 2176, by omega⟩
def rowAt (p : Fin 4352) : Fin 2176 := ⟨p.val % 2176, Nat.mod_lt _ (by decide)⟩
def headAt (x : Fin 1024) : Fin 8 := ⟨x.val / 128, by omega⟩
def laneAt (x : Fin 1024) : Fin 128 := ⟨x.val % 128, Nat.mod_lt _ (by decide)⟩
def half (x : Fin 256) : Fin 2 := ⟨x.val / 128, by omega⟩
def lane (x : Fin 256) : Fin 128 := ⟨x.val % 128, Nat.mod_lt _ (by decide)⟩
theorem split (y : S2176x256.Idx) : y = ix2 (y 0) (col (half (y 1)) (lane (y 1))) := by
  funext a
  refine Fin.ext ?_
  fin_cases a
  · rfl
  · show (y 1).val = 128 * ((y 1).val / 128) + (y 1).val % 128
    omega

def pairCol (t : Fin cfg0.N) (x : Fin 256) : Fin 1024 := ⟨256 * (t.val % 4) + x.val, by omega⟩
theorem placed (f : Fin 2 → Fin 8 → Fin 2176 → Fin 128 → EReal) (t : Fin cfg0.N) (r : Fin 2176) (x : Fin 256) :
    f (ptB t) (ptH t (half x)) r (lane x) = f (batchAt (rowOf (ptB t) r)) (headAt (pairCol t x)) (rowAt (rowOf (ptB t) r)) (laneAt (pairCol t x)) := by
  have h8 := pts t
  have hr := r.isLt
  have hx := x.isLt
  have e1 : batchAt (rowOf (ptB t) r) = ptB t := Fin.ext (show (2176 * (t.val / 4) + r.val) / 2176 = t.val / 4 by omega)
  have e2 : headAt (pairCol t x) = ptH t (half x) := Fin.ext (show (256 * (t.val % 4) + x.val) / 128 = 2 * (t.val % 4) + x.val / 128 by omega)
  have e3 : rowAt (rowOf (ptB t) r) = r := Fin.ext (show (2176 * (t.val / 4) + r.val) % 2176 = r.val by omega)
  have e4 : laneAt (pairCol t x) = lane x := Fin.ext (show (256 * (t.val % 4) + x.val) % 128 = x.val % 128 by omega)
  rw [e1, e2, e3, e4]
def resQ (c : Dev nD) : FVec Ideal S4352x1024 .f32 := fun i => oQ m c (batchAt (i 0)) (headAt (i 1)) (rowAt (i 0)) (laneAt (i 1))
theorem readQ (X : FVec Ideal S4352x1024 .f32) (t : Fin cfg0.N) (y : S2176x256.Idx) :
    X (ix2 (rowOf (ptB t) (y 0)) (pairCol t (y 1))) = (((cfgs 0).win 6).blk t).view.read (Elt Ideal) X y := by
  have h8 := pts t
  blk_point [idx_val t]
  · show 2176 * (t.val / 4) + (y 0).val = _
    omega
  · show 256 * (t.val % 4) + (y 1).val = _
    omega
theorem finalQ (c : Dev nD) : (dats m 0 c).arrAt 6 (cfgs 0).N = resQ m c := by
  refine (dats m 0 c).arrAt_eq_of_covers 6 _ (by decide +kernel) fun t hf y => ?_
  refine Eq.trans ?_ (readQ (resQ m c) t y)
  blk_simp
  rw [after0_6]
  refine (congrArg (dqOut m c t) (split y)).trans ((dqOut_eq m c t _ _ _).trans ?_)
  exact placed (oQ m c) t (y 0) (y 1)
def resK (c : Dev nD) : FVec Ideal S4352x1024 .f32 := fun i => oK m c (batchAt (i 0)) (headAt (i 1)) (rowAt (i 0)) (laneAt (i 1))
theorem readK (X : FVec Ideal S4352x1024 .f32) (t : Fin cfg0.N) (y : S2176x256.Idx) :
    X (ix2 (rowOf (ptB t) (y 0)) (pairCol t (y 1))) = (((cfgs 0).win 7).blk t).view.read (Elt Ideal) X y := by
  have h8 := pts t
  blk_point [idx_val t]
  · show 2176 * (t.val / 4) + (y 0).val = _
    omega
  · show 256 * (t.val % 4) + (y 1).val = _
    omega
theorem finalK (c : Dev nD) : (dats m 0 c).arrAt 7 (cfgs 0).N = resK m c := by
  refine (dats m 0 c).arrAt_eq_of_covers 7 _ (by decide +kernel) fun t hf y => ?_
  refine Eq.trans ?_ (readK (resK m c) t y)
  blk_simp
  rw [after0_7]
  refine (congrArg (dkOut m c t) (split y)).trans ((dkOut_eq m c t _ _ _).trans ?_)
  exact placed (oK m c) t (y 0) (y 1)
def resV (c : Dev nD) : FVec Ideal S4352x1024 .f32 := fun i => oV m c (batchAt (i 0)) (headAt (i 1)) (rowAt (i 0)) (laneAt (i 1))
theorem readV (X : FVec Ideal S4352x1024 .f32) (t : Fin cfg0.N) (y : S2176x256.Idx) :
    X (ix2 (rowOf (ptB t) (y 0)) (pairCol t (y 1))) = (((cfgs 0).win 8).blk t).view.read (Elt Ideal) X y := by
  have h8 := pts t
  blk_point [idx_val t]
  · show 2176 * (t.val / 4) + (y 0).val = _
    omega
  · show 256 * (t.val % 4) + (y 1).val = _
    omega
theorem finalV (c : Dev nD) : (dats m 0 c).arrAt 8 (cfgs 0).N = resV m c := by
  refine (dats m 0 c).arrAt_eq_of_covers 8 _ (by decide +kernel) fun t hf y => ?_
  refine Eq.trans ?_ (readV (resV m c) t y)
  blk_simp
  rw [after0_8]
  refine (congrArg (dvOut m c t) (split y)).trans ((dvOut_eq m c t _ _ _).trans ?_)
  exact placed (oV m c) t (y 0) (y 1)
end Cert.MlaTiles
end
-- ==== Proof.MlaForm.lean ====
/- The attention gradient over the real numbers, and the padded kernel's rows reduced to it. -/
module
public import proofs.«01_k».proof.Proof.MlaTile
public import proofs.«01_k».proof.Proof.Norm
@[expose] public section
set_option maxRecDepth 16384
noncomputable section
open Idealize.ShloMosaic Idealize.ShloMosaic.TcCoe Idealize.SL.Sem
namespace Cert.MlaForm
open Cert.MlaTile Cert.Norm

/-- The six arguments as real numbers. -/
structure Reals where
  qn : (⟨4, ![2, 2064, 8, 64]⟩ : Shape).Idx → ℝ
  qr : (⟨4, ![2, 2064, 8, 32]⟩ : Shape).Idx → ℝ
  kn : (⟨4, ![2, 2064, 8, 64]⟩ : Shape).Idx → ℝ
  kr : (⟨3, ![2, 2064, 32]⟩ : Shape).Idx → ℝ
  v : (⟨4, ![2, 2064, 8, 64]⟩ : Shape).Idx → ℝ
  d : (⟨3, ![2, 2064, 512]⟩ : Shape).Idx → ℝ

/-- The factor of the scores: what its word stands for. -/
def cR : ℝ := 13698540 / 2 ^ 27
theorem cw_eq : cw = (cR : EReal) := by
  simp [cR, cw, Ideal.ofBits, Ideal.ieee, -EReal.coe_mul]; norm_num
theorem two_eq : Ideal.ofBits .f32 1073741824#32 = ((2 : ℝ) : EReal) := by
  simp [Ideal.ofBits, Ideal.ieee, -EReal.coe_mul]; norm_num
theorem neg_one_eq : Ideal.ofBits .f32 3212836864#32 = ((-1 : ℝ) : EReal) := by
  simp [Ideal.ofBits, Ideal.ieee, -EReal.coe_mul]; norm_num
theorem bot_eq : Ideal.ofBits .f32 4286578688#32 = (⊥ : EReal) := by
  simp [Ideal.ofBits, Ideal.ieee, -EReal.coe_mul]
theorem log2_pos : 0 < Real.log 2 := Real.log_pos (by norm_num)
theorem log_pos {r : ℝ} (h : 0 < r) : Ideal.log (r : EReal) = ((Real.log r : ℝ) : EReal) := by
  rw [Ideal.log_coe, if_neg h.not_ge]

variable (X : Reals)

/-! ## The attention and its gradient -/

def sc (b : Fin 2) (l : Fin 2064) (H : Fin 8) (k : Fin 2064) : ℝ :=
  (∑ d : Fin 64, X.qn (ix4 b l H d) * X.kn (ix4 b k H d) + ∑ d : Fin 32, X.kr (ix3 b k d) * X.qr (ix4 b l H d)) * cR
def mx (b : Fin 2) (l : Fin 2064) (H : Fin 8) : ℝ := Finset.univ.sup' ⟨0, Finset.mem_univ _⟩ (sc X b l H)
def ex (b : Fin 2) (l : Fin 2064) (H : Fin 8) (k : Fin 2064) : ℝ := Real.exp (sc X b l H k - mx X b l H)
def sm (b : Fin 2) (l : Fin 2064) (H : Fin 8) : ℝ := ∑ k, ex X b l H k
def pr (b : Fin 2) (l : Fin 2064) (H : Fin 8) (k : Fin 2064) : ℝ := ex X b l H k / sm X b l H
def og (b : Fin 2) (l : Fin 2064) (H : Fin 8) (d : Fin 64) : ℝ := ∑ k, X.v (ix4 b k H d) * pr X b l H k
def lse (b : Fin 2) (l : Fin 2064) (H : Fin 8) : ℝ := (mx X b l H + Real.log (sm X b l H)) / Real.log 2
/-- A head's lane among the output's columns. -/
def lane (H : Fin 8) (d : Fin 64) : Fin 512 := ⟨H.val * 64 + d.val, by omega⟩
def gv (b : Fin 2) (l : Fin 2064) (H : Fin 8) (k : Fin 2064) : ℝ := ∑ d : Fin 64, X.d (ix3 b l (lane H d)) * X.v (ix4 b k H d)
def del (b : Fin 2) (l : Fin 2064) (H : Fin 8) : ℝ := ∑ d : Fin 64, X.d (ix3 b l (lane H d)) * og X b l H d
def dp (b : Fin 2) (l : Fin 2064) (H : Fin 8) (k : Fin 2064) : ℝ := pr X b l H k * (gv X b l H k - del X b l H)

def dqn (b : Fin 2) (l : Fin 2064) (H : Fin 8) (d : Fin 64) : ℝ := (∑ k, dp X b l H k * X.kn (ix4 b k H d)) * cR
def dqr (b : Fin 2) (l : Fin 2064) (H : Fin 8) (d : Fin 32) : ℝ := (∑ k, dp X b l H k * X.kr (ix3 b k d)) * cR
def dkn (b : Fin 2) (k : Fin 2064) (H : Fin 8) (d : Fin 64) : ℝ := (∑ l, dp X b l H k * X.qn (ix4 b l H d)) * cR
def dkh (b : Fin 2) (k : Fin 2064) (H : Fin 8) (d : Fin 32) : ℝ := (∑ l, dp X b l H k * X.qr (ix4 b l H d)) * cR
def dkr (b : Fin 2) (k : Fin 2064) (d : Fin 32) : ℝ := ∑ H, dkh X b k H d
def dv (b : Fin 2) (k : Fin 2064) (H : Fin 8) (d : Fin 64) : ℝ := ∑ l, pr X b l H k * X.d (ix3 b l (lane H d))

theorem sm_pos (b : Fin 2) (l : Fin 2064) (H : Fin 8) : 0 < sm X b l H :=
  Finset.sum_pos (fun k _ => Real.exp_pos _) ⟨0, Finset.mem_univ _⟩
/-- The output's product with its gradient is the weighted sum of the weights' gradients. -/
theorem del_eq (b : Fin 2) (l : Fin 2064) (H : Fin 8) : del X b l H = ∑ k, pr X b l H k * gv X b l H k := by
  unfold del og gv
  simp only [Finset.mul_sum]
  rw [Finset.sum_comm]
  refine Finset.sum_congr rfl fun k _ => Finset.sum_congr rfl fun d _ => ?_
  ring

/-! ## The forward lines, read as real numbers -/

theorem sc_e (b : Fin 2) (l : Fin 2064) (H : Fin 8) (k : Fin 2064) :
    (∑ d : Fin 64, (X.qn (ix4 b l H d) : EReal) * (X.kn (ix4 b k H d) : EReal) + ∑ d : Fin 32, (X.kr (ix3 b k d) : EReal) * (X.qr (ix4 b l H d) : EReal)) * Ideal.ofBits .f32 1037108716#32
      = (sc X b l H k : EReal) := by
  rw [show Ideal.ofBits .f32 1037108716#32 = (cR : EReal) from cw_eq]
  simp only [← EReal.coe_mul, coe_sum, ← EReal.coe_add]
  rfl
theorem mx_e (b : Fin 2) (l : Fin 2064) (H : Fin 8) :
    Finset.fold max (Ideal.ofBits .f32 4286578688#32) (fun k => (sc X b l H k : EReal)) Finset.univ = (mx X b l H : EReal) := by
  rw [bot_eq]
  refine le_antisymm (Finset.fold_max_le _ |>.2 ⟨bot_le, fun k _ => EReal.coe_le_coe_iff.2 (Finset.le_sup' (sc X b l H) (Finset.mem_univ k))⟩) ?_
  obtain ⟨k, hk, e⟩ := Finset.exists_mem_eq_sup' ⟨(0 : Fin 2064), Finset.mem_univ _⟩ (sc X b l H)
  rw [show mx X b l H = sc X b l H k from e]
  exact Finset.le_fold_max _ |>.2 (Or.inr ⟨k, hk, le_rfl⟩)
theorem ex_e (b : Fin 2) (l : Fin 2064) (H : Fin 8) (k : Fin 2064) :
    Ideal.exp ((sc X b l H k : EReal) - (mx X b l H : EReal)) = (ex X b l H k : EReal) := by
  rw [← EReal.coe_sub, Ideal.exp_coe]; rfl
theorem sm_e (b : Fin 2) (l : Fin 2064) (H : Fin 8) : ∑ k, (ex X b l H k : EReal) = (sm X b l H : EReal) := coe_sum _ _
theorem pr_e (b : Fin 2) (l : Fin 2064) (H : Fin 8) (k : Fin 2064) :
    Ideal.div (ex X b l H k : EReal) (sm X b l H : EReal) = (pr X b l H k : EReal) := div_real _ _ (sm_pos X b l H).ne'
theorem lse_e (b : Fin 2) (l : Fin 2064) (H : Fin 8) :
    Ideal.div ((mx X b l H : EReal) + Ideal.log (sm X b l H : EReal)) (Ideal.log (Ideal.ofBits .f32 1073741824#32)) = (lse X b l H : EReal) := by
  rw [two_eq, log_pos (sm_pos X b l H), log_pos (r := 2) (by norm_num), ← EReal.coe_add, div_real _ _ log2_pos.ne']
  rfl
theorem og_e (b : Fin 2) (l : Fin 2064) (H : Fin 8) (d : Fin 64) :
    ∑ k, (X.v (ix4 b k H d) : EReal) * (pr X b l H k : EReal) = (og X b l H d : EReal) := by
  simp only [← EReal.coe_mul, coe_sum]; rfl

/-! ## The packed rows -/

/-- The scores' factor in powers of two. -/
def fR : ℝ := cR / Real.log 2
theorem fR_e : Ideal.div (Ideal.ofBits .f32 1037108716#32) (Ideal.log (Ideal.ofBits .f32 1073741824#32)) = (fR : EReal) := by
  rw [show Ideal.ofBits .f32 1037108716#32 = (cR : EReal) from cw_eq, two_eq, log_pos (by norm_num), div_real _ _ log2_pos.ne']
  rfl

def qL (b : Fin 2) (l : Fin 2064) (H : Fin 8) (e : Fin 128) : EReal :=
  if h : e.val < 64 then (X.qn (ix4 b l H ⟨e.val, h⟩) : EReal) * (fR : EReal)
  else if h2 : e.val - 64 < 32 then (X.qr (ix4 b l H ⟨e.val - 64, h2⟩) : EReal) * (fR : EReal)
  else if e.val - 64 - 32 < 1 then 1 else 0
def kL (b : Fin 2) (k : Fin 2064) (H : Fin 8) (e : Fin 128) : EReal :=
  if h : e.val < 64 then (X.kn (ix4 b k H ⟨e.val, h⟩) : EReal)
  else if h2 : e.val - 64 < 32 then (X.kr (ix3 b k ⟨e.val - 64, h2⟩) : EReal) else 0
def vL (b : Fin 2) (k : Fin 2064) (H : Fin 8) (e : Fin 128) : EReal :=
  if h : e.val < 64 then (X.v (ix4 b k H ⟨e.val, h⟩) : EReal) else if e.val - 64 < 2 then ((-1 : ℝ) : EReal) else 0
def qZ (e : Fin 128) : EReal := if e.val < 96 then 0 else if e.val - 96 < 1 then 1 else 0
def kZ (e : Fin 128) : EReal := if e.val < 96 then 0 else if e.val - 96 < 1 then ⊥ else 0
def vZ (e : Fin 128) : EReal := if e.val < 64 then 0 else if e.val - 64 < 2 then ((-1 : ℝ) : EReal) else 0
def pair (H : Fin 8) (e : Fin 128) : Fin 512 := ⟨128 * (H.val / 2) + e.val, by omega⟩
def dL (b : Fin 2) (l : Fin 2064) (H : Fin 8) (e : Fin 128) : EReal := (X.d (ix3 b l (pair H e)) : EReal)
def oL (b : Fin 2) (l : Fin 2064) (H : Fin 8) (e : Fin 128) : EReal :=
  (og X b l ⟨(pair H e).val / 64, by have := (pair H e).isLt; omega⟩ ⟨(pair H e).val % 64, Nat.mod_lt _ (by decide)⟩ : EReal)
def lL (b : Fin 2) (l : Fin 2064) (H : Fin 8) (e : Fin 128) : EReal :=
  if h : e.val < 2 then (lse X b l ⟨H.val / 2 * 2 + e.val, by omega⟩ : EReal) else 0

theorem halves (F : Fin 128 → EReal) : ∑ e, F e = ∑ d : Fin 64, F ⟨d.val, by omega⟩ + ∑ d : Fin 64, F ⟨64 + d.val, by omega⟩ :=
  Fin.sum_univ_add (a := 64) (b := 64) F
theorem lanes (F : Fin 128 → EReal) :
    ∑ e, F e = ∑ d : Fin 64, F ⟨d.val, by omega⟩ + (∑ d : Fin 32, F ⟨64 + d.val, by omega⟩ + ∑ d : Fin 32, F ⟨96 + d.val, by omega⟩) := by
  rw [halves]
  refine congrArg (_ + ·) ((Fin.sum_univ_add (a := 32) (b := 32) fun d : Fin 64 => F ⟨64 + d.val, by omega⟩).trans ?_)
  refine congrArg (_ + ·) (Finset.sum_congr rfl fun d _ => congrArg F (Fin.ext ?_))
  show 64 + (32 + d.val) = 96 + d.val
  omega

theorem head_cases (H : Fin 8) : H.val % 2 = 0 ∨ H.val % 2 = 1 := by omega

theorem qk_real (b : Fin 2) (l k : Fin 2064) (H : Fin 8) :
    ∑ e, qL X b l H e * kL X b k H e = ((sc X b l H k / Real.log 2 : ℝ) : EReal) := by
  rw [lanes]
  have h3 : ∑ d : Fin 32, qL X b l H ⟨96 + d.val, by omega⟩ * kL X b k H ⟨96 + d.val, by omega⟩ = 0 := by
    refine Finset.sum_eq_zero fun d _ => ?_
    rw [show kL X b k H ⟨96 + d.val, by omega⟩ = 0 by
      unfold kL; rw [dif_neg (by simp only []; omega), dif_neg (by simp only []; omega)], mul_zero]
  have h1 : ∀ d : Fin 64, qL X b l H ⟨d.val, by omega⟩ * kL X b k H ⟨d.val, by omega⟩ = ((X.qn (ix4 b l H d) * X.kn (ix4 b k H d) * fR : ℝ) : EReal) := fun d => by
    unfold qL kL
    rw [dif_pos d.isLt, dif_pos d.isLt, ← EReal.coe_mul, ← EReal.coe_mul]
    exact congrArg _ (by show X.qn (ix4 b l H d) * fR * X.kn (ix4 b k H d) = _; ring)
  have h2 : ∀ d : Fin 32, qL X b l H ⟨64 + d.val, by omega⟩ * kL X b k H ⟨64 + d.val, by omega⟩ = ((X.kr (ix3 b k d) * X.qr (ix4 b l H d) * fR : ℝ) : EReal) := fun d => by
    have e : (⟨64 + d.val - 64, by have := d.isLt; rw [Nat.add_sub_cancel_left]; exact this⟩ : Fin 32) = d := Fin.ext (Nat.add_sub_cancel_left 64 d.val)
    unfold qL kL
    rw [dif_neg (by simp only []; omega), dif_pos (by simp only []; omega), dif_neg (by simp only []; omega), dif_pos (by simp only []; omega), ← EReal.coe_mul, ← EReal.coe_mul]
    refine congrArg _ ?_
    simp only [e]
    ring
  simp only [h1, h2, h3, coe_sum, add_zero, ← EReal.coe_add]
  refine congrArg _ ?_
  rw [← Finset.sum_mul, ← Finset.sum_mul, ← add_mul]
  unfold sc fR
  ring

theorem qk_pad (b : Fin 2) (l : Fin 2064) (H : Fin 8) : ∑ e, qL X b l H e * kZ e = ⊥ := by
  have h0 : ∀ e : Fin 128, qL X b l H e * kZ e = if e = 96 then ⊥ else 0 := fun e => by
    by_cases he : e = 96
    · subst he
      rw [if_pos rfl]
      show qL X b l H ⟨96, by decide⟩ * kZ ⟨96, by decide⟩ = _
      unfold qL kZ
      rw [dif_neg (by decide), dif_neg (by decide), if_pos (by decide), if_neg (by decide), if_pos (by decide), one_mul]
    · have : e.val ≠ 96 := fun h => he (Fin.ext h)
      rw [if_neg he, show kZ e = 0 by unfold kZ; split_ifs <;> first | rfl | omega, mul_zero]
  simp only [h0, Finset.sum_ite_eq', Finset.mem_univ, if_true]

theorem ls_real (b : Fin 2) (l : Fin 2064) (H : Fin 8) : ls (H.val % 2) (lL X b l H) = (lse X b l H : EReal) := by
  unfold ls
  have hh := head_cases H
  rw [Finset.sum_eq_single_of_mem (⟨H.val % 2, by omega⟩ : Fin 128) (Finset.mem_univ _) fun e _ he => if_neg fun h => he (Fin.ext h), if_pos rfl]
  unfold lL
  rw [dif_pos (by simp only []; omega)]
  exact congrArg (fun H' => (lse X b l H' : EReal)) (Fin.ext (by show H.val / 2 * 2 + H.val % 2 = H.val; omega))

theorem pw_real (b : Fin 2) (l k : Fin 2064) (H : Fin 8) : pw (H.val % 2) (lL X b l H) (qL X b l H) (kL X b k H) = (pr X b l H k : EReal) := by
  unfold pw
  rw [qk_real, ls_real, ← EReal.coe_sub, Ideal.exp2_coe]
  refine congrArg _ ?_
  show (2 : ℝ) ^ (sc X b l H k / Real.log 2 - lse X b l H) = _
  have h2 : Real.log 2 ≠ 0 := log2_pos.ne'
  rw [Real.rpow_def_of_pos (by norm_num : (0 : ℝ) < 2)]
  unfold lse
  rw [show Real.log 2 * (sc X b l H k / Real.log 2 - (mx X b l H + Real.log (sm X b l H)) / Real.log 2) = (sc X b l H k - mx X b l H) - Real.log (sm X b l H) by field_simp; ring,
    Real.exp_sub, Real.exp_log (sm_pos X b l H)]
  rfl
theorem pw_pad (b : Fin 2) (l : Fin 2064) (H : Fin 8) : pw (H.val % 2) (lL X b l H) (qL X b l H) kZ = 0 := by
  unfold pw
  rw [qk_pad, ls_real, EReal.bot_sub, Ideal.exp2_bot]

/-- The half of a pair's row that belongs to its head. -/
theorem half_sum (H : Fin 8) (D : Fin 128 → EReal) (F : Fin 128 → EReal) :
    ∑ e, dm (H.val % 2) D e * F e = ∑ d : Fin 64, D ⟨64 * (H.val % 2) + d.val, by omega⟩ * F ⟨64 * (H.val % 2) + d.val, by omega⟩ := by
  rw [halves]
  obtain h | h := head_cases H
  · simp only [h, dm, if_true, mul_zero, zero_add]
    rw [Finset.sum_eq_zero (s := Finset.univ) (f := fun d : Fin 64 => (if 64 + d.val < 64 then D ⟨64 + d.val, by omega⟩ else 0) * F ⟨64 + d.val, by omega⟩)
      fun d _ => by rw [if_neg (by omega), zero_mul], add_zero]
    exact Finset.sum_congr rfl fun d _ => by rw [if_pos d.isLt]
  · simp only [h, dm, one_ne_zero, if_false, mul_one]
    rw [Finset.sum_eq_zero (s := Finset.univ) (f := fun d : Fin 64 => (if d.val < 64 then 0 else D ⟨d.val, by omega⟩) * F ⟨d.val, by omega⟩)
      fun d _ => by rw [if_pos d.isLt, zero_mul], zero_add]
    exact Finset.sum_congr rfl fun d _ => by rw [if_neg (by omega)]

theorem pair_half (H : Fin 8) (d : Fin 64) : pair H ⟨64 * (H.val % 2) + d.val, by omega⟩ = lane H d :=
  Fin.ext (by show 128 * (H.val / 2) + (64 * (H.val % 2) + d.val) = H.val * 64 + d.val; omega)
theorem dl_real (b : Fin 2) (l : Fin 2064) (H : Fin 8) : dl (H.val % 2) (dL X b l H) (oL X b l H) = (del X b l H : EReal) := by
  unfold dl
  rw [half_sum]
  unfold del
  rw [← coe_sum]
  refine Finset.sum_congr rfl fun d _ => ?_
  unfold dL oL
  simp only [pair_half, EReal.coe_mul]
  refine congrArg₂ (fun H' d' => (X.d (ix3 b l (lane H d)) : EReal) * (og X b l H' d' : EReal)) (Fin.ext ?_) (Fin.ext ?_)
  · show (H.val * 64 + d.val) / 64 = H.val; omega
  · show (H.val * 64 + d.val) % 64 = d.val; omega

theorem dx_real (b : Fin 2) (l : Fin 2064) (H : Fin 8) (e : Fin 128) :
    dx (H.val % 2) (dL X b l H) (oL X b l H) e
      = if h : e.val < 64 then (X.d (ix3 b l (lane H ⟨e.val, h⟩)) : EReal) else if e.val = 64 then (del X b l H : EReal) else 0 := by
  unfold dx
  rw [dl_real]
  by_cases h4 : e.val = 64
  · rw [if_pos h4, dif_neg (by omega), if_pos h4]
  by_cases h5 : e.val = 65
  · rw [if_neg h4, if_pos h5, dif_neg (by omega), if_neg h4, ← EReal.coe_sub, sub_self, EReal.coe_zero]
  rw [if_neg h4, if_neg h5]
  obtain h | h := head_cases H
  · simp only [h, dm, if_true]
    by_cases he : e.val < 64
    · rw [if_pos he, dif_pos he]
      unfold dL
      refine congrArg (fun x => (X.d (ix3 b l x) : EReal)) (Fin.ext ?_)
      show 128 * (H.val / 2) + e.val = H.val * 64 + e.val; omega
    · rw [if_neg he, dif_neg he, if_neg h4]
  · simp only [h, dm, one_ne_zero, if_false]
    by_cases he : e.val < 64
    · rw [if_neg (by omega), dif_pos he]
      unfold dL
      refine congrArg (fun x => (X.d (ix3 b l x) : EReal)) (Fin.ext ?_)
      show 128 * (H.val / 2) + (e.val + 64) % 128 = H.val * 64 + e.val; omega
    · rw [if_pos (by omega), dif_neg he, if_neg h4]

theorem dx_zero (h : ℕ) (O : Fin 128 → EReal) (e : Fin 128) : dx h (fun _ => 0) O e = 0 := by
  have hm : ∀ e, dm h (fun _ => 0) e = 0 := fun e => by unfold dm; split_ifs <;> rfl
  have hl : dl h (fun _ => 0) O = 0 := Finset.sum_eq_zero fun e _ => by rw [hm, zero_mul]
  unfold dx
  rw [hl, hm]
  split_ifs <;> simp

/-- The weight's gradient at a row and a key of the batch, -/
theorem dw_real (b : Fin 2) (l k : Fin 2064) (H : Fin 8) :
    dw (H.val % 2) (dL X b l H) (oL X b l H) (lL X b l H) (qL X b l H) (kL X b k H) (vL X b k H) = (dp X b l H k : EReal) := by
  unfold dw
  rw [pw_real, halves]
  have h1 : ∀ d : Fin 64, dx (H.val % 2) (dL X b l H) (oL X b l H) ⟨d.val, by omega⟩ * vL X b k H ⟨d.val, by omega⟩ = ((X.d (ix3 b l (lane H d)) * X.v (ix4 b k H d) : ℝ) : EReal) := fun d => by
    rw [dx_real, dif_pos d.isLt]
    unfold vL
    rw [dif_pos d.isLt, EReal.coe_mul]
  have h2 : ∑ d : Fin 64, dx (H.val % 2) (dL X b l H) (oL X b l H) ⟨64 + d.val, by omega⟩ * vL X b k H ⟨64 + d.val, by omega⟩ = ((-del X b l H : ℝ) : EReal) := by
    rw [Finset.sum_eq_single_of_mem (0 : Fin 64) (Finset.mem_univ _) fun d _ hd => by
      have : d.val ≠ 0 := fun h => hd (Fin.ext h)
      rw [dx_real, dif_neg (by simp only []; omega), if_neg (by simp only []; omega), zero_mul]]
    rw [dx_real, dif_neg (by decide), if_pos (by decide)]
    unfold vL
    rw [dif_neg (by decide), if_pos (by decide), ← EReal.coe_mul, mul_neg_one]
  simp only [h1, h2, coe_sum, ← EReal.coe_add, ← EReal.coe_mul]
  exact congrArg _ (by unfold dp gv; ring)
/-- at a row and a key behind the batch, -/
theorem dw_pad (b : Fin 2) (l : Fin 2064) (H : Fin 8) (V : Fin 128 → EReal) :
    dw (H.val % 2) (dL X b l H) (oL X b l H) (lL X b l H) (qL X b l H) kZ V = 0 := by
  unfold dw; rw [pw_pad, zero_mul]
/-- and at a row behind the batch. -/
theorem dw_zero (h : ℕ) (O L Q K V : Fin 128 → EReal) : dw h (fun _ => 0) O L Q K V = 0 := by
  unfold dw
  rw [Finset.sum_eq_zero fun e _ => by rw [dx_zero, zero_mul], mul_zero]

/-! ## Sums over a batch's padded rows -/

/-- The packed place of a row. -/
def at_ (l : Fin 2064) : Fin 2176 := ⟨if l.val < 16 then 2048 + l.val else l.val - 16, by split_ifs <;> omega⟩
theorem sum_rows (F : Fin 2176 → EReal) (hF : ∀ r : Fin 2176, 2064 ≤ r.val → F r = 0) : ∑ r, F r = ∑ l, F (at_ l) := by
  refine (Fintype.sum_of_injective at_ ?_ _ _ ?_ fun _ => rfl).symm
  · intro l l' h
    have h' : (if l.val < 16 then 2048 + l.val else l.val - 16) = (if l'.val < 16 then 2048 + l'.val else l'.val - 16) := congrArg Fin.val h
    refine Fin.ext ?_
    split_ifs at h' <;> omega
  · intro r hr
    refine hF r ?_
    by_contra hc
    refine hr ⟨if h : r.val < 2048 then ⟨r.val + 16, by omega⟩ else ⟨r.val - 2048, by omega⟩, Fin.ext ?_⟩
    show (if _ then _ else _) = r.val
    split_ifs with h1 h2 h2
    · exact absurd h2 (Nat.not_lt.2 (Nat.le_add_left _ _))
    · exact Nat.add_sub_cancel r.val 16
    · exact Nat.add_sub_cancel' (Nat.not_lt.1 h1)
    · exact absurd (show r.val - 2048 < 16 from Nat.sub_lt_left_of_lt_add (Nat.not_lt.1 h1) (Nat.not_le.1 hc)) h2
end Cert.MlaForm
end
-- ==== Proof.MlaPack.lean ====
/- The attention gradient's packed operands, read from its arguments. -/
module
public import proofs.«01_k».proof.Proof.MlaTiles
public import proofs.«01_k».proof.Proof.MlaForm
public import Idealize.ShloMosaic.Lib.StableHlo.ReadAt
@[expose] public section
set_option maxRecDepth 16384
noncomputable section
open Idealize.ShloMosaic Idealize.ShloMosaic.TcCoe Idealize.SL.Sem Idealize.ShloMosaic.StableHlo
namespace Cert.MlaPack
open Cert.MlaIdeal Cert.MlaIdeal.Gen Cert.MlaTile Cert.MlaForm Cert.MlaTiles
variable (m : (ℓ : Loc nD τ sig) → Buf (Elt Ideal) ℓ)

/-- The arguments on a device are these real numbers. -/
structure Is (c : Dev nD) (X : Reals) : Prop where
  qn : m (c, Proc.tc.devRef main_arg0) = fun i => (X.qn i : EReal)
  qr : m (c, Proc.tc.devRef main_arg1) = fun i => (X.qr i : EReal)
  kn : m (c, Proc.tc.devRef main_arg2) = fun i => (X.kn i : EReal)
  kr : m (c, Proc.tc.devRef main_arg3) = fun i => (X.kr i : EReal)
  v : m (c, Proc.tc.devRef main_arg4) = fun i => (X.v i : EReal)
  d : m (c, Proc.tc.devRef main_arg5) = fun i => (X.d i : EReal)

/-- A packed row: an example's row, or a row behind the example. -/
def pick {α : Type*} (f : Fin 2 → Fin 2064 → α) (z : α) (p : Fin 4352) : α :=
  if h : p.val % 2176 < 2048 then f ⟨p.val / 2176, by omega⟩ ⟨16 + p.val % 2176, by omega⟩
  else if h' : p.val % 2176 - 2048 < 16 then f ⟨p.val / 2176, by omega⟩ ⟨p.val % 2176 - 2048, by omega⟩ else z
theorem at_val (l : Fin 2064) : (at_ l).val = if l.val < 16 then 2048 + l.val else l.val - 16 := rfl
theorem pick_at {α : Type*} (f : Fin 2 → Fin 2064 → α) (z : α) (b : Fin 2) (l : Fin 2064) : pick f z (rowOf b (at_ l)) = f b l := by
  have hl := at_val l
  have hp : (rowOf b (at_ l)).val = 2176 * b.val + (at_ l).val := rfl
  generalize rowOf b (at_ l) = p at hp
  unfold pick
  split_ifs at hl ⊢ with h1 h2 h3 h3
  all_goals first
    | (exfalso; omega)
    | exact congrArg₂ f (Fin.ext (by simp only []; omega)) (Fin.ext (by simp only []; omega))
theorem pick_pad {α : Type*} (f : Fin 2 → Fin 2064 → α) (z : α) (b : Fin 2) (r : Fin 2176) (h : 2064 ≤ r.val) : pick f z (rowOf b r) = z := by
  have hp : (rowOf b r).val = 2176 * b.val + r.val := rfl
  unfold pick
  rw [dif_neg (by omega), dif_neg (by omega)]

def headOn (x : Fin 1024) : Fin 8 := ⟨x.val / 128, by omega⟩
def laneOn (x : Fin 1024) : Fin 128 := ⟨x.val % 128, Nat.mod_lt _ (by decide)⟩
theorem headOn_eq (H : Fin 8) (e : Fin 128) : headOn (headOf H e) = H := Fin.ext (by show (128 * H.val + e.val) / 128 = H.val; omega)
theorem laneOn_eq (H : Fin 8) (e : Fin 128) : laneOn (headOf H e) = e := Fin.ext (by show (128 * H.val + e.val) % 128 = e.val; omega)

theorem V_flat (c : Dev nD) : V0 m c = StableHlo.after hostOps0 (fun b => m (c, b)) := by unfold V0; simp only [List.flatten_cons, List.flatten_nil, List.append_nil]
variable {m} {c : Dev nD} {X : Reals} (hX : Is m c X)
include hX

theorem v46_eq (p : Fin 4352) (x : Fin 1024) : (V m c main_v46 : FVec Ideal S4352x1024 .bf16) (ix2 p x)
    = pick (fun b l => qL X b l (headOn x) (laneOn x)) (qZ (laneOn x)) p := by
  rw [show V m c = fun b => V0 m c (Proc.devRef .tc b) from rfl, V_flat m c]
  repeat after_reads_at
  simp only [hX.qn, hX.qr]
  simp only [fR_e]
  rfl
theorem v57_eq (p : Fin 4352) (x : Fin 1024) : (V m c main_v57 : FVec Ideal S4352x1024 .bf16) (ix2 p x)
    = pick (fun b l => kL X b l (headOn x) (laneOn x)) (kZ (laneOn x)) p := by
  rw [show V m c = fun b => V0 m c (Proc.devRef .tc b) from rfl, V_flat m c]
  repeat after_reads_at
  simp only [hX.kn, hX.kr]
  simp only [bot_eq]
  rfl
theorem v69_eq (p : Fin 4352) (x : Fin 1024) : (V m c main_v69 : FVec Ideal S4352x1024 .bf16) (ix2 p x)
    = pick (fun b l => vL X b l (headOn x) (laneOn x)) (vZ (laneOn x)) p := by
  rw [show V m c = fun b => V0 m c (Proc.devRef .tc b) from rfl, V_flat m c]
  repeat after_reads_at
  simp only [hX.v]
  simp only [neg_one_eq]
  rfl
theorem v85_eq (p : Fin 4352) (x : Fin 512) : (V m c main_v85 : FVec Ideal S4352x512 .f32) (ix2 p x)
    = pick (fun b l => (X.d (ix3 b l x) : EReal)) 0 p := by
  rw [show V m c = fun b => V0 m c (Proc.devRef .tc b) from rfl, V_flat m c]
  repeat after_reads_at
  simp only [hX.d]
  rfl
theorem v80_eq (p : Fin 4352) (x : Fin 512) : (V m c main_v80 : FVec Ideal S4352x512 .f32) (ix2 p x)
    = pick (fun b l => (og X b l ⟨x.val / 64, by omega⟩ ⟨x.val % 64, Nat.mod_lt _ (by decide)⟩ : EReal)) 0 p := by
  rw [show V m c = fun b => V0 m c (Proc.devRef .tc b) from rfl, V_flat m c]
  repeat after_reads_at
  simp only [hX.qn, hX.qr, hX.kn, hX.kr, hX.v]
  simp only [sc_e, mx_e, ex_e, sm_e, pr_e, og_e]
  rfl
omit hX in
theorem after_app (l l' : List (HloOp τ sig (Elt Ideal))) (W : Valuation τ sig (Elt Ideal)) : StableHlo.after (l ++ l') W = StableHlo.after l' (StableHlo.after l W) := by
  induction l generalizing W with
  | nil => rfl
  | cons o l ih => exact ih _
/-- The rows' maxima and sums, before the packing. -/
theorem w7_eq (b : Fin 2) (H : Fin 8) (l : Fin 2064) (i : Fin 1) :
    (StableHlo.after (hostOps0.take 16) (fun b => m (c, b)) (Proc.devRef .tc main_v7) : FVec Ideal S2x8x2064x1 .f32) (ix4 b H l i) = (mx X b l H : EReal) := by
  simp only [hostOps0, List.take]
  repeat after_reads_at
  simp only [hX.qn, hX.qr, hX.kn, hX.kr]
  simp only [sc_e, mx_e]
theorem w12_eq (b : Fin 2) (H : Fin 8) (l : Fin 2064) (i : Fin 1) :
    (StableHlo.after (hostOps0.take 16) (fun b => m (c, b)) (Proc.devRef .tc main_v12) : FVec Ideal S2x8x2064x1 .f32) (ix4 b H l i) = (sm X b l H : EReal) := by
  simp only [hostOps0, List.take]
  repeat after_reads_at
  simp only [hX.qn, hX.qr, hX.kn, hX.kr]
  simp only [sc_e, mx_e, ex_e, sm_e]
omit hX in
theorem w20_eq (W : Valuation τ sig (Elt Ideal)) (b : Fin 2) (H : Fin 8) (l : Fin 2064) (i : Fin 1) (x y : EReal)
    (h7 : (W (Proc.devRef .tc main_v7) : FVec Ideal S2x8x2064x1 .f32) (ix4 b H l i) = x) (h12 : (W (Proc.devRef .tc main_v12) : FVec Ideal S2x8x2064x1 .f32) (ix4 b H l i) = y) :
    (StableHlo.after ((hostOps0.drop 16).take 9) W (Proc.devRef .tc main_v20) : FVec Ideal S2x8x2064x1 .f32) (ix4 b H l i) = x + Ideal.log y := by
  simp only [hostOps0, List.drop, List.take]
  repeat after_reads_at
  rw [h7, h12]
omit hX in
theorem w18_eq (W : Valuation τ sig (Elt Ideal)) (i : S_.Idx) :
    (StableHlo.after ((hostOps0.drop 16).take 9) W (Proc.devRef .tc main_v18) : FVec Ideal S_ .f32) i = Ideal.log (Ideal.ofBits .f32 1073741824#32) := by
  simp only [hostOps0, List.drop, List.take]
  repeat after_reads_at
omit hX in
theorem w24_of (W : Valuation τ sig (Elt Ideal)) (b : Fin 2) (l : Fin 2064) (H : Fin 8) (x y : EReal)
    (h20 : (W (Proc.devRef .tc main_v20) : FVec Ideal S2x8x2064x1 .f32) (ix4 b H l 0) = x) (h18 : (W (Proc.devRef .tc main_v18) : FVec Ideal S_ .f32) ix0 = y) :
    (StableHlo.after ((hostOps0.drop 25).take 4) W (Proc.devRef .tc main_v24) : FVec Ideal S2x2064x8 .f32) (ix3 b l H) = Ideal.div x y := by
  simp only [hostOps0, List.drop, List.take]
  repeat after_reads_at
  rw [h20, h18]
theorem w24_eq (b : Fin 2) (l : Fin 2064) (H : Fin 8) :
    (StableHlo.after (hostOps0.take 29) (fun b => m (c, b)) (Proc.devRef .tc main_v24) : FVec Ideal S2x2064x8 .f32) (ix3 b l H) = (lse X b l H : EReal) := by
  rw [show (hostOps0.take 29 : List (HloOp τ sig (Elt Ideal))) = hostOps0.take 16 ++ ((hostOps0.drop 16).take 9 ++ (hostOps0.drop 25).take 4) from rfl, after_app, after_app]
  exact (w24_of _ b l H _ _ (w20_eq _ b H l 0 _ _ (w7_eq hX b H l 0) (w12_eq hX b H l 0)) (w18_eq _ _)).trans (lse_e X b l H)
omit hX in
theorem w27_eq (W : Valuation τ sig (Elt Ideal)) (b : Fin 2) (l : Fin 2064) (i : Fin 4) (e : Fin 128) :
    (StableHlo.after ((hostOps0.drop 29).take 4) W (Proc.devRef .tc main_v27) : FVec Ideal S2x2064x4x128 .f32) (ix4 b l i e)
     = if h : e.val < 2 then (W (Proc.devRef .tc main_v24) : FVec Ideal S2x2064x8 .f32) (ix3 b l ⟨i.val * 2 + e.val, by omega⟩) else (0 : EReal) := by
  simp only [hostOps0, List.drop, List.take]
  repeat after_reads_at
omit hX in
theorem w75_eq (W : Valuation τ sig (Elt Ideal)) (p : Fin 4352) (x : Fin 512) :
    (StableHlo.after (hostOps0.drop 33) W (Proc.devRef .tc main_v75) : FVec Ideal S4352x512 .f32) (ix2 p x)
     = pick (α := EReal) (fun b l => (W (Proc.devRef .tc main_v27) : FVec Ideal S2x2064x4x128 .f32) (ix4 b l ⟨x.val / 128, by omega⟩ ⟨x.val % 128, Nat.mod_lt _ (by decide)⟩)) 0 p := by
  simp only [hostOps0, List.drop, List.take]
  repeat after_reads_at
  rfl
theorem v75_eq (p : Fin 4352) (x : Fin 512) : (V m c main_v75 : FVec Ideal S4352x512 .f32) (ix2 p x)
    = pick (fun b l => if h : x.val % 128 < 2 then (lse X b l ⟨x.val / 128 * 2 + x.val % 128, by omega⟩ : EReal) else 0) 0 p := by
  have h24 := w24_eq hX
  rw [show V m c = fun b => V0 m c (Proc.devRef .tc b) from rfl, V_flat m c,
    show (hostOps0 : List (HloOp τ sig (Elt Ideal))) = hostOps0.take 29 ++ ((hostOps0.drop 29).take 4 ++ hostOps0.drop 33) from rfl, after_app, after_app]
  generalize StableHlo.after (hostOps0.take 29) (fun b => m (c, b)) = W at h24
  refine (w75_eq _ p x).trans ?_
  refine congrArg (fun f => pick (α := EReal) f 0 p) (funext fun b => funext fun l => (w27_eq W b l _ _).trans ?_)
  show (dite (x.val % 128 < 2) _ _ : EReal) = _
  split_ifs with h
  · exact h24 b l _
  · rfl

theorem gQ_eq (b : Fin 2) (H : Fin 8) (r : Fin 2176) : gQ m c b H r = pick (fun b l => qL X b l H) qZ (rowOf b r) := by
  funext e
  unfold gQ
  rw [v46_eq hX, headOn_eq, laneOn_eq]
  unfold pick; split_ifs <;> rfl
theorem gK_eq (b : Fin 2) (H : Fin 8) (r : Fin 2176) : gK m c b H r = pick (fun b l => kL X b l H) kZ (rowOf b r) := by
  funext e
  unfold gK
  rw [v57_eq hX, headOn_eq, laneOn_eq]
  unfold pick; split_ifs <;> rfl
theorem gV_eq (b : Fin 2) (H : Fin 8) (r : Fin 2176) : gV m c b H r = pick (fun b l => vL X b l H) vZ (rowOf b r) := by
  funext e
  unfold gV
  rw [v69_eq hX, headOn_eq, laneOn_eq]
  unfold pick; split_ifs <;> rfl
theorem gD_eq (b : Fin 2) (H : Fin 8) (r : Fin 2176) : gD m c b H r = pick (fun b l => dL X b l H) (fun _ => 0) (rowOf b r) := by
  funext e
  unfold gD
  rw [v85_eq hX]
  unfold pick; split_ifs <;> rfl
theorem gO_eq (b : Fin 2) (H : Fin 8) (r : Fin 2176) : gO m c b H r = pick (fun b l => oL X b l H) (fun _ => 0) (rowOf b r) := by
  funext e
  unfold gO
  rw [v80_eq hX]
  unfold pick; split_ifs <;> rfl
theorem gL_eq (b : Fin 2) (H : Fin 8) (r : Fin 2176) : gL m c b H r = pick (fun b l => lL X b l H) (fun _ => 0) (rowOf b r) := by
  funext e
  unfold gL
  rw [v75_eq hX]
  have h1 : (pairOf H e).val / 128 = H.val / 2 := by show (128 * (H.val / 2) + e.val) / 128 = _; omega
  have h2 : (pairOf H e).val % 128 = e.val := by show (128 * (H.val / 2) + e.val) % 128 = _; omega
  have h : ∀ b l, (if h : (pairOf H e).val % 128 < 2 then (lse X b l ⟨(pairOf H e).val / 128 * 2 + (pairOf H e).val % 128, by omega⟩ : EReal) else 0) = lL X b l H e := fun b l => by
    unfold lL; simp only [h1, h2]
  simp only [h]
  unfold pick; split_ifs <;> rfl

/-! ## The gradients of the padded problem are those of the problem -/

theorem gW_real (b : Fin 2) (H : Fin 8) (l k : Fin 2064) : gW m c b H (at_ l) (at_ k) = (dp X b l H k : EReal) := by
  unfold gW
  rw [gD_eq hX, gO_eq hX, gL_eq hX, gQ_eq hX, gK_eq hX, gV_eq hX, pick_at, pick_at, pick_at, pick_at, pick_at, pick_at, dw_real]
theorem gW_key (b : Fin 2) (H : Fin 8) (l : Fin 2064) (j : Fin 2176) (h : 2064 ≤ j.val) : gW m c b H (at_ l) j = 0 := by
  unfold gW
  rw [gD_eq hX, gO_eq hX, gL_eq hX, gQ_eq hX, gK_eq hX, gV_eq hX, pick_at, pick_at, pick_at, pick_at, pick_pad _ _ _ _ h, dw_pad]
theorem gW_row (b : Fin 2) (H : Fin 8) (r j : Fin 2176) (h : 2064 ≤ r.val) : gW m c b H r j = 0 := by
  unfold gW
  rw [gD_eq hX, pick_pad _ _ _ _ h, dw_zero]
theorem gP_real (b : Fin 2) (H : Fin 8) (l k : Fin 2064) : gP m c b H (at_ l) (at_ k) = (pr X b l H k : EReal) := by
  unfold gP
  rw [gL_eq hX, gQ_eq hX, gK_eq hX, pick_at, pick_at, pick_at, pw_real]

theorem oQ_sum (b : Fin 2) (H : Fin 8) (l : Fin 2064) (e : Fin 128) (F : Fin 2064 → ℝ)
    (hF : ∀ k, kL X b k H e = (F k : EReal)) : oQ m c b H (at_ l) e = (((∑ k, dp X b l H k * F k) * cR : ℝ) : EReal) := by
  unfold oQ
  rw [sum_rows _ fun j hj => by rw [gW_key hX _ _ _ _ hj, zero_mul], cw_eq, EReal.coe_mul, ← Norm.coe_sum]
  refine congrArg (· * _) (Finset.sum_congr rfl fun k _ => ?_)
  rw [gW_real hX, gK_eq hX, pick_at, hF, EReal.coe_mul]
theorem oK_sum (b : Fin 2) (H : Fin 8) (k : Fin 2064) (e : Fin 128) (F : Fin 2064 → ℝ)
    (hF : ∀ l, qL X b l H e = ((F l * fR : ℝ) : EReal)) : oK m c b H (at_ k) e = (((∑ l, dp X b l H k * F l) * cR : ℝ) : EReal) := by
  unfold oK
  rw [sum_rows _ fun r hr => by rw [gW_row hX _ _ _ _ hr, zero_mul]]
  have h : ∀ l, gW m c b H (at_ l) (at_ k) * gQ m c b H (at_ l) e = ((dp X b l H k * F l * fR : ℝ) : EReal) := fun l => by
    rw [gW_real hX, gQ_eq hX, pick_at, hF, ← EReal.coe_mul, mul_assoc]
  simp only [h, Norm.coe_sum, ← EReal.coe_mul]
  refine congrArg _ ?_
  rw [← Finset.sum_mul, mul_assoc]
  refine congrArg (_ * ·) ?_
  have := log2_pos.ne'
  unfold fR
  field_simp
theorem oV_sum (b : Fin 2) (H : Fin 8) (k : Fin 2064) (d : Fin 64) : oV m c b H (at_ k) ⟨d.val, by omega⟩ = (dv X b k H d : EReal) := by
  unfold oV dv
  rw [sum_rows _ fun r hr => by rw [gD_eq hX, pick_pad _ _ _ _ hr, dx_zero, mul_zero], ← Norm.coe_sum]
  refine Finset.sum_congr rfl fun l _ => ?_
  rw [gP_real hX, gD_eq hX, gO_eq hX, pick_at, pick_at, dx_real, dif_pos d.isLt, EReal.coe_mul]

theorem oQ_n (b : Fin 2) (H : Fin 8) (l : Fin 2064) (d : Fin 64) : oQ m c b H (at_ l) ⟨d.val, by omega⟩ = (dqn X b l H d : EReal) :=
  oQ_sum hX b H l _ (fun k => X.kn (ix4 b k H d)) fun k => by unfold kL; rw [dif_pos d.isLt]
theorem oQ_r (b : Fin 2) (H : Fin 8) (l : Fin 2064) (d : Fin 32) : oQ m c b H (at_ l) ⟨64 + d.val, by omega⟩ = (dqr X b l H d : EReal) :=
  oQ_sum hX b H l _ (fun k => X.kr (ix3 b k d)) fun k => by
    unfold kL
    rw [dif_neg (by simp only []; omega), dif_pos (by simp only []; omega)]
    exact congrArg (fun d' => (X.kr (ix3 b k d') : EReal)) (Fin.ext (Nat.add_sub_cancel_left 64 d.val))
theorem oK_n (b : Fin 2) (H : Fin 8) (k : Fin 2064) (d : Fin 64) : oK m c b H (at_ k) ⟨d.val, by omega⟩ = (dkn X b k H d : EReal) :=
  oK_sum hX b H k _ (fun l => X.qn (ix4 b l H d)) fun l => by unfold qL; rw [dif_pos d.isLt, EReal.coe_mul]
theorem oK_r (b : Fin 2) (H : Fin 8) (k : Fin 2064) (d : Fin 32) : oK m c b H (at_ k) ⟨64 + d.val, by omega⟩ = (dkh X b k H d : EReal) :=
  oK_sum hX b H k _ (fun l => X.qr (ix4 b l H d)) fun l => by
    unfold qL
    rw [dif_neg (by simp only []; omega), dif_pos (by simp only []; omega), EReal.coe_mul]
    exact congrArg (fun d' => (X.qr (ix4 b l H d') : EReal) * (fR : EReal)) (Fin.ext (Nat.add_sub_cancel_left 64 d.val))
end Cert.MlaPack
end
-- ==== Proof.MlaTail.lean ====
/- The attention gradient's results, read from the arrays its kernel leaves. -/
module
public import proofs.«01_k».proof.Proof.MlaPack
@[expose] public section
set_option maxRecDepth 16384
noncomputable section
open Idealize.ShloMosaic Idealize.ShloMosaic.TcCoe Idealize.SL.Sem Idealize.ShloMosaic.StableHlo
open Idealize.ShloMosaic.Pipeline (Dat)
namespace Cert.MlaTail
open Cert.MlaIdeal Cert.MlaIdeal.Gen Cert.MlaRun Cert.MlaTile Cert.MlaForm Cert.MlaTiles Cert.MlaPack

/-! ## The host lines behind the kernel, over any arrays -/
variable (W : Valuation τ sig (Elt Ideal))
/-- A row's place among the packed rows. -/
theorem place_lt (b : Fin 2) (l : Fin 2064) (H : Fin 8) (e : Fin 128) (p : Fin 4352) (x : Fin 1024) (hx : x.val = 128 * H.val + e.val)
    (h : l.val < 16) (hp : p.val = b.val * 2176 + (2048 + l.val)) : ix2 p x = ix2 (rowOf b (at_ l)) (headOf H e) := by
  refine congrArg₂ ix2 (Fin.ext ?_) (Fin.ext hx)
  show _ = 2176 * b.val + (if l.val < 16 then 2048 + l.val else l.val - 16)
  rw [if_pos h]; omega
theorem place_ge (b : Fin 2) (l : Fin 2064) (H : Fin 8) (e : Fin 128) (p : Fin 4352) (x : Fin 1024) (hx : x.val = 128 * H.val + e.val)
    (h : ¬ l.val < 16) (hp : p.val = b.val * 2176 + (l.val - 16)) : ix2 p x = ix2 (rowOf b (at_ l)) (headOf H e) := by
  refine congrArg₂ ix2 (Fin.ext ?_) (Fin.ext hx)
  show _ = 2176 * b.val + (if l.val < 16 then 2048 + l.val else l.val - 16)
  rw [if_neg h]; omega
theorem t100 (b : Fin 2) (l : Fin 2064) (H : Fin 8) (d : Fin 64) :
    (StableHlo.after hostOps1 W (Proc.devRef .tc main_v100) : FVec Ideal S2x2064x8x64 .f32) (ix4 b l H d)
      = (W (Proc.devRef .tc main_v87_0) : FVec Ideal S4352x1024 .f32) (ix2 (rowOf b (at_ l)) (headOf H ⟨d.val, by omega⟩)) := by
  repeat after_reads_at
  split_ifs with h
  · exact congrArg (W (Proc.devRef .tc main_v87_0)) (place_lt b l H _ _ _ (congrArg (· + _) (Nat.mul_comm _ _)) h rfl)
  all_goals exact congrArg (W (Proc.devRef .tc main_v87_0)) (place_ge b l H _ _ _ (congrArg (· + _) (Nat.mul_comm _ _)) h rfl)
theorem t101 (b : Fin 2) (l : Fin 2064) (H : Fin 8) (d : Fin 32) :
    (StableHlo.after hostOps1 W (Proc.devRef .tc main_v101) : FVec Ideal S2x2064x8x32 .f32) (ix4 b l H d)
      = (W (Proc.devRef .tc main_v87_0) : FVec Ideal S4352x1024 .f32) (ix2 (rowOf b (at_ l)) (headOf H ⟨64 + d.val, by omega⟩)) := by
  repeat after_reads_at
  split_ifs with h
  · exact congrArg (W (Proc.devRef .tc main_v87_0)) (place_lt b l H _ _ _ (congrArg (· + _) (Nat.mul_comm _ _)) h rfl)
  all_goals exact congrArg (W (Proc.devRef .tc main_v87_0)) (place_ge b l H _ _ _ (congrArg (· + _) (Nat.mul_comm _ _)) h rfl)
theorem t102 (b : Fin 2) (l : Fin 2064) (H : Fin 8) (d : Fin 64) :
    (StableHlo.after hostOps1 W (Proc.devRef .tc main_v102) : FVec Ideal S2x2064x8x64 .f32) (ix4 b l H d)
      = (W (Proc.devRef .tc main_v87_1) : FVec Ideal S4352x1024 .f32) (ix2 (rowOf b (at_ l)) (headOf H ⟨d.val, by omega⟩)) := by
  repeat after_reads_at
  split_ifs with h
  · exact congrArg (W (Proc.devRef .tc main_v87_1)) (place_lt b l H _ _ _ (congrArg (· + _) (Nat.mul_comm _ _)) h rfl)
  all_goals exact congrArg (W (Proc.devRef .tc main_v87_1)) (place_ge b l H _ _ _ (congrArg (· + _) (Nat.mul_comm _ _)) h rfl)
theorem t103 (b : Fin 2) (l : Fin 2064) (H : Fin 8) (d : Fin 32) :
    (StableHlo.after (hostOps1.take 16) W (Proc.devRef .tc main_v103) : FVec Ideal S2x2064x8x32 .f32) (ix4 b l H d)
      = (W (Proc.devRef .tc main_v87_1) : FVec Ideal S4352x1024 .f32) (ix2 (rowOf b (at_ l)) (headOf H ⟨64 + d.val, by omega⟩)) := by
  simp only [hostOps1, List.take]
  repeat after_reads_at
  split_ifs with h
  · exact congrArg (W (Proc.devRef .tc main_v87_1)) (place_lt b l H _ _ _ (congrArg (· + _) (Nat.mul_comm _ _)) h rfl)
  all_goals exact congrArg (W (Proc.devRef .tc main_v87_1)) (place_ge b l H _ _ _ (congrArg (· + _) (Nat.mul_comm _ _)) h rfl)
theorem t105 (b : Fin 2) (l : Fin 2064) (H : Fin 8) (d : Fin 64) :
    (StableHlo.after hostOps1 W (Proc.devRef .tc main_v105) : FVec Ideal S2x2064x8x64 .f32) (ix4 b l H d)
      = (W (Proc.devRef .tc main_v87_2) : FVec Ideal S4352x1024 .f32) (ix2 (rowOf b (at_ l)) (headOf H ⟨d.val, by omega⟩)) := by
  repeat after_reads_at
  split_ifs with h
  · exact congrArg (W (Proc.devRef .tc main_v87_2)) (place_lt b l H _ _ _ (congrArg (· + _) (Nat.mul_comm _ _)) h rfl)
  all_goals exact congrArg (W (Proc.devRef .tc main_v87_2)) (place_ge b l H _ _ _ (congrArg (· + _) (Nat.mul_comm _ _)) h rfl)
/-- A sum over the heads. -/
theorem sum_heads (y : FVec Ideal S2x2064x8x32 .f32) (b : Fin 2) (l : Fin 2064) (d : Fin 32) :
    Host.reduceAdd y (constant S_ .f32 0x00000000#32) reducesTo_S2x2064x8x32_S2x2064x32_d2 h_S_ (ix3 b l d) = ∑ H : Fin 8, y (ix4 b l H d) := by
  simp only [Host.reduceAdd, Ideal.hostReduceAdd_def]
  rw [Ideal.hostReduceAdd_single reducesTo_S2x2064x8x32_S2x2064x32_d2 (by decide)]
  have h0 : (constant S_ .f32 0x00000000#32 : FVec Ideal S_ .f32) (Shape.Idx.first h_S_) = (0 : EReal) := by
    show Ideal.ofBits .f32 0x00000000#32 = 0
    simp [Ideal.ofBits, Ideal.ieee]
  refine (congrArg (· + _) h0).trans ((zero_add _).trans (Finset.sum_congr rfl fun k _ => ?_))
  exact congrArg y (funext fun a => Fin.ext (by match a with | ⟨0, _⟩ => rfl | ⟨1, _⟩ => rfl | ⟨2, _⟩ => rfl | ⟨3, _⟩ => rfl))
theorem t104 (b : Fin 2) (l : Fin 2064) (d : Fin 32) (F : Fin 8 → EReal)
    (hF : ∀ H, (W (Proc.devRef .tc main_v87_1) : FVec Ideal S4352x1024 .f32) (ix2 (rowOf b (at_ l)) (headOf H ⟨64 + d.val, by omega⟩)) = F H) :
    (StableHlo.after hostOps1 W (Proc.devRef .tc main_v104) : FVec Ideal S2x2064x32 .f32) (ix3 b l d) = ∑ H : Fin 8, F H := by
  have h : ∀ H, _ = F H := fun H => (t103 W b l H d).trans (hF H)
  rw [show (hostOps1 : List (HloOp τ sig (Elt Ideal))) = hostOps1.take 16 ++ hostOps1.drop 16 from rfl, after_app]
  generalize StableHlo.after (hostOps1.take 16) W = W1 at h
  simp only [hostOps1, List.drop]
  after_results
  exact (sum_heads _ b l d).trans (Finset.sum_congr rfl fun H _ => h H)

/-! ## The results -/
variable {m : (ℓ : Loc nD τ sig) → Buf (Elt Ideal) ℓ} {c : Dev nD} {X : Reals} (hX : Is m c X)

theorem arr_inj : Function.Injective (Pipeline.arrRef (cfgs 0).spec) := winFacts0.arr_inj
/-- What the kernel leaves in the array of window `w`. -/
theorem left_at (m : (ℓ : Loc nD τ sig) → Buf (Elt Ideal) ℓ) (c : Dev nD) (w : Fin 9) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr (cfgs 0).spec arr_inj c (V0 m c) (fun w => (dats m 0 c).arrAt w (cfgs 0).N) w
theorem tail_flat (m : (ℓ : Loc nD τ sig) → Buf (Elt Ideal) ℓ) (c : Dev nD) (b : Ref sig .tc) :
    Pipeline.afterTail₀ cfgs (dats m) 0 (V0 m) [hostOps1] c b
      = StableHlo.after hostOps1 (Pipeline.withArrays (cfgs 0).spec c (V0 m c) (fun w => (dats m 0 c).arrAt w (cfgs 0).N)) (Proc.devRef .tc b) := by
  unfold Pipeline.afterTail₀
  simp only [List.flatten_cons, List.flatten_nil, List.append_nil]
theorem spot (b : Fin 2) (r : Fin 2176) (H : Fin 8) (e : Fin 128) :
    batchAt (rowOf b r) = b ∧ Cert.MlaTiles.rowAt (rowOf b r) = r ∧ headAt (headOf H e) = H ∧ laneAt (headOf H e) = e :=
  ⟨Fin.ext (by show (2176 * b.val + r.val) / 2176 = b.val; omega), Fin.ext (by show (2176 * b.val + r.val) % 2176 = r.val; omega),
    Fin.ext (by show (128 * H.val + e.val) / 128 = H.val; omega), Fin.ext (by show (128 * H.val + e.val) % 128 = e.val; omega)⟩
theorem resQ_at (m : (ℓ : Loc nD τ sig) → Buf (Elt Ideal) ℓ) (c : Dev nD) (b : Fin 2) (r : Fin 2176) (H : Fin 8) (e : Fin 128) : resQ m c (ix2 (rowOf b r) (headOf H e)) = oQ m c b H r e := by
  obtain ⟨h1, h2, h3, h4⟩ := spot b r H e
  show oQ m c (batchAt (rowOf b r)) (headAt (headOf H e)) (Cert.MlaTiles.rowAt (rowOf b r)) (laneAt (headOf H e)) = _
  rw [h1, h2, h3, h4]
theorem resK_at (m : (ℓ : Loc nD τ sig) → Buf (Elt Ideal) ℓ) (c : Dev nD) (b : Fin 2) (r : Fin 2176) (H : Fin 8) (e : Fin 128) : resK m c (ix2 (rowOf b r) (headOf H e)) = oK m c b H r e := by
  obtain ⟨h1, h2, h3, h4⟩ := spot b r H e
  show oK m c (batchAt (rowOf b r)) (headAt (headOf H e)) (Cert.MlaTiles.rowAt (rowOf b r)) (laneAt (headOf H e)) = _
  rw [h1, h2, h3, h4]
theorem resV_at (m : (ℓ : Loc nD τ sig) → Buf (Elt Ideal) ℓ) (c : Dev nD) (b : Fin 2) (r : Fin 2176) (H : Fin 8) (e : Fin 128) : resV m c (ix2 (rowOf b r) (headOf H e)) = oV m c b H r e := by
  obtain ⟨h1, h2, h3, h4⟩ := spot b r H e
  show oV m c (batchAt (rowOf b r)) (headAt (headOf H e)) (Cert.MlaTiles.rowAt (rowOf b r)) (laneAt (headOf H e)) = _
  rw [h1, h2, h3, h4]

include hX
theorem out100 : (Pipeline.afterTail₀ cfgs (dats m) 0 (V0 m) [hostOps1] c main_v100 : FVec Ideal S2x2064x8x64 .f32) = fun i => (dqn X (i 0) (i 1) (i 2) (i 3) : EReal) := by
  funext i
  idx_vars i
  rw [tail_flat]
  refine (t100 _ i0 i1 i2 i3).trans ?_
  exact (congrFun ((left_at m c 6).trans (finalQ m c)) _).trans ((resQ_at m c _ _ _ _).trans (oQ_n hX i0 i2 i1 i3))
theorem out101 : (Pipeline.afterTail₀ cfgs (dats m) 0 (V0 m) [hostOps1] c main_v101 : FVec Ideal S2x2064x8x32 .f32) = fun i => (dqr X (i 0) (i 1) (i 2) (i 3) : EReal) := by
  funext i
  idx_vars i
  rw [tail_flat]
  refine (t101 _ i0 i1 i2 i3).trans ?_
  exact (congrFun ((left_at m c 6).trans (finalQ m c)) _).trans ((resQ_at m c _ _ _ _).trans (oQ_r hX i0 i2 i1 i3))
theorem out102 : (Pipeline.afterTail₀ cfgs (dats m) 0 (V0 m) [hostOps1] c main_v102 : FVec Ideal S2x2064x8x64 .f32) = fun i => (dkn X (i 0) (i 1) (i 2) (i 3) : EReal) := by
  funext i
  idx_vars i
  rw [tail_flat]
  refine (t102 _ i0 i1 i2 i3).trans ?_
  exact (congrFun ((left_at m c 7).trans (finalK m c)) _).trans ((resK_at m c _ _ _ _).trans (oK_n hX i0 i2 i1 i3))
theorem out104 : (Pipeline.afterTail₀ cfgs (dats m) 0 (V0 m) [hostOps1] c main_v104 : FVec Ideal S2x2064x32 .f32) = fun i => (dkr X (i 0) (i 1) (i 2) : EReal) := by
  funext i
  idx_vars i
  rw [tail_flat]
  refine (t104 _ i0 i1 i2 (fun H => (dkh X i0 i1 H i2 : EReal)) fun H => ?_).trans (Norm.coe_sum _ _)
  exact (congrFun ((left_at m c 7).trans (finalK m c)) _).trans ((resK_at m c _ _ _ _).trans (oK_r hX i0 H i1 i2))
theorem out105 : (Pipeline.afterTail₀ cfgs (dats m) 0 (V0 m) [hostOps1] c main_v105 : FVec Ideal S2x2064x8x64 .f32) = fun i => (dv X (i 0) (i 1) (i 2) (i 3) : EReal) := by
  funext i
  idx_vars i
  rw [tail_flat]
  refine (t105 _ i0 i1 i2 i3).trans ?_
  exact (congrFun ((left_at m c 8).trans (finalV m c)) _).trans ((resV_at m c _ _ _ _).trans (oV_sum hX i0 i2 i1 i3))
end Cert.MlaTail
end
-- ==== Proof.MlaRefForm.lean ====
/- The reference gradients of the attention, over the real numbers. -/
module
public import proofs.«01_k».proof.Proof.Gen.MlaRefIdeal.Read
public import proofs.«01_k».proof.Proof.MlaForm
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.MlaRefForm
open Cert.MlaRefIdeal Cert.MlaRefIdeal.Gen Cert.MlaRefIdeal.Read Cert.MlaForm
variable (X : Reals)
abbrev a0 : FVec Ideal S2x2064x8x64 .f32 := fun i => (X.qn i : EReal)
abbrev a1 : FVec Ideal S2x2064x8x32 .f32 := fun i => (X.qr i : EReal)
abbrev a2 : FVec Ideal S2x2064x8x64 .f32 := fun i => (X.kn i : EReal)
abbrev a3 : FVec Ideal S2x2064x32 .f32 := fun i => (X.kr i : EReal)
abbrev a4 : FVec Ideal S2x2064x8x64 .f32 := fun i => (X.v i : EReal)
abbrev a5 : FVec Ideal S2x2064x512 .f32 := fun i => (X.d i : EReal)

theorem max_low (x : EReal) : max (Ideal.ofBits .f32 4286578688#32) x = x := by rw [bot_eq]; exact max_eq_right bot_le
theorem r5 (b : Fin 2) (H : Fin 8) (l k : Fin 2064) : val_main_v5 (F := Ideal) (a0 X) (a1 X) (a2 X) (a3 X) (ix4 b H l k) = (sc X b l H k : EReal) := by
  pointwise [val_main_v5, val_main_v4, val_main_v3, val_main_v2, val_main_v1, val_main_v0, val_main_cst]
  exact sc_e X b l H k
theorem r6 (b : Fin 2) (H : Fin 8) (l : Fin 2064) : val_main_v6 (F := Ideal) (a0 X) (a1 X) (a2 X) (a3 X) (ix3 b H l) = (mx X b l H : EReal) := by
  pointwise [val_main_v6, val_main_cst_0]
  simp only [r5, mx_e]
theorem r13 (b : Fin 2) (H : Fin 8) (l : Fin 2064) : val_main_v13 (F := Ideal) (a0 X) (a1 X) (a2 X) (a3 X) (ix3 b H l) = (mx X b l H : EReal) := by
  rw [val_main_v13_apply, val_main_v12_apply, val_main_cst_2_apply]
  rw [r6]
  exact max_low _
theorem r24 (b : Fin 2) (H : Fin 8) (l k : Fin 2064) : val_main_v24 (F := Ideal) (a0 X) (a1 X) (a2 X) (a3 X) (ix4 b H l k) = (mx X b l H : EReal) := by
  pointwise [val_main_v24, val_main_v23]
  rw [r13]
theorem r25 (b : Fin 2) (H : Fin 8) (l k : Fin 2064) : val_main_v25 (F := Ideal) (a0 X) (a1 X) (a2 X) (a3 X) (ix4 b H l k) = (sc X b l H k : EReal) - (mx X b l H : EReal) := by
  rw [val_main_v25_apply, r5, r24]
  rfl
theorem r26 (b : Fin 2) (H : Fin 8) (l k : Fin 2064) : val_main_v26 (F := Ideal) (a0 X) (a1 X) (a2 X) (a3 X) (ix4 b H l k) = (ex X b l H k : EReal) := by
  rw [val_main_v26_apply, r25]
  exact ex_e X b l H k
theorem r27 (b : Fin 2) (H : Fin 8) (l : Fin 2064) : val_main_v27 (F := Ideal) (a0 X) (a1 X) (a2 X) (a3 X) (ix3 b H l) = (sm X b l H : EReal) := by
  pointwise [val_main_v27, val_main_cst_8]
  simp only [r26, sm_e]
theorem r30 (b : Fin 2) (H : Fin 8) (l k : Fin 2064) : val_main_v30 (F := Ideal) (a0 X) (a1 X) (a2 X) (a3 X) (ix4 b H l k) = (pr X b l H k : EReal) := by
  pointwise [val_main_v30, val_main_v29, val_main_v28]
  simp only [r26, r27, pr_e]
theorem r39 (b : Fin 2) (H : Fin 8) (l k : Fin 2064) : val_main_v39 (F := Ideal) (a4 X) (a5 X) (ix4 b H l k) = (gv X b l H k : EReal) := by
  pointwise [val_main_v39, val_main_v38, val_main_v37]
  simp only [← EReal.coe_mul, Norm.coe_sum]
  rfl
theorem r33 (b : Fin 2) (H : Fin 8) (l : Fin 2064) (i : Fin 1) : val_main_v33 (F := Ideal) (a0 X) (a1 X) (a2 X) (a3 X) (ix4 b H l i) = ((1 / (sm X b l H * sm X b l H) : ℝ) : EReal) := by
  pointwise [val_main_v33, val_main_v32, val_main_v31, val_main_v28, val_main_cst_9]
  simp only [r27]
  rw [← EReal.coe_mul, ← EReal.coe_one, Norm.div_real _ _ (mul_pos (sm_pos X b l H) (sm_pos X b l H)).ne']
theorem r44 (b : Fin 2) (H : Fin 8) (l k : Fin 2064) : val_main_v44 (F := Ideal) (a0 X) (a1 X) (a2 X) (a3 X) (a4 X) (a5 X) (ix4 b H l k) = ((gv X b l H k * (1 / (sm X b l H * sm X b l H)) * ex X b l H k : ℝ) : EReal) := by
  pointwise [val_main_v44, val_main_v43, val_main_v42]
  simp only [r39, r26, r33, ← EReal.coe_mul]
theorem r45 (b : Fin 2) (H : Fin 8) (l : Fin 2064) : val_main_v45 (F := Ideal) (a0 X) (a1 X) (a2 X) (a3 X) (a4 X) (a5 X) (ix3 b H l) = ((del X b l H / sm X b l H : ℝ) : EReal) := by
  pointwise [val_main_v45, val_main_cst_10]
  simp only [r44, Norm.coe_sum]
  refine congrArg _ ?_
  rw [del_eq, Finset.sum_div]
  refine Finset.sum_congr rfl fun k _ => ?_
  unfold pr
  have := (sm_pos X b l H).ne'
  field_simp
theorem r55 (b : Fin 2) (H : Fin 8) (l k : Fin 2064) : val_main_v55 (F := Ideal) (a0 X) (a1 X) (a2 X) (a3 X) (a4 X) (a5 X) (ix4 b H l k) = ((dp X b l H k * cR : ℝ) : EReal) := by
  pointwise [val_main_v55, val_main_v54, val_main_v53, val_main_v52, val_main_v51, val_main_v50, val_main_v49, val_main_v48, val_main_v47, val_main_v46, val_main_v28, val_main_cst_11, val_main_cst_12]
  simp only [r39, r26, r27, r45]
  rw [show Ideal.ofBits .f32 1037108716#32 = (cR : EReal) from cw_eq, Norm.div_real _ _ (sm_pos X b l H).ne', Fin.sum_univ_one, ← EReal.coe_neg, ← EReal.coe_add, ← EReal.coe_mul, ← EReal.coe_mul]
  refine congrArg _ ?_
  unfold dp pr
  have := (sm_pos X b l H).ne'
  field_simp
  ring
theorem r62 (b : Fin 2) (l : Fin 2064) (H : Fin 8) (d : Fin 64) : val_main_v62 (F := Ideal) (a0 X) (a1 X) (a2 X) (a3 X) (a4 X) (a5 X) (ix4 b l H d) = (dqn X b l H d : EReal) := by
  pointwise [val_main_v62, val_main_v61]
  simp only [r55]
  simp only [← EReal.coe_mul, Norm.coe_sum]
  refine congrArg _ ?_
  unfold dqn
  rw [Finset.sum_mul]
  exact Finset.sum_congr rfl fun k _ => by ring
theorem r57 (b : Fin 2) (l : Fin 2064) (H : Fin 8) (d : Fin 32) : val_main_v57 (F := Ideal) (a0 X) (a1 X) (a2 X) (a3 X) (a4 X) (a5 X) (ix4 b l H d) = (dqr X b l H d : EReal) := by
  pointwise [val_main_v57, val_main_v56]
  simp only [r55]
  simp only [← EReal.coe_mul, Norm.coe_sum]
  refine congrArg _ ?_
  unfold dqr
  rw [Finset.sum_mul]
  exact Finset.sum_congr rfl fun k _ => by ring
theorem r60 (b : Fin 2) (l : Fin 2064) (H : Fin 8) (d : Fin 64) : val_main_v60 (F := Ideal) (a0 X) (a1 X) (a2 X) (a3 X) (a4 X) (a5 X) (ix4 b l H d) = (dkn X b l H d : EReal) := by
  pointwise [val_main_v60, val_main_v59]
  simp only [r55]
  simp only [← EReal.coe_mul, Norm.coe_sum]
  refine congrArg _ ?_
  unfold dkn
  rw [Finset.sum_mul]
  exact Finset.sum_congr rfl fun k _ => by ring
theorem r58 (b : Fin 2) (k : Fin 2064) (d : Fin 32) : val_main_v58 (F := Ideal) (a0 X) (a1 X) (a2 X) (a3 X) (a4 X) (a5 X) (ix3 b k d) = (dkr X b k d : EReal) := by
  pointwise [val_main_v58, val_main_v56]
  simp only [r55]
  simp only [← EReal.coe_mul, Norm.coe_sum]
  refine congrArg _ ?_
  unfold dkr dkh
  rw [Finset.sum_comm]
  refine Finset.sum_congr rfl fun H _ => ?_
  rw [Finset.sum_mul]
  exact Finset.sum_congr rfl fun l _ => by ring
theorem r41 (b : Fin 2) (k : Fin 2064) (H : Fin 8) (d : Fin 64) : val_main_v41 (F := Ideal) (a0 X) (a1 X) (a2 X) (a3 X) (a5 X) (ix4 b k H d) = (dv X b k H d : EReal) := by
  pointwise [val_main_v41, val_main_v40, val_main_v38, val_main_v37]
  simp only [r30]
  simp only [← EReal.coe_mul, Norm.coe_sum]
  refine congrArg _ (Finset.sum_congr rfl fun l _ => mul_comm _ _)
end Cert.MlaRefForm
end
-- ==== Proof.MlaValue.lean ====
/- The attention's gradients are the reference's, on finite arguments. -/
module
public import proofs.«01_k».proof.Proof.MlaClaim
public import proofs.«01_k».proof.Proof.MlaTail
public import proofs.«01_k».proof.Proof.MlaRefForm
@[expose] public section
set_option maxRecDepth 16384
noncomputable section
open Idealize.ShloMosaic Idealize.ShloMosaic.TcCoe Idealize.SL.Sem
namespace Cert.MlaValue
open Cert.Norm Cert.MlaIdeal Cert.MlaForm Cert.MlaPack Cert.MlaTail

attribute [local instance] Cert.Mla.Gen.facts Cert.MlaIdeal.Gen.facts Cert.MlaRefIdeal.Gen.facts Cert.MlaClaim.pre_facts

variable (m : (ℓ : Loc nD τ sig) → Buf (Elt Ideal) ℓ) (c : Dev nD)

/-- The six arguments. -/
abbrev b0 : FVec Ideal S2x2064x8x64 .f32 := m ((c.tc : Thread nD τ).loc main_arg0)
abbrev b1 : FVec Ideal S2x2064x8x32 .f32 := m ((c.tc : Thread nD τ).loc main_arg1)
abbrev b2 : FVec Ideal S2x2064x8x64 .f32 := m ((c.tc : Thread nD τ).loc main_arg2)
abbrev b3 : FVec Ideal S2x2064x32 .f32 := m ((c.tc : Thread nD τ).loc main_arg3)
abbrev b4 : FVec Ideal S2x2064x8x64 .f32 := m ((c.tc : Thread nD τ).loc main_arg4)
abbrev b5 : FVec Ideal S2x2064x512 .f32 := m ((c.tc : Thread nD τ).loc main_arg5)

/-- The precondition says that every element of every argument is a number. -/
theorem nums (h : Cert.Pre_MlaIdeal_mla_finite m) :
    (∀ i, Num (b0 m c i)) ∧ (∀ i, Num (b1 m c i)) ∧ (∀ i, Num (b2 m c i)) ∧ (∀ i, Num (b3 m c i)) ∧ (∀ i, Num (b4 m c i)) ∧ (∀ i, Num (b5 m c i)) := by
  have h := congrFun (h c) (fun x => x.elim0)
  dsimp only [Cert.Pre_mla_finite.fn, Cert.Pre_mla_finite.fn_part1] at h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨num_of_all _ _ _ _ _ h0, num_of_all _ _ _ _ _ h1, num_of_all _ _ _ _ _ h2, num_of_all _ _ _ _ _ h3,
    num_of_all _ _ _ _ _ h4, num_of_all _ _ _ _ _ h5⟩

/-- The arguments' real numbers. -/
def reals (h : Cert.Pre_MlaIdeal_mla_finite m) : Reals where
  qn i := ((nums m c h).1 i).choose
  qr i := ((nums m c h).2.1 i).choose
  kn i := ((nums m c h).2.2.1 i).choose
  kr i := ((nums m c h).2.2.2.1 i).choose
  v i := ((nums m c h).2.2.2.2.1 i).choose
  d i := ((nums m c h).2.2.2.2.2 i).choose

theorem is_reals (h : Cert.Pre_MlaIdeal_mla_finite m) : Is m c (reals m c h) where
  qn := funext fun i => ((nums m c h).1 i).choose_spec
  qr := funext fun i => ((nums m c h).2.1 i).choose_spec
  kn := funext fun i => ((nums m c h).2.2.1 i).choose_spec
  kr := funext fun i => ((nums m c h).2.2.2.1 i).choose_spec
  v := funext fun i => ((nums m c h).2.2.2.2.1 i).choose_spec
  d := funext fun i => ((nums m c h).2.2.2.2.2 i).choose_spec

theorem algebraic : Cert.algebraic_MlaIdeal_MlaRefIdeal_pre_mla_finite := by
  intro m g m' g' hpre hagree
  refine ⟨fun c => (fun i => (dqn (reals m c hpre) (i 0) (i 1) (i 2) (i 3) : EReal) : FVec Ideal S2x2064x8x64 .f32),
    fun c => (fun i => (dqr (reals m c hpre) (i 0) (i 1) (i 2) (i 3) : EReal) : FVec Ideal S2x2064x8x32 .f32),
    fun c => (fun i => (dkn (reals m c hpre) (i 0) (i 1) (i 2) (i 3) : EReal) : FVec Ideal S2x2064x8x64 .f32),
    fun c => (fun i => (dkr (reals m c hpre) (i 0) (i 1) (i 2) : EReal) : FVec Ideal S2x2064x32 .f32),
    fun c => (fun i => (dv (reals m c hpre) (i 0) (i 1) (i 2) (i 3) : EReal) : FVec Ideal S2x2064x8x64 .f32), ?_, ?_⟩
  · refine (θ_run defs _ _).mono ?_ (θ_run_and (MlaRun.run_main m g) (MlaRun.unchanged m g))
    rintro r ⟨h, hu⟩ c
    have hX := is_reals m c hpre
    exact ⟨((h c).2 main_v100 (by decide)).trans (out100 hX), ((h c).2 main_v101 (by decide)).trans (out101 hX),
      ((h c).2 main_v102 (by decide)).trans (out102 hX), ((h c).2 main_v104 (by decide)).trans (out104 hX),
      ((h c).2 main_v105 (by decide)).trans (out105 hX), hu c⟩
  · refine (θ_run MlaRefIdeal.defs _ _).mono ?_ (MlaRefIdeal.Value.run m' g')
    intro r h c
    obtain ⟨h0, h1, h2, h3, h4, hu⟩ := h c
    obtain ⟨e0, e1, e2, e3, e4, e5⟩ := hagree c
    have hX := is_reals m c hpre
    replace e0 := e0.trans hX.qn
    replace e1 := e1.trans hX.qr
    replace e2 := e2.trans hX.kn
    replace e3 := e3.trans hX.kr
    replace e4 := e4.trans hX.v
    replace e5 := e5.trans hX.d
    refine ⟨h0.trans ?_, h1.trans ?_, h2.trans ?_, h3.trans ?_, h4.trans ?_, hu⟩
    · rw [MlaRefIdeal.Read.val_main_v62_eq, e0, e1, e2, e3, e4, e5]; funext i; idx_vars i; exact MlaRefForm.r62 _ _ _ _ _
    · rw [MlaRefIdeal.Read.val_main_v57_eq, e0, e1, e2, e3, e4, e5]; funext i; idx_vars i; exact MlaRefForm.r57 _ _ _ _ _
    · rw [MlaRefIdeal.Read.val_main_v60_eq, e0, e1, e2, e3, e4, e5]; funext i; idx_vars i; exact MlaRefForm.r60 _ _ _ _ _
    · rw [MlaRefIdeal.Read.val_main_v58_eq, e0, e1, e2, e3, e4, e5]; funext i; idx_vars i; exact MlaRefForm.r58 _ _ _ _
    · refine (MlaRefIdeal.Read.val_main_v41_eq _ _ _ _ _).trans ?_
      rw [e0, e1, e2, e3, e5]; funext i; idx_vars i; exact MlaRefForm.r41 _ _ _ _ _
end Cert.MlaValue
end
-- ==== Proof.HeadRows.lean ====
/- The rows the last layer's gradient kernel works on, read from its operands. -/
module
public import proofs.«01_k».proof.Proof.Gen.HeadIdeal.Frame
public import proofs.«01_k».proof.Proof.Norm
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![2 * t.val / 17, min (2 * t.val % 17) 15, 0]
    ∧ win0_3.index t = ![(2 * t.val + 1) / 17, min ((2 * t.val + 1) % 17) 15, 0]
    ∧ win0_4.index t = ![t.val, 0]
    ∧ win0_5.index t = ![t.val, 0]
    ∧ win0_6.index t = ![t.val, 2]
    ∧ win0_7.index t = ![t.val, 4]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0]
    ∧ win0_17.index t = ![0, 0]
    ∧ win0_18.index t = ![t.val, 0]
    ∧ win0_19.index t = ![0, 0]
    ∧ win0_20.index t = ![0, 0] :=
  (by decide +kernel : ∀ t : Fin grid0.N, _)

/-- The lengths of a half row and of a row, the number added to a mean square, and a row's share of its mean. -/
abbrev Nc : EReal := Ideal.ofBits .f32 1140850688#32
abbrev Mc : EReal := Ideal.ofBits .f32 1149239296#32
abbrev ec : EReal := Ideal.ofBits .f32 897988541#32
abbrev Dc : EReal := Ideal.ofBits .f32 981467136#32

theorem points_lt (t : Fin cfg0.N) : t.val < 17 := t.isLt
/-- Row `r` of the block at point `t`. -/
def rowOf (t : Fin cfg0.N) (r : Fin 256) : Fin 4352 := ⟨t.val * 256 + r.val, by have := points_lt t; omega⟩

/-! ### The packed rows: the residual stream, the two halves' inputs, gates, output gradients and gains -/
abbrev hfM (c : Dev nD) : FVec Ideal S4352x1024 .f32 := V m c main_v57
abbrev gfM (c : Dev nD) : FVec Ideal S1x1024 .f32 := V m c main_v58
abbrev tgM (c : Dev nD) : FVec Ideal S2x2048x1024 .f32 := V m c main_arg1
abbrev yaM (c : Dev nD) : FVec Ideal S4352x512 .f32 := V m c main_v44
abbrev ybM (c : Dev nD) : FVec Ideal S4352x512 .f32 := V m c main_v49
abbrev gM (c : Dev nD) : FVec Ideal S4352x2560 .f32 := V m c main_v39
abbrev naM (c : Dev nD) : FVec Ideal S1x512 .f32 := V m c main_v50
abbrev nbM (c : Dev nD) : FVec Ideal S1x512 .f32 := V m c main_v51
abbrev wM (c : Dev nD) : FVec Ideal S1024x1024 .bf16 := V m c main_v52
def hf (c : Dev nD) (p : Fin 4352) : Fin 1024 → EReal := fun k => hfM m c (ix2 p k)
def gf (c : Dev nD) : Fin 1024 → EReal := fun k => gfM m c (ix2 0 k)
/-- The difference from the target, zero on the rows that have none. -/
def err (c : Dev nD) (p : Fin 4352) : Fin 1024 → EReal := fun k =>
  if h : p.val % 2176 < 2048 then hf m c p k * rst Mc ec (hf m c p) * gf m c k - tgM m c (ix3 ⟨p.val / 2176, by omega⟩ ⟨p.val % 2176, h⟩ k) else 0
def dhRow (c : Dev nD) (p : Fin 4352) : Fin 1024 → EReal := normBwd Mc ec (hf m c p) fun k => err m c p k * Dc * gf m c k
def yA (c : Dev nD) (p : Fin 4352) : Fin 512 → EReal := fun k => yaM m c (ix2 p k)
def yB (c : Dev nD) (p : Fin 4352) : Fin 512 → EReal := fun k => ybM m c (ix2 p k)
def gA (c : Dev nD) (p : Fin 4352) : Fin 512 → EReal := fun k => gM m c (ix2 p ⟨1024 + k.val, by omega⟩)
def gB (c : Dev nD) (p : Fin 4352) : Fin 512 → EReal := fun k => gM m c (ix2 p ⟨2048 + k.val, by omega⟩)
def dA (c : Dev nD) (p : Fin 4352) : Fin 512 → EReal := fun k => ∑ x : Fin 1024, dhRow m c p x * wM m c (ix2 ⟨k.val, by omega⟩ x)
def dB (c : Dev nD) (p : Fin 4352) : Fin 512 → EReal := fun k => ∑ x : Fin 1024, dhRow m c p x * wM m c (ix2 ⟨512 + k.val, by omega⟩ x)
def nA (c : Dev nD) : Fin 512 → EReal := fun k => naM m c (ix2 0 k)
def nB (c : Dev nD) : Fin 512 → EReal := fun k => nbM m c (ix2 0 k)

/-! ### The blocks are the rows of the packed arrays -/
section Reads
variable (c : Dev nD) (t : Fin cfg0.N)
theorem read0 (r : Fin 256) (x : Fin 1024) : (iblk m c 0 t : FVec Ideal ⟨2, ![256, 1024]⟩ .f32) (ix2 r x) = hf m c (rowOf t r) x := by
  unfold rowOf hf; blk_point [iblk, idx_val t]
theorem read1 (r : Fin 1) (x : Fin 1024) : (iblk m c 1 t : FVec Ideal ⟨2, ![1, 1024]⟩ .f32) (ix2 r x) = gf m c x := by
  unfold gf; blk_point [iblk, idx_val t]
theorem read2 (r : Fin 128) (x : Fin 1024) (h : 2 * t.val % 17 < 16) : (iblk m c 2 t : FVec Ideal ⟨3, ![1, 128, 1024]⟩ .f32) (ix3 0 r x)
    = tgM m c (ix3 ⟨2 * t.val / 17, by have := points_lt t; omega⟩ ⟨2 * t.val % 17 * 128 + r.val, by omega⟩ x) := by
  have e : min (2 * t.val % 17) 15 = 2 * t.val % 17 := by omega
  blk_point [iblk, idx_val t, e]
theorem read3 (r : Fin 128) (x : Fin 1024) (h : (2 * t.val + 1) % 17 < 16) : (iblk m c 3 t : FVec Ideal ⟨3, ![1, 128, 1024]⟩ .f32) (ix3 0 r x)
    = tgM m c (ix3 ⟨(2 * t.val + 1) / 17, by have := points_lt t; omega⟩ ⟨(2 * t.val + 1) % 17 * 128 + r.val, by omega⟩ x) := by
  have e : min ((2 * t.val + 1) % 17) 15 = (2 * t.val + 1) % 17 := by omega
  blk_point [iblk, idx_val t, e]
theorem read4 (r : Fin 256) (x : Fin 512) : (iblk m c 4 t : FVec Ideal ⟨2, ![256, 512]⟩ .f32) (ix2 r x) = yA m c (rowOf t r) x := by
  unfold rowOf yA; blk_point [iblk, idx_val t]
theorem read5 (r : Fin 256) (x : Fin 512) : (iblk m c 5 t : FVec Ideal ⟨2, ![256, 512]⟩ .f32) (ix2 r x) = yB m c (rowOf t r) x := by
  unfold rowOf yB; blk_point [iblk, idx_val t]
theorem read6 (r : Fin 256) (x : Fin 512) : (iblk m c 6 t : FVec Ideal ⟨2, ![256, 512]⟩ .f32) (ix2 r x) = gA m c (rowOf t r) x := by
  unfold rowOf gA; blk_point [iblk, idx_val t]
theorem read7 (r : Fin 256) (x : Fin 512) : (iblk m c 7 t : FVec Ideal ⟨2, ![256, 512]⟩ .f32) (ix2 r x) = gB m c (rowOf t r) x := by
  unfold rowOf gB; blk_point [iblk, idx_val t]
theorem read8 (r : Fin 1) (x : Fin 512) : (iblk m c 8 t : FVec Ideal ⟨2, ![1, 512]⟩ .f32) (ix2 r x) = nA m c x := by
  unfold nA; blk_point [iblk, idx_val t]
theorem read9 (r : Fin 1) (x : Fin 512) : (iblk m c 9 t : FVec Ideal ⟨2, ![1, 512]⟩ .f32) (ix2 r x) = nB m c x := by
  unfold nB; blk_point [iblk, idx_val t]
theorem read10 (r : Fin 1024) (x : Fin 1024) : (iblk m c 10 t : FVec Ideal ⟨2, ![1024, 1024]⟩ .bf16) (ix2 r x) = wM m c (ix2 r x) := by
  blk_point [iblk, idx_val t]
end Reads

/-- Whether the remainder `v` of a block's number leaves a block with targets, as the kernel computes it. -/
def keepBit (v : BitVec 32) : BitVec 32 :=
  Scalar.extui (Scalar.cmpi .slt (Scalar.select (Scalar.andi (Scalar.xori (Scalar.cmpi .slt v 0#32) (Scalar.cmpi .slt 17#32 0#32)) (Scalar.cmpi .ne v 0#32))
    (Scalar.addi v 17#32) v) 16#32)
theorem keep_at : ∀ t : Fin cfg0.N,
    keepBit (Scalar.remsi (Scalar.addi (Scalar.muli (2#32) (BitVec.ofNat 32 (grid0.coords t 0).val)) 0#32) (Scalar.select (Scalar.cmpi .eq 17#32 0#32) 1#32 17#32))
        = (if 2 * t.val % 17 < 16 then 1#32 else 0#32)
    ∧ keepBit (Scalar.remsi (Scalar.addi (Scalar.muli (2#32) (BitVec.ofNat 32 (grid0.coords t 0).val)) 1#32) 17#32)
        = (if (2 * t.val + 1) % 17 < 16 then 1#32 else 0#32) :=
  (by decide +kernel : ∀ t : Fin grid0.N, _)
theorem keep_val {p : Prop} [Decidable p] : Scalar.sitofp (F := Ideal) .f32 (if p then 1#32 else 0#32) = if p then 1 else 0 := by
  split_ifs
  · show (((BitVec.toInt 1#32 : ℤ) : ℝ) : EReal) = 1
    simp
  · show (((BitVec.toInt 0#32 : ℤ) : ℝ) : EReal) = 0
    simp
theorem half_at : ∀ r : Fin 256, IntOp.cmpi CmpIPredicate.slt (BitVec.ofNat 32 r.val) 128#32 = if r.val < 128 then 1#1 else 0#1 := by decide +kernel
theorem first_keep (t : Fin cfg0.N) : k0_pay9 (F := Ideal) (grid0.coords t) = if 2 * t.val % 17 < 16 then 1 else 0 :=
  (congrArg (Scalar.sitofp (F := Ideal) .f32) (keep_at t).1).trans keep_val

/-- The blocks of the two gradients the body works out first. -/
abbrev errB (c : Dev nD) (t : Fin cfg0.N) : FVec Ideal S256x1024 .f32 :=
  k0_pay10 (k0_pay6 (iblk m c 0 t)) (k0_pay7 (iblk m c 1 t)) (k0_pay8 (iblk m c 0 t)) (k0_pay9 (grid0.coords t))
    (17#32) (Scalar.remsi (Scalar.addi (Scalar.muli (2#32) (BitVec.ofNat 32 ↑(grid0.coords t 0))) 1#32) 17#32) (iblk m c 2 t) (iblk m c 3 t)
abbrev dhB (c : Dev nD) (t : Fin cfg0.N) : FVec Ideal S256x1024 .f32 :=
  k0_pay13 (k0_pay6 (iblk m c 0 t)) (k0_pay7 (iblk m c 1 t)) (k0_pay8 (iblk m c 0 t)) (errB m c t)

theorem err_blk (c : Dev nD) (t : Fin cfg0.N) (r : Fin 256) (x : Fin 1024) : errB m c t (ix2 r x) = err m c (rowOf t r) x := by
  have e : Scalar.sitofp (F := Ideal) .f32 (keepBit (Scalar.remsi (Scalar.addi (Scalar.muli (2#32) (BitVec.ofNat 32 (grid0.coords t 0).val)) 1#32) 17#32))
      = if (2 * t.val + 1) % 17 < 16 then 1 else 0 := (congrArg (Scalar.sitofp (F := Ideal) .f32) (keep_at t).2).trans keep_val
  unfold keepBit at e
  unfold errB k0_pay10
  dsimp only
  rw [e, first_keep t]
  clear e
  pointwise [k0_pay6, k0_pay7, k0_pay8, read0, read1]
  rw [half_at r]
  have ht := points_lt t
  have hp : (rowOf t r).val = t.val * 256 + r.val := rfl
  unfold err rst
  by_cases hr : r.val < 128
  · rw [if_pos hr, dif_pos hr]
    by_cases hk : 2 * t.val % 17 < 16
    · rw [if_pos hk, dif_pos (by omega), read2 m c t _ _ hk]
      refine (mul_one _).trans (congrArg₂ _ rfl (congrArg (tgM m c) ?_))
      refine congrArg₂ (fun a b => ix3 a b x) (Fin.ext ?_) (Fin.ext ?_) <;> dsimp only <;> omega
    · rw [if_neg hk, dif_neg (by omega)]
      exact mul_zero _
  · rw [if_neg hr, dif_neg hr]
    by_cases hk : (2 * t.val + 1) % 17 < 16
    · rw [if_pos hk, dif_pos (by omega), read3 m c t _ _ hk]
      refine (mul_one _).trans (congrArg₂ _ rfl (congrArg (tgM m c) ?_))
      refine congrArg₂ (fun a b => ix3 a b x) (Fin.ext ?_) (Fin.ext ?_) <;> dsimp only <;> omega
    · rw [if_neg hk, dif_neg (by omega)]
      exact mul_zero _

theorem dh_blk (c : Dev nD) (t : Fin cfg0.N) (r : Fin 256) (x : Fin 1024) : dhB m c t (ix2 r x) = dhRow m c (rowOf t r) x := by
  unfold dhB dhRow normBwd rst k0_pay13 k0_pay12
  generalize hE : errB m c t = E
  have hE' : ∀ r x, E (ix2 r x) = err m c (rowOf t r) x := fun r x => by rw [← hE, err_blk]
  pointwise [k0_pay6, k0_pay7, k0_pay8, read0, read1, hE']

def res18 (c : Dev nD) : FVec Ideal S4352x1024 .f32 := fun i => dhRow m c (i 0) (i 1)

set_option maxHeartbeats 2000000 in
theorem final18 (c : Dev nD) : (dats m 0 c).arrAt 18 (cfgs 0).N = res18 m c := by
  refine (dats m 0 c).arrAt_eq_of_covers 18 _ (by decide +kernel) fun t hf y => ?_
  blk_simp; rw [after0_18]
  by_cases h : t.val % 17 = 0
  · rw [outsAt0_A m c t h]; dsimp only
    frame_out
    idx_vars y
    have e := dh_blk m c t y0 y1
    unfold dhB errB at e
    rw [e]
    clear e
    unfold res18
    generalize dhRow m c = R
    unfold rowOf
    refine congrArg₂ R (Fin.ext ?_) (Fin.ext ?_) <;> blk_simp [idx_val t]
  · rw [outsAt0_B m c t h]; dsimp only
    frame_out
    idx_vars y
    have e := dh_blk m c t y0 y1
    unfold dhB errB at e
    rw [e]
    clear e
    unfold res18
    generalize dhRow m c = R
    unfold rowOf
    refine congrArg₂ R (Fin.ext ?_) (Fin.ext ?_) <;> blk_simp [idx_val t]
end Cert.HeadIdeal.Value
end
-- ==== Proof.HeadTiles.lean ====
/- The row gradients the last layer's gradient kernel leaves. -/
module
public import proofs.«01_k».proof.Proof.HeadRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- The gradient before the output weight, and the head's gradient as the products take it. -/
abbrev dyB (c : Dev nD) (t : Fin cfg0.N) : FVec Ideal S256x1024 .f32 :=
  k0_pay16 (k0_pay6 (iblk m c 0 t)) (k0_pay7 (iblk m c 1 t)) (k0_pay8 (iblk m c 0 t)) (errB m c t) (iblk m c 10 t)
abbrev bfB (c : Dev nD) (t : Fin cfg0.N) : FVec Ideal S256x1024 .bf16 :=
  k0_pay15 (k0_pay6 (iblk m c 0 t)) (k0_pay7 (iblk m c 1 t)) (k0_pay8 (iblk m c 0 t)) (errB m c t)
theorem bf_blk (c : Dev nD) (t : Fin cfg0.N) (r : Fin 256) (x : Fin 1024) : bfB m c t (ix2 r x) = dhRow m c (rowOf t r) x := by
  have e := dh_blk m c t r x
  unfold bfB k0_pay15
  exact e
theorem dy_blk (c : Dev nD) (t : Fin cfg0.N) (r : Fin 256) (k : Fin 1024) : dyB m c t (ix2 r k) = ∑ x : Fin 1024, dhRow m c (rowOf t r) x * wM m c (ix2 k x) := by
  have e := bf_blk m c t r
  unfold bfB at e
  unfold dyB k0_pay16
  generalize k0_pay15 (k0_pay6 (iblk m c 0 t)) (k0_pay7 (iblk m c 1 t)) (k0_pay8 (iblk m c 0 t)) (errB m c t) = B at e ⊢
  pointwise [e, read10]

/-- The four row gradients: of the halves' inputs and of their gates. -/
def gyA (c : Dev nD) (p : Fin 4352) : Fin 512 → EReal := halfDy Nc ec (yA m c p) (gA m c p) (dA m c p) (nA m c)
def gyB (c : Dev nD) (p : Fin 4352) : Fin 512 → EReal := halfDy Nc ec (yB m c p) (gB m c p) (dB m c p) (nB m c)
def ggA (c : Dev nD) (p : Fin 4352) : Fin 512 → EReal := halfDg Nc ec (yA m c p) (gA m c p) (dA m c p) (nA m c)
def ggB (c : Dev nD) (p : Fin 4352) : Fin 512 → EReal := halfDg Nc ec (yB m c p) (gB m c p) (dB m c p) (nB m c)

section Halves
variable (c : Dev nD) (t : Fin cfg0.N) (D : FVec Ideal S256x1024 .f32)
  (hD : ∀ r k, D (ix2 r k) = ∑ x : Fin 1024, dhRow m c (rowOf t r) x * wM m c (ix2 k x))
include hD
theorem dya_blk (r : Fin 256) (k : Fin 512) : k0_pay27 D (k0_pay17 (iblk m c 4 t)) (k0_pay18 (iblk m c 6 t)) (iblk m c 8 t) (ix2 r k)
    = gyA m c (rowOf t r) k := by
  unfold gyA dA
  pointwise [k0_pay17, k0_pay18, k0_pay19, k0_pay20, k0_pay21, k0_pay22, k0_pay23, k0_pay24, k0_pay26, k0_pay27, halfDy, normBwd, rst, silu, hD, read4, read6, read8]
theorem dga_blk (r : Fin 256) (k : Fin 512) : k0_pay25 D (k0_pay17 (iblk m c 4 t)) (k0_pay18 (iblk m c 6 t)) (iblk m c 8 t) (ix2 r k)
    = ggA m c (rowOf t r) k := by
  unfold ggA dA
  pointwise [k0_pay17, k0_pay18, k0_pay19, k0_pay20, k0_pay21, k0_pay22, k0_pay23, k0_pay24, k0_pay25, halfDg, normBwd, rst, silu, hD, read4, read6, read8]
theorem dyb_blk (r : Fin 256) (k : Fin 512) : k0_pay43 (k0_pay31 (iblk m c 5 t)) (k0_pay33 (iblk m c 9 t)) (k0_pay34 (iblk m c 5 t)) (k0_pay37 (iblk m c 7 t)) (k0_pay38 D) (ix2 r k)
    = gyB m c (rowOf t r) k := by
  unfold gyB dB
  pointwise [k0_pay31, k0_pay32, k0_pay33, k0_pay34, k0_pay35, k0_pay37, k0_pay38, k0_pay42, k0_pay43, halfDy, normBwd, rst, silu, hD, read5, read7, read9]
theorem dgb_blk (r : Fin 256) (k : Fin 512) : k0_pay41 (k0_pay35 (iblk m c 7 t)) (k0_pay39 D (iblk m c 5 t) (iblk m c 9 t)) (k0_pay40 (iblk m c 7 t)) (ix2 r k)
    = ggB m c (rowOf t r) k := by
  unfold ggB dB
  pointwise [k0_pay31, k0_pay32, k0_pay33, k0_pay34, k0_pay35, k0_pay36, k0_pay38, k0_pay39, k0_pay40, k0_pay41, halfDg, normBwd, rst, silu, hD, read5, read7, read9]
end Halves

def res11 (c : Dev nD) : FVec Ideal S4352x512 .f32 := fun i => gyA m c (i 0) (i 1)

set_option maxHeartbeats 2000000 in
theorem final11 (c : Dev nD) : (dats m 0 c).arrAt 11 (cfgs 0).N = res11 m c := by
  refine (dats m 0 c).arrAt_eq_of_covers 11 _ (by decide +kernel) fun t hf y => ?_
  blk_simp; rw [after0_11]
  by_cases h : t.val % 17 = 0
  · rw [outsAt0_A m c t h]; dsimp only
    frame_out
    idx_vars y
    rw [dya_blk m c t _ (dy_blk m c t)]
    unfold res11
    generalize gyA m c = R
    unfold rowOf
    refine congrArg₂ R (Fin.ext ?_) (Fin.ext ?_) <;> blk_simp [idx_val t]
  · rw [outsAt0_B m c t h]; dsimp only
    frame_out
    idx_vars y
    rw [dya_blk m c t _ (dy_blk m c t)]
    unfold res11
    generalize gyA m c = R
    unfold rowOf
    refine congrArg₂ R (Fin.ext ?_) (Fin.ext ?_) <;> blk_simp [idx_val t]

def res12 (c : Dev nD) : FVec Ideal S4352x512 .f32 := fun i => gyB m c (i 0) (i 1)

set_option maxHeartbeats 2000000 in
theorem final12 (c : Dev nD) : (dats m 0 c).arrAt 12 (cfgs 0).N = res12 m c := by
  refine (dats m 0 c).arrAt_eq_of_covers 12 _ (by decide +kernel) fun t hf y => ?_
  blk_simp; rw [after0_12]
  by_cases h : t.val % 17 = 0
  · rw [outsAt0_A m c t h]; dsimp only
    frame_out
    idx_vars y
    rw [dyb_blk m c t _ (dy_blk m c t)]
    unfold res12
    generalize gyB m c = R
    unfold rowOf
    refine congrArg₂ R (Fin.ext ?_) (Fin.ext ?_) <;> blk_simp [idx_val t]
  · rw [outsAt0_B m c t h]; dsimp only
    frame_out
    idx_vars y
    rw [dyb_blk m c t _ (dy_blk m c t)]
    unfold res12
    generalize gyB m c = R
    unfold rowOf
    refine congrArg₂ R (Fin.ext ?_) (Fin.ext ?_) <;> blk_simp [idx_val t]

def res13 (c : Dev nD) : FVec Ideal S4352x512 .f32 := fun i => ggA m c (i 0) (i 1)

set_option maxHeartbeats 2000000 in
theorem final13 (c : Dev nD) : (dats m 0 c).arrAt 13 (cfgs 0).N = res13 m c := by
  refine (dats m 0 c).arrAt_eq_of_covers 13 _ (by decide +kernel) fun t hf y => ?_
  blk_simp; rw [after0_13]
  by_cases h : t.val % 17 = 0
  · rw [outsAt0_A m c t h]; dsimp only
    frame_out
    idx_vars y
    rw [dga_blk m c t _ (dy_blk m c t)]
    unfold res13
    generalize ggA m c = R
    unfold rowOf
    refine congrArg₂ R (Fin.ext ?_) (Fin.ext ?_) <;> blk_simp [idx_val t]
  · rw [outsAt0_B m c t h]; dsimp only
    frame_out
    idx_vars y
    rw [dga_blk m c t _ (dy_blk m c t)]
    unfold res13
    generalize ggA m c = R
    unfold rowOf
    refine congrArg₂ R (Fin.ext ?_) (Fin.ext ?_) <;> blk_simp [idx_val t]

def res14 (c : Dev nD) : FVec Ideal S4352x512 .f32 := fun i => ggB m c (i 0) (i 1)

set_option maxHeartbeats 2000000 in
theorem final14 (c : Dev nD) : (dats m 0 c).arrAt 14 (cfgs 0).N = res14 m c := by
  refine (dats m 0 c).arrAt_eq_of_covers 14 _ (by decide +kernel) fun t hf y => ?_
  blk_simp; rw [after0_14]
  by_cases h : t.val % 17 = 0
  · rw [outsAt0_A m c t h]; dsimp only
    frame_out
    idx_vars y
    rw [dgb_blk m c t _ (dy_blk m c t)]
    unfold res14
    generalize ggB m c = R
    unfold rowOf
    refine congrArg₂ R (Fin.ext ?_) (Fin.ext ?_) <;> blk_simp [idx_val t]
  · rw [outsAt0_B m c t h]; dsimp only
    frame_out
    idx_vars y
    rw [dgb_blk m c t _ (dy_blk m c t)]
    unfold res14
    generalize ggB m c = R
    unfold rowOf
    refine congrArg₂ R (Fin.ext ?_) (Fin.ext ?_) <;> blk_simp [idx_val t]

end Cert.HeadIdeal.Value
end
-- ==== Proof.HeadSpec.lean ====
/- The gradients of the last layer: the loss head on top of the gated output, in closed form. -/
module
public import proofs.«01_k».proof.Proof.OutSpec
@[expose] public section
noncomputable section
open Idealize.ShloMosaic
namespace Cert.HeadSpec
open Cert.Norm Cert.OutSpec
/-- The residual stream after the gated output. -/
def hf (N e : EReal) (h : FVec Ideal (Tok 1024) .f32) (y y' g g' : FVec Ideal (Tok 512) .f32) (a a' : FVec Ideal (Vc 512) .f32) (w : FVec Ideal Mx .f32)
    (b : Fin 2) (l : Fin 2064) : Fin 1024 → EReal :=
  fun k => h (ix3 b l k) + ∑ i : Fin 1024, cat N e y y' g g' a a' b l i * w (ix2 i k)

section
variable (M e D H : EReal) (F : Fin 2 → Fin 2064 → Fin 1024 → EReal)
variable (tg : FVec Ideal ⟨3, ![2, 2048, 1024]⟩ .f32) (g : FVec Ideal (Vc 1024) .f32)
/-- The error of a row: the normed stream less the target; the 16 meta rows have none. -/
def err (b : Fin 2) (l : Fin 2064) (k : Fin 1024) : EReal :=
  if h : 16 ≤ l.val then F b l k * rst M e (F b l) * g (ix1 k) - tg (ix3 b ⟨l.val - 16, by omega⟩ k) else 0
def dh : FVec Ideal (Tok 1024) .f32 := fun i =>
  normBwd M e (F (i 0) (i 1)) (fun k => err M e F tg g (i 0) (i 1) k * D * g (ix1 k)) (i 2)
def dgf : FVec Ideal (Vc 1024) .f32 := fun i =>
  ∑ b : Fin 2, ∑ l : Fin 2064, err M e F tg g b l (i 0) * D * (F b l (i 0) * rst M e (F b l))
def lossOf (b : Fin 2) (l : Fin 2064) : EReal := Ideal.div (∑ k : Fin 1024, err M e F tg g b l k * err M e F tg g b l k) M
def loss : FVec Ideal ⟨0, ![]⟩ .f32 := fun _ => H * ∑ b : Fin 2, ∑ l : Fin 2064, lossOf M e F tg g b l
end
end Cert.HeadSpec
end
-- ==== Proof.HeadPack.lean ====
/- The packed operands of the last layer's gradient kernel, read from its arguments. -/
module
public import proofs.«01_k».proof.Proof.HeadTiles
public import proofs.«01_k».proof.Proof.Packed
public import proofs.«01_k».proof.Proof.HeadSpec
public import Idealize.ShloMosaic.Lib.Pipeline.ValueKit
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- What the buffers hold after the lines of the two gates and of the two normed halves. -/
def W0 (c : Dev nD) : Valuation τ sig (Elt Ideal) := StableHlo.after hostOps0 (fun b => m (c, b))
def W1 (c : Dev nD) : Valuation τ sig (Elt Ideal) := StableHlo.after hostOps0_1 (W0 m c)
def W2 (c : Dev nD) : Valuation τ sig (Elt Ideal) := StableHlo.after hostOps0_2 (W1 m c)
def W3 (c : Dev nD) : Valuation τ sig (Elt Ideal) := StableHlo.after hostOps0_3 (W2 m c)
theorem after_two (l l' : List (HloOp τ sig (Elt Ideal))) (W : Valuation τ sig (Elt Ideal)) : StableHlo.after (l ++ l') W = StableHlo.after l' (StableHlo.after l W) := by
  induction l generalizing W with
  | nil => rfl
  | cons o l ih => exact ih _
theorem V_flat (c : Dev nD) : V0 m c = StableHlo.after hostOps0_4 (W3 m c) := by
  unfold V0 W3 W2 W1 W0
  simp only [List.flatten_cons, List.flatten_nil, List.append_nil]
  rw [after_two, after_two, after_two, after_two]

section Args
variable (c : Dev nD)
abbrev a0 : FVec Ideal ⟨3, ![2, 2064, 1024]⟩ .f32 := m (c, Proc.devRef .tc main_arg0)
abbrev a1 : FVec Ideal ⟨3, ![2, 2048, 1024]⟩ .f32 := m (c, Proc.devRef .tc main_arg1)
abbrev a2 : FVec Ideal ⟨1, ![1024]⟩ .f32 := m (c, Proc.devRef .tc main_arg2)
abbrev a3 : FVec Ideal ⟨3, ![2, 2064, 512]⟩ .f32 := m (c, Proc.devRef .tc main_arg3)
abbrev a4 : FVec Ideal ⟨3, ![2, 2064, 512]⟩ .f32 := m (c, Proc.devRef .tc main_arg4)
abbrev a5 : FVec Ideal ⟨3, ![2, 2064, 512]⟩ .f32 := m (c, Proc.devRef .tc main_arg5)
abbrev a6 : FVec Ideal ⟨3, ![2, 2064, 512]⟩ .f32 := m (c, Proc.devRef .tc main_arg6)
abbrev a7 : FVec Ideal ⟨1, ![512]⟩ .f32 := m (c, Proc.devRef .tc main_arg7)
abbrev a8 : FVec Ideal ⟨1, ![512]⟩ .f32 := m (c, Proc.devRef .tc main_arg8)
abbrev a9 : FVec Ideal ⟨2, ![1024, 1024]⟩ .f32 := m (c, Proc.devRef .tc main_arg9)
end Args

/-! ### The arguments are unchanged by the first lines -/
theorem w3_arg0 (c : Dev nD) : W3 m c (Proc.devRef .tc main_arg0) = a0 m c := by unfold W3 W2 W1 W0; after_results
theorem w3_arg2 (c : Dev nD) : W3 m c (Proc.devRef .tc main_arg2) = a2 m c := by unfold W3 W2 W1 W0; after_results
theorem w3_arg3 (c : Dev nD) : W3 m c (Proc.devRef .tc main_arg3) = a3 m c := by unfold W3 W2 W1 W0; after_results
theorem w3_arg4 (c : Dev nD) : W3 m c (Proc.devRef .tc main_arg4) = a4 m c := by unfold W3 W2 W1 W0; after_results
theorem w3_arg5 (c : Dev nD) : W3 m c (Proc.devRef .tc main_arg5) = a5 m c := by unfold W3 W2 W1 W0; after_results
theorem w3_arg6 (c : Dev nD) : W3 m c (Proc.devRef .tc main_arg6) = a6 m c := by unfold W3 W2 W1 W0; after_results
theorem w3_arg7 (c : Dev nD) : W3 m c (Proc.devRef .tc main_arg7) = a7 m c := by unfold W3 W2 W1 W0; after_results
theorem w3_arg8 (c : Dev nD) : W3 m c (Proc.devRef .tc main_arg8) = a8 m c := by unfold W3 W2 W1 W0; after_results
theorem w3_arg9 (c : Dev nD) : W3 m c (Proc.devRef .tc main_arg9) = a9 m c := by unfold W3 W2 W1 W0; after_results

/-! ### The stages of the residual stream -/
section Stages
variable (V : Valuation τ sig (Elt Ideal))
theorem s12 (b : Fin 2) (l : Fin 2064) (k : Fin 512) (y : FVec Ideal (OutSpec.Tok 512) .f32) (a : FVec Ideal (OutSpec.Vc 512) .f32)
    (hy : V (Proc.devRef .tc main_arg3) = y) (ha : V (Proc.devRef .tc main_arg7) = a) :
    (StableHlo.after hostOps0 V (Proc.devRef .tc main_v12) : FVec Ideal S2x2064x512 .f32) (ix3 b l k)
      = OutSpec.row y b l k * rst Nc ec (OutSpec.row y b l) * OutSpec.gain a k := by
  subst hy; subst ha
  unfold OutSpec.row OutSpec.gain rst
  repeat after_reads_at
theorem s13 (b : Fin 2) (l : Fin 2064) (k : Fin 512) (g : FVec Ideal (OutSpec.Tok 512) .f32) (hg : V (Proc.devRef .tc main_arg5) = g) :
    (StableHlo.after hostOps0_1 V (Proc.devRef .tc main_v13) : FVec Ideal S2x2064x512 .f32) (ix3 b l k) = silu (OutSpec.row g b l k) := by
  subst hg
  unfold OutSpec.row silu
  repeat after_reads_at
  rfl
theorem s27 (b : Fin 2) (l : Fin 2064) (k : Fin 512) (y : FVec Ideal (OutSpec.Tok 512) .f32) (a : FVec Ideal (OutSpec.Vc 512) .f32)
    (hy : V (Proc.devRef .tc main_arg4) = y) (ha : V (Proc.devRef .tc main_arg8) = a) :
    (StableHlo.after hostOps0_2 V (Proc.devRef .tc main_v27) : FVec Ideal S2x2064x512 .f32) (ix3 b l k)
      = OutSpec.row y b l k * rst Nc ec (OutSpec.row y b l) * OutSpec.gain a k := by
  subst hy; subst ha
  unfold OutSpec.row OutSpec.gain rst
  repeat after_reads_at
theorem s14 (b : Fin 2) (l : Fin 2064) (k : Fin 512) (x y : FVec Ideal S2x2064x512 .f32)
    (hx : V (Proc.devRef .tc main_v12) = x) (hy : V (Proc.devRef .tc main_v13) = y) :
    (StableHlo.after hostOps0_2 V (Proc.devRef .tc main_v14) : FVec Ideal S2x2064x512 .f32) (ix3 b l k) = x (ix3 b l k) * y (ix3 b l k) := by
  subst hx; subst hy
  repeat after_reads_at
theorem s28 (b : Fin 2) (l : Fin 2064) (k : Fin 512) (g : FVec Ideal (OutSpec.Tok 512) .f32) (hg : V (Proc.devRef .tc main_arg6) = g) :
    (StableHlo.after hostOps0_3 V (Proc.devRef .tc main_v28) : FVec Ideal S2x2064x512 .f32) (ix3 b l k) = silu (OutSpec.row g b l k) := by
  subst hg
  unfold OutSpec.row silu
  repeat after_reads_at
  rfl
theorem s57 (p : Fin 4352) (k : Fin 1024) (x : FVec Ideal (OutSpec.Tok 1024) .f32) (w : FVec Ideal OutSpec.Mx .f32) (u v v' : FVec Ideal S2x2064x512 .f32)
    (hx : V (Proc.devRef .tc main_arg0) = x) (hw : V (Proc.devRef .tc main_arg9) = w)
    (hu : V (Proc.devRef .tc main_v14) = u) (hv : V (Proc.devRef .tc main_v27) = v) (hv' : V (Proc.devRef .tc main_v28) = v') :
    (StableHlo.after hostOps0_4 V (Proc.devRef .tc main_v57) : FVec Ideal S4352x1024 .f32) (ix2 p k)
      = packed (fun b l => x (ix3 b l k) + ∑ i : Fin 1024, (if h : i.val < 512 then u (ix3 b l ⟨i.val, h⟩) else v (ix3 b l ⟨i.val - 512, by omega⟩) * v' (ix3 b l ⟨i.val - 512, by omega⟩)) * w (ix2 i k)) p := by
  subst hx; subst hw; subst hu; subst hv; subst hv'
  unfold packed
  repeat after_reads_at
theorem s44 (p : Fin 4352) (k : Fin 512) (y : FVec Ideal (OutSpec.Tok 512) .f32) (hy : V (Proc.devRef .tc main_arg3) = y) :
    (StableHlo.after hostOps0_4 V (Proc.devRef .tc main_v44) : FVec Ideal S4352x512 .f32) (ix2 p k) = packed (fun b l => y (ix3 b l k)) p := by
  subst hy
  unfold packed
  repeat after_reads_at
theorem s49 (p : Fin 4352) (k : Fin 512) (y : FVec Ideal (OutSpec.Tok 512) .f32) (hy : V (Proc.devRef .tc main_arg4) = y) :
    (StableHlo.after hostOps0_4 V (Proc.devRef .tc main_v49) : FVec Ideal S4352x512 .f32) (ix2 p k) = packed (fun b l => y (ix3 b l k)) p := by
  subst hy
  unfold packed
  repeat after_reads_at
theorem s39a (p : Fin 4352) (k : Fin 512) (y : FVec Ideal (OutSpec.Tok 512) .f32) (hy : V (Proc.devRef .tc main_arg5) = y) :
    (StableHlo.after hostOps0_4 V (Proc.devRef .tc main_v39) : FVec Ideal S4352x2560 .f32) (ix2 p ⟨1024 + k.val, by omega⟩) = packed (fun b l => y (ix3 b l k)) p := by
  subst hy
  unfold packed
  repeat after_reads_at
  have hk := k.isLt
  simp only [dif_neg (show ¬ 1024 + k.val < 512 by omega), dif_neg (show ¬ 1024 + k.val - 512 < 512 by omega), dif_pos (show 1024 + k.val - 512 - 512 < 512 by omega), show (⟨1024 + k.val - 512 - 512, by omega⟩ : Fin 512) = k from Fin.ext (by show 1024 + k.val - 512 - 512 = k.val; omega)]
theorem s39b (p : Fin 4352) (k : Fin 512) (y : FVec Ideal (OutSpec.Tok 512) .f32) (hy : V (Proc.devRef .tc main_arg6) = y) :
    (StableHlo.after hostOps0_4 V (Proc.devRef .tc main_v39) : FVec Ideal S4352x2560 .f32) (ix2 p ⟨2048 + k.val, by omega⟩) = packed (fun b l => y (ix3 b l k)) p := by
  subst hy
  unfold packed
  repeat after_reads_at
  have hk := k.isLt
  simp only [dif_neg (show ¬ 2048 + k.val < 512 by omega), dif_neg (show ¬ 2048 + k.val - 512 < 512 by omega), dif_neg (show ¬ 2048 + k.val - 512 - 512 < 512 by omega), dif_neg (show ¬ 2048 + k.val - 512 - 512 - 512 < 512 by omega), show (⟨2048 + k.val - 512 - 512 - 512 - 512, by omega⟩ : Fin 512) = k from Fin.ext (by show 2048 + k.val - 512 - 512 - 512 - 512 = k.val; omega)]
theorem s50 (k : Fin 512) (a : FVec Ideal (OutSpec.Vc 512) .f32) (ha : V (Proc.devRef .tc main_arg7) = a) :
    (StableHlo.after hostOps0_4 V (Proc.devRef .tc main_v50) : FVec Ideal S1x512 .f32) (ix2 0 k) = a (ix1 k) := by
  subst ha
  repeat after_reads_at
theorem s51 (k : Fin 512) (a : FVec Ideal (OutSpec.Vc 512) .f32) (ha : V (Proc.devRef .tc main_arg8) = a) :
    (StableHlo.after hostOps0_4 V (Proc.devRef .tc main_v51) : FVec Ideal S1x512 .f32) (ix2 0 k) = a (ix1 k) := by
  subst ha
  repeat after_reads_at
theorem s52 (i k : Fin 1024) (w : FVec Ideal OutSpec.Mx .f32) (hw : V (Proc.devRef .tc main_arg9) = w) :
    (StableHlo.after hostOps0_4 V (Proc.devRef .tc main_v52) : FVec Ideal S1024x1024 .bf16) (ix2 i k) = w (ix2 i k) := by
  subst hw
  repeat after_reads_at
theorem s58 (k : Fin 1024) (a : FVec Ideal (OutSpec.Vc 1024) .f32) (ha : V (Proc.devRef .tc main_arg2) = a) :
    (StableHlo.after hostOps0_4 V (Proc.devRef .tc main_v58) : FVec Ideal S1x1024 .f32) (ix2 0 k) = a (ix1 k) := by
  subst ha
  repeat after_reads_at
end Stages

/-! ### The packed arrays over the arguments -/
section Packs
variable (c : Dev nD)
theorem w1_arg (c : Dev nD) : W0 m c (Proc.devRef .tc main_arg5) = a5 m c := by unfold W0; after_results
theorem w2_arg4 (c : Dev nD) : W1 m c (Proc.devRef .tc main_arg4) = a4 m c := by unfold W1 W0; after_results
theorem w2_arg8 (c : Dev nD) : W1 m c (Proc.devRef .tc main_arg8) = a8 m c := by unfold W1 W0; after_results
theorem w3_arg (c : Dev nD) : W2 m c (Proc.devRef .tc main_arg6) = a6 m c := by unfold W2 W1 W0; after_results
theorem w1_v12 (c : Dev nD) : W1 m c (Proc.devRef .tc main_v12) = W0 m c (Proc.devRef .tc main_v12) := by unfold W1; after_results
theorem w3_v14 (c : Dev nD) : W3 m c (Proc.devRef .tc main_v14) = W2 m c (Proc.devRef .tc main_v14) := by unfold W3; after_results
theorem w3_v27 (c : Dev nD) : W3 m c (Proc.devRef .tc main_v27) = W2 m c (Proc.devRef .tc main_v27) := by unfold W3; after_results
theorem V_at (b : Ref sig .tc) : V m c b = StableHlo.after hostOps0_4 (W3 m c) (Proc.devRef .tc b) := by
  show V0 m c _ = _
  rw [V_flat]

/-- The residual stream of the arguments. -/
def FF (c : Dev nD) : Fin 2 → Fin 2064 → Fin 1024 → EReal :=
  HeadSpec.hf Nc ec (a0 m c) (a3 m c) (a4 m c) (a5 m c) (a6 m c) (a7 m c) (a8 m c) (a9 m c)

theorem hf_pack (p : Fin 4352) (k : Fin 1024) : hfM m c (ix2 p k) = packed (fun b l => FF m c b l k) p := by
  unfold hfM
  rw [V_at, s57 (W3 m c) p k _ _ _ _ _ (w3_arg0 m c) (w3_arg9 m c) rfl rfl rfl]
  refine congrArg (fun f => packed f p) (funext fun b => funext fun l => ?_)
  unfold FF HeadSpec.hf
  refine congrArg (a0 m c (ix3 b l k) + ·) (Finset.sum_congr rfl fun i _ => congrArg (· * a9 m c (ix2 i k)) ?_)
  unfold OutSpec.cat halfOut
  by_cases h : i.val < 512
  · rw [dif_pos h, dif_pos h, w3_v14]
    unfold W2
    rw [s14 (W1 m c) b l ⟨i.val, h⟩ _ _ (w1_v12 m c) rfl]
    unfold W1
    rw [s13 (W0 m c) b l ⟨i.val, h⟩ _ (w1_arg m c)]
    unfold W0
    rw [s12 _ b l ⟨i.val, h⟩ (a3 m c) (a7 m c) rfl rfl]
  · rw [dif_neg h, dif_neg h, w3_v27]
    unfold W3
    rw [s28 (W2 m c) b l ⟨i.val - 512, by omega⟩ _ (w3_arg m c)]
    unfold W2
    rw [s27 (W1 m c) b l ⟨i.val - 512, by omega⟩ _ _ (w2_arg4 m c) (w2_arg8 m c)]
theorem tg_eq : tgM m c = a1 m c := by
  unfold tgM
  rw [V_at]
  unfold W3 W2 W1 W0
  after_results
theorem ya_pack (p : Fin 4352) (k : Fin 512) : yaM m c (ix2 p k) = packed (fun b l => a3 m c (ix3 b l k)) p := by
  unfold yaM; rw [V_at, s44 _ p k _ (w3_arg3 m c)]
theorem yb_pack (p : Fin 4352) (k : Fin 512) : ybM m c (ix2 p k) = packed (fun b l => a4 m c (ix3 b l k)) p := by
  unfold ybM; rw [V_at, s49 _ p k _ (w3_arg4 m c)]
theorem ga_pack (p : Fin 4352) (k : Fin 512) : gM m c (ix2 p ⟨1024 + k.val, by omega⟩) = packed (fun b l => a5 m c (ix3 b l k)) p := by
  unfold gM; rw [V_at, s39a _ p k _ (w3_arg5 m c)]
theorem gb_pack (p : Fin 4352) (k : Fin 512) : gM m c (ix2 p ⟨2048 + k.val, by omega⟩) = packed (fun b l => a6 m c (ix3 b l k)) p := by
  unfold gM; rw [V_at, s39b _ p k _ (w3_arg6 m c)]
theorem na_pack (k : Fin 512) : naM m c (ix2 0 k) = a7 m c (ix1 k) := by unfold naM; rw [V_at, s50 _ k _ (w3_arg7 m c)]
theorem nb_pack (k : Fin 512) : nbM m c (ix2 0 k) = a8 m c (ix1 k) := by unfold nbM; rw [V_at, s51 _ k _ (w3_arg8 m c)]
theorem w_pack (i k : Fin 1024) : wM m c (ix2 i k) = a9 m c (ix2 i k) := by unfold wM; rw [V_at, s52 _ i k _ (w3_arg9 m c)]
theorem gf_pack (k : Fin 1024) : gfM m c (ix2 0 k) = a2 m c (ix1 k) := by unfold gfM; rw [V_at, s58 _ k _ (w3_arg2 m c)]
end Packs
end Cert.HeadIdeal.Value
end
-- ==== Proof.HeadSums.lean ====
/- The sums over all rows that the last layer's gradient kernel leaves. -/
module
public import proofs.«01_k».proof.Proof.HeadTiles
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- The shares of row `p` in the gains' gradients, in the final gain's and in the loss. -/
def naRow (c : Dev nD) (k : Fin 512) (p : Fin 4352) : EReal := halfDn Nc ec (yA m c p) (gA m c p) (dA m c p) k
def nbRow (c : Dev nD) (k : Fin 512) (p : Fin 4352) : EReal := halfDn Nc ec (yB m c p) (gB m c p) (dB m c p) k
def gfRow (c : Dev nD) (k : Fin 1024) (p : Fin 4352) : EReal := err m c p k * Dc * (hf m c p k * rst Mc ec (hf m c p))
def lossRow (c : Dev nD) (p : Fin 4352) : EReal := Ideal.div (∑ k : Fin 1024, err m c p k * err m c p k) Mc

/-- One half, the factor of the loss. -/
abbrev Hf : EReal := Ideal.ofBits .f32 1056964608#32

def res16 (c : Dev nD) : FVec Ideal S1x512 .f32 := fun j => ∑ p : Fin 4352, naRow m c (j 1) p
def res17 (c : Dev nD) : FVec Ideal S1x512 .f32 := fun j => ∑ p : Fin 4352, nbRow m c (j 1) p
def res20 (c : Dev nD) : FVec Ideal S1x1024 .f32 := fun j => ∑ p : Fin 4352, gfRow m c (j 1) p

/-- The blocks' sums over one run are the sum over all rows. -/
theorem runs_sum (f : Fin 4352 → EReal) (t : Fin cfg0.N) (hf : t.val % 17 = 16) :
    0 + ∑ s : Fin 17, ∑ r : Fin 256, f (rowOf ⟨17 * (t.val / 17) + s.val, Pipeline.run_point_lt_of_flush t hf s⟩ r) = ∑ p : Fin 4352, f p := by
  rw [zero_add]
  refine Fin.sum_mul_add_congr fun s k hl => ?_
  refine congrArg f (Fin.ext ?_)
  have := points_lt t
  show (17 * (t.val / 17) + s.val) * 256 + k.val = s.val * 256 + k.val
  omega

section Halves
variable (c : Dev nD) (t : Fin cfg0.N) (D : FVec Ideal S256x1024 .f32)
  (hD : ∀ r k, D (ix2 r k) = ∑ x : Fin 1024, dhRow m c (rowOf t r) x * wM m c (ix2 k x))
include hD
theorem na_blk (z : Fin 1) (k : Fin 512) : k0_pay28 D (k0_pay17 (iblk m c 4 t)) (k0_pay18 (iblk m c 6 t)) (ix2 z k) = ∑ r : Fin 256, naRow m c k (rowOf t r) := by
  unfold naRow dA
  pointwise [k0_pay17, k0_pay18, k0_pay20, k0_pay21, k0_pay23, k0_pay24, k0_pay26, k0_pay28, halfDn, rst, silu, hD, read4, read6]
omit hD in
theorem na_eq (S P : FVec Ideal S1x512 .f32) (z : Fin 1) (k : Fin 512) : k0_pay29 S P (ix2 z k) = P (ix2 z k) + S (ix2 z k) := by
  pointwise [k0_pay29]
theorem nb_blk (P : FVec Ideal S1x512 .f32) (z : Fin 1) (k : Fin 512) :
    k0_pay44 (k0_pay31 (iblk m c 5 t)) (k0_pay34 (iblk m c 5 t)) (k0_pay37 (iblk m c 7 t)) (k0_pay38 D) P (ix2 z k) = P (ix2 z k) + ∑ r : Fin 256, nbRow m c k (rowOf t r) := by
  unfold nbRow dB
  pointwise [k0_pay31, k0_pay32, k0_pay34, k0_pay35, k0_pay37, k0_pay38, k0_pay42, k0_pay44, halfDn, rst, silu, hD, read5, read7]
end Halves

section Head
variable (c : Dev nD) (t : Fin cfg0.N) (E : FVec Ideal S256x1024 .f32) (hE : ∀ r x, E (ix2 r x) = err m c (rowOf t r) x)
include hE
theorem gf_blk (P : FVec Ideal S1x1024 .f32) (z : Fin 1) (k : Fin 1024) :
    k0_pay14 (k0_pay6 (iblk m c 0 t)) (k0_pay8 (iblk m c 0 t)) E P (ix2 z k) = P (ix2 z k) + ∑ r : Fin 256, gfRow m c k (rowOf t r) := by
  unfold gfRow
  pointwise [k0_pay6, k0_pay8, k0_pay12, k0_pay14, rst, hE, read0]
end Head

theorem loss_blk (c : Dev nD) (t : Fin cfg0.N) (v4 : FVec Ideal S256x1024 .f32) (v6 : FVec Ideal S1x1024 .f32) (v14 : FVec Ideal S256x1 .f32) (v29 : Ideal .f32) (v33 v34 : BitVec 32)
    (v55 v57 : Vec Ideal S1x128x1024 .f32) (hE : ∀ r x, k0_pay10 v4 v6 v14 v29 v33 v34 v55 v57 (ix2 r x) = err m c (rowOf t r) x)
    (P : FVec Ideal S8x128 .f32) (x : Fin 8) (y : Fin 128) :
    k0_pay11 v4 v6 v14 v29 v33 v34 v55 v57 P (ix2 x y) = P (ix2 x y) + Hf * ∑ r : Fin 256, lossRow m c (rowOf t r) := by
  unfold lossRow k0_pay11
  generalize k0_pay10 v4 v6 v14 v29 v33 v34 v55 v57 = E at hE ⊢
  pointwise [hE]
  simp only [Finset.univ_unique, Finset.sum_const, Finset.card_singleton, one_smul]

set_option maxHeartbeats 2000000 in
theorem final16 (c : Dev nD) : (dats m 0 c).arrAt 16 (cfgs 0).N = res16 m c := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.1) 17 (fun _ => 0)
    (fun t j => ∑ r : Fin 256, naRow m c (j 1) (rowOf t r))
    (fun t h j => by
      rw [outsAt0_A m c t h]; dsimp only
      frame_out
      idx_vars j
      rw [na_eq, na_blk m c t _ (dy_blk m c t)]
      pointwise [k0_pay2])
    (fun t h j => by
      rw [outsAt0_B m c t h]; dsimp only
      frame_out
      idx_vars j
      rw [na_eq, na_blk m c t _ (dy_blk m c t)])
    t ((flush0_16 t).mp hf) _]
  refine (runs_sum (naRow m c (y 1)) t ((flush0_16 t).mp hf)).trans ?_
  generalize hz : (win0_16.blk t).view.emb y = z
  have e1 : (y 1 : Fin 512) = z 1 := by subst hz; refine Fin.ext ?_; blk_simp [idx_val t]
  unfold res16
  rw [e1]

set_option maxHeartbeats 2000000 in
theorem final17 (c : Dev nD) : (dats m 0 c).arrAt 17 (cfgs 0).N = res17 m c := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.1) 17 (fun _ => 0)
    (fun t j => ∑ r : Fin 256, nbRow m c (j 1) (rowOf t r))
    (fun t h j => by
      rw [outsAt0_A m c t h]; dsimp only
      frame_out
      idx_vars j
      rw [nb_blk m c t _ (dy_blk m c t)]
      pointwise [k0_pay3])
    (fun t h j => by
      rw [outsAt0_B m c t h]; dsimp only
      frame_out
      idx_vars j
      rw [nb_blk m c t _ (dy_blk m c t)])
    t ((flush0_17 t).mp hf) _]
  refine (runs_sum (nbRow m c (y 1)) t ((flush0_17 t).mp hf)).trans ?_
  generalize hz : (win0_17.blk t).view.emb y = z
  have e1 : (y 1 : Fin 512) = z 1 := by subst hz; refine Fin.ext ?_; blk_simp [idx_val t]
  unfold res17
  rw [e1]

set_option maxHeartbeats 2000000 in
theorem final20 (c : Dev nD) : (dats m 0 c).arrAt 20 (cfgs 0).N = res20 m c := by
  refine (dats m 0 c).arrAt_eq_of_covers 20 _ (by decide +kernel) fun t hf y => ?_
  blk_simp
  rw [after0_20, Pipeline.eq_sum_fin_of_reset_step_apply_of_flush (fun n h => (outsAt0 m c n h).2.2.2.2.2.2.2.2.2) 17 (fun _ => 0)
    (fun t j => ∑ r : Fin 256, gfRow m c (j 1) (rowOf t r))
    (fun t h j => by
      rw [outsAt0_A m c t h]; dsimp only
      frame_out
      idx_vars j
      rw [gf_blk m c t _ (err_blk m c t)]
      pointwise [k0_pay5])
    (fun t h j => by
      rw [outsAt0_B m c t h]; dsimp only
      frame_out
      idx_vars j
      rw [gf_blk m c t _ (err_blk m c t)])
    t ((flush0_20 t).mp hf) _]
  refine (runs_sum (gfRow m c (y 1)) t ((flush0_20 t).mp hf)).trans ?_
  generalize hz : (win0_20.blk t).view.emb y = z
  have e1 : (y 1 : Fin 1024) = z 1 := by subst hz; refine Fin.ext ?_; blk_simp [idx_val t]
  unfold res20
  rw [e1]

def res19 (c : Dev nD) : FVec Ideal S8x128 .f32 := fun _ => ∑ s : Fin 17, Hf * ∑ r : Fin 256, lossRow m c ⟨s.val * 256 + r.val, by omega⟩

theorem runs19 (c : Dev nD) (t : Fin cfg0.N) (hf : t.val % 17 = 16) (z : S8x128.Idx) :
    0 + ∑ s : Fin 17, Hf * ∑ r : Fin 256, lossRow m c (rowOf ⟨17 * (t.val / 17) + s.val, Pipeline.run_point_lt_of_flush t hf s⟩ r) = res19 m c z := by
  rw [zero_add]
  unfold res19
  refine Finset.sum_congr rfl fun s _ => congrArg (Hf * ·) (Finset.sum_congr rfl fun r _ => congrArg (lossRow m c) (Fin.ext ?_))
  have := points_lt t
  show (17 * (t.val / 17) + s.val) * 256 + r.val = s.val * 256 + r.val
  omega

set_option maxHeartbeats 2000000 in
theorem final19 (c : Dev nD) : (dats m 0 c).arrAt 19 (cfgs 0).N = res19 m c := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2.2.2.1) 17 (fun _ => 0)
    (fun t j => Hf * ∑ r : Fin 256, lossRow m c (rowOf t r))
    (fun t h j => by
      rw [outsAt0_A m c t h]; dsimp only
      frame_out
      idx_vars j
      rw [loss_blk m c t _ _ _ _ _ _ _ _ (err_blk m c t)]
      pointwise [k0_pay4])
    (fun t h j => by
      rw [outsAt0_B m c t h]; dsimp only
      frame_out
      idx_vars j
      rw [loss_blk m c t _ _ _ _ _ _ _ _ (err_blk m c t)])
    t ((flush0_19 t).mp hf) _]
  exact runs19 m c t ((flush0_19 t).mp hf) _
end Cert.HeadIdeal.Value
end
-- ==== Proof.HeadWeight.lean ====
/- The weight gradient that the last layer's gradient kernel leaves. -/
module
public import proofs.«01_k».proof.Proof.HeadSums
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- The normed and gated row, both halves side by side. -/
def xcat (c : Dev nD) (p : Fin 4352) (k : Fin 1024) : EReal :=
  if h : k.val < 512 then halfOut Nc ec (yA m c p) (gA m c p) (nA m c) ⟨k.val, h⟩
  else halfOut Nc ec (yB m c p) (gB m c p) (nB m c) ⟨k.val - 512, by omega⟩

def term15 (c : Dev nD) (i j : Fin 1024) (p : Fin 4352) : EReal := xcat m c p i * dhRow m c p j

def res15 (c : Dev nD) : FVec Ideal S1024x1024 .f32 := fun j => ∑ p : Fin 4352, term15 m c (j 0) (j 1) p

section Halves
variable (c : Dev nD) (t : Fin cfg0.N) (B : FVec Ideal S256x1024 .bf16) (hB : ∀ r x, B (ix2 r x) = dhRow m c (rowOf t r) x) (P : FVec Ideal S512x1024 .f32)
  (i : Fin 512) (j : Fin 1024)
include hB
theorem wa_blk : k0_pay30 B (k0_pay22 (k0_pay17 (iblk m c 4 t)) (iblk m c 8 t)) (k0_pay23 (k0_pay18 (iblk m c 6 t))) P (ix2 i j)
    = P (ix2 i j) + ∑ r : Fin 256, term15 m c ⟨i.val, by omega⟩ j (rowOf t r) := by
  unfold term15 xcat
  simp only [dif_pos i.isLt]
  pointwise [k0_pay17, k0_pay18, k0_pay19, k0_pay20, k0_pay21, k0_pay22, k0_pay23, k0_pay30, halfOut, rst, silu, hB, read4, read6, read8]
theorem wb_blk : k0_pay45 B (k0_pay36 (iblk m c 5 t) (iblk m c 9 t)) (k0_pay37 (iblk m c 7 t)) P (ix2 i j)
    = P (ix2 i j) + ∑ r : Fin 256, term15 m c ⟨512 + i.val, by omega⟩ j (rowOf t r) := by
  unfold term15 xcat
  simp only [dif_neg (show ¬ 512 + i.val < 512 by omega), Nat.add_sub_cancel_left]
  pointwise [k0_pay31, k0_pay32, k0_pay33, k0_pay34, k0_pay35, k0_pay36, k0_pay37, k0_pay45, halfOut, rst, silu, hB, read5, read7, read9]
end Halves

set_option maxHeartbeats 2000000 in
theorem final15 (c : Dev nD) : (dats m 0 c).arrAt 15 (cfgs 0).N = res15 m c := by
  refine (dats m 0 c).arrAt_eq_of_covers 15 _ (by decide +kernel) fun t hf y => ?_
  blk_simp
  rw [after0_15, Pipeline.eq_sum_fin_of_reset_step_apply_of_flush (fun n h => (outsAt0 m c n h).2.2.2.2.1) 17 (fun _ => 0)
    (fun t j => ∑ r : Fin 256, term15 m c (j 0) (j 1) (rowOf t r))
    (fun t h j => by
      rw [outsAt0_A m c t h]; dsimp only
      frame_out
      idx_vars j
      by_cases hj : j0.val < 512
      · rw [Rows.canon_miss _ _ _ j0 j1 (Or.inl hj), Rows.canon_hit _ _ _ j0 j1 ⟨Nat.zero_le _, by omega⟩]
        rw [wa_blk m c t _ (bf_blk m c t)]
        rw [Rows.load_rows (o := 0) (h := by omega), Rows.canon_hit (o := 0) (h := ⟨Nat.zero_le _, by first | omega | (show _ < 1024; omega)⟩)]
        pointwise [k0_pay1]
      · rw [Rows.canon_hit _ _ _ j0 j1 ⟨by omega, by omega⟩]
        rw [wb_blk m c t _ (bf_blk m c t)]
        rw [Rows.load_rows (o := 512) (h := by omega), Rows.canon_miss (o := 0) (h := Or.inr (Nat.le_add_right _ _)), Rows.canon_hit (o := 0) (h := ⟨Nat.zero_le _, by first | omega | (show _ < 1024; omega)⟩)]
        have ej : (⟨512 + (j0.val - 512), by omega⟩ : Fin 1024) = j0 := Fin.ext (by show 512 + (j0.val - 512) = j0.val; omega)
        pointwise [k0_pay1, ej])
    (fun t h j => by
      rw [outsAt0_B m c t h]; dsimp only
      frame_out
      idx_vars j
      by_cases hj : j0.val < 512
      · rw [Rows.canon_miss _ _ _ j0 j1 (Or.inl hj), Rows.canon_hit _ _ _ j0 j1 ⟨Nat.zero_le _, by omega⟩]
        rw [wa_blk m c t _ (bf_blk m c t)]
        pointwise
      · rw [Rows.canon_hit _ _ _ j0 j1 ⟨by omega, by omega⟩]
        rw [wb_blk m c t _ (bf_blk m c t)]
        have ej : (⟨512 + (j0.val - 512), by omega⟩ : Fin 1024) = j0 := Fin.ext (by show 512 + (j0.val - 512) = j0.val; omega)
        pointwise [ej])
    t ((flush0_15 t).mp hf) _]
  refine (runs_sum (term15 m c (y 0) (y 1)) t ((flush0_15 t).mp hf)).trans ?_
  generalize hz : (win0_15.blk t).view.emb y = z
  have e0 : (y 0 : Fin 1024) = z 0 := by subst hz; refine Fin.ext ?_; blk_simp [idx_val t]
  have e1 : (y 1 : Fin 1024) = z 1 := by subst hz; refine Fin.ext ?_; blk_simp [idx_val t]
  unfold res15
  rw [e0, e1]
end Cert.HeadIdeal.Value
end
-- ==== Proof.HeadTail.lean ====
/- The results of the last layer's gradient program, as its host lines unpack them. -/
module
public import proofs.«01_k».proof.Proof.HeadPack
public import proofs.«01_k».proof.Proof.HeadSums
public import proofs.«01_k».proof.Proof.HeadWeight
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

/-- What the region leaves in the array of window `w`. -/
theorem left_at (c : Dev nD) (w : Fin 21) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared (cfgs 0).spec c (V0 m c) (fun w => (dats m 0 c).arrAt w (cfgs 0).N) (Dat.arrAt_sharedIn (dats m 0 c) sharedIn0 (V0 m c) (A_eq m c) _) w

section Lines
variable (W : Valuation τ sig (Elt Ideal)) (b : Fin 2) (l : Fin 2064)
theorem uv65 (k : Fin 1024) (R : FVec Ideal S4352x1024 .f32) (hR : W (Proc.devRef .tc main_v59_7) = R) :
    (StableHlo.after hostOps1 W (Proc.devRef .tc main_v65) : FVec Ideal ⟨3, ![2, 2064, 1024]⟩ .f32) (ix3 b l k) = R (ix2 (rowAt b l) k) := by
  subst hR
  have er := rowAt_val b l
  repeat after_reads_at
  split_ifs at er ⊢ <;> exact congrArg (fun p => W (Proc.devRef .tc main_v59_7) (ix2 p k)) (Fin.ext er.symm)
theorem uv70 (k : Fin 512) (R : FVec Ideal S4352x512 .f32) (hR : W (Proc.devRef .tc main_v59_0) = R) :
    (StableHlo.after hostOps1 W (Proc.devRef .tc main_v70) : FVec Ideal ⟨3, ![2, 2064, 512]⟩ .f32) (ix3 b l k) = R (ix2 (rowAt b l) k) := by
  subst hR
  have er := rowAt_val b l
  repeat after_reads_at
  split_ifs at er ⊢ <;> exact congrArg (fun p => W (Proc.devRef .tc main_v59_0) (ix2 p k)) (Fin.ext er.symm)
theorem uv74 (k : Fin 512) (R : FVec Ideal S4352x512 .f32) (hR : W (Proc.devRef .tc main_v59_1) = R) :
    (StableHlo.after hostOps1 W (Proc.devRef .tc main_v74) : FVec Ideal ⟨3, ![2, 2064, 512]⟩ .f32) (ix3 b l k) = R (ix2 (rowAt b l) k) := by
  subst hR
  have er := rowAt_val b l
  repeat after_reads_at
  split_ifs at er ⊢ <;> exact congrArg (fun p => W (Proc.devRef .tc main_v59_1) (ix2 p k)) (Fin.ext er.symm)
theorem uv78 (k : Fin 512) (R : FVec Ideal S4352x512 .f32) (hR : W (Proc.devRef .tc main_v59_2) = R) :
    (StableHlo.after hostOps1 W (Proc.devRef .tc main_v78) : FVec Ideal ⟨3, ![2, 2064, 512]⟩ .f32) (ix3 b l k) = R (ix2 (rowAt b l) k) := by
  subst hR
  have er := rowAt_val b l
  repeat after_reads_at
  split_ifs at er ⊢ <;> exact congrArg (fun p => W (Proc.devRef .tc main_v59_2) (ix2 p k)) (Fin.ext er.symm)
theorem uv82 (k : Fin 512) (R : FVec Ideal S4352x512 .f32) (hR : W (Proc.devRef .tc main_v59_3) = R) :
    (StableHlo.after hostOps1 W (Proc.devRef .tc main_v82) : FVec Ideal ⟨3, ![2, 2064, 512]⟩ .f32) (ix3 b l k) = R (ix2 (rowAt b l) k) := by
  subst hR
  have er := rowAt_val b l
  repeat after_reads_at
  split_ifs at er ⊢ <;> exact congrArg (fun p => W (Proc.devRef .tc main_v59_3) (ix2 p k)) (Fin.ext er.symm)
theorem uv66 (k : Fin 1024) (R : FVec Ideal S1x1024 .f32) (hR : W (Proc.devRef .tc main_v59_9) = R) :
    (StableHlo.after hostOps1 W (Proc.devRef .tc main_v66) : FVec Ideal ⟨1, ![1024]⟩ .f32) (ix1 k) = R (ix2 0 k) := by
  subst hR
  repeat after_reads_at
theorem uv83 (k : Fin 512) (R : FVec Ideal S1x512 .f32) (hR : W (Proc.devRef .tc main_v59_5) = R) :
    (StableHlo.after hostOps1 W (Proc.devRef .tc main_v83) : FVec Ideal ⟨1, ![512]⟩ .f32) (ix1 k) = R (ix2 0 k) := by
  subst hR
  repeat after_reads_at
theorem uv84 (k : Fin 512) (R : FVec Ideal S1x512 .f32) (hR : W (Proc.devRef .tc main_v59_6) = R) :
    (StableHlo.after hostOps1 W (Proc.devRef .tc main_v84) : FVec Ideal ⟨1, ![512]⟩ .f32) (ix1 k) = R (ix2 0 k) := by
  subst hR
  repeat after_reads_at
theorem uv61 (j : (⟨0, ![]⟩ : Shape).Idx) (R : FVec Ideal S8x128 .f32) (hR : W (Proc.devRef .tc main_v59_8) = R) :
    (StableHlo.after hostOps1 W (Proc.devRef .tc main_v61) : FVec Ideal ⟨0, ![]⟩ .f32) j = R (ix2 0 0) := by
  subst hR
  repeat after_reads_at
end Lines
theorem tv65 (c : Dev nD) (b : Fin 2) (l : Fin 2064) (k : Fin 1024) :
    (Pipeline.afterTail₀ cfgs (dats m) 0 (V0 m) [hostOps1] c main_v65 : FVec Ideal ⟨3, ![2, 2064, 1024]⟩ .f32) (ix3 b l k) = res18 m c (ix2 (rowAt b l) k) := by
  unfold Pipeline.afterTail₀
  simp only [List.flatten_cons, List.flatten_nil, List.append_nil]
  exact uv65 _ b l k _ ((left_at m c 18).trans (final18 m c))
theorem tv70 (c : Dev nD) (b : Fin 2) (l : Fin 2064) (k : Fin 512) :
    (Pipeline.afterTail₀ cfgs (dats m) 0 (V0 m) [hostOps1] c main_v70 : FVec Ideal ⟨3, ![2, 2064, 512]⟩ .f32) (ix3 b l k) = res11 m c (ix2 (rowAt b l) k) := by
  unfold Pipeline.afterTail₀
  simp only [List.flatten_cons, List.flatten_nil, List.append_nil]
  exact uv70 _ b l k _ ((left_at m c 11).trans (final11 m c))
theorem tv74 (c : Dev nD) (b : Fin 2) (l : Fin 2064) (k : Fin 512) :
    (Pipeline.afterTail₀ cfgs (dats m) 0 (V0 m) [hostOps1] c main_v74 : FVec Ideal ⟨3, ![2, 2064, 512]⟩ .f32) (ix3 b l k) = res12 m c (ix2 (rowAt b l) k) := by
  unfold Pipeline.afterTail₀
  simp only [List.flatten_cons, List.flatten_nil, List.append_nil]
  exact uv74 _ b l k _ ((left_at m c 12).trans (final12 m c))
theorem tv78 (c : Dev nD) (b : Fin 2) (l : Fin 2064) (k : Fin 512) :
    (Pipeline.afterTail₀ cfgs (dats m) 0 (V0 m) [hostOps1] c main_v78 : FVec Ideal ⟨3, ![2, 2064, 512]⟩ .f32) (ix3 b l k) = res13 m c (ix2 (rowAt b l) k) := by
  unfold Pipeline.afterTail₀
  simp only [List.flatten_cons, List.flatten_nil, List.append_nil]
  exact uv78 _ b l k _ ((left_at m c 13).trans (final13 m c))
theorem tv82 (c : Dev nD) (b : Fin 2) (l : Fin 2064) (k : Fin 512) :
    (Pipeline.afterTail₀ cfgs (dats m) 0 (V0 m) [hostOps1] c main_v82 : FVec Ideal ⟨3, ![2, 2064, 512]⟩ .f32) (ix3 b l k) = res14 m c (ix2 (rowAt b l) k) := by
  unfold Pipeline.afterTail₀
  simp only [List.flatten_cons, List.flatten_nil, List.append_nil]
  exact uv82 _ b l k _ ((left_at m c 14).trans (final14 m c))
theorem tv66 (c : Dev nD) (k : Fin 1024) :
    (Pipeline.afterTail₀ cfgs (dats m) 0 (V0 m) [hostOps1] c main_v66 : FVec Ideal ⟨1, ![1024]⟩ .f32) (ix1 k) = res20 m c (ix2 0 k) := by
  unfold Pipeline.afterTail₀
  simp only [List.flatten_cons, List.flatten_nil, List.append_nil]
  exact uv66 _ k _ ((left_at m c 20).trans (final20 m c))
theorem tv83 (c : Dev nD) (k : Fin 512) :
    (Pipeline.afterTail₀ cfgs (dats m) 0 (V0 m) [hostOps1] c main_v83 : FVec Ideal ⟨1, ![512]⟩ .f32) (ix1 k) = res16 m c (ix2 0 k) := by
  unfold Pipeline.afterTail₀
  simp only [List.flatten_cons, List.flatten_nil, List.append_nil]
  exact uv83 _ k _ ((left_at m c 16).trans (final16 m c))
theorem tv84 (c : Dev nD) (k : Fin 512) :
    (Pipeline.afterTail₀ cfgs (dats m) 0 (V0 m) [hostOps1] c main_v84 : FVec Ideal ⟨1, ![512]⟩ .f32) (ix1 k) = res17 m c (ix2 0 k) := by
  unfold Pipeline.afterTail₀
  simp only [List.flatten_cons, List.flatten_nil, List.append_nil]
  exact uv84 _ k _ ((left_at m c 17).trans (final17 m c))
theorem tv61 (c : Dev nD) (j : (⟨0, ![]⟩ : Shape).Idx) :
    (Pipeline.afterTail₀ cfgs (dats m) 0 (V0 m) [hostOps1] c main_v61 : FVec Ideal ⟨0, ![]⟩ .f32) j = res19 m c (ix2 0 0) := by
  unfold Pipeline.afterTail₀
  simp only [List.flatten_cons, List.flatten_nil, List.append_nil]
  exact uv61 _ j _ ((left_at m c 19).trans (final19 m c))
end Cert.HeadIdeal.Value
end
-- ==== Proof.HeadOut.lean ====
/- The results of the last layer's gradient program are the gradients in closed form. -/
module
public import proofs.«01_k».proof.Proof.HeadTail
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.HeadIdeal.Value
open Cert.HeadIdeal Cert.HeadIdeal.Gen Cert.Norm
variable (m : (ℓ : Loc nD τ sig) → Buf (Elt Ideal) ℓ)

theorem Mc_eq : Mc = ((1024 : ℝ) : EReal) := by
  simp [Mc, Ideal.ofBits, Ideal.ieee, -EReal.coe_mul]; norm_num
theorem Hf_eq : Hf = ((1 / 2 : ℝ) : EReal) := by
  simp [Hf, Ideal.ofBits, Ideal.ieee, -EReal.coe_mul]; norm_num
theorem div_Mc : Ideal.div 0 Mc = 0 := by
  rw [Mc_eq, ← EReal.coe_zero, div_real _ _ (by norm_num), zero_div]

/-- The gradient of the residual stream. -/
def DH (c : Dev nD) : FVec Ideal (OutSpec.Tok 1024) .f32 := HeadSpec.dh Mc ec Dc (FF m c) (a1 m c) (a2 m c)

section Rows
variable (c : Dev nD) (b : Fin 2) (l : Fin 2064)
theorem yA_row : yA m c (rowAt b l) = OutSpec.row (a3 m c) b l := by
  funext k; unfold yA OutSpec.row; rw [ya_pack, packed_rowAt]
theorem yB_row : yB m c (rowAt b l) = OutSpec.row (a4 m c) b l := by
  funext k; unfold yB OutSpec.row; rw [yb_pack, packed_rowAt]
theorem gA_row : gA m c (rowAt b l) = OutSpec.row (a5 m c) b l := by
  funext k; unfold gA OutSpec.row; rw [ga_pack, packed_rowAt]
theorem gB_row : gB m c (rowAt b l) = OutSpec.row (a6 m c) b l := by
  funext k; unfold gB OutSpec.row; rw [gb_pack, packed_rowAt]
theorem nA_eq : nA m c = OutSpec.gain (a7 m c) := by
  funext k; unfold nA OutSpec.gain; rw [na_pack]
theorem nB_eq : nB m c = OutSpec.gain (a8 m c) := by
  funext k; unfold nB OutSpec.gain; rw [nb_pack]
theorem gf_eq (k : Fin 1024) : gf m c k = a2 m c (ix1 k) := by unfold gf; rw [gf_pack]
theorem hf_row : hf m c (rowAt b l) = FF m c b l := by
  funext k; unfold hf; rw [hf_pack, packed_rowAt]
theorem err_row (k : Fin 1024) : err m c (rowAt b l) k = HeadSpec.err Mc ec (FF m c) (a1 m c) (a2 m c) b l k := by
  have er := rowAt_val b l
  have hb := b.isLt
  have hl := l.isLt
  unfold err HeadSpec.err
  by_cases h16 : l.val < 16
  · rw [if_pos h16] at er
    rw [dif_neg (by omega), dif_neg (by omega)]
  · rw [if_neg h16] at er
    rw [dif_pos (by omega), dif_pos (by omega), hf_row, gf_eq, tg_eq]
    refine congrArg (FF m c b l k * rst Mc ec (FF m c b l) * a2 m c (ix1 k) - ·) ?_
    exact congrArg₂ (fun (i : Fin 2) (j : Fin 2048) => a1 m c (ix3 i j k)) (Fin.ext (by show (rowAt b l).val / 2176 = b.val; omega))
      (Fin.ext (by show (rowAt b l).val % 2176 = l.val - 16; omega))
theorem err_pad (p : Fin 4352) (h : 2064 ≤ p.val % 2176) (k : Fin 1024) : err m c p k = 0 := by
  unfold err; rw [dif_neg (by omega)]
theorem dh_row (k : Fin 1024) : dhRow m c (rowAt b l) k = DH m c (ix3 b l k) := by
  show _ = normBwd Mc ec (FF m c b l) (fun k => HeadSpec.err Mc ec (FF m c) (a1 m c) (a2 m c) b l k * Dc * a2 m c (ix1 k)) k
  unfold dhRow
  simp only [err_row, hf_row, gf_eq]
theorem dh_pad (p : Fin 4352) (h : 2064 ≤ p.val % 2176) (k : Fin 1024) : dhRow m c p k = 0 := by
  unfold dhRow normBwd
  simp only [err_pad m c p h, zero_mul, Finset.sum_const_zero, mul_zero]
  rw [div_Mc, mul_zero, sub_zero]
theorem dA_row : dA m c (rowAt b l) = OutSpec.up (DH m c) (a9 m c) 0 (Nat.zero_le _) b l := by
  funext k; unfold dA OutSpec.up
  refine Finset.sum_congr rfl fun x _ => ?_
  rw [dh_row, w_pack]
  exact congrArg (fun i => DH m c (ix3 b l x) * a9 m c (ix2 i x)) (Fin.ext (Nat.zero_add _).symm)
theorem dB_row : dB m c (rowAt b l) = OutSpec.up (DH m c) (a9 m c) 512 le_rfl b l := by
  funext k; unfold dB OutSpec.up
  refine Finset.sum_congr rfl fun x _ => ?_
  rw [dh_row, w_pack]
theorem dA_pad (p : Fin 4352) (h : 2064 ≤ p.val % 2176) (k : Fin 512) : dA m c p k = 0 := by
  unfold dA
  exact Finset.sum_eq_zero fun x _ => by rw [dh_pad m c _ h, zero_mul]
theorem dB_pad (p : Fin 4352) (h : 2064 ≤ p.val % 2176) (k : Fin 512) : dB m c p k = 0 := by
  unfold dB
  exact Finset.sum_eq_zero fun x _ => by rw [dh_pad m c _ h, zero_mul]
theorem xcat_row (k : Fin 1024) : xcat m c (rowAt b l) k
    = OutSpec.cat Nc ec (a3 m c) (a4 m c) (a5 m c) (a6 m c) (a7 m c) (a8 m c) b l k := by
  unfold xcat OutSpec.cat
  rw [yA_row, yB_row, gA_row, gB_row, nA_eq, nB_eq]
theorem loss_row : lossRow m c (rowAt b l) = HeadSpec.lossOf Mc ec (FF m c) (a1 m c) (a2 m c) b l := by
  unfold lossRow HeadSpec.lossOf
  simp only [err_row]
theorem loss_pad (p : Fin 4352) (h : 2064 ≤ p.val % 2176) : lossRow m c p = 0 := by
  unfold lossRow
  simp only [err_pad m c p h, zero_mul, Finset.sum_const_zero]
  exact div_Mc
end Rows

section Results
variable (c : Dev nD)
theorem out_ya : (Pipeline.afterTail₀ cfgs (dats m) 0 (V0 m) [hostOps1] c main_v70 : FVec Ideal ⟨3, ![2, 2064, 512]⟩ .f32)
    = OutSpec.dy Nc ec (DH m c) (a9 m c) 0 (Nat.zero_le _) (a3 m c) (a5 m c) (a7 m c) := by
  funext i
  idx_vars i
  rw [tv70]
  show halfDy Nc ec (yA m c (rowAt i0 i1)) (gA m c (rowAt i0 i1)) (dA m c (rowAt i0 i1)) (nA m c) i2 = _
  rw [yA_row, gA_row, dA_row, nA_eq]
  rfl
theorem out_yb : (Pipeline.afterTail₀ cfgs (dats m) 0 (V0 m) [hostOps1] c main_v74 : FVec Ideal ⟨3, ![2, 2064, 512]⟩ .f32)
    = OutSpec.dy Nc ec (DH m c) (a9 m c) 512 le_rfl (a4 m c) (a6 m c) (a8 m c) := by
  funext i
  idx_vars i
  rw [tv74]
  show halfDy Nc ec (yB m c (rowAt i0 i1)) (gB m c (rowAt i0 i1)) (dB m c (rowAt i0 i1)) (nB m c) i2 = _
  rw [yB_row, gB_row, dB_row, nB_eq]
  rfl
theorem out_ga : (Pipeline.afterTail₀ cfgs (dats m) 0 (V0 m) [hostOps1] c main_v78 : FVec Ideal ⟨3, ![2, 2064, 512]⟩ .f32)
    = OutSpec.dg Nc ec (DH m c) (a9 m c) 0 (Nat.zero_le _) (a3 m c) (a5 m c) (a7 m c) := by
  funext i
  idx_vars i
  rw [tv78]
  show halfDg Nc ec (yA m c (rowAt i0 i1)) (gA m c (rowAt i0 i1)) (dA m c (rowAt i0 i1)) (nA m c) i2 = _
  rw [yA_row, gA_row, dA_row, nA_eq]
  rfl
theorem out_gb : (Pipeline.afterTail₀ cfgs (dats m) 0 (V0 m) [hostOps1] c main_v82 : FVec Ideal ⟨3, ![2, 2064, 512]⟩ .f32)
    = OutSpec.dg Nc ec (DH m c) (a9 m c) 512 le_rfl (a4 m c) (a6 m c) (a8 m c) := by
  funext i
  idx_vars i
  rw [tv82]
  show halfDg Nc ec (yB m c (rowAt i0 i1)) (gB m c (rowAt i0 i1)) (dB m c (rowAt i0 i1)) (nB m c) i2 = _
  rw [yB_row, gB_row, dB_row, nB_eq]
  rfl
theorem out_na : (Pipeline.afterTail₀ cfgs (dats m) 0 (V0 m) [hostOps1] c main_v83 : FVec Ideal ⟨1, ![512]⟩ .f32)
    = OutSpec.dn Nc ec (DH m c) (a9 m c) 0 (Nat.zero_le _) (a3 m c) (a5 m c) := by
  funext i
  idx_vars i
  rw [tv83]
  show ∑ p : Fin 4352, halfDn Nc ec (yA m c p) (gA m c p) (dA m c p) i0 = _
  rw [sum_packed _ fun p hp => by unfold halfDn; rw [dA_pad m c p hp, zero_mul, zero_mul]]
  simp only [yA_row, gA_row, dA_row]
  rfl
theorem out_nb : (Pipeline.afterTail₀ cfgs (dats m) 0 (V0 m) [hostOps1] c main_v84 : FVec Ideal ⟨1, ![512]⟩ .f32)
    = OutSpec.dn Nc ec (DH m c) (a9 m c) 512 le_rfl (a4 m c) (a6 m c) := by
  funext i
  idx_vars i
  rw [tv84]
  show ∑ p : Fin 4352, halfDn Nc ec (yB m c p) (gB m c p) (dB m c p) i0 = _
  rw [sum_packed _ fun p hp => by unfold halfDn; rw [dB_pad m c p hp, zero_mul, zero_mul]]
  simp only [yB_row, gB_row, dB_row]
  rfl
theorem out_w : res15 m c = OutSpec.dw Nc ec (DH m c) (a3 m c) (a4 m c) (a5 m c) (a6 m c) (a7 m c) (a8 m c) := by
  funext i
  idx_vars i
  have h : res15 m c (ix2 i0 i1) = ∑ p : Fin 4352, term15 m c i0 i1 p := by unfold res15; rfl
  rw [h, sum_packed _ fun p hp => by unfold term15; rw [dh_pad m c _ hp, mul_zero]]
  refine Finset.sum_congr rfl fun b _ => Finset.sum_congr rfl fun l _ => ?_
  unfold term15
  rw [xcat_row, dh_row]
  rfl
theorem out_dh : (Pipeline.afterTail₀ cfgs (dats m) 0 (V0 m) [hostOps1] c main_v65 : FVec Ideal ⟨3, ![2, 2064, 1024]⟩ .f32) = DH m c := by
  funext i
  idx_vars i
  rw [tv65]
  exact dh_row m c i0 i1 i2
theorem out_gf : (Pipeline.afterTail₀ cfgs (dats m) 0 (V0 m) [hostOps1] c main_v66 : FVec Ideal ⟨1, ![1024]⟩ .f32)
    = HeadSpec.dgf Mc ec Dc (FF m c) (a1 m c) (a2 m c) := by
  funext i
  idx_vars i
  rw [tv66]
  show ∑ p : Fin 4352, gfRow m c i0 p = ∑ b : Fin 2, ∑ l : Fin 2064, HeadSpec.err Mc ec (FF m c) (a1 m c) (a2 m c) b l i0 * Dc * (FF m c b l i0 * rst Mc ec (FF m c b l))
  rw [sum_packed _ fun p hp => by unfold gfRow; rw [err_pad m c p hp, zero_mul, zero_mul]]
  unfold gfRow
  simp only [err_row, hf_row]
/-- A finite constant moves out of a sum taken in runs of 256. -/
theorem mul_runs (L : Fin 4352 → EReal) (hL : ∀ p, Num (L p)) :
    ∑ s : Fin 17, Hf * ∑ r : Fin 256, L ⟨s.val * 256 + r.val, by omega⟩ = Hf * ∑ p : Fin 4352, L p := by
  choose f hf using hL
  obtain rfl : L = fun p => (f p : EReal) := funext hf
  have e : ∑ s : Fin 17, ∑ r : Fin 256, (f ⟨s.val * 256 + r.val, by omega⟩ : EReal) = ∑ p : Fin 4352, (f p : EReal) :=
    Fin.sum_mul_add_congr fun s k hl => rfl
  rw [← e, Hf_eq]
  simp only [coe_sum, ← EReal.coe_mul, Finset.mul_sum]
theorem out_loss (hL : ∀ p, Num (lossRow m c p)) :
    (Pipeline.afterTail₀ cfgs (dats m) 0 (V0 m) [hostOps1] c main_v61 : FVec Ideal ⟨0, ![]⟩ .f32) = HeadSpec.loss Mc ec Hf (FF m c) (a1 m c) (a2 m c) := by
  funext i
  rw [tv61]
  show ∑ s : Fin 17, Hf * ∑ r : Fin 256, lossRow m c ⟨s.val * 256 + r.val, by omega⟩ = Hf * ∑ b : Fin 2, ∑ l : Fin 2064, HeadSpec.lossOf Mc ec (FF m c) (a1 m c) (a2 m c) b l
  rw [mul_runs _ hL, sum_packed _ (loss_pad m c)]
  simp only [loss_row]
end Results
end Cert.HeadIdeal.Value
end
-- ==== Proof.HeadRefForm.lean ====
/- The reference's gradients of the last layer are the gradients in closed form. -/
module
public import proofs.«01_k».proof.Proof.Gen.HeadRefIdeal.Read
public import proofs.«01_k».proof.Proof.OutRefForm
public import proofs.«01_k».proof.Proof.HeadSpec
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.HeadRefIdeal.Form
open Cert.HeadRefIdeal Cert.HeadRefIdeal.Gen Cert.HeadRefIdeal.Read Cert.Norm

open Cert.OutRefIdeal.Form (Nc ec Hc Nc_eq ec_eq Hc_eq num_row num_gain num_silu)
abbrev Mc : EReal := Ideal.ofBits .f32 1149239296#32
abbrev Dc : EReal := Ideal.ofBits .f32 981467136#32
abbrev Hf : EReal := Ideal.ofBits .f32 1056964608#32
abbrev Tc : EReal := Ideal.ofBits .f32 1073741824#32
theorem Mc_eq : Mc = ((1024 : ℝ) : EReal) := by
  simp [Mc, Ideal.ofBits, Ideal.ieee, -EReal.coe_mul]; norm_num
theorem Dc_eq : Dc = ((1 / 1024 : ℝ) : EReal) := by
  simp [Dc, Ideal.ofBits, Ideal.ieee, -EReal.coe_mul]; norm_num
theorem Hf_eq : Hf = ((1 / 2 : ℝ) : EReal) := by
  simp [Hf, Ideal.ofBits, Ideal.ieee, -EReal.coe_mul]; norm_num
theorem Tc_eq : Tc = ((2 : ℝ) : EReal) := by
  simp [Tc, Ideal.ofBits, Ideal.ieee, -EReal.coe_mul]; norm_num
variable (x0 : FVec Ideal S2x2064x1024 .f32) (x1 : FVec Ideal S2x2048x1024 .f32) (x2 : FVec Ideal S1024 .f32) (x3 x4 x5 x6 : FVec Ideal S2x2064x512 .f32) (x7 x8 : FVec Ideal S512 .f32) (x9 : FVec Ideal S1024x1024 .f32)

/-! ### Below the residual stream's gradient the program is the gated output's -/
theorem below_v142 : val_main_v142 (F := Ideal) x0 x1 x2 x3 x4 x5 x6 x7 x8 x9
    = OutRefIdeal.Read.val_main_v88 (F := Ideal) (val_main_v91 (F := Ideal) x0 x1 x2 x3 x4 x5 x6 x7 x8 x9) x3 x5 x7 x9 := rfl
theorem below_v119 : val_main_v119 (F := Ideal) x0 x1 x2 x3 x4 x5 x6 x7 x8 x9
    = OutRefIdeal.Read.val_main_v65 (F := Ideal) (val_main_v91 (F := Ideal) x0 x1 x2 x3 x4 x5 x6 x7 x8 x9) x4 x6 x8 x9 := rfl
theorem below_v122 : val_main_v122 (F := Ideal) x0 x1 x2 x3 x4 x5 x6 x7 x8 x9
    = OutRefIdeal.Read.val_main_v68 (F := Ideal) (val_main_v91 (F := Ideal) x0 x1 x2 x3 x4 x5 x6 x7 x8 x9) x3 x5 x7 x9 := rfl
theorem below_v99 : val_main_v99 (F := Ideal) x0 x1 x2 x3 x4 x5 x6 x7 x8 x9
    = OutRefIdeal.Read.val_main_v45 (F := Ideal) (val_main_v91 (F := Ideal) x0 x1 x2 x3 x4 x5 x6 x7 x8 x9) x4 x6 x8 x9 := rfl
theorem below_v128 : val_main_v128 (F := Ideal) x0 x1 x2 x3 x4 x5 x6 x7 x8 x9
    = OutRefIdeal.Read.val_main_v74 (F := Ideal) (val_main_v91 (F := Ideal) x0 x1 x2 x3 x4 x5 x6 x7 x8 x9) x3 x5 x9 := rfl
theorem below_v105 : val_main_v105 (F := Ideal) x0 x1 x2 x3 x4 x5 x6 x7 x8 x9
    = OutRefIdeal.Read.val_main_v51 (F := Ideal) (val_main_v91 (F := Ideal) x0 x1 x2 x3 x4 x5 x6 x7 x8 x9) x4 x6 x9 := rfl
theorem below_v93 : val_main_v93 (F := Ideal) x0 x1 x2 x3 x4 x5 x6 x7 x8 x9
    = OutRefIdeal.Read.val_main_v39 (F := Ideal) (val_main_v91 (F := Ideal) x0 x1 x2 x3 x4 x5 x6 x7 x8 x9) x3 x4 x5 x6 x7 x8 := rfl

/-- The residual stream of the arguments. -/
def FX : Fin 2 → Fin 2064 → Fin 1024 → EReal := HeadSpec.hf Nc ec x0 x3 x4 x5 x6 x7 x8 x9
theorem r_v38 (b : Fin 2) (l : Fin 2064) (k : Fin 1024) : val_main_v38 (F := Ideal) x0 x3 x4 x5 x6 x7 x8 x9 (ix3 b l k) = FX x0 x3 x4 x5 x6 x7 x8 x9 b l k := by
  unfold FX
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_call0_v0, val_main_call0_v1, val_main_call0_cst, val_main_call0_v2, val_main_call0_v3, val_main_call0_cst_0, val_main_call0_v4, val_main_v16_2, val_main_v16_0, val_main_v17, val_main_v18, val_main_cst_3, val_main_v19, val_main_v20, val_main_cst_4, val_main_v21, val_main_v22, val_main_cst_5, val_main_v23, val_main_v24, val_main_v25, val_main_v29, val_main_v30, val_main_v31, val_main_v32, val_main_v33, val_main_call1_v0, val_main_call1_v1, val_main_call1_cst, val_main_call1_v2, val_main_call1_v3, val_main_call1_cst_0, val_main_call1_v4, val_main_v34_2, val_main_v34_0, val_main_v35, val_main_v36, val_main_v37, val_main_v38, HeadSpec.hf, OutSpec.cat, halfOut, silu, rst, OutSpec.row, OutSpec.gain]
  rfl
theorem r_v39 (b : Fin 2) (l : Fin 2048) (k : Fin 1024) : val_main_v39 (F := Ideal) x0 x3 x4 x5 x6 x7 x8 x9 (ix3 b l k) = FX x0 x3 x4 x5 x6 x7 x8 x9 b ⟨16 + l.val, by omega⟩ k := by
  rw [← r_v38]
  pointwise [val_main_v39]
theorem r_v47 (b : Fin 2) (l : Fin 2048) (j : Fin 1) : val_main_v47 (F := Ideal) x0 x3 x4 x5 x6 x7 x8 x9 (ix3 b l j) = rst Mc ec (FX x0 x3 x4 x5 x6 x7 x8 x9 b ⟨16 + l.val, by omega⟩) := by
  pointwise [val_main_v40, val_main_cst_7, val_main_v41, val_main_v42, val_main_cst_8, val_main_v43, val_main_v44, val_main_cst_9, val_main_v45, val_main_v46, val_main_v47, rst]
  simp only [r_v39]
theorem r_v56 (b : Fin 2) (l : Fin 2048) (k : Fin 1024) : val_main_v56 (F := Ideal) x0 x1 x2 x3 x4 x5 x6 x7 x8 x9 (ix3 b l k)
    = HeadSpec.err Mc ec (FX x0 x3 x4 x5 x6 x7 x8 x9) x1 x2 b ⟨16 + l.val, by omega⟩ k := by
  unfold HeadSpec.err
  rw [dif_pos (Nat.le_add_right _ _)]
  pointwise [val_main_v51, val_main_v52, val_main_v53, val_main_v54, val_main_v55, val_main_v56]
  simp only [r_v39, r_v47, Nat.add_sub_cancel_left]
/-- Twice the error, a half, over the row's length. -/
theorem scale {e : EReal} (he : Num e) : Ideal.div (Hf * 1) Mc * (Tc * e) = e * Dc := by
  obtain ⟨r, rfl⟩ := he
  rw [Hf_eq, Mc_eq, Tc_eq, Dc_eq, ← EReal.coe_one]
  simp only [← EReal.coe_mul, div_real _ _ (by norm_num : (1024 : ℝ) ≠ 0)]
  congr 1; ring
theorem sum_real (f : Fin 2064 → EReal) (hf : ∀ l : Fin 2064, l.val < 16 → f l = 0) : ∑ l, f l = ∑ l : Fin 2048, f ⟨16 + l.val, by omega⟩ := by
  have h := Fin.sum_univ_add (a := 16) (b := 2048) f
  rw [h, Finset.sum_eq_zero fun l _ => hf _ (by show l.val < 16; omega), zero_add]
  rfl

section Finite
variable (h0 : ∀ i, Num (x0 i)) (h1 : ∀ i, Num (x1 i)) (h2 : ∀ i, Num (x2 i)) (h3 : ∀ i, Num (x3 i)) (h4 : ∀ i, Num (x4 i)) (h5 : ∀ i, Num (x5 i))
  (h6 : ∀ i, Num (x6 i)) (h7 : ∀ i, Num (x7 i)) (h8 : ∀ i, Num (x8 i)) (h9 : ∀ i, Num (x9 i))
include h0 h3 h4 h5 h6 h7 h8 h9
theorem num_FX (b : Fin 2) (l : Fin 2064) (k : Fin 1024) : Num (FX x0 x3 x4 x5 x6 x7 x8 x9 b l k) := by
  obtain ⟨ε, hε, he⟩ := ec_eq
  refine (h0 _).add (Num.sum _ fun i => Num.mul ?_ (h9 _))
  unfold OutSpec.cat halfOut
  split_ifs with h
  · exact (((num_row h3 b l _).mul (num_rst Nc_eq (by norm_num) he hε (num_row h3 b l))).mul (num_gain h7 _)).mul (num_silu (num_row h5 b l _))
  · exact (((num_row h4 b l _).mul (num_rst Nc_eq (by norm_num) he hε (num_row h4 b l))).mul (num_gain h8 _)).mul (num_silu (num_row h6 b l _))
theorem num_rF (b : Fin 2) (l : Fin 2064) : Num (rst Mc ec (FX x0 x3 x4 x5 x6 x7 x8 x9 b l)) := by
  obtain ⟨ε, hε, he⟩ := ec_eq
  exact num_rst Mc_eq (by norm_num) he hε (num_FX x0 x3 x4 x5 x6 x7 x8 x9 h0 h3 h4 h5 h6 h7 h8 h9 b l)
include h1 h2
theorem num_err (b : Fin 2) (l : Fin 2064) (k : Fin 1024) : Num (HeadSpec.err Mc ec (FX x0 x3 x4 x5 x6 x7 x8 x9) x1 x2 b l k) := by
  unfold HeadSpec.err
  split_ifs with h
  · obtain ⟨u, hu⟩ := ((num_FX x0 x3 x4 x5 x6 x7 x8 x9 h0 h3 h4 h5 h6 h7 h8 h9 b l k).mul (num_rF x0 x3 x4 x5 x6 x7 x8 x9 h0 h3 h4 h5 h6 h7 h8 h9 b l)).mul (h2 (ix1 k))
    obtain ⟨v, hv⟩ := h1 (ix3 b ⟨l.val - 16, by omega⟩ k)
    exact ⟨u - v, by rw [hu, hv, EReal.coe_sub]⟩
  · exact ⟨0, rfl⟩
theorem r_v70 (b : Fin 2) (l : Fin 2048) (k : Fin 1024) : val_main_v70 (F := Ideal) x0 x1 x2 x3 x4 x5 x6 x7 x8 x9 (ix3 b l k)
    = HeadSpec.err Mc ec (FX x0 x3 x4 x5 x6 x7 x8 x9) x1 x2 b ⟨16 + l.val, by omega⟩ k * Dc := by
  rw [← scale (num_err x0 x1 x2 x3 x4 x5 x6 x7 x8 x9 h0 h1 h2 h3 h4 h5 h6 h7 h8 h9 b _ k), ← r_v56]
  pointwise [val_main_cst_11, val_main_v58, val_main_v59, val_main_cst_16, val_main_cst_17, val_main_v65, val_main_v66, val_main_cst_18, val_main_v67, val_main_v68, val_main_v69, val_main_v70]
theorem r_v90 (b : Fin 2) (l : Fin 2048) (k : Fin 1024) : val_main_v90 (F := Ideal) x0 x1 x2 x3 x4 x5 x6 x7 x8 x9 (ix3 b l k)
    = HeadSpec.dh Mc ec Dc (FX x0 x3 x4 x5 x6 x7 x8 x9) x1 x2 (ix3 b ⟨16 + l.val, by omega⟩ k) := by
  obtain ⟨ε, hε, he⟩ := ec_eq
  show _ = normBwd Mc ec (FX x0 x3 x4 x5 x6 x7 x8 x9 b ⟨16 + l.val, by omega⟩)
    (fun k => HeadSpec.err Mc ec (FX x0 x3 x4 x5 x6 x7 x8 x9) x1 x2 b ⟨16 + l.val, by omega⟩ k * Dc * x2 (ix1 k)) k
  rw [normBwd_eq Mc_eq (by norm_num) he hε Hc_eq (num_FX x0 x3 x4 x5 x6 x7 x8 x9 h0 h3 h4 h5 h6 h7 h8 h9 b _)
    (fun k => ((num_err x0 x1 x2 x3 x4 x5 x6 x7 x8 x9 h0 h1 h2 h3 h4 h5 h6 h7 h8 h9 b _ k).mul (by rw [Dc_eq]; exact ⟨_, rfl⟩)).mul (h2 _)) k]
  pointwise [val_main_v48, val_main_cst_10, val_main_v49, val_main_v50, val_main_v53, val_main_v74, val_main_v75, val_main_v77, val_main_cst_21, val_main_v78, val_main_v79, val_main_v80, val_main_v81, val_main_v82, val_main_cst_22, val_main_v83, val_main_v84, val_main_cst_23, val_main_v85, val_main_v86, val_main_v87, val_main_v88, val_main_v89, val_main_v90]
  pointwise [val_main_v40, val_main_cst_7, val_main_v41, val_main_v42, val_main_cst_8, val_main_v43, val_main_v44, val_main_cst_9, val_main_v45, val_main_v46, Norm.slope]
  simp only [r_v39, r_v47, r_v70 x0 x1 x2 x3 x4 x5 x6 x7 x8 x9 h0 h1 h2 h3 h4 h5 h6 h7 h8 h9]
theorem r_v91 : val_main_v91 (F := Ideal) x0 x1 x2 x3 x4 x5 x6 x7 x8 x9 = HeadSpec.dh Mc ec Dc (FX x0 x3 x4 x5 x6 x7 x8 x9) x1 x2 := by
  funext i
  idx_vars i
  by_cases h : 16 ≤ i1.val
  · obtain ⟨i1, hi⟩ := i1
    obtain ⟨n, rfl⟩ := Nat.exists_eq_add_of_le (show 16 ≤ i1 from h)
    refine Eq.trans ?_ (r_v90 x0 x1 x2 x3 x4 x5 x6 x7 x8 x9 h0 h1 h2 h3 h4 h5 h6 h7 h8 h9 i0 ⟨n, by omega⟩ i2)
    pointwise [val_main_v91]
    rw [dif_pos (by omega)]
  · show _ = normBwd Mc ec (FX x0 x3 x4 x5 x6 x7 x8 x9 i0 i1) (fun k => HeadSpec.err Mc ec (FX x0 x3 x4 x5 x6 x7 x8 x9) x1 x2 i0 i1 k * Dc * x2 (ix1 k)) i2
    unfold normBwd HeadSpec.err
    simp only [dif_neg h, zero_mul, Finset.sum_const_zero, mul_zero]
    rw [Mc_eq, ← EReal.coe_zero, div_real _ _ (by norm_num), zero_div, EReal.coe_zero, mul_zero, sub_zero]
    pointwise [val_main_v91, val_main_cst_24]
    rw [dif_neg fun e => h e.1]
theorem r_v76 : val_main_v76 (F := Ideal) x0 x1 x2 x3 x4 x5 x6 x7 x8 x9 = HeadSpec.dgf Mc ec Dc (FX x0 x3 x4 x5 x6 x7 x8 x9) x1 x2 := by
  funext i
  idx_vars i
  show _ = ∑ b : Fin 2, ∑ l : Fin 2064, HeadSpec.err Mc ec (FX x0 x3 x4 x5 x6 x7 x8 x9) x1 x2 b l i0 * Dc * (FX x0 x3 x4 x5 x6 x7 x8 x9 b l i0 * rst Mc ec (FX x0 x3 x4 x5 x6 x7 x8 x9 b l))
  pointwise [val_main_v51, val_main_v52, val_main_v71, val_main_cst_19, val_main_v72, val_main_v73, val_main_cst_20, val_main_v76, Ideal.hostSum_first_two]
  simp only [Finset.univ_unique, Finset.sum_const, Finset.card_singleton, one_smul]
  refine Finset.sum_congr rfl fun b _ => ?_
  rw [sum_real _ fun l hl => by unfold HeadSpec.err; rw [dif_neg (by omega), zero_mul, zero_mul]]
  refine Finset.sum_congr rfl fun l _ => ?_
  rw [← r_v70 x0 x1 x2 x3 x4 x5 x6 x7 x8 x9 h0 h1 h2 h3 h4 h5 h6 h7 h8 h9, ← r_v39, ← r_v47 x0 x3 x4 x5 x6 x7 x8 x9 b l 0]
  exact mul_comm _ _
theorem num_loss (b : Fin 2) (l : Fin 2064) : Num (HeadSpec.lossOf Mc ec (FX x0 x3 x4 x5 x6 x7 x8 x9) x1 x2 b l) := by
  obtain ⟨r, hr⟩ := Num.sum Finset.univ fun k => (num_err x0 x1 x2 x3 x4 x5 x6 x7 x8 x9 h0 h1 h2 h3 h4 h5 h6 h7 h8 h9 b l k).mul
    (num_err x0 x1 x2 x3 x4 x5 x6 x7 x8 x9 h0 h1 h2 h3 h4 h5 h6 h7 h8 h9 b l k)
  exact ⟨r / 1024, by unfold HeadSpec.lossOf; rw [hr, Mc_eq, div_real _ _ (by norm_num)]⟩
theorem num_dh (i : (OutSpec.Tok 1024).Idx) : Num (HeadSpec.dh Mc ec Dc (FX x0 x3 x4 x5 x6 x7 x8 x9) x1 x2 i) := by
  idx_vars i
  have hF := num_FX x0 x3 x4 x5 x6 x7 x8 x9 h0 h3 h4 h5 h6 h7 h8 h9 i0 i1
  have hr := num_rF x0 x3 x4 x5 x6 x7 x8 x9 h0 h3 h4 h5 h6 h7 h8 h9 i0 i1
  have hz : ∀ k, Num (HeadSpec.err Mc ec (FX x0 x3 x4 x5 x6 x7 x8 x9) x1 x2 i0 i1 k * Dc * x2 (ix1 k)) := fun k =>
    ((num_err x0 x1 x2 x3 x4 x5 x6 x7 x8 x9 h0 h1 h2 h3 h4 h5 h6 h7 h8 h9 i0 i1 k).mul (by rw [Dc_eq]; exact ⟨_, rfl⟩)).mul (h2 _)
  obtain ⟨u, hu⟩ := hr.mul (hz i2)
  obtain ⟨s, hs⟩ := Num.sum Finset.univ fun k => (hz k).mul (hF k)
  obtain ⟨v, hv⟩ := (hF i2).mul ((hr.mul hr).mul hr)
  refine ⟨u - v * (s / 1024), ?_⟩
  show normBwd Mc ec (FX x0 x3 x4 x5 x6 x7 x8 x9 i0 i1) (fun k => HeadSpec.err Mc ec (FX x0 x3 x4 x5 x6 x7 x8 x9) x1 x2 i0 i1 k * Dc * x2 (ix1 k)) i2 = _
  unfold normBwd
  rw [hs, hv, hu, Mc_eq, div_real _ _ (by norm_num), EReal.coe_sub, EReal.coe_mul]
end Finite
theorem r_v64 : val_main_v64 (F := Ideal) x0 x1 x2 x3 x4 x5 x6 x7 x8 x9 = HeadSpec.loss Mc ec Hf (FX x0 x3 x4 x5 x6 x7 x8 x9) x1 x2 := by
  funext i
  show _ = Hf * ∑ b : Fin 2, ∑ l : Fin 2064, HeadSpec.lossOf Mc ec (FX x0 x3 x4 x5 x6 x7 x8 x9) x1 x2 b l
  pointwise [val_main_v57, val_main_cst_12, val_main_v60, val_main_cst_13, val_main_v61, val_main_v62, val_main_cst_14, val_main_v63, val_main_cst_15, val_main_v64, Ideal.hostSum_first_two]
  refine congrArg (Hf * ·) (Finset.sum_congr rfl fun b _ => ?_)
  rw [sum_real _ fun l hl => by
    unfold HeadSpec.lossOf HeadSpec.err
    simp only [dif_neg (show ¬ 16 ≤ l.val by omega), zero_mul, Finset.sum_const_zero]
    rw [Mc_eq, ← EReal.coe_zero, div_real _ _ (by norm_num), zero_div]]
  refine Finset.sum_congr rfl fun l _ => ?_
  unfold HeadSpec.lossOf
  simp only [r_v56]
end Cert.HeadRefIdeal.Form
end
-- ==== Proof.HeadClaim.lean ====
/- The claims about the last layer: the runs of both programs, and equal loss and gradients on finite arguments. -/
module
public import proofs.«01_k».proof.Defs
public import proofs.«01_k».proof.Proof.HeadOut
public import proofs.«01_k».proof.Proof.HeadRefForm
public import proofs.«01_k».proof.Proof.Gen.Head.Frame
public import proofs.«01_k».proof.Proof.Gen.HeadIdeal.Frame
public import proofs.«01_k».proof.Proof.Gen.HeadRefIdeal.Run
public import proofs.«01_k».proof.Proof.Gen.HeadRefIdeal.Read
public import Idealize.ShloMosaic.Lib.Claim
@[expose] public section
set_option maxRecDepth 16384
noncomputable section
open Idealize.ShloMosaic Idealize.ShloMosaic.TcCoe Idealize.SL.Sem
namespace Cert.HeadClaim
open Cert.Norm

theorem pre_facts : Cert.Pre_head_finite.Facts where
  bcast_S_S2x2064x1024 := by decide
  reducesTo_S2x2064x1024_S_d0_1_2 := by decide
  h_S_ := by decide
  bcast_S_S2x2048x1024 := by decide
  reducesTo_S2x2048x1024_S_d0_1_2 := by decide
  bcast_S_S1024 := by decide
  reducesTo_S1024_S_d0 := by decide
  bcast_S_S2x2064x512 := by decide
  reducesTo_S2x2064x512_S_d0_1_2 := by decide
  bcast_S_S512 := by decide
  reducesTo_S512_S_d0 := by decide
  bcast_S_S1024x1024 := by decide
  reducesTo_S1024x1024_S_d0_1 := by decide

attribute [local instance] Cert.Head.Gen.facts Cert.HeadIdeal.Gen.facts Cert.HeadRefIdeal.Gen.facts pre_facts

/-- What the precondition says of the ten arguments: every element is a number. -/
theorem nums (m : (ℓ : Loc Cert.HeadIdeal.nD Cert.HeadIdeal.τ Cert.HeadIdeal.sig) → Buf (Elt Ideal) ℓ) (h : Cert.Pre_HeadIdeal_head_finite m) (c : Dev Cert.HeadIdeal.nD) :
    (∀ i, Num (HeadIdeal.Value.a0 m c i))
      ∧ (∀ i, Num (HeadIdeal.Value.a1 m c i))
      ∧ (∀ i, Num (HeadIdeal.Value.a2 m c i))
      ∧ (∀ i, Num (HeadIdeal.Value.a3 m c i))
      ∧ (∀ i, Num (HeadIdeal.Value.a4 m c i))
      ∧ (∀ i, Num (HeadIdeal.Value.a5 m c i))
      ∧ (∀ i, Num (HeadIdeal.Value.a6 m c i))
      ∧ (∀ i, Num (HeadIdeal.Value.a7 m c i))
      ∧ (∀ i, Num (HeadIdeal.Value.a8 m c i))
      ∧ (∀ i, Num (HeadIdeal.Value.a9 m c i)) := by
  have h := congrFun (h c) (fun x => x.elim0)
  dsimp only [Cert.Pre_head_finite.fn, Cert.Pre_head_finite.fn_part1, Cert.Pre_head_finite.fn_part2] at h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨num_of_all _ _ _ _ _ h0, num_of_all _ _ _ _ _ h1, num_of_all _ _ _ _ _ h2, num_of_all _ _ _ _ _ h3, num_of_all _ _ _ _ _ h4, num_of_all _ _ _ _ _ h5, num_of_all _ _ _ _ _ h6, num_of_all _ _ _ _ _ h7, num_of_all _ _ _ _ _ h8, num_of_all _ _ _ _ _ h9⟩

theorem frame_p : Cert.quiescent_Head := fun m ρ _ => Cert.Head.Gen.frame m ρ
theorem frame_pi : Cert.quiescent_HeadIdeal := fun m ρ _ => Cert.HeadIdeal.Gen.frame m ρ
theorem frame_pi_finite : Cert.quiescent_HeadIdeal_pre_head_finite := fun m ρ _ => Cert.HeadIdeal.Gen.frame m ρ
theorem frame_ri : Cert.quiescent_HeadRefIdeal := fun m ρ _ =>
  (θ_run Cert.HeadRefIdeal.defs _ _).mono (fun r h => ⟨fun c => (h c).2.2.2.2.2.2.2.2.2.2, sem_eq_zero_of_no_sems (by decide) r.2⟩)
    (Cert.HeadRefIdeal.Value.run (F := Ideal) m ρ)
theorem frame_ri_finite : Cert.quiescent_HeadRefIdeal_pre_head_finite := fun m ρ _ => frame_ri m ρ trivial

section Loss
open Cert.HeadIdeal.Value Cert.HeadIdeal
/-- Each packed row's share of the loss is a number. -/
theorem num_lossRow (m : (ℓ : Loc nD τ sig) → Buf (Elt Ideal) ℓ) (h : Cert.Pre_HeadIdeal_head_finite m) (c : Dev nD) (p : Fin 4352) : Num (lossRow m c p) := by
  obtain ⟨n0, n1, n2, n3, n4, n5, n6, n7, n8, n9⟩ := nums m h c
  by_cases hp : 2064 ≤ p.val % 2176
  · rw [loss_pad m c p hp]; exact ⟨0, rfl⟩
  · obtain ⟨b, l, rfl⟩ : ∃ b l, p = rowAt b l := by
      have := p.isLt
      by_cases hr : p.val % 2176 < 2048
      · refine ⟨⟨p.val / 2176, by omega⟩, ⟨16 + p.val % 2176, by omega⟩, Fin.ext ?_⟩
        rw [rowAt_val, if_neg (by show ¬ 16 + p.val % 2176 < 16; omega)]
        show p.val = p.val / 2176 * 2176 + (16 + p.val % 2176 - 16)
        omega
      · refine ⟨⟨p.val / 2176, by omega⟩, ⟨p.val % 2176 - 2048, by omega⟩, Fin.ext ?_⟩
        rw [rowAt_val, if_pos (by show p.val % 2176 - 2048 < 16; omega)]
        show p.val = p.val / 2176 * 2176 + (2048 + (p.val % 2176 - 2048))
        omega
    rw [loss_row]
    exact HeadRefIdeal.Form.num_loss _ _ _ _ _ _ _ _ _ _ n0 n1 n2 n3 n4 n5 n6 n7 n8 n9 b l
end Loss

open Cert.HeadIdeal.Value Cert.HeadIdeal in
theorem algebraic : Cert.algebraic_HeadIdeal_HeadRefIdeal_pre_head_finite := by
  intro m g m' g' hpre hagree
  refine ⟨fun c => HeadSpec.loss Mc ec Hf (FF m c) (a1 m c) (a2 m c), fun c => DH m c, fun c => HeadSpec.dgf Mc ec Dc (FF m c) (a1 m c) (a2 m c),
    fun c => OutSpec.dy Nc ec (DH m c) (a9 m c) 0 (Nat.zero_le _) (a3 m c) (a5 m c) (a7 m c),
    fun c => OutSpec.dy Nc ec (DH m c) (a9 m c) 512 le_rfl (a4 m c) (a6 m c) (a8 m c),
    fun c => OutSpec.dg Nc ec (DH m c) (a9 m c) 0 (Nat.zero_le _) (a3 m c) (a5 m c) (a7 m c),
    fun c => OutSpec.dg Nc ec (DH m c) (a9 m c) 512 le_rfl (a4 m c) (a6 m c) (a8 m c),
    fun c => OutSpec.dn Nc ec (DH m c) (a9 m c) 0 (Nat.zero_le _) (a3 m c) (a5 m c),
    fun c => OutSpec.dn Nc ec (DH m c) (a9 m c) 512 le_rfl (a4 m c) (a6 m c),
    fun c => OutSpec.dw Nc ec (DH m c) (a3 m c) (a4 m c) (a5 m c) (a6 m c) (a7 m c) (a8 m c), ?_, ?_⟩
  · refine (θ_run defs _ _).mono ?_ (θ_run_and (Gen.run_main m g) (Gen.unchanged m g))
    rintro r ⟨h, hu⟩ c
    refine ⟨((h c).2 main_v61 (by decide)).trans (out_loss m c (num_lossRow m hpre c)), ((h c).2 main_v65 (by decide)).trans (out_dh m c),
      ((h c).2 main_v66 (by decide)).trans (out_gf m c), ((h c).2 main_v70 (by decide)).trans (out_ya m c), ((h c).2 main_v74 (by decide)).trans (out_yb m c),
      ((h c).2 main_v78 (by decide)).trans (out_ga m c), ((h c).2 main_v82 (by decide)).trans (out_gb m c), ((h c).2 main_v83 (by decide)).trans (out_na m c),
      ((h c).2 main_v84 (by decide)).trans (out_nb m c), ((h c).1 15).trans ((final15 m c).trans (out_w m c)), hu c⟩
  · refine (θ_run HeadRefIdeal.defs _ _).mono ?_ (HeadRefIdeal.Value.run m' g')
    intro r h c
    obtain ⟨h0, h1, h2, h3, h4, h5, h6, h7, h8, h9, hu⟩ := h c
    obtain ⟨e0, e1, e2, e3, e4, e5, e6, e7, e8, e9⟩ := hagree c
    obtain ⟨n0, n1, n2, n3, n4, n5, n6, n7, n8, n9⟩ := nums m hpre c
    have E0 : StableHlo.launchContents m' c (Proc.devRef .tc HeadRefIdeal.main_arg0) = a0 m c := e0
    have E1 : StableHlo.launchContents m' c (Proc.devRef .tc HeadRefIdeal.main_arg1) = a1 m c := e1
    have E2 : StableHlo.launchContents m' c (Proc.devRef .tc HeadRefIdeal.main_arg2) = a2 m c := e2
    have E3 : StableHlo.launchContents m' c (Proc.devRef .tc HeadRefIdeal.main_arg3) = a3 m c := e3
    have E4 : StableHlo.launchContents m' c (Proc.devRef .tc HeadRefIdeal.main_arg4) = a4 m c := e4
    have E5 : StableHlo.launchContents m' c (Proc.devRef .tc HeadRefIdeal.main_arg5) = a5 m c := e5
    have E6 : StableHlo.launchContents m' c (Proc.devRef .tc HeadRefIdeal.main_arg6) = a6 m c := e6
    have E7 : StableHlo.launchContents m' c (Proc.devRef .tc HeadRefIdeal.main_arg7) = a7 m c := e7
    have E8 : StableHlo.launchContents m' c (Proc.devRef .tc HeadRefIdeal.main_arg8) = a8 m c := e8
    have E9 : StableHlo.launchContents m' c (Proc.devRef .tc HeadRefIdeal.main_arg9) = a9 m c := e9
    have hx := HeadRefIdeal.Form.num_dh _ _ _ _ _ _ _ _ _ _ n0 n1 n2 n3 n4 n5 n6 n7 n8 n9
    have h91 := HeadRefIdeal.Form.r_v91 _ _ _ _ _ _ _ _ _ _ n0 n1 n2 n3 n4 n5 n6 n7 n8 n9
    refine ⟨h0.trans ?_, h1.trans ?_, h2.trans ?_, h3.trans ?_, h4.trans ?_, h5.trans ?_, h6.trans ?_, h7.trans ?_, h8.trans ?_, h9.trans ?_, hu⟩
    · rw [HeadRefIdeal.Read.val_main_v64_eq, E0, E1, E2, E3, E4, E5, E6, E7, E8, E9]; exact HeadRefIdeal.Form.r_v64 _ _ _ _ _ _ _ _ _ _
    · rw [HeadRefIdeal.Read.val_main_v91_eq, E0, E1, E2, E3, E4, E5, E6, E7, E8, E9]; exact h91
    · rw [HeadRefIdeal.Read.val_main_v76_eq, E0, E1, E2, E3, E4, E5, E6, E7, E8, E9]; exact HeadRefIdeal.Form.r_v76 _ _ _ _ _ _ _ _ _ _ n0 n1 n2 n3 n4 n5 n6 n7 n8 n9
    · rw [HeadRefIdeal.Read.val_main_v142_eq, E0, E1, E2, E3, E4, E5, E6, E7, E8, E9]; rw [HeadRefIdeal.Form.below_v142, h91]; exact OutRefIdeal.Form.r_v88 _ _ _ _ _ hx n9 n3 n5 n7
    · rw [HeadRefIdeal.Read.val_main_v119_eq, E0, E1, E2, E3, E4, E5, E6, E7, E8, E9]; rw [HeadRefIdeal.Form.below_v119, h91]; exact OutRefIdeal.Form.r_v65 _ _ _ _ _ hx n9 n4 n6 n8
    · rw [HeadRefIdeal.Read.val_main_v122_eq, E0, E1, E2, E3, E4, E5, E6, E7, E8, E9]; rw [HeadRefIdeal.Form.below_v122, h91]; exact OutRefIdeal.Form.r_v68 _ _ _ _ _ hx n9 n3 n5 n7
    · rw [HeadRefIdeal.Read.val_main_v99_eq, E0, E1, E2, E3, E4, E5, E6, E7, E8, E9]; rw [HeadRefIdeal.Form.below_v99, h91]; exact OutRefIdeal.Form.r_v45 _ _ _ _ _ hx n9 n4 n6 n8
    · rw [HeadRefIdeal.Read.val_main_v128_eq, E0, E1, E2, E3, E4, E5, E6, E7, E8, E9]; rw [HeadRefIdeal.Form.below_v128, h91]; exact OutRefIdeal.Form.r_v74 _ _ _ _
    · rw [HeadRefIdeal.Read.val_main_v105_eq, E0, E1, E2, E3, E4, E5, E6, E7, E8, E9]; rw [HeadRefIdeal.Form.below_v105, h91]; exact OutRefIdeal.Form.r_v51 _ _ _ _
    · rw [HeadRefIdeal.Read.val_main_v93_eq, E0, E1, E2, E3, E4, E5, E6, E7, E8, E9]; rw [HeadRefIdeal.Form.below_v93, h91]; exact OutRefIdeal.Form.r_v39 _ _ _ _ _ _ _
end Cert.HeadClaim
end
-- ==== Proof.MoreFrames.lean ====
/- The runs of the three further gradient calls: each program ends with its arguments unchanged and no semaphore raised. -/
module
public import proofs.«01_k».proof.Defs
public import proofs.«01_k».proof.Proof.Gen.Table.Frame
public import proofs.«01_k».proof.Proof.Gen.TableIdeal.Frame
public import proofs.«01_k».proof.Proof.Gen.TableRefIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.Gen.Inproj.Frame
public import proofs.«01_k».proof.Proof.Gen.InprojIdeal.Frame
public import proofs.«01_k».proof.Proof.Gen.InprojRefIdeal.Run
public import Idealize.ShloMosaic.Lib.Claim
@[expose] public section
set_option maxRecDepth 16384
noncomputable section
open Idealize.ShloMosaic Idealize.ShloMosaic.TcCoe Idealize.SL.Sem
namespace Cert.MoreFrames

section Table
attribute [local instance] Cert.Table.Gen.facts Cert.TableIdeal.Gen.facts Cert.TableRefIdeal.Gen.facts
theorem table_p : Cert.quiescent_Table := fun m ρ _ => Cert.Table.Gen.frame m ρ
theorem table_pi : Cert.quiescent_TableIdeal := fun m ρ _ => Cert.TableIdeal.Gen.frame m ρ
theorem table_ri : Cert.quiescent_TableRefIdeal := fun m ρ _ =>
  (θ_run Cert.TableRefIdeal.defs _ _).mono (fun r h => ⟨fun c => (h c).2.2, sem_eq_zero_of_no_sems (by decide) r.2⟩)
    (Cert.TableRefIdeal.Value.run (F := Ideal) m ρ)
end Table

section Prep
attribute [local instance] Cert.Prep.Gen.facts Cert.PrepIdeal.Gen.facts Cert.PrepRefIdeal.Gen.facts
theorem prep_p : Cert.quiescent_Prep := fun m ρ _ => Cert.Prep.Gen.frame m ρ
theorem prep_pi : Cert.quiescent_PrepIdeal := fun m ρ _ => Cert.PrepIdeal.Gen.frame m ρ
theorem prep_ri : Cert.quiescent_PrepRefIdeal := fun m ρ _ =>
  (θ_run Cert.PrepRefIdeal.defs _ _).mono (fun r h => ⟨fun c => (h c).2.2.2.2.2.2.2, sem_eq_zero_of_no_sems (by decide) r.2⟩)
    (Cert.PrepRefIdeal.Value.run (F := Ideal) m ρ)
end Prep

section Inproj
attribute [local instance] Cert.Inproj.Gen.facts Cert.InprojIdeal.Gen.facts Cert.InprojRefIdeal.Gen.facts
theorem inproj_p : Cert.quiescent_Inproj := fun m ρ _ => Cert.Inproj.Gen.frame m ρ
theorem inproj_pi : Cert.quiescent_InprojIdeal := fun m ρ _ => Cert.InprojIdeal.Gen.frame m ρ
theorem inproj_ri : Cert.quiescent_InprojRefIdeal := fun m ρ _ =>
  (θ_run Cert.InprojRefIdeal.defs _ _).mono (fun r h => ⟨fun c => (h c).2.2.2, sem_eq_zero_of_no_sems (by decide) r.2⟩)
    (Cert.InprojRefIdeal.Value.run (F := Ideal) m ρ)
end Inproj

end Cert.MoreFrames
end
-- ==== Proof.WinRun.lean ====
/- The window attention's gradient body, run once on any whole buffers: the operands stay as they were, the results
   end at some contents. -/
module

public import proofs.«01_k».proof.Proof.Gen.WinIdeal.Frame
public import proofs.«01_k».proof.Proof.Gen.WinIdeal.Skeleton

@[expose] public section

set_option maxRecDepth 16384

noncomputable section

namespace Cert.WinRun

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The window is the first of its batch row. -/
abbrev first (i : grid0.Coords) : Prop :=
  (Scalar.cmpi .ne (Scalar.extui (Scalar.cmpi .eq (BitVec.ofNat 32 (i 1).val) 0#32)) 0#32) = 1#1
/-- The window starts a block of the bias gradient. -/
abbrev edge (i : grid0.Coords) : Prop :=
  (Scalar.cmpi .ne (Scalar.extui (Scalar.ori (Scalar.ori (Scalar.ori (Scalar.cmpi .eq (BitVec.ofNat 32 (i 1).val) 0#32)
    (Scalar.cmpi .eq (BitVec.ofNat 32 (i 1).val) 1#32)) (Scalar.cmpi .eq (BitVec.ofNat 32 (i 1).val) 15#32))
    (Scalar.cmpi .eq (BitVec.ofNat 32 (i 1).val) 16#32))) 0#32) = 1#1

/-- The 128-row block of keys a window's attention starts from. -/
def block (n : Fin 17) : Fin 14 := if n.val = 16 then 0 else ⟨min 13 (n.val - 1), by omega⟩

theorem off1_eq (i : grid0.Coords) : k0_off1 i = ![128 * (block (i 1)).val, 0] := by
  unfold k0_off1
  exact (by decide +kernel : ∀ n : Fin 17, (![(Scalar.indexCast (Scalar.muli (Scalar.select (Scalar.cmpi .eq (BitVec.ofNat 32 n.val) 16#32) 0#32
    (Scalar.minsi 13#32 (Scalar.maxsi 0#32 (Scalar.subi (BitVec.ofNat 32 n.val) 1#32)))) 128#32)).toNat, (0#32 : BitVec 32).toNat] : Fin 2 → Nat)
      = ![128 * (block n).val, 0]) (i 1)

theorem off2_eq (i : grid0.Coords) : k0_off2 i = ![128 * (block (i 1)).val, 128] := by
  have h := off1_eq i
  unfold k0_off1 at h
  unfold k0_off2
  funext a
  have h0 := congrFun h 0
  fin_cases a
  · exact h0
  · rfl

instance (i : grid0.Coords) : ClosedOff (k0_off1 i) := ⟨![128 * (block (i 1)).val, 0], off1_eq i⟩
instance (i : grid0.Coords) : ClosedOff (k0_off2 i) := ⟨![128 * (block (i 1)).val, 128], off2_eq i⟩

set_option maxHeartbeats 4000000 in
/-- At the first window of a batch row the two key gradients and the bias gradient are cleared before they are added to. -/
theorem run_first (c : Dev nD) (i : grid0.Coords) (a0 : Memref sig .tc .vmem S128x512 .f32) (h0 : a0.IsWhole) (a1 : Memref sig .tc .vmem S2176x256 .f32) (h1 : a1.IsWhole) (a2 : Memref sig .tc .vmem S2176x256 .f32) (h2 : a2.IsWhole) (a3 : Memref sig .tc .vmem S1x8x128x512 .f32) (h3 : a3.IsWhole) (a4 : Memref sig .tc .vmem S128x512 .f32) (h4 : a4.IsWhole) (a5 : Memref sig .tc .vmem S128x512 .f32) (h5 : a5.IsWhole) (a6 : Memref sig .tc .vmem S128x128 .f32) (h6 : a6.IsWhole) (a7 : Memref sig .tc .vmem S128x512 .f32) (h7 : a7.IsWhole) (a8 : Memref sig .tc .vmem S2176x256 .f32) (h8 : a8.IsWhole) (a9 : Memref sig .tc .vmem S2176x256 .f32) (h9 : a9.IsWhole) (a10 : Memref sig .tc .vmem S1x1x8x128x512 .f32) (h10 : a10.IsWhole)
    (hc0 : first i) (hc1 : edge i) (x0 : Vec F S128x512 .f32) (x1 : Vec F S2176x256 .f32) (x2 : Vec F S2176x256 .f32) (x3 : Vec F S1x8x128x512 .f32) (x4 : Vec F S128x512 .f32) (x5 : Vec F S128x512 .f32) (x6 : Vec F S128x128 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
      ⊢ wp frame (wpE (defs₀ (F := F)) Variants.none c none) E (cc0_win_bwd i a0 h0 a1 h1 a2 h2 a3 h3 a4 h4 a5 h5 a6 h6 a7 h7 a8 h8 a9 h9 a10 h10) K := by
    simp only [cc0_win_bwd_eq_skeleton]; unfold cc0_win_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.WinRun

end
-- ==== Proof.WinRunB.lean ====
/- The window attention's gradient body, run once on any whole buffers: the operands stay as they were, the results
   end at some contents. -/
module

public import proofs.«01_k».proof.Proof.WinRun
public import proofs.«01_k».proof.Proof.Gen.WinIdeal.Skeleton

@[expose] public section

set_option maxRecDepth 16384

noncomputable section

namespace Cert.WinRun

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a window that starts a new block of the bias gradient only that block is cleared. -/
theorem run_edge (c : Dev nD) (i : grid0.Coords) (a0 : Memref sig .tc .vmem S128x512 .f32) (h0 : a0.IsWhole) (a1 : Memref sig .tc .vmem S2176x256 .f32) (h1 : a1.IsWhole) (a2 : Memref sig .tc .vmem S2176x256 .f32) (h2 : a2.IsWhole) (a3 : Memref sig .tc .vmem S1x8x128x512 .f32) (h3 : a3.IsWhole) (a4 : Memref sig .tc .vmem S128x512 .f32) (h4 : a4.IsWhole) (a5 : Memref sig .tc .vmem S128x512 .f32) (h5 : a5.IsWhole) (a6 : Memref sig .tc .vmem S128x128 .f32) (h6 : a6.IsWhole) (a7 : Memref sig .tc .vmem S128x512 .f32) (h7 : a7.IsWhole) (a8 : Memref sig .tc .vmem S2176x256 .f32) (h8 : a8.IsWhole) (a9 : Memref sig .tc .vmem S2176x256 .f32) (h9 : a9.IsWhole) (a10 : Memref sig .tc .vmem S1x1x8x128x512 .f32) (h10 : a10.IsWhole)
    (hc0 : ¬ first i) (hc1 : edge i) (x0 : Vec F S128x512 .f32) (x1 : Vec F S2176x256 .f32) (x2 : Vec F S2176x256 .f32) (x3 : Vec F S1x8x128x512 .f32) (x4 : Vec F S128x512 .f32) (x5 : Vec F S128x512 .f32) (x6 : Vec F S128x128 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
      ⊢ wp frame (wpE (defs₀ (F := F)) Variants.none c none) E (cc0_win_bwd i a0 h0 a1 h1 a2 h2 a3 h3 a4 h4 a5 h5 a6 h6 a7 h7 a8 h8 a9 h9 a10 h10) K := by
    simp only [cc0_win_bwd_eq_skeleton]; unfold cc0_win_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

set_option maxHeartbeats 4000000 in
/-- At any other window nothing is cleared. -/
theorem run_inner (c : Dev nD) (i : grid0.Coords) (a0 : Memref sig .tc .vmem S128x512 .f32) (h0 : a0.IsWhole) (a1 : Memref sig .tc .vmem S2176x256 .f32) (h1 : a1.IsWhole) (a2 : Memref sig .tc .vmem S2176x256 .f32) (h2 : a2.IsWhole) (a3 : Memref sig .tc .vmem S1x8x128x512 .f32) (h3 : a3.IsWhole) (a4 : Memref sig .tc .vmem S128x512 .f32) (h4 : a4.IsWhole) (a5 : Memref sig .tc .vmem S128x512 .f32) (h5 : a5.IsWhole) (a6 : Memref sig .tc .vmem S128x128 .f32) (h6 : a6.IsWhole) (a7 : Memref sig .tc .vmem S128x512 .f32) (h7 : a7.IsWhole) (a8 : Memref sig .tc .vmem S2176x256 .f32) (h8 : a8.IsWhole) (a9 : Memref sig .tc .vmem S2176x256 .f32) (h9 : a9.IsWhole) (a10 : Memref sig .tc .vmem S1x1x8x128x512 .f32) (h10 : a10.IsWhole)
    (hc0 : ¬ first i) (hc1 : ¬ edge i) (x0 : Vec F S128x512 .f32) (x1 : Vec F S2176x256 .f32) (x2 : Vec F S2176x256 .f32) (x3 : Vec F S1x8x128x512 .f32) (x4 : Vec F S128x512 .f32) (x5 : Vec F S128x512 .f32) (x6 : Vec F S128x128 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
      ⊢ wp frame (wpE (defs₀ (F := F)) Variants.none c none) E (cc0_win_bwd i a0 h0 a1 h1 a2 h2 a3 h3 a4 h4 a5 h5 a6 h6 a7 h7 a8 h8 a9 h9 a10 h10) K := by
    simp only [cc0_win_bwd_eq_skeleton]; unfold cc0_win_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.WinRun

end
-- ==== Proof.WinFrame.lean ====
/- The window attention's gradient runs to the end with its arguments unchanged. What its four results hold is not
   stated. -/
module

public import proofs.«01_k».proof.Defs
public import proofs.«01_k».proof.Proof.WinRunB
public import proofs.«01_k».proof.Proof.Gen.Win
public import proofs.«01_k».proof.Proof.Gen.WinIdeal
public import proofs.«01_k».proof.Proof.Gen.WinRefIdeal
public import proofs.«01_k».proof.Proof.Gen.WinRefIdeal.Run
public import Idealize.ShloMosaic.Lib.Claim

@[expose] public section

set_option maxRecDepth 16384

noncomputable section

namespace Cert.WinRun

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem bit_cases : ∀ b : BitVec 1, b = 0#1 ∨ b = 1#1 := by decide

/-- The first window clears the block of the bias gradient too. -/
theorem edge_of_first (i : grid0.Coords) (h : first i) : edge i := by
  have h0 : Scalar.cmpi .eq (BitVec.ofNat 32 (i 1).val) 0#32 = 1#1 := by
    rcases bit_cases (Scalar.cmpi .eq (BitVec.ofNat 32 (i 1).val) 0#32) with e | e
    · unfold first at h; rw [e] at h; exact absurd h (by decide)
    · exact e
  unfold edge
  rw [h0]
  generalize Scalar.cmpi .eq (BitVec.ofNat 32 (i 1).val) 1#32 = a
  generalize Scalar.cmpi .eq (BitVec.ofNat 32 (i 1).val) 15#32 = b
  generalize Scalar.cmpi .eq (BitVec.ofNat 32 (i 1).val) 16#32 = d
  rcases bit_cases a with rfl | rfl <;> rcases bit_cases b with rfl | rfl <;> rcases bit_cases d with rfl | rfl <;> decide

theorem run (c : Dev nD) (i : grid0.Coords) (a0 : Memref sig .tc .vmem S128x512 .f32) (h0 : a0.IsWhole) (a1 : Memref sig .tc .vmem S2176x256 .f32) (h1 : a1.IsWhole) (a2 : Memref sig .tc .vmem S2176x256 .f32) (h2 : a2.IsWhole) (a3 : Memref sig .tc .vmem S1x8x128x512 .f32) (h3 : a3.IsWhole) (a4 : Memref sig .tc .vmem S128x512 .f32) (h4 : a4.IsWhole) (a5 : Memref sig .tc .vmem S128x512 .f32) (h5 : a5.IsWhole) (a6 : Memref sig .tc .vmem S128x128 .f32) (h6 : a6.IsWhole) (a7 : Memref sig .tc .vmem S128x512 .f32) (h7 : a7.IsWhole) (a8 : Memref sig .tc .vmem S2176x256 .f32) (h8 : a8.IsWhole) (a9 : Memref sig .tc .vmem S2176x256 .f32) (h9 : a9.IsWhole) (a10 : Memref sig .tc .vmem S1x1x8x128x512 .f32) (h10 : a10.IsWhole)
    (x0 : Vec F S128x512 .f32) (x1 : Vec F S2176x256 .f32) (x2 : Vec F S2176x256 .f32) (x3 : Vec F S1x8x128x512 .f32) (x4 : Vec F S128x512 .f32) (x5 : Vec F S128x512 .f32) (x6 : Vec F S128x128 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
      ⊢ wp frame (wpE (defs₀ (F := F)) Variants.none c none) E (cc0_win_bwd i a0 h0 a1 h1 a2 h2 a3 h3 a4 h4 a5 h5 a6 h6 a7 h7 a8 h8 a9 h9 a10 h10) K := by
  by_cases hc0 : first i
  · exact run_first c i a0 h0 a1 h1 a2 h2 a3 h3 a4 h4 a5 h5 a6 h6 a7 h7 a8 h8 a9 h9 a10 h10 hc0 (edge_of_first i hc0) x0 x1 x2 x3 x4 x5 x6 E K
  · by_cases hc1 : edge i
    · exact run_edge c i a0 h0 a1 h1 a2 h2 a3 h3 a4 h4 a5 h5 a6 h6 a7 h7 a8 h8 a9 h9 a10 h10 hc0 hc1 x0 x1 x2 x3 x4 x5 x6 E K
    · exact run_inner c i a0 h0 a1 h1 a2 h2 a3 h3 a4 h4 a5 h5 a6 h6 a7 h7 a8 h8 a9 h9 a10 h10 hc0 hc1 x0 x1 x2 x3 x4 x5 x6 E K

/-- The four results' windows, whose contents are not stated. -/
def results : Fin 11 → Bool := fun w => decide (7 ≤ w.val)

/-- The proof data: each operand's buffer holds its block throughout, the results' contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨_ + 11, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩, H7, H8, H9, H10⟩
  iapply (run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ results := fun t => by
  rw [bigSep_W0, bigSep_W0, defs₀_row]
  exact triple_restated (sound_body m c t) rfl .rfl fun _ => .rfl

/-- The buffers the lines after the call write. -/
def later : Finset (Ref sig .tc) := {main_v264, main_v265, main_v266, main_v267}

theorem later_writes : ∀ ops ∈ ([hostOps1] : List (List (HloOp τ sig (Elt F)))), ∀ op ∈ ops,
    ∀ b : Ref sig .tc, Proc.devRef .tc b ∈ op.writes → b ∈ later := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.binary_writes, StableHlo.ternary_writes, StableHlo.reshape_writes, Finset.mem_singleton] at hb
    rw [Proc.devRef_injective _ hb]
    decide

set_option backward.isDefEq.respectTransparency.types false in
theorem run_main : θ_run defs (onTc (τ := τ) (main (F := F))) (s₀ m ρ) (fun r => (Pipeline.RDat.FramePostR (cfgs 0) (fun c => (dats m 0 c).toRForget results) later (V m)) r ∧ r.2.sem = fun _ => 0) :=
  Pipeline.θ_run_frame_around_T_forget_shared (Q' := _) cfgs (dats m) (0 : Fin 1) launch₀0 defs₀ Variants.none results later m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hT := later_writes)
    (hmain := hmain m Variants.none) (hA := A_eq m) (hΦ := fun _ _ => rfl)

theorem kept (b : Ref sig .tc) (h1 : b.isScoped = false) (h2 : ∀ w, Pipeline.arrRef spec0 w ≠ b) (h3 : b ∉ later) :
    b ∈ Pipeline.restRefs sig spec0 \ later :=
  Finset.mem_sdiff.mpr ⟨Pipeline.mem_restRefs_of b h1 h2, h3⟩

/-- Every run ends with the six arguments unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hs⟩ => ⟨fun c => ⟨((h c).2 main_arg0 (kept main_arg0 (by decide) (by decide) (by decide))).trans (V_main_arg0 m c),
      ((h c).2 main_arg1 (kept main_arg1 (by decide) (by decide) (by decide))).trans (V_main_arg1 m c),
      ((h c).2 main_arg2 (kept main_arg2 (by decide) (by decide) (by decide))).trans (V_main_arg2 m c),
      ((h c).2 main_arg3 (kept main_arg3 (by decide) (by decide) (by decide))).trans (V_main_arg3 m c),
      ((h c).2 main_arg4 (kept main_arg4 (by decide) (by decide) (by decide))).trans (V_main_arg4 m c),
      ((h c).2 main_arg5 (kept main_arg5 (by decide) (by decide) (by decide))).trans (V_main_arg5 m c)⟩, hs⟩) (run_main m ρ)

section Claims
attribute [local instance] Cert.Win.Gen.facts Cert.WinIdeal.Gen.facts Cert.WinRefIdeal.Gen.facts

theorem frame_p : Cert.quiescent_Win := by
  intro m ρ _
  have e1 : Cert.Win.defs (F := Bits) = Cert.WinIdeal.defs (F := Bits) := by sl_kernel_rfl
  have e2 : Cert.Win.main (F := Bits) = Cert.WinIdeal.main (F := Bits) := by sl_kernel_rfl
  rw [e1, e2]
  exact frame (F := Bits) m ρ

theorem frame_pi : Cert.quiescent_WinIdeal := fun m ρ _ => frame (F := Ideal) m ρ

theorem frame_ri : Cert.quiescent_WinRefIdeal := fun m ρ _ =>
  (θ_run Cert.WinRefIdeal.defs _ _).mono (fun r h => ⟨fun c => (h c).2.2.2.2.2, sem_eq_zero_of_no_sems (by decide) r.2⟩)
    (Cert.WinRefIdeal.Value.run (F := Ideal) m ρ)
end Claims

end Cert.WinRun

end
-- ==== Proof.ForwardFrames.lean ====
/- The runs of the five forward calls: each program ends with its arguments unchanged and no semaphore raised. -/
module
public import proofs.«01_k».proof.Defs
public import proofs.«01_k».proof.Proof.Gen.Outf.Frame
public import proofs.«01_k».proof.Proof.Gen.OutfIdeal.Frame
public import proofs.«01_k».proof.Proof.Gen.OutfRefIdeal.Run
public import proofs.«01_k».proof.Proof.Gen.Inf.Frame
public import proofs.«01_k».proof.Proof.Gen.InfIdeal.Frame
public import proofs.«01_k».proof.Proof.Gen.InfRefIdeal.Run
public import proofs.«01_k».proof.Proof.Gen.Prepf.Frame
public import proofs.«01_k».proof.Proof.Gen.PrepfIdeal.Frame
public import proofs.«01_k».proof.Proof.Gen.PrepfRefIdeal.Run
public import proofs.«01_k».proof.Proof.Gen.Winf.Frame
public import proofs.«01_k».proof.Proof.Gen.WinfIdeal.Frame
public import proofs.«01_k».proof.Proof.Gen.WinfRefIdeal.Run
public import proofs.«01_k».proof.Proof.Gen.Mlaf.Frame
public import proofs.«01_k».proof.Proof.Gen.MlafIdeal.Frame
public import proofs.«01_k».proof.Proof.Gen.MlafRefIdeal.Run
public import Idealize.ShloMosaic.Lib.Claim
@[expose] public section
set_option maxRecDepth 16384
noncomputable section
open Idealize.ShloMosaic Idealize.ShloMosaic.TcCoe Idealize.SL.Sem
namespace Cert.ForwardFrames

section Outf
attribute [local instance] Cert.Outf.Gen.facts Cert.OutfIdeal.Gen.facts Cert.OutfRefIdeal.Gen.facts
theorem outf_p : Cert.quiescent_Outf := fun m ρ _ => Cert.Outf.Gen.frame m ρ
theorem outf_pi : Cert.quiescent_OutfIdeal := fun m ρ _ => Cert.OutfIdeal.Gen.frame m ρ
theorem outf_ri : Cert.quiescent_OutfRefIdeal := fun m ρ _ =>
  (θ_run Cert.OutfRefIdeal.defs _ _).mono (fun r h => ⟨fun c => (h c).2, sem_eq_zero_of_no_sems (by decide) r.2⟩)
    (Cert.OutfRefIdeal.Value.run (F := Ideal) m ρ)
end Outf

section Inf
attribute [local instance] Cert.Inf.Gen.facts Cert.InfIdeal.Gen.facts Cert.InfRefIdeal.Gen.facts
theorem inf_p : Cert.quiescent_Inf := fun m ρ _ => Cert.Inf.Gen.frame m ρ
theorem inf_pi : Cert.quiescent_InfIdeal := fun m ρ _ => Cert.InfIdeal.Gen.frame m ρ
theorem inf_ri : Cert.quiescent_InfRefIdeal := fun m ρ _ =>
  (θ_run Cert.InfRefIdeal.defs _ _).mono (fun r h => ⟨fun c => (h c).2, sem_eq_zero_of_no_sems (by decide) r.2⟩)
    (Cert.InfRefIdeal.Value.run (F := Ideal) m ρ)
end Inf

section Prepf
attribute [local instance] Cert.Prepf.Gen.facts Cert.PrepfIdeal.Gen.facts Cert.PrepfRefIdeal.Gen.facts
theorem prepf_p : Cert.quiescent_Prepf := fun m ρ _ => Cert.Prepf.Gen.frame m ρ
theorem prepf_pi : Cert.quiescent_PrepfIdeal := fun m ρ _ => Cert.PrepfIdeal.Gen.frame m ρ
theorem prepf_ri : Cert.quiescent_PrepfRefIdeal := fun m ρ _ =>
  (θ_run Cert.PrepfRefIdeal.defs _ _).mono (fun r h => ⟨fun c => (h c).2.2.2, sem_eq_zero_of_no_sems (by decide) r.2⟩)
    (Cert.PrepfRefIdeal.Value.run (F := Ideal) m ρ)
end Prepf

section Winf
attribute [local instance] Cert.Winf.Gen.facts Cert.WinfIdeal.Gen.facts Cert.WinfRefIdeal.Gen.facts
theorem winf_p : Cert.quiescent_Winf := fun m ρ _ => Cert.Winf.Gen.frame m ρ
theorem winf_pi : Cert.quiescent_WinfIdeal := fun m ρ _ => Cert.WinfIdeal.Gen.frame m ρ
theorem winf_ri : Cert.quiescent_WinfRefIdeal := fun m ρ _ =>
  (θ_run Cert.WinfRefIdeal.defs _ _).mono (fun r h => ⟨fun c => (h c).2, sem_eq_zero_of_no_sems (by decide) r.2⟩)
    (Cert.WinfRefIdeal.Value.run (F := Ideal) m ρ)
end Winf

section Mlaf
attribute [local instance] Cert.Mlaf.Gen.facts Cert.MlafIdeal.Gen.facts Cert.MlafRefIdeal.Gen.facts
theorem mlaf_p : Cert.quiescent_Mlaf := fun m ρ _ => Cert.Mlaf.Gen.frame m ρ
theorem mlaf_pi : Cert.quiescent_MlafIdeal := fun m ρ _ => Cert.MlafIdeal.Gen.frame m ρ
theorem mlaf_ri : Cert.quiescent_MlafRefIdeal := fun m ρ _ =>
  (θ_run Cert.MlafRefIdeal.defs _ _).mono (fun r h => ⟨fun c => (h c).2, sem_eq_zero_of_no_sems (by decide) r.2⟩)
    (Cert.MlafRefIdeal.Value.run (F := Ideal) m ρ)
end Mlaf

end Cert.ForwardFrames
end
-- ==== Proof.MlafTile.lean ====
/- The attention kernel's tiles, one row at a time. -/
module
public import proofs.«01_k».proof.Proof.Gen.MlafIdeal.Frame
public import proofs.«01_k».proof.Proof.MlaTile
@[expose] public section
set_option maxRecDepth 16384
noncomputable section
open Idealize.ShloMosaic Idealize.ShloMosaic.TcCoe Idealize.SL.Sem
namespace Cert.MlafTile
open Cert.MlafIdeal Cert.MlafIdeal.Gen Cert.MlaTile

/-- A query row's score at a key, -/
def score (Q : Fin 128 → EReal) (K : Fin 2176 → Fin 128 → EReal) (j : Fin 2176) : EReal := ∑ e : Fin 128, Q e * K j e
/-- the largest score, -/
def top (Q : Fin 128 → EReal) (K : Fin 2176 → Fin 128 → EReal) : EReal := Finset.fold max (Ideal.ofBits .f32 0xFF800000#32) (score Q K) Finset.univ
/-- the row of sums, -/
def acc (Q : Fin 128 → EReal) (K V : Fin 2176 → Fin 128 → EReal) (e : Fin 128) : EReal := ∑ j : Fin 2176, Ideal.exp2 (score Q K j - top Q K) * V j e
/-- the weights' sum, -/
def den (Q : Fin 128 → EReal) (K V : Fin 2176 → Fin 128 → EReal) : EReal := 0 - ∑ e : Fin 128, if e.val = 64 then acc Q K V e else 0
/-- and the row of the output. -/
def att (Q : Fin 128 → EReal) (K V : Fin 2176 → Fin 128 → EReal) (e : Fin 128) : EReal := acc Q K V e * Ideal.div 1 (den Q K V)
/-- Two heads' rows side by side. -/
def both (A B : Fin 128 → EReal) (e : Fin 128) : EReal := if e.val < 64 then A e else B ⟨(e.val + 64) % 128, Nat.mod_lt _ (by decide)⟩

def tA {F : FTy → Type} [FloatOps F] (q0 q1 : Vec F S256x128 .bf16) (k0 k1 v0 v1 : Vec F S2176x128 .bf16) : FVec F S256x128 .f32 :=
  k0_pay17 (iota .tc S256x128 32 [1] iota_S256x128_d1_w32) (k0_pay10 (iota .tc S256x128 32 [1] iota_S256x128_d1_w32) (k0_pay7 q0 k0) v0)
    (k0_pay13 (k0_pay2 q1 k1) v1) (k0_pay14 (iota .tc S256x128 32 [1] iota_S256x128_d1_w32) (k0_pay2 q1 k1) v1) k0_pay15
def tB {F : FTy → Type} [FloatOps F] (q0 q1 : Vec F S256x128 .bf16) (k0 k1 v0 v1 : Vec F S2176x128 .bf16) : FVec F S256x128 .f32 :=
  k0_pay27 (iota .tc S256x128 32 [1] iota_S256x128_d1_w32) (k0_pay4 q1 k1) (k0_pay22 (iota .tc S256x128 32 [1] iota_S256x128_d1_w32) (k0_pay3 q0 k0) v0) v1
def tT {F : FTy → Type} [FloatOps F] (q0 q1 : Vec F S128x128 .bf16) (k0 k1 v0 v1 : Vec F S2176x128 .bf16) : FVec F S128x128 .f32 :=
  k0_pay39 (iota .tc S128x128 32 [1] iota_S128x128_d1_w32) (k0_pay29 q1 k1) (k0_pay32 q0 k0 v0) (k0_pay34 q0 k0 v0) v1

theorem tA_apply (q0 q1 : Vec Ideal S256x128 .bf16) (k0 k1 v0 v1 : Vec Ideal S2176x128 .bf16) (x : Fin 256) (e : Fin 128) :
    tA q0 q1 k0 k1 v0 v1 (ix2 x e) = both (att (row q0 x) (row k0) (row v0)) (att (row q1 x) (row k1) (row v1)) e := by
  unfold tA
  pointwise [k0_pay17, k0_pay10, k0_pay9, k0_pay8, k0_pay7, k0_pay6, k0_pay1, k0_pay13, k0_pay12, k0_pay2, k0_pay14, k0_pay15]
  simp only [sel_lt, sel_eq 64 (by decide)]
  unfold both att den acc top score row
  rfl
theorem tB_apply (q0 q1 : Vec Ideal S256x128 .bf16) (k0 k1 v0 v1 : Vec Ideal S2176x128 .bf16) (x : Fin 256) (e : Fin 128) :
    tB q0 q1 k0 k1 v0 v1 (ix2 x e) = both (att (row q0 x) (row k0) (row v0)) (att (row q1 x) (row k1) (row v1)) e := by
  unfold tB
  pointwise [k0_pay27, k0_pay25, k0_pay24, k0_pay23, k0_pay22, k0_pay21, k0_pay20, k0_pay19, k0_pay3, k0_pay4]
  simp only [sel_lt, sel_eq 64 (by decide)]
  unfold both att den acc top score row
  rfl
theorem tT_apply (q0 q1 : Vec Ideal S128x128 .bf16) (k0 k1 v0 v1 : Vec Ideal S2176x128 .bf16) (x : Fin 128) (e : Fin 128) :
    tT q0 q1 k0 k1 v0 v1 (ix2 x e) = both (att (row q0 x) (row k0) (row v0)) (att (row q1 x) (row k1) (row v1)) e := by
  unfold tT
  pointwise [k0_pay39, k0_pay37, k0_pay36, k0_pay35, k0_pay34, k0_pay33, k0_pay32, k0_pay31, k0_pay29, k0_pay28]
  simp only [sel_lt, sel_eq 64 (by decide)]
  unfold both att den acc top score row
  rfl
end Cert.MlafTile
end
-- ==== Proof.MlafStores.lean ====
/- What one run of the attention's body stores into the output: a tile of rows after another, each row the attention's
   row for its two heads. -/
module
public import proofs.«01_k».proof.Proof.MlafTile
public import proofs.«01_k».proof.Proof.MlaAcc
@[expose] public section
set_option maxRecDepth 16384
noncomputable section
open Idealize.ShloMosaic Idealize.ShloMosaic.TcCoe Idealize.SL.Sem
namespace Cert.MlafStores
open Cert.MlafIdeal Cert.MlafIdeal.Gen Cert.MlafTile Cert.MlaTile

/-- Whole buffers for a run: the three operands with what they hold, and the two results. -/
structure Bufs where
  a2 : Memref sig .tc .vmem S2176x256 .bf16
  h2 : a2.IsWhole
  a3 : Memref sig .tc .vmem S2176x256 .bf16
  h3 : a3.IsWhole
  a4 : Memref sig .tc .vmem S2176x256 .bf16
  h4 : a4.IsWhole
  a5 : Memref sig .tc .vmem S2176x128 .f32
  h5 : a5.IsWhole
  a6 : Memref sig .tc .vmem S2176x128 .f32
  h6 : a6.IsWhole
  x0 : Vec Ideal S2176x256 .bf16
  x1 : Vec Ideal S2176x256 .bf16
  x2 : Vec Ideal S2176x256 .bf16
variable (B : Bufs) (k : Fin k0_t1_loop.trips)

/-! ## The tiles a run loads -/
def qA0 : Vec Ideal S256x128 .bf16 := B.a2.view.readAt (Elt Ideal) (Rect.unit (s := S2176x256) (k0_off1 k) S256x128.size (k0_off1_inb k)).toLoadRect (B.h2.unread B.x0)
def qA1 : Vec Ideal S256x128 .bf16 := B.a2.view.readAt (Elt Ideal) (Rect.unit (s := S2176x256) (k0_off2 k) S256x128.size (k0_off2_inb k)).toLoadRect (B.h2.unread B.x0)
def qB0 : Vec Ideal S256x128 .bf16 := B.a2.view.readAt (Elt Ideal) (Rect.unit (s := S2176x256) (k0_off3 k) S256x128.size (k0_off3_inb k)).toLoadRect (B.h2.unread B.x0)
def qB1 : Vec Ideal S256x128 .bf16 := B.a2.view.readAt (Elt Ideal) (Rect.unit (s := S2176x256) (k0_off4 k) S256x128.size (k0_off4_inb k)).toLoadRect (B.h2.unread B.x0)
def qT0 : Vec Ideal S128x128 .bf16 := B.a2.view.readAt (Elt Ideal) (Rect.unit (s := S2176x256) ![2048, 0] S128x128.size inb_S2176x256_S128x128_2048_0).toLoadRect (B.h2.unread B.x0)
def qT1 : Vec Ideal S128x128 .bf16 := B.a2.view.readAt (Elt Ideal) (Rect.unit (s := S2176x256) ![2048, 128] S128x128.size inb_S2176x256_S128x128_2048_128).toLoadRect (B.h2.unread B.x0)
def k0 : Vec Ideal S2176x128 .bf16 := B.a3.view.readAt (Elt Ideal) (Rect.unit (s := S2176x256) ![0, 0] S2176x128.size inb_S2176x256_S2176x128_0_0).toLoadRect (B.h3.unread B.x1)
def k1 : Vec Ideal S2176x128 .bf16 := B.a3.view.readAt (Elt Ideal) (Rect.unit (s := S2176x256) ![0, 128] S2176x128.size inb_S2176x256_S2176x128_0_128).toLoadRect (B.h3.unread B.x1)
def v0 : Vec Ideal S2176x128 .bf16 := B.a4.view.readAt (Elt Ideal) (Rect.unit (s := S2176x256) ![0, 0] S2176x128.size inb_S2176x256_S2176x128_0_0).toLoadRect (B.h4.unread B.x2)
def v1 : Vec Ideal S2176x128 .bf16 := B.a4.view.readAt (Elt Ideal) (Rect.unit (s := S2176x256) ![0, 128] S2176x128.size inb_S2176x256_S2176x128_0_128).toLoadRect (B.h4.unread B.x2)

/-- One trip's stores, last first, -/
def trip : List (View.Piece (Elt Ideal) S2176x128 .f32) :=
  [⟨Rect.unit (s := S2176x128) (k0_off6 k) S256x128.size (k0_off6_inb k), tB (qB0 B k) (qB1 B k) (k0 B) (k1 B) (v0 B) (v1 B)⟩,
   ⟨Rect.unit (s := S2176x128) (k0_off5 k) S256x128.size (k0_off5_inb k), tA (qA0 B k) (qA1 B k) (k0 B) (k1 B) (v0 B) (v1 B)⟩]
/-- the first trips', -/
def list : ℕ → List (View.Piece (Elt Ideal) S2176x128 .f32)
  | 0 => []
  | n + 1 => if h : n < k0_t1_loop.trips then trip B ⟨n, h⟩ ++ list n else list n
/-- and all. -/
def all : List (View.Piece (Elt Ideal) S2176x128 .f32) :=
  ⟨Rect.unit (s := S2176x128) ![2048, 0] S128x128.size inb_S2176x128_S128x128_2048_0, tT (qT0 B) (qT1 B) (k0 B) (k1 B) (v0 B) (v1 B)⟩ :: list B 4

theorem trip_eq (c : Dev nD) (i : grid0.Coords) :
    (trip_k0_t1 (F := Ideal) Variants.none c none i B.a2 B.h2 B.a3 B.h3 B.a4 B.h4 B.a5 B.h5 B.a6 B.h6 (B.h2.unread B.x0) (B.h3.unread B.x1) (B.h4.unread B.x2) k).1 = trip B k := by
  unfold trip_k0_t1
  rfl
theorem pb_eq (c : Dev nD) (i : grid0.Coords) (n : ℕ) (hn : n ≤ k0_t1_loop.trips) :
    (pb_k0_t1 (F := Ideal) Variants.none c none i B.a2 B.h2 B.a3 B.h3 B.a4 B.h4 B.a5 B.h5 B.a6 B.h6 (B.h2.unread B.x0) (B.h3.unread B.x1) (B.h4.unread B.x2) n).1 = list B n := by
  induction n with
  | zero => rfl
  | succ n ih =>
    refine (congrArg (fun p => p.1) (pb_k0_t1_succ (F := Ideal) Variants.none c none i B.a2 B.h2 B.a3 B.h3 B.a4 B.h4 B.a5 B.h5 B.a6 B.h6 (B.h2.unread B.x0) (B.h3.unread B.x1) (B.h4.unread B.x2) ⟨n, hn⟩)).trans ?_
    dsimp only
    rw [ih (Nat.le_of_succ_le hn), trip_eq]
    simp only [list, dif_pos (show n < k0_t1_loop.trips from hn)]
theorem all_eq (c : Dev nD) (i : grid0.Coords) :
    (kernelRun0_A (F := Ideal) c i B.a2 B.h2 B.a3 B.h3 B.a4 B.h4 B.a5 B.h5 B.a6 B.h6 B.x0 B.x1 B.x2).1 = all B := by
  have e := pb_eq B c i 4 (by decide)
  unfold kernelRun0_A
  dsimp only
  rw [show Scf.trips 0#32 (Scalar.addi 0#32 4#32) 1#32 = 4 from by decide, e]
  rfl

theorem off1_eq : ∀ k : Fin k0_t1_loop.trips, k0_off1 k = ![512 * k.val, 0] := by decide +kernel
theorem off2_eq : ∀ k : Fin k0_t1_loop.trips, k0_off2 k = ![512 * k.val, 128] := by decide +kernel
theorem off3_eq : ∀ k : Fin k0_t1_loop.trips, k0_off3 k = ![512 * k.val + 256, 0] := by decide +kernel
theorem off4_eq : ∀ k : Fin k0_t1_loop.trips, k0_off4 k = ![512 * k.val + 256, 128] := by decide +kernel
theorem off5_eq : ∀ k : Fin k0_t1_loop.trips, k0_off5 k = ![512 * k.val, 0] := by decide +kernel
theorem off6_eq : ∀ k : Fin k0_t1_loop.trips, k0_off6 k = ![512 * k.val + 256, 0] := by decide +kernel
theorem trips_four : k0_t1_loop.trips = 4 := by decide +kernel

/-! ## The operands' rows -/
def col (h : Fin 2) (e : Fin 128) : Fin 256 := ⟨128 * h.val + e.val, by omega⟩
def rQ (h : Fin 2) (r : Fin 2176) (e : Fin 128) : EReal := B.x0 (ix2 r (col h e))
def rK (h : Fin 2) (r : Fin 2176) (e : Fin 128) : EReal := B.x1 (ix2 r (col h e))
def rV (h : Fin 2) (r : Fin 2176) (e : Fin 128) : EReal := B.x2 (ix2 r (col h e))
/-- A row of the output. -/
def out (r : Fin 2176) (e : Fin 128) : EReal := both (att (rQ B 0 r) (rK B 0) (rV B 0)) (att (rQ B 1 r) (rK B 1) (rV B 1)) e

/-- A tile's row is the buffer's. -/
theorem row_of {n : ℕ} (a : Memref sig .tc .vmem S2176x256 .bf16) (ha : a.IsWhole) (x : Vec Ideal S2176x256 .bf16) (off : Fin 2 → ℕ) (r : ℕ) (h : Fin 2)
    (inb : ∀ i, off i + (![n, 128] : Fin 2 → ℕ) i ≤ S2176x256.size i) (ho : off = ![r, 128 * h.val]) (y : Fin n) (hy : r + y.val < 2176) :
    row (a.view.readAt (Elt Ideal) (Rect.unit (s := S2176x256) off ![n, 128] inb).toLoadRect (ha.unread x)) y = fun e => x (ix2 ⟨r + y.val, hy⟩ (col h e)) := by
  funext e
  refine (congrArg (a.view.read (Elt Ideal) (ha.unread x)) (Blocks.emb_ix2 (r := r) (c := 128 * h.val) _ ho ⟨r + y.val, hy⟩ (col h e) _ _ rfl rfl)).trans ?_
  rw [ha.read_unread]
theorem full_of (a : Memref sig .tc .vmem S2176x256 .bf16) (ha : a.IsWhole) (x : Vec Ideal S2176x256 .bf16) (off : Fin 2 → ℕ) (h : Fin 2)
    (inb : ∀ i, off i + (![2176, 128] : Fin 2 → ℕ) i ≤ S2176x256.size i) (ho : off = ![0, 128 * h.val]) :
    row (a.view.readAt (Elt Ideal) (Rect.unit (s := S2176x256) off ![2176, 128] inb).toLoadRect (ha.unread x)) = fun y e => x (ix2 y (col h e)) := by
  funext y
  refine (row_of a ha x off 0 h inb ho y (by omega)).trans ?_
  simp only [Nat.zero_add]
theorem k0_row : row (k0 B) = rK B 0 := full_of B.a3 B.h3 B.x1 _ 0 _ rfl
theorem k1_row : row (k1 B) = rK B 1 := full_of B.a3 B.h3 B.x1 _ 1 _ rfl
theorem v0_row : row (v0 B) = rV B 0 := full_of B.a4 B.h4 B.x2 _ 0 _ rfl
theorem v1_row : row (v1 B) = rV B 1 := full_of B.a4 B.h4 B.x2 _ 1 _ rfl

theorem out_A (x : Fin 256) (e : Fin 128) (h : 512 * k.val + x.val < 2176) : tA (qA0 B k) (qA1 B k) (k0 B) (k1 B) (v0 B) (v1 B) (ix2 x e) = out B ⟨512 * k.val + x.val, h⟩ e := by
  rw [tA_apply, k0_row, k1_row, v0_row, v1_row]
  unfold out qA0 qA1
  rw [row_of B.a2 B.h2 B.x0 _ (512 * k.val) 0 _ (off1_eq k) x h, row_of B.a2 B.h2 B.x0 _ (512 * k.val) 1 _ (off2_eq k) x h]
  rfl
theorem out_B (x : Fin 256) (e : Fin 128) (h : 512 * k.val + 256 + x.val < 2176) : tB (qB0 B k) (qB1 B k) (k0 B) (k1 B) (v0 B) (v1 B) (ix2 x e) = out B ⟨512 * k.val + 256 + x.val, h⟩ e := by
  rw [tB_apply, k0_row, k1_row, v0_row, v1_row]
  unfold out qB0 qB1
  rw [row_of B.a2 B.h2 B.x0 _ (512 * k.val + 256) 0 _ (off3_eq k) x h, row_of B.a2 B.h2 B.x0 _ (512 * k.val + 256) 1 _ (off4_eq k) x h]
  rfl
theorem out_T (x : Fin 128) (e : Fin 128) (h : 2048 + x.val < 2176) : tT (qT0 B) (qT1 B) (k0 B) (k1 B) (v0 B) (v1 B) (ix2 x e) = out B ⟨2048 + x.val, h⟩ e := by
  rw [tT_apply, k0_row, k1_row, v0_row, v1_row]
  have a : row (qT0 B) x = rQ B 0 ⟨2048 + x.val, h⟩ := row_of B.a2 B.h2 B.x0 _ 2048 0 _ rfl x h
  have b : row (qT1 B) x = rQ B 1 ⟨2048 + x.val, h⟩ := row_of B.a2 B.h2 B.x0 _ 2048 1 _ rfl x h
  rw [a, b]
  rfl

/-- The output's rows: of the first trips, -/
theorem list_value (n : ℕ) (hn : n ≤ 4) (r : Fin 2176) (hr : r.val < 512 * n) (e : Fin 128) : View.canon (list B n) (ix2 r e) = out B r e := by
  induction n with
  | zero => exact absurd hr (by simp)
  | succ n ih =>
    have ht : n < k0_t1_loop.trips := trips_four ▸ hn
    unfold list
    rw [dif_pos ht]
    unfold trip
    simp only [List.cons_append, List.nil_append, List.append_assoc]
    by_cases h1 : r.val < 512 * n
    · refine (Blocks.canon_miss _ (off6_eq ⟨n, ht⟩) _ _ _ _ (Or.inl (by simp; omega))).trans ?_
      refine (Blocks.canon_miss _ (off5_eq ⟨n, ht⟩) _ _ _ _ (Or.inl (by simpa using h1))).trans ?_
      exact ih (by omega) h1
    · by_cases h2 : r.val < 512 * n + 256
      · refine (Blocks.canon_miss _ (off6_eq ⟨n, ht⟩) _ _ _ _ (Or.inl (by simpa using h2))).trans ?_
        have er : r = ⟨512 * n + (⟨r.val - 512 * n, by omega⟩ : Fin 256).val, by simp; omega⟩ := Fin.ext (by simp; omega)
        refine (Blocks.canon_hit _ (off5_eq ⟨n, ht⟩) _ _ _ _ ⟨r.val - 512 * n, by omega⟩ e (by simp; omega) (by simp)).trans ?_
        refine (out_A B ⟨n, ht⟩ _ e (by simp; omega)).trans ?_
        simp only [← er]
      · have er : r = ⟨512 * n + 256 + (⟨r.val - (512 * n + 256), by omega⟩ : Fin 256).val, by simp; omega⟩ := Fin.ext (by simp; omega)
        refine (Blocks.canon_hit _ (off6_eq ⟨n, ht⟩) _ _ _ _ ⟨r.val - (512 * n + 256), by omega⟩ e (by simp; omega) (by simp)).trans ?_
        refine (out_B B ⟨n, ht⟩ _ e (by simp; omega)).trans ?_
        simp only [← er]
/-- and of all. -/
theorem all_value (r : Fin 2176) (e : Fin 128) : View.canon (all B) (ix2 r e) = out B r e := by
  unfold all
  by_cases h1 : r.val < 2048
  · refine (Blocks.canon_miss (r := 2048) (c := 0) _ rfl _ _ _ _ (Or.inl h1)).trans ?_
    exact list_value B 4 le_rfl r h1 e
  · have er : r = ⟨2048 + (⟨r.val - 2048, by omega⟩ : Fin 128).val, by simp; omega⟩ := Fin.ext (by simp; omega)
    refine (Blocks.canon_hit (r := 2048) (c := 0) _ rfl _ _ _ _ ⟨r.val - 2048, by omega⟩ e (by simp; omega) (by simp)).trans ?_
    refine (out_T B _ e (by simp; omega)).trans ?_
    simp only [← er]
end Cert.MlafStores
end
-- ==== Proof.MlafTiles.lean ====
/- The array the attention kernel leaves, as a function of the packed operands. -/
module
public import proofs.«01_k».proof.Proof.MlafStores
public import proofs.«01_k».proof.Proof.MlaTiles
public import proofs.«01_k».proof.Proof.Gen.MlafIdeal.Frame
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.MlafTiles
open Cert.MlafIdeal Cert.MlafIdeal.Gen Cert.MlafTile Cert.MlafStores
open Cert.MlaTiles (rowOf headOf batchAt)
variable (m : (ℓ : Loc nD τ sig) → Buf (Elt Ideal) ℓ)

/-- Every window's block index at every grid point. -/
theorem idx_val : ∀ t : Fin cfg0.N, win0_0.index t = ![t.val / 4, t.val % 4]
    ∧ win0_1.index t = ![t.val / 4, t.val % 4]
    ∧ win0_2.index t = ![t.val / 4, t.val % 4]
    ∧ win0_3.index t = ![t.val / 4, t.val % 4]
    ∧ win0_4.index t = ![t.val / 4, t.val % 4] :=
  (by decide +kernel : ∀ t : Fin grid0.N, _)
theorem pts (t : Fin cfg0.N) : t.val < 8 := lt_of_lt_of_eq t.isLt (by decide +kernel : cfg0.N = 8)

def gQ (c : Dev nD) (b : Fin 2) (H : Fin 8) (r : Fin 2176) (e : Fin 128) : EReal := (V m c main_v19 : FVec Ideal S4352x1024 .bf16) (ix2 (rowOf b r) (headOf H e))
def gK (c : Dev nD) (b : Fin 2) (H : Fin 8) (r : Fin 2176) (e : Fin 128) : EReal := (V m c main_v30 : FVec Ideal S4352x1024 .bf16) (ix2 (rowOf b r) (headOf H e))
def gV (c : Dev nD) (b : Fin 2) (H : Fin 8) (r : Fin 2176) (e : Fin 128) : EReal := (V m c main_v42 : FVec Ideal S4352x1024 .bf16) (ix2 (rowOf b r) (headOf H e))
def hd (P : Fin 4) (h : Fin 2) : Fin 8 := ⟨2 * P.val + h.val, by omega⟩
/-- A row of a pair of heads. -/
def oO (c : Dev nD) (b : Fin 2) (P : Fin 4) (r : Fin 2176) (e : Fin 128) : EReal :=
  both (att (gQ m c b (hd P 0) r) (gK m c b (hd P 0)) (gV m c b (hd P 0))) (att (gQ m c b (hd P 1) r) (gK m c b (hd P 1)) (gV m c b (hd P 1))) e

def ptB (t : Fin cfg0.N) : Fin 2 := ⟨t.val / 4, by have := pts t; omega⟩
def ptP (t : Fin cfg0.N) : Fin 4 := ⟨t.val % 4, Nat.mod_lt _ (by decide)⟩
def bufs (c : Dev nD) (t : Fin cfg0.N) : Bufs where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  x0 := iblk m c 0 t
  x1 := iblk m c 1 t
  x2 := iblk m c 2 t

theorem rQ_eq (c : Dev nD) (t : Fin cfg0.N) (h : Fin 2) (r : Fin 2176) : rQ (bufs m c t) h r = gQ m c (ptB t) (hd (ptP t) h) r := by
  funext e
  unfold rQ gQ bufs
  dsimp only
  have h2 := h.isLt
  blk_point [iblk, idx_val t]
  · show _ = 2176 * (t.val / 4) + r.val
    omega
  · show _ = 128 * (2 * (t.val % 4) + h.val) + e.val
    try unfold col
    try dsimp only
    omega
theorem rK_eq (c : Dev nD) (t : Fin cfg0.N) (h : Fin 2) : rK (bufs m c t) h = gK m c (ptB t) (hd (ptP t) h) := by
  funext r e
  unfold rK gK bufs
  dsimp only
  have h2 := h.isLt
  blk_point [iblk, idx_val t]
  · show _ = 2176 * (t.val / 4) + r.val
    omega
  · show _ = 128 * (2 * (t.val % 4) + h.val) + e.val
    try unfold col
    try dsimp only
    omega
theorem rV_eq (c : Dev nD) (t : Fin cfg0.N) (h : Fin 2) : rV (bufs m c t) h = gV m c (ptB t) (hd (ptP t) h) := by
  funext r e
  unfold rV gV bufs
  dsimp only
  have h2 := h.isLt
  blk_point [iblk, idx_val t]
  · show _ = 2176 * (t.val / 4) + r.val
    omega
  · show _ = 128 * (2 * (t.val % 4) + h.val) + e.val
    try unfold col
    try dsimp only
    omega
theorem out_eq (c : Dev nD) (t : Fin cfg0.N) (r : Fin 2176) (e : Fin 128) : out (bufs m c t) r e = oO m c (ptB t) (ptP t) r e := by
  unfold out oO
  rw [rQ_eq, rQ_eq, rK_eq, rK_eq, rV_eq, rV_eq]
theorem outs_eq (c : Dev nD) (t : Fin cfg0.N) (r : Fin 2176) (e : Fin 128) : (outsAt0 m c t).1 (ix2 r e) = oO m c (ptB t) (ptP t) r e := by
  unfold outsAt0 out0_A_3
  dsimp only
  refine (View.read_writes_junk_apply_eq_canon _ _ _).trans ?_
  refine (congrArg (fun L => View.canon L (ix2 r e)) (all_eq (bufs m c t) c (grid0.coords t))).trans ?_
  exact (all_value _ r e).trans (out_eq m c t r e)

/-! ## The whole array -/
def rowIn (p : Fin 4352) : Fin 2176 := ⟨p.val % 2176, Nat.mod_lt _ (by decide)⟩
def pairIn (x : Fin 512) : Fin 4 := ⟨x.val / 128, by omega⟩
def laneIn (x : Fin 512) : Fin 128 := ⟨x.val % 128, Nat.mod_lt _ (by decide)⟩
def colOf (P : Fin 4) (e : Fin 128) : Fin 512 := ⟨128 * P.val + e.val, by omega⟩
def res (c : Dev nD) : FVec Ideal S4352x512 .f32 := fun i => oO m c (batchAt (i 0)) (pairIn (i 1)) (rowIn (i 0)) (laneIn (i 1))
theorem res_at (c : Dev nD) (b : Fin 2) (r : Fin 2176) (P : Fin 4) (e : Fin 128) : res m c (ix2 (rowOf b r) (colOf P e)) = oO m c b P r e := by
  have e1 : batchAt (rowOf b r) = b := Fin.ext (by show (2176 * b.val + r.val) / 2176 = b.val; omega)
  have e2 : rowIn (rowOf b r) = r := Fin.ext (by show (2176 * b.val + r.val) % 2176 = r.val; omega)
  have e3 : pairIn (colOf P e) = P := Fin.ext (by show (128 * P.val + e.val) / 128 = P.val; omega)
  have e4 : laneIn (colOf P e) = e := Fin.ext (by show (128 * P.val + e.val) % 128 = e.val; omega)
  show oO m c (batchAt (rowOf b r)) (pairIn (colOf P e)) (rowIn (rowOf b r)) (laneIn (colOf P e)) = _
  rw [e1, e2, e3, e4]
theorem read_res (Y : FVec Ideal S4352x512 .f32) (t : Fin cfg0.N) (y : S2176x128.Idx) :
    Y (ix2 (rowOf (ptB t) (y 0)) (colOf (ptP t) (y 1))) = (((cfgs 0).win 3).blk t).view.read (Elt Ideal) Y y := by
  have h8 := pts t
  blk_point [idx_val t]
  · show 2176 * (t.val / 4) + (y 0).val = _
    omega
  · show 128 * (t.val % 4) + (y 1).val = _
    omega
theorem split (y : S2176x128.Idx) : y = ix2 (y 0) (y 1) := by
  funext a
  fin_cases a <;> rfl
theorem final (c : Dev nD) : (dats m 0 c).arrAt 3 (cfgs 0).N = res m c := by
  refine (dats m 0 c).arrAt_eq_of_covers 3 _ (by decide +kernel) fun t hf y => ?_
  refine Eq.trans ?_ (read_res (res m c) t y)
  blk_simp
  rw [after0_3]
  refine (congrArg (outsAt0 m c t).1 (split y)).trans ((outs_eq m c t _ _).trans ?_)
  exact (res_at m c _ _ _ _).symm
end Cert.MlafTiles
end
-- ==== Proof.MlafForm.lean ====
/- A row of the attention over the padded keys is the row over the real ones. -/
module
public import proofs.«01_k».proof.Proof.MlafTile
public import proofs.«01_k».proof.Proof.MlaForm
@[expose] public section
set_option maxRecDepth 16384
noncomputable section
open Idealize.ShloMosaic Idealize.ShloMosaic.TcCoe Idealize.SL.Sem
namespace Cert.MlafForm
open Cert.MlafTile Cert.MlaForm Cert.Norm

/-- Every packed row holds a row of the problem, or lies behind them. -/
theorem cases_at (r : Fin 2176) : (∃ k, at_ k = r) ∨ 2064 ≤ r.val := by
  by_cases hc : 2064 ≤ r.val
  · exact Or.inr hc
  · refine Or.inl ⟨if h : r.val < 2048 then ⟨r.val + 16, by omega⟩ else ⟨r.val - 2048, by omega⟩, Fin.ext ?_⟩
    unfold at_
    by_cases h1 : r.val < 2048
    · rw [dif_pos h1]
      simp only []
      rw [if_neg (by omega)]
      exact Nat.add_sub_cancel r.val 16
    · rw [dif_neg h1]
      simp only []
      rw [if_pos (by omega)]
      exact Nat.add_sub_cancel' (Nat.not_lt.1 h1)

variable (X : Reals) (b : Fin 2) (l : Fin 2064) (H : Fin 8) {K V : Fin 2176 → Fin 128 → EReal}
  (hK : ∀ k, K (at_ k) = kL X b k H) (hZ : ∀ j : Fin 2176, 2064 ≤ j.val → K j = kZ) (hV : ∀ k, V (at_ k) = vL X b k H)
include hK in
theorem score_at (k : Fin 2064) : score (qL X b l H) K (at_ k) = ((sc X b l H k / Real.log 2 : ℝ) : EReal) := by
  unfold score
  rw [hK]
  exact qk_real X b l k H
include hZ in
theorem score_pad (j : Fin 2176) (h : 2064 ≤ j.val) : score (qL X b l H) K j = ⊥ := by
  unfold score
  rw [hZ j h]
  exact qk_pad X b l H
include hK hZ
theorem top_e : top (qL X b l H) K = ((mx X b l H / Real.log 2 : ℝ) : EReal) := by
  unfold top
  rw [show Ideal.ofBits .f32 0xFF800000#32 = (⊥ : EReal) from bot_eq]
  refine le_antisymm (Finset.fold_max_le _ |>.2 ⟨bot_le, fun j _ => ?_⟩) ?_
  · obtain ⟨k, rfl⟩ | h := cases_at j
    · rw [score_at X b l H hK]
      exact EReal.coe_le_coe_iff.2 (div_le_div_of_nonneg_right (Finset.le_sup' (sc X b l H) (Finset.mem_univ k)) log2_pos.le)
    · rw [score_pad X b l H hZ j h]
      exact bot_le
  · obtain ⟨k, hk, e⟩ := Finset.exists_mem_eq_sup' ⟨(0 : Fin 2064), Finset.mem_univ _⟩ (sc X b l H)
    rw [show mx X b l H = sc X b l H k from e]
    exact Finset.le_fold_max _ |>.2 (Or.inr ⟨at_ k, Finset.mem_univ _, (score_at X b l H hK k).ge⟩)
theorem weight_at (k : Fin 2064) : Ideal.exp2 (score (qL X b l H) K (at_ k) - top (qL X b l H) K) = (ex X b l H k : EReal) := by
  rw [score_at X b l H hK, top_e X b l H hK hZ, ← EReal.coe_sub, Ideal.exp2_coe]
  refine congrArg _ ?_
  show (2 : ℝ) ^ (sc X b l H k / Real.log 2 - mx X b l H / Real.log 2) = _
  have h2 : Real.log 2 ≠ 0 := log2_pos.ne'
  rw [Real.rpow_def_of_pos (by norm_num : (0 : ℝ) < 2),
    show Real.log 2 * (sc X b l H k / Real.log 2 - mx X b l H / Real.log 2) = sc X b l H k - mx X b l H by field_simp]
  rfl
theorem weight_pad (j : Fin 2176) (h : 2064 ≤ j.val) : Ideal.exp2 (score (qL X b l H) K j - top (qL X b l H) K) = 0 := by
  rw [score_pad X b l H hZ j h, top_e X b l H hK hZ, EReal.bot_sub, Ideal.exp2_bot]
theorem acc_e (e : Fin 128) (F : Fin 2064 → ℝ) (hF : ∀ k, V (at_ k) e = (F k : EReal)) : acc (qL X b l H) K V e = ((∑ k, ex X b l H k * F k : ℝ) : EReal) := by
  unfold acc
  rw [sum_rows _ fun j hj => by rw [weight_pad X b l H hK hZ j hj, zero_mul], ← coe_sum]
  refine Finset.sum_congr rfl fun k _ => ?_
  rw [weight_at X b l H hK hZ, hF, EReal.coe_mul]
include hV
theorem den_e : den (qL X b l H) K V = (sm X b l H : EReal) := by
  unfold den
  rw [Finset.sum_eq_single_of_mem (⟨64, by decide⟩ : Fin 128) (Finset.mem_univ _) fun e _ he => if_neg fun h => he (Fin.ext h), if_pos rfl,
    acc_e X b l H hK hZ _ (fun _ => -1) fun k => by rw [hV]; unfold vL; rw [dif_neg (by decide), if_pos (by decide)],
    ← EReal.coe_zero, ← EReal.coe_sub]
  refine congrArg _ ?_
  simp only [mul_neg_one, Finset.sum_neg_distrib, sub_neg_eq_add, zero_add]
  rfl
/-- The attention's row. -/
theorem att_e (d : Fin 64) : att (qL X b l H) K V ⟨d.val, by omega⟩ = (og X b l H d : EReal) := by
  unfold att
  rw [den_e X b l H hK hZ hV, acc_e X b l H hK hZ _ (fun k => X.v (ix4 b k H d)) fun k => by rw [hV]; unfold vL; rw [dif_pos d.isLt],
    ← EReal.coe_one, div_real _ _ (sm_pos X b l H).ne', ← EReal.coe_mul]
  refine congrArg _ ?_
  unfold og pr
  rw [Finset.sum_mul]
  refine Finset.sum_congr rfl fun k _ => ?_
  ring
end Cert.MlafForm
end
-- ==== Proof.MlafRefForm.lean ====
/- The reference attention over the real numbers. -/
module
public import proofs.«01_k».proof.Proof.Gen.MlafRefIdeal.Read
public import proofs.«01_k».proof.Proof.MlaForm
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.MlafRefForm
open Cert.MlafRefIdeal Cert.MlafRefIdeal.Gen Cert.MlafRefIdeal.Read Cert.MlaForm
variable (X : Reals)
abbrev a0 : FVec Ideal S2x2064x8x64 .f32 := fun i => (X.qn i : EReal)
abbrev a1 : FVec Ideal S2x2064x8x32 .f32 := fun i => (X.qr i : EReal)
abbrev a2 : FVec Ideal S2x2064x8x64 .f32 := fun i => (X.kn i : EReal)
abbrev a3 : FVec Ideal S2x2064x32 .f32 := fun i => (X.kr i : EReal)
abbrev a4 : FVec Ideal S2x2064x8x64 .f32 := fun i => (X.v i : EReal)

theorem max_low (x : EReal) : max (Ideal.ofBits .f32 4286578688#32) x = x := by rw [bot_eq]; exact max_eq_right bot_le
theorem r5 (b : Fin 2) (H : Fin 8) (l k : Fin 2064) : val_main_v5 (F := Ideal) (a0 X) (a1 X) (a2 X) (a3 X) (ix4 b H l k) = (sc X b l H k : EReal) := by
  pointwise [val_main_v5, val_main_v4, val_main_v3, val_main_v2, val_main_v1, val_main_v0, val_main_cst]
  exact sc_e X b l H k
theorem r6 (b : Fin 2) (H : Fin 8) (l : Fin 2064) : val_main_v6 (F := Ideal) (a0 X) (a1 X) (a2 X) (a3 X) (ix3 b H l) = (mx X b l H : EReal) := by
  pointwise [val_main_v6, val_main_cst_0]
  simp only [r5, mx_e]
theorem r8 (b : Fin 2) (H : Fin 8) (l : Fin 2064) : val_main_v8 (F := Ideal) (a0 X) (a1 X) (a2 X) (a3 X) (ix3 b H l) = (mx X b l H : EReal) := by
  rw [val_main_v8_apply, val_main_v7_apply, val_main_cst_1_apply]
  rw [r6]
  exact max_low _
theorem r10 (b : Fin 2) (H : Fin 8) (l k : Fin 2064) : val_main_v10 (F := Ideal) (a0 X) (a1 X) (a2 X) (a3 X) (ix4 b H l k) = (mx X b l H : EReal) := by
  pointwise [val_main_v10, val_main_v9]
  rw [r8]
theorem r12 (b : Fin 2) (H : Fin 8) (l k : Fin 2064) : val_main_v12 (F := Ideal) (a0 X) (a1 X) (a2 X) (a3 X) (ix4 b H l k) = (ex X b l H k : EReal) := by
  rw [val_main_v12_apply, val_main_v11_apply, r5, r10]
  exact ex_e X b l H k
theorem r13 (b : Fin 2) (H : Fin 8) (l : Fin 2064) : val_main_v13 (F := Ideal) (a0 X) (a1 X) (a2 X) (a3 X) (ix3 b H l) = (sm X b l H : EReal) := by
  pointwise [val_main_v13, val_main_cst_2]
  simp only [r12, sm_e]
theorem r16 (b : Fin 2) (H : Fin 8) (l k : Fin 2064) : val_main_v16 (F := Ideal) (a0 X) (a1 X) (a2 X) (a3 X) (ix4 b H l k) = (pr X b l H k : EReal) := by
  pointwise [val_main_v16, val_main_v15, val_main_v14]
  simp only [r12, r13, pr_e]
theorem r17 (b : Fin 2) (H : Fin 8) (d : Fin 64) (l : Fin 2064) : val_main_v17 (F := Ideal) (a0 X) (a1 X) (a2 X) (a3 X) (a4 X) (ix4 b H d l) = (og X b l H d : EReal) := by
  pointwise [val_main_v17]
  simp only [r16, og_e]
/-- A column's head and lane. -/
def spec : FVec Ideal S2x2064x512 .f32 := fun i => (og X (i 0) (i 1) ⟨(i 2).val / 64, by have h : (i 2).val < 512 := (i 2).isLt; omega⟩ ⟨(i 2).val % 64, Nat.mod_lt _ (by decide)⟩ : EReal)
theorem r19 (b : Fin 2) (l : Fin 2064) (x : Fin 512) : val_main_v19 (F := Ideal) (a0 X) (a1 X) (a2 X) (a3 X) (a4 X) (ix3 b l x) = spec X (ix3 b l x) := by
  pointwise [val_main_v19, val_main_v18]
  simp only [r17]
  rfl
end Cert.MlafRefForm
end
-- ==== Proof.MlafPack.lean ====
/- The attention's packed operands, read from its arguments, and its result, read from the array its kernel leaves. -/
module
public import proofs.«01_k».proof.Proof.MlafTiles
public import proofs.«01_k».proof.Proof.MlafForm
public import proofs.«01_k».proof.Proof.MlafRefForm
public import proofs.«01_k».proof.Proof.MlaPack
public import Idealize.ShloMosaic.Lib.StableHlo.ReadAt
@[expose] public section
set_option maxRecDepth 16384
noncomputable section
open Idealize.ShloMosaic Idealize.ShloMosaic.TcCoe Idealize.SL.Sem Idealize.ShloMosaic.StableHlo
open Idealize.ShloMosaic.Pipeline (Dat)
namespace Cert.MlafPack
open Cert.MlafIdeal Cert.MlafIdeal.Gen Cert.MlafTile Cert.MlaForm Cert.MlafTiles
open Cert.MlaTiles (rowOf headOf)
open Cert.MlaPack (pick pick_at pick_pad headOn laneOn headOn_eq laneOn_eq)
variable (m : (ℓ : Loc nD τ sig) → Buf (Elt Ideal) ℓ)

/-- The arguments on a device are these real numbers. -/
structure Is (c : Dev nD) (X : Reals) : Prop where
  qn : m (c, Proc.tc.devRef main_arg0) = fun i => (X.qn i : EReal)
  qr : m (c, Proc.tc.devRef main_arg1) = fun i => (X.qr i : EReal)
  kn : m (c, Proc.tc.devRef main_arg2) = fun i => (X.kn i : EReal)
  kr : m (c, Proc.tc.devRef main_arg3) = fun i => (X.kr i : EReal)
  v : m (c, Proc.tc.devRef main_arg4) = fun i => (X.v i : EReal)

theorem V_flat (c : Dev nD) : V0 m c = StableHlo.after hostOps0 (fun b => m (c, b)) := by unfold V0; simp only [List.flatten_cons, List.flatten_nil, List.append_nil]
section Packed
variable {m} {c : Dev nD} {X : Reals} (hX : Is m c X)
include hX
theorem v19_eq (p : Fin 4352) (x : Fin 1024) : (V m c main_v19 : FVec Ideal S4352x1024 .bf16) (ix2 p x)
    = pick (fun b l => qL X b l (headOn x) (laneOn x)) (qZ (laneOn x)) p := by
  rw [show V m c = fun b => V0 m c (Proc.devRef .tc b) from rfl, V_flat m c]
  repeat after_reads_at
  simp only [hX.qn, hX.qr]
  simp only [fR_e]
  rfl
theorem v30_eq (p : Fin 4352) (x : Fin 1024) : (V m c main_v30 : FVec Ideal S4352x1024 .bf16) (ix2 p x)
    = pick (fun b l => kL X b l (headOn x) (laneOn x)) (kZ (laneOn x)) p := by
  rw [show V m c = fun b => V0 m c (Proc.devRef .tc b) from rfl, V_flat m c]
  repeat after_reads_at
  simp only [hX.kn, hX.kr]
  simp only [bot_eq]
  rfl
theorem v42_eq (p : Fin 4352) (x : Fin 1024) : (V m c main_v42 : FVec Ideal S4352x1024 .bf16) (ix2 p x)
    = pick (fun b l => vL X b l (headOn x) (laneOn x)) (vZ (laneOn x)) p := by
  rw [show V m c = fun b => V0 m c (Proc.devRef .tc b) from rfl, V_flat m c]
  repeat after_reads_at
  simp only [hX.v]
  simp only [neg_one_eq]
  rfl
theorem gQ_eq (b : Fin 2) (H : Fin 8) (r : Fin 2176) : gQ m c b H r = pick (fun b l => qL X b l H) qZ (rowOf b r) := by
  funext e
  unfold gQ
  rw [v19_eq hX, headOn_eq, laneOn_eq]
  unfold pick; split_ifs <;> rfl
theorem gK_eq (b : Fin 2) (H : Fin 8) (r : Fin 2176) : gK m c b H r = pick (fun b l => kL X b l H) kZ (rowOf b r) := by
  funext e
  unfold gK
  rw [v30_eq hX, headOn_eq, laneOn_eq]
  unfold pick; split_ifs <;> rfl
theorem gV_eq (b : Fin 2) (H : Fin 8) (r : Fin 2176) : gV m c b H r = pick (fun b l => vL X b l H) vZ (rowOf b r) := by
  funext e
  unfold gV
  rw [v42_eq hX, headOn_eq, laneOn_eq]
  unfold pick; split_ifs <;> rfl
/-- A head's row over the packed operands is the attention's. -/
theorem att_real (b : Fin 2) (l : Fin 2064) (H : Fin 8) (d : Fin 64) :
    att (gQ m c b H (at_ l)) (gK m c b H) (gV m c b H) ⟨d.val, by omega⟩ = (og X b l H d : EReal) := by
  rw [gQ_eq hX, pick_at]
  exact MlafForm.att_e X b l H (fun k => by rw [gK_eq hX, pick_at]) (fun j hj => by rw [gK_eq hX, pick_pad _ _ _ _ hj]) (fun k => by rw [gV_eq hX, pick_at]) d
theorem oO_real (b : Fin 2) (l : Fin 2064) (x : Fin 512) :
    oO m c b (pairIn x) (at_ l) (laneIn x) = (og X b l ⟨x.val / 64, by omega⟩ ⟨x.val % 64, Nat.mod_lt _ (by decide)⟩ : EReal) := by
  have hx := x.isLt
  unfold oO both
  split_ifs with h
  · have h : x.val % 128 < 64 := h
    refine (att_real hX b l (hd (pairIn x) 0) ⟨x.val % 128, h⟩).trans ?_
    exact congrArg₂ (fun H d => (og X b l H d : EReal)) (Fin.ext (by show 2 * (x.val / 128) + 0 = x.val / 64; omega)) (Fin.ext (by show x.val % 128 = x.val % 64; omega))
  · have h : ¬ x.val % 128 < 64 := h
    have e : (⟨((laneIn x).val + 64) % 128, Nat.mod_lt _ (by decide)⟩ : Fin 128) = ⟨(⟨x.val % 128 - 64, by omega⟩ : Fin 64).val, by simp; omega⟩ :=
      Fin.ext (by show (x.val % 128 + 64) % 128 = x.val % 128 - 64; omega)
    rw [e]
    refine (att_real hX b l (hd (pairIn x) 1) ⟨x.val % 128 - 64, by omega⟩).trans ?_
    exact congrArg₂ (fun H d => (og X b l H d : EReal)) (Fin.ext (by show 2 * (x.val / 128) + 1 = x.val / 64; omega)) (Fin.ext (by show x.val % 128 - 64 = x.val % 64; omega))
end Packed

/-! ## The host lines behind the kernel -/
theorem place_lt (b : Fin 2) (l : Fin 2064) (p : Fin 4352) (x : Fin 512) (h : l.val < 16) (hp : p.val = b.val * 2176 + (2048 + l.val)) : ix2 p x = ix2 (rowOf b (at_ l)) x := by
  refine congrArg (fun p => ix2 p x) (Fin.ext ?_)
  show _ = 2176 * b.val + (if l.val < 16 then 2048 + l.val else l.val - 16)
  rw [if_pos h]; omega
theorem place_ge (b : Fin 2) (l : Fin 2064) (p : Fin 4352) (x : Fin 512) (h : ¬ l.val < 16) (hp : p.val = b.val * 2176 + (l.val - 16)) : ix2 p x = ix2 (rowOf b (at_ l)) x := by
  refine congrArg (fun p => ix2 p x) (Fin.ext ?_)
  show _ = 2176 * b.val + (if l.val < 16 then 2048 + l.val else l.val - 16)
  rw [if_neg h]; omega
theorem t47 (W : Valuation τ sig (Elt Ideal)) (b : Fin 2) (l : Fin 2064) (x : Fin 512) :
    (StableHlo.after hostOps1 W (Proc.devRef .tc main_v47) : FVec Ideal S2x2064x512 .f32) (ix3 b l x)
      = (W (Proc.devRef .tc main_v43_0) : FVec Ideal S4352x512 .f32) (ix2 (rowOf b (at_ l)) x) := by
  repeat after_reads_at
  split_ifs with h
  · exact congrArg (W (Proc.devRef .tc main_v43_0)) (place_lt b l _ _ h rfl)
  all_goals exact congrArg (W (Proc.devRef .tc main_v43_0)) (place_ge b l _ _ h rfl)

theorem arr_inj : Function.Injective (Pipeline.arrRef (cfgs 0).spec) := winFacts0.arr_inj
/-- What the kernel leaves in the array of window `w`. -/
theorem left_at (c : Dev nD) (w : Fin 5) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr (cfgs 0).spec arr_inj c (V0 m c) (fun w => (dats m 0 c).arrAt w (cfgs 0).N) w
theorem tail_flat (c : Dev nD) (b : Ref sig .tc) :
    Pipeline.afterTail₀ cfgs (dats m) 0 (V0 m) [hostOps1] c b
      = StableHlo.after hostOps1 (Pipeline.withArrays (cfgs 0).spec c (V0 m c) (fun w => (dats m 0 c).arrAt w (cfgs 0).N)) (Proc.devRef .tc b) := by
  unfold Pipeline.afterTail₀
  simp only [List.flatten_cons, List.flatten_nil, List.append_nil]
theorem split_col (x : Fin 512) : colOf (pairIn x) (laneIn x) = x := Fin.ext (by show 128 * (x.val / 128) + x.val % 128 = x.val; omega)

variable {m} {c : Dev nD} {X : Reals} (hX : Is m c X)
include hX
theorem out47 : (Pipeline.afterTail₀ cfgs (dats m) 0 (V0 m) [hostOps1] c main_v47 : FVec Ideal S2x2064x512 .f32) = MlafRefForm.spec X := by
  funext i
  idx_vars i
  rw [tail_flat]
  refine (t47 _ i0 i1 i2).trans ?_
  refine (congrFun ((left_at m c 3).trans (final m c)) _).trans ?_
  refine (congrArg (fun x => res m c (ix2 (rowOf i0 (at_ i1)) x)) (split_col i2).symm).trans ?_
  exact (res_at m c _ _ _ _).trans (oO_real hX i0 i1 i2)
end Cert.MlafPack
end
-- ==== Proof.MlafClaim.lean ====
/- The forward attention is the reference's, on finite arguments. -/
module
public import proofs.«01_k».proof.Defs
public import proofs.«01_k».proof.Proof.MlafPack
public import proofs.«01_k».proof.Proof.ForwardFrames
public import Idealize.ShloMosaic.Lib.Claim
@[expose] public section
set_option maxRecDepth 16384
noncomputable section
open Idealize.ShloMosaic Idealize.ShloMosaic.TcCoe Idealize.SL.Sem
namespace Cert.MlafClaim
open Cert.Norm Cert.MlafIdeal Cert.MlaForm Cert.MlafPack

theorem pre_facts : Cert.Pre_mlaf_finite.Facts where
  bcast_S_S2x2064x8x64 := by decide
  reducesTo_S2x2064x8x64_S_d0_1_2_3 := by decide
  h_S_ := by decide
  bcast_S_S2x2064x8x32 := by decide
  reducesTo_S2x2064x8x32_S_d0_1_2_3 := by decide
  bcast_S_S2x2064x32 := by decide
  reducesTo_S2x2064x32_S_d0_1_2 := by decide
attribute [local instance] Cert.MlafIdeal.Gen.facts Cert.MlafRefIdeal.Gen.facts pre_facts

theorem frame_pi_finite : Cert.quiescent_MlafIdeal_pre_mlaf_finite := fun m ρ _ => Cert.MlafIdeal.Gen.frame m ρ
theorem frame_ri_finite : Cert.quiescent_MlafRefIdeal_pre_mlaf_finite := fun m ρ _ => ForwardFrames.mlaf_ri m ρ trivial

variable (m : (ℓ : Loc nD τ sig) → Buf (Elt Ideal) ℓ) (c : Dev nD)
/-- The five arguments. -/
abbrev b0 : FVec Ideal S2x2064x8x64 .f32 := m ((c.tc : Thread nD τ).loc main_arg0)
abbrev b1 : FVec Ideal S2x2064x8x32 .f32 := m ((c.tc : Thread nD τ).loc main_arg1)
abbrev b2 : FVec Ideal S2x2064x8x64 .f32 := m ((c.tc : Thread nD τ).loc main_arg2)
abbrev b3 : FVec Ideal S2x2064x32 .f32 := m ((c.tc : Thread nD τ).loc main_arg3)
abbrev b4 : FVec Ideal S2x2064x8x64 .f32 := m ((c.tc : Thread nD τ).loc main_arg4)

/-- The precondition says that every element of every argument is a number. -/
theorem nums (h : Cert.Pre_MlafIdeal_mlaf_finite m) :
    (∀ i, Num (b0 m c i)) ∧ (∀ i, Num (b1 m c i)) ∧ (∀ i, Num (b2 m c i)) ∧ (∀ i, Num (b3 m c i)) ∧ (∀ i, Num (b4 m c i)) := by
  have h := congrFun (h c) (fun x => x.elim0)
  dsimp only [Cert.Pre_mlaf_finite.fn, Cert.Pre_mlaf_finite.fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨num_of_all _ _ _ _ _ h0, num_of_all _ _ _ _ _ h1, num_of_all _ _ _ _ _ h2, num_of_all _ _ _ _ _ h3, num_of_all _ _ _ _ _ h4⟩

/-- The arguments' real numbers. -/
def reals (h : Cert.Pre_MlafIdeal_mlaf_finite m) : Reals where
  qn i := ((nums m c h).1 i).choose
  qr i := ((nums m c h).2.1 i).choose
  kn i := ((nums m c h).2.2.1 i).choose
  kr i := ((nums m c h).2.2.2.1 i).choose
  v i := ((nums m c h).2.2.2.2 i).choose
  d _ := 0

theorem is_reals (h : Cert.Pre_MlafIdeal_mlaf_finite m) : Is m c (reals m c h) where
  qn := funext fun i => ((nums m c h).1 i).choose_spec
  qr := funext fun i => ((nums m c h).2.1 i).choose_spec
  kn := funext fun i => ((nums m c h).2.2.1 i).choose_spec
  kr := funext fun i => ((nums m c h).2.2.2.1 i).choose_spec
  v := funext fun i => ((nums m c h).2.2.2.2 i).choose_spec

theorem algebraic : Cert.algebraic_MlafIdeal_MlafRefIdeal_pre_mlaf_finite := by
  intro m g m' g' hpre hagree
  refine ⟨fun c => MlafRefForm.spec (reals m c hpre), ?_, ?_⟩
  · refine (θ_run defs _ _).mono ?_ (θ_run_and (Gen.run_main m g) (Gen.unchanged m g))
    rintro r ⟨h, hu⟩ c
    exact ⟨((h c).2 main_v47 (by decide)).trans (out47 (is_reals m c hpre)), hu c⟩
  · refine (θ_run MlafRefIdeal.defs _ _).mono ?_ (MlafRefIdeal.Value.run m' g')
    intro r h c
    obtain ⟨h0, hu⟩ := h c
    obtain ⟨e0, e1, e2, e3, e4⟩ := hagree c
    have hX := is_reals m c hpre
    replace e0 := e0.trans hX.qn
    replace e1 := e1.trans hX.qr
    replace e2 := e2.trans hX.kn
    replace e3 := e3.trans hX.kr
    replace e4 := e4.trans hX.v
    refine ⟨h0.trans ?_, hu⟩
    rw [MlafRefIdeal.Read.val_main_v19_eq, e0, e1, e2, e3, e4]
    funext i
    idx_vars i
    exact MlafRefForm.r19 _ _ _ _
end Cert.MlafClaim
end
-- ==== Proof.ForwardOutTile.lean ====
/- The array the kernel of the gated output layer leaves, as a function of the packed rows. -/
module
public import proofs.«01_k».proof.Proof.Gen.OutfIdeal.Frame
public import proofs.«01_k».proof.Proof.Packed
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutfIdeal.Value
open Cert.OutfIdeal Cert.OutfIdeal.Gen Cert.Norm
variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 2]
    ∧ win0_3.index t = ![t.val, 4]
    ∧ win0_4.index t = ![0, 0]
    ∧ win0_5.index t = ![0, 0]
    ∧ win0_6.index t = ![0, 0]
    ∧ win0_7.index t = ![t.val, 0]
    ∧ win0_8.index t = ![t.val, 0] :=
  (by decide +kernel : ∀ t : Fin grid0.N, _)

/-- The length of a half row and the number added to its mean square, as their words read. -/
abbrev Nc : EReal := Ideal.ofBits .f32 1140850688#32
abbrev ec : EReal := Ideal.ofBits .f32 897988541#32

abbrev hM (c : Dev nD) : FVec Ideal S4352x1024 .f32 := V m c main_v24
abbrev wM (c : Dev nD) : FVec Ideal S1024x1024 .bf16 := V m c main_v19
abbrev gM (c : Dev nD) : FVec Ideal S4352x2560 .f32 := V m c main_v6
abbrev yaM (c : Dev nD) : FVec Ideal S4352x512 .f32 := V m c main_v11
abbrev ybM (c : Dev nD) : FVec Ideal S4352x512 .f32 := V m c main_v16
abbrev naM (c : Dev nD) : FVec Ideal S1x512 .f32 := V m c main_v17
abbrev nbM (c : Dev nD) : FVec Ideal S1x512 .f32 := V m c main_v18
def yA (c : Dev nD) (p : Fin 4352) : Fin 512 → EReal := fun k => yaM m c (ix2 p k)
def yB (c : Dev nD) (p : Fin 4352) : Fin 512 → EReal := fun k => ybM m c (ix2 p k)
def gA (c : Dev nD) (p : Fin 4352) : Fin 512 → EReal := fun k => gM m c (ix2 p ⟨1024 + k.val, by omega⟩)
def gB (c : Dev nD) (p : Fin 4352) : Fin 512 → EReal := fun k => gM m c (ix2 p ⟨2048 + k.val, by omega⟩)
def nA (c : Dev nD) : Fin 512 → EReal := fun k => naM m c (ix2 0 k)
def nB (c : Dev nD) : Fin 512 → EReal := fun k => nbM m c (ix2 0 k)

def res8 (c : Dev nD) : FVec Ideal S4352x1024 .f32 := fun i =>
  hM m c (ix2 (i 0) (i 1)) + ((∑ k : Fin 512, halfOut Nc ec (yA m c (i 0)) (gA m c (i 0)) (nA m c) k * wM m c (ix2 ⟨k.val, by omega⟩ (i 1)))
    + ∑ k : Fin 512, halfOut Nc ec (yB m c (i 0)) (gB m c (i 0)) (nB m c) k * wM m c (ix2 ⟨512 + k.val, by omega⟩ (i 1)))

set_option maxHeartbeats 2000000 in
theorem final8 (c : Dev nD) : (dats m 0 c).arrAt 8 (cfgs 0).N = res8 m c := by
  refine (dats m 0 c).arrAt_eq_of_covers 8 _ (by decide +kernel) fun t hf y => ?_
  blk_simp; rw [after0_8]
  unfold out0_8
  frame_out
  pointwise [k0_pay1, k0_pay2, k0_pay3, k0_pay4, res8, halfOut, rst, silu, yA, gA, nA, yB, gB, nB]
  blk_point [iblk, idx_val t]
end Cert.OutfIdeal.Value
end
-- ==== Proof.ForwardOutPack.lean ====
/- The packed operands of the kernel of the gated output layer, read from its arguments. -/
module
public import proofs.«01_k».proof.Proof.Gen.OutfIdeal.Frame
public import proofs.«01_k».proof.Proof.ForwardOutTile
public import proofs.«01_k».proof.Proof.Packed
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutfIdeal.Value
open Cert.OutfIdeal Cert.OutfIdeal.Gen Cert.Norm
variable (m : (ℓ : Loc nD τ sig) → Buf (Elt Ideal) ℓ)

theorem V_flat (c : Dev nD) : V0 m c = StableHlo.after hostOps0 (fun b => m (c, b)) := by
  unfold V0; simp only [List.flatten_cons, List.flatten_nil, List.append_nil]

section Args
variable (c : Dev nD)
abbrev a0 : FVec Ideal ⟨3, ![2, 2064, 512]⟩ .f32 := m (c, Proc.devRef .tc main_arg0)
abbrev a1 : FVec Ideal ⟨3, ![2, 2064, 512]⟩ .f32 := m (c, Proc.devRef .tc main_arg1)
abbrev a2 : FVec Ideal ⟨3, ![2, 2064, 512]⟩ .f32 := m (c, Proc.devRef .tc main_arg2)
abbrev a3 : FVec Ideal ⟨3, ![2, 2064, 512]⟩ .f32 := m (c, Proc.devRef .tc main_arg3)
abbrev a4 : FVec Ideal ⟨1, ![512]⟩ .f32 := m (c, Proc.devRef .tc main_arg4)
abbrev a5 : FVec Ideal ⟨1, ![512]⟩ .f32 := m (c, Proc.devRef .tc main_arg5)
abbrev a6 : FVec Ideal ⟨2, ![1024, 1024]⟩ .f32 := m (c, Proc.devRef .tc main_arg6)
abbrev a7 : FVec Ideal ⟨3, ![2, 2064, 1024]⟩ .f32 := m (c, Proc.devRef .tc main_arg7)
end Args

set_option maxHeartbeats 2000000 in
theorem pack7 (c : Dev nD) (p : Fin 4352) (k : Fin 1024) : hM m c (ix2 p k) = packed (fun b l => a7 m c (ix3 b l k)) p := by
  unfold packed
  unfold hM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack0 (c : Dev nD) (p : Fin 4352) (k : Fin 512) : yaM m c (ix2 p k) = packed (fun b l => a0 m c (ix3 b l k)) p := by
  unfold packed
  unfold yaM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack1 (c : Dev nD) (p : Fin 4352) (k : Fin 512) : ybM m c (ix2 p k) = packed (fun b l => a1 m c (ix3 b l k)) p := by
  unfold packed
  unfold ybM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack2 (c : Dev nD) (p : Fin 4352) (k : Fin 512) : gM m c (ix2 p ⟨1024 + k.val, by omega⟩) = packed (fun b l => a2 m c (ix3 b l k)) p := by
  unfold packed
  unfold gM
  rw [show V m c = fun b => V0 m c (Proc.devRef .tc b) from rfl, V_flat]
  simp only [hostOps0]
  after_results
  try dsimp only [Matrix.cons_val]
  try after_results_steps
  try dsimp only [Matrix.cons_val]
  try after_results_steps
  pointwise
  have hk := k.isLt
  simp only [dif_neg (show ¬ (1024 + k.val < 512) by omega), dif_neg (show ¬ (1024 + k.val - 512 < 512) by omega),
    dif_pos (show 1024 + k.val - 512 - 512 < 512 by omega), show 1024 + k.val - 512 - 512 = k.val by omega, dif_pos hk, Fin.eta]

set_option maxHeartbeats 2000000 in
theorem pack3 (c : Dev nD) (p : Fin 4352) (k : Fin 512) : gM m c (ix2 p ⟨2048 + k.val, by omega⟩) = packed (fun b l => a3 m c (ix3 b l k)) p := by
  unfold packed
  unfold gM
  rw [show V m c = fun b => V0 m c (Proc.devRef .tc b) from rfl, V_flat]
  simp only [hostOps0]
  after_results
  try dsimp only [Matrix.cons_val]
  try after_results_steps
  try dsimp only [Matrix.cons_val]
  try after_results_steps
  pointwise
  have hk := k.isLt
  simp only [dif_neg (show ¬ (2048 + k.val < 512) by omega), dif_neg (show ¬ (2048 + k.val - 512 < 512) by omega),
    dif_neg (show ¬ (2048 + k.val - 512 - 512 < 512) by omega), dif_neg (show ¬ (2048 + k.val - 512 - 512 - 512 < 512) by omega),
    show 2048 + k.val - 512 - 512 - 512 - 512 = k.val by omega, Fin.eta]

set_option maxHeartbeats 2000000 in
theorem pack4 (c : Dev nD) (k : Fin 512) : naM m c (ix2 0 k) = a4 m c (ix1 k) := by
  unfold naM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack5 (c : Dev nD) (k : Fin 512) : nbM m c (ix2 0 k) = a5 m c (ix1 k) := by
  unfold nbM
  rw [show V m c = fun b => V0 m c (Proc.devRef .tc b) from rfl, V_flat]
  simp only [hostOps0]
  after_results
  try dsimp only [Matrix.cons_val]
  try after_results_steps
  try dsimp only [Matrix.cons_val]
  try after_results_steps
  pointwise

set_option maxHeartbeats 2000000 in
theorem pack6 (c : Dev nD) (k x : Fin 1024) : wM m c (ix2 k x) = a6 m c (ix2 k x) := by
  unfold wM
  rw [show V m c = fun b => V0 m c (Proc.devRef .tc b) from rfl, V_flat]
  simp only [hostOps0]
  after_results
  try dsimp only [Matrix.cons_val]
  try after_results_steps
  try dsimp only [Matrix.cons_val]
  try after_results_steps
  pointwise
end Cert.OutfIdeal.Value
end
-- ==== Proof.ForwardOutSpec.lean ====
/- The gated output layer's output as a function of the arguments. -/
module
public import proofs.«01_k».proof.Proof.OutSpec
@[expose] public section
noncomputable section
open Idealize.ShloMosaic
namespace Cert.OutSpec
open Cert.Norm
/-- The layer's output: the residual and the product of the two gated halves, side by side, with the weight. -/
def out (N e : EReal) (h : FVec Ideal (Tok 1024) .f32) (w : FVec Ideal Mx .f32) (y y' g g' : FVec Ideal (Tok 512) .f32)
    (a a' : FVec Ideal (Vc 512) .f32) : FVec Ideal (Tok 1024) .f32 := fun i =>
  h (ix3 (i 0) (i 1) (i 2)) + ∑ k : Fin 1024, cat N e y y' g g' a a' (i 0) (i 1) k * w (ix2 k (i 2))
end Cert.OutSpec
end
-- ==== Proof.ForwardOutTail.lean ====
/- The result of the gated output layer, read from its arguments. -/
module
public import proofs.«01_k».proof.Proof.Gen.OutfIdeal.Frame
public import proofs.«01_k».proof.Proof.ForwardOutPack
public import proofs.«01_k».proof.Proof.OutSpec
public import proofs.«01_k».proof.Proof.ForwardOutSpec
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.OutfIdeal.Value
open Cert.OutfIdeal Cert.OutfIdeal.Gen Cert.Norm
variable (m : (ℓ : Loc nD τ sig) → Buf (Elt Ideal) ℓ)

/-- What the region leaves in the array of window `w`. -/
theorem left_at (c : Dev nD) (w : Fin 9) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared (cfgs 0).spec c (V0 m c) (fun w => (dats m 0 c).arrAt w (cfgs 0).N) (Dat.arrAt_sharedIn (dats m 0 c) sharedIn0 (V0 m c) (A_eq m c) _) w

theorem tail (c : Dev nD) (b : Fin 2) (l : Fin 2064) (k : Fin 1024) :
    (Pipeline.afterTail₀ cfgs (dats m) 0 (V0 m) [hostOps1] c main_v29 : FVec Ideal ⟨3, ![2, 2064, 1024]⟩ .f32) (ix3 b l k)
      = res8 m c (ix2 (rowAt b l) k) := by
  have e := (left_at m c 8).trans (final8 m c)
  have er := rowAt_val b l
  unfold Pipeline.afterTail₀
  simp only [List.flatten_cons, List.flatten_nil, List.append_nil]
  simp only [hostOps1]
  after_results
  rw [show Pipeline.withArrays (cfgs 0).spec c (V0 m c) (fun w => (dats m 0 c).arrAt w (cfgs 0).N) (Proc.devRef .tc main_v25) = res8 m c from e]
  clear e
  generalize res8 m c = R
  pointwise
  split_ifs at er ⊢ <;> exact congrArg (fun p => R (ix2 p k)) (Fin.ext er.symm)

section Rows
variable (c : Dev nD) (b : Fin 2) (l : Fin 2064)
theorem yA_row : yA m c (rowAt b l) = OutSpec.row (a0 m c) b l := by
  funext k; unfold yA OutSpec.row; rw [pack0, packed_rowAt]
theorem yB_row : yB m c (rowAt b l) = OutSpec.row (a1 m c) b l := by
  funext k; unfold yB OutSpec.row; rw [pack1, packed_rowAt]
theorem gA_row : gA m c (rowAt b l) = OutSpec.row (a2 m c) b l := by
  funext k; unfold gA OutSpec.row; rw [pack2, packed_rowAt]
theorem gB_row : gB m c (rowAt b l) = OutSpec.row (a3 m c) b l := by
  funext k; unfold gB OutSpec.row; rw [pack3, packed_rowAt]
theorem nA_eq : nA m c = OutSpec.gain (a4 m c) := by
  funext k; unfold nA OutSpec.gain; rw [pack4]
theorem nB_eq : nB m c = OutSpec.gain (a5 m c) := by
  funext k; unfold nB OutSpec.gain; rw [pack5]
end Rows

theorem out (c : Dev nD) : (Pipeline.afterTail₀ cfgs (dats m) 0 (V0 m) [hostOps1] c main_v29 : FVec Ideal ⟨3, ![2, 2064, 1024]⟩ .f32)
    = OutSpec.out Nc ec (a7 m c) (a6 m c) (a0 m c) (a1 m c) (a2 m c) (a3 m c) (a4 m c) (a5 m c) := by
  funext i
  idx_vars i
  rw [tail]
  show hM m c (ix2 (rowAt i0 i1) i2)
      + ((∑ k : Fin 512, halfOut Nc ec (yA m c (rowAt i0 i1)) (gA m c (rowAt i0 i1)) (nA m c) k * wM m c (ix2 ⟨k.val, by omega⟩ i2))
        + ∑ k : Fin 512, halfOut Nc ec (yB m c (rowAt i0 i1)) (gB m c (rowAt i0 i1)) (nB m c) k * wM m c (ix2 ⟨512 + k.val, by omega⟩ i2))
    = a7 m c (ix3 i0 i1 i2) + ∑ k : Fin 1024, OutSpec.cat Nc ec (a0 m c) (a1 m c) (a2 m c) (a3 m c) (a4 m c) (a5 m c) i0 i1 k * a6 m c (ix2 k i2)
  rw [yA_row, yB_row, gA_row, gB_row, nA_eq, nB_eq, pack7, packed_rowAt]
  refine congrArg (a7 m c (ix3 i0 i1 i2) + ·) ?_
  refine ((Fin.sum_univ_add (a := 512) (b := 512) _).trans (congrArg₂ (· + ·) (Finset.sum_congr rfl fun k _ => ?_) (Finset.sum_congr rfl fun k _ => ?_))).symm
  · unfold OutSpec.cat
    rw [dif_pos (show (Fin.castAdd 512 k).val < 512 from k.isLt)]
    exact congrArg (halfOut Nc ec _ _ _ k * ·) (pack6 m c ⟨k.val, by omega⟩ i2).symm
  · unfold OutSpec.cat
    rw [dif_neg (show ¬ (Fin.natAdd 512 k).val < 512 by simp)]
    have e : (⟨(Fin.natAdd 512 k).val - 512, by simp⟩ : Fin 512) = k := Fin.ext (by simp)
    rw [e]
    exact congrArg (halfOut Nc ec _ _ _ k * ·) (pack6 m c ⟨512 + k.val, by omega⟩ i2).symm
end Cert.OutfIdeal.Value
end
-- ==== Proof.ForwardOutRef.lean ====
/- The reference's gated output layer: the residual plus the product of the normed and gated rows with the weight. -/
module
public import proofs.«01_k».proof.Proof.Gen.OutfRefIdeal.Read
public import proofs.«01_k».proof.Proof.OutSpec
public import proofs.«01_k».proof.Proof.ForwardOutSpec
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.OutfRefIdeal.Form
open Cert.OutfRefIdeal Cert.OutfRefIdeal.Gen Cert.OutfRefIdeal.Read Cert.Norm
abbrev Nc : EReal := Ideal.ofBits .f32 1140850688#32
abbrev ec : EReal := Ideal.ofBits .f32 897988541#32
variable (x0 x1 x2 x3 : FVec Ideal S2x2064x512 .f32) (x4 x5 : FVec Ideal S512 .f32) (x6 : FVec Ideal S1024x1024 .f32) (x7 : FVec Ideal S2x2064x1024 .f32)
theorem r_v32 : val_main_v32 (F := Ideal) x0 x1 x2 x3 x4 x5 x6 x7 = OutSpec.out Nc ec x7 x6 x0 x1 x2 x3 x4 x5 := by
  funext i
  idx_vars i
  show _ = x7 (ix3 i0 i1 i2) + ∑ k : Fin 1024, OutSpec.cat Nc ec x0 x1 x2 x3 x4 x5 i0 i1 k * x6 (ix2 k i2)
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_call0_v0, val_main_call0_v1, val_main_call0_cst, val_main_call0_v2, val_main_call0_v3, val_main_call0_cst_0, val_main_call0_v4, val_main_call0_v5, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_call1_v0, val_main_call1_v1, val_main_call1_cst, val_main_call1_v2, val_main_call1_v3, val_main_call1_cst_0, val_main_call1_v4, val_main_call1_v5, val_main_v28, val_main_v29, val_main_v30, val_main_v31, val_main_v32, OutSpec.cat, halfOut, silu, rst, OutSpec.row, OutSpec.gain]
  rfl
end Cert.OutfRefIdeal.Form
end
-- ==== Proof.ForwardOutClaim.lean ====
/- The value of the gated output layer: kernel and reference agree on all arguments. -/
module
public import proofs.«01_k».proof.Defs
public import proofs.«01_k».proof.Proof.ForwardOutTail
public import proofs.«01_k».proof.Proof.ForwardOutRef
public import proofs.«01_k».proof.Proof.Gen.OutfRefIdeal.Run
public import Idealize.ShloMosaic.Lib.Claim
@[expose] public section
set_option maxRecDepth 16384
noncomputable section
open Idealize.ShloMosaic Idealize.ShloMosaic.TcCoe Idealize.SL.Sem
namespace Cert.ForwardOutClaim
attribute [local instance] Cert.OutfIdeal.Gen.facts Cert.OutfRefIdeal.Gen.facts

open Cert.OutfIdeal.Value Cert.OutfIdeal in
theorem algebraic : Cert.algebraic_OutfIdeal_OutfRefIdeal := by
  intro m g m' g' hpre hagree
  refine ⟨fun c => OutSpec.out Nc ec (a7 m c) (a6 m c) (a0 m c) (a1 m c) (a2 m c) (a3 m c) (a4 m c) (a5 m c), ?_, ?_⟩
  · refine (θ_run defs _ _).mono ?_ (θ_run_and (Gen.run_main m g) (Gen.unchanged m g))
    rintro r ⟨h, hu⟩ c
    exact ⟨((h c).2 main_v29 (by decide)).trans (out m c), hu c⟩
  · refine (θ_run OutfRefIdeal.defs _ _).mono ?_ (OutfRefIdeal.Value.run m' g')
    intro r h c
    obtain ⟨h0, hu⟩ := h c
    obtain ⟨e0, e1, e2, e3, e4, e5, e6, e7⟩ := hagree c
    refine ⟨h0.trans ?_, hu⟩
    rw [OutfRefIdeal.Read.val_main_v32_eq, e0, e1, e2, e3, e4, e5, e6, e7]
    exact OutfRefIdeal.Form.r_v32 _ _ _ _ _ _ _ _
end Cert.ForwardOutClaim
end
-- ==== Proof.lean ====
module

public import proofs.«01_k».proof.Defs
public import proofs.«01_k».proof.Proof.OutClaim
public import proofs.«01_k».proof.Proof.MlaClaim
public import proofs.«01_k».proof.Proof.MlaValue
public import proofs.«01_k».proof.Proof.HeadClaim
public import proofs.«01_k».proof.Proof.MoreFrames
public import proofs.«01_k».proof.Proof.WinFrame
public import proofs.«01_k».proof.Proof.ForwardFrames
public import proofs.«01_k».proof.Proof.MlafClaim
public import proofs.«01_k».proof.Proof.ForwardOutClaim
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal.Run
public import proofs.«01_k».proof.Proof.Gen.OutRefIdeal.Read
public import proofs.«01_k».proof.Proof.Gen.OutRefIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaRefIdeal.Run
public import proofs.«01_k».proof.Proof.Gen.MlaRefIdeal.Read
public import proofs.«01_k».proof.Proof.Gen.MlaRefIdeal
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Table
public import proofs.«01_k».proof.Proof.Gen.Table.Skeleton
public import proofs.«01_k».proof.Proof.Gen.Table.Launch
public import proofs.«01_k».proof.Proof.Gen.Table.Points
public import proofs.«01_k».proof.Proof.Gen.Table.Frame
public import proofs.«01_k».proof.Proof.Gen.TableIdeal
public import proofs.«01_k».proof.Proof.Gen.TableIdeal.Skeleton
public import proofs.«01_k».proof.Proof.Gen.TableIdeal.Launch
public import proofs.«01_k».proof.Proof.Gen.TableIdeal.Points
public import proofs.«01_k».proof.Proof.Gen.TableIdeal.Frame
public import proofs.«01_k».proof.Proof.Gen.TableRefIdeal
public import proofs.«01_k».proof.Proof.Gen.TableRefIdeal.Run
public import proofs.«01_k».proof.Proof.Gen.TableRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinRefIdeal.Run
public import proofs.«01_k».proof.Proof.Gen.WinRefIdeal.Read
public import proofs.«01_k».proof.Proof.Gen.Outf
public import proofs.«01_k».proof.Proof.Gen.Outf.Skeleton
public import proofs.«01_k».proof.Proof.Gen.Outf.Launch
public import proofs.«01_k».proof.Proof.Gen.Outf.Points
public import proofs.«01_k».proof.Proof.Gen.Outf.Frame
public import proofs.«01_k».proof.Proof.Gen.OutfIdeal
public import proofs.«01_k».proof.Proof.Gen.OutfIdeal.Skeleton
public import proofs.«01_k».proof.Proof.Gen.OutfIdeal.Launch
public import proofs.«01_k».proof.Proof.Gen.OutfIdeal.Points
public import proofs.«01_k».proof.Proof.Gen.OutfIdeal.Frame
public import proofs.«01_k».proof.Proof.Gen.OutfRefIdeal
public import proofs.«01_k».proof.Proof.Gen.OutfRefIdeal.Run
public import proofs.«01_k».proof.Proof.Gen.OutfRefIdeal.Read
public import proofs.«01_k».proof.Proof.Gen.Inf
public import proofs.«01_k».proof.Proof.Gen.Inf.Skeleton
public import proofs.«01_k».proof.Proof.Gen.Inf.Launch
public import proofs.«01_k».proof.Proof.Gen.Inf.Points
public import proofs.«01_k».proof.Proof.Gen.Inf.Frame
public import proofs.«01_k».proof.Proof.Gen.InfIdeal
public import proofs.«01_k».proof.Proof.Gen.InfIdeal.Skeleton
public import proofs.«01_k».proof.Proof.Gen.InfIdeal.Launch
public import proofs.«01_k».proof.Proof.Gen.InfIdeal.Points
public import proofs.«01_k».proof.Proof.Gen.InfIdeal.Frame
public import proofs.«01_k».proof.Proof.Gen.InfRefIdeal
public import proofs.«01_k».proof.Proof.Gen.InfRefIdeal.Run
public import proofs.«01_k».proof.Proof.Gen.InfRefIdeal.Read
public import proofs.«01_k».proof.Proof.Gen.Prepf
public import proofs.«01_k».proof.Proof.Gen.Prepf.Skeleton
public import proofs.«01_k».proof.Proof.Gen.Prepf.Launch
public import proofs.«01_k».proof.Proof.Gen.Prepf.Points
public import proofs.«01_k».proof.Proof.Gen.Prepf.Frame
public import proofs.«01_k».proof.Proof.Gen.PrepfIdeal
public import proofs.«01_k».proof.Proof.Gen.PrepfIdeal.Skeleton
public import proofs.«01_k».proof.Proof.Gen.PrepfIdeal.Launch
public import proofs.«01_k».proof.Proof.Gen.PrepfIdeal.Points
public import proofs.«01_k».proof.Proof.Gen.PrepfIdeal.Frame
public import proofs.«01_k».proof.Proof.Gen.PrepfRefIdeal
public import proofs.«01_k».proof.Proof.Gen.PrepfRefIdeal.Run
public import proofs.«01_k».proof.Proof.Gen.PrepfRefIdeal.Read
public import proofs.«01_k».proof.Proof.Gen.Winf
public import proofs.«01_k».proof.Proof.Gen.Winf.Skeleton
public import proofs.«01_k».proof.Proof.Gen.Winf.Launch
public import proofs.«01_k».proof.Proof.Gen.Winf.Points
public import proofs.«01_k».proof.Proof.Gen.Winf.Frame
public import proofs.«01_k».proof.Proof.Gen.WinfIdeal
public import proofs.«01_k».proof.Proof.Gen.WinfIdeal.Skeleton
public import proofs.«01_k».proof.Proof.Gen.WinfIdeal.Launch
public import proofs.«01_k».proof.Proof.Gen.WinfIdeal.Points
public import proofs.«01_k».proof.Proof.Gen.WinfIdeal.Frame
public import proofs.«01_k».proof.Proof.Gen.WinfRefIdeal
public import proofs.«01_k».proof.Proof.Gen.WinfRefIdeal.Run
public import proofs.«01_k».proof.Proof.Gen.WinfRefIdeal.Read
public import proofs.«01_k».proof.Proof.Gen.Mlaf
public import proofs.«01_k».proof.Proof.Gen.Mlaf.Skeleton
public import proofs.«01_k».proof.Proof.Gen.Mlaf.Loops
public import proofs.«01_k».proof.Proof.Gen.Mlaf.Launch
public import proofs.«01_k».proof.Proof.Gen.Mlaf.Points
public import proofs.«01_k».proof.Proof.Gen.Mlaf.Frame
public import proofs.«01_k».proof.Proof.Gen.MlafIdeal
public import proofs.«01_k».proof.Proof.Gen.MlafIdeal.Skeleton
public import proofs.«01_k».proof.Proof.Gen.MlafIdeal.Loops
public import proofs.«01_k».proof.Proof.Gen.MlafIdeal.Launch
public import proofs.«01_k».proof.Proof.Gen.MlafIdeal.Points
public import proofs.«01_k».proof.Proof.Gen.MlafIdeal.Frame
public import proofs.«01_k».proof.Proof.Gen.MlafRefIdeal
public import proofs.«01_k».proof.Proof.Gen.MlafRefIdeal.Run
public import proofs.«01_k».proof.Proof.Gen.MlafRefIdeal.Read
public import Idealize.ShloMosaic.Adequacy
public import Idealize.ShloMosaic.Init

@[expose] public section

noncomputable section

namespace Cert.Proof

open Idealize.ShloMosaic Idealize.SL.Sem Cert.Out

theorem claim : Cert.Claim := ⟨Cert.Out.Gen.facts, Cert.OutIdeal.Gen.facts, Cert.OutRefIdeal.Gen.facts,
  Cert.Mla.Gen.facts, Cert.MlaIdeal.Gen.facts, Cert.MlaRefIdeal.Gen.facts,
  Cert.Head.Gen.facts, Cert.HeadIdeal.Gen.facts, Cert.HeadRefIdeal.Gen.facts,
  Cert.Table.Gen.facts, Cert.TableIdeal.Gen.facts, Cert.TableRefIdeal.Gen.facts,
  Cert.Prep.Gen.facts, Cert.PrepIdeal.Gen.facts, Cert.PrepRefIdeal.Gen.facts,
  Cert.Inproj.Gen.facts, Cert.InprojIdeal.Gen.facts, Cert.InprojRefIdeal.Gen.facts,
  Cert.Win.Gen.facts, Cert.WinIdeal.Gen.facts, Cert.WinRefIdeal.Gen.facts,
  Cert.Outf.Gen.facts, Cert.OutfIdeal.Gen.facts, Cert.OutfRefIdeal.Gen.facts,
  Cert.Inf.Gen.facts, Cert.InfIdeal.Gen.facts, Cert.InfRefIdeal.Gen.facts,
  Cert.Prepf.Gen.facts, Cert.PrepfIdeal.Gen.facts, Cert.PrepfRefIdeal.Gen.facts,
  Cert.Winf.Gen.facts, Cert.WinfIdeal.Gen.facts, Cert.WinfRefIdeal.Gen.facts,
  Cert.Mlaf.Gen.facts, Cert.MlafIdeal.Gen.facts, Cert.MlafRefIdeal.Gen.facts,
  OutClaim.pre_facts, MlaClaim.pre_facts, HeadClaim.pre_facts, MlafClaim.pre_facts,
  OutClaim.frame_p, OutClaim.frame_pi, OutClaim.frame_pi_finite, OutClaim.frame_ri, OutClaim.frame_ri_finite,
  MlaClaim.frame_p, MlaClaim.frame_pi, MlaClaim.frame_pi_finite, MlaClaim.frame_ri, MlaClaim.frame_ri_finite,
  HeadClaim.frame_p, HeadClaim.frame_pi, HeadClaim.frame_pi_finite, HeadClaim.frame_ri, HeadClaim.frame_ri_finite,
  MoreFrames.table_p, MoreFrames.table_pi, MoreFrames.table_ri,
  MoreFrames.prep_p, MoreFrames.prep_pi, MoreFrames.prep_ri,
  MoreFrames.inproj_p, MoreFrames.inproj_pi, MoreFrames.inproj_ri,
  WinRun.frame_p, WinRun.frame_pi, WinRun.frame_ri,
  ForwardFrames.outf_p, ForwardFrames.outf_pi, ForwardFrames.outf_ri,
  ForwardFrames.inf_p, ForwardFrames.inf_pi, ForwardFrames.inf_ri,
  ForwardFrames.prepf_p, ForwardFrames.prepf_pi, ForwardFrames.prepf_ri,
  ForwardFrames.winf_p, ForwardFrames.winf_pi, ForwardFrames.winf_ri,
  ForwardFrames.mlaf_p, ForwardFrames.mlaf_pi, MlafClaim.frame_pi_finite, ForwardFrames.mlaf_ri, MlafClaim.frame_ri_finite,
  trivial, OutClaim.algebraic, MlaClaim.preserves, MlaValue.algebraic, trivial, HeadClaim.algebraic, trivial, trivial, trivial, trivial,
  trivial, ForwardOutClaim.algebraic, trivial, trivial, trivial, trivial, MlafClaim.algebraic⟩

end Cert.Proof

end
